-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite [hPre_finite : Cert.Pre_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite [hPre_finite : Cert.Pre_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))) = (fun _ => 1#1)

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_sb_finite [hPre_sb_finite : Cert.Pre_sb_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1)) (m ((c.tc : Thread Cert.SbBwdIdeal.nD Cert.SbBwdIdeal.τ).loc Cert.SbBwdIdeal.main_arg2)) (m ((c.tc : Thread Cert.SbBwdIdeal.nD Cert.SbBwdIdeal.τ).loc Cert.SbBwdIdeal.main_arg3))) = (fun _ => 1#1)

def Pre_SbBwdRefIdeal (m : (ℓ : Loc Cert.SbBwdRefIdeal.nD Cert.SbBwdRefIdeal.τ Cert.SbBwdRefIdeal.sig) → Buf (Elt Ideal) ℓ) : Prop :=
  True

def Pre_SbBwdRefIdeal_sb_finite [hPre_sb_finite : Cert.Pre_sb_finite.Facts] (m : (ℓ : Loc Cert.SbBwdRefIdeal.nD Cert.SbBwdRefIdeal.τ Cert.SbBwdRefIdeal.sig) → Buf (Elt Ideal) ℓ) : Prop :=
  ∀ c : Dev Cert.SbBwdRefIdeal.nD,
    (Cert.Pre_sb_finite.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1)) (m ((c.tc : Thread Cert.SbBwdRefIdeal.nD Cert.SbBwdRefIdeal.τ).loc Cert.SbBwdRefIdeal.main_arg2)) (m ((c.tc : Thread Cert.SbBwdRefIdeal.nD Cert.SbBwdRefIdeal.τ).loc Cert.SbBwdRefIdeal.main_arg3))) = (fun _ => 1#1)

def Pre_XGrad (m : (ℓ : Loc Cert.XGrad.nD Cert.XGrad.τ Cert.XGrad.sig) → Buf (Elt Bits) ℓ) : Prop :=
  True

def Pre_XGradIdeal (m : (ℓ : Loc Cert.XGradIdeal.nD Cert.XGradIdeal.τ Cert.XGradIdeal.sig) → Buf (Elt Ideal) ℓ) : Prop :=
  True

def Pre_XGradIdeal_x_finite [hPre_x_finite : Cert.Pre_x_finite.Facts] (m : (ℓ : Loc Cert.XGradIdeal.nD Cert.XGradIdeal.τ Cert.XGradIdeal.sig) → Buf (Elt Ideal) ℓ) : Prop :=
  ∀ c : Dev Cert.XGradIdeal.nD,
    (Cert.Pre_x_finite.fn (F := Ideal) (m ((c.tc : Thread Cert.XGradIdeal.nD Cert.XGradIdeal.τ).loc Cert.XGradIdeal.main_arg0)) (m ((c.tc : Thread Cert.XGradIdeal.nD Cert.XGradIdeal.τ).loc Cert.XGradIdeal.main_arg1)) (m ((c.tc : Thread Cert.XGradIdeal.nD Cert.XGradIdeal.τ).loc Cert.XGradIdeal.main_arg2)) (m ((c.tc : Thread Cert.XGradIdeal.nD Cert.XGradIdeal.τ).loc Cert.XGradIdeal.main_arg3)) (m ((c.tc : Thread Cert.XGradIdeal.nD Cert.XGradIdeal.τ).loc Cert.XGradIdeal.main_arg4)) (m ((c.tc : Thread Cert.XGradIdeal.nD Cert.XGradIdeal.τ).loc Cert.XGradIdeal.main_arg5)) (m ((c.tc : Thread Cert.XGradIdeal.nD Cert.XGradIdeal.τ).loc Cert.XGradIdeal.main_arg6)) (m ((c.tc : Thread Cert.XGradIdeal.nD Cert.XGradIdeal.τ).loc Cert.XGradIdeal.main_arg7)) (m ((c.tc : Thread Cert.XGradIdeal.nD Cert.XGradIdeal.τ).loc Cert.XGradIdeal.main_arg8)) (m ((c.tc : Thread Cert.XGradIdeal.nD Cert.XGradIdeal.τ).loc Cert.XGradIdeal.main_arg9)) (m ((c.tc : Thread Cert.XGradIdeal.nD Cert.XGradIdeal.τ).loc Cert.XGradIdeal.main_arg10))) = (fun _ => 1#1)

def Pre_XGradRefIdeal (m : (ℓ : Loc Cert.XGradRefIdeal.nD Cert.XGradRefIdeal.τ Cert.XGradRefIdeal.sig) → Buf (Elt Ideal) ℓ) : Prop :=
  True

def Pre_XGradRefIdeal_x_finite [hPre_x_finite : Cert.Pre_x_finite.Facts] (m : (ℓ : Loc Cert.XGradRefIdeal.nD Cert.XGradRefIdeal.τ Cert.XGradRefIdeal.sig) → Buf (Elt Ideal) ℓ) : Prop :=
  ∀ c : Dev Cert.XGradRefIdeal.nD,
    (Cert.Pre_x_finite.fn (F := Ideal) (m ((c.tc : Thread Cert.XGradRefIdeal.nD Cert.XGradRefIdeal.τ).loc Cert.XGradRefIdeal.main_arg0)) (m ((c.tc : Thread Cert.XGradRefIdeal.nD Cert.XGradRefIdeal.τ).loc Cert.XGradRefIdeal.main_arg1)) (m ((c.tc : Thread Cert.XGradRefIdeal.nD Cert.XGradRefIdeal.τ).loc Cert.XGradRefIdeal.main_arg2)) (m ((c.tc : Thread Cert.XGradRefIdeal.nD Cert.XGradRefIdeal.τ).loc Cert.XGradRefIdeal.main_arg3)) (m ((c.tc : Thread Cert.XGradRefIdeal.nD Cert.XGradRefIdeal.τ).loc Cert.XGradRefIdeal.main_arg4)) (m ((c.tc : Thread Cert.XGradRefIdeal.nD Cert.XGradRefIdeal.τ).loc Cert.XGradRefIdeal.main_arg5)) (m ((c.tc : Thread Cert.XGradRefIdeal.nD Cert.XGradRefIdeal.τ).loc Cert.XGradRefIdeal.main_arg6)) (m ((c.tc : Thread Cert.XGradRefIdeal.nD Cert.XGradRefIdeal.τ).loc Cert.XGradRefIdeal.main_arg7)) (m ((c.tc : Thread Cert.XGradRefIdeal.nD Cert.XGradRefIdeal.τ).loc Cert.XGradRefIdeal.main_arg8)) (m ((c.tc : Thread Cert.XGradRefIdeal.nD Cert.XGradRefIdeal.τ).loc Cert.XGradRefIdeal.main_arg9)) (m ((c.tc : Thread Cert.XGradRefIdeal.nD Cert.XGradRefIdeal.τ).loc Cert.XGradRefIdeal.main_arg10))) = (fun _ => 1#1)

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_finite [hPre_swa_finite : Cert.Pre_swa_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3)) (m ((c.tc : Thread Cert.SwaBwdIdeal.nD Cert.SwaBwdIdeal.τ).loc Cert.SwaBwdIdeal.main_arg4))) = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_swa_finite [hPre_swa_finite : Cert.Pre_swa_finite.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3)) (m ((c.tc : Thread Cert.SwaBwdRefIdeal.nD Cert.SwaBwdRefIdeal.τ).loc Cert.SwaBwdRefIdeal.main_arg4))) = (fun _ => 1#1)

def Pre_QkGrad (m : (ℓ : Loc Cert.QkGrad.nD Cert.QkGrad.τ Cert.QkGrad.sig) → Buf (Elt Bits) ℓ) : Prop :=
  True

def Pre_QkGradIdeal (m : (ℓ : Loc Cert.QkGradIdeal.nD Cert.QkGradIdeal.τ Cert.QkGradIdeal.sig) → Buf (Elt Ideal) ℓ) : Prop :=
  True

def Pre_QkGradIdeal_qk_finite [hPre_qk_finite : Cert.Pre_qk_finite.Facts] (m : (ℓ : Loc Cert.QkGradIdeal.nD Cert.QkGradIdeal.τ Cert.QkGradIdeal.sig) → Buf (Elt Ideal) ℓ) : Prop :=
  ∀ c : Dev Cert.QkGradIdeal.nD,
    (Cert.Pre_qk_finite.fn (F := Ideal) (m ((c.tc : Thread Cert.QkGradIdeal.nD Cert.QkGradIdeal.τ).loc Cert.QkGradIdeal.main_arg0)) (m ((c.tc : Thread Cert.QkGradIdeal.nD Cert.QkGradIdeal.τ).loc Cert.QkGradIdeal.main_arg1)) (m ((c.tc : Thread Cert.QkGradIdeal.nD Cert.QkGradIdeal.τ).loc Cert.QkGradIdeal.main_arg2)) (m ((c.tc : Thread Cert.QkGradIdeal.nD Cert.QkGradIdeal.τ).loc Cert.QkGradIdeal.main_arg3)) (m ((c.tc : Thread Cert.QkGradIdeal.nD Cert.QkGradIdeal.τ).loc Cert.QkGradIdeal.main_arg4)) (m ((c.tc : Thread Cert.QkGradIdeal.nD Cert.QkGradIdeal.τ).loc Cert.QkGradIdeal.main_arg5)) (m ((c.tc : Thread Cert.QkGradIdeal.nD Cert.QkGradIdeal.τ).loc Cert.QkGradIdeal.main_arg6)) (m ((c.tc : Thread Cert.QkGradIdeal.nD Cert.QkGradIdeal.τ).loc Cert.QkGradIdeal.main_arg7))) = (fun _ => 1#1)

def Pre_QkGradRefIdeal (m : (ℓ : Loc Cert.QkGradRefIdeal.nD Cert.QkGradRefIdeal.τ Cert.QkGradRefIdeal.sig) → Buf (Elt Ideal) ℓ) : Prop :=
  True

def Pre_QkGradRefIdeal_qk_finite [hPre_qk_finite : Cert.Pre_qk_finite.Facts] (m : (ℓ : Loc Cert.QkGradRefIdeal.nD Cert.QkGradRefIdeal.τ Cert.QkGradRefIdeal.sig) → Buf (Elt Ideal) ℓ) : Prop :=
  ∀ c : Dev Cert.QkGradRefIdeal.nD,
    (Cert.Pre_qk_finite.fn (F := Ideal) (m ((c.tc : Thread Cert.QkGradRefIdeal.nD Cert.QkGradRefIdeal.τ).loc Cert.QkGradRefIdeal.main_arg0)) (m ((c.tc : Thread Cert.QkGradRefIdeal.nD Cert.QkGradRefIdeal.τ).loc Cert.QkGradRefIdeal.main_arg1)) (m ((c.tc : Thread Cert.QkGradRefIdeal.nD Cert.QkGradRefIdeal.τ).loc Cert.QkGradRefIdeal.main_arg2)) (m ((c.tc : Thread Cert.QkGradRefIdeal.nD Cert.QkGradRefIdeal.τ).loc Cert.QkGradRefIdeal.main_arg3)) (m ((c.tc : Thread Cert.QkGradRefIdeal.nD Cert.QkGradRefIdeal.τ).loc Cert.QkGradRefIdeal.main_arg4)) (m ((c.tc : Thread Cert.QkGradRefIdeal.nD Cert.QkGradRefIdeal.τ).loc Cert.QkGradRefIdeal.main_arg5)) (m ((c.tc : Thread Cert.QkGradRefIdeal.nD Cert.QkGradRefIdeal.τ).loc Cert.QkGradRefIdeal.main_arg6)) (m ((c.tc : Thread Cert.QkGradRefIdeal.nD Cert.QkGradRefIdeal.τ).loc Cert.QkGradRefIdeal.main_arg7))) = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swa_fwd_finite [hPre_swa_fwd_finite : Cert.Pre_swa_fwd_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2)) (m ((c.tc : Thread Cert.SwaFwdIdeal.nD Cert.SwaFwdIdeal.τ).loc Cert.SwaFwdIdeal.main_arg3))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swa_fwd_finite [hPre_swa_fwd_finite : Cert.Pre_swa_fwd_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2)) (m ((c.tc : Thread Cert.SwaFwdRefIdeal.nD Cert.SwaFwdRefIdeal.τ).loc Cert.SwaFwdRefIdeal.main_arg3))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjIdeal_pre_finite [hOutProjIdeal : Cert.OutProjIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_OutProjRefIdeal_pre_finite [hOutProjRefIdeal : Cert.OutProjRefIdeal.Facts] [hPre_finite : Cert.Pre_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1)
      ∧ r.2.mem ((c.tc : Thread Cert.SbBwd.nD Cert.SbBwd.τ).loc Cert.SbBwd.main_arg2) = m ((c.tc : Thread Cert.SbBwd.nD Cert.SbBwd.τ).loc Cert.SbBwd.main_arg2)
      ∧ r.2.mem ((c.tc : Thread Cert.SbBwd.nD Cert.SbBwd.τ).loc Cert.SbBwd.main_arg3) = m ((c.tc : Thread Cert.SbBwd.nD Cert.SbBwd.τ).loc Cert.SbBwd.main_arg3))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbBwdIdeal_pre_sb_finite [hSbBwdIdeal : Cert.SbBwdIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_sb_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbBwdRefIdeal [hSbBwdRefIdeal : Cert.SbBwdRefIdeal.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1)
      ∧ r.2.mem ((c.tc : Thread Cert.SbBwdRefIdeal.nD Cert.SbBwdRefIdeal.τ).loc Cert.SbBwdRefIdeal.main_arg2) = m ((c.tc : Thread Cert.SbBwdRefIdeal.nD Cert.SbBwdRefIdeal.τ).loc Cert.SbBwdRefIdeal.main_arg2)
      ∧ r.2.mem ((c.tc : Thread Cert.SbBwdRefIdeal.nD Cert.SbBwdRefIdeal.τ).loc Cert.SbBwdRefIdeal.main_arg3) = m ((c.tc : Thread Cert.SbBwdRefIdeal.nD Cert.SbBwdRefIdeal.τ).loc Cert.SbBwdRefIdeal.main_arg3))
      ∧ r.2.sem = fun _ => 0)

def quiescent_SbBwdRefIdeal_pre_sb_finite [hSbBwdRefIdeal : Cert.SbBwdRefIdeal.Facts] [hPre_sb_finite : Cert.Pre_sb_finite.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal_sb_finite m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1)
      ∧ r.2.mem ((c.tc : Thread Cert.SbBwdRefIdeal.nD Cert.SbBwdRefIdeal.τ).loc Cert.SbBwdRefIdeal.main_arg2) = m ((c.tc : Thread Cert.SbBwdRefIdeal.nD Cert.SbBwdRefIdeal.τ).loc Cert.SbBwdRefIdeal.main_arg2)
      ∧ r.2.mem ((c.tc : Thread Cert.SbBwdRefIdeal.nD Cert.SbBwdRefIdeal.τ).loc Cert.SbBwdRefIdeal.main_arg3) = m ((c.tc : Thread Cert.SbBwdRefIdeal.nD Cert.SbBwdRefIdeal.τ).loc Cert.SbBwdRefIdeal.main_arg3))
      ∧ r.2.sem = fun _ => 0)

def quiescent_XGrad [hXGrad : Cert.XGrad.Facts] : Prop :=
  ∀ (m : (ℓ : Loc Cert.XGrad.nD Cert.XGrad.τ Cert.XGrad.sig) → Buf (Elt Bits) ℓ) (g : Dev Cert.XGrad.nD → PrngReg), Pre_XGrad m →
    θ_run (Cert.XGrad.defs (F := Bits)) (onTc (τ := Cert.XGrad.τ) (Cert.XGrad.main (F := Bits))) ⟨m, fun _ => 0, g⟩ (fun r => (∀ c : Dev Cert.XGrad.nD,
      r.2.mem ((c.tc : Thread Cert.XGrad.nD Cert.XGrad.τ).loc Cert.XGrad.main_arg0) = m ((c.tc : Thread Cert.XGrad.nD Cert.XGrad.τ).loc Cert.XGrad.main_arg0)
      ∧ r.2.mem ((c.tc : Thread Cert.XGrad.nD Cert.XGrad.τ).loc Cert.XGrad.main_arg1) = m ((c.tc : Thread Cert.XGrad.nD Cert.XGrad.τ).loc Cert.XGrad.main_arg1)
      ∧ r.2.mem ((c.tc : Thread Cert.XGrad.nD Cert.XGrad.τ).loc Cert.XGrad.main_arg2) = m ((c.tc : Thread Cert.XGrad.nD Cert.XGrad.τ).loc Cert.XGrad.main_arg2)
      ∧ r.2.mem ((c.tc : Thread Cert.XGrad.nD Cert.XGrad.τ).loc Cert.XGrad.main_arg3) = m ((c.tc : Thread Cert.XGrad.nD Cert.XGrad.τ).loc Cert.XGrad.main_arg3)
      ∧ r.2.mem ((c.tc : Thread Cert.XGrad.nD Cert.XGrad.τ).loc Cert.XGrad.main_arg4) = m ((c.tc : Thread Cert.XGrad.nD Cert.XGrad.τ).loc Cert.XGrad.main_arg4)
      ∧ r.2.mem ((c.tc : Thread Cert.XGrad.nD Cert.XGrad.τ).loc Cert.XGrad.main_arg5) = m ((c.tc : Thread Cert.XGrad.nD Cert.XGrad.τ).loc Cert.XGrad.main_arg5)
      ∧ r.2.mem ((c.tc : Thread Cert.XGrad.nD Cert.XGrad.τ).loc Cert.XGrad.main_arg6) = m ((c.tc : Thread Cert.XGrad.nD Cert.XGrad.τ).loc Cert.XGrad.main_arg6)
      ∧ r.2.mem ((c.tc : Thread Cert.XGrad.nD Cert.XGrad.τ).loc Cert.XGrad.main_arg7) = m ((c.tc : Thread Cert.XGrad.nD Cert.XGrad.τ).loc Cert.XGrad.main_arg7)
      ∧ r.2.mem ((c.tc : Thread Cert.XGrad.nD Cert.XGrad.τ).loc Cert.XGrad.main_arg8) = m ((c.tc : Thread Cert.XGrad.nD Cert.XGrad.τ).loc Cert.XGrad.main_arg8)
      ∧ r.2.mem ((c.tc : Thread Cert.XGrad.nD Cert.XGrad.τ).loc Cert.XGrad.main_arg9) = m ((c.tc : Thread Cert.XGrad.nD Cert.XGrad.τ).loc Cert.XGrad.main_arg9)
      ∧ r.2.mem ((c.tc : Thread Cert.XGrad.nD Cert.XGrad.τ).loc Cert.XGrad.main_arg10) = m ((c.tc : Thread Cert.XGrad.nD Cert.XGrad.τ).loc Cert.XGrad.main_arg10))
      ∧ r.2.sem = fun _ => 0)

def quiescent_XGradIdeal [hXGradIdeal : Cert.XGradIdeal.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
      ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
      ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4)
      ∧ r.2.mem ((c.tc : Thread Cert.XGradIdeal.nD Cert.XGradIdeal.τ).loc Cert.XGradIdeal.main_arg5) = m ((c.tc : Thread Cert.XGradIdeal.nD Cert.XGradIdeal.τ).loc Cert.XGradIdeal.main_arg5)
      ∧ r.2.mem ((c.tc : Thread Cert.XGradIdeal.nD Cert.XGradIdeal.τ).loc Cert.XGradIdeal.main_arg6) = m ((c.tc : Thread Cert.XGradIdeal.nD Cert.XGradIdeal.τ).loc Cert.XGradIdeal.main_arg6)
      ∧ r.2.mem ((c.tc : Thread Cert.XGradIdeal.nD Cert.XGradIdeal.τ).loc Cert.XGradIdeal.main_arg7) = m ((c.tc : Thread Cert.XGradIdeal.nD Cert.XGradIdeal.τ).loc Cert.XGradIdeal.main_arg7)
      ∧ r.2.mem ((c.tc : Thread Cert.XGradIdeal.nD Cert.XGradIdeal.τ).loc Cert.XGradIdeal.main_arg8) = m ((c.tc : Thread Cert.XGradIdeal.nD Cert.XGradIdeal.τ).loc Cert.XGradIdeal.main_arg8)
      ∧ r.2.mem ((c.tc : Thread Cert.XGradIdeal.nD Cert.XGradIdeal.τ).loc Cert.XGradIdeal.main_arg9) = m ((c.tc : Thread Cert.XGradIdeal.nD Cert.XGradIdeal.τ).loc Cert.XGradIdeal.main_arg9)
      ∧ r.2.mem ((c.tc : Thread Cert.XGradIdeal.nD Cert.XGradIdeal.τ).loc Cert.XGradIdeal.main_arg10) = m ((c.tc : Thread Cert.XGradIdeal.nD Cert.XGradIdeal.τ).loc Cert.XGradIdeal.main_arg10))
      ∧ r.2.sem = fun _ => 0)

def quiescent_XGradIdeal_pre_x_finite [hXGradIdeal : Cert.XGradIdeal.Facts] [hPre_x_finite : Cert.Pre_x_finite.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal_x_finite m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
      ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
      ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4)
      ∧ r.2.mem ((c.tc : Thread Cert.XGradIdeal.nD Cert.XGradIdeal.τ).loc Cert.XGradIdeal.main_arg5) = m ((c.tc : Thread Cert.XGradIdeal.nD Cert.XGradIdeal.τ).loc Cert.XGradIdeal.main_arg5)
      ∧ r.2.mem ((c.tc : Thread Cert.XGradIdeal.nD Cert.XGradIdeal.τ).loc Cert.XGradIdeal.main_arg6) = m ((c.tc : Thread Cert.XGradIdeal.nD Cert.XGradIdeal.τ).loc Cert.XGradIdeal.main_arg6)
      ∧ r.2.mem ((c.tc : Thread Cert.XGradIdeal.nD Cert.XGradIdeal.τ).loc Cert.XGradIdeal.main_arg7) = m ((c.tc : Thread Cert.XGradIdeal.nD Cert.XGradIdeal.τ).loc Cert.XGradIdeal.main_arg7)
      ∧ r.2.mem ((c.tc : Thread Cert.XGradIdeal.nD Cert.XGradIdeal.τ).loc Cert.XGradIdeal.main_arg8) = m ((c.tc : Thread Cert.XGradIdeal.nD Cert.XGradIdeal.τ).loc Cert.XGradIdeal.main_arg8)
      ∧ r.2.mem ((c.tc : Thread Cert.XGradIdeal.nD Cert.XGradIdeal.τ).loc Cert.XGradIdeal.main_arg9) = m ((c.tc : Thread Cert.XGradIdeal.nD Cert.XGradIdeal.τ).loc Cert.XGradIdeal.main_arg9)
      ∧ r.2.mem ((c.tc : Thread Cert.XGradIdeal.nD Cert.XGradIdeal.τ).loc Cert.XGradIdeal.main_arg10) = m ((c.tc : Thread Cert.XGradIdeal.nD Cert.XGradIdeal.τ).loc Cert.XGradIdeal.main_arg10))
      ∧ r.2.sem = fun _ => 0)

def quiescent_XGradRefIdeal [hXGradRefIdeal : Cert.XGradRefIdeal.Facts] : Prop :=
  ∀ (m : (ℓ : Loc Cert.XGradRefIdeal.nD Cert.XGradRefIdeal.τ Cert.XGradRefIdeal.sig) → Buf (Elt Ideal) ℓ) (g : Dev Cert.XGradRefIdeal.nD → PrngReg), Pre_XGradRefIdeal m →
    θ_run (Cert.XGradRefIdeal.defs (F := Ideal)) (onTc (τ := Cert.XGradRefIdeal.τ) (Cert.XGradRefIdeal.main (F := Ideal))) ⟨m, fun _ => 0, g⟩ (fun r => (∀ c : Dev Cert.XGradRefIdeal.nD,
      r.2.mem ((c.tc : Thread Cert.XGradRefIdeal.nD Cert.XGradRefIdeal.τ).loc Cert.XGradRefIdeal.main_arg0) = m ((c.tc : Thread Cert.XGradRefIdeal.nD Cert.XGradRefIdeal.τ).loc Cert.XGradRefIdeal.main_arg0)
      ∧ r.2.mem ((c.tc : Thread Cert.XGradRefIdeal.nD Cert.XGradRefIdeal.τ).loc Cert.XGradRefIdeal.main_arg1) = m ((c.tc : Thread Cert.XGradRefIdeal.nD Cert.XGradRefIdeal.τ).loc Cert.XGradRefIdeal.main_arg1)
      ∧ r.2.mem ((c.tc : Thread Cert.XGradRefIdeal.nD Cert.XGradRefIdeal.τ).loc Cert.XGradRefIdeal.main_arg2) = m ((c.tc : Thread Cert.XGradRefIdeal.nD Cert.XGradRefIdeal.τ).loc Cert.XGradRefIdeal.main_arg2)
      ∧ r.2.mem ((c.tc : Thread Cert.XGradRefIdeal.nD Cert.XGradRefIdeal.τ).loc Cert.XGradRefIdeal.main_arg3) = m ((c.tc : Thread Cert.XGradRefIdeal.nD Cert.XGradRefIdeal.τ).loc Cert.XGradRefIdeal.main_arg3)
      ∧ r.2.mem ((c.tc : Thread Cert.XGradRefIdeal.nD Cert.XGradRefIdeal.τ).loc Cert.XGradRefIdeal.main_arg4) = m ((c.tc : Thread Cert.XGradRefIdeal.nD Cert.XGradRefIdeal.τ).loc Cert.XGradRefIdeal.main_arg4)
      ∧ r.2.mem ((c.tc : Thread Cert.XGradRefIdeal.nD Cert.XGradRefIdeal.τ).loc Cert.XGradRefIdeal.main_arg5) = m ((c.tc : Thread Cert.XGradRefIdeal.nD Cert.XGradRefIdeal.τ).loc Cert.XGradRefIdeal.main_arg5)
      ∧ r.2.mem ((c.tc : Thread Cert.XGradRefIdeal.nD Cert.XGradRefIdeal.τ).loc Cert.XGradRefIdeal.main_arg6) = m ((c.tc : Thread Cert.XGradRefIdeal.nD Cert.XGradRefIdeal.τ).loc Cert.XGradRefIdeal.main_arg6)
      ∧ r.2.mem ((c.tc : Thread Cert.XGradRefIdeal.nD Cert.XGradRefIdeal.τ).loc Cert.XGradRefIdeal.main_arg7) = m ((c.tc : Thread Cert.XGradRefIdeal.nD Cert.XGradRefIdeal.τ).loc Cert.XGradRefIdeal.main_arg7)
      ∧ r.2.mem ((c.tc : Thread Cert.XGradRefIdeal.nD Cert.XGradRefIdeal.τ).loc Cert.XGradRefIdeal.main_arg8) = m ((c.tc : Thread Cert.XGradRefIdeal.nD Cert.XGradRefIdeal.τ).loc Cert.XGradRefIdeal.main_arg8)
      ∧ r.2.mem ((c.tc : Thread Cert.XGradRefIdeal.nD Cert.XGradRefIdeal.τ).loc Cert.XGradRefIdeal.main_arg9) = m ((c.tc : Thread Cert.XGradRefIdeal.nD Cert.XGradRefIdeal.τ).loc Cert.XGradRefIdeal.main_arg9)
      ∧ r.2.mem ((c.tc : Thread Cert.XGradRefIdeal.nD Cert.XGradRefIdeal.τ).loc Cert.XGradRefIdeal.main_arg10) = m ((c.tc : Thread Cert.XGradRefIdeal.nD Cert.XGradRefIdeal.τ).loc Cert.XGradRefIdeal.main_arg10))
      ∧ r.2.sem = fun _ => 0)

def quiescent_XGradRefIdeal_pre_x_finite [hXGradRefIdeal : Cert.XGradRefIdeal.Facts] [hPre_x_finite : Cert.Pre_x_finite.Facts] : Prop :=
  ∀ (m : (ℓ : Loc Cert.XGradRefIdeal.nD Cert.XGradRefIdeal.τ Cert.XGradRefIdeal.sig) → Buf (Elt Ideal) ℓ) (g : Dev Cert.XGradRefIdeal.nD → PrngReg), Pre_XGradRefIdeal_x_finite m →
    θ_run (Cert.XGradRefIdeal.defs (F := Ideal)) (onTc (τ := Cert.XGradRefIdeal.τ) (Cert.XGradRefIdeal.main (F := Ideal))) ⟨m, fun _ => 0, g⟩ (fun r => (∀ c : Dev Cert.XGradRefIdeal.nD,
      r.2.mem ((c.tc : Thread Cert.XGradRefIdeal.nD Cert.XGradRefIdeal.τ).loc Cert.XGradRefIdeal.main_arg0) = m ((c.tc : Thread Cert.XGradRefIdeal.nD Cert.XGradRefIdeal.τ).loc Cert.XGradRefIdeal.main_arg0)
      ∧ r.2.mem ((c.tc : Thread Cert.XGradRefIdeal.nD Cert.XGradRefIdeal.τ).loc Cert.XGradRefIdeal.main_arg1) = m ((c.tc : Thread Cert.XGradRefIdeal.nD Cert.XGradRefIdeal.τ).loc Cert.XGradRefIdeal.main_arg1)
      ∧ r.2.mem ((c.tc : Thread Cert.XGradRefIdeal.nD Cert.XGradRefIdeal.τ).loc Cert.XGradRefIdeal.main_arg2) = m ((c.tc : Thread Cert.XGradRefIdeal.nD Cert.XGradRefIdeal.τ).loc Cert.XGradRefIdeal.main_arg2)
      ∧ r.2.mem ((c.tc : Thread Cert.XGradRefIdeal.nD Cert.XGradRefIdeal.τ).loc Cert.XGradRefIdeal.main_arg3) = m ((c.tc : Thread Cert.XGradRefIdeal.nD Cert.XGradRefIdeal.τ).loc Cert.XGradRefIdeal.main_arg3)
      ∧ r.2.mem ((c.tc : Thread Cert.XGradRefIdeal.nD Cert.XGradRefIdeal.τ).loc Cert.XGradRefIdeal.main_arg4) = m ((c.tc : Thread Cert.XGradRefIdeal.nD Cert.XGradRefIdeal.τ).loc Cert.XGradRefIdeal.main_arg4)
      ∧ r.2.mem ((c.tc : Thread Cert.XGradRefIdeal.nD Cert.XGradRefIdeal.τ).loc Cert.XGradRefIdeal.main_arg5) = m ((c.tc : Thread Cert.XGradRefIdeal.nD Cert.XGradRefIdeal.τ).loc Cert.XGradRefIdeal.main_arg5)
      ∧ r.2.mem ((c.tc : Thread Cert.XGradRefIdeal.nD Cert.XGradRefIdeal.τ).loc Cert.XGradRefIdeal.main_arg6) = m ((c.tc : Thread Cert.XGradRefIdeal.nD Cert.XGradRefIdeal.τ).loc Cert.XGradRefIdeal.main_arg6)
      ∧ r.2.mem ((c.tc : Thread Cert.XGradRefIdeal.nD Cert.XGradRefIdeal.τ).loc Cert.XGradRefIdeal.main_arg7) = m ((c.tc : Thread Cert.XGradRefIdeal.nD Cert.XGradRefIdeal.τ).loc Cert.XGradRefIdeal.main_arg7)
      ∧ r.2.mem ((c.tc : Thread Cert.XGradRefIdeal.nD Cert.XGradRefIdeal.τ).loc Cert.XGradRefIdeal.main_arg8) = m ((c.tc : Thread Cert.XGradRefIdeal.nD Cert.XGradRefIdeal.τ).loc Cert.XGradRefIdeal.main_arg8)
      ∧ r.2.mem ((c.tc : Thread Cert.XGradRefIdeal.nD Cert.XGradRefIdeal.τ).loc Cert.XGradRefIdeal.main_arg9) = m ((c.tc : Thread Cert.XGradRefIdeal.nD Cert.XGradRefIdeal.τ).loc Cert.XGradRefIdeal.main_arg9)
      ∧ r.2.mem ((c.tc : Thread Cert.XGradRefIdeal.nD Cert.XGradRefIdeal.τ).loc Cert.XGradRefIdeal.main_arg10) = m ((c.tc : Thread Cert.XGradRefIdeal.nD Cert.XGradRefIdeal.τ).loc Cert.XGradRefIdeal.main_arg10))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2)
      ∧ r.2.mem ((c.tc : Thread Cert.SwaBwd.nD Cert.SwaBwd.τ).loc Cert.SwaBwd.main_arg3) = m ((c.tc : Thread Cert.SwaBwd.nD Cert.SwaBwd.τ).loc Cert.SwaBwd.main_arg3)
      ∧ r.2.mem ((c.tc : Thread Cert.SwaBwd.nD Cert.SwaBwd.τ).loc Cert.SwaBwd.main_arg4) = m ((c.tc : Thread Cert.SwaBwd.nD Cert.SwaBwd.τ).loc Cert.SwaBwd.main_arg4))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
      ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4))
      ∧ r.2.sem = fun _ => 0)

def quiescent_SwaBwdIdeal_pre_swa_finite [hSwaBwdIdeal : Cert.SwaBwdIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
      ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3)
      ∧ r.2.mem ((c.tc : Thread Cert.SwaBwdRefIdeal.nD Cert.SwaBwdRefIdeal.τ).loc Cert.SwaBwdRefIdeal.main_arg4) = m ((c.tc : Thread Cert.SwaBwdRefIdeal.nD Cert.SwaBwdRefIdeal.τ).loc Cert.SwaBwdRefIdeal.main_arg4))
      ∧ r.2.sem = fun _ => 0)

def quiescent_SwaBwdRefIdeal_pre_swa_finite [hSwaBwdRefIdeal : Cert.SwaBwdRefIdeal.Facts] [hPre_swa_finite : Cert.Pre_swa_finite.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_swa_finite m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3)
      ∧ r.2.mem ((c.tc : Thread Cert.SwaBwdRefIdeal.nD Cert.SwaBwdRefIdeal.τ).loc Cert.SwaBwdRefIdeal.main_arg4) = m ((c.tc : Thread Cert.SwaBwdRefIdeal.nD Cert.SwaBwdRefIdeal.τ).loc Cert.SwaBwdRefIdeal.main_arg4))
      ∧ r.2.sem = fun _ => 0)

def quiescent_QkGrad [hQkGrad : Cert.QkGrad.Facts] : Prop :=
  ∀ (m : (ℓ : Loc Cert.QkGrad.nD Cert.QkGrad.τ Cert.QkGrad.sig) → Buf (Elt Bits) ℓ) (g : Dev Cert.QkGrad.nD → PrngReg), Pre_QkGrad m →
    θ_run (Cert.QkGrad.defs (F := Bits)) (onTc (τ := Cert.QkGrad.τ) (Cert.QkGrad.main (F := Bits))) ⟨m, fun _ => 0, g⟩ (fun r => (∀ c : Dev Cert.QkGrad.nD,
      r.2.mem ((c.tc : Thread Cert.QkGrad.nD Cert.QkGrad.τ).loc Cert.QkGrad.main_arg0) = m ((c.tc : Thread Cert.QkGrad.nD Cert.QkGrad.τ).loc Cert.QkGrad.main_arg0)
      ∧ r.2.mem ((c.tc : Thread Cert.QkGrad.nD Cert.QkGrad.τ).loc Cert.QkGrad.main_arg1) = m ((c.tc : Thread Cert.QkGrad.nD Cert.QkGrad.τ).loc Cert.QkGrad.main_arg1)
      ∧ r.2.mem ((c.tc : Thread Cert.QkGrad.nD Cert.QkGrad.τ).loc Cert.QkGrad.main_arg2) = m ((c.tc : Thread Cert.QkGrad.nD Cert.QkGrad.τ).loc Cert.QkGrad.main_arg2)
      ∧ r.2.mem ((c.tc : Thread Cert.QkGrad.nD Cert.QkGrad.τ).loc Cert.QkGrad.main_arg3) = m ((c.tc : Thread Cert.QkGrad.nD Cert.QkGrad.τ).loc Cert.QkGrad.main_arg3)
      ∧ r.2.mem ((c.tc : Thread Cert.QkGrad.nD Cert.QkGrad.τ).loc Cert.QkGrad.main_arg4) = m ((c.tc : Thread Cert.QkGrad.nD Cert.QkGrad.τ).loc Cert.QkGrad.main_arg4)
      ∧ r.2.mem ((c.tc : Thread Cert.QkGrad.nD Cert.QkGrad.τ).loc Cert.QkGrad.main_arg5) = m ((c.tc : Thread Cert.QkGrad.nD Cert.QkGrad.τ).loc Cert.QkGrad.main_arg5)
      ∧ r.2.mem ((c.tc : Thread Cert.QkGrad.nD Cert.QkGrad.τ).loc Cert.QkGrad.main_arg6) = m ((c.tc : Thread Cert.QkGrad.nD Cert.QkGrad.τ).loc Cert.QkGrad.main_arg6)
      ∧ r.2.mem ((c.tc : Thread Cert.QkGrad.nD Cert.QkGrad.τ).loc Cert.QkGrad.main_arg7) = m ((c.tc : Thread Cert.QkGrad.nD Cert.QkGrad.τ).loc Cert.QkGrad.main_arg7))
      ∧ r.2.sem = fun _ => 0)

def quiescent_QkGradIdeal [hQkGradIdeal : Cert.QkGradIdeal.Facts] : Prop :=
  ∀ (m : (ℓ : Loc Cert.QkGradIdeal.nD Cert.QkGradIdeal.τ Cert.QkGradIdeal.sig) → Buf (Elt Ideal) ℓ) (g : Dev Cert.QkGradIdeal.nD → PrngReg), Pre_QkGradIdeal m →
    θ_run (Cert.QkGradIdeal.defs (F := Ideal)) (onTc (τ := Cert.QkGradIdeal.τ) (Cert.QkGradIdeal.main (F := Ideal))) ⟨m, fun _ => 0, g⟩ (fun r => (∀ c : Dev Cert.QkGradIdeal.nD,
      r.2.mem ((c.tc : Thread Cert.QkGradIdeal.nD Cert.QkGradIdeal.τ).loc Cert.QkGradIdeal.main_arg0) = m ((c.tc : Thread Cert.QkGradIdeal.nD Cert.QkGradIdeal.τ).loc Cert.QkGradIdeal.main_arg0)
      ∧ r.2.mem ((c.tc : Thread Cert.QkGradIdeal.nD Cert.QkGradIdeal.τ).loc Cert.QkGradIdeal.main_arg1) = m ((c.tc : Thread Cert.QkGradIdeal.nD Cert.QkGradIdeal.τ).loc Cert.QkGradIdeal.main_arg1)
      ∧ r.2.mem ((c.tc : Thread Cert.QkGradIdeal.nD Cert.QkGradIdeal.τ).loc Cert.QkGradIdeal.main_arg2) = m ((c.tc : Thread Cert.QkGradIdeal.nD Cert.QkGradIdeal.τ).loc Cert.QkGradIdeal.main_arg2)
      ∧ r.2.mem ((c.tc : Thread Cert.QkGradIdeal.nD Cert.QkGradIdeal.τ).loc Cert.QkGradIdeal.main_arg3) = m ((c.tc : Thread Cert.QkGradIdeal.nD Cert.QkGradIdeal.τ).loc Cert.QkGradIdeal.main_arg3)
      ∧ r.2.mem ((c.tc : Thread Cert.QkGradIdeal.nD Cert.QkGradIdeal.τ).loc Cert.QkGradIdeal.main_arg4) = m ((c.tc : Thread Cert.QkGradIdeal.nD Cert.QkGradIdeal.τ).loc Cert.QkGradIdeal.main_arg4)
      ∧ r.2.mem ((c.tc : Thread Cert.QkGradIdeal.nD Cert.QkGradIdeal.τ).loc Cert.QkGradIdeal.main_arg5) = m ((c.tc : Thread Cert.QkGradIdeal.nD Cert.QkGradIdeal.τ).loc Cert.QkGradIdeal.main_arg5)
      ∧ r.2.mem ((c.tc : Thread Cert.QkGradIdeal.nD Cert.QkGradIdeal.τ).loc Cert.QkGradIdeal.main_arg6) = m ((c.tc : Thread Cert.QkGradIdeal.nD Cert.QkGradIdeal.τ).loc Cert.QkGradIdeal.main_arg6)
      ∧ r.2.mem ((c.tc : Thread Cert.QkGradIdeal.nD Cert.QkGradIdeal.τ).loc Cert.QkGradIdeal.main_arg7) = m ((c.tc : Thread Cert.QkGradIdeal.nD Cert.QkGradIdeal.τ).loc Cert.QkGradIdeal.main_arg7))
      ∧ r.2.sem = fun _ => 0)

def quiescent_QkGradIdeal_pre_qk_finite [hQkGradIdeal : Cert.QkGradIdeal.Facts] [hPre_qk_finite : Cert.Pre_qk_finite.Facts] : Prop :=
  ∀ (m : (ℓ : Loc Cert.QkGradIdeal.nD Cert.QkGradIdeal.τ Cert.QkGradIdeal.sig) → Buf (Elt Ideal) ℓ) (g : Dev Cert.QkGradIdeal.nD → PrngReg), Pre_QkGradIdeal_qk_finite m →
    θ_run (Cert.QkGradIdeal.defs (F := Ideal)) (onTc (τ := Cert.QkGradIdeal.τ) (Cert.QkGradIdeal.main (F := Ideal))) ⟨m, fun _ => 0, g⟩ (fun r => (∀ c : Dev Cert.QkGradIdeal.nD,
      r.2.mem ((c.tc : Thread Cert.QkGradIdeal.nD Cert.QkGradIdeal.τ).loc Cert.QkGradIdeal.main_arg0) = m ((c.tc : Thread Cert.QkGradIdeal.nD Cert.QkGradIdeal.τ).loc Cert.QkGradIdeal.main_arg0)
      ∧ r.2.mem ((c.tc : Thread Cert.QkGradIdeal.nD Cert.QkGradIdeal.τ).loc Cert.QkGradIdeal.main_arg1) = m ((c.tc : Thread Cert.QkGradIdeal.nD Cert.QkGradIdeal.τ).loc Cert.QkGradIdeal.main_arg1)
      ∧ r.2.mem ((c.tc : Thread Cert.QkGradIdeal.nD Cert.QkGradIdeal.τ).loc Cert.QkGradIdeal.main_arg2) = m ((c.tc : Thread Cert.QkGradIdeal.nD Cert.QkGradIdeal.τ).loc Cert.QkGradIdeal.main_arg2)
      ∧ r.2.mem ((c.tc : Thread Cert.QkGradIdeal.nD Cert.QkGradIdeal.τ).loc Cert.QkGradIdeal.main_arg3) = m ((c.tc : Thread Cert.QkGradIdeal.nD Cert.QkGradIdeal.τ).loc Cert.QkGradIdeal.main_arg3)
      ∧ r.2.mem ((c.tc : Thread Cert.QkGradIdeal.nD Cert.QkGradIdeal.τ).loc Cert.QkGradIdeal.main_arg4) = m ((c.tc : Thread Cert.QkGradIdeal.nD Cert.QkGradIdeal.τ).loc Cert.QkGradIdeal.main_arg4)
      ∧ r.2.mem ((c.tc : Thread Cert.QkGradIdeal.nD Cert.QkGradIdeal.τ).loc Cert.QkGradIdeal.main_arg5) = m ((c.tc : Thread Cert.QkGradIdeal.nD Cert.QkGradIdeal.τ).loc Cert.QkGradIdeal.main_arg5)
      ∧ r.2.mem ((c.tc : Thread Cert.QkGradIdeal.nD Cert.QkGradIdeal.τ).loc Cert.QkGradIdeal.main_arg6) = m ((c.tc : Thread Cert.QkGradIdeal.nD Cert.QkGradIdeal.τ).loc Cert.QkGradIdeal.main_arg6)
      ∧ r.2.mem ((c.tc : Thread Cert.QkGradIdeal.nD Cert.QkGradIdeal.τ).loc Cert.QkGradIdeal.main_arg7) = m ((c.tc : Thread Cert.QkGradIdeal.nD Cert.QkGradIdeal.τ).loc Cert.QkGradIdeal.main_arg7))
      ∧ r.2.sem = fun _ => 0)

def quiescent_QkGradRefIdeal [hQkGradRefIdeal : Cert.QkGradRefIdeal.Facts] : Prop :=
  ∀ (m : (ℓ : Loc Cert.QkGradRefIdeal.nD Cert.QkGradRefIdeal.τ Cert.QkGradRefIdeal.sig) → Buf (Elt Ideal) ℓ) (g : Dev Cert.QkGradRefIdeal.nD → PrngReg), Pre_QkGradRefIdeal m →
    θ_run (Cert.QkGradRefIdeal.defs (F := Ideal)) (onTc (τ := Cert.QkGradRefIdeal.τ) (Cert.QkGradRefIdeal.main (F := Ideal))) ⟨m, fun _ => 0, g⟩ (fun r => (∀ c : Dev Cert.QkGradRefIdeal.nD,
      r.2.mem ((c.tc : Thread Cert.QkGradRefIdeal.nD Cert.QkGradRefIdeal.τ).loc Cert.QkGradRefIdeal.main_arg0) = m ((c.tc : Thread Cert.QkGradRefIdeal.nD Cert.QkGradRefIdeal.τ).loc Cert.QkGradRefIdeal.main_arg0)
      ∧ r.2.mem ((c.tc : Thread Cert.QkGradRefIdeal.nD Cert.QkGradRefIdeal.τ).loc Cert.QkGradRefIdeal.main_arg1) = m ((c.tc : Thread Cert.QkGradRefIdeal.nD Cert.QkGradRefIdeal.τ).loc Cert.QkGradRefIdeal.main_arg1)
      ∧ r.2.mem ((c.tc : Thread Cert.QkGradRefIdeal.nD Cert.QkGradRefIdeal.τ).loc Cert.QkGradRefIdeal.main_arg2) = m ((c.tc : Thread Cert.QkGradRefIdeal.nD Cert.QkGradRefIdeal.τ).loc Cert.QkGradRefIdeal.main_arg2)
      ∧ r.2.mem ((c.tc : Thread Cert.QkGradRefIdeal.nD Cert.QkGradRefIdeal.τ).loc Cert.QkGradRefIdeal.main_arg3) = m ((c.tc : Thread Cert.QkGradRefIdeal.nD Cert.QkGradRefIdeal.τ).loc Cert.QkGradRefIdeal.main_arg3)
      ∧ r.2.mem ((c.tc : Thread Cert.QkGradRefIdeal.nD Cert.QkGradRefIdeal.τ).loc Cert.QkGradRefIdeal.main_arg4) = m ((c.tc : Thread Cert.QkGradRefIdeal.nD Cert.QkGradRefIdeal.τ).loc Cert.QkGradRefIdeal.main_arg4)
      ∧ r.2.mem ((c.tc : Thread Cert.QkGradRefIdeal.nD Cert.QkGradRefIdeal.τ).loc Cert.QkGradRefIdeal.main_arg5) = m ((c.tc : Thread Cert.QkGradRefIdeal.nD Cert.QkGradRefIdeal.τ).loc Cert.QkGradRefIdeal.main_arg5)
      ∧ r.2.mem ((c.tc : Thread Cert.QkGradRefIdeal.nD Cert.QkGradRefIdeal.τ).loc Cert.QkGradRefIdeal.main_arg6) = m ((c.tc : Thread Cert.QkGradRefIdeal.nD Cert.QkGradRefIdeal.τ).loc Cert.QkGradRefIdeal.main_arg6)
      ∧ r.2.mem ((c.tc : Thread Cert.QkGradRefIdeal.nD Cert.QkGradRefIdeal.τ).loc Cert.QkGradRefIdeal.main_arg7) = m ((c.tc : Thread Cert.QkGradRefIdeal.nD Cert.QkGradRefIdeal.τ).loc Cert.QkGradRefIdeal.main_arg7))
      ∧ r.2.sem = fun _ => 0)

def quiescent_QkGradRefIdeal_pre_qk_finite [hQkGradRefIdeal : Cert.QkGradRefIdeal.Facts] [hPre_qk_finite : Cert.Pre_qk_finite.Facts] : Prop :=
  ∀ (m : (ℓ : Loc Cert.QkGradRefIdeal.nD Cert.QkGradRefIdeal.τ Cert.QkGradRefIdeal.sig) → Buf (Elt Ideal) ℓ) (g : Dev Cert.QkGradRefIdeal.nD → PrngReg), Pre_QkGradRefIdeal_qk_finite m →
    θ_run (Cert.QkGradRefIdeal.defs (F := Ideal)) (onTc (τ := Cert.QkGradRefIdeal.τ) (Cert.QkGradRefIdeal.main (F := Ideal))) ⟨m, fun _ => 0, g⟩ (fun r => (∀ c : Dev Cert.QkGradRefIdeal.nD,
      r.2.mem ((c.tc : Thread Cert.QkGradRefIdeal.nD Cert.QkGradRefIdeal.τ).loc Cert.QkGradRefIdeal.main_arg0) = m ((c.tc : Thread Cert.QkGradRefIdeal.nD Cert.QkGradRefIdeal.τ).loc Cert.QkGradRefIdeal.main_arg0)
      ∧ r.2.mem ((c.tc : Thread Cert.QkGradRefIdeal.nD Cert.QkGradRefIdeal.τ).loc Cert.QkGradRefIdeal.main_arg1) = m ((c.tc : Thread Cert.QkGradRefIdeal.nD Cert.QkGradRefIdeal.τ).loc Cert.QkGradRefIdeal.main_arg1)
      ∧ r.2.mem ((c.tc : Thread Cert.QkGradRefIdeal.nD Cert.QkGradRefIdeal.τ).loc Cert.QkGradRefIdeal.main_arg2) = m ((c.tc : Thread Cert.QkGradRefIdeal.nD Cert.QkGradRefIdeal.τ).loc Cert.QkGradRefIdeal.main_arg2)
      ∧ r.2.mem ((c.tc : Thread Cert.QkGradRefIdeal.nD Cert.QkGradRefIdeal.τ).loc Cert.QkGradRefIdeal.main_arg3) = m ((c.tc : Thread Cert.QkGradRefIdeal.nD Cert.QkGradRefIdeal.τ).loc Cert.QkGradRefIdeal.main_arg3)
      ∧ r.2.mem ((c.tc : Thread Cert.QkGradRefIdeal.nD Cert.QkGradRefIdeal.τ).loc Cert.QkGradRefIdeal.main_arg4) = m ((c.tc : Thread Cert.QkGradRefIdeal.nD Cert.QkGradRefIdeal.τ).loc Cert.QkGradRefIdeal.main_arg4)
      ∧ r.2.mem ((c.tc : Thread Cert.QkGradRefIdeal.nD Cert.QkGradRefIdeal.τ).loc Cert.QkGradRefIdeal.main_arg5) = m ((c.tc : Thread Cert.QkGradRefIdeal.nD Cert.QkGradRefIdeal.τ).loc Cert.QkGradRefIdeal.main_arg5)
      ∧ r.2.mem ((c.tc : Thread Cert.QkGradRefIdeal.nD Cert.QkGradRefIdeal.τ).loc Cert.QkGradRefIdeal.main_arg6) = m ((c.tc : Thread Cert.QkGradRefIdeal.nD Cert.QkGradRefIdeal.τ).loc Cert.QkGradRefIdeal.main_arg6)
      ∧ r.2.mem ((c.tc : Thread Cert.QkGradRefIdeal.nD Cert.QkGradRefIdeal.τ).loc Cert.QkGradRefIdeal.main_arg7) = m ((c.tc : Thread Cert.QkGradRefIdeal.nD Cert.QkGradRefIdeal.τ).loc Cert.QkGradRefIdeal.main_arg7))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ r.2.sem = fun _ => 0)

def quiescent_SwaFwdIdeal_pre_swa_fwd_finite [hSwaFwdIdeal : Cert.SwaFwdIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swa_fwd_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3))
      ∧ r.2.sem = fun _ => 0)

def quiescent_SwaFwdRefIdeal_pre_swa_fwd_finite [hSwaFwdRefIdeal : Cert.SwaFwdRefIdeal.Facts] [hPre_swa_fwd_finite : Cert.Pre_swa_fwd_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swa_fwd_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3))
      ∧ r.2.sem = fun _ => 0)

def preserves_OutProj_OutProjIdeal : Prop :=
  True

def algebraic_OutProjIdeal_OutProjRefIdeal_pre_finite [hOutProjIdeal : Cert.OutProjIdeal.Facts] [hOutProjRefIdeal : Cert.OutProjRefIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)) (v3 : (c : Dev Cert.OutProjIdeal.nD) → Buf (Elt Ideal) ((c.tc : Thread Cert.OutProjIdeal.nD Cert.OutProjIdeal.τ).loc Cert.OutProjIdeal.main_v3_3)) (v4 : (c : Dev Cert.OutProjIdeal.nD) → Buf (Elt Ideal) ((c.tc : Thread Cert.OutProjIdeal.nD Cert.OutProjIdeal.τ).loc Cert.OutProjIdeal.main_v3_4)) (v5 : (c : Dev Cert.OutProjIdeal.nD) → Buf (Elt Ideal) ((c.tc : Thread Cert.OutProjIdeal.nD Cert.OutProjIdeal.τ).loc Cert.OutProjIdeal.main_v3_5)) (v6 : (c : Dev Cert.OutProjIdeal.nD) → Buf (Elt Ideal) ((c.tc : Thread Cert.OutProjIdeal.nD Cert.OutProjIdeal.τ).loc Cert.OutProjIdeal.main_v3_6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_v3_3) = v3 c
          ∧ r.2.mem ((c.tc : Thread Cert.OutProjIdeal.nD Cert.OutProjIdeal.τ).loc Cert.OutProjIdeal.main_v3_4) = v4 c
          ∧ r.2.mem ((c.tc : Thread Cert.OutProjIdeal.nD Cert.OutProjIdeal.τ).loc Cert.OutProjIdeal.main_v3_5) = v5 c
          ∧ r.2.mem ((c.tc : Thread Cert.OutProjIdeal.nD Cert.OutProjIdeal.τ).loc Cert.OutProjIdeal.main_v3_6) = v6 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v21) = v0 c
          ∧ r.2.mem ((c.tc : Thread Cert.OutProjRefIdeal.nD Cert.OutProjRefIdeal.τ).loc Cert.OutProjRefIdeal.main_v33) = v1 c
          ∧ r.2.mem ((c.tc : Thread Cert.OutProjRefIdeal.nD Cert.OutProjRefIdeal.τ).loc Cert.OutProjRefIdeal.main_v34) = v2 c
          ∧ r.2.mem ((c.tc : Thread Cert.OutProjRefIdeal.nD Cert.OutProjRefIdeal.τ).loc Cert.OutProjRefIdeal.main_v35) = v3 c
          ∧ r.2.mem ((c.tc : Thread Cert.OutProjRefIdeal.nD Cert.OutProjRefIdeal.τ).loc Cert.OutProjRefIdeal.main_v36) = v4 c
          ∧ r.2.mem ((c.tc : Thread Cert.OutProjRefIdeal.nD Cert.OutProjRefIdeal.τ).loc Cert.OutProjRefIdeal.main_v23) = v5 c
          ∧ r.2.mem ((c.tc : Thread Cert.OutProjRefIdeal.nD Cert.OutProjRefIdeal.τ).loc Cert.OutProjRefIdeal.main_v37) = v6 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_SbBwd_SbBwdIdeal : Prop :=
  True

def algebraic_SbBwdIdeal_SbBwdRefIdeal_pre_sb_finite [hSbBwdIdeal : Cert.SbBwdIdeal.Facts] [hSbBwdRefIdeal : Cert.SbBwdRefIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbBwdRefIdeal.nD Cert.SbBwdRefIdeal.τ Cert.SbBwdRefIdeal.sig) → Buf (Elt Ideal) ℓ) (g' : Dev Cert.SbBwdRefIdeal.nD → PrngReg), Pre_SbBwdIdeal_sb_finite m →
    (∀ c : Dev Cert.SbBwdIdeal.nD,
      m' ((c.tc : Thread Cert.SbBwdRefIdeal.nD Cert.SbBwdRefIdeal.τ).loc Cert.SbBwdRefIdeal.main_arg0) = m ((c.tc : Thread Cert.SbBwdIdeal.nD Cert.SbBwdIdeal.τ).loc Cert.SbBwdIdeal.main_arg0)
      ∧ m' ((c.tc : Thread Cert.SbBwdRefIdeal.nD Cert.SbBwdRefIdeal.τ).loc Cert.SbBwdRefIdeal.main_arg1) = m ((c.tc : Thread Cert.SbBwdIdeal.nD Cert.SbBwdIdeal.τ).loc Cert.SbBwdIdeal.main_arg1)
      ∧ m' ((c.tc : Thread Cert.SbBwdRefIdeal.nD Cert.SbBwdRefIdeal.τ).loc Cert.SbBwdRefIdeal.main_arg2) = m ((c.tc : Thread Cert.SbBwdIdeal.nD Cert.SbBwdIdeal.τ).loc Cert.SbBwdIdeal.main_arg2)
      ∧ m' ((c.tc : Thread Cert.SbBwdRefIdeal.nD Cert.SbBwdRefIdeal.τ).loc Cert.SbBwdRefIdeal.main_arg3) = m ((c.tc : Thread Cert.SbBwdIdeal.nD Cert.SbBwdIdeal.τ).loc Cert.SbBwdIdeal.main_arg3)) →
    ∃ (v0 : (c : Dev Cert.SbBwdIdeal.nD) → Buf (Elt Ideal) ((c.tc : Thread Cert.SbBwdIdeal.nD Cert.SbBwdIdeal.τ).loc Cert.SbBwdIdeal.main_v45_0)) (v1 : (c : Dev Cert.SbBwdIdeal.nD) → Buf (Elt Ideal) ((c.tc : Thread Cert.SbBwdIdeal.nD Cert.SbBwdIdeal.τ).loc Cert.SbBwdIdeal.main_v45_1)) (v2 : (c : Dev Cert.SbBwdIdeal.nD) → Buf (Elt Ideal) ((c.tc : Thread Cert.SbBwdIdeal.nD Cert.SbBwdIdeal.τ).loc Cert.SbBwdIdeal.main_v45_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v45_0) = v0 c
          ∧ r.2.mem ((c.tc : Thread Cert.SbBwdIdeal.nD Cert.SbBwdIdeal.τ).loc Cert.SbBwdIdeal.main_v45_1) = v1 c
          ∧ r.2.mem ((c.tc : Thread Cert.SbBwdIdeal.nD Cert.SbBwdIdeal.τ).loc Cert.SbBwdIdeal.main_v45_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
          ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
          ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ θ_run (Cert.SbBwdRefIdeal.defs (F := Ideal)) (onTc (τ := Cert.SbBwdRefIdeal.τ) (Cert.SbBwdRefIdeal.main (F := Ideal))) ⟨m', fun _ => 0, g'⟩ (fun r => ∀ c : Dev Cert.SbBwdRefIdeal.nD,
          r.2.mem ((c.tc : Thread Cert.SbBwdRefIdeal.nD Cert.SbBwdRefIdeal.τ).loc Cert.SbBwdRefIdeal.main_v43) = v0 c
          ∧ r.2.mem ((c.tc : Thread Cert.SbBwdRefIdeal.nD Cert.SbBwdRefIdeal.τ).loc Cert.SbBwdRefIdeal.main_v44) = v1 c
          ∧ r.2.mem ((c.tc : Thread Cert.SbBwdRefIdeal.nD Cert.SbBwdRefIdeal.τ).loc Cert.SbBwdRefIdeal.main_v45) = v2 c
          ∧ r.2.mem ((c.tc : Thread Cert.SbBwdRefIdeal.nD Cert.SbBwdRefIdeal.τ).loc Cert.SbBwdRefIdeal.main_arg0) = m' ((c.tc : Thread Cert.SbBwdRefIdeal.nD Cert.SbBwdRefIdeal.τ).loc Cert.SbBwdRefIdeal.main_arg0)
          ∧ r.2.mem ((c.tc : Thread Cert.SbBwdRefIdeal.nD Cert.SbBwdRefIdeal.τ).loc Cert.SbBwdRefIdeal.main_arg1) = m' ((c.tc : Thread Cert.SbBwdRefIdeal.nD Cert.SbBwdRefIdeal.τ).loc Cert.SbBwdRefIdeal.main_arg1)
          ∧ r.2.mem ((c.tc : Thread Cert.SbBwdRefIdeal.nD Cert.SbBwdRefIdeal.τ).loc Cert.SbBwdRefIdeal.main_arg2) = m' ((c.tc : Thread Cert.SbBwdRefIdeal.nD Cert.SbBwdRefIdeal.τ).loc Cert.SbBwdRefIdeal.main_arg2)
          ∧ r.2.mem ((c.tc : Thread Cert.SbBwdRefIdeal.nD Cert.SbBwdRefIdeal.τ).loc Cert.SbBwdRefIdeal.main_arg3) = m' ((c.tc : Thread Cert.SbBwdRefIdeal.nD Cert.SbBwdRefIdeal.τ).loc Cert.SbBwdRefIdeal.main_arg3))

def preserves_XGrad_XGradIdeal : Prop :=
  True

def algebraic_XGradIdeal_XGradRefIdeal_pre_x_finite [hXGradIdeal : Cert.XGradIdeal.Facts] [hXGradRefIdeal : Cert.XGradRefIdeal.Facts] [hPre_x_finite : Cert.Pre_x_finite.Facts] : Prop :=
  ∀ (m : (ℓ : Loc Cert.XGradIdeal.nD Cert.XGradIdeal.τ Cert.XGradIdeal.sig) → Buf (Elt Ideal) ℓ) (g : Dev Cert.XGradIdeal.nD → PrngReg)
    (m' : (ℓ : Loc Cert.XGradRefIdeal.nD Cert.XGradRefIdeal.τ Cert.XGradRefIdeal.sig) → Buf (Elt Ideal) ℓ) (g' : Dev Cert.XGradRefIdeal.nD → PrngReg), Pre_XGradIdeal_x_finite m →
    (∀ c : Dev Cert.XGradIdeal.nD,
      m' ((c.tc : Thread Cert.XGradRefIdeal.nD Cert.XGradRefIdeal.τ).loc Cert.XGradRefIdeal.main_arg0) = m ((c.tc : Thread Cert.XGradIdeal.nD Cert.XGradIdeal.τ).loc Cert.XGradIdeal.main_arg0)
      ∧ m' ((c.tc : Thread Cert.XGradRefIdeal.nD Cert.XGradRefIdeal.τ).loc Cert.XGradRefIdeal.main_arg1) = m ((c.tc : Thread Cert.XGradIdeal.nD Cert.XGradIdeal.τ).loc Cert.XGradIdeal.main_arg1)
      ∧ m' ((c.tc : Thread Cert.XGradRefIdeal.nD Cert.XGradRefIdeal.τ).loc Cert.XGradRefIdeal.main_arg2) = m ((c.tc : Thread Cert.XGradIdeal.nD Cert.XGradIdeal.τ).loc Cert.XGradIdeal.main_arg2)
      ∧ m' ((c.tc : Thread Cert.XGradRefIdeal.nD Cert.XGradRefIdeal.τ).loc Cert.XGradRefIdeal.main_arg3) = m ((c.tc : Thread Cert.XGradIdeal.nD Cert.XGradIdeal.τ).loc Cert.XGradIdeal.main_arg3)
      ∧ m' ((c.tc : Thread Cert.XGradRefIdeal.nD Cert.XGradRefIdeal.τ).loc Cert.XGradRefIdeal.main_arg4) = m ((c.tc : Thread Cert.XGradIdeal.nD Cert.XGradIdeal.τ).loc Cert.XGradIdeal.main_arg4)
      ∧ m' ((c.tc : Thread Cert.XGradRefIdeal.nD Cert.XGradRefIdeal.τ).loc Cert.XGradRefIdeal.main_arg5) = m ((c.tc : Thread Cert.XGradIdeal.nD Cert.XGradIdeal.τ).loc Cert.XGradIdeal.main_arg5)
      ∧ m' ((c.tc : Thread Cert.XGradRefIdeal.nD Cert.XGradRefIdeal.τ).loc Cert.XGradRefIdeal.main_arg6) = m ((c.tc : Thread Cert.XGradIdeal.nD Cert.XGradIdeal.τ).loc Cert.XGradIdeal.main_arg6)
      ∧ m' ((c.tc : Thread Cert.XGradRefIdeal.nD Cert.XGradRefIdeal.τ).loc Cert.XGradRefIdeal.main_arg7) = m ((c.tc : Thread Cert.XGradIdeal.nD Cert.XGradIdeal.τ).loc Cert.XGradIdeal.main_arg7)
      ∧ m' ((c.tc : Thread Cert.XGradRefIdeal.nD Cert.XGradRefIdeal.τ).loc Cert.XGradRefIdeal.main_arg8) = m ((c.tc : Thread Cert.XGradIdeal.nD Cert.XGradIdeal.τ).loc Cert.XGradIdeal.main_arg8)
      ∧ m' ((c.tc : Thread Cert.XGradRefIdeal.nD Cert.XGradRefIdeal.τ).loc Cert.XGradRefIdeal.main_arg9) = m ((c.tc : Thread Cert.XGradIdeal.nD Cert.XGradIdeal.τ).loc Cert.XGradIdeal.main_arg9)
      ∧ m' ((c.tc : Thread Cert.XGradRefIdeal.nD Cert.XGradRefIdeal.τ).loc Cert.XGradRefIdeal.main_arg10) = m ((c.tc : Thread Cert.XGradIdeal.nD Cert.XGradIdeal.τ).loc Cert.XGradIdeal.main_arg10)) →
    ∃ (v0 : (c : Dev Cert.XGradIdeal.nD) → Buf (Elt Ideal) ((c.tc : Thread Cert.XGradIdeal.nD Cert.XGradIdeal.τ).loc Cert.XGradIdeal.main_v6_0)) (v1 : (c : Dev Cert.XGradIdeal.nD) → Buf (Elt Ideal) ((c.tc : Thread Cert.XGradIdeal.nD Cert.XGradIdeal.τ).loc Cert.XGradIdeal.main_v6_1)),
      θ_run (Cert.XGradIdeal.defs (F := Ideal)) (onTc (τ := Cert.XGradIdeal.τ) (Cert.XGradIdeal.main (F := Ideal))) ⟨m, fun _ => 0, g⟩ (fun r => ∀ c : Dev Cert.XGradIdeal.nD,
          r.2.mem ((c.tc : Thread Cert.XGradIdeal.nD Cert.XGradIdeal.τ).loc Cert.XGradIdeal.main_v6_0) = v0 c
          ∧ r.2.mem ((c.tc : Thread Cert.XGradIdeal.nD Cert.XGradIdeal.τ).loc Cert.XGradIdeal.main_v6_1) = v1 c
          ∧ r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
          ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
          ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
          ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
          ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4)
          ∧ r.2.mem ((c.tc : Thread Cert.XGradIdeal.nD Cert.XGradIdeal.τ).loc Cert.XGradIdeal.main_arg5) = m ((c.tc : Thread Cert.XGradIdeal.nD Cert.XGradIdeal.τ).loc Cert.XGradIdeal.main_arg5)
          ∧ r.2.mem ((c.tc : Thread Cert.XGradIdeal.nD Cert.XGradIdeal.τ).loc Cert.XGradIdeal.main_arg6) = m ((c.tc : Thread Cert.XGradIdeal.nD Cert.XGradIdeal.τ).loc Cert.XGradIdeal.main_arg6)
          ∧ r.2.mem ((c.tc : Thread Cert.XGradIdeal.nD Cert.XGradIdeal.τ).loc Cert.XGradIdeal.main_arg7) = m ((c.tc : Thread Cert.XGradIdeal.nD Cert.XGradIdeal.τ).loc Cert.XGradIdeal.main_arg7)
          ∧ r.2.mem ((c.tc : Thread Cert.XGradIdeal.nD Cert.XGradIdeal.τ).loc Cert.XGradIdeal.main_arg8) = m ((c.tc : Thread Cert.XGradIdeal.nD Cert.XGradIdeal.τ).loc Cert.XGradIdeal.main_arg8)
          ∧ r.2.mem ((c.tc : Thread Cert.XGradIdeal.nD Cert.XGradIdeal.τ).loc Cert.XGradIdeal.main_arg9) = m ((c.tc : Thread Cert.XGradIdeal.nD Cert.XGradIdeal.τ).loc Cert.XGradIdeal.main_arg9)
          ∧ r.2.mem ((c.tc : Thread Cert.XGradIdeal.nD Cert.XGradIdeal.τ).loc Cert.XGradIdeal.main_arg10) = m ((c.tc : Thread Cert.XGradIdeal.nD Cert.XGradIdeal.τ).loc Cert.XGradIdeal.main_arg10))
      ∧ θ_run (Cert.XGradRefIdeal.defs (F := Ideal)) (onTc (τ := Cert.XGradRefIdeal.τ) (Cert.XGradRefIdeal.main (F := Ideal))) ⟨m', fun _ => 0, g'⟩ (fun r => ∀ c : Dev Cert.XGradRefIdeal.nD,
          r.2.mem ((c.tc : Thread Cert.XGradRefIdeal.nD Cert.XGradRefIdeal.τ).loc Cert.XGradRefIdeal.main_v41) = v0 c
          ∧ r.2.mem ((c.tc : Thread Cert.XGradRefIdeal.nD Cert.XGradRefIdeal.τ).loc Cert.XGradRefIdeal.main_v40) = v1 c
          ∧ r.2.mem ((c.tc : Thread Cert.XGradRefIdeal.nD Cert.XGradRefIdeal.τ).loc Cert.XGradRefIdeal.main_arg0) = m' ((c.tc : Thread Cert.XGradRefIdeal.nD Cert.XGradRefIdeal.τ).loc Cert.XGradRefIdeal.main_arg0)
          ∧ r.2.mem ((c.tc : Thread Cert.XGradRefIdeal.nD Cert.XGradRefIdeal.τ).loc Cert.XGradRefIdeal.main_arg1) = m' ((c.tc : Thread Cert.XGradRefIdeal.nD Cert.XGradRefIdeal.τ).loc Cert.XGradRefIdeal.main_arg1)
          ∧ r.2.mem ((c.tc : Thread Cert.XGradRefIdeal.nD Cert.XGradRefIdeal.τ).loc Cert.XGradRefIdeal.main_arg2) = m' ((c.tc : Thread Cert.XGradRefIdeal.nD Cert.XGradRefIdeal.τ).loc Cert.XGradRefIdeal.main_arg2)
          ∧ r.2.mem ((c.tc : Thread Cert.XGradRefIdeal.nD Cert.XGradRefIdeal.τ).loc Cert.XGradRefIdeal.main_arg3) = m' ((c.tc : Thread Cert.XGradRefIdeal.nD Cert.XGradRefIdeal.τ).loc Cert.XGradRefIdeal.main_arg3)
          ∧ r.2.mem ((c.tc : Thread Cert.XGradRefIdeal.nD Cert.XGradRefIdeal.τ).loc Cert.XGradRefIdeal.main_arg4) = m' ((c.tc : Thread Cert.XGradRefIdeal.nD Cert.XGradRefIdeal.τ).loc Cert.XGradRefIdeal.main_arg4)
          ∧ r.2.mem ((c.tc : Thread Cert.XGradRefIdeal.nD Cert.XGradRefIdeal.τ).loc Cert.XGradRefIdeal.main_arg5) = m' ((c.tc : Thread Cert.XGradRefIdeal.nD Cert.XGradRefIdeal.τ).loc Cert.XGradRefIdeal.main_arg5)
          ∧ r.2.mem ((c.tc : Thread Cert.XGradRefIdeal.nD Cert.XGradRefIdeal.τ).loc Cert.XGradRefIdeal.main_arg6) = m' ((c.tc : Thread Cert.XGradRefIdeal.nD Cert.XGradRefIdeal.τ).loc Cert.XGradRefIdeal.main_arg6)
          ∧ r.2.mem ((c.tc : Thread Cert.XGradRefIdeal.nD Cert.XGradRefIdeal.τ).loc Cert.XGradRefIdeal.main_arg7) = m' ((c.tc : Thread Cert.XGradRefIdeal.nD Cert.XGradRefIdeal.τ).loc Cert.XGradRefIdeal.main_arg7)
          ∧ r.2.mem ((c.tc : Thread Cert.XGradRefIdeal.nD Cert.XGradRefIdeal.τ).loc Cert.XGradRefIdeal.main_arg8) = m' ((c.tc : Thread Cert.XGradRefIdeal.nD Cert.XGradRefIdeal.τ).loc Cert.XGradRefIdeal.main_arg8)
          ∧ r.2.mem ((c.tc : Thread Cert.XGradRefIdeal.nD Cert.XGradRefIdeal.τ).loc Cert.XGradRefIdeal.main_arg9) = m' ((c.tc : Thread Cert.XGradRefIdeal.nD Cert.XGradRefIdeal.τ).loc Cert.XGradRefIdeal.main_arg9)
          ∧ r.2.mem ((c.tc : Thread Cert.XGradRefIdeal.nD Cert.XGradRefIdeal.τ).loc Cert.XGradRefIdeal.main_arg10) = m' ((c.tc : Thread Cert.XGradRefIdeal.nD Cert.XGradRefIdeal.τ).loc Cert.XGradRefIdeal.main_arg10))

def preserves_SwaBwd_SwaBwdIdeal : Prop :=
  IdealRules.named_const.Statement Cert.SwaBwdIdeal.κ "mask" .f32 0xF149F2CA#32 ⊥

def algebraic_SwaBwdIdeal_SwaBwdRefIdeal_pre_swa_finite [hSwaBwdIdeal : Cert.SwaBwdIdeal.Facts] [hSwaBwdRefIdeal : Cert.SwaBwdRefIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_swa_finite m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)
      ∧ m' ((c.tc : Thread Cert.SwaBwdRefIdeal.nD Cert.SwaBwdRefIdeal.τ).loc Cert.SwaBwdRefIdeal.main_arg3) = m ((c.tc : Thread Cert.SwaBwdIdeal.nD Cert.SwaBwdIdeal.τ).loc Cert.SwaBwdIdeal.main_arg3)
      ∧ m' ((c.tc : Thread Cert.SwaBwdRefIdeal.nD Cert.SwaBwdRefIdeal.τ).loc Cert.SwaBwdRefIdeal.main_arg4) = m ((c.tc : Thread Cert.SwaBwdIdeal.nD Cert.SwaBwdIdeal.τ).loc Cert.SwaBwdIdeal.main_arg4)) →
    ∃ (v0 : (c : Dev Cert.SwaBwdIdeal.nD) → Buf (Elt Ideal) ((c.tc : Thread Cert.SwaBwdIdeal.nD Cert.SwaBwdIdeal.τ).loc Cert.SwaBwdIdeal.main_v14_0)) (v1 : (c : Dev Cert.SwaBwdIdeal.nD) → Buf (Elt Ideal) ((c.tc : Thread Cert.SwaBwdIdeal.nD Cert.SwaBwdIdeal.τ).loc Cert.SwaBwdIdeal.main_v17)) (v2 : (c : Dev Cert.SwaBwdIdeal.nD) → Buf (Elt Ideal) ((c.tc : Thread Cert.SwaBwdIdeal.nD Cert.SwaBwdIdeal.τ).loc Cert.SwaBwdIdeal.main_v20)) (v3 : (c : Dev Cert.SwaBwdIdeal.nD) → Buf (Elt Ideal) ((c.tc : Thread Cert.SwaBwdIdeal.nD Cert.SwaBwdIdeal.τ).loc Cert.SwaBwdIdeal.main_v22)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v14_0) = v0 c
          ∧ r.2.mem ((c.tc : Thread Cert.SwaBwdIdeal.nD Cert.SwaBwdIdeal.τ).loc Cert.SwaBwdIdeal.main_v17) = v1 c
          ∧ r.2.mem ((c.tc : Thread Cert.SwaBwdIdeal.nD Cert.SwaBwdIdeal.τ).loc Cert.SwaBwdIdeal.main_v20) = v2 c
          ∧ r.2.mem ((c.tc : Thread Cert.SwaBwdIdeal.nD Cert.SwaBwdIdeal.τ).loc Cert.SwaBwdIdeal.main_v22) = v3 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
          ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
          ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v146) = v0 c
          ∧ r.2.mem ((c.tc : Thread Cert.SwaBwdRefIdeal.nD Cert.SwaBwdRefIdeal.τ).loc Cert.SwaBwdRefIdeal.main_v144) = v1 c
          ∧ r.2.mem ((c.tc : Thread Cert.SwaBwdRefIdeal.nD Cert.SwaBwdRefIdeal.τ).loc Cert.SwaBwdRefIdeal.main_v143) = v2 c
          ∧ r.2.mem ((c.tc : Thread Cert.SwaBwdRefIdeal.nD Cert.SwaBwdRefIdeal.τ).loc Cert.SwaBwdRefIdeal.main_v122) = v3 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2)
          ∧ r.2.mem ((c.tc : Thread Cert.SwaBwdRefIdeal.nD Cert.SwaBwdRefIdeal.τ).loc Cert.SwaBwdRefIdeal.main_arg3) = m' ((c.tc : Thread Cert.SwaBwdRefIdeal.nD Cert.SwaBwdRefIdeal.τ).loc Cert.SwaBwdRefIdeal.main_arg3)
          ∧ r.2.mem ((c.tc : Thread Cert.SwaBwdRefIdeal.nD Cert.SwaBwdRefIdeal.τ).loc Cert.SwaBwdRefIdeal.main_arg4) = m' ((c.tc : Thread Cert.SwaBwdRefIdeal.nD Cert.SwaBwdRefIdeal.τ).loc Cert.SwaBwdRefIdeal.main_arg4))

def preserves_QkGrad_QkGradIdeal : Prop :=
  True

def algebraic_QkGradIdeal_QkGradRefIdeal_pre_qk_finite [hQkGradIdeal : Cert.QkGradIdeal.Facts] [hQkGradRefIdeal : Cert.QkGradRefIdeal.Facts] [hPre_qk_finite : Cert.Pre_qk_finite.Facts] : Prop :=
  ∀ (m : (ℓ : Loc Cert.QkGradIdeal.nD Cert.QkGradIdeal.τ Cert.QkGradIdeal.sig) → Buf (Elt Ideal) ℓ) (g : Dev Cert.QkGradIdeal.nD → PrngReg)
    (m' : (ℓ : Loc Cert.QkGradRefIdeal.nD Cert.QkGradRefIdeal.τ Cert.QkGradRefIdeal.sig) → Buf (Elt Ideal) ℓ) (g' : Dev Cert.QkGradRefIdeal.nD → PrngReg), Pre_QkGradIdeal_qk_finite m →
    (∀ c : Dev Cert.QkGradIdeal.nD,
      m' ((c.tc : Thread Cert.QkGradRefIdeal.nD Cert.QkGradRefIdeal.τ).loc Cert.QkGradRefIdeal.main_arg0) = m ((c.tc : Thread Cert.QkGradIdeal.nD Cert.QkGradIdeal.τ).loc Cert.QkGradIdeal.main_arg0)
      ∧ m' ((c.tc : Thread Cert.QkGradRefIdeal.nD Cert.QkGradRefIdeal.τ).loc Cert.QkGradRefIdeal.main_arg1) = m ((c.tc : Thread Cert.QkGradIdeal.nD Cert.QkGradIdeal.τ).loc Cert.QkGradIdeal.main_arg1)
      ∧ m' ((c.tc : Thread Cert.QkGradRefIdeal.nD Cert.QkGradRefIdeal.τ).loc Cert.QkGradRefIdeal.main_arg2) = m ((c.tc : Thread Cert.QkGradIdeal.nD Cert.QkGradIdeal.τ).loc Cert.QkGradIdeal.main_arg2)
      ∧ m' ((c.tc : Thread Cert.QkGradRefIdeal.nD Cert.QkGradRefIdeal.τ).loc Cert.QkGradRefIdeal.main_arg3) = m ((c.tc : Thread Cert.QkGradIdeal.nD Cert.QkGradIdeal.τ).loc Cert.QkGradIdeal.main_arg3)
      ∧ m' ((c.tc : Thread Cert.QkGradRefIdeal.nD Cert.QkGradRefIdeal.τ).loc Cert.QkGradRefIdeal.main_arg4) = m ((c.tc : Thread Cert.QkGradIdeal.nD Cert.QkGradIdeal.τ).loc Cert.QkGradIdeal.main_arg4)
      ∧ m' ((c.tc : Thread Cert.QkGradRefIdeal.nD Cert.QkGradRefIdeal.τ).loc Cert.QkGradRefIdeal.main_arg5) = m ((c.tc : Thread Cert.QkGradIdeal.nD Cert.QkGradIdeal.τ).loc Cert.QkGradIdeal.main_arg5)
      ∧ m' ((c.tc : Thread Cert.QkGradRefIdeal.nD Cert.QkGradRefIdeal.τ).loc Cert.QkGradRefIdeal.main_arg6) = m ((c.tc : Thread Cert.QkGradIdeal.nD Cert.QkGradIdeal.τ).loc Cert.QkGradIdeal.main_arg6)
      ∧ m' ((c.tc : Thread Cert.QkGradRefIdeal.nD Cert.QkGradRefIdeal.τ).loc Cert.QkGradRefIdeal.main_arg7) = m ((c.tc : Thread Cert.QkGradIdeal.nD Cert.QkGradIdeal.τ).loc Cert.QkGradIdeal.main_arg7)) →
    ∃ (v0 : (c : Dev Cert.QkGradIdeal.nD) → Buf (Elt Ideal) ((c.tc : Thread Cert.QkGradIdeal.nD Cert.QkGradIdeal.τ).loc Cert.QkGradIdeal.main_v49_0)) (v1 : (c : Dev Cert.QkGradIdeal.nD) → Buf (Elt Ideal) ((c.tc : Thread Cert.QkGradIdeal.nD Cert.QkGradIdeal.τ).loc Cert.QkGradIdeal.main_v49_1)) (v2 : (c : Dev Cert.QkGradIdeal.nD) → Buf (Elt Ideal) ((c.tc : Thread Cert.QkGradIdeal.nD Cert.QkGradIdeal.τ).loc Cert.QkGradIdeal.main_v49_2)) (v3 : (c : Dev Cert.QkGradIdeal.nD) → Buf (Elt Ideal) ((c.tc : Thread Cert.QkGradIdeal.nD Cert.QkGradIdeal.τ).loc Cert.QkGradIdeal.main_v49_3)),
      θ_run (Cert.QkGradIdeal.defs (F := Ideal)) (onTc (τ := Cert.QkGradIdeal.τ) (Cert.QkGradIdeal.main (F := Ideal))) ⟨m, fun _ => 0, g⟩ (fun r => ∀ c : Dev Cert.QkGradIdeal.nD,
          r.2.mem ((c.tc : Thread Cert.QkGradIdeal.nD Cert.QkGradIdeal.τ).loc Cert.QkGradIdeal.main_v49_0) = v0 c
          ∧ r.2.mem ((c.tc : Thread Cert.QkGradIdeal.nD Cert.QkGradIdeal.τ).loc Cert.QkGradIdeal.main_v49_1) = v1 c
          ∧ r.2.mem ((c.tc : Thread Cert.QkGradIdeal.nD Cert.QkGradIdeal.τ).loc Cert.QkGradIdeal.main_v49_2) = v2 c
          ∧ r.2.mem ((c.tc : Thread Cert.QkGradIdeal.nD Cert.QkGradIdeal.τ).loc Cert.QkGradIdeal.main_v49_3) = v3 c
          ∧ r.2.mem ((c.tc : Thread Cert.QkGradIdeal.nD Cert.QkGradIdeal.τ).loc Cert.QkGradIdeal.main_arg0) = m ((c.tc : Thread Cert.QkGradIdeal.nD Cert.QkGradIdeal.τ).loc Cert.QkGradIdeal.main_arg0)
          ∧ r.2.mem ((c.tc : Thread Cert.QkGradIdeal.nD Cert.QkGradIdeal.τ).loc Cert.QkGradIdeal.main_arg1) = m ((c.tc : Thread Cert.QkGradIdeal.nD Cert.QkGradIdeal.τ).loc Cert.QkGradIdeal.main_arg1)
          ∧ r.2.mem ((c.tc : Thread Cert.QkGradIdeal.nD Cert.QkGradIdeal.τ).loc Cert.QkGradIdeal.main_arg2) = m ((c.tc : Thread Cert.QkGradIdeal.nD Cert.QkGradIdeal.τ).loc Cert.QkGradIdeal.main_arg2)
          ∧ r.2.mem ((c.tc : Thread Cert.QkGradIdeal.nD Cert.QkGradIdeal.τ).loc Cert.QkGradIdeal.main_arg3) = m ((c.tc : Thread Cert.QkGradIdeal.nD Cert.QkGradIdeal.τ).loc Cert.QkGradIdeal.main_arg3)
          ∧ r.2.mem ((c.tc : Thread Cert.QkGradIdeal.nD Cert.QkGradIdeal.τ).loc Cert.QkGradIdeal.main_arg4) = m ((c.tc : Thread Cert.QkGradIdeal.nD Cert.QkGradIdeal.τ).loc Cert.QkGradIdeal.main_arg4)
          ∧ r.2.mem ((c.tc : Thread Cert.QkGradIdeal.nD Cert.QkGradIdeal.τ).loc Cert.QkGradIdeal.main_arg5) = m ((c.tc : Thread Cert.QkGradIdeal.nD Cert.QkGradIdeal.τ).loc Cert.QkGradIdeal.main_arg5)
          ∧ r.2.mem ((c.tc : Thread Cert.QkGradIdeal.nD Cert.QkGradIdeal.τ).loc Cert.QkGradIdeal.main_arg6) = m ((c.tc : Thread Cert.QkGradIdeal.nD Cert.QkGradIdeal.τ).loc Cert.QkGradIdeal.main_arg6)
          ∧ r.2.mem ((c.tc : Thread Cert.QkGradIdeal.nD Cert.QkGradIdeal.τ).loc Cert.QkGradIdeal.main_arg7) = m ((c.tc : Thread Cert.QkGradIdeal.nD Cert.QkGradIdeal.τ).loc Cert.QkGradIdeal.main_arg7))
      ∧ θ_run (Cert.QkGradRefIdeal.defs (F := Ideal)) (onTc (τ := Cert.QkGradRefIdeal.τ) (Cert.QkGradRefIdeal.main (F := Ideal))) ⟨m', fun _ => 0, g'⟩ (fun r => ∀ c : Dev Cert.QkGradRefIdeal.nD,
          r.2.mem ((c.tc : Thread Cert.QkGradRefIdeal.nD Cert.QkGradRefIdeal.τ).loc Cert.QkGradRefIdeal.main_v174) = v0 c
          ∧ r.2.mem ((c.tc : Thread Cert.QkGradRefIdeal.nD Cert.QkGradRefIdeal.τ).loc Cert.QkGradRefIdeal.main_v175) = v1 c
          ∧ r.2.mem ((c.tc : Thread Cert.QkGradRefIdeal.nD Cert.QkGradRefIdeal.τ).loc Cert.QkGradRefIdeal.main_v176) = v2 c
          ∧ r.2.mem ((c.tc : Thread Cert.QkGradRefIdeal.nD Cert.QkGradRefIdeal.τ).loc Cert.QkGradRefIdeal.main_v177) = v3 c
          ∧ r.2.mem ((c.tc : Thread Cert.QkGradRefIdeal.nD Cert.QkGradRefIdeal.τ).loc Cert.QkGradRefIdeal.main_arg0) = m' ((c.tc : Thread Cert.QkGradRefIdeal.nD Cert.QkGradRefIdeal.τ).loc Cert.QkGradRefIdeal.main_arg0)
          ∧ r.2.mem ((c.tc : Thread Cert.QkGradRefIdeal.nD Cert.QkGradRefIdeal.τ).loc Cert.QkGradRefIdeal.main_arg1) = m' ((c.tc : Thread Cert.QkGradRefIdeal.nD Cert.QkGradRefIdeal.τ).loc Cert.QkGradRefIdeal.main_arg1)
          ∧ r.2.mem ((c.tc : Thread Cert.QkGradRefIdeal.nD Cert.QkGradRefIdeal.τ).loc Cert.QkGradRefIdeal.main_arg2) = m' ((c.tc : Thread Cert.QkGradRefIdeal.nD Cert.QkGradRefIdeal.τ).loc Cert.QkGradRefIdeal.main_arg2)
          ∧ r.2.mem ((c.tc : Thread Cert.QkGradRefIdeal.nD Cert.QkGradRefIdeal.τ).loc Cert.QkGradRefIdeal.main_arg3) = m' ((c.tc : Thread Cert.QkGradRefIdeal.nD Cert.QkGradRefIdeal.τ).loc Cert.QkGradRefIdeal.main_arg3)
          ∧ r.2.mem ((c.tc : Thread Cert.QkGradRefIdeal.nD Cert.QkGradRefIdeal.τ).loc Cert.QkGradRefIdeal.main_arg4) = m' ((c.tc : Thread Cert.QkGradRefIdeal.nD Cert.QkGradRefIdeal.τ).loc Cert.QkGradRefIdeal.main_arg4)
          ∧ r.2.mem ((c.tc : Thread Cert.QkGradRefIdeal.nD Cert.QkGradRefIdeal.τ).loc Cert.QkGradRefIdeal.main_arg5) = m' ((c.tc : Thread Cert.QkGradRefIdeal.nD Cert.QkGradRefIdeal.τ).loc Cert.QkGradRefIdeal.main_arg5)
          ∧ r.2.mem ((c.tc : Thread Cert.QkGradRefIdeal.nD Cert.QkGradRefIdeal.τ).loc Cert.QkGradRefIdeal.main_arg6) = m' ((c.tc : Thread Cert.QkGradRefIdeal.nD Cert.QkGradRefIdeal.τ).loc Cert.QkGradRefIdeal.main_arg6)
          ∧ r.2.mem ((c.tc : Thread Cert.QkGradRefIdeal.nD Cert.QkGradRefIdeal.τ).loc Cert.QkGradRefIdeal.main_arg7) = m' ((c.tc : Thread Cert.QkGradRefIdeal.nD Cert.QkGradRefIdeal.τ).loc Cert.QkGradRefIdeal.main_arg7))

def preserves_SwaFwd_SwaFwdIdeal : Prop :=
  IdealRules.named_const.Statement Cert.SwaFwdIdeal.κ "mask" .f32 0xF149F2CA#32 ⊥

def algebraic_SwaFwdIdeal_SwaFwdRefIdeal_pre_swa_fwd_finite [hSwaFwdIdeal : Cert.SwaFwdIdeal.Facts] [hSwaFwdRefIdeal : Cert.SwaFwdRefIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swa_fwd_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)) →
    ∃ (v0 : (c : Dev Cert.SwaFwdIdeal.nD) → Buf (Elt Ideal) ((c.tc : Thread Cert.SwaFwdIdeal.nD Cert.SwaFwdIdeal.τ).loc Cert.SwaFwdIdeal.main_v12)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v12) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v59) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3))

def Claim : Prop :=
  ∃ (hOutProj : Cert.OutProj.Facts) (hOutProjIdeal : Cert.OutProjIdeal.Facts) (hOutProjRefIdeal : Cert.OutProjRefIdeal.Facts) (hSbBwd : Cert.SbBwd.Facts) (hSbBwdIdeal : Cert.SbBwdIdeal.Facts) (hSbBwdRefIdeal : Cert.SbBwdRefIdeal.Facts) (hXGrad : Cert.XGrad.Facts) (hXGradIdeal : Cert.XGradIdeal.Facts) (hXGradRefIdeal : Cert.XGradRefIdeal.Facts) (hSwaBwd : Cert.SwaBwd.Facts) (hSwaBwdIdeal : Cert.SwaBwdIdeal.Facts) (hSwaBwdRefIdeal : Cert.SwaBwdRefIdeal.Facts) (hQkGrad : Cert.QkGrad.Facts) (hQkGradIdeal : Cert.QkGradIdeal.Facts) (hQkGradRefIdeal : Cert.QkGradRefIdeal.Facts) (hSwaFwd : Cert.SwaFwd.Facts) (hSwaFwdIdeal : Cert.SwaFwdIdeal.Facts) (hSwaFwdRefIdeal : Cert.SwaFwdRefIdeal.Facts) (hPre_finite : Cert.Pre_finite.Facts) (hPre_sb_finite : Cert.Pre_sb_finite.Facts) (hPre_x_finite : Cert.Pre_x_finite.Facts) (hPre_swa_finite : Cert.Pre_swa_finite.Facts) (hPre_qk_finite : Cert.Pre_qk_finite.Facts) (hPre_swa_fwd_finite : Cert.Pre_swa_fwd_finite.Facts),
    quiescent_OutProj (hOutProj := hOutProj)
    ∧ quiescent_OutProjIdeal (hOutProjIdeal := hOutProjIdeal)
    ∧ quiescent_OutProjIdeal_pre_finite (hOutProjIdeal := hOutProjIdeal) (hPre_finite := hPre_finite)
    ∧ quiescent_OutProjRefIdeal (hOutProjRefIdeal := hOutProjRefIdeal)
    ∧ quiescent_OutProjRefIdeal_pre_finite (hOutProjRefIdeal := hOutProjRefIdeal) (hPre_finite := hPre_finite)
    ∧ quiescent_SbBwd (hSbBwd := hSbBwd)
    ∧ quiescent_SbBwdIdeal (hSbBwdIdeal := hSbBwdIdeal)
    ∧ quiescent_SbBwdIdeal_pre_sb_finite (hSbBwdIdeal := hSbBwdIdeal) (hPre_sb_finite := hPre_sb_finite)
    ∧ quiescent_SbBwdRefIdeal (hSbBwdRefIdeal := hSbBwdRefIdeal)
    ∧ quiescent_SbBwdRefIdeal_pre_sb_finite (hSbBwdRefIdeal := hSbBwdRefIdeal) (hPre_sb_finite := hPre_sb_finite)
    ∧ quiescent_XGrad (hXGrad := hXGrad)
    ∧ quiescent_XGradIdeal (hXGradIdeal := hXGradIdeal)
    ∧ quiescent_XGradIdeal_pre_x_finite (hXGradIdeal := hXGradIdeal) (hPre_x_finite := hPre_x_finite)
    ∧ quiescent_XGradRefIdeal (hXGradRefIdeal := hXGradRefIdeal)
    ∧ quiescent_XGradRefIdeal_pre_x_finite (hXGradRefIdeal := hXGradRefIdeal) (hPre_x_finite := hPre_x_finite)
    ∧ quiescent_SwaBwd (hSwaBwd := hSwaBwd)
    ∧ quiescent_SwaBwdIdeal (hSwaBwdIdeal := hSwaBwdIdeal)
    ∧ quiescent_SwaBwdIdeal_pre_swa_finite (hSwaBwdIdeal := hSwaBwdIdeal) (hPre_swa_finite := hPre_swa_finite)
    ∧ quiescent_SwaBwdRefIdeal (hSwaBwdRefIdeal := hSwaBwdRefIdeal)
    ∧ quiescent_SwaBwdRefIdeal_pre_swa_finite (hSwaBwdRefIdeal := hSwaBwdRefIdeal) (hPre_swa_finite := hPre_swa_finite)
    ∧ quiescent_QkGrad (hQkGrad := hQkGrad)
    ∧ quiescent_QkGradIdeal (hQkGradIdeal := hQkGradIdeal)
    ∧ quiescent_QkGradIdeal_pre_qk_finite (hQkGradIdeal := hQkGradIdeal) (hPre_qk_finite := hPre_qk_finite)
    ∧ quiescent_QkGradRefIdeal (hQkGradRefIdeal := hQkGradRefIdeal)
    ∧ quiescent_QkGradRefIdeal_pre_qk_finite (hQkGradRefIdeal := hQkGradRefIdeal) (hPre_qk_finite := hPre_qk_finite)
    ∧ quiescent_SwaFwd (hSwaFwd := hSwaFwd)
    ∧ quiescent_SwaFwdIdeal (hSwaFwdIdeal := hSwaFwdIdeal)
    ∧ quiescent_SwaFwdIdeal_pre_swa_fwd_finite (hSwaFwdIdeal := hSwaFwdIdeal) (hPre_swa_fwd_finite := hPre_swa_fwd_finite)
    ∧ quiescent_SwaFwdRefIdeal (hSwaFwdRefIdeal := hSwaFwdRefIdeal)
    ∧ quiescent_SwaFwdRefIdeal_pre_swa_fwd_finite (hSwaFwdRefIdeal := hSwaFwdRefIdeal) (hPre_swa_fwd_finite := hPre_swa_fwd_finite)
    ∧ preserves_OutProj_OutProjIdeal
    ∧ algebraic_OutProjIdeal_OutProjRefIdeal_pre_finite (hOutProjIdeal := hOutProjIdeal) (hOutProjRefIdeal := hOutProjRefIdeal) (hPre_finite := hPre_finite)
    ∧ preserves_SbBwd_SbBwdIdeal
    ∧ algebraic_SbBwdIdeal_SbBwdRefIdeal_pre_sb_finite (hSbBwdIdeal := hSbBwdIdeal) (hSbBwdRefIdeal := hSbBwdRefIdeal) (hPre_sb_finite := hPre_sb_finite)
    ∧ preserves_XGrad_XGradIdeal
    ∧ algebraic_XGradIdeal_XGradRefIdeal_pre_x_finite (hXGradIdeal := hXGradIdeal) (hXGradRefIdeal := hXGradRefIdeal) (hPre_x_finite := hPre_x_finite)
    ∧ preserves_SwaBwd_SwaBwdIdeal
    ∧ algebraic_SwaBwdIdeal_SwaBwdRefIdeal_pre_swa_finite (hSwaBwdIdeal := hSwaBwdIdeal) (hSwaBwdRefIdeal := hSwaBwdRefIdeal) (hPre_swa_finite := hPre_swa_finite)
    ∧ preserves_QkGrad_QkGradIdeal
    ∧ algebraic_QkGradIdeal_QkGradRefIdeal_pre_qk_finite (hQkGradIdeal := hQkGradIdeal) (hQkGradRefIdeal := hQkGradRefIdeal) (hPre_qk_finite := hPre_qk_finite)
    ∧ preserves_SwaFwd_SwaFwdIdeal
    ∧ algebraic_SwaFwdIdeal_SwaFwdRefIdeal_pre_swa_fwd_finite (hSwaFwdIdeal := hSwaFwdIdeal) (hSwaFwdRefIdeal := hSwaFwdRefIdeal) (hPre_swa_fwd_finite := hPre_swa_fwd_finite)
-- ==== Pre_finite.lean ====
abbrev S4096x512 : Shape := ⟨2, ![4096, 512]⟩
abbrev S4096x1024 : Shape := ⟨2, ![4096, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S4096x1024 .f32) (main_arg5 : FVec F S1024x1024 .f32) (main_arg6 : FVec F S4096x1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x1024 .f32) (main_arg5 : FVec F S1024x1024 .f32) (main_arg6 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Pre_qk_finite.lean ====
abbrev S2x2048x8x64 : Shape := ⟨4, ![2, 2048, 8, 64]⟩
abbrev S2x2048x2x64 : Shape := ⟨4, ![2, 2048, 2, 64]⟩
abbrev S2x2048x2x2x64 : Shape := ⟨5, ![2, 2048, 2, 2, 64]⟩
abbrev S64 : Shape := ⟨1, ![64]⟩
abbrev S2x2048 : Shape := ⟨2, ![2, 2048]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S2x2048x2x2x64 : S_.BroadcastsInDim S2x2048x2x2x64 (![] : Fin 0 → Fin S2x2048x2x2x64.rank)
  reducesTo_S2x2048x2x2x64_S_d0_1_2_3_4 : S2x2048x2x2x64.ReducesTo [0, 1, 2, 3, 4] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S2x2048x2x2x64 .f32) (main_arg5 : FVec F S64 .f32) (main_arg6 : FVec F S64 .f32) (main_v13 : IVec S_ 1) (main_v16 : IVec S2x2048x2x2x64 1) : IVec S_ 1 :=
  let main_c_5 : IVec S_ 1 := constantI S_ 1 1#1
  let main_v17 : IVec S_ 1 := (fun x v => Host.reduce IntOp.andi x v reducesTo_S2x2048x2x2x64_S_d0_1_2_3_4 h_S_) main_v16 main_c_5
  let main_v18 : IVec S_ 1 := andi main_v13 main_v17
  let main_v19 : FVec F S2x2048x2x2x64 .f32 := Host.absf main_arg4
  let main_cst_6 : FVec F S_ .f32 := constant S_ .f32 0x7F800000#32
  let main_v20 : FVec F S2x2048x2x2x64 .f32 := broadcastInDim S2x2048x2x2x64 ![] bcast_S_S2x2048x2x2x64 main_cst_6
  let main_v21 : IVec S2x2048x2x2x64 1 := cmpf .olt main_v19 main_v20
  let main_c_7 : IVec S_ 1 := constantI S_ 1 1#1
  let main_v22 : IVec S_ 1 := (fun x v => Host.reduce IntOp.andi x v reducesTo_S2x2048x2x2x64_S_d0_1_2_3_4 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S2x2048x8x64 .f32) (main_arg1 : FVec F S2x2048x2x64 .f32) (main_arg2 : FVec F S2x2048x8x64 .f32) (main_arg3 : FVec F S2x2048x2x2x64 .f32) (main_arg4 : FVec F S2x2048x2x2x64 .f32) (main_arg5 : FVec F S64 .f32) (main_arg6 : FVec F S64 .f32) (main_arg7 : IVec S2x2048 32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x2x2x64 .f32 := Host.absf main_arg3
  let main_cst_4 : FVec F S_ .f32 := constant S_ .f32 0x7F800000#32
  let main_v15 : FVec F S2x2048x2x2x64 .f32 := broadcastInDim S2x2048x2x2x64 ![] bcast_S_S2x2048x2x2x64 main_cst_4
  let main_v16 : IVec S2x2048x2x2x64 1 := cmpf .olt main_v14 main_v15
  fn_part1 (F := F) main_arg4 main_arg5 main_arg6 main_v13 main_v16
-- ==== Pre_sb_finite.lean ====
abbrev S2x2048x8x64 : Shape := ⟨4, ![2, 2048, 8, 64]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x8x64 .f32) (main_arg1 : FVec F S2x2048x8x64 .f32) (main_arg2 : FVec F S2x2048x8x64 .f32) (main_arg3 : FVec F S2x2048x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Pre_swa_finite.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S8 : S_.BroadcastsInDim S8 (![] : Fin 0 → Fin S8.rank)
  reducesTo_S8_S_d0 : S8.ReducesTo [0] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_arg4 : FVec F S2x2048x512 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  main_v23

def fn {F : FTy → Type} [FloatOps F] (main_arg0 : FVec F S2x2048x8x64 .f32) (main_arg1 : FVec F S2x2048x2x64 .f32) (main_arg2 : FVec F S2x2048x2x64 .f32) (main_arg3 : FVec F S8 .f32) (main_arg4 : FVec F S2x2048x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  let main_v9 : FVec F S2x2048x2x64 .f32 := Host.absf main_arg2
  let main_cst_2 : FVec F S_ .f32 := constant S_ .f32 0x7F800000#32
  let main_v10 : FVec F S2x2048x2x64 .f32 := broadcastInDim S2x2048x2x64 ![] bcast_S_S2x2048x2x64 main_cst_2
  let main_v11 : IVec S2x2048x2x64 1 := cmpf .olt main_v9 main_v10
  let main_c_3 : IVec S_ 1 := constantI S_ 1 1#1
  let main_v12 : IVec S_ 1 := (fun x v => Host.reduce IntOp.andi x v reducesTo_S2x2048x2x64_S_d0_1_2_3 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Pre_swa_fwd_finite.lean ====
abbrev S2x2048x8x64 : Shape := ⟨4, ![2, 2048, 8, 64]⟩
abbrev S2x2048x2x64 : Shape := ⟨4, ![2, 2048, 2, 64]⟩
abbrev S8 : Shape := ⟨1, ![8]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S2x2048x8x64 .f32) (main_arg1 : FVec F S2x2048x2x64 .f32) (main_arg2 : FVec F S2x2048x2x64 .f32) (main_arg3 : FVec F S8 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x2x64 .f32 := Host.absf main_arg1
  let main_cst_0 : FVec F S_ .f32 := constant S_ .f32 0x7F800000#32
  let main_v5 : FVec F S2x2048x2x64 .f32 := broadcastInDim S2x2048x2x64 ![] bcast_S_S2x2048x2x64 main_cst_0
  let main_v6 : IVec S2x2048x2x64 1 := cmpf .olt main_v4 main_v5
  let main_c_1 : IVec S_ 1 := constantI S_ 1 1#1
  let main_v7 : IVec S_ 1 := (fun x v => Host.reduce IntOp.andi x v reducesTo_S2x2048x2x64_S_d0_1_2_3 h_S_) main_v6 main_c_1
  let main_v8 : IVec S_ 1 := andi main_v3 main_v7
  let main_v9 : FVec F S2x2048x2x64 .f32 := Host.absf main_arg2
  let main_cst_2 : FVec F S_ .f32 := constant S_ .f32 0x7F800000#32
  let main_v10 : FVec F S2x2048x2x64 .f32 := broadcastInDim S2x2048x2x64 ![] bcast_S_S2x2048x2x64 main_cst_2
  let main_v11 : IVec S2x2048x2x64 1 := cmpf .olt main_v9 main_v10
  let main_c_3 : IVec S_ 1 := constantI S_ 1 1#1
  let main_v12 : IVec S_ 1 := (fun x v => Host.reduce IntOp.andi x v reducesTo_S2x2048x2x64_S_d0_1_2_3 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_x_finite.lean ====
abbrev S4096x1024 : Shape := ⟨2, ![4096, 1024]⟩
abbrev S4096x512 : Shape := ⟨2, ![4096, 512]⟩
abbrev S4096x256 : Shape := ⟨2, ![4096, 256]⟩
abbrev S1024x3328 : Shape := ⟨2, ![1024, 3328]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S1024x3328 : S_.BroadcastsInDim S1024x3328 (![] : Fin 0 → Fin S1024x3328.rank)
  reducesTo_S1024x3328_S_d0_1 : S1024x3328.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S4096x512 .f32) (main_arg8 : FVec F S4096x512 .f32) (main_arg9 : FVec F S1024x3328 .f32) (main_arg10 : FVec F S1x1024 .f32) (main_v33 : IVec S_ 1) : IVec S_ 1 :=
  let main_v34 : FVec F S4096x512 .f32 := Host.absf main_arg7
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  let main_v39 : FVec F S4096x512 .f32 := Host.absf main_arg8
  let main_cst_14 : FVec F S_ .f32 := constant S_ .f32 0x7F800000#32
  let main_v40 : FVec F S4096x512 .f32 := broadcastInDim S4096x512 ![] bcast_S_S4096x512 main_cst_14
  let main_v41 : IVec S4096x512 1 := cmpf .olt main_v39 main_v40
  let main_c_15 : IVec S_ 1 := constantI S_ 1 1#1
  let main_v42 : IVec S_ 1 := (fun x v => Host.reduce IntOp.andi x v reducesTo_S4096x512_S_d0_1 h_S_) main_v41 main_c_15
  let main_v43 : IVec S_ 1 := andi main_v38 main_v42
  let main_v44 : FVec F S1024x3328 .f32 := Host.absf main_arg9
  let main_cst_16 : FVec F S_ .f32 := constant S_ .f32 0x7F800000#32
  let main_v45 : FVec F S1024x3328 .f32 := broadcastInDim S1024x3328 ![] bcast_S_S1024x3328 main_cst_16
  let main_v46 : IVec S1024x3328 1 := cmpf .olt main_v44 main_v45
  let main_c_17 : IVec S_ 1 := constantI S_ 1 1#1
  let main_v47 : IVec S_ 1 := (fun x v => Host.reduce IntOp.andi x v reducesTo_S1024x3328_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S4096x512 .f32) (main_arg5 : FVec F S4096x512 .f32) (main_arg6 : FVec F S4096x512 .f32) (main_arg7 : FVec F S4096x512 .f32) (main_arg8 : FVec F S4096x512 .f32) (main_arg9 : FVec F S1024x3328 .f32) (main_arg10 : FVec F S1x1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x512 .f32) (main_arg3 : FVec F S4096x256 .f32) (main_arg4 : FVec F S4096x512 .f32) (main_arg5 : FVec F S4096x512 .f32) (main_arg6 : FVec F S4096x512 .f32) (main_arg7 : FVec F S4096x512 .f32) (main_arg8 : FVec F S4096x512 .f32) (main_arg9 : FVec F S1024x3328 .f32) (main_arg10 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_v13 main_v16
-- ==== OutProj.lean ====
abbrev S4096x512 : Shape := ⟨2, ![4096, 512]⟩
abbrev S4096x1024 : Shape := ⟨2, ![4096, 1024]⟩
abbrev S1024x1024 : Shape := ⟨2, ![1024, 1024]⟩
abbrev S8x128 : Shape := ⟨2, ![8, 128]⟩
abbrev S512x512 : Shape := ⟨2, ![512, 512]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 17
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x512, .bf16⟩
  | .hbm, ⟨8, _⟩ => ⟨S4096x512, .bf16⟩
  | .hbm, ⟨9, _⟩ => ⟨S1024x1024, .bf16⟩
  | .hbm, ⟨10, _⟩ => ⟨S4096x1024, .f32⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S1024x1024, .f32⟩
  | .hbm, ⟨16, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S1024x1024, .f32⟩
  | .local _ .vmem, ⟨24, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutProjRefIdeal.lean ====
abbrev S4096x512 : Shape := ⟨2, ![4096, 512]⟩
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S1024x1024, .f32⟩
  | .hbm, ⟨62, _⟩ => ⟨S1024x1024, .f32⟩
  | .hbm, ⟨63, _⟩ => ⟨S4096x1024, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .bf16⟩
  | .hbm, ⟨79, _⟩ => ⟨S4096x512, .bf16⟩
  | .hbm, ⟨80, _⟩ => ⟨S4096x512, .bf16⟩
  | .hbm, ⟨81, _⟩ => ⟨S4096x512, .bf16⟩
  | .hbm, ⟨82, _⟩ => ⟨S8x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v2_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v2_1 : Ref sig .tc := ⟨.hbm, 32, rfl⟩
abbrev main_v2_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_cst_5 : Ref sig .tc := ⟨.hbm, 53, rfl⟩
abbrev main_v16 : Ref sig .tc := ⟨.hbm, 54, rfl⟩
abbrev main_v17 : Ref sig .tc := ⟨.hbm, 55, rfl⟩
abbrev main_cst_6 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩

abbrev nD : Nat := 1
abbrev τ : Topo := Topo.v7x

variable {F : FTy → Type} [FloatOps F]
-- ==== SbBwd.lean ====
abbrev S2x2048x8x64 : Shape := ⟨4, ![2, 2048, 8, 64]⟩
abbrev S2x2048x512 : Shape := ⟨3, ![2, 2048, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4096x512 : Shape := ⟨2, ![4096, 512]⟩
abbrev S2x4x2x4x512x8x256 : Shape := ⟨7, ![2, 4, 2, 4, 512, 8, 256]⟩
abbrev S2x4x8x4x512x2x256 : Shape := ⟨7, ![2, 4, 8, 4, 512, 2, 256]⟩
abbrev S64x4x512x512 : Shape := ⟨4, ![64, 4, 512, 512]⟩
abbrev S512x512 : Shape := ⟨2, ![512, 512]⟩
abbrev S2048x512 : Shape := ⟨2, ![2048, 512]⟩
abbrev S2x4x512x512 : Shape := ⟨4, ![2, 4, 512, 512]⟩
abbrev S2x2 : Shape := ⟨2, ![2, 2]⟩
abbrev S256x128 : Shape := ⟨2, ![256, 128]⟩
abbrev S1x1 : Shape := ⟨2, ![1, 1]⟩
abbrev S1x4x512x512 : Shape := ⟨4, ![1, 4, 512, 512]⟩
abbrev S4x512x512 : Shape := ⟨3, ![4, 512, 512]⟩
abbrev S512x1 : Shape := ⟨2, ![512, 1]⟩
abbrev S512x128 : Shape := ⟨2, ![512, 128]⟩
abbrev S1x1x512x512 : Shape := ⟨4, ![1, 1, 512, 512]⟩
abbrev S512x256 : Shape := ⟨2, ![512, 256]⟩
abbrev S512 : Shape := ⟨1, ![512]⟩
abbrev S256x512 : Shape := ⟨2, ![256, 512]⟩
abbrev S1x1x256x512 : Shape := ⟨4, ![1, 1, 256, 512]⟩

abbrev nBuf : Space → Nat
  | .hbm => 98
  | .vmem => 17
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x512, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S2x8x2048x2048, .f32⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .i1⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S_, .f32⟩
  | .hbm, ⟨46, _⟩ => ⟨S2x8x2048x2048, .i1⟩
  | .hbm, ⟨47, _⟩ => ⟨S2x8x2048x2048, .f32⟩
  | .hbm, ⟨48, _⟩ => ⟨S2x8x2048x2048, .f32⟩
  | .hbm, ⟨49, _⟩ => ⟨S_, .f32⟩
  | .hbm, ⟨50, _⟩ => ⟨S_, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .i1⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S_, .f32⟩
  | .hbm, ⟨72, _⟩ => ⟨S_, .f32⟩
  | .hbm, ⟨73, _⟩ => ⟨S2x8x2048x2048, .i1⟩
  | .hbm, ⟨74, _⟩ => ⟨S2x8x2048x2048, .f32⟩
  | .hbm, ⟨75, _⟩ => ⟨S2x8x2048x2048, .f32⟩
  | .hbm, ⟨76, _⟩ => ⟨S_, .f32⟩
  | .hbm, ⟨77, _⟩ => ⟨S2x2048x8x64, .f32⟩
  | .hbm, ⟨78, _⟩ => ⟨S2x2048x8x64, .f32⟩
  | .hbm, ⟨79, _⟩ => ⟨S4096x512, .f32⟩
  | .hbm, ⟨80, _⟩ => ⟨S4096x512, .bf16⟩
  | .hbm, ⟨81, _⟩ => ⟨S4096x512, .f32⟩
  | .hbm, ⟨82, _⟩ => ⟨S4096x512, .bf16⟩
  | .hbm, ⟨83, _⟩ => ⟨S4096x512, .f32⟩
  | .hbm, ⟨84, _⟩ => ⟨S4096x512, .bf16⟩
  | .hbm, ⟨85, _⟩ => ⟨S4096x512, .f32⟩
  | .hbm, ⟨86, _⟩ => ⟨S4096x512, .bf16⟩
  | .hbm, ⟨87, _⟩ => ⟨S2x4x2x4x512x8x256, .f32⟩
  | .hbm, ⟨88, _⟩ => ⟨S2x4x8x4x512x2x256, .f32⟩
  | .hbm, ⟨89, _⟩ => ⟨S64x4x512x512, .f32⟩
  | .hbm, ⟨90, _⟩ => ⟨S64x4x512x512, .bf16⟩
  | .hbm, ⟨91, _⟩ => ⟨S2x4x2x4x512x8x256, .f32⟩
  | .hbm, ⟨92, _⟩ => ⟨S2x4x8x4x512x2x256, .f32⟩
  | .hbm, ⟨93, _⟩ => ⟨S64x4x512x512, .f32⟩
  | .hbm, ⟨94, _⟩ => ⟨S64x4x512x512, .bf16⟩
  | .hbm, ⟨95, _⟩ => ⟨S4096x512, .f32⟩
  | .hbm, ⟨96, _⟩ => ⟨S4096x512, .f32⟩
  | .hbm, ⟨97, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S256x256, .bf16⟩
  | .local _ .vmem, ⟨9, _⟩ => ⟨S512x512, .f32⟩
  | .local _ .vmem, ⟨10, _⟩ => ⟨S512x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2x4x512x512, .bf16⟩
  | .local _ .vmem, ⟨16, _⟩ => ⟨S2x4x512x512, .bf16⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v19 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v20 : Ref sig .tc := ⟨.hbm, 48, rfl⟩
abbrev main_call3_cst : Ref sig .tc := ⟨.hbm, 49, rfl⟩
abbrev main_call3_v0 : Ref sig .tc := ⟨.hbm, 50, rfl⟩
abbrev main_v21 : Ref sig .tc := ⟨.hbm, 51, rfl⟩
abbrev main_v22 : Ref sig .tc := ⟨.hbm, 52, rfl⟩
abbrev main_call4_v0 : Ref sig .tc := ⟨.hbm, 53, rfl⟩
abbrev main_call4_call0_cst : Ref sig .tc := ⟨.hbm, 54, rfl⟩
abbrev main_call4_call0_v0 : Ref sig .tc := ⟨.hbm, 55, rfl⟩
abbrev main_call4_call0_v1 : Ref sig .tc := ⟨.hbm, 56, rfl⟩
abbrev main_call4_call0_v2 : Ref sig .tc := ⟨.hbm, 57, rfl⟩
abbrev main_call4_call0_v3 : Ref sig .tc := ⟨.hbm, 58, rfl⟩
abbrev main_call4_call0_v4 : Ref sig .tc := ⟨.hbm, 59, rfl⟩
abbrev main_call4_call0_v5 : Ref sig .tc := ⟨.hbm, 60, rfl⟩
abbrev main_call4_call0_v6 : Ref sig .tc := ⟨.hbm, 61, rfl⟩
abbrev main_call4_call0_v7 : Ref sig .tc := ⟨.hbm, 62, rfl⟩
abbrev main_call4_call0_v8 : Ref sig .tc := ⟨.hbm, 63, rfl⟩
abbrev main_call4_call0_v9 : Ref sig .tc := ⟨.hbm, 64, rfl⟩
abbrev main_call4_call0_v10 : Ref sig .tc := ⟨.hbm, 65, rfl⟩
abbrev main_call4_call0_v11 : Ref sig .tc := ⟨.hbm, 66, rfl⟩
abbrev main_call4_v1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_3 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45_0 : Ref sig .tc := ⟨.hbm, 95, rfl⟩
abbrev main_v45_1 : Ref sig .tc := ⟨.hbm, 96, rfl⟩
abbrev main_v45_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 1, 4], ![false, false, false]⟩

def k0_off1 (i : grid0.Coords) : Fin 4 → Nat :=
  let arg0 : BitVec 32 := BitVec.ofNat 32 (i 0).val
  let c4_i32 : BitVec 32 := 4#32
  let v20 : BitVec 32 := Scalar.muli arg0 c4_i32
  let arg2 : BitVec 32 := BitVec.ofNat 32 (i 2).val
  let v21 : BitVec 32 := Scalar.addi v20 arg2
  let c8_i32 : BitVec 32 := 8#32
  let v22 : BitVec 32 := Scalar.muli v21 c8_i32
  let c0_i32_7 : BitVec 32 := 0#32
  let v23 : BitVec 32 := Scalar.addi v22 c0_i32_7
  let c0_i32_14 : BitVec 32 := 0#32
  let c0_i32_15 : BitVec 32 := 0#32
  let c0_i32_16 : BitVec 32 := 0#32
  ![v23.toNat, 0, 0, 0]
@[reducible] def k0_t1_loop (i : grid0.Coords) : Scf.Loop 32 :=
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_29 : BitVec 32 := 1#32
  ⟨c0_i32_27, v42, c1_i32_29⟩
def k0_off2 (i : grid0.Coords) (k0_t1 : Fin (k0_t1_loop i).trips) : Fin 4 → Nat :=
  let arg0 : BitVec 32 := BitVec.ofNat 32 (i 0).val
  let c4_i32_339 : BitVec 32 := 4#32
  let v740 : BitVec 32 := Scalar.muli arg0 c4_i32_339
  let arg2 : BitVec 32 := BitVec.ofNat 32 (i 2).val
  let v741 : BitVec 32 := Scalar.addi v740 arg2
  let c8_i32_340 : BitVec 32 := 8#32
  let v742 : BitVec 32 := Scalar.muli v741 c8_i32_340
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c1_i32_338 : BitVec 32 := 1#32
  let v739 : BitVec 32 := Scalar.addi v738 c1_i32_338
  let v743 : BitVec 32 := Scalar.addi v742 v739
  let c0_i32_347 : BitVec 32 := 0#32
  let c0_i32_348 : BitVec 32 := 0#32
  let c0_i32_349 : BitVec 32 := 0#32
  ![v743.toNat, 0, 0, 0]
def k0_off3 (i : grid0.Coords) (k0_t1 : Fin (k0_t1_loop i).trips) : Fin 4 → Nat :=
  let arg0 : BitVec 32 := BitVec.ofNat 32 (i 0).val
  let c4_i32_359 : BitVec 32 := 4#32
  let v756 : BitVec 32 := Scalar.muli arg0 c4_i32_359
  let arg2 : BitVec 32 := BitVec.ofNat 32 (i 2).val
  let v757 : BitVec 32 := Scalar.addi v756 arg2
  let c8_i32_360 : BitVec 32 := 8#32
  let v758 : BitVec 32 := Scalar.muli v757 c8_i32_360
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let v759 : BitVec 32 := Scalar.addi v758 v738
  let c0_i32_367 : BitVec 32 := 0#32
  let c0_i32_368 : BitVec 32 := 0#32
  let c0_i32_369 : BitVec 32 := 0#32
  ![v759.toNat, 0, 0, 0]
def k0_mult1 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_383 : BitVec 32 := 256#32
  let v776 : BitVec 32 := Scalar.muli v738 c256_i32_383
  v776
def k0_off4 (i : grid0.Coords) (k0_t1 : Fin (k0_t1_loop i).trips) : Fin 2 → Nat :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_383 : BitVec 32 := 256#32
  let v776 : BitVec 32 := Scalar.muli v738 c256_i32_383
  let v777 : BitVec 32 := v776
  let v778 : Index := Scalar.indexCast v777
  let c0_384 : Index := 0#32
  ![v778.toNat, 0]
def k0_mult2 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_385 : BitVec 32 := 256#32
  let v784 : BitVec 32 := Scalar.muli v738 c256_i32_385
  v784
def k0_mult3 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_400 : BitVec 32 := 256#32
  let v819 : BitVec 32 := Scalar.muli v738 c256_i32_400
  v819
def k0_mult4 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_412 : BitVec 32 := 256#32
  let v853 : BitVec 32 := Scalar.muli v738 c256_i32_412
  v853
def k0_off5 (i : grid0.Coords) (k0_t1 : Fin (k0_t1_loop i).trips) : Fin 2 → Nat :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_412 : BitVec 32 := 256#32
  let v853 : BitVec 32 := Scalar.muli v738 c256_i32_412
  let v854 : BitVec 32 := v853
  let v855 : Index := Scalar.indexCast v854
  let c128_413 : Index := 128#32
  ![v855.toNat, 128]
def k0_mult5 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_414 : BitVec 32 := 256#32
  let v861 : BitVec 32 := Scalar.muli v738 c256_i32_414
  v861
def k0_mult6 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_429 : BitVec 32 := 256#32
  let v896 : BitVec 32 := Scalar.muli v738 c256_i32_429
  v896
def k0_mult7 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_441 : BitVec 32 := 256#32
  let v930 : BitVec 32 := Scalar.muli v738 c256_i32_441
  v930
def k0_off6 (i : grid0.Coords) (k0_t1 : Fin (k0_t1_loop i).trips) : Fin 2 → Nat :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_441 : BitVec 32 := 256#32
  let v930 : BitVec 32 := Scalar.muli v738 c256_i32_441
  let v931 : BitVec 32 := v930
  let v932 : Index := Scalar.indexCast v931
  let c256_442 : Index := 256#32
  ![v932.toNat, 256]
def k0_mult8 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_443 : BitVec 32 := 256#32
  let v938 : BitVec 32 := Scalar.muli v738 c256_i32_443
  v938
def k0_mult9 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_458 : BitVec 32 := 256#32
  let v973 : BitVec 32 := Scalar.muli v738 c256_i32_458
  v973
def k0_mult10 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_470 : BitVec 32 := 256#32
  let v1007 : BitVec 32 := Scalar.muli v738 c256_i32_470
  v1007
def k0_off7 (i : grid0.Coords) (k0_t1 : Fin (k0_t1_loop i).trips) : Fin 2 → Nat :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_470 : BitVec 32 := 256#32
  let v1007 : BitVec 32 := Scalar.muli v738 c256_i32_470
  let v1008 : BitVec 32 := v1007
  let v1009 : Index := Scalar.indexCast v1008
  let c384_471 : Index := 384#32
  ![v1009.toNat, 384]
def k0_mult11 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_472 : BitVec 32 := 256#32
  let v1015 : BitVec 32 := Scalar.muli v738 c256_i32_472
  v1015
def k0_mult12 (i : grid0.Coords) (k0_t1 : Fin (k0_t1_loop i).trips) : BitVec 32 :=
  let c2_i32_337 : BitVec 32 := 2#32
  let c0_i32_27 : BitVec 32 := 0#32
  let c1_i32_29 : BitVec 32 := 1#32
  let arg16 : BitVec 32 := Scf.iv c0_i32_27 c1_i32_29 k0_t1
  let v738 : BitVec 32 := Scalar.muli c2_i32_337 arg16
  let c256_i32_487 : BitVec 32 := 256#32
  let v1050 : BitVec 32 := Scalar.muli v738 c256_i32_487
  v1050
def k0_off8 (i : grid0.Coords) (k0_t1 : Fin (k0_t1_loop i).trips) : Fin 4 → Nat :=
  let arg0 : BitVec 32 := BitVec.ofNat 32 (i 0).val
  let c4_i32_498 : BitVec 32 := 4#32
  let v1083 : BitVec 32 := Scalar.muli arg0 c4_i32_498
  let arg2 : BitVec 32 := BitVec.ofNat 32 (i 2).val
  let v1084 : BitVec 32 := Scalar.addi v1083 arg2
  let c8_i32_499 : BitVec 32 := 8#32
  let v1085 : BitVec 32 := Scalar.muli v1084 c8_i32_499
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c1_i32_497 : BitVec 32 := 1#32
  let v1082 : BitVec 32 := Scalar.addi v1081 c1_i32_497
  let v1086 : BitVec 32 := Scalar.addi v1085 v1082
  let c0_i32_506 : BitVec 32 := 0#32
  let c0_i32_507 : BitVec 32 := 0#32
  let c0_i32_508 : BitVec 32 := 0#32
  ![v1086.toNat, 0, 0, 0]
def k0_mult13 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_542 : BitVec 32 := 256#32
  let v1119 : BitVec 32 := Scalar.muli v1081 c256_i32_542
  v1119
def k0_off9 (i : grid0.Coords) (k0_t1 : Fin (k0_t1_loop i).trips) : Fin 2 → Nat :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_542 : BitVec 32 := 256#32
  let v1119 : BitVec 32 := Scalar.muli v1081 c256_i32_542
  let v1120 : BitVec 32 := v1119
  let v1121 : Index := Scalar.indexCast v1120
  let c0_543 : Index := 0#32
  ![v1121.toNat, 0]
def k0_mult14 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_544 : BitVec 32 := 256#32
  let v1127 : BitVec 32 := Scalar.muli v1081 c256_i32_544
  v1127
def k0_mult15 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_559 : BitVec 32 := 256#32
  let v1162 : BitVec 32 := Scalar.muli v1081 c256_i32_559
  v1162
def k0_mult16 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_571 : BitVec 32 := 256#32
  let v1196 : BitVec 32 := Scalar.muli v1081 c256_i32_571
  v1196
def k0_off10 (i : grid0.Coords) (k0_t1 : Fin (k0_t1_loop i).trips) : Fin 2 → Nat :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_571 : BitVec 32 := 256#32
  let v1196 : BitVec 32 := Scalar.muli v1081 c256_i32_571
  let v1197 : BitVec 32 := v1196
  let v1198 : Index := Scalar.indexCast v1197
  let c128_572 : Index := 128#32
  ![v1198.toNat, 128]
def k0_mult17 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_573 : BitVec 32 := 256#32
  let v1204 : BitVec 32 := Scalar.muli v1081 c256_i32_573
  v1204
def k0_mult18 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_588 : BitVec 32 := 256#32
  let v1239 : BitVec 32 := Scalar.muli v1081 c256_i32_588
  v1239
def k0_mult19 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_600 : BitVec 32 := 256#32
  let v1273 : BitVec 32 := Scalar.muli v1081 c256_i32_600
  v1273
def k0_off11 (i : grid0.Coords) (k0_t1 : Fin (k0_t1_loop i).trips) : Fin 2 → Nat :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_600 : BitVec 32 := 256#32
  let v1273 : BitVec 32 := Scalar.muli v1081 c256_i32_600
  let v1274 : BitVec 32 := v1273
  let v1275 : Index := Scalar.indexCast v1274
  let c256_601 : Index := 256#32
  ![v1275.toNat, 256]
def k0_mult20 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_602 : BitVec 32 := 256#32
  let v1281 : BitVec 32 := Scalar.muli v1081 c256_i32_602
  v1281
def k0_mult21 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_617 : BitVec 32 := 256#32
  let v1316 : BitVec 32 := Scalar.muli v1081 c256_i32_617
  v1316
def k0_mult22 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_629 : BitVec 32 := 256#32
  let v1350 : BitVec 32 := Scalar.muli v1081 c256_i32_629
  v1350
def k0_off12 (i : grid0.Coords) (k0_t1 : Fin (k0_t1_loop i).trips) : Fin 2 → Nat :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_629 : BitVec 32 := 256#32
  let v1350 : BitVec 32 := Scalar.muli v1081 c256_i32_629
  let v1351 : BitVec 32 := v1350
  let v1352 : Index := Scalar.indexCast v1351
  let c384_630 : Index := 384#32
  ![v1352.toNat, 384]
def k0_mult23 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_631 : BitVec 32 := 256#32
  let v1358 : BitVec 32 := Scalar.muli v1081 c256_i32_631
  v1358
def k0_mult24 (i : grid0.Coords) (k0_t1 : Fin (k0_t1_loop i).trips) : BitVec 32 :=
  let c2_i32_495 : BitVec 32 := 2#32
  let c0_i32_27 : BitVec 32 := 0#32
  let c1_i32_29 : BitVec 32 := 1#32
  let arg16 : BitVec 32 := Scf.iv c0_i32_27 c1_i32_29 k0_t1
  let v1080 : BitVec 32 := Scalar.muli c2_i32_495 arg16
  let c1_i32_496 : BitVec 32 := 1#32
  let v1081 : BitVec 32 := Scalar.addi v1080 c1_i32_496
  let c256_i32_646 : BitVec 32 := 256#32
  let v1393 : BitVec 32 := Scalar.muli v1081 c256_i32_646
  v1393
@[reducible] def k0_t2_loop (i : grid0.Coords) : Scf.Loop 32 :=
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let v39 : BitVec 32 := Scalar.addi c0_i32_27 v38
  let c1_i32_30 : BitVec 32 := 1#32
  ⟨v42, v39, c1_i32_30⟩
def k0_off13 (i : grid0.Coords) (k0_t2 : Fin (k0_t2_loop i).trips) : Fin 4 → Nat :=
  let arg0 : BitVec 32 := BitVec.ofNat 32 (i 0).val
  let c4_i32_339 : BitVec 32 := 4#32
  let v740 : BitVec 32 := Scalar.muli arg0 c4_i32_339
  let arg2 : BitVec 32 := BitVec.ofNat 32 (i 2).val
  let v741 : BitVec 32 := Scalar.addi v740 arg2
  let c8_i32_340 : BitVec 32 := 8#32
  let v742 : BitVec 32 := Scalar.muli v741 c8_i32_340
  let c2_i32_337 : BitVec 32 := 2#32
  let c0_i32_27 : BitVec 32 := 0#32
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c1_i32_338 : BitVec 32 := 1#32
  let v739 : BitVec 32 := Scalar.addi v738 c1_i32_338
  let v743 : BitVec 32 := Scalar.addi v742 v739
  let c0_i32_347 : BitVec 32 := 0#32
  let c0_i32_348 : BitVec 32 := 0#32
  let c0_i32_349 : BitVec 32 := 0#32
  ![v743.toNat, 0, 0, 0]
def k0_off14 (i : grid0.Coords) (k0_t2 : Fin (k0_t2_loop i).trips) : Fin 4 → Nat :=
  let arg0 : BitVec 32 := BitVec.ofNat 32 (i 0).val
  let c4_i32_359 : BitVec 32 := 4#32
  let v756 : BitVec 32 := Scalar.muli arg0 c4_i32_359
  let arg2 : BitVec 32 := BitVec.ofNat 32 (i 2).val
  let v757 : BitVec 32 := Scalar.addi v756 arg2
  let c8_i32_360 : BitVec 32 := 8#32
  let v758 : BitVec 32 := Scalar.muli v757 c8_i32_360
  let c2_i32_337 : BitVec 32 := 2#32
  let c0_i32_27 : BitVec 32 := 0#32
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let v759 : BitVec 32 := Scalar.addi v758 v738
  let c0_i32_367 : BitVec 32 := 0#32
  let c0_i32_368 : BitVec 32 := 0#32
  let c0_i32_369 : BitVec 32 := 0#32
  ![v759.toNat, 0, 0, 0]
def k0_mult25 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_383 : BitVec 32 := 256#32
  let v776 : BitVec 32 := Scalar.muli v738 c256_i32_383
  v776
def k0_off15 (i : grid0.Coords) (k0_t2 : Fin (k0_t2_loop i).trips) : Fin 2 → Nat :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_383 : BitVec 32 := 256#32
  let v776 : BitVec 32 := Scalar.muli v738 c256_i32_383
  let v777 : BitVec 32 := v776
  let v778 : Index := Scalar.indexCast v777
  let c0_384 : Index := 0#32
  ![v778.toNat, 0]
def k0_mult26 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_385 : BitVec 32 := 256#32
  let v784 : BitVec 32 := Scalar.muli v738 c256_i32_385
  v784
def k0_mult27 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_400 : BitVec 32 := 256#32
  let v819 : BitVec 32 := Scalar.muli v738 c256_i32_400
  v819
def k0_mult28 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_412 : BitVec 32 := 256#32
  let v853 : BitVec 32 := Scalar.muli v738 c256_i32_412
  v853
def k0_off16 (i : grid0.Coords) (k0_t2 : Fin (k0_t2_loop i).trips) : Fin 2 → Nat :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_412 : BitVec 32 := 256#32
  let v853 : BitVec 32 := Scalar.muli v738 c256_i32_412
  let v854 : BitVec 32 := v853
  let v855 : Index := Scalar.indexCast v854
  let c128_413 : Index := 128#32
  ![v855.toNat, 128]
def k0_mult29 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_414 : BitVec 32 := 256#32
  let v861 : BitVec 32 := Scalar.muli v738 c256_i32_414
  v861
def k0_mult30 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_429 : BitVec 32 := 256#32
  let v896 : BitVec 32 := Scalar.muli v738 c256_i32_429
  v896
def k0_mult31 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_441 : BitVec 32 := 256#32
  let v930 : BitVec 32 := Scalar.muli v738 c256_i32_441
  v930
def k0_off17 (i : grid0.Coords) (k0_t2 : Fin (k0_t2_loop i).trips) : Fin 2 → Nat :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_441 : BitVec 32 := 256#32
  let v930 : BitVec 32 := Scalar.muli v738 c256_i32_441
  let v931 : BitVec 32 := v930
  let v932 : Index := Scalar.indexCast v931
  let c256_442 : Index := 256#32
  ![v932.toNat, 256]
def k0_mult32 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_443 : BitVec 32 := 256#32
  let v938 : BitVec 32 := Scalar.muli v738 c256_i32_443
  v938
def k0_mult33 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_458 : BitVec 32 := 256#32
  let v973 : BitVec 32 := Scalar.muli v738 c256_i32_458
  v973
def k0_mult34 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_470 : BitVec 32 := 256#32
  let v1007 : BitVec 32 := Scalar.muli v738 c256_i32_470
  v1007
def k0_off18 (i : grid0.Coords) (k0_t2 : Fin (k0_t2_loop i).trips) : Fin 2 → Nat :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_470 : BitVec 32 := 256#32
  let v1007 : BitVec 32 := Scalar.muli v738 c256_i32_470
  let v1008 : BitVec 32 := v1007
  let v1009 : Index := Scalar.indexCast v1008
  let c384_471 : Index := 384#32
  ![v1009.toNat, 384]
def k0_mult35 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_472 : BitVec 32 := 256#32
  let v1015 : BitVec 32 := Scalar.muli v738 c256_i32_472
  v1015
def k0_mult36 (i : grid0.Coords) (k0_t2 : Fin (k0_t2_loop i).trips) : BitVec 32 :=
  let c2_i32_337 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v738 : BitVec 32 := Scalar.muli c2_i32_337 arg16
  let c256_i32_487 : BitVec 32 := 256#32
  let v1050 : BitVec 32 := Scalar.muli v738 c256_i32_487
  v1050
def k0_off19 (i : grid0.Coords) (k0_t2 : Fin (k0_t2_loop i).trips) : Fin 4 → Nat :=
  let arg0 : BitVec 32 := BitVec.ofNat 32 (i 0).val
  let c4_i32_498 : BitVec 32 := 4#32
  let v1083 : BitVec 32 := Scalar.muli arg0 c4_i32_498
  let arg2 : BitVec 32 := BitVec.ofNat 32 (i 2).val
  let v1084 : BitVec 32 := Scalar.addi v1083 arg2
  let c8_i32_499 : BitVec 32 := 8#32
  let v1085 : BitVec 32 := Scalar.muli v1084 c8_i32_499
  let c2_i32_495 : BitVec 32 := 2#32
  let c0_i32_27 : BitVec 32 := 0#32
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c1_i32_497 : BitVec 32 := 1#32
  let v1082 : BitVec 32 := Scalar.addi v1081 c1_i32_497
  let v1086 : BitVec 32 := Scalar.addi v1085 v1082
  let c0_i32_506 : BitVec 32 := 0#32
  let c0_i32_507 : BitVec 32 := 0#32
  let c0_i32_508 : BitVec 32 := 0#32
  ![v1086.toNat, 0, 0, 0]
def k0_mult37 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_542 : BitVec 32 := 256#32
  let v1119 : BitVec 32 := Scalar.muli v1081 c256_i32_542
  v1119
def k0_off20 (i : grid0.Coords) (k0_t2 : Fin (k0_t2_loop i).trips) : Fin 2 → Nat :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_542 : BitVec 32 := 256#32
  let v1119 : BitVec 32 := Scalar.muli v1081 c256_i32_542
  let v1120 : BitVec 32 := v1119
  let v1121 : Index := Scalar.indexCast v1120
  let c0_543 : Index := 0#32
  ![v1121.toNat, 0]
def k0_mult38 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_544 : BitVec 32 := 256#32
  let v1127 : BitVec 32 := Scalar.muli v1081 c256_i32_544
  v1127
def k0_mult39 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_559 : BitVec 32 := 256#32
  let v1162 : BitVec 32 := Scalar.muli v1081 c256_i32_559
  v1162
def k0_mult40 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_571 : BitVec 32 := 256#32
  let v1196 : BitVec 32 := Scalar.muli v1081 c256_i32_571
  v1196
def k0_off21 (i : grid0.Coords) (k0_t2 : Fin (k0_t2_loop i).trips) : Fin 2 → Nat :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_571 : BitVec 32 := 256#32
  let v1196 : BitVec 32 := Scalar.muli v1081 c256_i32_571
  let v1197 : BitVec 32 := v1196
  let v1198 : Index := Scalar.indexCast v1197
  let c128_572 : Index := 128#32
  ![v1198.toNat, 128]
def k0_mult41 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_573 : BitVec 32 := 256#32
  let v1204 : BitVec 32 := Scalar.muli v1081 c256_i32_573
  v1204
def k0_mult42 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_588 : BitVec 32 := 256#32
  let v1239 : BitVec 32 := Scalar.muli v1081 c256_i32_588
  v1239
def k0_mult43 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_600 : BitVec 32 := 256#32
  let v1273 : BitVec 32 := Scalar.muli v1081 c256_i32_600
  v1273
def k0_off22 (i : grid0.Coords) (k0_t2 : Fin (k0_t2_loop i).trips) : Fin 2 → Nat :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_600 : BitVec 32 := 256#32
  let v1273 : BitVec 32 := Scalar.muli v1081 c256_i32_600
  let v1274 : BitVec 32 := v1273
  let v1275 : Index := Scalar.indexCast v1274
  let c256_601 : Index := 256#32
  ![v1275.toNat, 256]
def k0_mult44 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_602 : BitVec 32 := 256#32
  let v1281 : BitVec 32 := Scalar.muli v1081 c256_i32_602
  v1281
def k0_mult45 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_617 : BitVec 32 := 256#32
  let v1316 : BitVec 32 := Scalar.muli v1081 c256_i32_617
  v1316
def k0_mult46 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_629 : BitVec 32 := 256#32
  let v1350 : BitVec 32 := Scalar.muli v1081 c256_i32_629
  v1350
def k0_off23 (i : grid0.Coords) (k0_t2 : Fin (k0_t2_loop i).trips) : Fin 2 → Nat :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_629 : BitVec 32 := 256#32
  let v1350 : BitVec 32 := Scalar.muli v1081 c256_i32_629
  let v1351 : BitVec 32 := v1350
  let v1352 : Index := Scalar.indexCast v1351
  let c384_630 : Index := 384#32
  ![v1352.toNat, 384]
def k0_mult47 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_631 : BitVec 32 := 256#32
  let v1358 : BitVec 32 := Scalar.muli v1081 c256_i32_631
  v1358
def k0_mult48 (i : grid0.Coords) (k0_t2 : Fin (k0_t2_loop i).trips) : BitVec 32 :=
  let c2_i32_495 : BitVec 32 := 2#32
  let c0_i32_27 : BitVec 32 := 0#32
  let arg2 : BitVec 32 := BitVec.ofNat 32 (i 2).val
  let v38 : BitVec 32 := Scalar.subi arg2 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg16 : BitVec 32 := Scf.iv v42 c1_i32_30 k0_t2
  let v1080 : BitVec 32 := Scalar.muli c2_i32_495 arg16
  let c1_i32_496 : BitVec 32 := 1#32
  let v1081 : BitVec 32 := Scalar.addi v1080 c1_i32_496
  let c256_i32_646 : BitVec 32 := 256#32
  let v1393 : BitVec 32 := Scalar.muli v1081 c256_i32_646
  v1393
def k0_off24 (i : grid0.Coords) : Fin 4 → Nat :=
  let arg0 : BitVec 32 := BitVec.ofNat 32 (i 0).val
  let c4_i32_32 : BitVec 32 := 4#32
  let v55 : BitVec 32 := Scalar.muli arg0 c4_i32_32
  let arg2 : BitVec 32 := BitVec.ofNat 32 (i 2).val
  let v56 : BitVec 32 := Scalar.addi v55 arg2
  let c8_i32_33 : BitVec 32 := 8#32
  let v57 : BitVec 32 := Scalar.muli v56 c8_i32_33
  let c2_i32 : BitVec 32 := 2#32
  let v45 : BitVec 32 := Scalar.muli c2_i32 arg2
  let c1_i32_31 : BitVec 32 := 1#32
  let v54 : BitVec 32 := Scalar.addi v45 c1_i32_31
  let v58 : BitVec 32 := Scalar.addi v57 v54
  let c0_i32_40 : BitVec 32 := 0#32
  let c0_i32_41 : BitVec 32 := 0#32
  let c0_i32_42 : BitVec 32 := 0#32
  ![v58.toNat, 0, 0, 0]
def k0_off25 (i : grid0.Coords) : Fin 4 → Nat :=
  let arg0 : BitVec 32 := BitVec.ofNat 32 (i 0).val
  let c4_i32_52 : BitVec 32 := 4#32
  let v71 : BitVec 32 := Scalar.muli arg0 c4_i32_52
  let arg2 : BitVec 32 := BitVec.ofNat 32 (i 2).val
  let v72 : BitVec 32 := Scalar.addi v71 arg2
  let c8_i32_53 : BitVec 32 := 8#32
  let v73 : BitVec 32 := Scalar.muli v72 c8_i32_53
  let c2_i32 : BitVec 32 := 2#32
  let v45 : BitVec 32 := Scalar.muli c2_i32 arg2
  let v74 : BitVec 32 := Scalar.addi v73 v45
  let c0_i32_60 : BitVec 32 := 0#32
  let c0_i32_61 : BitVec 32 := 0#32
  let c0_i32_62 : BitVec 32 := 0#32
  ![v74.toNat, 0, 0, 0]
def k0_mult49 (i : grid0.Coords) : BitVec 32 :=
  let c2_i32 : BitVec 32 := 2#32
  let arg2 : BitVec 32 := BitVec.ofNat 32 (i 2).val
  let v45 : BitVec 32 := Scalar.muli c2_i32 arg2
  let c256_i32_76 : BitVec 32 := 256#32
  let v91 : BitVec 32 := Scalar.muli v45 c256_i32_76
  v91
def k0_off26 (i : grid0.Coords) : Fin 2 → Nat :=
  let c2_i32 : BitVec 32 := 2#32
  let arg2 : BitVec 32 := BitVec.ofNat 32 (i 2).val
  let v45 : BitVec 32 := Scalar.muli c2_i32 arg2
  let c256_i32_76 : BitVec 32 := 256#32
  let v91 : BitVec 32 := Scalar.muli v45 c256_i32_76
  let v92 : BitVec 32 := v91
  let v93 : Index := Scalar.indexCast v92
  let c0_77 : Index := 0#32
  ![v93.toNat, 0]
def k0_mult50 (i : grid0.Coords) : BitVec 32 :=
  let c2_i32 : BitVec 32 := 2#32
  let arg2 : BitVec 32 := BitVec.ofNat 32 (i 2).val
  let v45 : BitVec 32 := Scalar.muli c2_i32 arg2
  let c256_i32_78 : BitVec 32 := 256#32
  let v99 : BitVec 32 := Scalar.muli v45 c256_i32_78
  v99
def k0_mult51 (i : grid0.Coords) : BitVec 32 :=
  let c2_i32 : BitVec 32 := 2#32
  let arg2 : BitVec 32 := BitVec.ofNat 32 (i 2).val
  let v45 : BitVec 32 := Scalar.muli c2_i32 arg2
  let c256_i32_94 : BitVec 32 := 256#32
  let v136 : BitVec 32 := Scalar.muli v45 c256_i32_94
  v136
def k0_mult52 (i : grid0.Coords) : BitVec 32 :=
  let c2_i32 : BitVec 32 := 2#32
  let arg2 : BitVec 32 := BitVec.ofNat 32 (i 2).val
  let v45 : BitVec 32 := Scalar.muli c2_i32 arg2
  let c256_i32_105 : BitVec 32 := 256#32
  let v170 : BitVec 32 := Scalar.muli v45 c256_i32_105
  v170
def k0_off27 (i : grid0.Coords) : Fin 2 → Nat :=
  let c2_i32 : BitVec 32 := 2#32
  let arg2 : BitVec 32 := BitVec.ofNat 32 (i 2).val
  let v45 : BitVec 32 := Scalar.muli c2_i32 arg2
  let c256_i32_105 : BitVec 32 := 256#32
  let v170 : BitVec 32 := Scalar.muli v45 c256_i32_105
  let v171 : BitVec 32 := v170
  let v172 : Index := Scalar.indexCast v171
  let c128_106 : Index := 128#32
  ![v172.toNat, 128]
def k0_mult53 (i : grid0.Coords) : BitVec 32 :=
  let c2_i32 : BitVec 32 := 2#32
  let arg2 : BitVec 32 := BitVec.ofNat 32 (i 2).val
  let v45 : BitVec 32 := Scalar.muli c2_i32 arg2
  let c256_i32_107 : BitVec 32 := 256#32
  let v178 : BitVec 32 := Scalar.muli v45 c256_i32_107
  v178
def k0_mult54 (i : grid0.Coords) : BitVec 32 :=
  let c2_i32 : BitVec 32 := 2#32
  let arg2 : BitVec 32 := BitVec.ofNat 32 (i 2).val
  let v45 : BitVec 32 := Scalar.muli c2_i32 arg2
  let c256_i32_122 : BitVec 32 := 256#32
  let v215 : BitVec 32 := Scalar.muli v45 c256_i32_122
  v215
def k0_mult55 (i : grid0.Coords) : BitVec 32 :=
  let c2_i32 : BitVec 32 := 2#32
  let arg2 : BitVec 32 := BitVec.ofNat 32 (i 2).val
  let v45 : BitVec 32 := Scalar.muli c2_i32 arg2
  let c256_i32_133 : BitVec 32 := 256#32
  let v249 : BitVec 32 := Scalar.muli v45 c256_i32_133
  v249
def k0_off28 (i : grid0.Coords) : Fin 2 → Nat :=
  let c2_i32 : BitVec 32 := 2#32
  let arg2 : BitVec 32 := BitVec.ofNat 32 (i 2).val
  let v45 : BitVec 32 := Scalar.muli c2_i32 arg2
  let c256_i32_133 : BitVec 32 := 256#32
  let v249 : BitVec 32 := Scalar.muli v45 c256_i32_133
  let v250 : BitVec 32 := v249
  let v251 : Index := Scalar.indexCast v250
  let c256_134 : Index := 256#32
  ![v251.toNat, 256]
def k0_mult56 (i : grid0.Coords) : BitVec 32 :=
  let c2_i32 : BitVec 32 := 2#32
  let arg2 : BitVec 32 := BitVec.ofNat 32 (i 2).val
  let v45 : BitVec 32 := Scalar.muli c2_i32 arg2
  let c256_i32_135 : BitVec 32 := 256#32
  let v257 : BitVec 32 := Scalar.muli v45 c256_i32_135
  v257
def k0_mult57 (i : grid0.Coords) : BitVec 32 :=
  let c2_i32 : BitVec 32 := 2#32
  let arg2 : BitVec 32 := BitVec.ofNat 32 (i 2).val
  let v45 : BitVec 32 := Scalar.muli c2_i32 arg2
  let c256_i32_150 : BitVec 32 := 256#32
  let v294 : BitVec 32 := Scalar.muli v45 c256_i32_150
  v294
def k0_mult58 (i : grid0.Coords) : BitVec 32 :=
  let c2_i32 : BitVec 32 := 2#32
  let arg2 : BitVec 32 := BitVec.ofNat 32 (i 2).val
  let v45 : BitVec 32 := Scalar.muli c2_i32 arg2
  let c256_i32_161 : BitVec 32 := 256#32
  let v328 : BitVec 32 := Scalar.muli v45 c256_i32_161
  v328
def k0_off29 (i : grid0.Coords) : Fin 2 → Nat :=
  let c2_i32 : BitVec 32 := 2#32
  let arg2 : BitVec 32 := BitVec.ofNat 32 (i 2).val
  let v45 : BitVec 32 := Scalar.muli c2_i32 arg2
  let c256_i32_161 : BitVec 32 := 256#32
  let v328 : BitVec 32 := Scalar.muli v45 c256_i32_161
  let v329 : BitVec 32 := v328
  let v330 : Index := Scalar.indexCast v329
  let c384_162 : Index := 384#32
  ![v330.toNat, 384]
def k0_mult59 (i : grid0.Coords) : BitVec 32 :=
  let c2_i32 : BitVec 32 := 2#32
  let arg2 : BitVec 32 := BitVec.ofNat 32 (i 2).val
  let v45 : BitVec 32 := Scalar.muli c2_i32 arg2
  let c256_i32_163 : BitVec 32 := 256#32
  let v336 : BitVec 32 := Scalar.muli v45 c256_i32_163
  v336
def k0_mult60 (i : grid0.Coords) : BitVec 32 :=
  let c2_i32 : BitVec 32 := 2#32
  let arg2 : BitVec 32 := BitVec.ofNat 32 (i 2).val
  let v45 : BitVec 32 := Scalar.muli c2_i32 arg2
  let c256_i32_178 : BitVec 32 := 256#32
  let v373 : BitVec 32 := Scalar.muli v45 c256_i32_178
  v373
def k0_mult61 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_213 : BitVec 32 := 256#32
  let v430 : BitVec 32 := Scalar.muli v404 c256_i32_213
  v430
def k0_off30 (i : grid0.Coords) : Fin 2 → Nat :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_213 : BitVec 32 := 256#32
  let v430 : BitVec 32 := Scalar.muli v404 c256_i32_213
  let v431 : BitVec 32 := v430
  let v432 : Index := Scalar.indexCast v431
  let c0_214 : Index := 0#32
  ![v432.toNat, 0]
def k0_mult62 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_215 : BitVec 32 := 256#32
  let v438 : BitVec 32 := Scalar.muli v404 c256_i32_215
  v438
def k0_mult63 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_231 : BitVec 32 := 256#32
  let v477 : BitVec 32 := Scalar.muli v404 c256_i32_231
  v477
def k0_mult64 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_242 : BitVec 32 := 256#32
  let v505 : BitVec 32 := Scalar.muli v404 c256_i32_242
  v505
def k0_off31 (i : grid0.Coords) : Fin 2 → Nat :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_242 : BitVec 32 := 256#32
  let v505 : BitVec 32 := Scalar.muli v404 c256_i32_242
  let v506 : BitVec 32 := v505
  let v507 : Index := Scalar.indexCast v506
  let c128_243 : Index := 128#32
  ![v507.toNat, 128]
def k0_mult65 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_244 : BitVec 32 := 256#32
  let v513 : BitVec 32 := Scalar.muli v404 c256_i32_244
  v513
def k0_mult66 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_260 : BitVec 32 := 256#32
  let v552 : BitVec 32 := Scalar.muli v404 c256_i32_260
  v552
def k0_mult67 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_271 : BitVec 32 := 256#32
  let v580 : BitVec 32 := Scalar.muli v404 c256_i32_271
  v580
def k0_off32 (i : grid0.Coords) : Fin 2 → Nat :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_271 : BitVec 32 := 256#32
  let v580 : BitVec 32 := Scalar.muli v404 c256_i32_271
  let v581 : BitVec 32 := v580
  let v582 : Index := Scalar.indexCast v581
  let c256_272 : Index := 256#32
  ![v582.toNat, 256]
def k0_mult68 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_273 : BitVec 32 := 256#32
  let v588 : BitVec 32 := Scalar.muli v404 c256_i32_273
  v588
def k0_mult69 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_289 : BitVec 32 := 256#32
  let v627 : BitVec 32 := Scalar.muli v404 c256_i32_289
  v627
def k0_mult70 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_300 : BitVec 32 := 256#32
  let v655 : BitVec 32 := Scalar.muli v404 c256_i32_300
  v655
def k0_off33 (i : grid0.Coords) : Fin 2 → Nat :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_300 : BitVec 32 := 256#32
  let v655 : BitVec 32 := Scalar.muli v404 c256_i32_300
  let v656 : BitVec 32 := v655
  let v657 : Index := Scalar.indexCast v656
  let c384_301 : Index := 384#32
  ![v657.toNat, 384]
def k0_mult71 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_302 : BitVec 32 := 256#32
  let v663 : BitVec 32 := Scalar.muli v404 c256_i32_302
  v663
def k0_mult72 (i : grid0.Coords) : BitVec 32 :=
  let c2_i32_186 : BitVec 32 := 2#32
  let arg2 : BitVec 32 := BitVec.ofNat 32 (i 2).val
  let v403 : BitVec 32 := Scalar.muli c2_i32_186 arg2
  let c1_i32_187 : BitVec 32 := 1#32
  let v404 : BitVec 32 := Scalar.addi v403 c1_i32_187
  let c256_i32_318 : BitVec 32 := 256#32
  let v702 : BitVec 32 := Scalar.muli v404 c256_i32_318
  v702
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== SbBwdRefIdeal.lean ====
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩
abbrev S4096x512 : Shape := ⟨2, ![4096, 512]⟩

abbrev nBuf : Space → Nat
  | .hbm => 170
  | .vmem => 0
  | .smem => 0
  | _ => 0

abbrev hbmTy0_0 (i : Nat) : BufTy := match i % 128 with
  | 0 => ⟨S2x2048x8x64, .f32⟩
  | 1 => ⟨S2x2048x8x64, .f32⟩
  | 2 => ⟨S2x2048x8x64, .f32⟩
  | 3 => ⟨S2x2048x512, .f32⟩
  | 4 => ⟨S2x8x2048x2048, .f32⟩
  | 5 => ⟨S_, .f32⟩
  | 6 => ⟨S2x8x2048x2048, .f32⟩
  | 7 => ⟨S2x8x2048x2048, .f32⟩
  | 8 => ⟨S2048, .i32⟩
  | 9 => ⟨S1x2048, .i32⟩
  | 10 => ⟨S2048, .i32⟩
  | 11 => ⟨S2048x1, .i32⟩
  | 12 => ⟨S2048x2048, .i32⟩
  | 13 => ⟨S2048x2048, .i32⟩
  | 14 => ⟨S2048x2048, .i1⟩
  | 15 => ⟨S2x8x2048x2048, .f32⟩
  | 16 => ⟨S2x8x2048x2048, .f32⟩
  | 17 => ⟨S_, .f32⟩
  | 18 => ⟨S2x8x2048x2048, .f32⟩
  | 19 => ⟨S2x8x2048x2048, .f32⟩
  | 20 => ⟨S2x8x2048x2048, .f32⟩
  | 21 => ⟨S2x8x2048x2048, .f32⟩
  | 22 => ⟨S2x8x2048x2048, .i1⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S_, .f32⟩
  | 32 => ⟨S2x8x2048x2048, .f32⟩
  | 33 => ⟨S2x8x2048x2048, .i1⟩
  | 34 => ⟨S_, .f32⟩
  | 35 => ⟨S2x8x2048x2048, .f32⟩
  | 36 => ⟨S2x8x2048x2048, .f32⟩
  | 37 => ⟨S_, .f32⟩
  | 38 => ⟨S2x8x2048x2048, .f32⟩
  | 39 => ⟨S2x8x2048x2048, .i1⟩
  | 40 => ⟨S_, .f32⟩
  | 41 => ⟨S2x8x2048x2048, .f32⟩
  | 42 => ⟨S2x8x2048x2048, .f32⟩
  | 43 => ⟨S2x8x2048x2048, .f32⟩
  | 44 => ⟨S2x8x2048x2048, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S2x8x2048x2048, .f32⟩
  | 53 => ⟨S2x8x2048x2048, .i1⟩
  | 54 => ⟨S_, .f32⟩
  | 55 => ⟨S2x8x2048x2048, .f32⟩
  | 56 => ⟨S2x8x2048x2048, .f32⟩
  | 57 => ⟨S2x8x2048x2048, .f32⟩
  | 58 => ⟨S2x8x2048x2048, .f32⟩
  | 59 => ⟨S2x8x2048x2048, .f32⟩
  | 60 => ⟨S_, .f32⟩
  | 61 => ⟨S2x8x2048x2048, .f32⟩
  | 62 => ⟨S2x8x2048x2048, .f32⟩
  | 63 => ⟨S2x8x2048x2048, .f32⟩
  | 64 => ⟨S_, .f32⟩
  | 65 => ⟨S_, .f32⟩
  | 66 => ⟨S2x8x2048x2048, .i1⟩
  | 67 => ⟨S2x8x2048x2048, .f32⟩
  | 68 => ⟨S2x8x2048x2048, .f32⟩
  | 69 => ⟨S_, .f32⟩
  | 70 => ⟨S2x8x2048x2048, .f32⟩
  | 71 => ⟨S_, .f32⟩
  | 72 => ⟨S_, .f32⟩
  | 73 => ⟨S2x8x2048x2048, .f32⟩
  | 74 => ⟨S2x8x2048x2048, .f32⟩
  | 75 => ⟨S2x8x2048x2048, .f32⟩
  | 76 => ⟨S_, .f32⟩
  | 77 => ⟨S2x8x2048x2048, .f32⟩
  | 78 => ⟨S2x8x2048x2048, .f32⟩
  | 79 => ⟨S2x8x2048x2048, .f32⟩
  | 80 => ⟨S2x8x2048x2048, .f32⟩
  | 81 => ⟨S2x8x2048x2048, .i1⟩
  | 82 => ⟨S2x8x2048x2048, .f32⟩
  | 83 => ⟨S2x8x2048x2048, .f32⟩
  | 84 => ⟨S2x8x2048x2048, .f32⟩
  | 85 => ⟨S2x8x2048x2048, .f32⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S_, .f32⟩
  | 91 => ⟨S2x8x2048x2048, .f32⟩
  | 92 => ⟨S2x8x2048x2048, .i1⟩
  | 93 => ⟨S_, .f32⟩
  | 94 => ⟨S2x8x2048x2048, .f32⟩
  | 95 => ⟨S2x8x2048x2048, .f32⟩
  | 96 => ⟨S_, .f32⟩
  | 97 => ⟨S2x8x2048x2048, .f32⟩
  | 98 => ⟨S2x8x2048x2048, .i1⟩
  | 99 => ⟨S_, .f32⟩
  | 100 => ⟨S2x8x2048x2048, .f32⟩
  | 101 => ⟨S2x8x2048x2048, .f32⟩
  | 102 => ⟨S2x8x2048x2048, .f32⟩
  | 103 => ⟨S2x8x2048x2048, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S2x8x2048x2048, .f32⟩
  | 112 => ⟨S2x8x2048x2048, .i1⟩
  | 113 => ⟨S_, .f32⟩
  | 114 => ⟨S2x8x2048x2048, .f32⟩
  | 115 => ⟨S2x8x2048x2048, .f32⟩
  | 116 => ⟨S2x8x2048x2048, .f32⟩
  | 117 => ⟨S2x8x2048x2048, .f32⟩
  | 118 => ⟨S2x8x2048x2048, .f32⟩
  | 119 => ⟨S_, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S2x8x2048x2048, .f32⟩
  | 125 => ⟨S_, .f32⟩
  | 126 => ⟨S_, .f32⟩
  | 127 => ⟨S2x8x2048x2048, .i1⟩
  | _ => ⟨S2x2048x8x64, .f32⟩

abbrev hbmTy0_1 (i : Nat) : BufTy := match i % 128 with
  | 0 => ⟨S2x8x2048x2048, .f32⟩
  | 1 => ⟨S2x8x2048x2048, .f32⟩
  | 2 => ⟨S_, .f32⟩
  | 3 => ⟨S2x8x2048x2048, .f32⟩
  | 4 => ⟨S2x8x64x2048, .f32⟩
  | 5 => ⟨S2x2048x8x64, .f32⟩
  | 6 => ⟨S2x2048x512, .f32⟩
  | 7 => ⟨S2x2048x8x64, .f32⟩
  | 8 => ⟨S2x8x64x2048, .f32⟩
  | 9 => ⟨S2x8x2048x2048, .f32⟩
  | 10 => ⟨S2x8x64x2048, .f32⟩
  | 11 => ⟨S2x2048x8x64, .f32⟩
  | 12 => ⟨S_, .f32⟩
  | 13 => ⟨S2x8x2048x2048, .f32⟩
  | 14 => ⟨S2x8x2048x2048, .f32⟩
  | 15 => ⟨S2x8x2048x2048, .f32⟩
  | 16 => ⟨S2x8x2048x2048, .f32⟩
  | 17 => ⟨S2x8x2048x2048, .f32⟩
  | 18 => ⟨S2x8x2048x2048, .f32⟩
  | 19 => ⟨S2x8x2048x2048, .f32⟩
  | 20 => ⟨S_, .f32⟩
  | 21 => ⟨S_, .f32⟩
  | 22 => ⟨S2x8x2048x2048, .f32⟩
  | 23 => ⟨S2x8x2048x2048, .f32⟩
  | 24 => ⟨S_, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S_, .f32⟩
  | 33 => ⟨S2x8x2048x2048, .f32⟩
  | 34 => ⟨S2x8x2048x2048, .f32⟩
  | 35 => ⟨S2x8x2048x64, .f32⟩
  | 36 => ⟨S2x2048x8x64, .f32⟩
  | 37 => ⟨S2x8x2048x64, .f32⟩
  | 38 => ⟨S2x2048x8x64, .f32⟩
  | 39 => ⟨S4096x512, .f32⟩
  | 40 => ⟨S4096x512, .f32⟩
  | 41 => ⟨S4096x512, .f32⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v11_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v11_2 : Ref sig .tc := ⟨.hbm, 62, rfl⟩
abbrev main_v11_0 : Ref sig .tc := ⟨.hbm, 63, rfl⟩
abbrev main_cst_0 : Ref sig .tc := ⟨.hbm, 64, rfl⟩
abbrev main_call1_v0 : Ref sig .tc := ⟨.hbm, 65, rfl⟩
abbrev main_v12_1 : Ref sig .tc := ⟨.hbm, 66, rfl⟩
abbrev main_call1_v2 : Ref sig .tc := ⟨.hbm, 67, rfl⟩
abbrev main_v12_0 : Ref sig .tc := ⟨.hbm, 68, rfl⟩
abbrev main_call1_cst : Ref sig .tc := ⟨.hbm, 69, rfl⟩
abbrev main_v12_2 : Ref sig .tc := ⟨.hbm, 70, rfl⟩
abbrev main_call2_cst : Ref sig .tc := ⟨.hbm, 71, rfl⟩
abbrev main_call2_v0 : Ref sig .tc := ⟨.hbm, 72, rfl⟩
abbrev main_v13 : Ref sig .tc := ⟨.hbm, 73, rfl⟩
abbrev main_v14 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1_0 : Ref sig .tc := ⟨.hbm, 89, rfl⟩
abbrev main_call3_call0_cst_0 : Ref sig .tc := ⟨.hbm, 90, rfl⟩
abbrev main_call3_call0_v13 : Ref sig .tc := ⟨.hbm, 91, rfl⟩
abbrev main_call3_call0_v14 : Ref sig .tc := ⟨.hbm, 92, rfl⟩
abbrev main_call3_call0_cst_1 : Ref sig .tc := ⟨.hbm, 93, rfl⟩
abbrev main_call3_call0_v15 : Ref sig .tc := ⟨.hbm, 94, rfl⟩
abbrev main_call3_call0_v16 : Ref sig .tc := ⟨.hbm, 95, rfl⟩
abbrev main_call3_call0_cst_2 : Ref sig .tc := ⟨.hbm, 96, rfl⟩
abbrev main_call3_call0_v17 : Ref sig .tc := ⟨.hbm, 97, rfl⟩
abbrev main_call3_call0_v18 : Ref sig .tc := ⟨.hbm, 98, rfl⟩
abbrev main_call3_call0_cst_3 : Ref sig .tc := ⟨.hbm, 99, rfl⟩
abbrev main_call3_call0_v19 : Ref sig .tc := ⟨.hbm, 100, rfl⟩
abbrev main_call3_call0_v20 : Ref sig .tc := ⟨.hbm, 101, rfl⟩
abbrev main_call3_call0_v21 : Ref sig .tc := ⟨.hbm, 102, rfl⟩
abbrev main_v15_1 : Ref sig .tc := ⟨.hbm, 103, rfl⟩
abbrev main_call3_call0_cst_4 : Ref sig .tc := ⟨.hbm, 104, rfl⟩
abbrev main_call3_call0_cst_5 : Ref sig .tc := ⟨.hbm, 105, rfl⟩
abbrev main_call3_call0_v23 : Ref sig .tc := ⟨.hbm, 106, rfl⟩
abbrev main_call3_call0_cst_6 : Ref sig .tc := ⟨.hbm, 107, rfl⟩
abbrev main_call3_call0_cst_7 : Ref sig .tc := ⟨.hbm, 108, rfl⟩
abbrev main_call3_call0_v24 : Ref sig .tc := ⟨.hbm, 109, rfl⟩
abbrev main_call3_call0_cst_8 : Ref sig .tc := ⟨.hbm, 110, rfl⟩
abbrev main_call3_call0_v25 : Ref sig .tc := ⟨.hbm, 111, rfl⟩
abbrev main_call3_call0_v26 : Ref sig .tc := ⟨.hbm, 112, rfl⟩
abbrev main_call3_call0_cst_9 : Ref sig .tc := ⟨.hbm, 113, rfl⟩
abbrev main_call3_call0_v27 : Ref sig .tc := ⟨.hbm, 114, rfl⟩
abbrev main_call3_call0_v28 : Ref sig .tc := ⟨.hbm, 115, rfl⟩
abbrev main_call3_call0_v29 : Ref sig .tc := ⟨.hbm, 116, rfl⟩
abbrev main_call3_call0_v30 : Ref sig .tc := ⟨.hbm, 117, rfl⟩
abbrev main_call3_call0_v31 : Ref sig .tc := ⟨.hbm, 118, rfl⟩
abbrev main_call3_call0_cst_10 : Ref sig .tc := ⟨.hbm, 119, rfl⟩
abbrev main_call3_call0_v32 : Ref sig .tc := ⟨.hbm, 120, rfl⟩
abbrev main_v15_2 : Ref sig .tc := ⟨.hbm, 121, rfl⟩
abbrev main_v15_0 : Ref sig .tc := ⟨.hbm, 122, rfl⟩
abbrev main_v16 : Ref sig .tc := ⟨.hbm, 123, rfl⟩
abbrev main_v17 : Ref sig .tc := ⟨.hbm, 124, rfl⟩
abbrev main_cst_1 : Ref sig .tc := ⟨.hbm, 125, rfl⟩
abbrev main_call4_v0 : Ref sig .tc := ⟨.hbm, 126, rfl⟩
abbrev main_v18_1 : Ref sig .tc := ⟨.hbm, 127, rfl⟩
abbrev main_call4_v2 : Ref sig .tc := ⟨.hbm, 128, rfl⟩
abbrev main_v18_0 : Ref sig .tc := ⟨.hbm, 129, rfl⟩
abbrev main_call4_cst : Ref sig .tc := ⟨.hbm, 130, rfl⟩
abbrev main_v18_2 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_call5_cst : Ref sig .tc := ⟨.hbm, 140, rfl⟩
abbrev main_call5_v0 : Ref sig .tc := ⟨.hbm, 141, rfl⟩
abbrev main_v27 : Ref sig .tc := ⟨.hbm, 142, rfl⟩
abbrev main_v28 : Ref sig .tc := ⟨.hbm, 143, rfl⟩
abbrev main_call6_v0 : Ref sig .tc := ⟨.hbm, 144, rfl⟩
abbrev main_call6_v1 : Ref sig .tc := ⟨.hbm, 145, rfl⟩
abbrev main_v29 : Ref sig .tc := ⟨.hbm, 146, rfl⟩
abbrev main_v30 : Ref sig .tc := ⟨.hbm, 147, rfl⟩
abbrev main_call7_cst : Ref sig .tc := ⟨.hbm, 148, rfl⟩
abbrev main_call7_v0 : Ref sig .tc := ⟨.hbm, 149, rfl⟩
abbrev main_v31 : Ref sig .tc := ⟨.hbm, 150, rfl⟩
abbrev main_v32 : Ref sig .tc := ⟨.hbm, 151, rfl⟩
abbrev main_call8_cst : Ref sig .tc := ⟨.hbm, 152, rfl⟩
abbrev main_call8_v0 : Ref sig .tc := ⟨.hbm, 153, rfl⟩
abbrev main_v33 : Ref sig .tc := ⟨.hbm, 154, rfl⟩
abbrev main_call9_v0 : Ref sig .tc := ⟨.hbm, 155, rfl⟩
abbrev main_call9_v1 : Ref sig .tc := ⟨.hbm, 156, rfl⟩
abbrev main_v34 : Ref sig .tc := ⟨.hbm, 157, rfl⟩
abbrev main_v35 : Ref sig .tc := ⟨.hbm, 158, rfl⟩
abbrev main_v36 : Ref sig .tc := ⟨.hbm, 159, rfl⟩
abbrev main_cst_2 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩

abbrev nD : Nat := 1
abbrev τ : Topo := Topo.v7x

variable {F : FTy → Type} [FloatOps F]
-- ==== XGrad.lean ====
abbrev S4096x1024 : Shape := ⟨2, ![4096, 1024]⟩
abbrev S4096x512 : Shape := ⟨2, ![4096, 512]⟩
abbrev S4096x256 : Shape := ⟨2, ![4096, 256]⟩
abbrev S1024x3328 : Shape := ⟨2, ![1024, 3328]⟩
abbrev S1x1024 : Shape := ⟨2, ![1, 1024]⟩
abbrev S3328x1024 : Shape := ⟨2, ![3328, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x256, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S1024x3328, .f32⟩
  | .hbm, ⟨10, _⟩ => ⟨S1x1024, .f32⟩
  | .hbm, ⟨11, _⟩ => ⟨S4096x512, .bf16⟩
  | .hbm, ⟨12, _⟩ => ⟨S4096x256, .bf16⟩
  | .hbm, ⟨13, _⟩ => ⟨S4096x512, .bf16⟩
  | .hbm, ⟨14, _⟩ => ⟨S4096x512, .bf16⟩
  | .hbm, ⟨15, _⟩ => ⟨S3328x1024, .f32⟩
  | .hbm, ⟨16, _⟩ => ⟨S3328x1024, .bf16⟩
  | .hbm, ⟨17, _⟩ => ⟨S4096x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S3328x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3328x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== XGradRefIdeal.lean ====
abbrev S4096x1024 : Shape := ⟨2, ![4096, 1024]⟩
abbrev S4096x512 : Shape := ⟨2, ![4096, 512]⟩
abbrev S4096x256 : Shape := ⟨2, ![4096, 256]⟩
abbrev S1024x3328 : Shape := ⟨2, ![1024, 3328]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3328 : Shape := ⟨2, ![4096, 3328]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x256, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S1024x3328, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3328, .f32⟩
  | .hbm, ⟨33, _⟩ => ⟨S4096x3328, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== SwaBwd.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S_ : Shape := ⟨0, ![]⟩
abbrev S4096x512 : Shape := ⟨2, ![4096, 512]⟩
abbrev S2x2048x2x1x64 : Shape := ⟨5, ![2, 2048, 2, 1, 64]⟩
abbrev S2x2048x2x2x64 : Shape := ⟨5, ![2, 2048, 2, 2, 64]⟩
abbrev S4096x256 : Shape := ⟨2, ![4096, 256]⟩
abbrev S5120x256 : Shape := ⟨2, ![5120, 256]⟩
abbrev S8x128 : Shape := ⟨2, ![8, 128]⟩
abbrev S512x512 : Shape := ⟨2, ![512, 512]⟩
abbrev S128x256 : Shape := ⟨2, ![128, 256]⟩
abbrev S512x256 : Shape := ⟨2, ![512, 256]⟩
abbrev S256x128 : Shape := ⟨2, ![256, 128]⟩
abbrev S128x128 : Shape := ⟨2, ![128, 128]⟩
abbrev S256x256 : Shape := ⟨2, ![256, 256]⟩
abbrev S512x128 : Shape := ⟨2, ![512, 128]⟩
abbrev S256x512 : Shape := ⟨2, ![256, 512]⟩
abbrev S256x1 : Shape := ⟨2, ![256, 1]⟩
abbrev S1 : Shape := ⟨1, ![1]⟩
abbrev S256 : Shape := ⟨1, ![256]⟩
abbrev S1x128 : Shape := ⟨2, ![1, 128]⟩
abbrev S128x1 : Shape := ⟨2, ![128, 1]⟩
abbrev S1x128x1 : Shape := ⟨3, ![1, 128, 1]⟩
abbrev S1x1x1 : Shape := ⟨3, ![1, 1, 1]⟩
abbrev S2x2560x2x2x64 : Shape := ⟨5, ![2, 2560, 2, 2, 64]⟩
abbrev S8x1 : Shape := ⟨2, ![8, 1]⟩

abbrev nBuf : Space → Nat
  | .hbm => 34
  | .vmem => 21
  | .smem => 1
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2x64, .f32⟩
  | .hbm, ⟨3, _⟩ => ⟨S8, .f32⟩
  | .hbm, ⟨4, _⟩ => ⟨S2x2048x512, .f32⟩
  | .hbm, ⟨5, _⟩ => ⟨S_, .f32⟩
  | .hbm, ⟨6, _⟩ => ⟨S2x2048x8x64, .f32⟩
  | .hbm, ⟨7, _⟩ => ⟨S2x2048x8x64, .f32⟩
  | .hbm, ⟨8, _⟩ => ⟨S4096x512, .f32⟩
  | .hbm, ⟨9, _⟩ => ⟨S4096x512, .bf16⟩
  | .hbm, ⟨10, _⟩ => ⟨S2x2048x2x1x64, .f32⟩
  | .hbm, ⟨11, _⟩ => ⟨S2x2048x2x2x64, .f32⟩
  | .hbm, ⟨12, _⟩ => ⟨S4096x256, .f32⟩
  | .hbm, ⟨13, _⟩ => ⟨S4096x256, .bf16⟩
  | .hbm, ⟨14, _⟩ => ⟨S2x2048x2x1x64, .f32⟩
  | .hbm, ⟨15, _⟩ => ⟨S2x2048x2x2x64, .f32⟩
  | .hbm, ⟨16, _⟩ => ⟨S4096x256, .f32⟩
  | .hbm, ⟨17, _⟩ => ⟨S4096x256, .bf16⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S5120x256, .f32⟩
  | .hbm, ⟨22, _⟩ => ⟨S5120x256, .f32⟩
  | .hbm, ⟨23, _⟩ => ⟨S8x128, .f32⟩
  | .hbm, ⟨24, _⟩ => ⟨S2x2560x2x2x64, .f32⟩
  | .hbm, ⟨25, _⟩ => ⟨S2x2048x2x2x64, .f32⟩
  | .hbm, ⟨26, _⟩ => ⟨S_, .f32⟩
  | .hbm, ⟨27, _⟩ => ⟨S2x2048x2x64, .f32⟩
  | .hbm, ⟨28, _⟩ => ⟨S2x2560x2x2x64, .f32⟩
  | .hbm, ⟨29, _⟩ => ⟨S2x2048x2x2x64, .f32⟩
  | .hbm, ⟨30, _⟩ => ⟨S_, .f32⟩
  | .hbm, ⟨31, _⟩ => ⟨S2x2048x2x64, .f32⟩
  | .hbm, ⟨32, _⟩ => ⟨S8x1, .f32⟩
  | .hbm, ⟨33, _⟩ => ⟨S8, .f32⟩
  | .local _ .vmem, ⟨0, _⟩ => ⟨S512x512, .bf16⟩
  | .local _ .vmem, ⟨1, _⟩ => ⟨S512x512, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S8x128, .f32⟩
  | .local _ .vmem, ⟨19, _⟩ => ⟨S128x256, .f32⟩
  | .local _ .vmem, ⟨20, _⟩ => ⟨S128x256, .f32⟩
  | .local _ .smem, ⟨0, _⟩ => ⟨S8, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c4_i32 : BitVec 32 := 4#32
  let v8 : BitVec 1 := Scalar.cmpi .slt arg1 c4_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c4_i32_5 : BitVec 32 := 4#32
  let v11 : BitVec 1 := Scalar.cmpi .eq arg1 c4_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c4_i32_0 : BitVec 32 := 4#32
  let v3 : BitVec 32 := Scalar.muli v2 c4_i32_0
  let c3_i32_1 : BitVec 32 := 3#32
  let v4 : BitVec 32 := Scalar.minsi arg1 c3_i32_1
  let c0_i32 : BitVec 32 := 0#32
  let v5 : BitVec 1 := Scalar.cmpi .sgt v4 c0_i32
  let c1_i32 : BitVec 32 := 1#32
  let c0_i32_2 : BitVec 32 := 0#32
  let v6 : BitVec 32 := Scalar.select v5 c1_i32 c0_i32_2
  let v7 : BitVec 32 := Scalar.subi v3 v6
  let c0_i32_3 : BitVec 32 := 0#32
  let c0_i32_4 : BitVec 32 := 0#32
  ![v7.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c4_i32_0 : BitVec 32 := 4#32
  let v3 : BitVec 32 := Scalar.muli v2 c4_i32_0
  let c3_i32_1 : BitVec 32 := 3#32
  let v4 : BitVec 32 := Scalar.minsi arg1 c3_i32_1
  let c0_i32 : BitVec 32 := 0#32
  let v5 : BitVec 1 := Scalar.cmpi .sgt v4 c0_i32
  let c1_i32 : BitVec 32 := 1#32
  let c0_i32_2 : BitVec 32 := 0#32
  let v6 : BitVec 32 := Scalar.select v5 c1_i32 c0_i32_2
  let v7 : BitVec 32 := Scalar.subi v3 v6
  let c0_i32_3 : BitVec 32 := 0#32
  let c0_i32_4 : BitVec 32 := 0#32
  ![v7.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.minsi arg1 c3_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== SwaBwdIdeal.lean ====
variable {F : FTy → Type} [FloatOps F] [Named F]
def κ : String → Option EReal := fun
  | "mask" => some ⊥
  | _ => none
-- ==== SwaBwdRefIdeal.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x2048x512 : Shape := ⟨3, ![2, 2048, 512]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S_ : Shape := ⟨0, ![]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S4096x512 : Shape := ⟨2, ![4096, 512]⟩

abbrev nBuf : Space → Nat
  | .hbm => 191
  | .vmem => 0
  | .smem => 0
  | _ => 0

abbrev hbmTy0_0 (i : Nat) : BufTy := match i % 128 with
  | 0 => ⟨S2x2048x8x64, .f32⟩
  | 1 => ⟨S2x2048x2x64, .f32⟩
  | 2 => ⟨S2x2048x2x64, .f32⟩
  | 3 => ⟨S8, .f32⟩
  | 4 => ⟨S2x2048x512, .f32⟩
  | 5 => ⟨S2x16x128x2x4x64, .f32⟩
  | 6 => ⟨S2x16x128x2x64, .f32⟩
  | 7 => ⟨S2x16x128x2x64, .f32⟩
  | 8 => ⟨S2x1x128x2x64, .f32⟩
  | 9 => ⟨S_, .f32⟩
  | 10 => ⟨S2x1x128x2x64, .f32⟩
  | 11 => ⟨S2x15x128x2x64, .f32⟩
  | 12 => ⟨S2x16x128x2x64, .f32⟩
  | 13 => ⟨S_, .f32⟩
  | 14 => ⟨S2x1x128x2x64, .f32⟩
  | 15 => ⟨S2x1x128x2x64, .f32⟩
  | 16 => ⟨S_, .f32⟩
  | 17 => ⟨S2x1x128x2x64, .f32⟩
  | 18 => ⟨S2x15x128x2x64, .f32⟩
  | 19 => ⟨S2x16x128x2x64, .f32⟩
  | 20 => ⟨S_, .f32⟩
  | 21 => ⟨S2x1x128x2x64, .f32⟩
  | 22 => ⟨S2x16x256x2x64, .f32⟩
  | 23 => ⟨S2x16x256x2x64, .f32⟩
  | 24 => ⟨S2x16x2x256x128x4, .f32⟩
  | 25 => ⟨S2x16x2x4x128x256, .f32⟩
  | 26 => ⟨S_, .f32⟩
  | 27 => ⟨S2x16x2x4x128x256, .f32⟩
  | 28 => ⟨S2x16x2x4x128x256, .f32⟩
  | 29 => ⟨S16x128x256, .i32⟩
  | 30 => ⟨S16x128x256, .i32⟩
  | 31 => ⟨S16x128x256, .i32⟩
  | 32 => ⟨S_, .i32⟩
  | 33 => ⟨S16x128x256, .i32⟩
  | 34 => ⟨S16x128x256, .i32⟩
  | 35 => ⟨S_, .i32⟩
  | 36 => ⟨S16x128x256, .i32⟩
  | 37 => ⟨S16x128x256, .i32⟩
  | 38 => ⟨S16x128x256, .i32⟩
  | 39 => ⟨S_, .i32⟩
  | 40 => ⟨S16x128x256, .i32⟩
  | 41 => ⟨S16x128x256, .i32⟩
  | 42 => ⟨S16x128x256, .i32⟩
  | 43 => ⟨S_, .i32⟩
  | 44 => ⟨S16x128x256, .i32⟩
  | 45 => ⟨S16x128x256, .i1⟩
  | 46 => ⟨S_, .i32⟩
  | 47 => ⟨S16x128x256, .i32⟩
  | 48 => ⟨S16x128x256, .i1⟩
  | 49 => ⟨S16x128x256, .i1⟩
  | 50 => ⟨S_, .i32⟩
  | 51 => ⟨S16x128x256, .i32⟩
  | 52 => ⟨S16x128x256, .i1⟩
  | 53 => ⟨S16x128x256, .i1⟩
  | 54 => ⟨S1x16x1x1x128x256, .i1⟩
  | 55 => ⟨S_, .f32⟩
  | 56 => ⟨S_, .f32⟩
  | 57 => ⟨S2x16x2x4x128x256, .i1⟩
  | 58 => ⟨S2x16x2x4x128x256, .f32⟩
  | 59 => ⟨S2x16x2x4x128x256, .f32⟩
  | 60 => ⟨S_, .f32⟩
  | 61 => ⟨S2x16x2x4x128x256, .f32⟩
  | 62 => ⟨S2x4, .f32⟩
  | 63 => ⟨S1x1x2x4x1x1, .f32⟩
  | 64 => ⟨S_, .f32⟩
  | 65 => ⟨S2x16x2x4x128, .f32⟩
  | 66 => ⟨S2x16x2x4x128x1, .f32⟩
  | 67 => ⟨S2x16x2x4x128x256, .f32⟩
  | 68 => ⟨S2x16x2x4x128x256, .i1⟩
  | 69 => ⟨S2x16x2x4x128x256, .f32⟩
  | 70 => ⟨S_, .f32⟩
  | 71 => ⟨S2x16x2x4x128, .f32⟩
  | 72 => ⟨S2x16x2x4x128x1, .f32⟩
  | 73 => ⟨S2x16x2x4x128x1, .f32⟩
  | 74 => ⟨S2x16x2x4x128x1, .f32⟩
  | 75 => ⟨S2x16x2x4x128x1, .f32⟩
  | 76 => ⟨S2x16x2x4x128x1, .i1⟩
  | 77 => ⟨S2x16x2x4x128x1, .f32⟩
  | 78 => ⟨S2x16x2x4x128x1, .i1⟩
  | 79 => ⟨S_, .f32⟩
  | 80 => ⟨S2x16x2x4x128x1, .f32⟩
  | 81 => ⟨S_, .f32⟩
  | 82 => ⟨S2x16x2x4x128x1, .f32⟩
  | 83 => ⟨S_, .f32⟩
  | 84 => ⟨S2x16x2x4x128x1, .f32⟩
  | 85 => ⟨S2x16x2x4x128x1, .f32⟩
  | 86 => ⟨S2x16x2x4x128x1, .f32⟩
  | 87 => ⟨S2x16x2x4x128x1, .f32⟩
  | 88 => ⟨S2x16x2x4x128x1, .i1⟩
  | 89 => ⟨S2x16x2x4x128x1, .f32⟩
  | 90 => ⟨S2x16x2x4x128x1, .i1⟩
  | 91 => ⟨S_, .f32⟩
  | 92 => ⟨S2x16x2x4x128x1, .f32⟩
  | 93 => ⟨S_, .f32⟩
  | 94 => ⟨S2x16x2x4x128x1, .f32⟩
  | 95 => ⟨S_, .f32⟩
  | 96 => ⟨S2x16x2x4x128x1, .f32⟩
  | 97 => ⟨S2x16x2x4x128x1, .f32⟩
  | 98 => ⟨S2x16x2x4x128x1, .f32⟩
  | 99 => ⟨S2x16x2x4x128x256, .f32⟩
  | 100 => ⟨S2x16x2x4x128x256, .f32⟩
  | 101 => ⟨S2x16x2x4x128x256, .f32⟩
  | 102 => ⟨S_, .f32⟩
  | 103 => ⟨S2x16x2x4x128, .f32⟩
  | 104 => ⟨S2x16x2x4x128x1, .f32⟩
  | 105 => ⟨S2x16x2x4x128x1, .f32⟩
  | 106 => ⟨S2x16x2x4x128x1, .f32⟩
  | 107 => ⟨S2x16x2x4x128x1, .f32⟩
  | 108 => ⟨S2x16x2x4x128x1, .f32⟩
  | 109 => ⟨S2x16x2x4x128x256, .f32⟩
  | 110 => ⟨S2x16x2x4x128x256, .f32⟩
  | 111 => ⟨S2x16x2x4x128x1, .f32⟩
  | 112 => ⟨S_, .f32⟩
  | 113 => ⟨S2x16x2x4x128x1, .f32⟩
  | 114 => ⟨S2x16x2x4x128x1, .f32⟩
  | 115 => ⟨S2x16x2x64x4x128, .f32⟩
  | 116 => ⟨S2x16x128x2x4x64, .f32⟩
  | 117 => ⟨S2x2048x512, .f32⟩
  | 118 => ⟨S2x16x128x2x4x64, .f32⟩
  | 119 => ⟨S2x16x2x64x4x128, .f32⟩
  | 120 => ⟨S2x16x2x4x128x256, .f32⟩
  | 121 => ⟨S2x16x2x64x256, .f32⟩
  | 122 => ⟨S2x16x256x2x64, .f32⟩
  | 123 => ⟨S2x16x2x4x128x256, .f32⟩
  | 124 => ⟨S2x16x2x4x128x256, .f32⟩
  | 125 => ⟨S2x16x2x4x128x256, .f32⟩
  | 126 => ⟨S_, .f32⟩
  | 127 => ⟨S2x16x2x4x128, .f32⟩
  | _ => ⟨S2x2048x8x64, .f32⟩

abbrev hbmTy0_1 (i : Nat) : BufTy := match i % 128 with
  | 0 => ⟨S2x16x2x4x128x1, .f32⟩
  | 1 => ⟨S2x16x2x4x128x1, .f32⟩
  | 2 => ⟨S2x16x2x4x128x256, .f32⟩
  | 3 => ⟨S2x16x2x4x128x256, .f32⟩
  | 4 => ⟨S2x16x2x4x128x1, .f32⟩
  | 5 => ⟨S_, .f32⟩
  | 6 => ⟨S2x4x1, .f32⟩
  | 7 => ⟨S1x1x2x4x1x1, .f32⟩
  | 8 => ⟨S2x16x2x4x128x1, .f32⟩
  | 9 => ⟨S_, .f32⟩
  | 10 => ⟨S2x16x2x4x128, .f32⟩
  | 11 => ⟨S2x16x2x4x128x256, .f32⟩
  | 12 => ⟨S2x16x2x4x128x256, .f32⟩
  | 13 => ⟨S2x16x2x4x128x256, .f32⟩
  | 14 => ⟨S2x16x2x4x128x256, .f32⟩
  | 15 => ⟨S_, .f32⟩
  | 16 => ⟨S2x16x2x4x128, .f32⟩
  | 17 => ⟨S2x16x2x4x128x1, .f32⟩
  | 18 => ⟨S2x16x2x4x128x1, .f32⟩
  | 19 => ⟨S2x16x2x4x128x1, .f32⟩
  | 20 => ⟨S_, .f32⟩
  | 21 => ⟨S2x4x1, .f32⟩
  | 22 => ⟨S1x1x2x4x1x1, .f32⟩
  | 23 => ⟨S1x1x2x4x1x1, .f32⟩
  | 24 => ⟨S2x16x2x4x128x1, .f32⟩
  | 25 => ⟨S_, .f32⟩
  | 26 => ⟨S2x16x2x4x128, .f32⟩
  | 27 => ⟨S2x16x2x4x128, .f32⟩
  | 28 => ⟨S2x16x2x4x128x256, .f32⟩
  | 29 => ⟨S2x16x2x4x128x256, .f32⟩
  | 30 => ⟨S2x16x2x4x128x256, .f32⟩
  | 31 => ⟨S_, .f32⟩
  | 32 => ⟨S2x4, .f32⟩
  | 33 => ⟨S8, .f32⟩
  | 34 => ⟨S_, .f32⟩
  | 35 => ⟨S2x16x2x4x128x256, .f32⟩
  | 36 => ⟨S2x16x2x4x128x256, .f32⟩
  | 37 => ⟨S_, .f32⟩
  | 38 => ⟨S2x16x2x4x128x256, .f32⟩
  | 39 => ⟨S2x16x2x4x128x256, .f32⟩
  | 40 => ⟨S2x16x2x256x128x4, .f32⟩
  | 41 => ⟨S2x16x2x128x4x64, .f32⟩
  | 42 => ⟨S2x16x128x2x4x64, .f32⟩
  | 43 => ⟨S2x16x2x256x64, .f32⟩
  | 44 => ⟨S2x16x256x2x64, .f32⟩
  | 45 => ⟨S2x16x128x2x64, .f32⟩
  | 46 => ⟨S2x16x128x2x64, .f32⟩
  | 47 => ⟨S2x16x128x2x64, .f32⟩
  | 48 => ⟨S2x16x128x2x64, .f32⟩
  | 49 => ⟨S2x1x128x2x64, .f32⟩
  | 50 => ⟨S2x15x128x2x64, .f32⟩
  | 51 => ⟨S_, .f32⟩
  | 52 => ⟨S2x16x128x2x64, .f32⟩
  | 53 => ⟨S2x16x128x2x64, .f32⟩
  | 54 => ⟨S2x1x128x2x64, .f32⟩
  | 55 => ⟨S2x15x128x2x64, .f32⟩
  | 56 => ⟨S_, .f32⟩
  | 57 => ⟨S2x16x128x2x64, .f32⟩
  | 58 => ⟨S2x16x128x2x64, .f32⟩
  | 59 => ⟨S2x2048x2x64, .f32⟩
  | 60 => ⟨S2x2048x2x64, .f32⟩
  | 61 => ⟨S2x2048x8x64, .f32⟩
  | 62 => ⟨S4096x512, .f32⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_call0_v0 : Ref sig .tc := ⟨.hbm, 56, rfl⟩
abbrev main_v39_1 : Ref sig .tc := ⟨.hbm, 57, rfl⟩
abbrev main_call0_v2 : Ref sig .tc := ⟨.hbm, 58, rfl⟩
abbrev main_v39_0 : Ref sig .tc := ⟨.hbm, 59, rfl⟩
abbrev main_call0_cst : Ref sig .tc := ⟨.hbm, 60, rfl⟩
abbrev main_v39_2 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_23 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_26 : Ref sig .tc := ⟨.hbm, 159, rfl⟩
abbrev main_v121 : Ref sig .tc := ⟨.hbm, 160, rfl⟩
abbrev main_v122 : Ref sig .tc := ⟨.hbm, 161, rfl⟩
abbrev main_call1_cst : Ref sig .tc := ⟨.hbm, 162, rfl⟩
abbrev main_call1_v0 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_28 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_29 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]
-- ==== QkGrad.lean ====
abbrev S2x2048x8x64 : Shape := ⟨4, ![2, 2048, 8, 64]⟩
abbrev S2x2048x2x64 : Shape := ⟨4, ![2, 2048, 2, 64]⟩
abbrev S2x2048x2x2x64 : Shape := ⟨5, ![2, 2048, 2, 2, 64]⟩
abbrev S64 : Shape := ⟨1, ![64]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S8x64x8x64 : Shape := ⟨4, ![8, 64, 8, 64]⟩
abbrev S512x512 : Shape := ⟨2, ![512, 512]⟩
abbrev S4096x512 : Shape := ⟨2, ![4096, 512]⟩
abbrev S4096x128 : Shape := ⟨2, ![4096, 128]⟩
abbrev S2x2048x256 : Shape := ⟨3, ![2, 2048, 256]⟩
abbrev S2x2560x256 : Shape := ⟨3, ![2, 2560, 256]⟩
abbrev S5120x256 : Shape := ⟨2, ![5120, 256]⟩
abbrev S8x64 : Shape := ⟨2, ![8, 64]⟩
abbrev S1x512 : Shape := ⟨2, ![1, 512]⟩
abbrev S2x64 : Shape := ⟨2, ![2, 64]⟩
abbrev S1x128 : Shape := ⟨2, ![1, 128]⟩
abbrev S2x2048x64 : Shape := ⟨3, ![2, 2048, 64]⟩
abbrev S2x2048x1x64 : Shape := ⟨4, ![2, 2048, 1, 64]⟩
abbrev S4096x256 : Shape := ⟨2, ![4096, 256]⟩
abbrev S512x128 : Shape := ⟨2, ![512, 128]⟩
abbrev S128x256 : Shape := ⟨2, ![128, 256]⟩
abbrev S512x256 : Shape := ⟨2, ![512, 256]⟩
abbrev S512 : Shape := ⟨1, ![512]⟩
abbrev S128x128 : Shape := ⟨2, ![128, 128]⟩
abbrev S128 : Shape := ⟨1, ![128]⟩

abbrev nBuf : Space → Nat
  | .hbm => 73
  | .vmem => 37
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x8x64, .f32⟩
  | .hbm, ⟨3, _⟩ => ⟨S2x2048x2x2x64, .f32⟩
  | .hbm, ⟨4, _⟩ => ⟨S2x2048x2x2x64, .f32⟩
  | .hbm, ⟨5, _⟩ => ⟨S64, .f32⟩
  | .hbm, ⟨6, _⟩ => ⟨S64, .f32⟩
  | .hbm, ⟨7, _⟩ => ⟨S2x2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x2048, .f32⟩
  | .hbm, ⟨20, _⟩ => ⟨S2x2048x1, .f32⟩
  | .hbm, ⟨21, _⟩ => ⟨S1x1x32, .f32⟩
  | .hbm, ⟨22, _⟩ => ⟨S2x2048x32, .f32⟩
  | .hbm, ⟨23, _⟩ => ⟨S2x2048x32, .f32⟩
  | .hbm, ⟨24, _⟩ => ⟨S2x2048x32, .f32⟩
  | .hbm, ⟨25, _⟩ => ⟨S2x2048x32, .f32⟩
  | .hbm, ⟨26, _⟩ => ⟨S2x2048x32, .f32⟩
  | .hbm, ⟨27, _⟩ => ⟨S_, .f32⟩
  | .hbm, ⟨28, _⟩ => ⟨S2x2048x32, .f32⟩
  | .hbm, ⟨29, _⟩ => ⟨S8x64x8x64, .i32⟩
  | .hbm, ⟨30, _⟩ => ⟨S8x64x8x64, .i32⟩
  | .hbm, ⟨31, _⟩ => ⟨S8x64x8x64, .i1⟩
  | .hbm, ⟨32, _⟩ => ⟨S_, .f32⟩
  | .hbm, ⟨33, _⟩ => ⟨S_, .f32⟩
  | .hbm, ⟨34, _⟩ => ⟨S8x64x8x64, .f32⟩
  | .hbm, ⟨35, _⟩ => ⟨S8x64x8x64, .f32⟩
  | .hbm, ⟨36, _⟩ => ⟨S8x64x8x64, .f32⟩
  | .hbm, ⟨37, _⟩ => ⟨S512x512, .f32⟩
  | .hbm, ⟨38, _⟩ => ⟨S512x512, .bf16⟩
  | .hbm, ⟨39, _⟩ => ⟨S4096x512, .f32⟩
  | .hbm, ⟨40, _⟩ => ⟨S4096x128, .f32⟩
  | .hbm, ⟨41, _⟩ => ⟨S4096x512, .f32⟩
  | .hbm, ⟨42, _⟩ => ⟨S2x2048x256, .f32⟩
  | .hbm, ⟨43, _⟩ => ⟨S_, .i32⟩
  | .hbm, ⟨44, _⟩ => ⟨S_, .f32⟩
  | .hbm, ⟨45, _⟩ => ⟨S2x2560x256, .f32⟩
  | .hbm, ⟨46, _⟩ => ⟨S5120x256, .f32⟩
  | .hbm, ⟨47, _⟩ => ⟨S2x2048x256, .f32⟩
  | .hbm, ⟨48, _⟩ => ⟨S_, .i32⟩
  | .hbm, ⟨49, _⟩ => ⟨S_, .f32⟩
  | .hbm, ⟨50, _⟩ => ⟨S2x2560x256, .f32⟩
  | .hbm, ⟨51, _⟩ => ⟨S5120x256, .f32⟩
  | .hbm, ⟨52, _⟩ => ⟨S8x64, .f32⟩
  | .hbm, ⟨53, _⟩ => ⟨S1x512, .f32⟩
  | .hbm, ⟨54, _⟩ => ⟨S2x64, .f32⟩
  | .hbm, ⟨55, _⟩ => ⟨S1x128, .f32⟩
  | .hbm, ⟨56, _⟩ => ⟨S2x2048x64, .f32⟩
  | .hbm, ⟨57, _⟩ => ⟨S2x2048x1x64, .f32⟩
  | .hbm, ⟨58, _⟩ => ⟨S2x2048x2x64, .f32⟩
  | .hbm, ⟨59, _⟩ => ⟨S4096x128, .f32⟩
  | .hbm, ⟨60, _⟩ => ⟨S2x2048x32, .f32⟩
  | .hbm, ⟨61, _⟩ => ⟨S2x2048x64, .f32⟩
  | .hbm, ⟨62, _⟩ => ⟨S2x2048x1x64, .f32⟩
  | .hbm, ⟨63, _⟩ => ⟨S2x2048x2x64, .f32⟩
  | .hbm, ⟨64, _⟩ => ⟨S4096x128, .f32⟩
  | .hbm, ⟨65, _⟩ => ⟨S2x2048x64, .f32⟩
  | .hbm, ⟨66, _⟩ => ⟨S2x2048x1x64, .f32⟩
  | .hbm, ⟨67, _⟩ => ⟨S2x2048x2x64, .f32⟩
  | .hbm, ⟨68, _⟩ => ⟨S4096x128, .f32⟩
  | .hbm, ⟨69, _⟩ => ⟨S4096x512, .bf16⟩
  | .hbm, ⟨70, _⟩ => ⟨S4096x256, .bf16⟩
  | .hbm, ⟨71, _⟩ => ⟨S1x512, .f32⟩
  | .hbm, ⟨72, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S1x512, .f32⟩
  | .local _ .vmem, ⟨23, _⟩ => ⟨S1x128, .f32⟩
  | .local _ .vmem, ⟨24, _⟩ => ⟨S512x512, .bf16⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x512, .bf16⟩
  | .local _ .vmem, ⟨32, _⟩ => ⟨S512x512, .bf16⟩
  | .local _ .vmem, ⟨33, _⟩ => ⟨S512x256, .bf16⟩
  | .local _ .vmem, ⟨34, _⟩ => ⟨S512x256, .bf16⟩
  | .local _ .vmem, ⟨35, _⟩ => ⟨S1x512, .f32⟩
  | .local _ .vmem, ⟨36, _⟩ => ⟨S1x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev main_v49_2 : Ref sig .tc := ⟨.hbm, 71, rfl⟩
abbrev main_v49_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg20_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem20_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c0_i32_13 : BitVec 32 := 0#32
  let v32 : BitVec 32 := Scalar.addi v31 c0_i32_13
  let c0_i32_14 : BitVec 32 := 0#32
  let c0_i32_15 : BitVec 32 := 0#32
  ![v32.toNat, c0_i32_14.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c1_i32_13 : BitVec 32 := 1#32
  let v32 : BitVec 32 := Scalar.addi v31 c1_i32_13
  let c0_i32_14 : BitVec 32 := 0#32
  let c0_i32_15 : BitVec 32 := 0#32
  ![v32.toNat, c0_i32_14.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c2_i32 : BitVec 32 := 2#32
  let v32 : BitVec 32 := Scalar.addi v31 c2_i32
  let c0_i32_13 : BitVec 32 := 0#32
  let c0_i32_14 : BitVec 32 := 0#32
  ![v32.toNat, c0_i32_13.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c3_i32 : BitVec 32 := 3#32
  let v32 : BitVec 32 := Scalar.addi v31 c3_i32
  let c0_i32_13 : BitVec 32 := 0#32
  let c0_i32_14 : BitVec 32 := 0#32
  ![v32.toNat, c0_i32_13.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c0_i32_13 : BitVec 32 := 0#32
  let v32 : BitVec 32 := Scalar.addi v31 c0_i32_13
  let c0_i32_14 : BitVec 32 := 0#32
  let c0_i32_15 : BitVec 32 := 0#32
  ![v32.toNat, c0_i32_14.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c1_i32_13 : BitVec 32 := 1#32
  let v32 : BitVec 32 := Scalar.addi v31 c1_i32_13
  let c0_i32_14 : BitVec 32 := 0#32
  let c0_i32_15 : BitVec 32 := 0#32
  ![v32.toNat, c0_i32_14.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c2_i32 : BitVec 32 := 2#32
  let v32 : BitVec 32 := Scalar.addi v31 c2_i32
  let c0_i32_13 : BitVec 32 := 0#32
  let c0_i32_14 : BitVec 32 := 0#32
  ![v32.toNat, c0_i32_13.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.muli v16 c5_i32
  let c4_i32_4 : BitVec 32 := 4#32
  let v18 : BitVec 32 := Scalar.muli v17 c4_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.muli v28 c4_i32_11
  let v30 : BitVec 32 := Scalar.addi v18 v29
  let c1_i32_12 : BitVec 32 := 1#32
  let v31 : BitVec 32 := Scalar.addi v30 c1_i32_12
  let c3_i32 : BitVec 32 := 3#32
  let v32 : BitVec 32 := Scalar.addi v31 c3_i32
  let c0_i32_13 : BitVec 32 := 0#32
  let c0_i32_14 : BitVec 32 := 0#32
  ![v32.toNat, c0_i32_13.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== QkGradRefIdeal.lean ====
abbrev S2x2048x8x64 : Shape := ⟨4, ![2, 2048, 8, 64]⟩
abbrev S2x2048x2x64 : Shape := ⟨4, ![2, 2048, 2, 64]⟩
abbrev S2x2048x2x2x64 : Shape := ⟨5, ![2, 2048, 2, 2, 64]⟩
abbrev S64 : Shape := ⟨1, ![64]⟩
abbrev S2x2048 : Shape := ⟨2, ![2, 2048]⟩
abbrev S8x64 : Shape := ⟨2, ![8, 64]⟩
abbrev S2x64 : Shape := ⟨2, ![2, 64]⟩
abbrev S_ : Shape := ⟨0, ![]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S32 : Shape := ⟨1, ![32]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x8x32 : Shape := ⟨4, ![2, 2048, 8, 32]⟩
abbrev S2x2048x2 : Shape := ⟨3, ![2, 2048, 2]⟩
abbrev S2x2048x2x1 : Shape := ⟨4, ![2, 2048, 2, 1]⟩
abbrev S1x1x2x64 : Shape := ⟨4, ![1, 1, 2, 64]⟩
abbrev S2x2048x2x32 : Shape := ⟨4, ![2, 2048, 2, 32]⟩
abbrev S4096x128 : Shape := ⟨2, ![4096, 128]⟩
abbrev S4096x256 : Shape := ⟨2, ![4096, 256]⟩
abbrev S4096x512 : Shape := ⟨2, ![4096, 512]⟩
abbrev S1x512 : Shape := ⟨2, ![1, 512]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S2x2048x8x64, .f32⟩
  | 1 => ⟨S2x2048x2x64, .f32⟩
  | 2 => ⟨S2x2048x8x64, .f32⟩
  | 3 => ⟨S2x2048x2x2x64, .f32⟩
  | 4 => ⟨S2x2048x2x2x64, .f32⟩
  | 5 => ⟨S64, .f32⟩
  | 6 => ⟨S64, .f32⟩
  | 7 => ⟨S2x2048, .i32⟩
  | 8 => ⟨S8x64, .f32⟩
  | 9 => ⟨S2x64, .f32⟩
  | 10 => ⟨S2x2048x8x64, .f32⟩
  | 11 => ⟨S_, .f32⟩
  | 12 => ⟨S2x2048x8, .f32⟩
  | 13 => ⟨S2x2048x8x1, .f32⟩
  | 14 => ⟨S_, .f32⟩
  | 15 => ⟨S2x2048x8x1, .f32⟩
  | 16 => ⟨S2x2048x8x1, .f32⟩
  | 17 => ⟨S_, .f32⟩
  | 18 => ⟨S2x2048x8x1, .f32⟩
  | 19 => ⟨S2x2048x8x1, .f32⟩
  | 20 => ⟨S2x2048x8x1, .f32⟩
  | 21 => ⟨S2x2048x8x1, .f32⟩
  | 22 => ⟨S_, .f32⟩
  | 23 => ⟨S2x2048x8x1, .f32⟩
  | 24 => ⟨S2x2048x8x1, .f32⟩
  | 25 => ⟨S2x2048x8x64, .f32⟩
  | 26 => ⟨S2x2048x8x64, .f32⟩
  | 27 => ⟨S1x1x8x64, .f32⟩
  | 28 => ⟨S2x2048x8x64, .f32⟩
  | 29 => ⟨S2x2048x8x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2x2048, .f32⟩
  | 42 => ⟨S2x2048x1, .f32⟩
  | 43 => ⟨S1x1x32, .f32⟩
  | 44 => ⟨S2x2048x32, .f32⟩
  | 45 => ⟨S2x2048x32, .f32⟩
  | 46 => ⟨S2x2048x32, .f32⟩
  | 47 => ⟨S2x2048x32, .f32⟩
  | 48 => ⟨S2x2048x1x32, .f32⟩
  | 49 => ⟨S2x2048x32, .f32⟩
  | 50 => ⟨S2x2048x1x32, .f32⟩
  | 51 => ⟨S2x2048x8x32, .f32⟩
  | 52 => ⟨S2x2048x8x32, .f32⟩
  | 53 => ⟨S2x2048x8x32, .f32⟩
  | 54 => ⟨S2x2048x8x32, .f32⟩
  | 55 => ⟨S2x2048x8x32, .f32⟩
  | 56 => ⟨S2x2048x8x32, .f32⟩
  | 57 => ⟨S2x2048x8x32, .f32⟩
  | 58 => ⟨S2x2048x8x32, .f32⟩
  | 59 => ⟨S2x2048x8x32, .f32⟩
  | 60 => ⟨S2x2048x8x32, .f32⟩
  | 61 => ⟨S2x2048x8x32, .f32⟩
  | 62 => ⟨S2x2048x8x32, .f32⟩
  | 63 => ⟨S2x2048x8x64, .f32⟩
  | 64 => ⟨S2x2048x2x64, .f32⟩
  | 65 => ⟨S_, .f32⟩
  | 66 => ⟨S2x2048x2, .f32⟩
  | 67 => ⟨S2x2048x2x1, .f32⟩
  | 68 => ⟨S_, .f32⟩
  | 69 => ⟨S2x2048x2x1, .f32⟩
  | 70 => ⟨S2x2048x2x1, .f32⟩
  | 71 => ⟨S_, .f32⟩
  | 72 => ⟨S2x2048x2x1, .f32⟩
  | 73 => ⟨S2x2048x2x1, .f32⟩
  | 74 => ⟨S2x2048x2x1, .f32⟩
  | 75 => ⟨S2x2048x2x1, .f32⟩
  | 76 => ⟨S_, .f32⟩
  | 77 => ⟨S2x2048x2x1, .f32⟩
  | 78 => ⟨S2x2048x2x1, .f32⟩
  | 79 => ⟨S2x2048x2x64, .f32⟩
  | 80 => ⟨S2x2048x2x64, .f32⟩
  | 81 => ⟨S1x1x2x64, .f32⟩
  | 82 => ⟨S2x2048x2x64, .f32⟩
  | 83 => ⟨S2x2048x2x64, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S2x2048, .f32⟩
  | 96 => ⟨S2x2048x1, .f32⟩
  | 97 => ⟨S1x1x32, .f32⟩
  | 98 => ⟨S2x2048x32, .f32⟩
  | 99 => ⟨S2x2048x32, .f32⟩
  | 100 => ⟨S2x2048x32, .f32⟩
  | 101 => ⟨S2x2048x32, .f32⟩
  | 102 => ⟨S2x2048x1x32, .f32⟩
  | 103 => ⟨S2x2048x32, .f32⟩
  | 104 => ⟨S2x2048x1x32, .f32⟩
  | 105 => ⟨S2x2048x2x32, .f32⟩
  | 106 => ⟨S2x2048x2x32, .f32⟩
  | 107 => ⟨S2x2048x2x32, .f32⟩
  | 108 => ⟨S2x2048x2x32, .f32⟩
  | 109 => ⟨S2x2048x2x32, .f32⟩
  | 110 => ⟨S2x2048x2x32, .f32⟩
  | 111 => ⟨S2x2048x2x32, .f32⟩
  | 112 => ⟨S2x2048x2x32, .f32⟩
  | 113 => ⟨S2x2048x2x32, .f32⟩
  | 114 => ⟨S2x2048x2x32, .f32⟩
  | 115 => ⟨S2x2048x2x32, .f32⟩
  | 116 => ⟨S2x2048x2x32, .f32⟩
  | 117 => ⟨S2x2048x2x64, .f32⟩
  | 118 => ⟨S_, .f32⟩
  | 119 => ⟨S2x2048x2x64, .f32⟩
  | 120 => ⟨S2x2048x2x32, .f32⟩
  | 121 => ⟨S2x2048x2x32, .f32⟩
  | 122 => ⟨S2x2048x2x32, .f32⟩
  | 123 => ⟨S2x2048x2x32, .f32⟩
  | 124 => ⟨S2x2048x2x32, .f32⟩
  | 125 => ⟨S2x2048x2x32, .f32⟩
  | 126 => ⟨S2x2048x2x32, .f32⟩
  | 127 => ⟨S2x2048x2x32, .f32⟩
  | _ => ⟨S2x2048x8x64, .f32⟩

abbrev hbmTy0_1 (i : Nat) : BufTy := match i % 128 with
  | 0 => ⟨S2x2048x2x32, .f32⟩
  | 1 => ⟨S2x2048x2x32, .f32⟩
  | 2 => ⟨S2x2048x2x32, .f32⟩
  | 3 => ⟨S2x2048x2x32, .f32⟩
  | 4 => ⟨S2x2048x2x32, .f32⟩
  | 5 => ⟨S_, .f32⟩
  | 6 => ⟨S2x2048x2x64, .f32⟩
  | 7 => ⟨S_, .f32⟩
  | 8 => ⟨S2x2048x2x64, .f32⟩
  | 9 => ⟨S2x2048x2x64, .f32⟩
  | 10 => ⟨S2x2048x2x64, .f32⟩
  | 11 => ⟨S_, .f32⟩
  | 12 => ⟨S2x64, .f32⟩
  | 13 => ⟨S1x1x2x64, .f32⟩
  | 14 => ⟨S2x2048x2x64, .f32⟩
  | 15 => ⟨S2x2048x2x64, .f32⟩
  | 16 => ⟨S_, .f32⟩
  | 17 => ⟨S2x64, .f32⟩
  | 18 => ⟨S2x2048x2x64, .f32⟩
  | 19 => ⟨S_, .f32⟩
  | 20 => ⟨S2x2048x2, .f32⟩
  | 21 => ⟨S2x2048x2x1, .f32⟩
  | 22 => ⟨S2x2048x2x64, .f32⟩
  | 23 => ⟨S2x2048x2x64, .f32⟩
  | 24 => ⟨S2x2048x2x1, .f32⟩
  | 25 => ⟨S_, .f32⟩
  | 26 => ⟨S2x2048x2x1, .f32⟩
  | 27 => ⟨S2x2048x2x1, .f32⟩
  | 28 => ⟨S_, .f32⟩
  | 29 => ⟨S2x2048x2, .f32⟩
  | 30 => ⟨S2x2048x2x64, .f32⟩
  | 31 => ⟨S2x2048x2x64, .f32⟩
  | 32 => ⟨S2x2048x2x64, .f32⟩
  | 33 => ⟨S2x2048x2x64, .f32⟩
  | 34 => ⟨S2x2048x2x64, .f32⟩
  | 35 => ⟨S2x2048x8x32, .f32⟩
  | 36 => ⟨S2x2048x8x32, .f32⟩
  | 37 => ⟨S2x2048x8x32, .f32⟩
  | 38 => ⟨S2x2048x8x32, .f32⟩
  | 39 => ⟨S2x2048x8x32, .f32⟩
  | 40 => ⟨S2x2048x8x32, .f32⟩
  | 41 => ⟨S2x2048x8x32, .f32⟩
  | 42 => ⟨S2x2048x8x32, .f32⟩
  | 43 => ⟨S2x2048x8x32, .f32⟩
  | 44 => ⟨S2x2048x8x32, .f32⟩
  | 45 => ⟨S2x2048x8x32, .f32⟩
  | 46 => ⟨S2x2048x8x32, .f32⟩
  | 47 => ⟨S2x2048x8x32, .f32⟩
  | 48 => ⟨S_, .f32⟩
  | 49 => ⟨S2x2048x8x64, .f32⟩
  | 50 => ⟨S_, .f32⟩
  | 51 => ⟨S2x2048x8x64, .f32⟩
  | 52 => ⟨S2x2048x8x64, .f32⟩
  | 53 => ⟨S2x2048x8x64, .f32⟩
  | 54 => ⟨S_, .f32⟩
  | 55 => ⟨S8x64, .f32⟩
  | 56 => ⟨S1x1x8x64, .f32⟩
  | 57 => ⟨S2x2048x8x64, .f32⟩
  | 58 => ⟨S2x2048x8x64, .f32⟩
  | 59 => ⟨S_, .f32⟩
  | 60 => ⟨S8x64, .f32⟩
  | 61 => ⟨S2x2048x8x64, .f32⟩
  | 62 => ⟨S_, .f32⟩
  | 63 => ⟨S2x2048x8, .f32⟩
  | 64 => ⟨S2x2048x8x1, .f32⟩
  | 65 => ⟨S2x2048x8x64, .f32⟩
  | 66 => ⟨S2x2048x8x64, .f32⟩
  | 67 => ⟨S2x2048x8x1, .f32⟩
  | 68 => ⟨S_, .f32⟩
  | 69 => ⟨S2x2048x8x1, .f32⟩
  | 70 => ⟨S2x2048x8x1, .f32⟩
  | 71 => ⟨S_, .f32⟩
  | 72 => ⟨S2x2048x8, .f32⟩
  | 73 => ⟨S2x2048x8x64, .f32⟩
  | 74 => ⟨S2x2048x8x64, .f32⟩
  | 75 => ⟨S2x2048x8x64, .f32⟩
  | 76 => ⟨S2x2048x8x64, .f32⟩
  | 77 => ⟨S2x2048x8x64, .f32⟩
  | 78 => ⟨S4096x128, .f32⟩
  | 79 => ⟨S_, .f32⟩
  | 80 => ⟨S2x2048x2x64, .f32⟩
  | 81 => ⟨S4096x128, .f32⟩
  | 82 => ⟨S4096x256, .f32⟩
  | 83 => ⟨S4096x512, .f32⟩
  | 84 => ⟨S4096x512, .bf16⟩
  | 85 => ⟨S4096x256, .bf16⟩
  | 86 => ⟨S1x512, .f32⟩
  | 87 => ⟨S1x128, .f32⟩
  | _ => ⟨S2x2048x8x64, .f32⟩

abbrev hbmTy (i : Nat) : BufTy := match i / 128 with
  | 0 => hbmTy0_0 i
  | 1 => hbmTy0_1 i
  | _ => ⟨S2x2048x8x64, .f32⟩

abbrev bufTy : (tb : Table) → Fin (tcTables nBuf tb) → BufTy
  | .hbm, ⟨i, _⟩ => hbmTy i
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_13 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_cst_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_17 : Ref sig .tc := ⟨.hbm, 144, rfl⟩
abbrev main_v118 : Ref sig .tc := ⟨.hbm, 145, rfl⟩
abbrev main_v119 : Ref sig .tc := ⟨.hbm, 146, rfl⟩
abbrev main_cst_18 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_19 : Ref sig .tc := ⟨.hbm, 153, rfl⟩
abbrev main_v125 : Ref sig .tc := ⟨.hbm, 154, rfl⟩
abbrev main_v126 : Ref sig .tc := ⟨.hbm, 155, rfl⟩
abbrev main_cst_20 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_21 : Ref sig .tc := ⟨.hbm, 176, rfl⟩
abbrev main_v146 : Ref sig .tc := ⟨.hbm, 177, rfl⟩
abbrev main_cst_22 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_23 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_24 : Ref sig .tc := ⟨.hbm, 187, rfl⟩
abbrev main_v154 : Ref sig .tc := ⟨.hbm, 188, rfl⟩
abbrev main_v155 : Ref sig .tc := ⟨.hbm, 189, rfl⟩
abbrev main_cst_25 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_26 : Ref sig .tc := ⟨.hbm, 196, rfl⟩
abbrev main_v161 : Ref sig .tc := ⟨.hbm, 197, rfl⟩
abbrev main_v162 : Ref sig .tc := ⟨.hbm, 198, rfl⟩
abbrev main_cst_27 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_cst_28 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩

abbrev nD : Nat := 1
abbrev τ : Topo := Topo.v7x

variable {F : FTy → Type} [FloatOps F]
-- ==== SwaFwd.lean ====
abbrev S2x2048x8x64 : Shape := ⟨4, ![2, 2048, 8, 64]⟩
abbrev S2x2048x2x64 : Shape := ⟨4, ![2, 2048, 2, 64]⟩
abbrev S8 : Shape := ⟨1, ![8]⟩
abbrev S_ : Shape := ⟨0, ![]⟩
abbrev S4096x512 : Shape := ⟨2, ![4096, 512]⟩
abbrev S2x2048x2x1x64 : Shape := ⟨5, ![2, 2048, 2, 1, 64]⟩
abbrev S2x2048x2x2x64 : Shape := ⟨5, ![2, 2048, 2, 2, 64]⟩
abbrev S4096x256 : Shape := ⟨2, ![4096, 256]⟩
abbrev S512x512 : Shape := ⟨2, ![512, 512]⟩
abbrev S128x256 : Shape := ⟨2, ![128, 256]⟩
abbrev S512x256 : Shape := ⟨2, ![512, 256]⟩
abbrev S256x128 : Shape := ⟨2, ![256, 128]⟩
abbrev S256x256 : Shape := ⟨2, ![256, 256]⟩
abbrev S128x128 : Shape := ⟨2, ![128, 128]⟩
abbrev S512x128 : Shape := ⟨2, ![512, 128]⟩
abbrev S256x512 : Shape := ⟨2, ![256, 512]⟩
abbrev S256x1 : Shape := ⟨2, ![256, 1]⟩
abbrev S1 : Shape := ⟨1, ![1]⟩
abbrev S256 : Shape := ⟨1, ![256]⟩

abbrev nBuf : Space → Nat
  | .hbm => 18
  | .vmem => 12
  | .smem => 1
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2x64, .f32⟩
  | .hbm, ⟨3, _⟩ => ⟨S8, .f32⟩
  | .hbm, ⟨4, _⟩ => ⟨S_, .f32⟩
  | .hbm, ⟨5, _⟩ => ⟨S2x2048x8x64, .f32⟩
  | .hbm, ⟨6, _⟩ => ⟨S2x2048x8x64, .f32⟩
  | .hbm, ⟨7, _⟩ => ⟨S4096x512, .f32⟩
  | .hbm, ⟨8, _⟩ => ⟨S4096x512, .bf16⟩
  | .hbm, ⟨9, _⟩ => ⟨S2x2048x2x1x64, .f32⟩
  | .hbm, ⟨10, _⟩ => ⟨S2x2048x2x2x64, .f32⟩
  | .hbm, ⟨11, _⟩ => ⟨S4096x256, .f32⟩
  | .hbm, ⟨12, _⟩ => ⟨S4096x256, .bf16⟩
  | .hbm, ⟨13, _⟩ => ⟨S2x2048x2x1x64, .f32⟩
  | .hbm, ⟨14, _⟩ => ⟨S2x2048x2x2x64, .f32⟩
  | .hbm, ⟨15, _⟩ => ⟨S4096x256, .f32⟩
  | .hbm, ⟨16, _⟩ => ⟨S4096x256, .bf16⟩
  | .hbm, ⟨17, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c0_i32 : BitVec 32 := 0#32
  let v3 : BitVec 1 := Scalar.cmpi .sgt arg1 c0_i32
  let c1_i32 : BitVec 32 := 1#32
  let c0_i32_1 : BitVec 32 := 0#32
  let v4 : BitVec 32 := Scalar.select v3 c1_i32 c0_i32_1
  let v5 : BitVec 32 := Scalar.subi v2 v4
  let c0_i32_2 : BitVec 32 := 0#32
  let c0_i32_3 : BitVec 32 := 0#32
  ![v5.toNat, c0_i32_2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c0_i32 : BitVec 32 := 0#32
  let v3 : BitVec 1 := Scalar.cmpi .sgt arg1 c0_i32
  let c1_i32 : BitVec 32 := 1#32
  let c0_i32_1 : BitVec 32 := 0#32
  let v4 : BitVec 32 := Scalar.select v3 c1_i32 c0_i32_1
  let v5 : BitVec 32 := Scalar.subi v2 v4
  let c0_i32_2 : BitVec 32 := 0#32
  let c0_i32_3 : BitVec 32 := 0#32
  ![v5.toNat, c0_i32_2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaFwdIdeal.lean ====
variable {F : FTy → Type} [FloatOps F] [Named F]
def κ : String → Option EReal := fun
  | "mask" => some ⊥
  | _ => none
-- ==== SwaFwdRefIdeal.lean ====
abbrev S2x2048x8x64 : Shape := ⟨4, ![2, 2048, 8, 64]⟩
abbrev S2x2048x2x64 : Shape := ⟨4, ![2, 2048, 2, 64]⟩
abbrev S8 : Shape := ⟨1, ![8]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S_ : Shape := ⟨0, ![]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x2048x512 : Shape := ⟨3, ![2, 2048, 512]⟩
abbrev S4096x512 : Shape := ⟨2, ![4096, 512]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x2x64, .f32⟩
  | .hbm, ⟨2, _⟩ => ⟨S2x2048x2x64, .f32⟩
  | .hbm, ⟨3, _⟩ => ⟨S8, .f32⟩
  | .hbm, ⟨4, _⟩ => ⟨S2x16x128x2x4x64, .f32⟩
  | .hbm, ⟨5, _⟩ => ⟨S2x16x128x2x64, .f32⟩
  | .hbm, ⟨6, _⟩ => ⟨S2x16x128x2x64, .f32⟩
  | .hbm, ⟨7, _⟩ => ⟨S2x1x128x2x64, .f32⟩
  | .hbm, ⟨8, _⟩ => ⟨S_, .f32⟩
  | .hbm, ⟨9, _⟩ => ⟨S2x1x128x2x64, .f32⟩
  | .hbm, ⟨10, _⟩ => ⟨S2x15x128x2x64, .f32⟩
  | .hbm, ⟨11, _⟩ => ⟨S2x16x128x2x64, .f32⟩
  | .hbm, ⟨12, _⟩ => ⟨S2x1x128x2x64, .f32⟩
  | .hbm, ⟨13, _⟩ => ⟨S_, .f32⟩
  | .hbm, ⟨14, _⟩ => ⟨S2x1x128x2x64, .f32⟩
  | .hbm, ⟨15, _⟩ => ⟨S2x15x128x2x64, .f32⟩
  | .hbm, ⟨16, _⟩ => ⟨S2x16x128x2x64, .f32⟩
  | .hbm, ⟨17, _⟩ => ⟨S2x16x256x2x64, .f32⟩
  | .hbm, ⟨18, _⟩ => ⟨S2x16x256x2x64, .f32⟩
  | .hbm, ⟨19, _⟩ => ⟨S2x16x2x256x128x4, .f32⟩
  | .hbm, ⟨20, _⟩ => ⟨S2x16x2x4x128x256, .f32⟩
  | .hbm, ⟨21, _⟩ => ⟨S_, .f32⟩
  | .hbm, ⟨22, _⟩ => ⟨S2x16x2x4x128x256, .f32⟩
  | .hbm, ⟨23, _⟩ => ⟨S2x16x2x4x128x256, .f32⟩
  | .hbm, ⟨24, _⟩ => ⟨S16x128x256, .i32⟩
  | .hbm, ⟨25, _⟩ => ⟨S16x128x256, .i32⟩
  | .hbm, ⟨26, _⟩ => ⟨S16x128x256, .i32⟩
  | .hbm, ⟨27, _⟩ => ⟨S_, .i32⟩
  | .hbm, ⟨28, _⟩ => ⟨S16x128x256, .i32⟩
  | .hbm, ⟨29, _⟩ => ⟨S16x128x256, .i32⟩
  | .hbm, ⟨30, _⟩ => ⟨S_, .i32⟩
  | .hbm, ⟨31, _⟩ => ⟨S16x128x256, .i32⟩
  | .hbm, ⟨32, _⟩ => ⟨S16x128x256, .i32⟩
  | .hbm, ⟨33, _⟩ => ⟨S16x128x256, .i32⟩
  | .hbm, ⟨34, _⟩ => ⟨S_, .i32⟩
  | .hbm, ⟨35, _⟩ => ⟨S16x128x256, .i32⟩
  | .hbm, ⟨36, _⟩ => ⟨S16x128x256, .i32⟩
  | .hbm, ⟨37, _⟩ => ⟨S16x128x256, .i32⟩
  | .hbm, ⟨38, _⟩ => ⟨S_, .i32⟩
  | .hbm, ⟨39, _⟩ => ⟨S16x128x256, .i32⟩
  | .hbm, ⟨40, _⟩ => ⟨S16x128x256, .i1⟩
  | .hbm, ⟨41, _⟩ => ⟨S_, .i32⟩
  | .hbm, ⟨42, _⟩ => ⟨S16x128x256, .i32⟩
  | .hbm, ⟨43, _⟩ => ⟨S16x128x256, .i1⟩
  | .hbm, ⟨44, _⟩ => ⟨S16x128x256, .i1⟩
  | .hbm, ⟨45, _⟩ => ⟨S_, .i32⟩
  | .hbm, ⟨46, _⟩ => ⟨S16x128x256, .i32⟩
  | .hbm, ⟨47, _⟩ => ⟨S16x128x256, .i1⟩
  | .hbm, ⟨48, _⟩ => ⟨S16x128x256, .i1⟩
  | .hbm, ⟨49, _⟩ => ⟨S1x16x1x1x128x256, .i1⟩
  | .hbm, ⟨50, _⟩ => ⟨S_, .f32⟩
  | .hbm, ⟨51, _⟩ => ⟨S_, .f32⟩
  | .hbm, ⟨52, _⟩ => ⟨S2x16x2x4x128x256, .i1⟩
  | .hbm, ⟨53, _⟩ => ⟨S2x16x2x4x128x256, .f32⟩
  | .hbm, ⟨54, _⟩ => ⟨S2x16x2x4x128x256, .f32⟩
  | .hbm, ⟨55, _⟩ => ⟨S2x4, .f32⟩
  | .hbm, ⟨56, _⟩ => ⟨S1x1x2x4x1x1, .f32⟩
  | .hbm, ⟨57, _⟩ => ⟨S_, .f32⟩
  | .hbm, ⟨58, _⟩ => ⟨S2x16x2x4x128, .f32⟩
  | .hbm, ⟨59, _⟩ => ⟨S2x16x2x4x128x1, .f32⟩
  | .hbm, ⟨60, _⟩ => ⟨S2x16x2x4x128x1, .f32⟩
  | .hbm, ⟨61, _⟩ => ⟨S2x16x2x4x128x1, .f32⟩
  | .hbm, ⟨62, _⟩ => ⟨S2x16x2x4x128x256, .f32⟩
  | .hbm, ⟨63, _⟩ => ⟨S2x16x2x4x128x256, .f32⟩
  | .hbm, ⟨64, _⟩ => ⟨S2x16x2x4x128x256, .f32⟩
  | .hbm, ⟨65, _⟩ => ⟨S_, .f32⟩
  | .hbm, ⟨66, _⟩ => ⟨S2x16x2x4x128, .f32⟩
  | .hbm, ⟨67, _⟩ => ⟨S2x16x2x4x128x1, .f32⟩
  | .hbm, ⟨68, _⟩ => ⟨S2x16x2x4x128x1, .f32⟩
  | .hbm, ⟨69, _⟩ => ⟨S2x16x2x4x128x1, .f32⟩
  | .hbm, ⟨70, _⟩ => ⟨S2x16x2x4x128x1, .f32⟩
  | .hbm, ⟨71, _⟩ => ⟨S2x16x2x4x128x1, .f32⟩
  | .hbm, ⟨72, _⟩ => ⟨S2x16x2x4x128x256, .f32⟩
  | .hbm, ⟨73, _⟩ => ⟨S2x16x2x4x128x256, .f32⟩
  | .hbm, ⟨74, _⟩ => ⟨S2x16x2x64x4x128, .f32⟩
  | .hbm, ⟨75, _⟩ => ⟨S2x16x128x2x4x64, .f32⟩
  | .hbm, ⟨76, _⟩ => ⟨S2x2048x512, .f32⟩
  | .hbm, ⟨77, _⟩ => ⟨S4096x512, .f32⟩
  | .hbm, ⟨78, _⟩ => ⟨S4096x512, .bf16⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.Lift.lean ====
/- Arrays of real numbers among the arrays of extended reals, and how the vector operations act on them.

   A proof over the reals first turns every finite argument array into one of these (`mat f`, a matrix of reals), then
   computes each operation on them; what comes out is again one of these, so that the whole calculation happens in
   the real numbers, where sums distribute. -/
module

public import Idealize.ShloMosaic.Lib.ValueIdx
public import Idealize.ShloMosaic.Lib.IdealHost
public import Idealize.ShloMosaic.Lib.MatmulPlain
public import Idealize.ShloMosaic.Lib.Pipeline.Value
public import Idealize.ShloMosaic.PureOps.Ideal.Laws

@[expose] public section

set_option maxRecDepth 16384

noncomputable section

open Idealize.ShloMosaic Idealize.ShloMosaic.ValueIdx
open scoped BigOperators

namespace Cert.Lift

/-- The inclusion of the reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An array of reals as an array of extended reals. -/
def up {s : Shape} {φ : FTy} (f : s.Idx → ℝ) : FVec Ideal s φ := fun j => ((f j : ℝ) : EReal)

/-- A matrix of reals as an array of extended reals. -/
def mat {m n : ℕ} {φ : FTy} (f : Fin m → Fin n → ℝ) : FVec Ideal ⟨2, ![m, n]⟩ φ := fun j => ((f (j 0) (j 1) : ℝ) : EReal)

/-- The same at a fixed format: 32-bit. -/
abbrev mf {m n : ℕ} (f : Fin m → Fin n → ℝ) : FVec Ideal ⟨2, ![m, n]⟩ .f32 := mat f
/-- The same at a fixed format: 16-bit. -/
abbrev mb {m n : ℕ} (f : Fin m → Fin n → ℝ) : FVec Ideal ⟨2, ![m, n]⟩ .bf16 := mat f

/-- The logistic function. -/
def sg (z : ℝ) : ℝ := 1 / (1 + Real.exp (-z))

section ops
variable {s : Shape} {φ ψ : FTy}

theorem up_apply (f : s.Idx → ℝ) (j : s.Idx) : (up f : FVec Ideal s φ) j = ((f j : ℝ) : EReal) := rfl

theorem mat_apply {m n : ℕ} (f : Fin m → Fin n → ℝ) (r : Fin m) (c : Fin n) :
    (mat f : FVec Ideal _ φ) (ix2 r c) = ((f r c : ℝ) : EReal) := rfl

/-- An array is a matrix of reals when it is at every pair of coordinates. -/
theorem mat_ext {m n : ℕ} {X : FVec Ideal ⟨2, ![m, n]⟩ φ} {f : Fin m → Fin n → ℝ}
    (h : ∀ r c, X (ix2 r c) = ((f r c : ℝ) : EReal)) : X = mat f := by
  funext j
  obtain ⟨r, t, rfl⟩ : ∃ (r : Fin m) (t : Fin n), j = ix2 r t := ⟨j 0, j 1, eq_ix2 j⟩
  exact h r t

variable {m n : ℕ} (a b : Fin m → Fin n → ℝ)

theorem addf_mat : addf (mat a) (mat b) = (mat (fun r c => a r c + b r c) : FVec Ideal _ φ) :=
  funext fun _ => (EReal.coe_add _ _).symm
theorem subf_mat : subf (mat a) (mat b) = (mat (fun r c => a r c - b r c) : FVec Ideal _ φ) :=
  funext fun _ => (EReal.coe_sub _ _).symm
theorem mulf_mat : mulf (mat a) (mat b) = (mat (fun r c => a r c * b r c) : FVec Ideal _ φ) :=
  funext fun _ => (EReal.coe_mul _ _).symm
theorem exp_mat : Idealize.ShloMosaic.exp (mat a) = (mat (fun r c => Real.exp (a r c)) : FVec Ideal _ φ) :=
  funext fun _ => rfl
theorem divf_mat (h : ∀ r c, b r c ≠ 0) : divf (mat a) (mat b) = (mat (fun r c => a r c / b r c) : FVec Ideal _ φ) :=
  funext fun j => (Ideal.div_coe (h (j 0) (j 1)) _).trans
    ((EReal.coe_mul _ _).symm.trans (congrArg Real.toEReal (mul_one_div _ _)))
theorem truncf_mat (h : ψ.bits < φ.bits) : truncf ψ (mat a : FVec Ideal _ φ) h = mat a := rfl
theorem extf_mat (h : φ.bits < ψ.bits) : extf ψ (mat a : FVec Ideal _ φ) h = mat a := rfl

theorem broadcast_one : broadcast ⟨2, ![m, n]⟩ (Scalar.ofBits (F := Ideal) .f32 0x3F800000#32) = (mat (fun _ _ => 1) : FVec Ideal ⟨2, ![m, n]⟩ .f32) :=
  funext fun _ => Ideal.ofBits_one_f32
theorem broadcast_zero : broadcast ⟨2, ![m, n]⟩ (Scalar.ofBits (F := Ideal) .f32 0x00000000#32) = (mat (fun _ _ => 0) : FVec Ideal ⟨2, ![m, n]⟩ .f32) :=
  funext fun _ => Ideal.ofBits_zero_f32
theorem constant_zero : constant (F := Ideal) ⟨2, ![m, n]⟩ .f32 0x00000000#32 = (mat (fun _ _ => 0) : FVec Ideal ⟨2, ![m, n]⟩ .f32) :=
  funext fun _ => Ideal.ofBits_zero_f32

/-- A product contracting the left operand's columns with the right operand's rows. -/
theorem matmul_nn {M K N : ℕ} {φ₁ φ₂ : FTy} (d : DotDims ⟨2, ![M, K]⟩ ⟨2, ![K, N]⟩ ⟨2, ![M, N]⟩) (prec : Option ContractPrecision)
    (hd : d = DotDims.plain M K N) (a : Fin M → Fin K → ℝ) (b : Fin K → Fin N → ℝ) (c : Fin M → Fin N → ℝ) :
    FloatOps.matmul d prec (mat a : FVec Ideal _ φ₁) (mat b : FVec Ideal _ φ₂) (mat c)
      = mat (fun i j => c i j + ∑ k, a i k * b k j) := by
  subst hd
  refine mat_ext fun r t => ?_
  rw [Ideal.matmul_plain_apply]
  simp only [mat_apply, ← EReal.coe_mul, ← coe_sum, ← EReal.coe_add]

/-- A product contracting both operands' columns. -/
theorem matmul_nt {M K N : ℕ} {φ₁ φ₂ : FTy} (d : DotDims ⟨2, ![M, K]⟩ ⟨2, ![N, K]⟩ ⟨2, ![M, N]⟩) (prec : Option ContractPrecision)
    (hd : d = DotDims.transposedRhs M K N) (a : Fin M → Fin K → ℝ) (b : Fin N → Fin K → ℝ) (c : Fin M → Fin N → ℝ) :
    FloatOps.matmul d prec (mat a : FVec Ideal _ φ₁) (mat b : FVec Ideal _ φ₂) (mat c)
      = mat (fun i j => c i j + ∑ k, a i k * b j k) := by
  subst hd
  refine mat_ext fun r t => ?_
  rw [Ideal.matmul_transposedRhs_apply]
  simp only [mat_apply, ← EReal.coe_mul, ← coe_sum, ← EReal.coe_add]

/-- A product contracting both operands' rows: its dimension numbers. -/
def rowsDims (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A product contracting both operands' rows. -/
theorem matmul_tn {M K N : ℕ} {φ₁ φ₂ : FTy} (wf : DotDims.WF ⟨2, ![K, M]⟩ ⟨2, ![K, N]⟩ ⟨2, ![M, N]⟩ [0] [0] [1] [1] [] [])
    (d : DotDims ⟨2, ![K, M]⟩ ⟨2, ![K, N]⟩ ⟨2, ![M, N]⟩) (prec : Option ContractPrecision)
    (hd : d = rowsDims M K N wf) (a : Fin K → Fin M → ℝ) (b : Fin K → Fin N → ℝ) (c : Fin M → Fin N → ℝ) :
    FloatOps.matmul d prec (mat a : FVec Ideal _ φ₁) (mat b : FVec Ideal _ φ₂) (mat c)
      = mat (fun i j => c i j + ∑ k, a k i * b k j) := by
  subst hd
  funext j
  have e := contrEquiv1_symm_val (rowsDims M K N wf) K rfl rfl
  rw [Ideal.matmul_apply, ← Equiv.sum_comp (contrEquiv1 (rowsDims M K N wf) K rfl rfl).symm]
  show _ = ((c (j 0) (j 1) + ∑ k, a k (j 0) * b k (j 1) : ℝ) : EReal)
  rw [EReal.coe_add, coe_sum]
  refine congrArg₂ (· + ·) rfl (Finset.sum_congr rfl fun k _ => ?_)
  rw [EReal.coe_mul]
  refine congrArg₂ (· * ·) (congrArg Real.toEReal ?_) (congrArg Real.toEReal ?_)
  · exact congrArg₂ a (Fin.ext (e k)) rfl
  · exact congrArg₂ b (Fin.ext (e k)) rfl

end ops

/-- The logistic function's denominator is not zero. -/
theorem den_ne (z : ℝ) : 1 + Real.exp (-z) ≠ 0 := by positivity

end Cert.Lift

end
-- ==== Proof.LiftNat.lean ====
/- Matrices of reals whose entries are said by numbers: slices, concatenations and sums of them are then said by shifting the
   numbers. -/
module

public import proofs.«01_k».proof.Proof.Lift
public import Idealize.ShloMosaic.Lib.ValueLayoutCasts

@[expose] public section

set_option maxRecDepth 16384

noncomputable section

open Idealize.ShloMosaic Idealize.ShloMosaic.ValueIdx
open scoped BigOperators

namespace Cert.Lift

/-- The matrix with entry `f r c` at row `r` and column `c`. -/
def nm {m n : ℕ} {φ : FTy} (f : ℕ → ℕ → ℝ) : FVec Ideal ⟨2, ![m, n]⟩ φ := mat fun r c => f r.val c.val

/-- The one-bit matrix that holds where `P` does. -/
def nb {m n : ℕ} (P : ℕ → ℕ → Prop) [∀ r c, Decidable (P r c)] : IVec ⟨2, ![m, n]⟩ 1 := fun j => BitVec.ofBool (decide (P (j 0).val (j 1).val))

section ops
variable {m n : ℕ} {φ ψ : FTy}

theorem nm_apply (f : ℕ → ℕ → ℝ) (j : Shape.Idx ⟨2, ![m, n]⟩) : (nm f : FVec Ideal ⟨2, ![m, n]⟩ φ) j = ((f (j 0).val (j 1).val : ℝ) : EReal) := rfl

theorem nm_congr {f g : ℕ → ℕ → ℝ} (h : ∀ r < m, ∀ c < n, f r c = g r c) : (nm f : FVec Ideal ⟨2, ![m, n]⟩ φ) = nm g :=
  funext fun j => congrArg Real.toEReal (h _ (j 0).isLt _ (j 1).isLt)

/-- An array is `nm f` when it is at every pair of coordinates. -/
theorem nm_ext {X : FVec Ideal ⟨2, ![m, n]⟩ φ} {f : ℕ → ℕ → ℝ} (h : ∀ (r : Fin m) (c : Fin n), X (ValueIdx.ix2 r c) = ((f r.val c.val : ℝ) : EReal)) : X = nm f :=
  mat_ext h

variable (a b : ℕ → ℕ → ℝ)

theorem addf_nm : addf (nm a) (nm b) = (nm (fun r c => a r c + b r c) : FVec Ideal ⟨2, ![m, n]⟩ φ) := addf_mat _ _
theorem subf_nm : subf (nm a) (nm b) = (nm (fun r c => a r c - b r c) : FVec Ideal ⟨2, ![m, n]⟩ φ) := subf_mat _ _
theorem mulf_nm : mulf (nm a) (nm b) = (nm (fun r c => a r c * b r c) : FVec Ideal ⟨2, ![m, n]⟩ φ) := mulf_mat _ _
theorem exp_nm : Idealize.ShloMosaic.exp (nm a) = (nm (fun r c => Real.exp (a r c)) : FVec Ideal ⟨2, ![m, n]⟩ φ) := exp_mat _
theorem truncf_nm (h : ψ.bits < φ.bits) : truncf ψ (nm a : FVec Ideal ⟨2, ![m, n]⟩ φ) h = nm a := rfl
theorem extf_nm (h : φ.bits < ψ.bits) : extf ψ (nm a : FVec Ideal ⟨2, ![m, n]⟩ φ) h = nm a := rfl

theorem splat_nm (k : BitVec 32) (x : ℝ) (hk : Ideal.ofBits .f32 k = ((x : ℝ) : EReal)) :
    broadcast ⟨2, ![m, n]⟩ (Scalar.ofBits (F := Ideal) .f32 k) = (nm (fun _ _ => x) : FVec Ideal ⟨2, ![m, n]⟩ .f32) := funext fun _ => hk
theorem zero_nm : broadcast ⟨2, ![m, n]⟩ (Scalar.ofBits (F := Ideal) .f32 0x00000000#32) = (nm (fun _ _ => 0) : FVec Ideal ⟨2, ![m, n]⟩ .f32) :=
  splat_nm _ _ Ideal.ofBits_zero_f32
theorem constant_nm : constant (F := Ideal) ⟨2, ![m, n]⟩ .f32 0x00000000#32 = (nm (fun _ _ => 0) : FVec Ideal ⟨2, ![m, n]⟩ .f32) :=
  funext fun _ => Ideal.ofBits_zero_f32

theorem select_nm (P : ℕ → ℕ → Prop) [∀ r c, Decidable (P r c)] :
    select (nb P) (nm a) (nm b) = (nm (fun r c => if P r c then a r c else b r c) : FVec Ideal ⟨2, ![m, n]⟩ φ) := by
  funext j
  show Scalar.select (BitVec.ofBool (decide (P (j 0).val (j 1).val))) _ _ = _
  rw [nm_apply, nm_apply, nm_apply]
  by_cases h : P (j 0).val (j 1).val <;> simp [h, Scalar.select]

/-- Products: rows by columns, rows by rows, columns by columns, onto zero. -/
theorem matmul_nn_nm {M K N : ℕ} {φ₁ φ₂ : FTy} (d : DotDims ⟨2, ![M, K]⟩ ⟨2, ![K, N]⟩ ⟨2, ![M, N]⟩) (hd : d = DotDims.plain M K N) :
    matmul d none (nm a : FVec Ideal _ φ₁) (nm b : FVec Ideal _ φ₂) (constant ⟨2, ![M, N]⟩ .f32 0x00000000#32)
      = nm (fun i j => ∑ k ∈ Finset.range K, a i k * b k j) := by
  rw [constant_nm]
  refine (matmul_nn d none hd _ _ _).trans (mat_ext fun r c => ?_)
  rw [mat_apply, zero_add]
  exact congrArg Real.toEReal (Finset.sum_range fun k => a r.val k * b k c.val).symm
theorem matmul_nt_nm {M K N : ℕ} {φ₁ φ₂ : FTy} (d : DotDims ⟨2, ![M, K]⟩ ⟨2, ![N, K]⟩ ⟨2, ![M, N]⟩) (hd : d = DotDims.transposedRhs M K N) :
    matmul d none (nm a : FVec Ideal _ φ₁) (nm b : FVec Ideal _ φ₂) (constant ⟨2, ![M, N]⟩ .f32 0x00000000#32)
      = nm (fun i j => ∑ k ∈ Finset.range K, a i k * b j k) := by
  rw [constant_nm]
  refine (matmul_nt d none hd _ _ _).trans (mat_ext fun r c => ?_)
  rw [mat_apply, zero_add]
  exact congrArg Real.toEReal (Finset.sum_range fun k => a r.val k * b c.val k).symm
theorem matmul_tn_nm {M K N : ℕ} {φ₁ φ₂ : FTy} (wf : DotDims.WF ⟨2, ![K, M]⟩ ⟨2, ![K, N]⟩ ⟨2, ![M, N]⟩ [0] [0] [1] [1] [] [])
    (d : DotDims ⟨2, ![K, M]⟩ ⟨2, ![K, N]⟩ ⟨2, ![M, N]⟩) (hd : d = rowsDims M K N wf) :
    matmul d none (nm a : FVec Ideal _ φ₁) (nm b : FVec Ideal _ φ₂) (constant ⟨2, ![M, N]⟩ .f32 0x00000000#32)
      = nm (fun i j => ∑ k ∈ Finset.range K, a k i * b k j) := by
  rw [constant_nm]
  refine (matmul_tn wf d none hd _ _ _).trans (mat_ext fun r c => ?_)
  rw [mat_apply, zero_add]
  exact congrArg Real.toEReal (Finset.sum_range fun k => a k r.val * b k c.val).symm

/-- One matrix over another. -/
theorem concat_rows {p q t : ℕ} (h : Shape.Concatenates [⟨2, ![p, n]⟩, ⟨2, ![q, n]⟩] ⟨2, ![t, n]⟩ 0) (ht : t = p + q) :
    concatenate ⟨2, ![t, n]⟩ 0 [⟨⟨2, ![p, n]⟩, (nm a : FVec Ideal _ φ)⟩, ⟨⟨2, ![q, n]⟩, nm b⟩] h = (nm (fun r c => if r < p then a r c else b (r - p) c) : FVec Ideal _ φ) := by
  subst ht
  refine nm_ext fun r c => ?_
  split
  · next hr =>
    refine concatenate_pair_apply_left 0 (nm a) (nm b) h (ValueIdx.ix2 r c) rfl (ValueIdx.ix2 (⟨r.val, hr⟩ : Fin p) c) fun i => ?_
    match i with
    | ⟨0, _⟩ => rfl
    | ⟨1, _⟩ => rfl
  · next hr =>
    refine concatenate_pair_apply_right 0 (nm a) (nm b) h (ValueIdx.ix2 r c) rfl rfl (ValueIdx.ix2 (⟨r.val - p, by omega⟩ : Fin q) c) (fun i hi => ?_)
      (by show r.val - p + p = r.val; omega)
    match i, hi with
    | ⟨0, _⟩, hi => exact absurd rfl hi
    | ⟨1, _⟩, _ => rfl
/-- One matrix beside another. -/
theorem concat_cols {p q t : ℕ} (h : Shape.Concatenates [⟨2, ![m, p]⟩, ⟨2, ![m, q]⟩] ⟨2, ![m, t]⟩ 1) (ht : t = p + q) :
    concatenate ⟨2, ![m, t]⟩ 1 [⟨⟨2, ![m, p]⟩, (nm a : FVec Ideal _ φ)⟩, ⟨⟨2, ![m, q]⟩, nm b⟩] h = (nm (fun r c => if c < p then a r c else b r (c - p)) : FVec Ideal _ φ) := by
  subst ht
  refine nm_ext fun r c => ?_
  split
  · next hr =>
    refine concatenate_pair_apply_left 1 (nm a) (nm b) h (ValueIdx.ix2 r c) rfl (ValueIdx.ix2 r (⟨c.val, hr⟩ : Fin p)) fun i => ?_
    match i with
    | ⟨0, _⟩ => rfl
    | ⟨1, _⟩ => rfl
  · next hr =>
    refine concatenate_pair_apply_right 1 (nm a) (nm b) h (ValueIdx.ix2 r c) rfl rfl (ValueIdx.ix2 r (⟨c.val - p, by omega⟩ : Fin q)) (fun i hi => ?_)
      (by show c.val - p + p = c.val; omega)
    match i, hi with
    | ⟨0, _⟩, _ => rfl
    | ⟨1, _⟩, hi => exact absurd rfl hi

/-- A part of a matrix. -/
theorem slice_nm {m' n' : ℕ} (o₀ o₁ : ℕ) (h : Shape.Slices ⟨2, ![m, n]⟩ ![o₀, o₁] ⟨2, ![m', n']⟩) :
    extractStridedSlice ⟨2, ![m', n']⟩ ![o₀, o₁] (nm a : FVec Ideal ⟨2, ![m, n]⟩ φ) h = (nm (fun r c => a (o₀ + r) (o₁ + c)) : FVec Ideal _ φ) := by
  funext j
  rw [nm_apply]
  rfl

/-- A column spread over columns. -/
theorem spread_nm (h : Shape.Broadcasts ⟨2, ![m, 1]⟩ ⟨2, ![m, n]⟩) :
    broadcastTo ⟨2, ![m, n]⟩ (nm a : FVec Ideal ⟨2, ![m, 1]⟩ φ) h = (nm (fun r _ => a r 0) : FVec Ideal _ φ) := by
  funext j
  refine broadcastTo_apply (k := ValueIdx.ix2 (j 0) (0 : Fin 1)) _ h j (fun i => ?_)
  match i with
  | ⟨0, _⟩ => show (j 0).val = if m = 1 then 0 else (j 0).val; have := (j 0).isLt; simp only [Matrix.cons_val_zero] at this; split <;> omega
  | ⟨1, _⟩ => rfl

/-- A row sum as a column. -/
theorem rowSum_nm (hr : Shape.Reduces ⟨2, ![m, n]⟩ [1] ⟨1, ![m]⟩) (hφ) (hacc) (hc : Shape.ShapeCasts ⟨1, ![m]⟩ ⟨2, ![m, 1]⟩) :
    shapeCast ⟨2, ![m, 1]⟩ (multiReduction .add [1] ⟨1, ![m]⟩ (nm a : FVec Ideal ⟨2, ![m, n]⟩ .f32) 0x00000000#32 hr hφ hacc) hc
      = (nm (fun r _ => ∑ k ∈ Finset.range n, a r k) : FVec Ideal _ .f32) := by
  refine nm_ext fun r c => ?_
  rw [shapeCast_a_a1_apply]
  refine (Ideal.multiReduction_add_single _ _ _ _ _ _).trans ?_
  rw [Finset.sum_range, coe_sum]
  refine Finset.sum_congr rfl fun k _ => ?_
  rw [nm_apply]
  refine congrArg Real.toEReal (congrArg₂ a ?_ ?_)
  · rw [Shape.Reduces.lift_val]
    simp [Shape.Reduces.liftVal]
  · rw [Shape.Reduces.lift_val]
    simp [Shape.Reduces.liftVal]

end ops

end Cert.Lift

end
-- ==== Proof.LiftHost.lean ====
/- Host operations on matrices of real numbers, and the reading of a finiteness precondition: an argument that passes it
   is a matrix of reals. -/
module

public import proofs.«01_k».proof.Proof.Lift
public import Idealize.ShloMosaic.Lib.ReduceAll

@[expose] public section

set_option maxRecDepth 16384

noncomputable section

open Idealize.ShloMosaic Idealize.ShloMosaic.ValueIdx
open scoped BigOperators

namespace Cert.Lift

section ops
variable {m n : ℕ} {φ ψ : FTy} (a b : Fin m → Fin n → ℝ)

theorem hostNegf_mat : Host.negf (mat a) = (mat (fun r c => -a r c) : FVec Ideal _ φ) :=
  funext fun _ => (EReal.coe_neg _).symm
theorem hostExp_mat : Host.exp (mat a) = (mat (fun r c => Real.exp (a r c)) : FVec Ideal _ φ) :=
  funext fun _ => rfl
theorem hostDivf_mat (h : ∀ r c, b r c ≠ 0) : Host.divf (mat a) (mat b) = (mat (fun r c => a r c / b r c) : FVec Ideal _ φ) :=
  divf_mat a b h

/-- A scalar constant spread over a matrix. -/
theorem spread_mat (dims : Fin 0 → Fin 2) (hb : Shape.BroadcastsInDim ⟨0, ![]⟩ ⟨2, ![m, n]⟩ dims) (k : BitVec 32) (x : ℝ)
    (hk : Ideal.ofBits .f32 k = ((x : ℝ) : EReal)) :
    broadcastInDim ⟨2, ![m, n]⟩ dims hb (constant (F := Ideal) ⟨0, ![]⟩ .f32 k) = (mat (fun _ _ => x) : FVec Ideal ⟨2, ![m, n]⟩ .f32) :=
  funext fun _ => hk

/-- The host's product is the kernel's onto a zero accumulator. -/
theorem hostDot_nn {M K N : ℕ} {φ₁ φ₂ : FTy} (d : DotDims ⟨2, ![M, K]⟩ ⟨2, ![K, N]⟩ ⟨2, ![M, N]⟩)
    (hd : d = DotDims.plain M K N) (a : Fin M → Fin K → ℝ) (b : Fin K → Fin N → ℝ) :
    Host.dotGeneral d none (mat a : FVec Ideal _ φ₁) (mat b : FVec Ideal _ φ₂) = mat (fun i j => ∑ k, a i k * b k j) :=
  (show _ = FloatOps.matmul d none (mat a : FVec Ideal _ φ₁) (mat b : FVec Ideal _ φ₂) (mat fun _ _ => 0) from rfl).trans
    ((matmul_nn d none hd a b _).trans (by simp only [zero_add]))
theorem hostDot_nt {M K N : ℕ} {φ₁ φ₂ : FTy} (d : DotDims ⟨2, ![M, K]⟩ ⟨2, ![N, K]⟩ ⟨2, ![M, N]⟩)
    (hd : d = DotDims.transposedRhs M K N) (a : Fin M → Fin K → ℝ) (b : Fin N → Fin K → ℝ) :
    Host.dotGeneral d none (mat a : FVec Ideal _ φ₁) (mat b : FVec Ideal _ φ₂) = mat (fun i j => ∑ k, a i k * b j k) :=
  (show _ = FloatOps.matmul d none (mat a : FVec Ideal _ φ₁) (mat b : FVec Ideal _ φ₂) (mat fun _ _ => 0) from rfl).trans
    ((matmul_nt d none hd a b _).trans (by simp only [zero_add]))
theorem hostDot_tn {M K N : ℕ} {φ₁ φ₂ : FTy} (wf : DotDims.WF ⟨2, ![K, M]⟩ ⟨2, ![K, N]⟩ ⟨2, ![M, N]⟩ [0] [0] [1] [1] [] [])
    (d : DotDims ⟨2, ![K, M]⟩ ⟨2, ![K, N]⟩ ⟨2, ![M, N]⟩) (hd : d = rowsDims M K N wf) (a : Fin K → Fin M → ℝ) (b : Fin K → Fin N → ℝ) :
    Host.dotGeneral d none (mat a : FVec Ideal _ φ₁) (mat b : FVec Ideal _ φ₂) = mat (fun i j => ∑ k, a k i * b k j) :=
  (show _ = FloatOps.matmul d none (mat a : FVec Ideal _ φ₁) (mat b : FVec Ideal _ φ₂) (mat fun _ _ => 0) from rfl).trans
    ((matmul_tn wf d none hd a b _).trans (by simp only [zero_add]))

end ops

/-- A sum over the indices of a rank-one array is one over its coordinate. -/
theorem sum_ix1 {n : ℕ} (f : Fin n → EReal) : ∑ j : (⟨1, ![n]⟩ : Shape).Idx, f (j 0) = ∑ r, f r :=
  Fintype.sum_equiv ⟨fun j => j 0, ix1, fun j => (eq_ix1 j).symm, fun _ => rfl⟩ _ _ fun _ => rfl

/-- The float word the preconditions compare against is `+∞`. -/
theorem ofBits_inf : Ideal.ofBits .f32 0x7F800000#32 = ⊤ := by
  simp [Ideal.ofBits, Ideal.ieee]

/-- An element that passes `|x| < ∞` is real. -/
theorem real_of_lt {x : EReal} (h : max x (-x) < ⊤) : x = ((x.toReal : ℝ) : EReal) := by
  refine (EReal.coe_toReal (fun e => ?_) (fun e => ?_)).symm <;> (subst e; simp at h)

/-- An array all of whose elements pass the test is the array of its real values. -/
theorem up_of_finite {s t u : Shape} {axes} [Subsingleton t.Idx] (x : FVec Ideal s .f32) (y : FVec Ideal s .f32)
    (hy : ∀ i, y i = ⊤) (init : u.Idx → BitVec 1) (h : s.ReducesTo axes t) (hu : 0 < u.numel) (j : t.Idx)
    (e : Host.reduce IntOp.andi (cmpf .olt (Host.absf x) y) init h hu j = 1#1) : x = up fun i => (x i).toReal := by
  funext i
  have e1 := Host.reduce_andi_all _ init h hu j e i
  refine real_of_lt ?_
  have e2 : Ideal.cmp .olt (max (x i) (-(x i))) (y i) = 1#1 := e1
  rw [hy i] at e2
  by_contra hn
  simp [Ideal.cmp, hn] at e2

theorem mat_of_finite {m n : ℕ} {t u : Shape} {axes} [Subsingleton t.Idx] (x : FVec Ideal ⟨2, ![m, n]⟩ .f32) (y : FVec Ideal ⟨2, ![m, n]⟩ .f32)
    (hy : ∀ i, y i = ⊤) (init : u.Idx → BitVec 1) (h : Shape.ReducesTo ⟨2, ![m, n]⟩ axes t) (hu : 0 < u.numel) (j : t.Idx)
    (e : Host.reduce IntOp.andi (cmpf .olt (Host.absf x) y) init h hu j = 1#1) : x = mf fun r c => (x (ix2 r c)).toReal :=
  mat_ext fun r c => congrFun (up_of_finite x y hy init h hu j e) (ix2 r c)

/-- The conjunction of two one-bit arrays of rank zero. -/
theorem andi_all {s : Shape} {p q : IVec s 1} (h : andi p q = fun _ => 1#1) : (p = fun _ => 1#1) ∧ q = fun _ => 1#1 := by
  have g : ∀ x y : BitVec 1, x &&& y = 1#1 → x = 1#1 ∧ y = 1#1 := by decide
  exact ⟨funext fun i => (g (p i) (q i) (congrFun h i)).1, funext fun i => (g (p i) (q i) (congrFun h i)).2⟩

end Cert.Lift

end
-- ==== Proof.LiftNorm.lean ====
/- Row and column sums, spreads and reciprocal square roots of matrices of real numbers: what a normalisation of rows is
   made of. -/
module

public import proofs.«01_k».proof.Proof.LiftHost
public import Idealize.ShloMosaic.Lib.ValueLayout

@[expose] public section

set_option maxRecDepth 16384

noncomputable section

open Idealize.ShloMosaic Idealize.ShloMosaic.ValueIdx
open scoped BigOperators

namespace Cert.Lift

/-- The number the normalisation adds to the mean square. -/
def eps : ℝ := (Ideal.ofBits .f32 0x358637BD#32).toReal

theorem ofBits_eps : Ideal.ofBits .f32 0x358637BD#32 = ((eps : ℝ) : EReal) := by
  unfold eps
  simp [Ideal.ofBits, Ideal.ieee, -EReal.coe_mul]

theorem eps_pos : 0 < eps := by
  unfold eps
  simp [Ideal.ofBits, Ideal.ieee, -EReal.coe_mul]

theorem word_1024 : Ideal.ofBits .f32 0x44800000#32 = ((1024 : ℝ) : EReal) := by
  simp [Ideal.ofBits, Ideal.ieee, -EReal.coe_mul]; norm_num

/-- The mean of a row's squares, plus the small number. -/
def ms {n : ℕ} (x : Fin n → Fin 1024 → ℝ) (r : Fin n) : ℝ := (∑ d, x r d * x r d) / 1024 + eps
/-- The factor that normalises a row. -/
def rs {n : ℕ} (x : Fin n → Fin 1024 → ℝ) (r : Fin n) : ℝ := (Real.sqrt (ms x r))⁻¹

theorem ms_pos {n : ℕ} (x : Fin n → Fin 1024 → ℝ) (r : Fin n) : 0 < ms x r :=
  add_pos_of_nonneg_of_pos (div_nonneg (Finset.sum_nonneg fun d _ => mul_self_nonneg _) (by norm_num)) eps_pos

/-- The factor divided by the mean is its cube. -/
theorem rs_cube {n : ℕ} (x : Fin n → Fin 1024 → ℝ) (r : Fin n) : rs x r / ms x r = rs x r * rs x r * rs x r := by
  have h : ms x r = Real.sqrt (ms x r) * Real.sqrt (ms x r) := (Real.mul_self_sqrt (ms_pos x r).le).symm
  have e : (Real.sqrt (ms x r))⁻¹ * (Real.sqrt (ms x r))⁻¹ = (ms x r)⁻¹ := by rw [← mul_inv, ← h]
  unfold rs
  rw [mul_assoc, e, div_eq_mul_inv]

section
variable {m n : ℕ} {φ : FTy}

theorem rsqrt_real {z : ℝ} (h : 0 < z) : Ideal.rsqrt (z : EReal) = (((Real.sqrt z)⁻¹ : ℝ) : EReal) := by
  rw [Ideal.rsqrt_coe, if_neg (not_lt.mpr h.le), if_neg h.ne']

theorem rsqrt_mat (a : Fin m → Fin n → ℝ) (h : ∀ r c, 0 < a r c) :
    Idealize.ShloMosaic.rsqrt (mat a) = (mat (fun r c => (Real.sqrt (a r c))⁻¹) : FVec Ideal _ φ) :=
  funext fun j => rsqrt_real (h (j 0) (j 1))
theorem hostRsqrt_mat (a : Fin m → Fin n → ℝ) (h : ∀ r c, 0 < a r c) :
    Host.rsqrt (mat a) = (mat (fun r c => (Real.sqrt (a r c))⁻¹) : FVec Ideal _ φ) :=
  funext fun j => rsqrt_real (h (j 0) (j 1))

/-- A float word spread over a matrix in the kernel. -/
theorem broadcast_mat (k : BitVec 32) (x : ℝ) (hk : Ideal.ofBits .f32 k = ((x : ℝ) : EReal)) :
    broadcast ⟨2, ![m, n]⟩ (Scalar.ofBits (F := Ideal) .f32 k) = (mat (fun _ _ => x) : FVec Ideal ⟨2, ![m, n]⟩ .f32) :=
  funext fun _ => hk

/-- The sums of the rows, kept as one column. -/
theorem rowSum (hr : Shape.Reduces ⟨2, ![m, n]⟩ [1] ⟨1, ![m]⟩) (hc : Shape.ShapeCasts ⟨1, ![m]⟩ ⟨2, ![m, 1]⟩) (hφ) (hacc) (a : Fin m → Fin n → ℝ) :
    shapeCast ⟨2, ![m, 1]⟩ (multiReduction .add [1] ⟨1, ![m]⟩ (mat a : FVec Ideal _ .f32) 0x00000000#32 hr hφ hacc) hc
      = (mat (fun r _ => ∑ d, a r d) : FVec Ideal _ .f32) := by
  refine mat_ext fun r c => ?_
  rw [shapeCast_apply _ hc (ix2 r c) (ix1 r) (by
    rw [Shape.rowMajor_val_two, Shape.rowMajor_val_one]
    have : c.val < 1 := c.isLt
    show r.val = r.val * 1 + c.val
    omega), Ideal.multiReduction_add_single, coe_sum]
  refine Finset.sum_congr rfl fun k _ => ?_
  exact congrArg Real.toEReal (congrArg₂ a (Fin.ext rfl) (Fin.ext rfl))

/-- The sums of the columns, kept as one row. -/
theorem colSum (hr : Shape.Reduces ⟨2, ![m, n]⟩ [0] ⟨1, ![n]⟩) (hc : Shape.ShapeCasts ⟨1, ![n]⟩ ⟨2, ![1, n]⟩) (hφ) (hacc) (a : Fin m → Fin n → ℝ) :
    shapeCast ⟨2, ![1, n]⟩ (multiReduction .add [0] ⟨1, ![n]⟩ (mat a : FVec Ideal _ .f32) 0x00000000#32 hr hφ hacc) hc
      = (mat (fun _ d => ∑ r, a r d) : FVec Ideal _ .f32) := by
  refine mat_ext fun r c => ?_
  rw [shapeCast_apply _ hc (ix2 r c) (ix1 c) (by
    rw [Shape.rowMajor_val_two, Shape.rowMajor_val_one]
    have : r.val < 1 := r.isLt
    show c.val = r.val * n + c.val
    rw [show r.val = 0 by omega]
    omega), Ideal.multiReduction_add_single, coe_sum]
  refine Finset.sum_congr rfl fun k _ => ?_
  exact congrArg Real.toEReal (congrArg₂ a (Fin.ext rfl) (Fin.ext rfl))

/-- One column spread over all columns. -/
theorem spreadCol (hm : m ≠ 1) (h : Shape.Broadcasts ⟨2, ![m, 1]⟩ ⟨2, ![m, n]⟩) (a : Fin m → Fin 1 → ℝ) :
    broadcastTo ⟨2, ![m, n]⟩ (mat a : FVec Ideal _ φ) h = (mat (fun r _ => a r 0) : FVec Ideal _ φ) := by
  refine mat_ext fun r c => ?_
  refine broadcastTo_apply _ h (ix2 r c) (ix2 r (0 : Fin 1)) fun b => ?_
  match b with
  | ⟨0, _⟩ => exact (if_neg hm).symm
  | ⟨1, _⟩ => rfl

/-- One row spread over all rows. -/
theorem spreadRow (hn : n ≠ 1) (h : Shape.Broadcasts ⟨2, ![1, n]⟩ ⟨2, ![m, n]⟩) (a : Fin 1 → Fin n → ℝ) :
    broadcastTo ⟨2, ![m, n]⟩ (mat a : FVec Ideal _ φ) h = (mat (fun _ c => a 0 c) : FVec Ideal _ φ) := by
  refine mat_ext fun r c => ?_
  refine broadcastTo_apply _ h (ix2 r c) (ix2 (0 : Fin 1) c) fun b => ?_
  match b with
  | ⟨0, _⟩ => rfl
  | ⟨1, _⟩ => exact (if_neg hn).symm

end

end Cert.Lift

end
-- ==== Proof.LiftHead.lean ====
/- Matrices of reals whose columns lie in heads of 64: the normalisation of each head of a row and its gradient, the rotation of
   a head by angles and its transpose, and the vector operations that make them. -/
module

public import proofs.«01_k».proof.Proof.LiftNat
public import proofs.«01_k».proof.Proof.LiftNorm
public import Idealize.ShloMosaic.Lib.KernelVsHost
public import Idealize.ShloMosaic.Lib.Pipeline.ValueKit.Tiles

@[expose] public section

set_option maxRecDepth 16384

noncomputable section

open Idealize.ShloMosaic Idealize.ShloMosaic.ValueIdx
open scoped BigOperators

namespace Cert.Lift

/-- The mean over the head that column `c` lies in. -/
def mean (y : ℕ → ℕ → ℝ) (r c : ℕ) : ℝ := (∑ k ∈ Finset.range 64, y r (64 * (c / 64) + k)) * (1 / 64)
/-- The mean square of the head, plus the small number. -/
def hms (x : ℕ → ℕ → ℝ) (r c : ℕ) : ℝ := mean (fun r c => x r c * x r c) r c + eps
/-- The factor that normalises the head. -/
def hrs (x : ℕ → ℕ → ℝ) (r c : ℕ) : ℝ := (Real.sqrt (hms x r c))⁻¹
/-- The normalised entries. -/
def hnx (x : ℕ → ℕ → ℝ) (r c : ℕ) : ℝ := x r c * hrs x r c
/-- A rotation's cotangent turned back by the angles. -/
def rot (A d : ℕ → ℕ → ℝ) (r c : ℕ) : ℝ :=
  if c % 64 < 32 then d r c * Real.cos (A r (c % 32)) + d r (c + 32) * Real.sin (A r (c % 32))
  else d r c * Real.cos (A r (c % 32)) - d r (c - 32) * Real.sin (A r (c % 32))
/-- The normalisation's cotangent. -/
def hgx (x d g : ℕ → ℕ → ℝ) (r c : ℕ) : ℝ :=
  hrs x r c * (d r c * g 0 c - hnx x r c * mean (fun r c => d r c * g 0 c * hnx x r c) r c)
/-- A row's part of the gain's cotangent. -/
def hdg (x d : ℕ → ℕ → ℝ) (r c : ℕ) : ℝ := d r c * hnx x r c
/-- Two heads of 64 columns that share a key head, added. -/
def fold (D : ℕ → ℕ → ℝ) (r c : ℕ) : ℝ := D r (128 * (c / 64) + c % 64) + D r (128 * (c / 64) + 64 + c % 64)

theorem hms_pos (x : ℕ → ℕ → ℝ) (r c : ℕ) : 0 < hms x r c :=
  add_pos_of_nonneg_of_pos (mul_nonneg (Finset.sum_nonneg fun d _ => mul_self_nonneg _) (by norm_num)) eps_pos

/-- The block matrix that takes means over heads. -/
def gm (k c : ℕ) : ℝ := if k / 64 = c / 64 then 1 / 64 else 0

theorem sum_gm (y : ℕ → ℝ) (N c : ℕ) (hN : N % 64 = 0) (hc : c < N) :
    ∑ k ∈ Finset.range N, y k * gm k c = (∑ k ∈ Finset.range 64, y (64 * (c / 64) + k)) * (1 / 64) := by
  unfold gm
  simp only [mul_ite, mul_zero]
  rw [← Finset.sum_filter, Finset.sum_mul]
  refine (Finset.sum_nbij' (fun k => 64 * (c / 64) + k) (fun k => k - 64 * (c / 64)) ?_ ?_ ?_ ?_ ?_).symm
  · intro k hk; simp only [Finset.mem_range, Finset.mem_filter] at hk ⊢; omega
  · intro k hk; simp only [Finset.mem_range, Finset.mem_filter] at hk ⊢; omega
  · intro k hk; simp
  · intro k hk; simp only [Finset.mem_range, Finset.mem_filter] at hk ⊢; omega
  · intro k hk; rfl

section ops
variable {m n : ℕ} {φ ψ : FTy}

/-- A product with the block matrix takes means. -/
theorem mean_nm {m N : ℕ} {φ₁ φ₂ : FTy} (d : DotDims ⟨2, ![m, N]⟩ ⟨2, ![N, N]⟩ ⟨2, ![m, N]⟩) (hd : d = DotDims.plain m N N) (hN : N % 64 = 0)
    (y : ℕ → ℕ → ℝ) :
    matmul d none (nm y : FVec Ideal _ φ₁) (nm gm : FVec Ideal _ φ₂) (constant ⟨2, ![m, N]⟩ .f32 0x00000000#32) = nm (mean y) :=
  (matmul_nn_nm y gm d hd).trans (nm_congr fun r _ c hc => sum_gm (y r) N c hN hc)

theorem rsqrt_nm (a : ℕ → ℕ → ℝ) (h : ∀ r c, 0 < a r c) :
    Idealize.ShloMosaic.rsqrt (nm a) = (nm (fun r c => (Real.sqrt (a r c))⁻¹) : FVec Ideal ⟨2, ![m, n]⟩ φ) :=
  rsqrt_mat _ fun _ _ => h _ _

/-- One row spread over all rows. -/
theorem spreadRow_nm (hn : n ≠ 1) (h : Shape.Broadcasts ⟨2, ![1, n]⟩ ⟨2, ![m, n]⟩) (a : ℕ → ℕ → ℝ) :
    broadcastTo ⟨2, ![m, n]⟩ (nm a : FVec Ideal ⟨2, ![1, n]⟩ φ) h = (nm (fun _ c => a 0 c) : FVec Ideal _ φ) :=
  spreadRow hn h _

/-- The sums of the columns, kept as one row. -/
theorem colSum_nm (hr : Shape.Reduces ⟨2, ![m, n]⟩ [0] ⟨1, ![n]⟩) (hc : Shape.ShapeCasts ⟨1, ![n]⟩ ⟨2, ![1, n]⟩) (hφ) (hacc) (a : ℕ → ℕ → ℝ) :
    shapeCast ⟨2, ![1, n]⟩ (multiReduction .add [0] ⟨1, ![n]⟩ (nm a : FVec Ideal ⟨2, ![m, n]⟩ .f32) 0x00000000#32 hr hφ hacc) hc
      = (nm (fun _ c => ∑ r ∈ Finset.range m, a r c) : FVec Ideal _ .f32) :=
  (colSum hr hc hφ hacc _).trans (mat_ext fun r c => congrArg Real.toEReal (Finset.sum_range fun k => a k c.val).symm)

/-- A rotation of 128 lanes. -/
theorem roll_nm (a : ℕ → ℕ → ℝ) (s : BitVec 32) (h : Shape.Rotates ⟨2, ![m, 128]⟩ 1 none) :
    dynamicRotate 1 s none (nm a : FVec Ideal ⟨2, ![m, 128]⟩ φ) h = nm fun r c => a r ((c + 128 - s.toNat % 128) % 128) := by
  refine nm_ext fun r c => ?_
  refine (dynamicRotate_apply (1 : Fin 2) s _ h (ix2 r c) (ix2 r (⟨(c.val + 128 - s.toNat % 128) % 128, Nat.mod_lt _ (by norm_num)⟩ : Fin 128)) fun b => ?_).trans rfl
  match b with
  | ⟨0, _⟩ => rfl
  | ⟨1, _⟩ => rfl

/-- Four blocks of 128 columns beside one another. -/
theorem concat4_cols (a : ℕ → ℕ → ℝ) (h : Shape.Concatenates [⟨2, ![m, 128]⟩, ⟨2, ![m, 128]⟩, ⟨2, ![m, 128]⟩, ⟨2, ![m, 128]⟩] ⟨2, ![m, 512]⟩ 1) :
    concatenate ⟨2, ![m, 512]⟩ 1 [⟨⟨2, ![m, 128]⟩, (nm fun r c => a r (128 * 0 + c) : FVec Ideal _ φ)⟩, ⟨⟨2, ![m, 128]⟩, (nm fun r c => a r (128 * 1 + c) : FVec Ideal _ φ)⟩,
      ⟨⟨2, ![m, 128]⟩, (nm fun r c => a r (128 * 2 + c) : FVec Ideal _ φ)⟩, ⟨⟨2, ![m, 128]⟩, (nm fun r c => a r (128 * 3 + c) : FVec Ideal _ φ)⟩] h
      = (nm a : FVec Ideal _ φ) := by
  refine nm_ext fun r c => ?_
  have key : ∀ (k : ℕ) (hk : k < 4), c.val / 128 = k → (a r.val (128 * k + c.val % 128) : ℝ) = a r.val c.val := fun k _ e => by
    rw [show 128 * k + c.val % 128 = c.val by omega]
  have hc : c.val < 512 := c.isLt
  have go : ∀ (k : ℕ) (hk : k < 4) (e : c.val / 128 = k) hx ho, _ = _ := fun k hk e hx ho =>
    (concatenate_apply_piece (t := ⟨2, ![m, 512]⟩) (1 : Fin 2) [⟨⟨2, ![m, 128]⟩, (nm fun r c => a r (128 * 0 + c) : FVec Ideal _ φ)⟩,
      ⟨⟨2, ![m, 128]⟩, (nm fun r c => a r (128 * 1 + c) : FVec Ideal _ φ)⟩,
      ⟨⟨2, ![m, 128]⟩, (nm fun r c => a r (128 * 2 + c) : FVec Ideal _ φ)⟩, ⟨⟨2, ![m, 128]⟩, (nm fun r c => a r (128 * 3 + c) : FVec Ideal _ φ)⟩] h
      (ix2 r c) k hk ⟨2, ![m, 128]⟩ (nm fun r c => a r (128 * k + c)) hx rfl (128 * k) ho
      (ix2 r (⟨c.val % 128, Nat.mod_lt _ (by norm_num)⟩ : Fin 128)) (fun b hb => match b, hb with
        | ⟨0, _⟩, _ => rfl
        | ⟨1, _⟩, hb => absurd rfl hb) (by show 128 * k + c.val % 128 = c.val; omega)).trans (congrArg Real.toEReal (key k hk e))
  rcases (by omega : c.val / 128 = 0 ∨ c.val / 128 = 1 ∨ c.val / 128 = 2 ∨ c.val / 128 = 3) with e | e | e | e
  · exact go 0 (by norm_num) e rfl rfl
  · exact go 1 (by norm_num) e rfl rfl
  · exact go 2 (by norm_num) e rfl rfl
  · exact go 3 (by norm_num) e rfl rfl

/-- Four blocks of 128 rows over one another. -/
theorem concat4_rows (a : ℕ → ℕ → ℝ) (h : Shape.Concatenates [⟨2, ![128, n]⟩, ⟨2, ![128, n]⟩, ⟨2, ![128, n]⟩, ⟨2, ![128, n]⟩] ⟨2, ![512, n]⟩ 0) :
    concatenate ⟨2, ![512, n]⟩ 0 [⟨⟨2, ![128, n]⟩, (nm fun r c => a (128 * 0 + r) c : FVec Ideal _ φ)⟩, ⟨⟨2, ![128, n]⟩, (nm fun r c => a (128 * 1 + r) c : FVec Ideal _ φ)⟩,
      ⟨⟨2, ![128, n]⟩, (nm fun r c => a (128 * 2 + r) c : FVec Ideal _ φ)⟩, ⟨⟨2, ![128, n]⟩, (nm fun r c => a (128 * 3 + r) c : FVec Ideal _ φ)⟩] h
      = (nm a : FVec Ideal _ φ) := by
  refine nm_ext fun r c => ?_
  have hr : r.val < 512 := r.isLt
  have key : ∀ (k : ℕ) (hk : k < 4), r.val / 128 = k → (a (128 * k + r.val % 128) c.val : ℝ) = a r.val c.val := fun k _ e => by
    rw [show 128 * k + r.val % 128 = r.val by omega]
  have go : ∀ (k : ℕ) (hk : k < 4) (e : r.val / 128 = k) hx ho, _ = _ := fun k hk e hx ho =>
    (concatenate_apply_piece (t := ⟨2, ![512, n]⟩) (0 : Fin 2) [⟨⟨2, ![128, n]⟩, (nm fun r c => a (128 * 0 + r) c : FVec Ideal _ φ)⟩,
      ⟨⟨2, ![128, n]⟩, (nm fun r c => a (128 * 1 + r) c : FVec Ideal _ φ)⟩,
      ⟨⟨2, ![128, n]⟩, (nm fun r c => a (128 * 2 + r) c : FVec Ideal _ φ)⟩, ⟨⟨2, ![128, n]⟩, (nm fun r c => a (128 * 3 + r) c : FVec Ideal _ φ)⟩] h
      (ix2 r c) k hk ⟨2, ![128, n]⟩ (nm fun r c => a (128 * k + r) c) hx rfl (128 * k) ho
      (ix2 (⟨r.val % 128, Nat.mod_lt _ (by norm_num)⟩ : Fin 128) c) (fun b hb => match b, hb with
        | ⟨0, _⟩, hb => absurd rfl hb
        | ⟨1, _⟩, _ => rfl) (by show 128 * k + r.val % 128 = r.val; omega)).trans (congrArg Real.toEReal (key k hk e))
  rcases (by omega : r.val / 128 = 0 ∨ r.val / 128 = 1 ∨ r.val / 128 = 2 ∨ r.val / 128 = 3) with e | e | e | e
  · exact go 0 (by norm_num) e rfl rfl
  · exact go 1 (by norm_num) e rfl rfl
  · exact go 2 (by norm_num) e rfl rfl
  · exact go 3 (by norm_num) e rfl rfl

/-- A load of a part. -/
theorem ld_nm {m' n' : ℕ} (a : ℕ → ℕ → ℝ) (o₀ o₁ : ℕ) (inb) :
    View.ld (Val := Elt Ideal) (e' := .f32) (nm a : FVec Ideal ⟨2, ![m, n]⟩ .f32) (Rect.unit (s := ⟨2, ![m, n]⟩) ![o₀, o₁] ![m', n'] inb)
      = (nm (fun r c => a (o₀ + r) (o₁ + c)) : FVec Ideal ⟨2, ![m', n']⟩ .f32) := by
  funext j
  show (nm a : FVec Ideal ⟨2, ![m, n]⟩ .f32) _ = _
  rw [nm_apply, nm_apply]
  refine congrArg Real.toEReal (congrArg₂ a ?_ ?_)
  · show o₀ + 1 * (j 0).val = _; omega
  · show o₁ + 1 * (j 1).val = _; omega

end ops

/-! ## The rotation's tables -/

/-- The cosines, and the sines with their signs for the two shifted operands. -/
def tC (A : ℕ → ℕ → ℝ) (r c : ℕ) : ℝ := Real.cos (A r (c % 32))
def tA (A : ℕ → ℕ → ℝ) (r c : ℕ) : ℝ := if c % 64 < 32 then -Real.sin (A r (c % 32)) else 0
def tB (A : ℕ → ℕ → ℝ) (r c : ℕ) : ℝ := if c % 64 < 32 then 0 else Real.sin (A r (c % 32))

/-- The kernel's rotation of 128 lanes. -/
theorem rot_nm {m : ℕ} (A d : ℕ → ℕ → ℝ) (h h' : Shape.Rotates ⟨2, ![m, 128]⟩ 1 none) :
    subf (subf (mulf (nm d) (nm (tC A))) (mulf (dynamicRotate 1 96#32 none (nm d) h) (nm (tA A)))) (mulf (dynamicRotate 1 32#32 none (nm d) h') (nm (tB A)))
      = (nm (rot A d) : FVec Ideal ⟨2, ![m, 128]⟩ .f32) := by
  rw [roll_nm, roll_nm, mulf_nm, mulf_nm, mulf_nm, subf_nm, subf_nm]
  refine nm_congr fun r _ c hc => ?_
  unfold rot tC tA tB
  split
  · next hl =>
    rw [show (c + 128 - (96#32).toNat % 128) % 128 = c + 32 by show (c + 128 - 96) % 128 = c + 32; omega]
    ring
  · next hl =>
    rw [show (c + 128 - (32#32).toNat % 128) % 128 = c - 32 by show (c + 128 - 32) % 128 = c - 32; omega]
    ring

theorem rot_cols (A d : ℕ → ℕ → ℝ) (s r c : ℕ) : rot A (fun r c => d r (128 * s + c)) r c = rot A d r (128 * s + c) := by
  unfold rot
  rw [show (128 * s + c) % 64 = c % 64 by omega, show (128 * s + c) % 32 = c % 32 by omega]
  split
  · rfl
  · next h => rw [show 128 * s + c - 32 = 128 * s + (c - 32) by omega]

/-- The kernel's sum of the two heads that share a key head. -/
theorem fold_nm {m : ℕ} (D : ℕ → ℕ → ℝ) (h h' : Shape.Rotates ⟨2, ![m, 128]⟩ 1 none) :
    select (nb fun _ c => c < 64)
      (addf (nm fun r c => D r c) (dynamicRotate 1 64#32 none (nm fun r c => D r c) h))
      (addf (nm fun r c => D r (128 + c)) (dynamicRotate 1 64#32 none (nm fun r c => D r (128 + c)) h'))
      = (nm (fold D) : FVec Ideal ⟨2, ![m, 128]⟩ .f32) := by
  rw [roll_nm, roll_nm, addf_nm, addf_nm, select_nm]
  refine nm_congr fun r _ c hc => ?_
  unfold fold
  split
  · next hl =>
    rw [show (c + 128 - (64#32).toNat % 128) % 128 = c + 64 by show (c + 128 - 64) % 128 = c + 64; omega,
      show 128 * (c / 64) + c % 64 = c by omega, show 128 * (c / 64) + 64 + c % 64 = c + 64 by omega]
  · next hl =>
    rw [show (c + 128 - (64#32).toNat % 128) % 128 = c - 64 by show (c + 128 - 64) % 128 = c - 64; omega,
      show 128 * (c / 64) + c % 64 = 128 + (c - 64) by omega, show 128 * (c / 64) + 64 + c % 64 = 128 + c by omega, add_comm]

end Cert.Lift

end
-- ==== Proof.LiftAngle.lean ====
/- A position's rotation angles, over the reals. -/
module

public import proofs.«01_k».proof.Proof.LiftHead

@[expose] public section

set_option maxRecDepth 16384

noncomputable section

open Idealize.ShloMosaic

namespace Cert.Lift

/-- The angle of position `p` in the `j`-th pair of lanes, as the host computes it. -/
def angE (p : BitVec 32) (j : ℕ) : EReal :=
  FloatOps.mulf (F := Ideal) (φ := .f32) (FloatOps.sitofp .f32 p)
    (FloatOps.hostPowf (FloatOps.ofBits .f32 0x461C4000#32)
      (FloatOps.hostDivf (FloatOps.mulf (FloatOps.hostNegf (FloatOps.sitofp .f32 (BitVec.ofNat 32 j))) (FloatOps.ofBits .f32 0x40000000#32))
        (FloatOps.ofBits .f32 0x42800000#32)))

/-- The angle, a real number. -/
def ang (p : BitVec 32) (j : ℕ) : ℝ := (angE p j).toReal

theorem w10000 : Ideal.ofBits .f32 0x461C4000#32 = ((10000 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem w64 : Ideal.ofBits .f32 0x42800000#32 = ((64 : ℝ) : EReal) := by
  simp [Ideal.ofBits, Ideal.ieee, -EReal.coe_mul]; norm_num
theorem w1_64 : Ideal.ofBits .f32 0x3C800000#32 = ((1 / 64 : ℝ) : EReal) := by
  simp [Ideal.ofBits, Ideal.ieee, -EReal.coe_mul]; norm_num

theorem angE_real (p : BitVec 32) (j : ℕ) : angE p j = ((ang p j : ℝ) : EReal) := by
  obtain ⟨y, hy⟩ : ∃ y : ℝ, angE p j = (y : EReal) := by
    unfold angE
    rw [show FloatOps.ofBits (F := Ideal) .f32 0x461C4000#32 = ((10000 : ℝ) : EReal) from w10000, show FloatOps.ofBits (F := Ideal) .f32 0x40000000#32 = ((2 : ℝ) : EReal) from w2,
      show FloatOps.ofBits (F := Ideal) .f32 0x42800000#32 = ((64 : ℝ) : EReal) from w64]
    refine ⟨(p.toInt : ℝ) * Real.rpow 10000 (-((BitVec.ofNat 32 j).toInt : ℝ) * 2 / 64), ?_⟩
    rw [show FloatOps.hostDivf (F := Ideal) (φ := .f32) (FloatOps.mulf (FloatOps.hostNegf (FloatOps.sitofp .f32 (BitVec.ofNat 32 j))) ((2 : ℝ) : EReal)) ((64 : ℝ) : EReal)
        = ((-((BitVec.ofNat 32 j).toInt : ℝ) * 2 / 64 : ℝ) : EReal) from by
      show Ideal.div ((-(((BitVec.ofNat 32 j).toInt : ℝ) : EReal)) * ((2 : ℝ) : EReal)) ((64 : ℝ) : EReal) = _
      rw [← EReal.coe_neg, ← EReal.coe_mul, Ideal.div_coe (by norm_num), ← EReal.coe_mul]
      congr 1; ring]
    rfl
  rw [ang, hy]; rfl

end Cert.Lift

end
-- ==== Proof.LiftFour.lean ====
/- Arrays of rank four of real numbers whose entries are said by numbers: elementwise operations, the logarithm of one plus an
   exponential in the stable way in which the host computes it, masks and running sums along the last axis. -/
module

public import proofs.«01_k».proof.Proof.LiftHost

@[expose] public section

set_option maxRecDepth 16384

noncomputable section

open Idealize.ShloMosaic Idealize.ShloMosaic.ValueIdx
open scoped BigOperators

namespace Cert.Lift

section elementwise
variable {s : Shape} {φ ψ : FTy} (f g : s.Idx → ℝ)

theorem addf_up : addf (up f) (up g) = (up (fun i => f i + g i) : FVec Ideal s φ) := funext fun _ => (EReal.coe_add _ _).symm
theorem subf_up : subf (up f) (up g) = (up (fun i => f i - g i) : FVec Ideal s φ) := funext fun _ => (EReal.coe_sub _ _).symm
theorem mulf_up : mulf (up f) (up g) = (up (fun i => f i * g i) : FVec Ideal s φ) := funext fun _ => (EReal.coe_mul _ _).symm
theorem hostNegf_up : Host.negf (up f) = (up (fun i => -f i) : FVec Ideal s φ) := funext fun _ => (EReal.coe_neg _).symm
theorem hostExp_up : Host.exp (up f) = (up (fun i => Real.exp (f i)) : FVec Ideal s φ) := funext fun _ => rfl

/-- A scalar constant spread over an array. -/
theorem spread_up {S : Shape} (dims : Fin 0 → Fin s.rank) (hb : Shape.BroadcastsInDim ⟨0, ![]⟩ s dims) (k : BitVec 32) (x : ℝ)
    (hk : Ideal.ofBits .f32 k = ((x : ℝ) : EReal)) :
    broadcastInDim s dims hb (constant (F := Ideal) ⟨0, ![]⟩ .f32 k) = (up (fun _ => x) : FVec Ideal s .f32) :=
  funext fun _ => hk

/-- A selection by a bit that says whether a proposition holds. -/
theorem select_up (P : s.Idx → Prop) [∀ i, Decidable (P i)] (b : IVec s 1) (hb : ∀ i, b i = BitVec.ofBool (decide (P i))) :
    select b (up f) (up g) = (up (fun i => if P i then f i else g i) : FVec Ideal s φ) := by
  funext i
  show Scalar.select (b i) _ _ = _
  rw [hb, up_apply, up_apply, up_apply]
  by_cases h : P i <;> simp [h, Scalar.select]

end elementwise

/-- The logarithm of one plus an exponential does not change when the larger of the exponent and zero is taken out. -/
theorem softplus (y : ℝ) : max y 0 + Real.log (1 + Real.exp (-|y|)) = Real.log (1 + Real.exp y) := by
  rcases le_total 0 y with h | h
  · rw [max_eq_left h, abs_of_nonneg h]
    nth_rewrite 1 [← Real.log_exp y]
    rw [← Real.log_mul (Real.exp_pos _).ne' (by positivity), mul_add, ← Real.exp_add, add_neg_cancel, Real.exp_zero, mul_one, add_comm]
  · rw [max_eq_right h, abs_of_nonpos h, neg_neg, zero_add]

theorem exp_sub_softplus (y : ℝ) : Real.exp (y - Real.log (1 + Real.exp y)) = Real.exp y / (1 + Real.exp y) := by
  rw [Real.exp_sub, Real.exp_log (by positivity)]

/-- The inclusion of the reals takes a maximum to the maximum. -/
theorem coe_max (x y : ℝ) : max ((x : ℝ) : EReal) ((y : ℝ) : EReal) = ((max x y : ℝ) : EReal) :=
  (EReal.coe_strictMono.monotone.map_max).symm

section soft
variable {s : Shape} (f : s.Idx → ℝ)

/-- The host's stable way of computing `log (1 + exp y)`. -/
theorem softplus_up (Z : FVec Ideal s .f32) (hZ : Z = up fun _ => 0) :
    select (cmpf .une (subf (up f) Z) (subf (up f) Z)) (addf (up f) Z)
      (addf (maximumf (up f) Z) (Host.log1p (Host.exp (Host.negf (Host.absf (subf (up f) Z))))))
      = (up (fun i => Real.log (1 + Real.exp (f i))) : FVec Ideal s .f32) := by
  subst hZ
  rw [subf_up]
  funext i
  have h0 : cmpf .une (up (fun i => f i - 0) : FVec Ideal s .f32) (up fun i => f i - 0) i = 0#1 := by
    show Ideal.cmp .une _ _ = _
    simp [Ideal.cmp]
  show Scalar.select (cmpf .une (up (fun i => f i - 0) : FVec Ideal s .f32) (up fun i => f i - 0) i) _ _ = _
  rw [h0]
  show max ((f i : ℝ) : EReal) ((0 : ℝ) : EReal) + Ideal.log1p (Ideal.exp (-(max ((f i - 0 : ℝ) : EReal) (-((f i - 0 : ℝ) : EReal)))))
    = ((Real.log (1 + Real.exp (f i)) : ℝ) : EReal)
  rw [sub_zero, ← EReal.coe_neg, coe_max, coe_max, ← EReal.coe_neg, Ideal.exp_coe]
  show _ + Ideal.log (1 + _) = _
  rw [← EReal.coe_one, ← EReal.coe_add, Ideal.log_coe, if_neg (not_le.mpr (by positivity)), ← EReal.coe_add]
  exact congrArg Real.toEReal (softplus (f i))

/-- The comparison against infinity that guards a difference never holds at a real number. -/
theorem guard_up (I Z : FVec Ideal s .f32) (hI : ∀ i, I i = ⊤) : select (cmpf .oeq (up f) I) Z (up f) = (up f : FVec Ideal s .f32) := by
  funext i
  have h0 : cmpf .oeq (up f : FVec Ideal s .f32) I i = 0#1 := by
    show Ideal.cmp .oeq _ _ = _
    rw [hI, up_apply]
    simp [Ideal.cmp]
  show Scalar.select (cmpf .oeq (up f : FVec Ideal s .f32) I i) _ _ = _
  rw [h0]
  rfl

end soft

/-- The array with entry `f i j k l`. -/
def q4 {a b c d : ℕ} {φ : FTy} (f : ℕ → ℕ → ℕ → ℕ → ℝ) : FVec Ideal ⟨4, ![a, b, c, d]⟩ φ :=
  up fun i => f (i 0).val (i 1).val (i 2).val (i 3).val

section four
variable {a b c d : ℕ} {φ : FTy}

theorem q4_apply (f : ℕ → ℕ → ℕ → ℕ → ℝ) (i : Shape.Idx ⟨4, ![a, b, c, d]⟩) :
    (q4 f : FVec Ideal ⟨4, ![a, b, c, d]⟩ φ) i = ((f (i 0).val (i 1).val (i 2).val (i 3).val : ℝ) : EReal) := rfl

theorem q4_congr {f g : ℕ → ℕ → ℕ → ℕ → ℝ} (h : ∀ i < a, ∀ j < b, ∀ k < c, ∀ l < d, f i j k l = g i j k l) :
    (q4 f : FVec Ideal ⟨4, ![a, b, c, d]⟩ φ) = q4 g :=
  funext fun i => congrArg Real.toEReal (h _ (i 0).isLt _ (i 1).isLt _ (i 2).isLt _ (i 3).isLt)

section elementwise4
variable (f g : ℕ → ℕ → ℕ → ℕ → ℝ)

theorem addf_q4 : addf (q4 f) (q4 g) = (q4 (fun i j k l => f i j k l + g i j k l) : FVec Ideal ⟨4, ![a, b, c, d]⟩ φ) := addf_up _ _
theorem subf_q4 : subf (q4 f) (q4 g) = (q4 (fun i j k l => f i j k l - g i j k l) : FVec Ideal ⟨4, ![a, b, c, d]⟩ φ) := subf_up _ _
theorem mulf_q4 : mulf (q4 f) (q4 g) = (q4 (fun i j k l => f i j k l * g i j k l) : FVec Ideal ⟨4, ![a, b, c, d]⟩ φ) := mulf_up _ _
theorem hostNegf_q4 : Host.negf (q4 f) = (q4 (fun i j k l => -f i j k l) : FVec Ideal ⟨4, ![a, b, c, d]⟩ φ) := hostNegf_up _
theorem hostExp_q4 : Host.exp (q4 f) = (q4 (fun i j k l => Real.exp (f i j k l)) : FVec Ideal ⟨4, ![a, b, c, d]⟩ φ) := rfl
theorem spread_q4 (dims : Fin 0 → Fin 4) (hb : Shape.BroadcastsInDim ⟨0, ![]⟩ ⟨4, ![a, b, c, d]⟩ dims) (k : BitVec 32) (x : ℝ)
    (hk : Ideal.ofBits .f32 k = ((x : ℝ) : EReal)) :
    broadcastInDim ⟨4, ![a, b, c, d]⟩ dims hb (constant (F := Ideal) ⟨0, ![]⟩ .f32 k) = (q4 (fun _ _ _ _ => x) : FVec Ideal ⟨4, ![a, b, c, d]⟩ .f32) :=
  funext fun _ => hk
/-- A selection by the bit that says whether the last coordinate is before the one before it. -/
theorem select_q4 (m : IVec ⟨4, ![a, b, c, d]⟩ 1) (hm : ∀ i, m i = BitVec.ofBool (decide ((i 3).val < (i 2).val))) :
    select m (q4 f) (q4 g) = (q4 (fun i j k l => if l < k then f i j k l else g i j k l) : FVec Ideal ⟨4, ![a, b, c, d]⟩ φ) :=
  select_up _ _ (fun i => (i 3).val < (i 2).val) m hm

end elementwise4

/-- A fold of sums is the initial value and the sum. -/
theorem foldl_add {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

theorem row_numel (N : ℕ) : (⟨4, ![1, 1, 1, N]⟩ : Shape).numel = N := by
  simp [Shape.numel, Fin.prod_univ_four]

/-- The coordinates of a place in a window of one row. -/
theorem row_symm {N : ℕ} (n : Fin (⟨4, ![1, 1, 1, N]⟩ : Shape).numel) :
    ((⟨4, ![1, 1, 1, N]⟩ : Shape).rowMajor.symm n 0).val = 0 ∧ ((⟨4, ![1, 1, 1, N]⟩ : Shape).rowMajor.symm n 1).val = 0
      ∧ ((⟨4, ![1, 1, 1, N]⟩ : Shape).rowMajor.symm n 2).val = 0 ∧ ((⟨4, ![1, 1, 1, N]⟩ : Shape).rowMajor.symm n 3).val = n.val := by
  have e := Shape.rowMajor_val_four ((⟨4, ![1, 1, 1, N]⟩ : Shape).rowMajor.symm n)
  rw [Equiv.apply_symm_apply] at e
  generalize (⟨4, ![1, 1, 1, N]⟩ : Shape).rowMajor.symm n = w at e
  have h0 : (w 0).val < 1 := (w 0).isLt
  have h1 : (w 1).val < 1 := (w 1).isLt
  have h2 : (w 2).val < 1 := (w 2).isLt
  have z0 : (w 0).val = 0 := by omega
  have z1 : (w 1).val = 0 := by omega
  have z2 : (w 2).val = 0 := by omega
  refine ⟨z0, z1, z2, ?_⟩
  rw [z0, z1, z2] at e
  simpa using e.symm

/-- A window over a whole row, padded with zeros: the sum of the entries that it meets. -/
theorem window_q4 (L R : ℕ) (f : ℕ → ℕ → ℕ → ℕ → ℝ) (init : FVec Ideal ⟨0, ![]⟩ .f32) (hi : ∀ i, init i = ((0 : ℝ) : EReal))
    (h : Shape.ReduceWindows ⟨4, ![a, b, c, d]⟩ ![1, 1, 1, d] ![1, 1, 1, 1] ![0, 0, 0, L] ![0, 0, 0, R] ⟨4, ![a, b, c, d]⟩)
    (hu : 0 < (⟨0, ![]⟩ : Shape).numel) :
    Host.reduceWindowAdd (F := Ideal) ![1, 1, 1, d] ![1, 1, 1, 1] ![0, 0, 0, L] ![0, 0, 0, R] (q4 f : FVec Ideal ⟨4, ![a, b, c, d]⟩ .f32) init h hu
      = q4 fun i j k l => ∑ n ∈ Finset.range d, if L ≤ l + n ∧ l + n - L < d then f i j k (l + n - L) else 0 := by
  funext i
  rw [q4_apply]
  show (List.finRange (⟨4, ![1, 1, 1, d]⟩ : Shape).numel).foldl _ (init _) = _
  have i0 : (i 0).val < a := (i 0).isLt
  have i1 : (i 1).val < b := (i 1).isLt
  have i2 : (i 2).val < c := (i 2).isLt
  refine (congrArg (fun F => (List.finRange (⟨4, ![1, 1, 1, d]⟩ : Shape).numel).foldl F (init _))
    (funext fun r => funext fun n => congrArg (fun x => r + x) (?_ : _ =
      (((if L ≤ (i 3).val + n.val ∧ (i 3).val + n.val - L < d then f (i 0).val (i 1).val (i 2).val ((i 3).val + n.val - L) else 0 : ℝ)) : EReal)))).trans ?_
  · obtain ⟨w0, w1, w2, w3⟩ := row_symm n
    split
    · next hin =>
      have h3 := hin 3
      change L ≤ (i 3).val * 1 + ((⟨4, ![1, 1, 1, d]⟩ : Shape).rowMajor.symm n 3).val
        ∧ (i 3).val * 1 + ((⟨4, ![1, 1, 1, d]⟩ : Shape).rowMajor.symm n 3).val - L < d at h3
      rw [w3, Nat.mul_one] at h3
      rw [if_pos h3, q4_apply]
      show ((f ((i 0).val * 1 + ((⟨4, ![1, 1, 1, d]⟩ : Shape).rowMajor.symm n 0).val - 0) ((i 1).val * 1 + ((⟨4, ![1, 1, 1, d]⟩ : Shape).rowMajor.symm n 1).val - 0)
        ((i 2).val * 1 + ((⟨4, ![1, 1, 1, d]⟩ : Shape).rowMajor.symm n 2).val - 0) ((i 3).val * 1 + ((⟨4, ![1, 1, 1, d]⟩ : Shape).rowMajor.symm n 3).val - L) : ℝ) : EReal) = _
      rw [w0, w1, w2, w3]
      simp only [Nat.mul_one, Nat.add_zero, Nat.sub_zero]
    · next hin =>
      rw [if_neg fun hle => hin fun x => by
        match x with
        | ⟨0, _⟩ =>
          show 0 ≤ (i 0).val * 1 + ((⟨4, ![1, 1, 1, d]⟩ : Shape).rowMajor.symm n 0).val ∧ (i 0).val * 1 + ((⟨4, ![1, 1, 1, d]⟩ : Shape).rowMajor.symm n 0).val - 0 < a
          rw [w0]; omega
        | ⟨1, _⟩ =>
          show 0 ≤ (i 1).val * 1 + ((⟨4, ![1, 1, 1, d]⟩ : Shape).rowMajor.symm n 1).val ∧ (i 1).val * 1 + ((⟨4, ![1, 1, 1, d]⟩ : Shape).rowMajor.symm n 1).val - 0 < b
          rw [w1]; omega
        | ⟨2, _⟩ =>
          show 0 ≤ (i 2).val * 1 + ((⟨4, ![1, 1, 1, d]⟩ : Shape).rowMajor.symm n 2).val ∧ (i 2).val * 1 + ((⟨4, ![1, 1, 1, d]⟩ : Shape).rowMajor.symm n 2).val - 0 < c
          rw [w2]; omega
        | ⟨3, _⟩ =>
          show L ≤ (i 3).val * 1 + ((⟨4, ![1, 1, 1, d]⟩ : Shape).rowMajor.symm n 3).val ∧ (i 3).val * 1 + ((⟨4, ![1, 1, 1, d]⟩ : Shape).rowMajor.symm n 3).val - L < d
          rw [w3, Nat.mul_one]; exact hle]
      exact hi _
  · rw [foldl_add, hi, EReal.coe_zero, zero_add, ← List.ofFn_eq_map, List.sum_ofFn, ← coe_sum,
      Fin.sum_univ_eq_sum_range (fun n => if L ≤ (i 3).val + n ∧ (i 3).val + n - L < d then f (i 0).val (i 1).val (i 2).val ((i 3).val + n - L) else 0), row_numel]

/-- The sum from an entry on to the end of its row. -/
theorem tail_q4 (R : ℕ) (f : ℕ → ℕ → ℕ → ℕ → ℝ) (init : FVec Ideal ⟨0, ![]⟩ .f32) (hi : ∀ i, init i = ((0 : ℝ) : EReal))
    (h : Shape.ReduceWindows ⟨4, ![a, b, c, d]⟩ ![1, 1, 1, d] ![1, 1, 1, 1] ![0, 0, 0, 0] ![0, 0, 0, R] ⟨4, ![a, b, c, d]⟩)
    (hu : 0 < (⟨0, ![]⟩ : Shape).numel) :
    Host.reduceWindowAdd (F := Ideal) ![1, 1, 1, d] ![1, 1, 1, 1] ![0, 0, 0, 0] ![0, 0, 0, R] (q4 f : FVec Ideal ⟨4, ![a, b, c, d]⟩ .f32) init h hu
      = q4 fun i j k l => ∑ n ∈ Finset.range d, if l + n < d then f i j k (l + n) else 0 :=
  (window_q4 0 R f init hi h hu).trans (q4_congr fun _ _ _ _ _ _ _ _ => Finset.sum_congr rfl fun _ _ => by simp)

/-- The sum of a row up to and including an entry. -/
theorem upto_q4 (L : ℕ) (hL : L + 1 = d) (f : ℕ → ℕ → ℕ → ℕ → ℝ) (init : FVec Ideal ⟨0, ![]⟩ .f32) (hi : ∀ i, init i = ((0 : ℝ) : EReal))
    (h : Shape.ReduceWindows ⟨4, ![a, b, c, d]⟩ ![1, 1, 1, d] ![1, 1, 1, 1] ![0, 0, 0, L] ![0, 0, 0, 0] ⟨4, ![a, b, c, d]⟩)
    (hu : 0 < (⟨0, ![]⟩ : Shape).numel) :
    Host.reduceWindowAdd (F := Ideal) ![1, 1, 1, d] ![1, 1, 1, 1] ![0, 0, 0, L] ![0, 0, 0, 0] (q4 f : FVec Ideal ⟨4, ![a, b, c, d]⟩ .f32) init h hu
      = q4 fun i j k l => ∑ n ∈ Finset.range (l + 1), f i j k n := by
  refine (window_q4 L 0 f init hi h hu).trans (q4_congr fun i _ j _ k _ l hl => ?_)
  have e : d = (L - l) + (l + 1) := by omega
  have z : ∑ n ∈ Finset.range (L - l), (if L ≤ l + n ∧ l + n - L < d then f i j k (l + n - L) else 0) = 0 :=
    Finset.sum_eq_zero fun n hn => if_neg fun hh => by have := Finset.mem_range.mp hn; omega
  rw [show Finset.range d = Finset.range ((L - l) + (l + 1)) from congrArg _ e, Finset.sum_range_add, z, zero_add]
  refine Finset.sum_congr rfl fun n hn => ?_
  have := Finset.mem_range.mp hn
  rw [if_pos (by omega), show l + (L - l + n) - L = n by omega]

end four

end Cert.Lift

end
-- ==== Proof.QkGrad.Host.lean ====
/- The arguments of the query-and-key gradient call, as the host prepares them. -/
module

public import proofs.«01_k».proof.Proof.Gen.QkGradIdeal.Frame.Runs
public import proofs.«01_k».proof.Proof.LiftAngle
public import proofs.«01_k».proof.Proof.LiftFour
public import Idealize.ShloMosaic.Lib.StableHlo.RunRead

@[expose] public section

set_option maxRecDepth 16384

noncomputable section

open Idealize.ShloMosaic Idealize.ShloMosaic.TcCoe Idealize.SL.Sem Cert.Lift

namespace Cert.QkGradIdeal.Host0

open Cert.QkGradIdeal Cert.QkGradIdeal.Gen

variable (m : (ℓ : Loc nD τ sig) → Buf (Elt Ideal) ℓ) (c : Dev nD)

/-- The angles of every position. -/
def angles (p : IVec S2x2048 32) : FVec Ideal S2x2048x32 .f32 :=
  mulf (broadcastInDim S2x2048x32 ![0, 1, 2] bcast_S2x2048x1_S2x2048x32_0_1_2
      (broadcastInDim S2x2048x1 ![0, 1] bcast_S2x2048_S2x2048x1_0_1 (sitofp .f32 p : FVec Ideal S2x2048 .f32)))
    (broadcastInDim S2x2048x32 ![0, 1, 2] bcast_S1x1x32_S2x2048x32_0_1_2 (broadcastInDim S1x1x32 ![2] bcast_S32_S1x1x32_2
      (Host.powf (broadcastInDim S32 ![] bcast_S_S32 (constant (F := Ideal) S_ .f32 0x461C4000#32))
        (Host.divf (mulf (Host.negf (sitofp .f32 (iotaInDim S32 32 0) : FVec Ideal S32 .f32)) (broadcastInDim S32 ![] bcast_S_S32 (constant (F := Ideal) S_ .f32 0x40000000#32)))
          (broadcastInDim S32 ![] bcast_S_S32 (constant (F := Ideal) S_ .f32 0x42800000#32))))))

/-- A table: two halves of a head, for each of the two heads of a group. -/
def table (a b : FVec Ideal S2x2048x32 .f32) : FVec Ideal S4096x128 .f32 :=
  shapeCast S4096x128 (broadcastInDim S2x2048x2x64 ![0, 1, 2, 3] bcast_S2x2048x1x64_S2x2048x2x64_0_1_2_3
    (broadcastInDim S2x2048x1x64 ![0, 1, 3] bcast_S2x2048x64_S2x2048x1x64_0_1_3
      (concatenate S2x2048x64 2 [⟨S2x2048x32, a⟩, ⟨S2x2048x32, b⟩] concatenates_S2x2048x32_S2x2048x32_S2x2048x64_d2))) shapeCasts_S2x2048x2x64_S4096x128

/-- A gradient per query head with the window's rows around it. -/
def padded (x : FVec Ideal S2x2048x2x2x64 .f32) : FVec Ideal S5120x256 .f32 :=
  shapeCast S5120x256 (pad S2x2560x256 ![0, 128, 0] ![0, 384, 0] ![0, 0, 0] (shapeCast S2x2048x256 x shapeCasts_S2x2048x2x2x64_S2x2048x256)
    (sitofp .f32 (constantI S_ 32 0#32) : FVec Ideal S_ .f32) pads_S2x2048x256_S2x2560x256_000_1283840_000 h_S_) shapeCasts_S2x2560x256_S5120x256

def zeros : FVec Ideal S2x2048x32 .f32 := broadcastInDim S2x2048x32 ![] bcast_S_S2x2048x32 (constant (F := Ideal) S_ .f32 0x00000000#32)

set_option maxHeartbeats 4000000 in
/-- The call's arguments, by the argument arrays. -/
theorem prep :
    V m c main_v22 = truncf .bf16 (shapeCast S512x512 (select (cmpi .eq (iotaInDim S8x64x8x64 32 0) (iotaInDim S8x64x8x64 32 2))
        (broadcastInDim S8x64x8x64 ![] bcast_S_S8x64x8x64 (constant (F := Ideal) S_ .f32 0x3C800000#32))
        (broadcastInDim S8x64x8x64 ![] bcast_S_S8x64x8x64 (constant (F := Ideal) S_ .f32 0x00000000#32))) shapeCasts_S8x64x8x64_S512x512) bitsLt_bf16_f32
    ∧ V m c main_v23 = shapeCast S4096x512 (m (c, main_arg0)) shapeCasts_S2x2048x8x64_S4096x512
    ∧ V m c main_v24 = shapeCast S4096x128 (m (c, main_arg1)) shapeCasts_S2x2048x2x64_S4096x128
    ∧ V m c main_v25 = shapeCast S4096x512 (m (c, main_arg2)) shapeCasts_S2x2048x8x64_S4096x512
    ∧ V m c main_v28 = padded (m (c, main_arg3))
    ∧ V m c main_v31 = padded (m (c, main_arg4))
    ∧ V m c main_v33 = shapeCast S1x512 (broadcastInDim S8x64 ![1] bcast_S64_S8x64_1 (m (c, main_arg5) : FVec Ideal S64 .f32)) shapeCasts_S8x64_S1x512
    ∧ V m c main_v35 = shapeCast S1x128 (broadcastInDim S2x64 ![1] bcast_S64_S2x64_1 (m (c, main_arg6) : FVec Ideal S64 .f32)) shapeCasts_S2x64_S1x128
    ∧ V m c main_v39 = table (Host.cos (angles (m (c, main_arg7)))) (Host.cos (angles (m (c, main_arg7))))
    ∧ V m c main_v44 = table (Host.negf (Host.sin (angles (m (c, main_arg7))))) zeros
    ∧ V m c main_v48 = table zeros (Host.sin (angles (m (c, main_arg7)))) := by
  refine ⟨?_, ?_, ?_, ?_, ?_, ?_, ?_, ?_, ?_, ?_, ?_⟩ <;>
  (simp only [V, List.flatten_cons, List.flatten_nil, hostOps0, hostOps0_1, hostOps0_2, hostOps0_3, hostOps0_4, hostOps0_5, hostOps0_6, List.cons_append, List.nil_append,
    StableHlo.TRef.binary, StableHlo.TRef.nullary, StableHlo.TRef.ternary, StableHlo.TRef.unary, StableHlo.TRef.toBuf, StableHlo.TRef.ofBuf, cast_eq]
   after_reads_simp
   first | done | rfl)

end Cert.QkGradIdeal.Host0

end
-- ==== Proof.QkGrad.Data.lean ====
/- What the query-and-key gradient call is given, over the reals: its arrays after the host operations, for real arguments. -/
module

public import proofs.«01_k».proof.Proof.QkGrad.Host
public import Idealize.ShloMosaic.Lib.KernelVsHost

@[expose] public section

set_option maxRecDepth 16384

noncomputable section

open Idealize.ShloMosaic Idealize.ShloMosaic.TcCoe Idealize.ShloMosaic.ValueIdx Idealize.SL.Sem Cert.Lift

namespace Cert.QkGradIdeal.Host0

open Cert.QkGradIdeal Cert.QkGradIdeal.Gen

/-- Query heads, side by side in a row of 512 lanes. -/
def heads8 (X : ℕ → ℕ → ℝ) : FVec Ideal S2x2048x8x64 .f32 := q4 fun b s h d => X (2048 * b + s) (64 * h + d)
/-- Key heads, side by side in a row of 128 lanes. -/
def heads2 (X : ℕ → ℕ → ℝ) : FVec Ideal S2x2048x2x64 .f32 := q4 fun b s h d => X (2048 * b + s) (64 * h + d)
/-- A key head's gradient for each of its two query pairs, side by side in a row of 256 lanes. -/
def heads4 (X : ℕ → ℕ → ℝ) : FVec Ideal S2x2048x2x2x64 .f32 :=
  up fun i => X (2048 * (i 0).val + (i 1).val) (128 * (i 2).val + 64 * (i 3).val + (i 4).val)
/-- A gain. -/
def gain (g : ℕ → ℝ) : FVec Ideal S64 .f32 := up fun i => g (i 0).val
/-- Positions. -/
def posn (P : ℕ → ℕ → BitVec 32) : IVec S2x2048 32 := fun i => P (i 0).val (i 1).val
/-- A row's angles. -/
def angR (P : ℕ → ℕ → BitVec 32) (r j : ℕ) : ℝ := ang (P (r / 2048) (r % 2048)) j

variable (X : ℕ → ℕ → ℝ) (g : ℕ → ℝ) (P : ℕ → ℕ → BitVec 32)

theorem flat8 : shapeCast S4096x512 (heads8 X) shapeCasts_S2x2048x8x64_S4096x512 = nm (φ := .f32) X := by
  funext i
  have h0 : (i 0).val < 4096 := (i 0).isLt
  have h1 : (i 1).val < 512 := (i 1).isLt
  refine (shapeCast_apply _ _ i (ix4 (⟨(i 0).val / 2048, by omega⟩ : Fin 2) (⟨(i 0).val % 2048, by omega⟩ : Fin 2048)
    (⟨(i 1).val / 64, by omega⟩ : Fin 8) (⟨(i 1).val % 64, by omega⟩ : Fin 64)) ?_).trans (congrArg Real.toEReal (congrArg₂ X ?_ ?_))
  · rw [Shape.rowMajor_val_four, Shape.rowMajor_val_two]
    show (((i 0).val / 2048 * 2048 + (i 0).val % 2048) * 8 + (i 1).val / 64) * 64 + (i 1).val % 64 = (i 0).val * 512 + (i 1).val
    omega
  · show 2048 * ((i 0).val / 2048) + (i 0).val % 2048 = (i 0).val; omega
  · show 64 * ((i 1).val / 64) + (i 1).val % 64 = (i 1).val; omega

theorem flat2 : shapeCast S4096x128 (heads2 X) shapeCasts_S2x2048x2x64_S4096x128 = nm (φ := .f32) X := by
  funext i
  have h0 : (i 0).val < 4096 := (i 0).isLt
  have h1 : (i 1).val < 128 := (i 1).isLt
  refine (shapeCast_apply _ _ i (ix4 (⟨(i 0).val / 2048, by omega⟩ : Fin 2) (⟨(i 0).val % 2048, by omega⟩ : Fin 2048)
    (⟨(i 1).val / 64, by omega⟩ : Fin 2) (⟨(i 1).val % 64, by omega⟩ : Fin 64)) ?_).trans (congrArg Real.toEReal (congrArg₂ X ?_ ?_))
  · rw [Shape.rowMajor_val_four, Shape.rowMajor_val_two]
    show (((i 0).val / 2048 * 2048 + (i 0).val % 2048) * 2 + (i 1).val / 64) * 64 + (i 1).val % 64 = (i 0).val * 128 + (i 1).val
    omega
  · show 2048 * ((i 0).val / 2048) + (i 0).val % 2048 = (i 0).val; omega
  · show 64 * ((i 1).val / 64) + (i 1).val % 64 = (i 1).val; omega

/-- The window's rows before and after a batch's rows are zeros. -/
def padR (X : ℕ → ℕ → ℝ) (R c : ℕ) : ℝ := if 128 ≤ R % 2560 ∧ R % 2560 < 2176 then X (2048 * (R / 2560) + (R % 2560 - 128)) c else 0

theorem padded_nm : padded (heads4 X) = nm (φ := .f32) (padR X) := by
  funext i
  have h0 : (i 0).val < 5120 := (i 0).isLt
  have h1 : (i 1).val < 256 := (i 1).isLt
  unfold padded
  refine (shapeCast_apply _ _ i (ix3 (⟨(i 0).val / 2560, by omega⟩ : Fin 2) (⟨(i 0).val % 2560, by omega⟩ : Fin 2560) (⟨(i 1).val, by omega⟩ : Fin 256)) (by
    rw [Shape.rowMajor_val_three, Shape.rowMajor_val_two]
    show ((i 0).val / 2560 * 2560 + (i 0).val % 2560) * 256 + (i 1).val = (i 0).val * 256 + (i 1).val
    omega)).trans ?_
  by_cases h : 128 ≤ (i 0).val % 2560 ∧ (i 0).val % 2560 < 2176
  · refine (pad_apply_of_inside _ _ _ _ _ _ _ _ (ix3 (⟨(i 0).val / 2560, by omega⟩ : Fin 2) (⟨(i 0).val % 2560 - 128, by omega⟩ : Fin 2048)
      (⟨(i 1).val, by omega⟩ : Fin 256)) (fun a => match a with
      | ⟨0, _⟩ => by show (i 0).val / 2560 = 0 + (i 0).val / 2560 * (0 + 1); omega
      | ⟨1, _⟩ => by show (i 0).val % 2560 = 128 + ((i 0).val % 2560 - 128) * (0 + 1); omega
      | ⟨2, _⟩ => by show (i 1).val = 0 + (i 1).val * (0 + 1); omega)).trans ?_
    refine (shapeCast_apply _ _ _ (ix5 (⟨(i 0).val / 2560, by omega⟩ : Fin 2) (⟨(i 0).val % 2560 - 128, by omega⟩ : Fin 2048)
      (⟨(i 1).val / 128, by omega⟩ : Fin 2) (⟨(i 1).val / 64 % 2, by omega⟩ : Fin 2) (⟨(i 1).val % 64, by omega⟩ : Fin 64)) (by
      rw [Shape.rowMajor_val_three, Shape.rowMajor_val_five]
      show ((((i 0).val / 2560 * 2048 + ((i 0).val % 2560 - 128)) * 2 + (i 1).val / 128) * 2 + (i 1).val / 64 % 2) * 64 + (i 1).val % 64
        = ((i 0).val / 2560 * 2048 + ((i 0).val % 2560 - 128)) * 256 + (i 1).val
      omega)).trans (congrArg Real.toEReal ?_)
    refine Eq.trans (congrArg₂ X rfl ?_) (if_pos h).symm
    show 128 * ((i 1).val / 128) + 64 * ((i 1).val / 64 % 2) + (i 1).val % 64 = (i 1).val
    omega
  · refine (pad_apply_of_not_inside _ _ _ _ _ _ _ _ (1 : Fin 3) (fun hin => h ⟨hin.1, ?_⟩)).trans ?_
    · have h3 : ((i 0).val % 2560 - 128) / (0 + 1) < 2048 := hin.2.2
      omega
    · show (((0#32 : BitVec 32).toInt : ℝ) : EReal) = ((padR X (i 0).val (i 1).val : ℝ) : EReal)
      unfold padR
      rw [if_neg h]
      simp

theorem gain8 : shapeCast S1x512 (broadcastInDim S8x64 ![1] bcast_S64_S8x64_1 (gain g)) shapeCasts_S8x64_S1x512 = nm (φ := .f32) fun _ c => g (c % 64) := by
  funext i
  have h0 : (i 0).val < 1 := (i 0).isLt
  have h1 : (i 1).val < 512 := (i 1).isLt
  refine (shapeCast_apply _ _ i (ix2 (⟨(i 1).val / 64, by omega⟩ : Fin 8) (⟨(i 1).val % 64, by omega⟩ : Fin 64)) (by
    rw [Shape.rowMajor_val_two, Shape.rowMajor_val_two]
    show (i 1).val / 64 * 64 + (i 1).val % 64 = (i 0).val * 512 + (i 1).val
    omega)).trans ?_
  exact broadcastInDim_apply _ _ _ _ (ix1 (⟨(i 1).val % 64, by omega⟩ : Fin 64)) (fun a => match a with | ⟨0, _⟩ => rfl)

theorem gain2 : shapeCast S1x128 (broadcastInDim S2x64 ![1] bcast_S64_S2x64_1 (gain g)) shapeCasts_S2x64_S1x128 = nm (φ := .f32) fun _ c => g (c % 64) := by
  funext i
  have h0 : (i 0).val < 1 := (i 0).isLt
  have h1 : (i 1).val < 128 := (i 1).isLt
  refine (shapeCast_apply _ _ i (ix2 (⟨(i 1).val / 64, by omega⟩ : Fin 2) (⟨(i 1).val % 64, by omega⟩ : Fin 64)) (by
    rw [Shape.rowMajor_val_two, Shape.rowMajor_val_two]
    show (i 1).val / 64 * 64 + (i 1).val % 64 = (i 0).val * 128 + (i 1).val
    omega)).trans ?_
  exact broadcastInDim_apply _ _ _ _ (ix1 (⟨(i 1).val % 64, by omega⟩ : Fin 64)) (fun a => match a with | ⟨0, _⟩ => rfl)

theorem small_eq (n k : ℕ) (hn : n < 8) (hk : k < 8) : (BitVec.ofNat 32 n == BitVec.ofNat 32 k) = decide (n = k) := by
  interval_cases n <;> interval_cases k <;> rfl

theorem group0 : shapeCast S512x512 (select (cmpi .eq (iotaInDim S8x64x8x64 32 0) (iotaInDim S8x64x8x64 32 2))
        (broadcastInDim S8x64x8x64 ![] bcast_S_S8x64x8x64 (constant (F := Ideal) S_ .f32 0x3C800000#32))
        (broadcastInDim S8x64x8x64 ![] bcast_S_S8x64x8x64 (constant (F := Ideal) S_ .f32 0x00000000#32))) shapeCasts_S8x64x8x64_S512x512
    = nm (φ := .f32) gm := by
  funext i
  have h0 : (i 0).val < 512 := (i 0).isLt
  have h1 : (i 1).val < 512 := (i 1).isLt
  refine (shapeCast_apply _ _ i (ix4 (⟨(i 0).val / 64, by omega⟩ : Fin 8) (⟨(i 0).val % 64, by omega⟩ : Fin 64)
    (⟨(i 1).val / 64, by omega⟩ : Fin 8) (⟨(i 1).val % 64, by omega⟩ : Fin 64)) (by
    rw [Shape.rowMajor_val_four, Shape.rowMajor_val_two]
    show (((i 0).val / 64 * 64 + (i 0).val % 64) * 8 + (i 1).val / 64) * 64 + (i 1).val % 64 = (i 0).val * 512 + (i 1).val
    omega)).trans ?_
  show Scalar.select (BitVec.ofBool (BitVec.ofNat 32 ((i 0).val / 64) == BitVec.ofNat 32 ((i 1).val / 64))) (Ideal.ofBits .f32 0x3C800000#32) (Ideal.ofBits .f32 0x00000000#32) = ((gm (i 0).val (i 1).val : ℝ) : EReal)
  rw [small_eq _ _ (by omega) (by omega), w1_64, Ideal.ofBits_zero_f32]
  unfold gm
  by_cases h : (i 0).val / 64 = (i 1).val / 64 <;> simp [h, Scalar.select]

theorem group : truncf .bf16 (shapeCast S512x512 (select (cmpi .eq (iotaInDim S8x64x8x64 32 0) (iotaInDim S8x64x8x64 32 2))
        (broadcastInDim S8x64x8x64 ![] bcast_S_S8x64x8x64 (constant (F := Ideal) S_ .f32 0x3C800000#32))
        (broadcastInDim S8x64x8x64 ![] bcast_S_S8x64x8x64 (constant (F := Ideal) S_ .f32 0x00000000#32))) shapeCasts_S8x64x8x64_S512x512) bitsLt_bf16_f32
    = nm (φ := .bf16) gm := by
  rw [group0]
  exact truncf_nm _ _

theorem angles_up : angles (posn P) = up fun i => ang (P (i 0).val (i 1).val) (i 2).val := by
  funext i
  refine Eq.trans ?_ (angE_real (P (i 0).val (i 1).val) (i 2).val)
  unfold angles angE
  show FloatOps.mulf _ _ = FloatOps.mulf _ _
  refine congrArg₂ _ ?_ ?_
  · refine (broadcastInDim_apply _ _ _ i (ix3 (⟨(i 0).val, (i 0).isLt⟩ : Fin 2) (⟨(i 1).val, (i 1).isLt⟩ : Fin 2048) (0 : Fin 1)) (fun a => match a with
      | ⟨0, _⟩ => rfl | ⟨1, _⟩ => rfl | ⟨2, _⟩ => rfl)).trans ?_
    exact broadcastInDim_apply _ _ _ _ (ix2 (⟨(i 0).val, (i 0).isLt⟩ : Fin 2) (⟨(i 1).val, (i 1).isLt⟩ : Fin 2048)) (fun a => match a with
      | ⟨0, _⟩ => rfl | ⟨1, _⟩ => rfl)
  · refine (broadcastInDim_apply _ _ _ i (ix3 (0 : Fin 1) (0 : Fin 1) (⟨(i 2).val, (i 2).isLt⟩ : Fin 32)) (fun a => match a with
      | ⟨0, _⟩ => rfl | ⟨1, _⟩ => rfl | ⟨2, _⟩ => rfl)).trans ?_
    exact broadcastInDim_apply _ _ _ _ (ix1 (⟨(i 2).val, (i 2).isLt⟩ : Fin 32)) (fun a => match a with | ⟨0, _⟩ => rfl)

theorem table_nm (a b : ℕ → ℕ → ℝ) (x y : FVec Ideal S2x2048x32 .f32) (hx : x = up fun i => a (2048 * (i 0).val + (i 1).val) (i 2).val)
    (hy : y = up fun i => b (2048 * (i 0).val + (i 1).val) (i 2).val) :
    table x y = nm (φ := .f32) fun r c => if c % 64 < 32 then a r (c % 32) else b r (c % 32) := by
  subst hx hy
  funext i
  have h0 : (i 0).val < 4096 := (i 0).isLt
  have h1 : (i 1).val < 128 := (i 1).isLt
  unfold table
  refine (shapeCast_apply _ _ i (ix4 (⟨(i 0).val / 2048, by omega⟩ : Fin 2) (⟨(i 0).val % 2048, by omega⟩ : Fin 2048)
    (⟨(i 1).val / 64, by omega⟩ : Fin 2) (⟨(i 1).val % 64, by omega⟩ : Fin 64)) (by
    rw [Shape.rowMajor_val_four, Shape.rowMajor_val_two]
    show (((i 0).val / 2048 * 2048 + (i 0).val % 2048) * 2 + (i 1).val / 64) * 64 + (i 1).val % 64 = (i 0).val * 128 + (i 1).val
    omega)).trans ?_
  refine (broadcastInDim_apply _ _ _ _ (ix4 (⟨(i 0).val / 2048, by omega⟩ : Fin 2) (⟨(i 0).val % 2048, by omega⟩ : Fin 2048)
    (0 : Fin 1) (⟨(i 1).val % 64, by omega⟩ : Fin 64)) (fun a => match a with
      | ⟨0, _⟩ => rfl | ⟨1, _⟩ => rfl | ⟨2, _⟩ => rfl | ⟨3, _⟩ => rfl)).trans ?_
  refine (broadcastInDim_apply _ _ _ _ (ix3 (⟨(i 0).val / 2048, by omega⟩ : Fin 2) (⟨(i 0).val % 2048, by omega⟩ : Fin 2048)
    (⟨(i 1).val % 64, by omega⟩ : Fin 64)) (fun a => match a with
      | ⟨0, _⟩ => rfl | ⟨1, _⟩ => rfl | ⟨2, _⟩ => rfl)).trans ?_
  have hr : 2048 * ((i 0).val / 2048) + (i 0).val % 2048 = (i 0).val := by omega
  by_cases h : (i 1).val % 64 < 32
  · refine (concatenate_apply_piece (t := S2x2048x64) (2 : Fin 3) [⟨S2x2048x32, (up fun i => a (2048 * (i 0).val + (i 1).val) (i 2).val : FVec Ideal S2x2048x32 .f32)⟩,
      ⟨S2x2048x32, (up fun i => b (2048 * (i 0).val + (i 1).val) (i 2).val : FVec Ideal S2x2048x32 .f32)⟩] _ _ 0 (by norm_num) S2x2048x32 _ rfl rfl 0 rfl (ix3 (⟨(i 0).val / 2048, by omega⟩ : Fin 2)
      (⟨(i 0).val % 2048, by omega⟩ : Fin 2048) (⟨(i 1).val % 32, by omega⟩ : Fin 32)) (fun b hb => match b, hb with
      | ⟨0, _⟩, _ => rfl | ⟨1, _⟩, _ => rfl | ⟨2, _⟩, hb => absurd rfl hb) (by show 0 + (i 1).val % 32 = (i 1).val % 64; omega)).trans (congrArg Real.toEReal ?_)
    show a (2048 * ((i 0).val / 2048) + (i 0).val % 2048) ((i 1).val % 32) = if (i 1).val % 64 < 32 then _ else _
    rw [if_pos h, hr]
  · refine (concatenate_apply_piece (t := S2x2048x64) (2 : Fin 3) [⟨S2x2048x32, (up fun i => a (2048 * (i 0).val + (i 1).val) (i 2).val : FVec Ideal S2x2048x32 .f32)⟩,
      ⟨S2x2048x32, (up fun i => b (2048 * (i 0).val + (i 1).val) (i 2).val : FVec Ideal S2x2048x32 .f32)⟩] _ _ 1 (by norm_num) S2x2048x32 _ rfl rfl 32 rfl (ix3 (⟨(i 0).val / 2048, by omega⟩ : Fin 2)
      (⟨(i 0).val % 2048, by omega⟩ : Fin 2048) (⟨(i 1).val % 32, by omega⟩ : Fin 32)) (fun b hb => match b, hb with
      | ⟨0, _⟩, _ => rfl | ⟨1, _⟩, _ => rfl | ⟨2, _⟩, hb => absurd rfl hb) (by show 32 + (i 1).val % 32 = (i 1).val % 64; omega)).trans (congrArg Real.toEReal ?_)
    show b (2048 * ((i 0).val / 2048) + (i 0).val % 2048) ((i 1).val % 32) = if (i 1).val % 64 < 32 then _ else _
    rw [if_neg h, hr]

variable (m : (ℓ : Loc nD τ sig) → Buf (Elt Ideal) ℓ) (c : Dev nD)

/-- The arguments are arrays of reals and of positions. -/
structure Real (X K D E W : ℕ → ℕ → ℝ) (gq gk : ℕ → ℝ) (P : ℕ → ℕ → BitVec 32) : Prop where
  h0 : m (c, main_arg0) = heads8 X
  h1 : m (c, main_arg1) = heads2 K
  h2 : m (c, main_arg2) = heads8 D
  h3 : m (c, main_arg3) = heads4 E
  h4 : m (c, main_arg4) = heads4 W
  h5 : m (c, main_arg5) = gain gq
  h6 : m (c, main_arg6) = gain gk
  h7 : m (c, main_arg7) = posn P

/-- The call's arguments. -/
theorem data {K D E W : ℕ → ℕ → ℝ} {gq gk : ℕ → ℝ} (H : Real m c X K D E W gq gk P) :
    V m c main_v22 = nm (φ := .bf16) gm ∧ V m c main_v23 = nm (φ := .f32) X ∧ V m c main_v24 = nm (φ := .f32) K ∧ V m c main_v25 = nm (φ := .f32) D
    ∧ V m c main_v28 = nm (φ := .f32) (padR E) ∧ V m c main_v31 = nm (φ := .f32) (padR W) ∧ V m c main_v33 = nm (φ := .f32) (fun _ c => gq (c % 64))
    ∧ V m c main_v35 = nm (φ := .f32) (fun _ c => gk (c % 64)) ∧ V m c main_v39 = nm (φ := .f32) (tC (angR P))
    ∧ V m c main_v44 = nm (φ := .f32) (tA (angR P)) ∧ V m c main_v48 = nm (φ := .f32) (tB (angR P)) := by
  obtain ⟨e22, e23, e24, e25, e28, e31, e33, e35, e39, e44, e48⟩ := prep m c
  have hA : ∀ (i : S2x2048x32.Idx), ang (P (i 0).val (i 1).val) (i 2).val = angR P (2048 * (i 0).val + (i 1).val) (i 2).val := fun i => by
    have h1 : (i 1).val < 2048 := (i 1).isLt
    unfold angR
    rw [show (2048 * (i 0).val + (i 1).val) / 2048 = (i 0).val by omega, show (2048 * (i 0).val + (i 1).val) % 2048 = (i 1).val by omega]
  have hc : Host.cos (angles (posn P)) = (up fun i => Real.cos (angR P (2048 * (i 0).val + (i 1).val) (i 2).val) : FVec Ideal S2x2048x32 .f32) := by
    rw [angles_up]; exact funext fun i => congrArg (fun y : ℝ => ((Real.cos y : ℝ) : EReal)) (hA i)
  have hs : Host.sin (angles (posn P)) = (up fun i => Real.sin (angR P (2048 * (i 0).val + (i 1).val) (i 2).val) : FVec Ideal S2x2048x32 .f32) := by
    rw [angles_up]; exact funext fun i => congrArg (fun y : ℝ => ((Real.sin y : ℝ) : EReal)) (hA i)
  have hz : zeros = (up fun _ => 0 : FVec Ideal S2x2048x32 .f32) := spread_up (S := S_) _ _ _ 0 Ideal.ofBits_zero_f32
  refine ⟨e22.trans group, ?_, ?_, ?_, ?_, ?_, ?_, ?_, ?_, ?_, ?_⟩
  · rw [e23, H.h0]; exact flat8 X
  · rw [e24, H.h1]; exact flat2 K
  · rw [e25, H.h2]; exact flat8 D
  · rw [e28, H.h3]; exact padded_nm E
  · rw [e31, H.h4]; exact padded_nm W
  · rw [e33, H.h5]; exact gain8 gq
  · rw [e35, H.h6]; exact gain2 gk
  · rw [e39, H.h7, table_nm (fun r j => Real.cos (angR P r j)) (fun r j => Real.cos (angR P r j)) _ _ hc hc]
    exact nm_congr fun r _ c _ => by unfold tC; simp
  · rw [e44, H.h7, table_nm (fun r j => -Real.sin (angR P r j)) (fun _ _ => 0) _ _ (by rw [hs, hostNegf_up]) hz]
    rfl
  · rw [e48, H.h7, table_nm (fun _ _ => 0) (fun r j => Real.sin (angR P r j)) _ _ hz hs]
    rfl

end Cert.QkGradIdeal.Host0

end
-- ==== Proof.QkGrad.Finite.lean ====
/- The precondition of the query-and-key gradient: arguments that pass it are arrays of reals. -/
module

public import proofs.«01_k».proof.Proof.QkGrad.Data
public import proofs.«01_k».proof.Proof.LiftHost
public import proofs.«01_k».proof.Proof.Gen.Pre_qk_finite

@[expose] public section

set_option maxRecDepth 16384

noncomputable section

open Idealize.ShloMosaic Idealize.ShloMosaic.ValueIdx Cert.Lift

namespace Cert.Pre_qk_finite

open Cert.QkGradIdeal.Host0 (heads8 heads2 heads4 gain posn)

instance : Subsingleton S_.Idx := ⟨fun a b => funext fun i => i.elim0⟩

/-- A coordinate, by its number. -/
theorem coord {n : ℕ} [NeZero n] (x : Fin n) {y : ℕ} (h : y = x.val) : Fin.ofNat n y = x := h ▸ Fin.ofNat_val_eq_self x

/-- Heads of reals, their entries by the row and the lane. -/
theorem heads_of_finite {n : ℕ} [NeZero n] (a : FVec Ideal ⟨4, ![2, 2048, n, 64]⟩ .f32) (h : a = up fun i => (a i).toReal) :
    ∃ X : ℕ → ℕ → ℝ, a = q4 fun b s h d => X (2048 * b + s) (64 * h + d) :=
  ⟨fun r c => (a (ix4 (Fin.ofNat 2 (r / 2048)) (Fin.ofNat 2048 (r % 2048)) (Fin.ofNat n (c / 64)) (Fin.ofNat 64 (c % 64)))).toReal, h.trans (funext fun i => by
    have i1 : (i 1).val < 2048 := (i 1).isLt
    have i3 : (i 3).val < 64 := (i 3).isLt
    rw [up_apply, q4_apply]
    refine congrArg (fun j => (((a j).toReal : ℝ) : EReal)) (funext fun x => ?_)
    match x with
    | ⟨0, _⟩ => exact (coord (n := 2) (i 0) (by omega)).symm
    | ⟨1, _⟩ => exact (coord (n := 2048) (i 1) (by omega)).symm
    | ⟨2, _⟩ => exact (coord (n := n) (i 2) (by omega)).symm
    | ⟨3, _⟩ => exact (coord (n := 64) (i 3) (by omega)).symm)⟩

/-- Pairs of heads of reals, their entries by the row and the lane. -/
theorem pairs_of_finite (a : FVec Ideal S2x2048x2x2x64 .f32) (h : a = up fun i => (a i).toReal) : ∃ X : ℕ → ℕ → ℝ, a = heads4 X :=
  ⟨fun r c => (a (ix5 (Fin.ofNat 2 (r / 2048)) (Fin.ofNat 2048 (r % 2048)) (Fin.ofNat 2 (c / 128)) (Fin.ofNat 2 (c / 64 % 2)) (Fin.ofNat 64 (c % 64)))).toReal,
    h.trans (funext fun i => by
      have i1 : (i 1).val < 2048 := (i 1).isLt
      have i3 : (i 3).val < 2 := (i 3).isLt
      have i4 : (i 4).val < 64 := (i 4).isLt
      unfold heads4
      rw [up_apply, up_apply]
      refine congrArg (fun j => (((a j).toReal : ℝ) : EReal)) (funext fun x => ?_)
      match x with
      | ⟨0, _⟩ => exact (coord (n := 2) (i 0) (by omega)).symm
      | ⟨1, _⟩ => exact (coord (n := 2048) (i 1) (by omega)).symm
      | ⟨2, _⟩ => exact (coord (n := 2) (i 2) (by omega)).symm
      | ⟨3, _⟩ => exact (coord (n := 2) (i 3) (by omega)).symm
      | ⟨4, _⟩ => exact (coord (n := 64) (i 4) (by omega)).symm)⟩

theorem gain_of_finite (a : FVec Ideal S64 .f32) (h : a = up fun i => (a i).toReal) : ∃ g : ℕ → ℝ, a = gain g :=
  ⟨fun k => (a (ix1 (Fin.ofNat 64 k))).toReal, h.trans (funext fun i => by
    unfold gain
    rw [up_apply, up_apply]
    refine congrArg (fun j => (((a j).toReal : ℝ) : EReal)) (funext fun x => ?_)
    match x with
    | ⟨0, _⟩ => exact (coord (n := 64) (i 0) rfl).symm)⟩

theorem posn_of (p : IVec S2x2048 32) : ∃ P : ℕ → ℕ → BitVec 32, p = posn P :=
  ⟨fun b s => p (ix2 (Fin.ofNat 2 b) (Fin.ofNat 2048 s)), funext fun i => by
    refine congrArg p (funext fun x => ?_)
    match x with
    | ⟨0, _⟩ => exact (coord (n := 2) (i 0) rfl).symm
    | ⟨1, _⟩ => exact (coord (n := 2048) (i 1) rfl).symm⟩

open Cert.Pre_qk_finite.Gen in
/-- The arguments of a true precondition are arrays of reals. -/
theorem reals (x0 : FVec Ideal S2x2048x8x64 .f32) (x1 : FVec Ideal S2x2048x2x64 .f32) (x2 : FVec Ideal S2x2048x8x64 .f32) (x3 x4 : FVec Ideal S2x2048x2x2x64 .f32)
    (x5 x6 : FVec Ideal S64 .f32) (x7 : IVec S2x2048 32) (h : fn (F := Ideal) x0 x1 x2 x3 x4 x5 x6 x7 = fun _ => 1#1) :
    (∃ X, x0 = heads8 X) ∧ (∃ K, x1 = heads2 K) ∧ (∃ D, x2 = heads8 D) ∧ (∃ E, x3 = heads4 E) ∧ (∃ W, x4 = heads4 W) ∧ (∃ g, x5 = gain g) ∧ ∃ g, x6 = gain g := by
  unfold fn fn_part1 at h
  dsimp only at h
  obtain ⟨h, h6⟩ := andi_all h
  obtain ⟨h, h5⟩ := andi_all h
  obtain ⟨h, h4⟩ := andi_all h
  obtain ⟨h, h3⟩ := andi_all h
  obtain ⟨h, h2⟩ := andi_all h
  obtain ⟨h0, h1⟩ := andi_all h
  have j : S_.Idx := fun i => i.elim0
  exact ⟨heads_of_finite _ (up_of_finite x0 _ (fun _ => ofBits_inf) _ _ _ j (congrFun h0 j)), heads_of_finite _ (up_of_finite x1 _ (fun _ => ofBits_inf) _ _ _ j (congrFun h1 j)),
    heads_of_finite _ (up_of_finite x2 _ (fun _ => ofBits_inf) _ _ _ j (congrFun h2 j)), pairs_of_finite _ (up_of_finite x3 _ (fun _ => ofBits_inf) _ _ _ j (congrFun h3 j)),
    pairs_of_finite _ (up_of_finite x4 _ (fun _ => ofBits_inf) _ _ _ j (congrFun h4 j)), gain_of_finite _ (up_of_finite x5 _ (fun _ => ofBits_inf) _ _ _ j (congrFun h5 j)),
    gain_of_finite _ (up_of_finite x6 _ (fun _ => ofBits_inf) _ _ _ j (congrFun h6 j))⟩

end Cert.Pre_qk_finite

end
-- ==== Proof.LiftGrid.lean ====
/- Arrays of reals over batches, rows, heads and lanes: what the host's sums, spreads, slices, paddings and reshapes make of them. -/
module

public import proofs.«01_k».proof.Proof.LiftFour
public import proofs.«01_k».proof.Proof.LiftHead
public import proofs.«01_k».proof.Proof.LiftHost

@[expose] public section

set_option maxRecDepth 16384

noncomputable section

open Idealize.ShloMosaic Idealize.ShloMosaic.ValueIdx
open scoped BigOperators

namespace Cert.Lift

/-- The array with entry `f i j k`. -/
def q3 {a b c : ℕ} {φ : FTy} (f : ℕ → ℕ → ℕ → ℝ) : FVec Ideal ⟨3, ![a, b, c]⟩ φ := up fun i => f (i 0).val (i 1).val (i 2).val

section grid
variable {a b c d : ℕ} {φ : FTy} (f g : ℕ → ℕ → ℕ → ℕ → ℝ) (t : ℕ → ℕ → ℕ → ℝ)

theorem hostDivf_q4 (h : ∀ i j k l, g i j k l ≠ 0) : Host.divf (q4 f) (q4 g) = (q4 (fun i j k l => f i j k l / g i j k l) : FVec Ideal ⟨4, ![a, b, c, d]⟩ φ) :=
  funext fun j => (Ideal.div_coe (h _ _ _ _) _).trans ((EReal.coe_mul _ _).symm.trans (congrArg Real.toEReal (mul_one_div _ _)))

theorem hostRsqrt_q4 (h : ∀ i j k l, 0 < f i j k l) : Host.rsqrt (q4 f) = (q4 (fun i j k l => (Real.sqrt (f i j k l))⁻¹) : FVec Ideal ⟨4, ![a, b, c, d]⟩ φ) :=
  funext fun j => rsqrt_real (h _ _ _ _)

theorem hostCos_q3 : Host.cos (q3 t) = (q3 (fun i j k => Real.cos (t i j k)) : FVec Ideal ⟨3, ![a, b, c]⟩ φ) := rfl
theorem hostSin_q3 : Host.sin (q3 t) = (q3 (fun i j k => Real.sin (t i j k)) : FVec Ideal ⟨3, ![a, b, c]⟩ φ) := rfl

/-- The sum over the lanes. -/
theorem lanes_q4 (h : Shape.ReducesTo ⟨4, ![a, b, c, d]⟩ [3] ⟨3, ![a, b, c]⟩) (hu : 0 < (⟨0, ![]⟩ : Shape).numel) :
    Host.reduceAdd (F := Ideal) (q4 f : FVec Ideal ⟨4, ![a, b, c, d]⟩ .f32) (constant (F := Ideal) ⟨0, ![]⟩ .f32 0x00000000#32) h hu
      = q3 fun i j k => ∑ l ∈ Finset.range d, f i j k l := by
  funext j
  have j0 : (j 0).val < a := (j 0).isLt
  have j1 : (j 1).val < b := (j 1).isLt
  have j2 : (j 2).val < c := (j 2).isLt
  show Ideal.ofBits .f32 0x00000000#32 + ∑ i ∈ Finset.univ.filter (fun i => h.drop i = j), _ = ((∑ l ∈ Finset.range d, f (j 0).val (j 1).val (j 2).val l : ℝ) : EReal)
  rw [Ideal.ofBits_zero_f32, zero_add, coe_sum]
  refine Finset.sum_bij' (fun i _ => (i 3).val) (fun l hl => ix4 (⟨_, j0⟩ : Fin a) (⟨_, j1⟩ : Fin b) (⟨_, j2⟩ : Fin c) (⟨l, Finset.mem_range.mp hl⟩ : Fin d)) ?_ ?_ ?_ ?_ ?_
  · intro i _
    exact Finset.mem_range.mpr (i 3).isLt
  · intro l hl
    refine Finset.mem_filter.mpr ⟨Finset.mem_univ _, funext fun x => Fin.ext ?_⟩
    match x with
    | ⟨0, _⟩ => exact Shape.ReducesTo.drop_apply_val h _ 0
    | ⟨1, _⟩ => exact Shape.ReducesTo.drop_apply_val h _ 1
    | ⟨2, _⟩ => exact Shape.ReducesTo.drop_apply_val h _ 2
  · intro i hi
    have e := (Finset.mem_filter.mp hi).2
    have e0 : (h.drop i 0 : ℕ) = i 0 := Shape.ReducesTo.drop_apply_val h i 0
    have e1 : (h.drop i 1 : ℕ) = i 1 := Shape.ReducesTo.drop_apply_val h i 1
    have e2 : (h.drop i 2 : ℕ) = i 2 := Shape.ReducesTo.drop_apply_val h i 2
    rw [e] at e0 e1 e2
    funext x
    match x with
    | ⟨0, _⟩ => exact Fin.ext e0
    | ⟨1, _⟩ => exact Fin.ext e1
    | ⟨2, _⟩ => exact Fin.ext e2
    | ⟨3, _⟩ => rfl
  · intro l _
    rfl
  · intro i hi
    have e := (Finset.mem_filter.mp hi).2
    have e0 : (h.drop i 0 : ℕ) = i 0 := Shape.ReducesTo.drop_apply_val h i 0
    have e1 : (h.drop i 1 : ℕ) = i 1 := Shape.ReducesTo.drop_apply_val h i 1
    have e2 : (h.drop i 2 : ℕ) = i 2 := Shape.ReducesTo.drop_apply_val h i 2
    rw [e] at e0 e1 e2
    show ((f (i 0).val (i 1).val (i 2).val (i 3).val : ℝ) : EReal) = ((f (j 0).val (j 1).val (j 2).val (i 3).val : ℝ) : EReal)
    rw [e0, e1, e2]

/-- The sum over batches and rows. -/
theorem rows_q4 (h : Shape.ReducesTo ⟨4, ![a, b, c, d]⟩ [0, 1] ⟨2, ![c, d]⟩) (hu : 0 < (⟨0, ![]⟩ : Shape).numel) :
    Host.reduceAdd (F := Ideal) (q4 f : FVec Ideal ⟨4, ![a, b, c, d]⟩ .f32) (constant (F := Ideal) ⟨0, ![]⟩ .f32 0x00000000#32) h hu
      = nm (φ := .f32) fun k l => ∑ r ∈ Finset.range (a * b), f (r / b) (r % b) k l := by
  funext j
  have j0 : (j 0).val < c := (j 0).isLt
  have j1 : (j 1).val < d := (j 1).isLt
  show Ideal.ofBits .f32 0x00000000#32 + ∑ i ∈ Finset.univ.filter (fun i => h.drop i = j), _
    = ((∑ r ∈ Finset.range (a * b), f (r / b) (r % b) (j 0).val (j 1).val : ℝ) : EReal)
  rw [Ideal.ofBits_zero_f32, zero_add, coe_sum]
  refine Finset.sum_bij' (fun i _ => (i 0).val * b + (i 1).val) (fun r hr => ix4
    (⟨r / b, Nat.div_lt_of_lt_mul (Nat.mul_comm a b ▸ Finset.mem_range.mp hr)⟩ : Fin a)
    (⟨r % b, Nat.mod_lt _ (Nat.pos_of_ne_zero fun hb => by have := Finset.mem_range.mp hr; rw [hb, Nat.mul_zero] at this; omega)⟩ : Fin b)
    (⟨_, j0⟩ : Fin c) (⟨_, j1⟩ : Fin d)) ?_ ?_ ?_ ?_ ?_
  · intro i _
    have i0 : (i 0).val < a := (i 0).isLt
    have i1 : (i 1).val < b := (i 1).isLt
    refine Finset.mem_range.mpr ?_
    calc (i 0).val * b + (i 1).val < (i 0).val * b + b := Nat.add_lt_add_left i1 _
      _ = ((i 0).val + 1) * b := (Nat.succ_mul _ _).symm
      _ ≤ a * b := Nat.mul_le_mul_right _ i0
  · intro r hr
    refine Finset.mem_filter.mpr ⟨Finset.mem_univ _, funext fun x => Fin.ext ?_⟩
    match x with
    | ⟨0, _⟩ => exact Shape.ReducesTo.drop_apply_val h _ 0
    | ⟨1, _⟩ => exact Shape.ReducesTo.drop_apply_val h _ 1
  · intro i hi
    have e := (Finset.mem_filter.mp hi).2
    have i1 : (i 1).val < b := (i 1).isLt
    have e0 : (h.drop i 0 : ℕ) = i 2 := Shape.ReducesTo.drop_apply_val h i 0
    have e1 : (h.drop i 1 : ℕ) = i 3 := Shape.ReducesTo.drop_apply_val h i 1
    rw [e] at e0 e1
    funext x
    match x with
    | ⟨0, _⟩ => exact Fin.ext (show ((i 0).val * b + (i 1).val) / b = (i 0).val by
        rw [Nat.mul_comm, Nat.mul_add_div (by omega), Nat.div_eq_of_lt i1, Nat.add_zero])
    | ⟨1, _⟩ => exact Fin.ext (show ((i 0).val * b + (i 1).val) % b = (i 1).val by rw [Nat.mul_comm, Nat.mul_add_mod, Nat.mod_eq_of_lt i1])
    | ⟨2, _⟩ => exact Fin.ext e0
    | ⟨3, _⟩ => exact Fin.ext e1
  · intro r _
    show r / b * b + r % b = r
    rw [Nat.mul_comm]
    exact Nat.div_add_mod r b
  · intro i hi
    have e := (Finset.mem_filter.mp hi).2
    have i1 : (i 1).val < b := (i 1).isLt
    have e0 : (h.drop i 0 : ℕ) = i 2 := Shape.ReducesTo.drop_apply_val h i 0
    have e1 : (h.drop i 1 : ℕ) = i 3 := Shape.ReducesTo.drop_apply_val h i 1
    rw [e] at e0 e1
    show ((f (i 0).val (i 1).val (i 2).val (i 3).val : ℝ) : EReal)
      = ((f (((i 0).val * b + (i 1).val) / b) (((i 0).val * b + (i 1).val) % b) (j 0).val (j 1).val : ℝ) : EReal)
    rw [e0, e1, Nat.mul_comm (i 0).val b, Nat.mul_add_div (by omega), Nat.div_eq_of_lt i1, Nat.add_zero, Nat.mul_add_mod, Nat.mod_eq_of_lt i1]

/-- A coordinate below an extent, read through a spread of an axis. -/
theorem spread_coord {n x : ℕ} (hx : x < n) : x = if n = 1 then 0 else x := by split <;> omega

/-- One lane spread over the lanes. -/
theorem lane_q4 (dims : Fin 4 → Fin 4) (hd : dims = ![0, 1, 2, 3]) (hb : Shape.BroadcastsInDim ⟨4, ![a, b, c, 1]⟩ ⟨4, ![a, b, c, d]⟩ dims) :
    broadcastInDim ⟨4, ![a, b, c, d]⟩ dims hb (q4 f : FVec Ideal ⟨4, ![a, b, c, 1]⟩ φ) = (q4 (fun i j k _ => f i j k 0) : FVec Ideal ⟨4, ![a, b, c, d]⟩ φ) := by
  subst hd
  exact funext fun i => broadcastInDim_apply _ _ _ i (ix4 (⟨(i 0).val, (i 0).isLt⟩ : Fin a) (⟨(i 1).val, (i 1).isLt⟩ : Fin b) (⟨(i 2).val, (i 2).isLt⟩ : Fin c) (0 : Fin 1))
    (fun x => match x with
      | ⟨0, _⟩ => spread_coord (i 0).isLt
      | ⟨1, _⟩ => spread_coord (i 1).isLt
      | ⟨2, _⟩ => spread_coord (i 2).isLt
      | ⟨3, _⟩ => rfl)

/-- A value for each head spread over the lanes. -/
theorem head_q3 (dims : Fin 3 → Fin 4) (hd : dims = ![0, 1, 2]) (hb : Shape.BroadcastsInDim ⟨3, ![a, b, c]⟩ ⟨4, ![a, b, c, d]⟩ dims) :
    broadcastInDim ⟨4, ![a, b, c, d]⟩ dims hb (q3 t : FVec Ideal ⟨3, ![a, b, c]⟩ φ) = (q4 (fun i j k _ => t i j k) : FVec Ideal ⟨4, ![a, b, c, d]⟩ φ) := by
  subst hd
  exact funext fun i => broadcastInDim_apply _ _ _ i (ix3 (⟨(i 0).val, (i 0).isLt⟩ : Fin a) (⟨(i 1).val, (i 1).isLt⟩ : Fin b) (⟨(i 2).val, (i 2).isLt⟩ : Fin c))
    (fun x => match x with
      | ⟨0, _⟩ => spread_coord (i 0).isLt
      | ⟨1, _⟩ => spread_coord (i 1).isLt
      | ⟨2, _⟩ => spread_coord (i 2).isLt)

/-- A row's values with an axis of one head. -/
theorem one_head_q3 (dims : Fin 3 → Fin 4) (hd : dims = ![0, 1, 3]) (hb : Shape.BroadcastsInDim ⟨3, ![a, b, d]⟩ ⟨4, ![a, b, 1, d]⟩ dims) :
    broadcastInDim ⟨4, ![a, b, 1, d]⟩ dims hb (q3 t : FVec Ideal ⟨3, ![a, b, d]⟩ φ) = (q4 (fun i j _ l => t i j l) : FVec Ideal ⟨4, ![a, b, 1, d]⟩ φ) := by
  subst hd
  exact funext fun i => broadcastInDim_apply _ _ _ i (ix3 (⟨(i 0).val, (i 0).isLt⟩ : Fin a) (⟨(i 1).val, (i 1).isLt⟩ : Fin b) (⟨(i 3).val, (i 3).isLt⟩ : Fin d))
    (fun x => match x with
      | ⟨0, _⟩ => spread_coord (i 0).isLt
      | ⟨1, _⟩ => spread_coord (i 1).isLt
      | ⟨2, _⟩ => spread_coord (i 3).isLt)

/-- One head spread over the heads. -/
theorem heads_q4 (dims : Fin 4 → Fin 4) (hd : dims = ![0, 1, 2, 3]) (hb : Shape.BroadcastsInDim ⟨4, ![a, b, 1, d]⟩ ⟨4, ![a, b, c, d]⟩ dims) :
    broadcastInDim ⟨4, ![a, b, c, d]⟩ dims hb (q4 f : FVec Ideal ⟨4, ![a, b, 1, d]⟩ φ) = (q4 (fun i j _ l => f i j 0 l) : FVec Ideal ⟨4, ![a, b, c, d]⟩ φ) := by
  subst hd
  exact funext fun i => broadcastInDim_apply _ _ _ i (ix4 (⟨(i 0).val, (i 0).isLt⟩ : Fin a) (⟨(i 1).val, (i 1).isLt⟩ : Fin b) (0 : Fin 1) (⟨(i 3).val, (i 3).isLt⟩ : Fin d))
    (fun x => match x with
      | ⟨0, _⟩ => spread_coord (i 0).isLt
      | ⟨1, _⟩ => spread_coord (i 1).isLt
      | ⟨2, _⟩ => rfl
      | ⟨3, _⟩ => spread_coord (i 3).isLt)

/-- A matrix spread over batches and rows. -/
theorem all_rows_q4 (dims : Fin 4 → Fin 4) (hd : dims = ![0, 1, 2, 3]) (hb : Shape.BroadcastsInDim ⟨4, ![1, 1, c, d]⟩ ⟨4, ![a, b, c, d]⟩ dims) :
    broadcastInDim ⟨4, ![a, b, c, d]⟩ dims hb (q4 f : FVec Ideal ⟨4, ![1, 1, c, d]⟩ φ) = (q4 (fun _ _ k l => f 0 0 k l) : FVec Ideal ⟨4, ![a, b, c, d]⟩ φ) := by
  subst hd
  exact funext fun i => broadcastInDim_apply _ _ _ i (ix4 (0 : Fin 1) (0 : Fin 1) (⟨(i 2).val, (i 2).isLt⟩ : Fin c) (⟨(i 3).val, (i 3).isLt⟩ : Fin d))
    (fun x => match x with
      | ⟨0, _⟩ => rfl
      | ⟨1, _⟩ => rfl
      | ⟨2, _⟩ => spread_coord (i 2).isLt
      | ⟨3, _⟩ => spread_coord (i 3).isLt)

/-- A gain spread over the heads, with two axes of one. -/
theorem gain_q4 (w : ℕ → ℝ) (d1 : Fin 1 → Fin 2) (e1 : d1 = ![1]) (d2 : Fin 2 → Fin 4) (e2 : d2 = ![2, 3])
    (h1 : Shape.BroadcastsInDim ⟨1, ![d]⟩ ⟨2, ![c, d]⟩ d1) (h2 : Shape.BroadcastsInDim ⟨2, ![c, d]⟩ ⟨4, ![1, 1, c, d]⟩ d2) :
    broadcastInDim ⟨4, ![1, 1, c, d]⟩ d2 h2 (broadcastInDim ⟨2, ![c, d]⟩ d1 h1 (up (fun i => w (i 0).val) : FVec Ideal ⟨1, ![d]⟩ φ))
      = (q4 (fun _ _ _ l => w l) : FVec Ideal ⟨4, ![1, 1, c, d]⟩ φ) := by
  subst e1 e2
  funext i
  refine (broadcastInDim_apply _ h2 _ i (ix2 (⟨(i 2).val, (i 2).isLt⟩ : Fin c) (⟨(i 3).val, (i 3).isLt⟩ : Fin d)) (fun x => match x with
    | ⟨0, _⟩ => spread_coord (i 2).isLt
    | ⟨1, _⟩ => spread_coord (i 3).isLt)).trans ?_
  exact broadcastInDim_apply _ h1 _ _ (ix1 (⟨(i 3).val, (i 3).isLt⟩ : Fin d)) (fun x => match x with | ⟨0, _⟩ => spread_coord (i 3).isLt)

/-- A slice of the lanes. -/
theorem slice_q4 (o e : ℕ) (hs : Shape.Slices ⟨4, ![a, b, c, d]⟩ ![0, 0, 0, o] ⟨4, ![a, b, c, e]⟩) :
    extractStridedSlice ⟨4, ![a, b, c, e]⟩ ![0, 0, 0, o] (q4 f : FVec Ideal ⟨4, ![a, b, c, d]⟩ φ) hs = (q4 (fun i j k l => f i j k (o + l)) : FVec Ideal ⟨4, ![a, b, c, e]⟩ φ) := by
  funext i
  have i3 : (i 3).val < e := (i 3).isLt
  have ho : o + e ≤ d := hs.2 3
  exact extractStridedSlice_apply _ _ _ i (ix4 (⟨(i 0).val, (i 0).isLt⟩ : Fin a) (⟨(i 1).val, (i 1).isLt⟩ : Fin b) (⟨(i 2).val, (i 2).isLt⟩ : Fin c)
    (⟨o + (i 3).val, by omega⟩ : Fin d)) (fun x => match x with
      | ⟨0, _⟩ => (Nat.zero_add _).symm
      | ⟨1, _⟩ => (Nat.zero_add _).symm
      | ⟨2, _⟩ => (Nat.zero_add _).symm
      | ⟨3, _⟩ => rfl)

/-- Lanes with zeros before and after them. -/
theorem pad_q4 (o p e : ℕ) (hp : Shape.Pads ⟨4, ![a, b, c, e]⟩ ![0, 0, 0, o] ![0, 0, 0, p] ![0, 0, 0, 0] ⟨4, ![a, b, c, d]⟩)
    (hu : 0 < (⟨0, ![]⟩ : Shape).numel) :
    pad ⟨4, ![a, b, c, d]⟩ ![0, 0, 0, o] ![0, 0, 0, p] ![0, 0, 0, 0] (q4 f : FVec Ideal ⟨4, ![a, b, c, e]⟩ .f32) (constant (F := Ideal) ⟨0, ![]⟩ .f32 0x00000000#32) hp hu
      = (q4 (fun i j k l => if o ≤ l ∧ l - o < e then f i j k (l - o) else 0) : FVec Ideal ⟨4, ![a, b, c, d]⟩ .f32) := by
  funext i
  rw [q4_apply]
  by_cases h : o ≤ (i 3).val ∧ (i 3).val - o < e
  · rw [if_pos h]
    exact pad_apply_of_inside _ _ _ _ _ _ _ i (ix4 (⟨(i 0).val, (i 0).isLt⟩ : Fin a) (⟨(i 1).val, (i 1).isLt⟩ : Fin b) (⟨(i 2).val, (i 2).isLt⟩ : Fin c)
      (⟨(i 3).val - o, h.2⟩ : Fin e)) (fun x => match x with
        | ⟨0, _⟩ => by show (i 0).val = 0 + (i 0).val * (0 + 1); omega
        | ⟨1, _⟩ => by show (i 1).val = 0 + (i 1).val * (0 + 1); omega
        | ⟨2, _⟩ => by show (i 2).val = 0 + (i 2).val * (0 + 1); omega
        | ⟨3, _⟩ => by show (i 3).val = o + ((i 3).val - o) * (0 + 1); omega)
  · rw [if_neg h]
    refine (pad_apply_of_not_inside _ _ _ _ _ _ _ i (3 : Fin 4) (fun hin => h ⟨hin.1, ?_⟩)).trans Ideal.ofBits_zero_f32
    have h3 : ((i 3).val - o) / (0 + 1) < e := hin.2.2
    omega

/-- An axis of one lane added. -/
theorem add_lane_q3 (hc : Shape.ShapeCasts ⟨3, ![a, b, c]⟩ ⟨4, ![a, b, c, 1]⟩) :
    shapeCast ⟨4, ![a, b, c, 1]⟩ (q3 t : FVec Ideal ⟨3, ![a, b, c]⟩ φ) hc = (q4 (fun i j k _ => t i j k) : FVec Ideal ⟨4, ![a, b, c, 1]⟩ φ) := by
  funext i
  have i3 : (i 3).val < 1 := (i 3).isLt
  refine shapeCast_apply _ _ i (ix3 (⟨(i 0).val, (i 0).isLt⟩ : Fin a) (⟨(i 1).val, (i 1).isLt⟩ : Fin b) (⟨(i 2).val, (i 2).isLt⟩ : Fin c)) ?_
  rw [Shape.rowMajor_val_three, Shape.rowMajor_val_four]
  show ((i 0).val * b + (i 1).val) * c + (i 2).val = (((i 0).val * b + (i 1).val) * c + (i 2).val) * 1 + (i 3).val
  omega

/-- Two axes of one added before a matrix. -/
theorem add_rows_nm (w : ℕ → ℕ → ℝ) (hc : Shape.ShapeCasts ⟨2, ![c, d]⟩ ⟨4, ![1, 1, c, d]⟩) :
    shapeCast ⟨4, ![1, 1, c, d]⟩ (nm (φ := φ) w : FVec Ideal ⟨2, ![c, d]⟩ φ) hc = (q4 (fun _ _ k l => w k l) : FVec Ideal ⟨4, ![1, 1, c, d]⟩ φ) := by
  funext i
  have i0 : (i 0).val < 1 := (i 0).isLt
  have i1 : (i 1).val < 1 := (i 1).isLt
  refine shapeCast_apply _ _ i (ix2 (⟨(i 2).val, (i 2).isLt⟩ : Fin c) (⟨(i 3).val, (i 3).isLt⟩ : Fin d)) ?_
  rw [Shape.rowMajor_val_two, Shape.rowMajor_val_four]
  show (i 2).val * d + (i 3).val = (((i 0).val * 1 + (i 1).val) * c + (i 2).val) * d + (i 3).val
  rw [show (i 0).val = 0 by omega, show (i 1).val = 0 by omega]
  simp

theorem pos_right {n x y : ℕ} (h : n < x * y) : 0 < y := Nat.pos_of_ne_zero fun e => by rw [e, Nat.mul_zero] at h; omega
theorem div_below {n x y : ℕ} (h : n < x * y) : n / y < x := Nat.div_lt_of_lt_mul (by rwa [Nat.mul_comm] at h)

/-- Batches, rows, heads and lanes made a matrix. -/
theorem flat_q4 {N M : ℕ} (hN : N = a * b) (hM : M = c * d) (hc : Shape.ShapeCasts ⟨4, ![a, b, c, d]⟩ ⟨2, ![N, M]⟩) :
    shapeCast ⟨2, ![N, M]⟩ (q4 f : FVec Ideal ⟨4, ![a, b, c, d]⟩ φ) hc = nm (φ := φ) fun r x => f (r / b) (r % b) (x / d) (x % d) := by
  funext i
  have i0 : (i 0).val < a * b := Nat.lt_of_lt_of_eq (i 0).isLt hN
  have i1 : (i 1).val < c * d := Nat.lt_of_lt_of_eq (i 1).isLt hM
  refine shapeCast_apply _ _ i (ix4 (⟨(i 0).val / b, div_below i0⟩ : Fin a) (⟨(i 0).val % b, Nat.mod_lt _ (pos_right i0)⟩ : Fin b)
    (⟨(i 1).val / d, div_below i1⟩ : Fin c) (⟨(i 1).val % d, Nat.mod_lt _ (pos_right i1)⟩ : Fin d)) ?_
  rw [Shape.rowMajor_val_four, Shape.rowMajor_val_two]
  show (((i 0).val / b * b + (i 0).val % b) * c + (i 1).val / d) * d + (i 1).val % d = (i 0).val * M + (i 1).val
  refine Eq.trans ?_ (congrArg (fun y => (i 0).val * y + (i 1).val) hM.symm)
  rw [Nat.mul_comm _ b, Nat.div_add_mod, Nat.add_mul, Nat.add_assoc, Nat.mul_comm ((i 1).val / d) d, Nat.div_add_mod, Nat.mul_assoc]

/-- A matrix of heads and lanes made a row. -/
theorem flat_nm {M : ℕ} (w : ℕ → ℕ → ℝ) (hM : M = c * d) (hc : Shape.ShapeCasts ⟨2, ![c, d]⟩ ⟨2, ![1, M]⟩) :
    shapeCast ⟨2, ![1, M]⟩ (nm (φ := φ) w : FVec Ideal ⟨2, ![c, d]⟩ φ) hc = nm (φ := φ) fun _ x => w (x / d) (x % d) := by
  funext i
  have i0 : (i 0).val < 1 := (i 0).isLt
  have i1 : (i 1).val < c * d := Nat.lt_of_lt_of_eq (i 1).isLt hM
  refine shapeCast_apply _ _ i (ix2 (⟨(i 1).val / d, div_below i1⟩ : Fin c) (⟨(i 1).val % d, Nat.mod_lt _ (pos_right i1)⟩ : Fin d)) ?_
  rw [Shape.rowMajor_val_two, Shape.rowMajor_val_two]
  show (i 1).val / d * d + (i 1).val % d = (i 0).val * M + (i 1).val
  rw [Nat.mul_comm _ d, Nat.div_add_mod, show (i 0).val = 0 by omega, Nat.zero_mul, Nat.zero_add]

end grid

/-- The normalisation's gradient as the derivative writes it: once through the factor, and twice through the mean square. -/
theorem grad_real (x d g : ℕ → ℕ → ℝ) (r c : ℕ) :
    d r c * g 0 c * hrs x r c
      + x r c * ((∑ k ∈ Finset.range 64, x r (64 * (c / 64) + k) * (d r (64 * (c / 64) + k) * g 0 (64 * (c / 64) + k))) * (-(1 / 2) * (hrs x r c / hms x r c)) / 64)
      + (∑ k ∈ Finset.range 64, x r (64 * (c / 64) + k) * (d r (64 * (c / 64) + k) * g 0 (64 * (c / 64) + k))) * (-(1 / 2) * (hrs x r c / hms x r c)) / 64 * x r c
    = hgx x d g r c := by
  have hp := hms_pos x r c
  have e2 : hrs x r c / hms x r c = hrs x r c * (hrs x r c * hrs x r c) := by
    unfold hrs
    rw [div_eq_mul_inv]
    congr 1
    rw [← mul_inv, Real.mul_self_sqrt hp.le]
  have hk : ∀ k ∈ Finset.range 64, d r (64 * (c / 64) + k) * g 0 (64 * (c / 64) + k) * hnx x r (64 * (c / 64) + k)
      = x r (64 * (c / 64) + k) * (d r (64 * (c / 64) + k) * g 0 (64 * (c / 64) + k)) * hrs x r c := fun k hk => by
    have hk := Finset.mem_range.mp hk
    have e : (64 * (c / 64) + k) / 64 = c / 64 := by omega
    have e1 : hrs x r (64 * (c / 64) + k) = hrs x r c := by unfold hrs hms mean; rw [e]
    unfold hnx
    rw [e1]
    ring
  unfold hgx
  rw [show mean (fun r c => d r c * g 0 c * hnx x r c) r c = (∑ k ∈ Finset.range 64, d r (64 * (c / 64) + k) * g 0 (64 * (c / 64) + k) * hnx x r (64 * (c / 64) + k)) * (1 / 64) from rfl,
    Finset.sum_congr rfl hk, ← Finset.sum_mul, e2, show hnx x r c = x r c * hrs x r c from rfl]
  ring

end Cert.Lift

end
-- ==== Proof.SwaBwd.Finite.lean ====
/- The precondition of the sliding-window gradient: arguments that pass it are arrays of reals. -/
module

public import proofs.«01_k».proof.Proof.QkGrad.Finite
public import proofs.«01_k».proof.Proof.LiftGrid
public import proofs.«01_k».proof.Proof.Gen.Pre_swa_finite

@[expose] public section

set_option maxRecDepth 16384

noncomputable section

open Idealize.ShloMosaic Idealize.ShloMosaic.ValueIdx Cert.Lift

namespace Cert.Pre_swa_finite

open Cert.QkGradIdeal.Host0 (heads8 heads2)
open Cert.Pre_qk_finite (coord heads_of_finite)

theorem sinks_of_finite (a : FVec Ideal S8 .f32) (h : a = up fun i => (a i).toReal) : ∃ z : ℕ → ℝ, a = up fun i => z (i 0).val :=
  ⟨fun k => (a (ix1 (Fin.ofNat 8 k))).toReal, h.trans (funext fun i => by
    rw [up_apply, up_apply]
    refine congrArg (fun j => (((a j).toReal : ℝ) : EReal)) (funext fun x => ?_)
    match x with
    | ⟨0, _⟩ => exact (coord (n := 8) (i 0) rfl).symm)⟩

theorem rows_of_finite (a : FVec Ideal S2x2048x512 .f32) (h : a = up fun i => (a i).toReal) : ∃ D : ℕ → ℕ → ℝ, a = q3 fun b s l => D (2048 * b + s) l :=
  ⟨fun r l => (a (ix3 (Fin.ofNat 2 (r / 2048)) (Fin.ofNat 2048 (r % 2048)) (Fin.ofNat 512 l))).toReal, h.trans (funext fun i => by
    have i1 : (i 1).val < 2048 := (i 1).isLt
    rw [up_apply]
    refine congrArg (fun j => (((a j).toReal : ℝ) : EReal)) (funext fun x => ?_)
    match x with
    | ⟨0, _⟩ => exact (coord (n := 2) (i 0) (by omega)).symm
    | ⟨1, _⟩ => exact (coord (n := 2048) (i 1) (by omega)).symm
    | ⟨2, _⟩ => exact (coord (n := 512) (i 2) rfl).symm)⟩

open Cert.Pre_swa_finite.Gen in
/-- The arguments of a true precondition are arrays of reals. -/
theorem reals (x0 : FVec Ideal S2x2048x8x64 .f32) (x1 x2 : FVec Ideal S2x2048x2x64 .f32) (x3 : FVec Ideal S8 .f32) (x4 : FVec Ideal S2x2048x512 .f32)
    (h : fn (F := Ideal) x0 x1 x2 x3 x4 = fun _ => 1#1) :
    (∃ Q, x0 = heads8 Q) ∧ (∃ K, x1 = heads2 K) ∧ (∃ V, x2 = heads2 V) ∧ (∃ z : ℕ → ℝ, x3 = up fun i => z (i 0).val) ∧ ∃ D : ℕ → ℕ → ℝ, x4 = q3 fun b s l => D (2048 * b + s) l := by
  unfold fn fn_part1 at h
  dsimp only at h
  obtain ⟨h, h4⟩ := andi_all h
  obtain ⟨h, h3⟩ := andi_all h
  obtain ⟨h, h2⟩ := andi_all h
  obtain ⟨h0, h1⟩ := andi_all h
  have j : S_.Idx := fun i => i.elim0
  exact ⟨heads_of_finite _ (up_of_finite x0 _ (fun _ => ofBits_inf) _ _ _ j (congrFun h0 j)), heads_of_finite _ (up_of_finite x1 _ (fun _ => ofBits_inf) _ _ _ j (congrFun h1 j)),
    heads_of_finite _ (up_of_finite x2 _ (fun _ => ofBits_inf) _ _ _ j (congrFun h2 j)), sinks_of_finite _ (up_of_finite x3 _ (fun _ => ofBits_inf) _ _ _ j (congrFun h3 j)),
    rows_of_finite _ (up_of_finite x4 _ (fun _ => ofBits_inf) _ _ _ j (congrFun h4 j))⟩

end Cert.Pre_swa_finite

end
-- ==== Proof.SwaBwd.Body.lean ====
/-
  The sliding-window backward call: one grid point of its kernel.

  A point clears the sink sums when it is the very first, clears the two carried boundary blocks when it is the first
  of a sequence, and then either works through its 512 query rows (`mid`) or, at the fifth point of a sequence, writes
  the carried blocks out (`fin`).  `midRun` is the run of `mid` from any contents of the buffers it writes, with the
  stores it makes as the run finds them.
-/
module

public import proofs.«01_k».proof.Defs
public import proofs.«01_k».proof.Proof.Gen.SwaBwdIdeal.Launch
public import proofs.«01_k».proof.Proof.Gen.SwaBwdIdeal.Skeleton
public import proofs.«01_k».proof.Proof.Gen.SwaBwdIdeal.Points
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.Tactic

@[expose] public section

set_option maxRecDepth 16384

noncomputable section

namespace Cert.SwaBwdIdeal.Run

open Cert.SwaBwdIdeal Cert.SwaBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Four conditionals one after another, as the `do` block writes them and as a sequence. -/
theorem seq_four (p1 p2 p3 p4 : Prop) [Decidable p1] [Decidable p2] [Decidable p3] [Decidable p4] (a1 a2 a3 a4 : Prog (TpuEff nD τ sig (Elt F) Λ₀ .tc) PUnit) :
    (do
      if h1 : p1 then do
        a1
      else do
        pure ⟨⟩
      if h2 : p2 then do
        a2
      else do
        pure ⟨⟩
      if h3 : p3 then do
        a3
      else do
        pure ⟨⟩
      if h4 : p4 then do
        a4
      else do
        pure ⟨⟩
      pure ⟨⟩ : Prog (TpuEff nD τ sig (Elt F) Λ₀ .tc) PUnit) = (if h1 : p1 then a1 else pure ⟨⟩) >>= fun _ => (if h2 : p2 then a2 else pure ⟨⟩)
    >>= fun _ => (if h3 : p3 then a3 else pure ⟨⟩) >>= fun _ => (if h4 : p4 then a4 else pure ⟨⟩) >>= fun _ => pure ⟨⟩ := by
  by_cases h1 : p1 <;> by_cases h2 : p2 <;> by_cases h3 : p3 <;> by_cases h4 : p4 <;>
    simp only [h1, h2, h3, h4, dite_true, dite_false] <;> rfl

section Body

variable (i : grid0.Coords) (arg2 : Memref sig .tc .smem S8 .f32) (harg2 : arg2.IsWhole) (arg3 : Memref sig .tc .vmem S512x512 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S512x256 .bf16) (harg7 : arg7.IsWhole) (arg8 : Memref sig .tc .vmem S512x512 .bf16) (harg8 : arg8.IsWhole) (arg9 : Memref sig .tc .vmem S512x512 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S8x128 .f32) (harg12 : arg12.IsWhole) (arg13 : Memref sig .tc .vmem S128x256 .f32) (harg13 : arg13.IsWhole) (arg14 : Memref sig .tc .vmem S128x256 .f32) (harg14 : arg14.IsWhole)

/-- Clearing the sink sums. -/
def clearSink : Prog (TpuEff nD τ sig (Elt F) Λ₀ .tc) PUnit := do
  let _v : Vec F S8x128 .f32 ← Prog.lift (.load arg12 (Rect.unit (s := S8x128) ![0, 0] S8x128.size inb_S8x128_S8x128_0_0).toLoadRect (View.loadsAt_vmem h_S8x128))
  Prog.lift (.store arg12 (Rect.unit (s := S8x128) ![0, 0] S8x128.size inb_S8x128_S8x128_0_0) (k0_pay1 (F := F)) Finset.univ (View.stores_vmem_bits_univ h_S8x128 rfl) (.inl rfl))
  pure ⟨⟩

/-- Clearing the carried blocks. -/
def clearCarry : Prog (TpuEff nD τ sig (Elt F) Λ₀ .tc) PUnit := do
  let _v : Vec F S128x256 .f32 ← Prog.lift (.load arg13 (Rect.unit (s := S128x256) ![0, 0] S128x256.size inb_S128x256_S128x256_0_0).toLoadRect (View.loadsAt_vmem h_S128x256))
  Prog.lift (.store arg13 (Rect.unit (s := S128x256) ![0, 0] S128x256.size inb_S128x256_S128x256_0_0) (k0_pay2 (F := F)) Finset.univ (View.stores_vmem_bits_univ h_S128x256 rfl) (.inl rfl))
  let _v : Vec F S128x256 .f32 ← Prog.lift (.load arg14 (Rect.unit (s := S128x256) ![0, 0] S128x256.size inb_S128x256_S128x256_0_0).toLoadRect (View.loadsAt_vmem h_S128x256))
  Prog.lift (.store arg14 (Rect.unit (s := S128x256) ![0, 0] S128x256.size inb_S128x256_S128x256_0_0) (k0_pay3 (F := F)) Finset.univ (View.stores_vmem_bits_univ h_S128x256 rfl) (.inl rfl))
  pure ⟨⟩

/-- The work on a point's query rows. -/
def mid : Prog (TpuEff nD τ sig (Elt F) Λ₀ .tc) PUnit := do
  let ⟨v28, v1289, v1449, v1450, v1456, v1457⟩ : Σ' (v28 : IVec S128x128 1) (v1289 : FVec F S128x128 .f32) (v1449 : FVec F S512x128 .f32) (v1450 : FVec F S512x128 .f32) (v1456 : FVec F S128x128 .f32), FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 (BitVec.ofNat 32 (i 1).val)
  let _v : Vec F S128x128 .f32 ← Prog.lift (.load arg11 (Rect.unit (s := S512x256) ![384, 128] S128x128.size inb_S512x256_S128x128_384_128).toLoadRect (View.loadsAt_vmem h_S128x128))
  Prog.lift (.store arg11 (Rect.unit (s := S512x256) ![384, 128] S128x128.size inb_S512x256_S128x128_384_128) (k0_pay4 v28 v1289 v1456 v1457) Finset.univ (View.stores_vmem_bits_univ h_S128x128 rfl) (.inl rfl))
  let _v : Vec F S128x128 .f32 ← Prog.lift (.load arg13 (Rect.unit (s := S128x256) ![0, 128] S128x128.size inb_S128x256_S128x128_0_128).toLoadRect (View.loadsAt_vmem h_S128x128))
  Prog.lift (.store arg13 (Rect.unit (s := S128x256) ![0, 128] S128x128.size inb_S128x256_S128x128_0_128) (k0_pay5 v28 v1449) Finset.univ (View.stores_vmem_bits_univ h_S128x128 rfl) (.inl rfl))
  let _v : Vec F S128x128 .f32 ← Prog.lift (.load arg14 (Rect.unit (s := S128x256) ![0, 128] S128x128.size inb_S128x256_S128x128_0_128).toLoadRect (View.loadsAt_vmem h_S128x128))
  Prog.lift (.store arg14 (Rect.unit (s := S128x256) ![0, 128] S128x128.size inb_S128x256_S128x128_0_128) (k0_pay6 v28 v1450) Finset.univ (View.stores_vmem_bits_univ h_S128x128 rfl) (.inl rfl))
  pure ⟨⟩

/-- Writing the carried blocks out. -/
def fin : Prog (TpuEff nD τ sig (Elt F) Λ₀ .tc) PUnit := do
  let _v : Vec F S512x256 .f32 ← Prog.lift (.load arg10 (Rect.unit (s := S512x256) ![0, 0] S512x256.size inb_S512x256_S512x256_0_0).toLoadRect (View.loadsAt_vmem h_S512x256))
  Prog.lift (.store arg10 (Rect.unit (s := S512x256) ![0, 0] S512x256.size inb_S512x256_S512x256_0_0) (k0_pay7 (F := F)) Finset.univ (View.stores_vmem_bits_univ h_S512x256 rfl) (.inl rfl))
  let _v : Vec F S512x256 .f32 ← Prog.lift (.load arg11 (Rect.unit (s := S512x256) ![0, 0] S512x256.size inb_S512x256_S512x256_0_0).toLoadRect (View.loadsAt_vmem h_S512x256))
  Prog.lift (.store arg11 (Rect.unit (s := S512x256) ![0, 0] S512x256.size inb_S512x256_S512x256_0_0) (k0_pay8 (F := F)) Finset.univ (View.stores_vmem_bits_univ h_S512x256 rfl) (.inl rfl))
  let v18 : Vec F S128x256 .f32 ← Prog.lift (.load arg13 (Rect.unit (s := S128x256) ![0, 0] S128x256.size inb_S128x256_S128x256_0_0).toLoadRect (View.loadsAt_vmem h_S128x256))
  let _v : Vec F S128x256 .f32 ← Prog.lift (.load arg10 (Rect.unit (s := S512x256) ![0, 0] S128x256.size inb_S512x256_S128x256_0_0).toLoadRect (View.loadsAt_vmem h_S128x256))
  Prog.lift (.store arg10 (Rect.unit (s := S512x256) ![0, 0] S128x256.size inb_S512x256_S128x256_0_0) (v18) Finset.univ (View.stores_vmem_bits_univ h_S128x256 rfl) (.inl rfl))
  let v20 : Vec F S128x256 .f32 ← Prog.lift (.load arg14 (Rect.unit (s := S128x256) ![0, 0] S128x256.size inb_S128x256_S128x256_0_0).toLoadRect (View.loadsAt_vmem h_S128x256))
  let _v : Vec F S128x256 .f32 ← Prog.lift (.load arg11 (Rect.unit (s := S512x256) ![0, 0] S128x256.size inb_S512x256_S128x256_0_0).toLoadRect (View.loadsAt_vmem h_S128x256))
  Prog.lift (.store arg11 (Rect.unit (s := S512x256) ![0, 0] S128x256.size inb_S512x256_S128x256_0_0) (v20) Finset.univ (View.stores_vmem_bits_univ h_S128x256 rfl) (.inl rfl))
  pure ⟨⟩

/-- Whether the point is the first of a sequence, as the kernel asks. -/
abbrev cond2 : Prop := (Scalar.cmpi .ne (Scalar.extui (Scalar.cmpi .eq (BitVec.ofNat 32 (i 1).val) 0#32)) 0#32) = 1#1

set_option maxRecDepth 65536 in
/-- The kernel's body is these four, each under its condition. -/
theorem body_eq : cc0_swa_bwd (F := F) i arg2 harg2 arg3 harg3 arg4 harg4 arg5 harg5 arg6 harg6 arg7 harg7 arg8 harg8 arg9 harg9 arg10 harg10 arg11 harg11 arg12 harg12 arg13 harg13 arg14 harg14 = (do
    if k0_h1 : k0_cond1 i = 1#1 then do
      clearSink arg12
    else do
      pure ⟨⟩
    if k0_h2 : cond2 i then do
      clearCarry arg13 arg14
    else do
      pure ⟨⟩
    if k0_h3 : k0_cond3 i = 1#1 then do
      mid i arg2 harg2 arg3 harg3 arg4 harg4 arg5 harg5 arg6 harg6 arg7 harg7 arg8 harg8 arg9 harg9 arg10 harg10 arg11 harg11 arg12 harg12 arg13 harg13 arg14 harg14
    else do
      pure ⟨⟩
    if k0_h4 : k0_cond4 i = 1#1 then do
      fin arg10 arg11 arg13 arg14
    else do
      pure ⟨⟩
    pure ⟨⟩) := by sl_kernel_rfl

/-- The same as a sequence. -/
theorem body_seq : cc0_swa_bwd (F := F) i arg2 harg2 arg3 harg3 arg4 harg4 arg5 harg5 arg6 harg6 arg7 harg7 arg8 harg8 arg9 harg9 arg10 harg10 arg11 harg11 arg12 harg12 arg13 harg13 arg14 harg14 = (if k0_h1 : k0_cond1 i = 1#1 then clearSink arg12 else pure ⟨⟩)
    >>= fun _ => (if k0_h2 : cond2 i then clearCarry arg13 arg14 else pure ⟨⟩)
    >>= fun _ => (if k0_h3 : k0_cond3 i = 1#1 then mid i arg2 harg2 arg3 harg3 arg4 harg4 arg5 harg5 arg6 harg6 arg7 harg7 arg8 harg8 arg9 harg9 arg10 harg10 arg11 harg11 arg12 harg12 arg13 harg13 arg14 harg14 else pure ⟨⟩)
    >>= fun _ => (if k0_h4 : k0_cond4 i = 1#1 then fin arg10 arg11 arg13 arg14 else pure ⟨⟩) >>= fun _ => pure ⟨⟩ := by
  exact (body_eq i arg2 harg2 arg3 harg3 arg4 harg4 arg5 harg5 arg6 harg6 arg7 harg7 arg8 harg8 arg9 harg9 arg10 harg10 arg11 harg11 arg12 harg12 arg13 harg13 arg14 harg14).trans (seq_four _ _ _ _ _ _ _ _)

variable (c : Dev nD) (x0 : Vec F S8 .f32) (x1 : Vec F S512x512 .bf16) (x2 : Vec F S128x256 .bf16) (x3 : Vec F S512x256 .bf16) (x4 : Vec F S128x256 .bf16) (x5 : Vec F S512x256 .bf16) (x6 : Vec F S512x512 .bf16)

/-- The buffers a point works on: its blocks at their contents, and the six it writes. -/
def resP (f9 : Buf (Elt F) (arg9.view.loc (c : Thread nD τ))) ( f10 : Buf (Elt F) (arg10.view.loc (c : Thread nD τ))) ( f11 : Buf (Elt F) (arg11.view.loc (c : Thread nD τ))) ( f12 : Buf (Elt F) (arg12.view.loc (c : Thread nD τ))) ( f13 : Buf (Elt F) (arg13.view.loc (c : Thread nD τ))) ( f14 : Buf (Elt F) (arg14.view.loc (c : Thread nD τ))) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

set_option maxHeartbeats 4000000 in
/-- The run of `mid`: the stores it makes to each buffer, last first, and that they are what it does. -/
def midRun (x10 : Vec F S8x128 .f32) (y0 : Vec F S128x256 .f32) (y1 : Vec F S128x256 .f32) :
    Σ' (L9 : List (View.Piece (Elt F) S512x512 .f32)) (L10 : List (View.Piece (Elt F) S512x256 .f32)) (L11 : List (View.Piece (Elt F) S512x256 .f32))
      (L12 : List (View.Piece (Elt F) S8x128 .f32)) (L13 : List (View.Piece (Elt F) S128x256 .f32)), { L14 : List (View.Piece (Elt F) S128x256 .f32) //
      ∀ f9 f10 f11, resP arg2 harg2 arg3 harg3 arg4 harg4 arg5 harg5 arg6 harg6 arg7 harg7 arg8 harg8 arg9 arg10 arg11 arg12 arg13 arg14 c x0 x1 x2 x3 x4 x5 x6 f9 f10 f11 (harg12.unread x10) (harg13.unread y0) (harg14.unread y1)
        ⊢ wp frame (wpE (defs₀ (F := F)) Variants.none (c : Thread nD τ) none) Set.univ (mid i arg2 harg2 arg3 harg3 arg4 harg4 arg5 harg5 arg6 harg6 arg7 harg7 arg8 harg8 arg9 harg9 arg10 harg10 arg11 harg11 arg12 harg12 arg13 harg13 arg14 harg14)
          (fun _ => resP arg2 harg2 arg3 harg3 arg4 harg4 arg5 harg5 arg6 harg6 arg7 harg7 arg8 harg8 arg9 arg10 arg11 arg12 arg13 arg14 c x0 x1 x2 x3 x4 x5 x6 (arg9.view.writes (Elt F) f9 L9) (arg10.view.writes (Elt F) f10 L10) (arg11.view.writes (Elt F) f11 L11)
            (arg12.view.writes (Elt F) (harg12.unread x10) L12) (arg13.view.writes (Elt F) (harg13.unread y0) L13) (arg14.view.writes (Elt F) (harg14.unread y1) L14)) } := by
  refine ⟨?_, ?_, ?_, ?_, ?_, ?_, fun f9 f10 f11 => ?run⟩
  case run =>
    unfold mid resP
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    iintro ⟨H2, H3, H4, H5, H6, H7, H8, H9, H10, H11, H12, H13, H14⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

omit [FloatOps F] [Named F] in
/-- A whole buffer overwritten in full holds what was written, whatever it held. -/
theorem writes_full {sp : Space} {s : Shape} {e : EltTy} (a : Memref sig .tc sp s e) (ha : a.IsWhole) (f : a.view.ty.Contents (Elt F))
    {off : Fin s.rank → ℕ} (inb : ∀ a, off a + s.size a ≤ s.size a) (w : s.Idx → Elt F e) :
    a.view.writes (Elt F) f [⟨Rect.unit off s.size inb, w⟩] = ha.unread w :=
  ha.eq_unread (View.read_writes_full _ _ _ _ _)

abbrev wpP (p : Prog (TpuEff nD τ sig (Elt F) Λ₀ .tc) PUnit) (Q : PUnit → sProp 𝕄) : sProp 𝕄 := wp frame (wpE (defs₀ (F := F)) Variants.none (c : Thread nD τ) none) Set.univ p Q

variable (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))

/-- The sink sums after the first conditional, found at `x10`. -/
def sink1 (x10 : Vec F S8x128 .f32) : Vec F S8x128 .f32 := if k0_cond1 i = 1#1 then k0_pay1 (F := F) else x10
/-- A carried block after the second, found at `y`. -/
def carry1 (y : Vec F S128x256 .f32) : Vec F S128x256 .f32 := if cond2 i then k0_pay2 (F := F) else y
def carry2 (y : Vec F S128x256 .f32) : Vec F S128x256 .f32 := if cond2 i then k0_pay3 (F := F) else y

theorem run_sink (x10 : Vec F S8x128 .f32) (h12 : ¬ k0_cond1 i = 1#1 → f12 = harg12.unread x10) :
    resP arg2 harg2 arg3 harg3 arg4 harg4 arg5 harg5 arg6 harg6 arg7 harg7 arg8 harg8 arg9 arg10 arg11 arg12 arg13 arg14 c x0 x1 x2 x3 x4 x5 x6 f9 f10 f11 f12 f13 f14
      ⊢ wpP (F := F) c (if k0_h1 : k0_cond1 i = 1#1 then clearSink arg12 else pure ⟨⟩)
        (fun _ => resP arg2 harg2 arg3 harg3 arg4 harg4 arg5 harg5 arg6 harg6 arg7 harg7 arg8 harg8 arg9 arg10 arg11 arg12 arg13 arg14 c x0 x1 x2 x3 x4 x5 x6 f9 f10 f11 (harg12.unread (sink1 i x10)) f13 f14) := by
  unfold wpP
  by_cases h : k0_cond1 i = 1#1
  · rw [dif_pos h, sink1, if_pos h]
    unfold clearSink resP
    iintro ⟨H2, H3, H4, H5, H6, H7, H8, H9, H10, H11, H12, H13, H14⟩
    sl_exec
    sl_step
    rw [writes_full arg12 harg12]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [dif_neg h, sink1, if_neg h, h12 h, wp_pure]
    exact fupd_intro

theorem run_carry (y0 y1 : Vec F S128x256 .f32) (h13 : ¬ cond2 i → f13 = harg13.unread y0) (h14 : ¬ cond2 i → f14 = harg14.unread y1) :
    resP arg2 harg2 arg3 harg3 arg4 harg4 arg5 harg5 arg6 harg6 arg7 harg7 arg8 harg8 arg9 arg10 arg11 arg12 arg13 arg14 c x0 x1 x2 x3 x4 x5 x6 f9 f10 f11 f12 f13 f14
      ⊢ wpP (F := F) c (if k0_h2 : cond2 i then clearCarry arg13 arg14 else pure ⟨⟩)
        (fun _ => resP arg2 harg2 arg3 harg3 arg4 harg4 arg5 harg5 arg6 harg6 arg7 harg7 arg8 harg8 arg9 arg10 arg11 arg12 arg13 arg14 c x0 x1 x2 x3 x4 x5 x6 f9 f10 f11 f12 (harg13.unread (carry1 i y0)) (harg14.unread (carry2 i y1))) := by
  unfold wpP
  by_cases h : cond2 i
  · rw [dif_pos h, carry1, if_pos h, carry2, if_pos h]
    unfold clearCarry resP
    iintro ⟨H2, H3, H4, H5, H6, H7, H8, H9, H10, H11, H12, H13, H14⟩
    sl_exec
    sl_step
    rw [writes_full arg13 harg13, writes_full arg14 harg14]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [dif_neg h, carry1, if_neg h, carry2, if_neg h, h13 h, h14 h, wp_pure]
    exact fupd_intro

set_option maxHeartbeats 2000000 in
/-- The run of `fin`: a boundary block's write-out. -/
def finRun (y0 y1 : Vec F S128x256 .f32) : Σ' (L10 : List (View.Piece (Elt F) S512x256 .f32)), { L11 : List (View.Piece (Elt F) S512x256 .f32) //
    ∀ f9 f10 f11 f12, resP arg2 harg2 arg3 harg3 arg4 harg4 arg5 harg5 arg6 harg6 arg7 harg7 arg8 harg8 arg9 arg10 arg11 arg12 arg13 arg14 c x0 x1 x2 x3 x4 x5 x6 f9 f10 f11 f12 (harg13.unread y0) (harg14.unread y1)
      ⊢ wp frame (wpE (defs₀ (F := F)) Variants.none (c : Thread nD τ) none) Set.univ (fin arg10 arg11 arg13 arg14)
        (fun _ => resP arg2 harg2 arg3 harg3 arg4 harg4 arg5 harg5 arg6 harg6 arg7 harg7 arg8 harg8 arg9 arg10 arg11 arg12 arg13 arg14 c x0 x1 x2 x3 x4 x5 x6 f9 (arg10.view.writes (Elt F) f10 L10) (arg11.view.writes (Elt F) f11 L11) f12 (harg13.unread y0) (harg14.unread y1)) } := by
  refine ⟨?_, ?_, fun f9 f10 f11 f12 => ?run⟩
  case run =>
    unfold fin resP
    iintro ⟨H2, H3, H4, H5, H6, H7, H8, H9, H10, H11, H12, H13, H14⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The whole point where the query rows are worked through, from what `mid` does. -/
theorem run_rows_of (x10 : Vec F S8x128 .f32) (y0 y1 : Vec F S128x256 .f32) (h3 : k0_cond3 i = 1#1) (h4 : ¬ k0_cond4 i = 1#1)
    (h12 : ¬ k0_cond1 i = 1#1 → f12 = harg12.unread x10) (h13 : ¬ cond2 i → f13 = harg13.unread y0) (h14 : ¬ cond2 i → f14 = harg14.unread y1) (Q : PUnit → sProp 𝕄)
    (hm : resP arg2 harg2 arg3 harg3 arg4 harg4 arg5 harg5 arg6 harg6 arg7 harg7 arg8 harg8 arg9 arg10 arg11 arg12 arg13 arg14 c x0 x1 x2 x3 x4 x5 x6 f9 f10 f11 (harg12.unread (sink1 i x10)) (harg13.unread (carry1 i y0)) (harg14.unread (carry2 i y1))
      ⊢ wpP (F := F) c (mid i arg2 harg2 arg3 harg3 arg4 harg4 arg5 harg5 arg6 harg6 arg7 harg7 arg8 harg8 arg9 harg9 arg10 harg10 arg11 harg11 arg12 harg12 arg13 harg13 arg14 harg14) Q) :
    resP arg2 harg2 arg3 harg3 arg4 harg4 arg5 harg5 arg6 harg6 arg7 harg7 arg8 harg8 arg9 arg10 arg11 arg12 arg13 arg14 c x0 x1 x2 x3 x4 x5 x6 f9 f10 f11 f12 f13 f14 ⊢ wpP (F := F) c (cc0_swa_bwd i arg2 harg2 arg3 harg3 arg4 harg4 arg5 harg5 arg6 harg6 arg7 harg7 arg8 harg8 arg9 harg9 arg10 harg10 arg11 harg11 arg12 harg12 arg13 harg13 arg14 harg14) Q := by
  unfold wpP; rw [body_seq, wp_bind]
  refine (run_sink i arg2 harg2 arg3 harg3 arg4 harg4 arg5 harg5 arg6 harg6 arg7 harg7 arg8 harg8 arg9 arg10 arg11 arg12 harg12 arg13 arg14 c x0 x1 x2 x3 x4 x5 x6 f9 f10 f11 f12 f13 f14 x10 h12).trans (wp_mono _ _ _ fun _ => ?_)
  rw [wp_bind]
  refine (run_carry i arg2 harg2 arg3 harg3 arg4 harg4 arg5 harg5 arg6 harg6 arg7 harg7 arg8 harg8 arg9 arg10 arg11 arg12 arg13 harg13 arg14 harg14 c x0 x1 x2 x3 x4 x5 x6 f9 f10 f11 _ f13 f14 y0 y1 h13 h14).trans (wp_mono _ _ _ fun _ => ?_)
  rw [wp_bind, dif_pos h3]
  refine hm.trans (wp_mono _ _ _ fun _ => ?_)
  rw [wp_bind, dif_neg h4, wp_pure, wp_pure]
  exact fupd_intro.trans (fupd_mono fupd_intro)

/-- The point's own run of `mid`, from what its conditionals leave. -/
abbrev rowsRun (x10 : Vec F S8x128 .f32) (y0 y1 : Vec F S128x256 .f32) :=
  midRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 (sink1 i x10) (carry1 i y0) (carry2 i y1)

theorem run_rows (x10 : Vec F S8x128 .f32) (y0 y1 : Vec F S128x256 .f32) (h3 : k0_cond3 i = 1#1) (h4 : ¬ k0_cond4 i = 1#1)
    (h12 : ¬ k0_cond1 i = 1#1 → f12 = harg12.unread x10) (h13 : ¬ cond2 i → f13 = harg13.unread y0) (h14 : ¬ cond2 i → f14 = harg14.unread y1) :
    resP arg2 harg2 arg3 harg3 arg4 harg4 arg5 harg5 arg6 harg6 arg7 harg7 arg8 harg8 arg9 arg10 arg11 arg12 arg13 arg14 c x0 x1 x2 x3 x4 x5 x6 f9 f10 f11 f12 f13 f14
      ⊢ wpP (F := F) c (cc0_swa_bwd i arg2 harg2 arg3 harg3 arg4 harg4 arg5 harg5 arg6 harg6 arg7 harg7 arg8 harg8 arg9 harg9 arg10 harg10 arg11 harg11 arg12 harg12 arg13 harg13 arg14 harg14) (fun _ =>
        resP arg2 harg2 arg3 harg3 arg4 harg4 arg5 harg5 arg6 harg6 arg7 harg7 arg8 harg8 arg9 arg10 arg11 arg12 arg13 arg14 c x0 x1 x2 x3 x4 x5 x6 (arg9.view.writes (Elt F) f9 (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).1)
          (arg10.view.writes (Elt F) f10 (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).2.1) (arg11.view.writes (Elt F) f11 (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).2.2.1)
          (arg12.view.writes (Elt F) (harg12.unread (sink1 i x10)) (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).2.2.2.1)
          (arg13.view.writes (Elt F) (harg13.unread (carry1 i y0)) (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).2.2.2.2.1)
          (arg14.view.writes (Elt F) (harg14.unread (carry2 i y1)) (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1).2.2.2.2.2.1)) :=
  run_rows_of i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 f9 f10 f11 f12 f13 f14 x10 y0 y1 h3 h4 h12 h13 h14 _
    ((midRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 (sink1 i x10) (carry1 i y0) (carry2 i y1)).2.2.2.2.2.2 f9 f10 f11)

/-- The whole point where the carried blocks are written out. -/
theorem run_out (x10 : Vec F S8x128 .f32) (y0 y1 : Vec F S128x256 .f32) (h1 : ¬ k0_cond1 i = 1#1) (h2 : ¬ cond2 i) (h3 : ¬ k0_cond3 i = 1#1) (h4 : k0_cond4 i = 1#1) :
    resP arg2 harg2 arg3 harg3 arg4 harg4 arg5 harg5 arg6 harg6 arg7 harg7 arg8 harg8 arg9 arg10 arg11 arg12 arg13 arg14 c x0 x1 x2 x3 x4 x5 x6 f9 f10 f11 f12 (harg13.unread y0) (harg14.unread y1)
      ⊢ wpP (F := F) c (cc0_swa_bwd i arg2 harg2 arg3 harg3 arg4 harg4 arg5 harg5 arg6 harg6 arg7 harg7 arg8 harg8 arg9 harg9 arg10 harg10 arg11 harg11 arg12 harg12 arg13 harg13 arg14 harg14) (fun _ =>
        resP arg2 harg2 arg3 harg3 arg4 harg4 arg5 harg5 arg6 harg6 arg7 harg7 arg8 harg8 arg9 arg10 arg11 arg12 arg13 arg14 c x0 x1 x2 x3 x4 x5 x6 f9 (arg10.view.writes (Elt F) f10 (finRun arg2 harg2 arg3 harg3 arg4 harg4 arg5 harg5 arg6 harg6 arg7 harg7 arg8 harg8 arg9 arg10 arg11 arg12 arg13 harg13 arg14 harg14 c x0 x1 x2 x3 x4 x5 x6 y0 y1).1) (arg11.view.writes (Elt F) f11 (finRun arg2 harg2 arg3 harg3 arg4 harg4 arg5 harg5 arg6 harg6 arg7 harg7 arg8 harg8 arg9 arg10 arg11 arg12 arg13 harg13 arg14 harg14 c x0 x1 x2 x3 x4 x5 x6 y0 y1).2.1) f12 (harg13.unread y0) (harg14.unread y1)) := by
  unfold wpP; rw [body_seq, wp_bind, dif_neg h1, wp_pure]
  refine fupd_intro.trans (fupd_mono ?_)
  rw [wp_bind, dif_neg h2, wp_pure]
  refine fupd_intro.trans (fupd_mono ?_)
  rw [wp_bind, dif_neg h3, wp_pure]
  refine fupd_intro.trans (fupd_mono ?_)
  rw [wp_bind, dif_pos h4]
  refine ((finRun arg2 harg2 arg3 harg3 arg4 harg4 arg5 harg5 arg6 harg6 arg7 harg7 arg8 harg8 arg9 arg10 arg11 arg12 arg13 harg13 arg14 harg14 c x0 x1 x2 x3 x4 x5 x6 y0 y1).2.2 f9 f10 f11 f12).trans (wp_mono _ _ _ fun _ => ?_)
  rw [wp_pure]
  exact fupd_intro

end Body

end Cert.SwaBwdIdeal.Run
end
-- ==== Proof.SwaBwd.Run.lean ====
/-
  The sliding-window backward call: the run of its pipeline and its frame, over any float values.

  `stAt` follows the buffers from point to point: the query-side gradient's block (left as it is at the fifth point of a
  sequence), the two key-side blocks, the sink sums and the two carried boundary blocks.
-/
module

public import proofs.«01_k».proof.Proof.SwaBwd.Body
public import proofs.«01_k».proof.Proof.Gen.SwaBwdIdeal.Frame
public import Idealize.ShloMosaic.Lib.WordCmp
public import Idealize.ShloMosaic.Lib.Pipeline.TableIdle

@[expose] public section

set_option maxRecDepth 16384

noncomputable section

namespace Cert.SwaBwdIdeal.Run

open Cert.SwaBwdIdeal Cert.SwaBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions at a point -/

theorem cond1_iff : ∀ t : Fin grid0.N, k0_cond1 (grid0.coords t) = 1#1 ↔ t.val = 0 := by decide +kernel
theorem cond2_iff : ∀ t : Fin grid0.N, cond2 (grid0.coords t) ↔ t.val % 5 = 0 := by decide +kernel
theorem cond3_iff : ∀ t : Fin grid0.N, k0_cond3 (grid0.coords t) = 1#1 ↔ t.val % 5 ≠ 4 := by decide +kernel
theorem cond4_iff : ∀ t : Fin grid0.N, k0_cond4 (grid0.coords t) = 1#1 ↔ t.val % 5 = 4 := by decide +kernel
theorem flush7_iff : ∀ t : Fin grid0.N, win0_7.flush t = true ↔ t.val % 5 ≠ 3 := by decide +kernel

/-! ## What a point leaves -/

abbrev hst (t : Fin cfg0.N) (w : Fin 11) : ((cfg0.win w).stage (cfg0.slots t w)).IsWhole := stage_whole0 w (cfg0.slots t w)
abbrev scA : Memref sig .tc .vmem S128x256 .f32 := Memref.whole cc0_scratch0
abbrev scB : Memref sig .tc .vmem S128x256 .f32 := Memref.whole cc0_scratch1

/-- What the points carry: the four written blocks and the two carried ones. -/
structure St (F : FTy → Type) where
  dq : Vec F S512x512 .f32
  dk : Vec F S512x256 .f32
  dv : Vec F S512x256 .f32
  ds : Vec F S8x128 .f32
  ck : Vec F S128x256 .f32
  cv : Vec F S128x256 .f32

/-- The run of point `t` where it works through query rows. -/
abbrev rowsAt (c : Dev nD) (t : Fin cfg0.N) (s : St F) :=
  rowsRun (grid0.coords t) (st0_0 t) (hst t 0) (st0_1 t) (hst t 1) (st0_2 t) (hst t 2) (st0_3 t) (hst t 3) (st0_4 t) (hst t 4) (st0_5 t) (hst t 5) (st0_6 t) (hst t 6) (st0_7 t) (hst t 7) (st0_8 t) (hst t 8) (st0_9 t) (hst t 9) (st0_10 t) (hst t 10) scA (Memref.isWhole_whole _) scB (Memref.isWhole_whole _) c (iblk m c 0 t) (iblk m c 1 t) (iblk m c 2 t) (iblk m c 3 t) (iblk m c 4 t) (iblk m c 5 t) (iblk m c 6 t) s.ds s.ck s.cv

/-- The run of point `t` where it writes the carried blocks out. -/
abbrev outAt (c : Dev nD) (t : Fin cfg0.N) (s : St F) :=
  finRun (st0_0 t) (hst t 0) (st0_1 t) (hst t 1) (st0_2 t) (hst t 2) (st0_3 t) (hst t 3) (st0_4 t) (hst t 4) (st0_5 t) (hst t 5) (st0_6 t) (hst t 6) (st0_7 t) (st0_8 t) (st0_9 t) (st0_10 t) scA (Memref.isWhole_whole _) scB (Memref.isWhole_whole _) c (iblk m c 0 t) (iblk m c 1 t) (iblk m c 2 t) (iblk m c 3 t) (iblk m c 4 t) (iblk m c 5 t) (iblk m c 6 t) s.ck s.cv

/-- The buffers after a point that works through query rows. -/
def stepRows (c : Dev nD) (t : Fin cfg0.N) (s : St F) : St F :=
    { dq := (st0_7 t).view.read (Elt F) ((st0_7 t).view.writes (Elt F) ((hst t 7).unread s.dq) (rowsAt m c t s).1)
      dk := (st0_8 t).view.read (Elt F) ((st0_8 t).view.writes (Elt F) ((hst t 8).unread s.dk) (rowsAt m c t s).2.1)
      dv := (st0_9 t).view.read (Elt F) ((st0_9 t).view.writes (Elt F) ((hst t 9).unread s.dv) (rowsAt m c t s).2.2.1)
      ds := (st0_10 t).view.read (Elt F) ((st0_10 t).view.writes (Elt F) ((hst t 10).unread (sink1 (grid0.coords t) s.ds)) (rowsAt m c t s).2.2.2.1)
      ck := scA.view.read (Elt F) (scA.view.writes (Elt F) ((Memref.isWhole_whole cc0_scratch0 : scA.IsWhole).unread (carry1 (grid0.coords t) s.ck)) (rowsAt m c t s).2.2.2.2.1)
      cv := scB.view.read (Elt F) (scB.view.writes (Elt F) ((Memref.isWhole_whole cc0_scratch1 : scB.IsWhole).unread (carry2 (grid0.coords t) s.cv)) (rowsAt m c t s).2.2.2.2.2.1) }

/-- The buffers after a point that writes the carried blocks out. -/
def stepOut (c : Dev nD) (t : Fin cfg0.N) (s : St F) : St F :=
    { s with
      dk := (st0_8 t).view.read (Elt F) ((st0_8 t).view.writes (Elt F) ((hst t 8).unread s.dk) (outAt m c t s).1)
      dv := (st0_9 t).view.read (Elt F) ((st0_9 t).view.writes (Elt F) ((hst t 9).unread s.dv) (outAt m c t s).2.1) }

/-- The buffers after point `t`, from those before it. -/
def step (c : Dev nD) (t : Fin cfg0.N) (s : St F) : St F := if t.val % 5 ≠ 4 then stepRows m c t s else stepOut m c t s

theorem step_rows (c : Dev nD) (t : Fin cfg0.N) (s : St F) (h : t.val % 5 ≠ 4) : step m c t s = stepRows m c t s := if_pos h
theorem step_out (c : Dev nD) (t : Fin cfg0.N) (s : St F) (h : t.val % 5 = 4) : step m c t s = stepOut m c t s := if_neg (not_not_intro h)

/-- The buffers after `n` points. -/
def stAt (c : Dev nD) : ℕ → St F
  | 0 => ⟨fun _ => Scalar.ofBits .f32 0x00000000#32, k0_pay7, k0_pay7, k0_pay1, k0_pay2, k0_pay3⟩
  | n + 1 => if h : n < cfg0.N then step m c ⟨n, h⟩ (stAt c n) else stAt c n

theorem stAt_succ (c : Dev nD) (t : Fin cfg0.N) : stAt m c (t.val + 1) = step m c t (stAt m c t.val) := by
  conv_lhs => unfold stAt
  rw [dif_pos t.isLt]

/-- The carried blocks between points: at the start of a sequence anything, else what the point before left. -/
def Φ (c : Dev nD) (n : ℕ) : sProp 𝕄 :=
  iprop((∃ d0 d1, ⌜n % 5 ≠ 0 → d0 = (stAt m c n).ck ∧ d1 = (stAt m c n).cv⌝ ∗ owns (c : Thread nD τ) scA fullShare d0 ∗ owns (c : Thread nD τ) scB fullShare d1) ∗ (∃ r, prngReg c r))

def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c (t.val + 1)).dq
    | ⟨8, _⟩ => (stAt m c (t.val + 1)).dk
    | ⟨9, _⟩ => (stAt m c (t.val + 1)).dv
    | ⟨10, _⟩ => (stAt m c (t.val + 1)).ds
  Φ t := Φ m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (stAt m c (t.val + 1)).dq := by dsimp only [dats]
theorem after8 (c : Dev nD) (t : Fin cfg0.N) : (dats m 0 c).after 8 t = (stAt m c (t.val + 1)).dk := by dsimp only [dats]
theorem after9 (c : Dev nD) (t : Fin cfg0.N) : (dats m 0 c).after 9 t = (stAt m c (t.val + 1)).dv := by dsimp only [dats]
theorem after10 (c : Dev nD) (t : Fin cfg0.N) : (dats m 0 c).after 10 t = (stAt m c (t.val + 1)).ds := by dsimp only [dats]
theorem before0 (c : Dev nD) (t : Fin cfg0.N) (d) : (dats m 0 c).before 0 t d = iblk m c 0 t := before0_0_of m _ (A_eq m c 0) (after0 m c) t d
theorem before1 (c : Dev nD) (t : Fin cfg0.N) (d) : (dats m 0 c).before 1 t d = iblk m c 1 t := before0_1_of m _ (A_eq m c 1) (after1 m c) t d
theorem before2 (c : Dev nD) (t : Fin cfg0.N) (d) : (dats m 0 c).before 2 t d = iblk m c 2 t := before0_2_of m _ (A_eq m c 2) (after2 m c) t d
theorem before3 (c : Dev nD) (t : Fin cfg0.N) (d) : (dats m 0 c).before 3 t d = iblk m c 3 t := before0_3_of m _ (A_eq m c 3) (after3 m c) t d
theorem before4 (c : Dev nD) (t : Fin cfg0.N) (d) : (dats m 0 c).before 4 t d = iblk m c 4 t := before0_4_of m _ (A_eq m c 4) (after4 m c) t d
theorem before5 (c : Dev nD) (t : Fin cfg0.N) (d) : (dats m 0 c).before 5 t d = iblk m c 5 t := before0_5_of m _ (A_eq m c 5) (after5 m c) t d
theorem before6 (c : Dev nD) (t : Fin cfg0.N) (d) : (dats m 0 c).before 6 t d = iblk m c 6 t := before0_6_of m _ (A_eq m c 6) (after6 m c) t d

theorem idle_flush7 : ∀ t : Fin grid0.N, idle0 7 (grid0.coords t) = false ∨ win0_7.flush t = true := by decide +kernel
theorem idle8 : ∀ t : Fin grid0.N, idle0 8 (grid0.coords t) = false := by decide +kernel
theorem idle9 : ∀ t : Fin grid0.N, idle0 9 (grid0.coords t) = false := by decide +kernel
theorem idle10_iff : ∀ t : Fin grid0.N, idle0 10 (grid0.coords t) = true ↔ t.val % 5 = 4 := by decide +kernel
theorem idle7_iff : ∀ t : Fin grid0.N, idle0 7 (grid0.coords t) = true ↔ t.val % 5 = 4 := by decide +kernel
theorem fresh7 : ∀ t : Fin grid0.N, t.val % 5 = 4 → cfg0.fresh 7 t.val = false := by decide +kernel
theorem fresh10 : ∀ t : Fin grid0.N, t.val ≠ 0 → cfg0.fresh 10 t.val = false := by decide +kernel

theorem stAt_pred (c : Dev nD) (t : Fin cfg0.N) (ht : t.val ≠ 0) : t.val - 1 + 1 = t.val := by omega
theorem step_out_dq (c : Dev nD) (t : Fin cfg0.N) (s : St F) (h : t.val % 5 = 4) : (step m c t s).dq = s.dq := by
  rw [step_out m c t s h]; rfl
theorem step_out_ds (c : Dev nD) (t : Fin cfg0.N) (s : St F) (h : t.val % 5 = 4) : (step m c t s).ds = s.ds := by
  rw [step_out m c t s h]; rfl

/-- The sink sums are found as the point before left them. -/
theorem before10 (c : Dev nD) (t : Fin cfg0.N) (d) (ht : t.val ≠ 0) : (dats m 0 c).before 10 t d = (stAt m c t.val).ds := by
  rw [(dats m 0 c).before_out_traj 10 rfl (fun _ _ => rfl) (fun u hu hi _ => ?_) t.val t rfl d, fresh10 t ht, if_neg Bool.false_ne_true, after10]
  · rw [show t.val - 1 + 1 = t.val from by omega]
  · rw [after10, after10, stAt_succ, step_out_ds m c u _ ((idle10_iff u).mp hi)]
    rw [show u.val - 1 + 1 = u.val from by omega]
/-- At the fifth point of a sequence the query-side gradient's buffer is as the fourth left it. -/
theorem before7 (c : Dev nD) (t : Fin cfg0.N) (d) (ht : t.val % 5 = 4) : (dats m 0 c).before 7 t d = (stAt m c t.val).dq := by
  rw [(dats m 0 c).before_out_traj 7 rfl (fun _ _ => rfl) (fun u hu hi _ => ?_) t.val t rfl d, fresh7 t ht, if_neg Bool.false_ne_true, after7]
  · rw [show t.val - 1 + 1 = t.val from by omega]
  · rw [after7, after7, stAt_succ, step_out_dq m c u _ ((idle7_iff u).mp hi)]
    rw [show u.val - 1 + 1 = u.val from by omega]

/-- What the obligation asks of a written block is what the point leaves. -/
theorem leaves7 (c : Dev nD) (t : Fin cfg0.N) : (dats m 0 c).leavesExact 7 t = owns (c : Thread nD τ) (st0_7 t) fullShare (stAt m c (t.val + 1)).dq := by
  rw [← after7]
  unfold Dat.leavesExact
  rcases idle_flush7 t with h | h
  · rw [show cfg0.idle 7 (cfg0.grid.coords t) = false from h]
  · rw [show (cfg0.win 7).flush t = true from h]
    cases cfg0.idle 7 (cfg0.grid.coords t) <;> rfl
theorem leaves8 (c : Dev nD) (t : Fin cfg0.N) : (dats m 0 c).leavesExact 8 t = owns (c : Thread nD τ) (st0_8 t) fullShare (stAt m c (t.val + 1)).dk := by
  rw [← after8]; unfold Dat.leavesExact; rw [show cfg0.idle 8 (cfg0.grid.coords t) = false from idle8 t]
theorem leaves9 (c : Dev nD) (t : Fin cfg0.N) : (dats m 0 c).leavesExact 9 t = owns (c : Thread nD τ) (st0_9 t) fullShare (stAt m c (t.val + 1)).dv := by
  rw [← after9]; unfold Dat.leavesExact; rw [show cfg0.idle 9 (cfg0.grid.coords t) = false from idle9 t]
theorem leaves10 (c : Dev nD) (t : Fin cfg0.N) : owns (c : Thread nD τ) (st0_10 t) fullShare (stAt m c (t.val + 1)).ds ⊢ (dats m 0 c).leavesExact 10 t := by
  cases hi : cfg0.idle 10 (cfg0.grid.coords t)
  · unfold Dat.leavesExact; rw [hi, after10]
  · cases hf : (cfg0.win 10).flush t
    · rw [Dat.leavesExact_idle _ _ _ hi hf]
      iintro H
      have h4 : t.val % 5 = 4 := (idle10_iff t).mp hi
      iexists (stAt m c t.val).ds
      rw [before10 m c t _ (by omega), stAt_succ, step_out_ds m c t _ h4]
      iexact H
    · unfold Dat.leavesExact; rw [hi, hf, after10]

theorem cover7 (c : Dev nD) (t : Fin cfg0.N) (s : St F) (y : S512x512.Idx) : ∃ p ∈ (rowsAt m c t s).1, y ∈ p.1.set :=
  View.cover_of_tiledL (rowsAt m c t s).1 ![128, 128] (by sl_kernel_rfl) y
theorem cover8 (c : Dev nD) (t : Fin cfg0.N) (s : St F) (y : S512x256.Idx) : ∃ p ∈ (rowsAt m c t s).2.1, y ∈ p.1.set :=
  View.cover_of_tiledL (rowsAt m c t s).2.1 ![128, 128] (by sl_kernel_rfl) y
theorem cover9 (c : Dev nD) (t : Fin cfg0.N) (s : St F) (y : S512x256.Idx) : ∃ p ∈ (rowsAt m c t s).2.2.1, y ∈ p.1.set :=
  View.cover_of_tiledL (rowsAt m c t s).2.2.1 ![128, 128] (by sl_kernel_rfl) y
theorem out8 (c : Dev nD) (t : Fin cfg0.N) (s : St F) (y : S512x256.Idx) : ∃ p ∈ (outAt m c t s).1, y ∈ p.1.set := by
  obtain ⟨p, hp, hy⟩ := View.cover_of_tiledL ((outAt m c t s).1.tail) ![512, 256] (by sl_kernel_rfl) y
  exact ⟨p, List.mem_of_mem_tail hp, hy⟩
theorem out9 (c : Dev nD) (t : Fin cfg0.N) (s : St F) (y : S512x256.Idx) : ∃ p ∈ (outAt m c t s).2.1, y ∈ p.1.set := by
  obtain ⟨p, hp, hy⟩ := View.cover_of_tiledL ((outAt m c t s).2.1.tail) ![512, 256] (by sl_kernel_rfl) y
  exact ⟨p, List.mem_of_mem_tail hp, hy⟩

theorem prog_eq (t : Fin cfg0.N) : (defs₀ (F := F)) .tc cfg0.body (cfg0.bodyArgs t (cfg0.slots t)) = bodyAt0 t := by
  unfold defs₀; rw [Defs.onTc_tc]

set_option backward.isDefEq.respectTransparency.types false in
set_option maxHeartbeats 4000000 in
theorem sound_body (c : Dev nD) (t : Fin cfg0.N) :
    iprop(Φ m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
      ⊢ wp frame (wpE (defs₀ (F := F)) Variants.none (c : Thread nD τ) none) Set.univ (bodyAt0 t)
        (fun _ => iprop(Φ m c (t.val + 1) ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)) := by
  rw [show (dats m 0 c).owesAt () t.succ = (dats m 0 c).owesAt () t.castSucc from rfl]
  simp only [before0, before1, before2, before3, before4, before5, before6]
  unfold Φ owns
  iintro ⟨⟨⟨%dA, %dB, %hAB, ⟨%fA, %hA, HA⟩, ⟨%fB, %hB, HB⟩⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩⟩
  have e0 := (hst t 0).eq_unread h0
  have e1 := (hst t 1).eq_unread h1
  have e2 := (hst t 2).eq_unread h2
  have e3 := (hst t 3).eq_unread h3
  have e4 := (hst t 4).eq_unread h4
  have e5 := (hst t 5).eq_unread h5
  have e6 := (hst t 6).eq_unread h6
  subst e0 e1 e2 e3 e4 e5 e6
  by_cases ht : t.val % 5 = 4
  · have hA' : fA = (Memref.isWhole_whole cc0_scratch0 : scA.IsWhole).unread (stAt m c t.val).ck := (Memref.isWhole_whole cc0_scratch0 : scA.IsWhole).eq_unread (hA.trans (hAB (by omega)).1)
    have hB' : fB = (Memref.isWhole_whole cc0_scratch1 : scB.IsWhole).unread (stAt m c t.val).cv := (Memref.isWhole_whole cc0_scratch1 : scB.IsWhole).eq_unread (hB.trans (hAB (by omega)).2)
    subst hA' hB'
    rw [before7 m c t d7 ht] at h7
    rw [before10 m c t d10 (by omega)] at h10
    have es := step_out m c t (stAt m c t.val) ht
    iapply (wp_wand_r Idealize.ShloMosaic.frame (wpE (defs₀ (F := F)) Variants.none (c : Thread nD τ) none) Set.univ)
    isplitl [H0 H1 H2 H3 H4 H5 H6 H7 H8 H9 H10 HA HB]
    · iapply (run_out (grid0.coords t) (st0_0 t) (hst t 0) (st0_1 t) (hst t 1) (st0_2 t) (hst t 2) (st0_3 t) (hst t 3) (st0_4 t) (hst t 4) (st0_5 t) (hst t 5) (st0_6 t) (hst t 6) (st0_7 t) (hst t 7) (st0_8 t) (hst t 8) (st0_9 t) (hst t 9) (st0_10 t) (hst t 10) scA (Memref.isWhole_whole _) scB (Memref.isWhole_whole _) c (iblk m c 0 t) (iblk m c 1 t) (iblk m c 2 t) (iblk m c 3 t) (iblk m c 4 t) (iblk m c 5 t) (iblk m c 6 t) g7 g8 g9 g10 (stAt m c t.val).ds (stAt m c t.val).ck (stAt m c t.val).cv
        (fun h => by have := (cond1_iff t).mp h; omega) (fun h => by have := (cond2_iff t).mp h; omega) (fun h => (cond3_iff t).mp h ht) ((cond4_iff t).mpr ht))
      unfold resP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      iexact HB
    unfold resP
    iintro %r ⟨H0, H1, H2, H3, H4, H5, H6, H7, H8, H9, H10, HA, HB⟩
    isplitl [HA HB Hg]
    · isplitl [HA HB]
      · iexists (stAt m c t.val).ck, (stAt m c t.val).cv
        isplitr; · ipureintro; intro h; omega
        isplitl [HA]
        · iexists _; isplitr; swap; · iexact HA
          ipureintro; exact hA.trans (hAB (by omega)).1
        iexists _; isplitr; swap; · iexact HB
        ipureintro; exact hB.trans (hAB (by omega)).2
      iexact Hg
    isplitl [Ho]; · iexact Ho
    isplitl [H0]
    · rw [show (dats m 0 c).leavesExact 0 t = owns (c : Thread nD τ) (st0_0 t) fullShare ((dats m 0 c).after 0 t) from rfl, after0]; unfold owns
      iexists _; isplitr; swap; · iexact H0
      ipureintro; exact (hst t 0).read_unread _
    isplitl [H1]
    · rw [show (dats m 0 c).leavesExact 1 t = owns (c : Thread nD τ) (st0_1 t) fullShare ((dats m 0 c).after 1 t) from rfl, after1]; unfold owns
      iexists _; isplitr; swap; · iexact H1
      ipureintro; exact (hst t 1).read_unread _
    isplitl [H2]
    · rw [show (dats m 0 c).leavesExact 2 t = owns (c : Thread nD τ) (st0_2 t) fullShare ((dats m 0 c).after 2 t) from rfl, after2]; unfold owns
      iexists _; isplitr; swap; · iexact H2
      ipureintro; exact (hst t 2).read_unread _
    isplitl [H3]
    · rw [show (dats m 0 c).leavesExact 3 t = owns (c : Thread nD τ) (st0_3 t) fullShare ((dats m 0 c).after 3 t) from rfl, after3]; unfold owns
      iexists _; isplitr; swap; · iexact H3
      ipureintro; exact (hst t 3).read_unread _
    isplitl [H4]
    · rw [show (dats m 0 c).leavesExact 4 t = owns (c : Thread nD τ) (st0_4 t) fullShare ((dats m 0 c).after 4 t) from rfl, after4]; unfold owns
      iexists _; isplitr; swap; · iexact H4
      ipureintro; exact (hst t 4).read_unread _
    isplitl [H5]
    · rw [show (dats m 0 c).leavesExact 5 t = owns (c : Thread nD τ) (st0_5 t) fullShare ((dats m 0 c).after 5 t) from rfl, after5]; unfold owns
      iexists _; isplitr; swap; · iexact H5
      ipureintro; exact (hst t 5).read_unread _
    isplitl [H6]
    · rw [show (dats m 0 c).leavesExact 6 t = owns (c : Thread nD τ) (st0_6 t) fullShare ((dats m 0 c).after 6 t) from rfl, after6]; unfold owns
      iexists _; isplitr; swap; · iexact H6
      ipureintro; exact (hst t 6).read_unread _
    rw [leaves7, leaves8, leaves9, stAt_succ, es]
    isplitl [H7]
    · unfold owns; iexists _; isplitr; swap; · iexact H7
      ipureintro; exact h7
    isplitl [H8]
    · unfold owns; iexists _; isplitr; swap; · iexact H8
      ipureintro; exact View.read_writes_of_cover _ _ _ _ _ (out8 m c t _)
    isplitl [H9]
    · unfold owns; iexists _; isplitr; swap; · iexact H9
      ipureintro; exact View.read_writes_of_cover _ _ _ _ _ (out9 m c t _)
    iapply (leaves10 m c t)
    rw [stAt_succ, es]
    unfold owns; iexists _; isplitr; swap; · iexact H10
    ipureintro; exact h10
  · have es := step_rows m c t (stAt m c t.val) ht
    iapply (wp_wand_r Idealize.ShloMosaic.frame (wpE (defs₀ (F := F)) Variants.none (c : Thread nD τ) none) Set.univ)
    isplitl [H0 H1 H2 H3 H4 H5 H6 H7 H8 H9 H10 HA HB]
    · iapply (run_rows (grid0.coords t) (st0_0 t) (hst t 0) (st0_1 t) (hst t 1) (st0_2 t) (hst t 2) (st0_3 t) (hst t 3) (st0_4 t) (hst t 4) (st0_5 t) (hst t 5) (st0_6 t) (hst t 6) (st0_7 t) (hst t 7) (st0_8 t) (hst t 8) (st0_9 t) (hst t 9) (st0_10 t) (hst t 10) scA (Memref.isWhole_whole _) scB (Memref.isWhole_whole _) c (iblk m c 0 t) (iblk m c 1 t) (iblk m c 2 t) (iblk m c 3 t) (iblk m c 4 t) (iblk m c 5 t) (iblk m c 6 t) g7 g8 g9 g10 fA fB (stAt m c t.val).ds (stAt m c t.val).ck (stAt m c t.val).cv
        ((cond3_iff t).mpr ht) (fun h => ht ((cond4_iff t).mp h))
        (fun h => (hst t 10).eq_unread (h10.trans (before10 m c t d10 fun h0 => h ((cond1_iff t).mpr h0))))
        (fun h => (Memref.isWhole_whole cc0_scratch0 : scA.IsWhole).eq_unread (hA.trans (hAB fun h0 => h ((cond2_iff t).mpr h0)).1))
        (fun h => (Memref.isWhole_whole cc0_scratch1 : scB.IsWhole).eq_unread (hB.trans (hAB fun h0 => h ((cond2_iff t).mpr h0)).2)))
      unfold resP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      iexact HB
    unfold resP
    iintro %r ⟨H0, H1, H2, H3, H4, H5, H6, H7, H8, H9, H10, HA, HB⟩
    isplitl [HA HB Hg]
    · isplitl [HA HB]
      · iexists (stAt m c (t.val + 1)).ck, (stAt m c (t.val + 1)).cv
        isplitr; · ipureintro; exact fun _ => ⟨rfl, rfl⟩
        isplitl [HA]
        · iexists _; isplitr; swap; · iexact HA
          ipureintro; exact ((congrArg St.ck ((stAt_succ m c t).trans es)).trans rfl).symm
        iexists _; isplitr; swap; · iexact HB
        ipureintro; exact ((congrArg St.cv ((stAt_succ m c t).trans es)).trans rfl).symm
      iexact Hg
    isplitl [Ho]; · iexact Ho
    isplitl [H0]
    · rw [show (dats m 0 c).leavesExact 0 t = owns (c : Thread nD τ) (st0_0 t) fullShare ((dats m 0 c).after 0 t) from rfl, after0]; unfold owns
      iexists _; isplitr; swap; · iexact H0
      ipureintro; exact (hst t 0).read_unread _
    isplitl [H1]
    · rw [show (dats m 0 c).leavesExact 1 t = owns (c : Thread nD τ) (st0_1 t) fullShare ((dats m 0 c).after 1 t) from rfl, after1]; unfold owns
      iexists _; isplitr; swap; · iexact H1
      ipureintro; exact (hst t 1).read_unread _
    isplitl [H2]
    · rw [show (dats m 0 c).leavesExact 2 t = owns (c : Thread nD τ) (st0_2 t) fullShare ((dats m 0 c).after 2 t) from rfl, after2]; unfold owns
      iexists _; isplitr; swap; · iexact H2
      ipureintro; exact (hst t 2).read_unread _
    isplitl [H3]
    · rw [show (dats m 0 c).leavesExact 3 t = owns (c : Thread nD τ) (st0_3 t) fullShare ((dats m 0 c).after 3 t) from rfl, after3]; unfold owns
      iexists _; isplitr; swap; · iexact H3
      ipureintro; exact (hst t 3).read_unread _
    isplitl [H4]
    · rw [show (dats m 0 c).leavesExact 4 t = owns (c : Thread nD τ) (st0_4 t) fullShare ((dats m 0 c).after 4 t) from rfl, after4]; unfold owns
      iexists _; isplitr; swap; · iexact H4
      ipureintro; exact (hst t 4).read_unread _
    isplitl [H5]
    · rw [show (dats m 0 c).leavesExact 5 t = owns (c : Thread nD τ) (st0_5 t) fullShare ((dats m 0 c).after 5 t) from rfl, after5]; unfold owns
      iexists _; isplitr; swap; · iexact H5
      ipureintro; exact (hst t 5).read_unread _
    isplitl [H6]
    · rw [show (dats m 0 c).leavesExact 6 t = owns (c : Thread nD τ) (st0_6 t) fullShare ((dats m 0 c).after 6 t) from rfl, after6]; unfold owns
      iexists _; isplitr; swap; · iexact H6
      ipureintro; exact (hst t 6).read_unread _
    rw [leaves7, leaves8, leaves9, stAt_succ, es]
    isplitl [H7]
    · unfold owns; iexists _; isplitr; swap; · iexact H7
      ipureintro; exact View.read_writes_of_cover _ _ _ _ _ (cover7 m c t _)
    isplitl [H8]
    · unfold owns; iexists _; isplitr; swap; · iexact H8
      ipureintro; exact View.read_writes_of_cover _ _ _ _ _ (cover8 m c t _)
    isplitl [H9]
    · unfold owns; iexists _; isplitr; swap; · iexact H9
      ipureintro; exact View.read_writes_of_cover _ _ _ _ _ (cover9 m c t _)
    iapply (leaves10 m c t)
    rw [stAt_succ, es]
    unfold owns; iexists _; isplitr; swap; · iexact H10
    ipureintro; rfl

theorem body_obligation (c : Dev nD) : BodyObligation (dats (F := F) m 0 c) (defs₀ (F := F)) Variants.none () Set.univ := fun t => by
  rw [bigSep_W0, bigSep_W0, prog_eq]
  exact triple_restated (sound_body m c t) rfl .rfl fun _ => .rfl

/-! ## The run and the frame -/

theorem leave (c : Dev nD) : (dats m 0 c).Φ (Fin.last cfg0.N) ⊢ Pipeline.ΦA spec0 c := by
  rw [show (dats m 0 c).Φ (Fin.last cfg0.N) = Φ m c cfg0.N from rfl]
  unfold Pipeline.ΦA Φ; rw [scopedRest0_eq]
  simp only [scA, scB, owns_whole]
  iintro ⟨⟨%d, %e, %h, HA, HB⟩, Hg⟩
  isplitr [Hg]; swap; · iexact Hg
  isplitl [HA]
  · iexists d; iexact HA
  iexists e; iexact HB

theorem enter (c : Dev nD) : Pipeline.ΦA spec0 c ⊢ (dats m 0 c).Φ 0 := by
  rw [show (dats m 0 c).Φ 0 = Φ m c 0 from rfl]
  unfold Pipeline.ΦA Φ; rw [scopedRest0_eq]
  simp only [scA, scB, owns_whole]
  iintro ⟨⟨⟨%f, HA⟩, ⟨%g, HB⟩⟩, Hg⟩
  isplitr [Hg]; swap; · iexact Hg
  iexists f, g
  isplitr; · ipureintro; intro h; omega
  isplitl [HA]; · iexact HA
  iexact HB

set_option backward.isDefEq.respectTransparency.types false in
set_option maxHeartbeats 4000000 in
/-- The run of @main, over any float values: the arrays end as the points left them, and the lines after the region as they compute. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The frame over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨((hh.1 c).2 main_arg0 (Pipeline.mem_restRefs_of main_arg0 (by decide) (by decide))).trans (W_main_arg0 m (dats m) c),
      ((hh.1 c).2 main_arg1 (Pipeline.mem_restRefs_of main_arg1 (by decide) (by decide))).trans (W_main_arg1 m (dats m) c),
      ((hh.1 c).2 main_arg2 (Pipeline.mem_restRefs_of main_arg2 (by decide) (by decide))).trans (W_main_arg2 m (dats m) c),
      ((hh.1 c).1 0).trans (((dats m 0 c).arrAt_in 0 rfl _).trans ((A_eq m c 0).trans (V_main_arg3 m c))),
      ((hh.1 c).2 main_arg4 (Pipeline.mem_restRefs_of main_arg4 (by decide) (by decide))).trans (W_main_arg4 m (dats m) c)⟩, hh.2⟩) (run_main m ρ)

end Cert.SwaBwdIdeal.Run
end
-- ==== Proof.SwaBwd.Blk.lean ====
/-
  The sliding-window backward call: what one grid point does to a pair of heads and a block of 128 query rows, written once,
  and the point's stores in these terms.
-/
module

public import proofs.«01_k».proof.Proof.SwaBwd.Run

@[expose] public section

set_option maxRecDepth 16384

noncomputable section

namespace Cert.SwaBwdIdeal.Run

open Cert.SwaBwdIdeal Cert.SwaBwdIdeal.Gen
open Idealize.ShloMosaic
open Idealize.ShloMosaic.TcCoe Idealize.ShloMosaic.Tactic

variable {F : FTy → Type} [FloatOps F] [Named F]

/-- What a block reads: the mask; the keys and values of the block before and of its own; the two stacked pairs of heads of the queries
    and of the cotangent; the sinks by half and pair. -/
structure Blk (F : FTy → Type) where
  msk : IVec S256x256 1
  kp : Vec F S128x128 .bf16
  km : Vec F S128x128 .bf16
  vp : Vec F S128x128 .bf16
  vm : Vec F S128x128 .bf16
  q0 : Vec F S128x128 .bf16
  q1 : Vec F S128x128 .bf16
  d0 : Vec F S128x128 .bf16
  d1 : Vec F S128x128 .bf16
  z0 : Fin 2 → Elt F .f32
  z1 : Fin 2 → Elt F .f32

namespace Blk
variable (B : Blk F) (h : Fin 2)

def kst : FVec F S512x128 .bf16 := k0_pay12 B.kp B.km
def vst : FVec F S512x128 .bf16 := k0_pay13 k0_pay9 B.vp B.vm
def q : FVec F S256x128 .bf16 := k0_pay14 B.q0 B.q1
def d : FVec F S256x128 .bf16 := k0_pay15 B.d0 B.d1
/-- The columns of one half. -/
def half (x : FVec F S256x512 .f32) : Fin 2 → FVec F S256x256 .f32
  | 0 => extractStridedSlice S256x256 ![0, 0] x slices_S256x512_o0_0_S256x256
  | 1 => extractStridedSlice S256x256 ![0, 256] x slices_S256x512_o0_256_S256x256
/-- The scores, masked. -/
def sm : FVec F S256x256 .f32 := select B.msk (half (k0_pay16 B.kst B.q0 B.q1) h) (broadcast S256x256 (Named.named κ "mask" 0xF149F2CA#32))
/-- The sinks as a column. -/
def zc : FVec F S256x1 .f32 := select k0_pay17 (broadcast S256x1 (B.z0 h)) (broadcast S256x1 (B.z1 h))
def mx : FVec F S256x1 .f32 :=
  maximumf (shapeCast S256x1 (multiReduction .maximumf [1] S256 (B.sm h) 0xFF800000#32 reduces_S256x256_S256 (.inl rfl) rfl) shapeCasts_S256_S256x1) (B.zc h)
def ex : FVec F S256x256 .f32 := exp (subf (B.sm h) (broadcastTo S256x256 (B.mx h) broadcasts_S256x1_S256x256))
/-- The sum of a row as a column. -/
def rows (x : FVec F S256x256 .f32) : FVec F S256x1 .f32 :=
  shapeCast S256x1 (multiReduction .add [1] S256 x 0x00000000#32 reduces_S256x256_S256 (.inl rfl) rfl) shapeCasts_S256_S256x1
def inv : FVec F S256x1 .f32 :=
  divf (broadcast S256x1 (Scalar.ofBits .f32 0x3F800000#32)) (addf (rows (B.ex h)) (exp (subf (B.zc h) (B.mx h))))
/-- The probabilities. -/
def pr : FVec F S256x256 .f32 := mulf (B.ex h) (broadcastTo S256x256 (B.inv h) broadcasts_S256x1_S256x256)
/-- Their cotangent. -/
def dp : FVec F S256x256 .f32 := half (k0_pay32 B.vst B.d) h
def del : FVec F S256x1 .f32 := rows (mulf (B.pr h) (B.dp h))
/-- The scores' gradient. -/
def ds : FVec F S256x256 .f32 := mulf (B.pr h) (subf (B.dp h) (broadcastTo S256x256 (B.del h) broadcasts_S256x1_S256x256))
/-- The sinks' gradient per row, negated. -/
def sk : FVec F S256x1 .f32 := mulf (mulf (exp (subf (B.zc h) (B.mx h))) (B.inv h)) (B.del h)
/-- One pair's sum of it. -/
def part : Fin 2 → F .f32
  | 0 => extractAt ![0, 0, 0] (shapeCast S1x1x1 (multiReduction .add [1, 2] S1 (shapeCast S1x128x1 (extractStridedSlice S128x1 ![0, 0] (B.sk h) slices_S256x1_o0_0_S128x1) shapeCasts_S128x1_S1x128x1) 0x00000000#32 reduces_S1x128x1_S1 (.inl rfl) rfl) shapeCasts_S1_S1x1x1) inpos_S1x1x1_p0_0_0
  | 1 => extractAt ![0, 0, 0] (shapeCast S1x1x1 (multiReduction .add [1, 2] S1 (shapeCast S1x128x1 (extractStridedSlice S128x1 ![128, 0] (B.sk h) slices_S256x1_o128_0_S128x1) shapeCasts_S128x1_S1x128x1) 0x00000000#32 reduces_S1x128x1_S1 (.inl rfl) rfl) shapeCasts_S1_S1x1x1) inpos_S1x1x1_p0_0_0
def dqA : FVec F S128x128 .f32 := k0_pay49 B.kst (B.ds 0) (B.ds 1)
def dqB : FVec F S128x128 .f32 := k0_pay50 B.kst (B.ds 0) (B.ds 1)
/-- The part of the keys' (values') gradient that belongs to the block before. -/
def before (x : FVec F S512x128 .f32) : FVec F S128x128 .f32 :=
  select (k0_pay10 (F := F)) (extractStridedSlice S128x128 ![0, 0] x slices_S512x128_o0_0_S128x128) (extractStridedSlice S128x128 ![256, 0] x slices_S512x128_o256_0_S128x128)
/-- The part that belongs to the block itself. -/
def own (x : FVec F S512x128 .f32) : FVec F S128x128 .f32 :=
  select (k0_pay10 (F := F)) (extractStridedSlice S128x128 ![128, 0] x slices_S512x128_o128_0_S128x128) (extractStridedSlice S128x128 ![384, 0] x slices_S512x128_o384_0_S128x128)
def dk : FVec F S512x128 .f32 := k0_pay51 B.q (B.ds 0) (B.ds 1)
def dv : FVec F S512x128 .f32 := k0_pay52 B.d (B.pr 0) (B.pr 1)
end Blk

theorem inb_sq {R C : ℕ} (a b : ℕ) (ha : 128 * a + 128 ≤ R) (hb : 128 * b + 128 ≤ C) :
    ∀ x : Fin 2, (![128 * a, 128 * b] : Fin 2 → ℕ) x + S128x128.size x ≤ (⟨2, ![R, C]⟩ : Shape).size x := fun x => match x with
  | ⟨0, _⟩ => ha
  | ⟨1, _⟩ => hb

theorem inb_row (a : Fin 8) : ∀ x : Fin 2, (![a.val, 0] : Fin 2 → ℕ) x + S1x128.size x ≤ S8x128.size x := fun x => match x with
  | ⟨0, _⟩ => by show a.val + 1 ≤ 8; omega
  | ⟨1, _⟩ => by show 0 + 128 ≤ 128; omega

theorem inb_one (a : Fin 8) : ∀ x : Fin 1, (![a.val] : Fin 1 → ℕ) x + S1.size x ≤ S8.size x := fun x => match x with
  | ⟨0, _⟩ => by show a.val + 1 ≤ 8; omega

section lists
variable (i : grid0.Coords) (arg2 : Memref sig .tc .smem S8 .f32) (harg2 : arg2.IsWhole) (arg3 : Memref sig .tc .vmem S512x512 .bf16) (harg3 : arg3.IsWhole)
  (arg4 : Memref sig .tc .vmem S128x256 .bf16) (harg4 : arg4.IsWhole) (arg5 : Memref sig .tc .vmem S512x256 .bf16) (harg5 : arg5.IsWhole)
  (arg6 : Memref sig .tc .vmem S128x256 .bf16) (harg6 : arg6.IsWhole) (arg7 : Memref sig .tc .vmem S512x256 .bf16) (harg7 : arg7.IsWhole)
  (arg8 : Memref sig .tc .vmem S512x512 .bf16) (harg8 : arg8.IsWhole) (arg9 : Memref sig .tc .vmem S512x512 .f32) (harg9 : arg9.IsWhole)
  (arg10 : Memref sig .tc .vmem S512x256 .f32) (harg10 : arg10.IsWhole) (arg11 : Memref sig .tc .vmem S512x256 .f32) (harg11 : arg11.IsWhole)
  (arg12 : Memref sig .tc .vmem S8x128 .f32) (harg12 : arg12.IsWhole) (arg13 : Memref sig .tc .vmem S128x256 .f32) (harg13 : arg13.IsWhole)
  (arg14 : Memref sig .tc .vmem S128x256 .f32) (harg14 : arg14.IsWhole) (c : Dev nD)
  (x0 : Vec F S8 .f32) (x1 : Vec F S512x512 .bf16) (x2 : Vec F S128x256 .bf16) (x3 : Vec F S512x256 .bf16) (x4 : Vec F S128x256 .bf16)
  (x5 : Vec F S512x256 .bf16) (x6 : Vec F S512x512 .bf16) (x10 : Vec F S8x128 .f32) (y0 y1 : Vec F S128x256 .f32)

/-- The block of the heads' pair `g` and of the `s`-th 128 query rows. -/
def blk (g : Fin 2) (s : Fin 4) : Blk F where
  msk := if s.val = 0 then k0_pay11 (BitVec.ofNat 32 (i 1).val) else k0_pay57
  kp := if s.val = 0 then View.readAt (Elt F) arg4.view (Rect.unit (s := S128x256) ![128 * 0, 128 * g.val] S128x128.size (inb_sq 0 g.val (by omega) (by omega))).toLoadRect (harg4.unread x2)
    else View.readAt (Elt F) arg5.view (Rect.unit (s := S512x256) ![128 * (s.val - 1), 128 * g.val] S128x128.size (inb_sq (s.val - 1) g.val (by omega) (by omega))).toLoadRect (harg5.unread x3)
  km := View.readAt (Elt F) arg5.view (Rect.unit (s := S512x256) ![128 * s.val, 128 * g.val] S128x128.size (inb_sq s.val g.val (by omega) (by omega))).toLoadRect (harg5.unread x3)
  vp := if s.val = 0 then View.readAt (Elt F) arg6.view (Rect.unit (s := S128x256) ![128 * 0, 128 * g.val] S128x128.size (inb_sq 0 g.val (by omega) (by omega))).toLoadRect (harg6.unread x4)
    else View.readAt (Elt F) arg7.view (Rect.unit (s := S512x256) ![128 * (s.val - 1), 128 * g.val] S128x128.size (inb_sq (s.val - 1) g.val (by omega) (by omega))).toLoadRect (harg7.unread x5)
  vm := View.readAt (Elt F) arg7.view (Rect.unit (s := S512x256) ![128 * s.val, 128 * g.val] S128x128.size (inb_sq s.val g.val (by omega) (by omega))).toLoadRect (harg7.unread x5)
  q0 := View.readAt (Elt F) arg3.view (Rect.unit (s := S512x512) ![128 * s.val, 128 * (2 * g.val)] S128x128.size (inb_sq s.val (2 * g.val) (by omega) (by omega))).toLoadRect (harg3.unread x1)
  q1 := View.readAt (Elt F) arg3.view (Rect.unit (s := S512x512) ![128 * s.val, 128 * (2 * g.val + 1)] S128x128.size (inb_sq s.val (2 * g.val + 1) (by omega) (by omega))).toLoadRect (harg3.unread x1)
  d0 := View.readAt (Elt F) arg8.view (Rect.unit (s := S512x512) ![128 * s.val, 128 * (2 * g.val)] S128x128.size (inb_sq s.val (2 * g.val) (by omega) (by omega))).toLoadRect (harg8.unread x6)
  d1 := View.readAt (Elt F) arg8.view (Rect.unit (s := S512x512) ![128 * s.val, 128 * (2 * g.val + 1)] S128x128.size (inb_sq s.val (2 * g.val + 1) (by omega) (by omega))).toLoadRect (harg8.unread x6)
  z0 h := View.readAt (Elt F) arg2.view (Rect.unit (s := S8) ![4 * g.val + h.val] S1.size (inb_one ⟨4 * g.val + h.val, by omega⟩)).toLoadRect (harg2.unread x0) (Shape.Idx.first (by show 0 < S1.numel; decide))
  z1 h := View.readAt (Elt F) arg2.view (Rect.unit (s := S8) ![4 * g.val + 2 + h.val] S1.size (inb_one ⟨4 * g.val + 2 + h.val, by omega⟩)).toLoadRect (harg2.unread x0) (Shape.Idx.first (by show 0 < S1.numel; decide))

/-- The queries' gradient, last stored first: pair of heads, rows, pair. -/
def dqL (B : Fin 2 → Fin 4 → Blk F) : List (View.Piece (Elt F) S512x512 .f32) :=
  [(1, 3), (1, 2), (1, 1), (1, 0), (0, 3), (0, 2), (0, 1), (0, 0)].flatMap fun p : Fin 2 × Fin 4 =>
    [⟨Rect.unit (s := S512x512) ![128 * p.2.val, 128 * (2 * p.1.val + 1)] S128x128.size (inb_sq p.2.val (2 * p.1.val + 1) (by omega) (by omega)), (B p.1 p.2).dqB⟩,
     ⟨Rect.unit (s := S512x512) ![128 * p.2.val, 128 * (2 * p.1.val)] S128x128.size (inb_sq p.2.val (2 * p.1.val) (by omega) (by omega)), (B p.1 p.2).dqA⟩]

/-- The keys' (values') gradient: a block's own part of the block before it, kept from the point before for the first, and its own. -/
def dkL (y : Fin 2 → Vec F S128x128 .f32) (D : Fin 2 → Fin 4 → FVec F S512x128 .f32) : List (View.Piece (Elt F) S512x256 .f32) :=
  [(1, 3), (1, 2), (1, 1), (1, 0), (0, 3), (0, 2), (0, 1), (0, 0)].map fun p : Fin 2 × Fin 4 =>
    ⟨Rect.unit (s := S512x256) ![128 * p.2.val, 128 * p.1.val] S128x128.size (inb_sq p.2.val p.1.val (by omega) (by omega)),
     addf (if p.2.val = 0 then y p.1 else Blk.own (D p.1 (p.2 - 1))) (Blk.before (D p.1 p.2))⟩

/-- What is kept for the point after. -/
def ckL (D : Fin 2 → Fin 4 → FVec F S512x128 .f32) : List (View.Piece (Elt F) S128x256 .f32) :=
  [1, 0].map fun g : Fin 2 => ⟨Rect.unit (s := S128x256) ![128 * 0, 128 * g.val] S128x128.size (inb_sq 0 g.val (by omega) (by omega)),
    shapeCast S128x128 (Blk.own (D g 3)) rfl⟩

/-- The sinks' gradient after some updates, last first. -/
def sinkL : List (Fin 8 × F .f32 × Bool) → List (View.Piece (Elt F) S8x128 .f32)
  | [] => []
  | (h, x, first) :: l => ⟨Rect.unit (s := S8x128) ![h.val, 0] S1x128.size (inb_row h),
      subf (shapeCast S1x128 (if first then View.readAt (Elt F) arg12.view (Rect.unit (s := S8x128) ![h.val, 0] S1x128.size (inb_row h)).toLoadRect (harg12.unread x10)
        else arg12.view.readCov (Val := Elt F) (sinkL l) (Rect.unit (s := S8x128) ![h.val, 0] S1x128.size (inb_row h)).toLoadRect) rfl) (broadcast S1x128 x)⟩ :: sinkL l

/-- The updates of the sinks' gradient, last first. -/
def sinks (B : Fin 2 → Fin 4 → Blk F) : List (Fin 8 × F .f32 × Bool) :=
  [(1, 3), (1, 2), (1, 1), (1, 0), (0, 3), (0, 2), (0, 1), (0, 0)].flatMap fun p : Fin 2 × Fin 4 =>
    [(1, 1), (1, 0), (0, 1), (0, 0)].map fun e : Fin 2 × Fin 2 =>
      (⟨4 * p.1.val + 2 * e.2.val + e.1.val, by omega⟩, (B p.1 p.2).part e.1 e.2, p.2.val = 0)

/-- The kept block of a pair of heads. -/
def kept (a : Memref sig .tc .vmem S128x256 .f32) (ha : a.IsWhole) (y : Vec F S128x256 .f32) (g : Fin 2) : Vec F S128x128 .f32 :=
  View.readAt (Elt F) a.view (Rect.unit (s := S128x256) ![128 * 0, 128 * g.val] S128x128.size (inb_sq 0 g.val (by omega) (by omega))).toLoadRect (ha.unread y)

/-- The run in one equation per buffer. -/
theorem run_eqs :
    let W := (rowsRun i arg2 harg2 arg3 harg3 arg4 harg4 arg5 harg5 arg6 harg6 arg7 harg7 arg8 harg8 arg9 harg9 arg10 harg10 arg11 harg11 arg12 harg12 arg13 harg13 arg14 harg14 c x0 x1 x2 x3 x4 x5 x6 x10 y0 y1)
    let B : Fin 2 → Fin 4 → Blk F := (blk i arg2 harg2 arg3 harg3 arg4 harg4 arg5 harg5 arg6 harg6 arg7 harg7 arg8 harg8 x0 x1 x2 x3 x4 x5 x6)
    W.1 = dqL B ∧ W.2.1 = dkL (kept arg13 harg13 (carry1 i y0)) (fun g s => (B g s).dk) ∧ W.2.2.1 = dkL (kept arg14 harg14 (carry2 i y1)) (fun g s => (B g s).dv)
      ∧ W.2.2.2.1 = sinkL arg12 harg12 (sink1 i x10) (sinks B) ∧ W.2.2.2.2.1 = ckL (fun g s => (B g s).dk) ∧ W.2.2.2.2.2.1 = ckL (fun g s => (B g s).dv) := by
  refine ⟨?_, ?_, ?_, ?_, ?_, ?_⟩ <;> sl_kernel_rfl

end lists

end Cert.SwaBwdIdeal.Run

end
-- ==== Proof.SbBwd.Trip.lean ====
/-
  The stick-breaking backward call: names for what its own copies move, and one trip of its loop.

  The call keeps the weights and the log-terms of the forward pass in HBM, cut into 64 tiles; two scratch buffers of
  two slots each receive them, tile by tile, one tile ahead of the arithmetic.  Before trip `k` of grid point `i`
  tile `2k` of that point is in flight into slot 0 of both buffers and slot 1 is free.
-/
module

public import proofs.«01_k».proof.Defs
public import proofs.«01_k».proof.Proof.Gen.SbBwdIdeal.Launch
public import proofs.«01_k».proof.Proof.Gen.SbBwdIdeal.Skeleton
public import proofs.«01_k».proof.Proof.Gen.SbBwdIdeal.Loops
public import proofs.«01_k».proof.Proof.Gen.SbBwdIdeal.Points
public import Idealize.ShloMosaic.Lib.Pipeline.KitQuiescent
public import Idealize.ShloMosaic.Lib.Ring
public import Idealize.ShloMosaic.Lib.Tactic

@[expose] public section

noncomputable section

namespace Cert.SbBwdIdeal.Run

open Cert.SbBwdIdeal Cert.SbBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The pipeline's own algebra beside the counters the call's copies ride on. -/
abbrev UU (nD : Nat) (τ : Topo) : Type := UR sig nD τ × Counters
local notation "𝕄" => MT nD τ sig Unit (Elt F) ℕ (UU nD τ) ℕ
abbrev 𝒱₀ : Variants := Variants.none

/-! ## Names -/

abbrev wM : Memref sig .tc .hbm S64x4x512x512 .bf16 := Memref.whole main_v40
abbrev oM : Memref sig .tc .hbm S64x4x512x512 .bf16 := Memref.whole main_v44
abbrev wB : Memref sig .tc .vmem S2x4x512x512 .bf16 := Memref.whole cc0_scratch0
abbrev oB : Memref sig .tc .vmem S2x4x512x512 .bf16 := Memref.whole cc0_scratch1

/-- The number, among the 64, of tile `j` of grid point `i`. -/
def tl (i : grid0.Coords) (j : ℕ) : Fin 64 := Fin.ofNat 64 (((i 0).val * 4 + (i 2).val) * 8 + j)

abbrev tileOff (b : Fin 64) : Fin 4 → Nat := ![b.val, 0, 0, 0]
theorem tileOff_inb (b : Fin 64) : ∀ a, tileOff b a + S1x4x512x512.size a ≤ S64x4x512x512.size a := by
  have := b.isLt; intro a; fin_cases a
  · show b.val + 1 ≤ 64; omega
  · show 0 + 4 ≤ 4; omega
  · show 0 + 512 ≤ 512; omega
  · show 0 + 512 ≤ 512; omega
abbrev slotOff (s : Fin 2) : Fin 4 → Nat := ![s.val, 0, 0, 0]
theorem slotOff_inb (s : Fin 2) : ∀ a, slotOff s a + S1x4x512x512.size a ≤ S2x4x512x512.size a := by
  have := s.isLt; intro a; fin_cases a
  · show s.val + 1 ≤ 2; omega
  · show 0 + 4 ≤ 4; omega
  · show 0 + 512 ≤ 512; omega
  · show 0 + 512 ≤ 512; omega
abbrev semOff (n s : Fin 2) : Fin 2 → Nat := ![n.val, s.val]
theorem semOff_inb (n s : Fin 2) : ∀ a, semOff n s a + S1x1.size a ≤ S2x2.size a := by
  have := s.isLt; have := n.isLt; intro a; fin_cases a
  · show n.val + 1 ≤ 2; omega
  · show s.val + 1 ≤ 2; omega

/-- Tile `b` of an array of tiles, and slot `s` of a buffer, as the call slices and squeezes them. -/
def tile (A : Memref sig .tc .hbm S64x4x512x512 .bf16) (b : Fin 64) : Memref sig .tc .hbm S4x512x512 .bf16 :=
  (A.slice (Rect.unit (s := S64x4x512x512) (tileOff b) S1x4x512x512.size (tileOff_inb b)) (fun _ => rfl)).squeeze S4x512x512 squeezes_S1x4x512x512_S4x512x512
def slot (B : Memref sig .tc .vmem S2x4x512x512 .bf16) (s : Fin 2) : Memref sig .tc .vmem S4x512x512 .bf16 :=
  (B.slice (Rect.unit (s := S2x4x512x512) (slotOff s) S1x4x512x512.size (slotOff_inb s)) (fun _ => rfl)).squeeze S4x512x512 squeezes_S1x4x512x512_S4x512x512
/-- The semaphore of slot `s` of buffer `n`. -/
def csm (n s : Fin 2) : DmaSems sig S_ :=
  (cc0_scratch2.slice (Rect.unit (s := S2x2) (semOff n s) S1x1.size (semOff_inb n s))).squeeze S_ squeezes_S1x1_S_

theorem off1_eq : ∀ i : grid0.Coords, k0_off1 i = tileOff (tl i 0) := by decide +kernel
theorem off2_eq : ∀ (i : grid0.Coords) (k : Fin (k0_t1_loop i).trips), k0_off2 i k = tileOff (tl i (2 * k.val + 1)) := by decide +kernel
theorem off3_eq : ∀ (i : grid0.Coords) (k : Fin (k0_t1_loop i).trips), k0_off3 i k = tileOff (tl i (2 * k.val)) := by decide +kernel
theorem off8_eq : ∀ (i : grid0.Coords) (k : Fin (k0_t1_loop i).trips), k0_off8 i k = tileOff (tl i (2 * k.val + 2)) := by decide +kernel
theorem off24_eq : ∀ i : grid0.Coords, k0_off24 i = tileOff (tl i (2 * (k0_t1_loop i).trips + 1)) := by decide +kernel
theorem off25_eq : ∀ i : grid0.Coords, k0_off25 i = tileOff (tl i (2 * (k0_t1_loop i).trips)) := by decide +kernel
theorem trips1_eq : ∀ i : grid0.Coords, (k0_t1_loop i).trips = (i 2).val := by decide +kernel
theorem trips2_eq : ∀ i : grid0.Coords, (k0_t2_loop i).trips = 0 := by decide +kernel
theorem tl_ne01 : ∀ (i : grid0.Coords) (k : Fin 4), tl i (2 * k.val) ≠ tl i (2 * k.val + 1) := by decide +kernel
theorem tl_ne02 : ∀ (i : grid0.Coords) (k : Fin (k0_t1_loop i).trips), tl i (2 * k.val) ≠ tl i (2 * k.val + 2) := by decide +kernel
theorem tl_ne12 : ∀ (i : grid0.Coords) (k : Fin (k0_t1_loop i).trips), tl i (2 * k.val + 1) ≠ tl i (2 * k.val + 2) := by decide +kernel

section Canon

private theorem csm_congr {off : Fin 2 → Nat} {n s : Fin 2} (e : off = semOff n s) (hh) :
    (cc0_scratch2.slice (Rect.unit (s := S2x2) off S1x1.size hh)).squeeze S_ squeezes_S1x1_S_ = csm n s :=
  congrArg (fun A : DmaSems sig S1x1 => A.squeeze S_ squeezes_S1x1_S_) (SemArray.slice_unit_congr _ e _ _)
private theorem slot_congr (B : Memref sig .tc .vmem S2x4x512x512 .bf16) {off : Fin 4 → Nat} {s : Fin 2} (e : off = slotOff s) (hh hs) :
    (B.slice (Rect.unit (s := S2x4x512x512) off S1x4x512x512.size hh) hs).squeeze S4x512x512 squeezes_S1x4x512x512_S4x512x512 = slot B s :=
  congrArg (fun M : Memref sig .tc .vmem S1x4x512x512 .bf16 => M.squeeze S4x512x512 squeezes_S1x4x512x512_S4x512x512) (Memref.slice_unit_congr _ e _ _ _ _)
private theorem tile_congr (A : Memref sig .tc .hbm S64x4x512x512 .bf16) {off : Fin 4 → Nat} {b : Fin 64} (e : off = tileOff b) (hh hs) :
    (A.slice (Rect.unit (s := S64x4x512x512) off S1x4x512x512.size hh) hs).squeeze S4x512x512 squeezes_S1x4x512x512_S4x512x512 = tile A b :=
  congrArg (fun M : Memref sig .tc .hbm S1x4x512x512 .bf16 => M.squeeze S4x512x512 squeezes_S1x4x512x512_S4x512x512) (Memref.slice_unit_congr _ e _ _ _ _)

@[sl_canon] theorem sem00 (hh) : (cc0_scratch2.slice (Rect.unit (s := S2x2) ![0, 0] S1x1.size hh)).squeeze S_ squeezes_S1x1_S_ = csm 0 0 := csm_congr (by decide) _
@[sl_canon] theorem sem01 (hh) : (cc0_scratch2.slice (Rect.unit (s := S2x2) ![0, 1] S1x1.size hh)).squeeze S_ squeezes_S1x1_S_ = csm 0 1 := csm_congr (by decide) _
@[sl_canon] theorem sem10 (hh) : (cc0_scratch2.slice (Rect.unit (s := S2x2) ![1, 0] S1x1.size hh)).squeeze S_ squeezes_S1x1_S_ = csm 1 0 := csm_congr (by decide) _
@[sl_canon] theorem sem11 (hh) : (cc0_scratch2.slice (Rect.unit (s := S2x2) ![1, 1] S1x1.size hh)).squeeze S_ squeezes_S1x1_S_ = csm 1 1 := csm_congr (by decide) _
@[sl_canon] theorem slot0 (B : Memref sig .tc .vmem S2x4x512x512 .bf16) (hh hs) : (B.slice (Rect.unit (s := S2x4x512x512) ![0, 0, 0, 0] S1x4x512x512.size hh) hs).squeeze S4x512x512 squeezes_S1x4x512x512_S4x512x512 = slot B 0 := slot_congr B (by decide) _ _
@[sl_canon] theorem slot1 (B : Memref sig .tc .vmem S2x4x512x512 .bf16) (hh hs) : (B.slice (Rect.unit (s := S2x4x512x512) ![1, 0, 0, 0] S1x4x512x512.size hh) hs).squeeze S4x512x512 squeezes_S1x4x512x512_S4x512x512 = slot B 1 := slot_congr B (by decide) _ _
variable (A : Memref sig .tc .hbm S64x4x512x512 .bf16) (i : grid0.Coords)
@[sl_canon] theorem tileFirst (hh hs) : (A.slice (Rect.unit (s := S64x4x512x512) (k0_off1 i) S1x4x512x512.size hh) hs).squeeze S4x512x512 squeezes_S1x4x512x512_S4x512x512 = tile A (tl i 0) := tile_congr A (off1_eq i) _ _
@[sl_canon] theorem tileOdd (k : Fin (k0_t1_loop i).trips) (hh hs) : (A.slice (Rect.unit (s := S64x4x512x512) (k0_off2 i k) S1x4x512x512.size hh) hs).squeeze S4x512x512 squeezes_S1x4x512x512_S4x512x512 = tile A (tl i (2 * k.val + 1)) := tile_congr A (off2_eq i k) _ _
@[sl_canon] theorem tileEven (k : Fin (k0_t1_loop i).trips) (hh hs) : (A.slice (Rect.unit (s := S64x4x512x512) (k0_off3 i k) S1x4x512x512.size hh) hs).squeeze S4x512x512 squeezes_S1x4x512x512_S4x512x512 = tile A (tl i (2 * k.val)) := tile_congr A (off3_eq i k) _ _
@[sl_canon] theorem tileNext (k : Fin (k0_t1_loop i).trips) (hh hs) : (A.slice (Rect.unit (s := S64x4x512x512) (k0_off8 i k) S1x4x512x512.size hh) hs).squeeze S4x512x512 squeezes_S1x4x512x512_S4x512x512 = tile A (tl i (2 * k.val + 2)) := tile_congr A (off8_eq i k) _ _
@[sl_canon] theorem tileLastB (hh hs) : (A.slice (Rect.unit (s := S64x4x512x512) (k0_off24 i) S1x4x512x512.size hh) hs).squeeze S4x512x512 squeezes_S1x4x512x512_S4x512x512 = tile A (tl i (2 * (k0_t1_loop i).trips + 1)) := tile_congr A (off24_eq i) _ _
@[sl_canon] theorem tileLastA (hh hs) : (A.slice (Rect.unit (s := S64x4x512x512) (k0_off25 i) S1x4x512x512.size hh) hs).squeeze S4x512x512 squeezes_S1x4x512x512_S4x512x512 = tile A (tl i (2 * (k0_t1_loop i).trips)) := tile_congr A (off25_eq i) _ _

end Canon

/-! ## What is held -/

section Pieces
variable (c : Dev nD)

abbrev cellP (n s : Fin 2) : sProp 𝕄 := semVal ((c : Thread nD τ), SemLoc.dma (csm n s).sem) 0
abbrev slotP (B : Memref sig .tc .vmem S2x4x512x512 .bf16) (s : Fin 2) (f : Buf (Elt F) ((slot B s).view.loc (c : Thread nD τ))) : sProp 𝕄 :=
  (slot B s).view.loc (c : Thread nD τ) ↦[(slot B s).view.set]{fullShare} f
/-- Tile `b` at rest in its array. -/
abbrev homeP (A : Memref sig .tc .hbm S64x4x512x512 .bf16) (X : Buf (Elt F) (A.view.loc (c : Thread nD τ))) (b : Fin 64) : sProp 𝕄 :=
  (tile A b).view.loc (c : Thread nD τ) ↦[(tile A b).view.set]{fullShare} X
abbrev payload (A : Memref sig .tc .hbm S64x4x512x512 .bf16) (X : Buf (Elt F) (A.view.loc (c : Thread nD τ))) (b : Fin 64) : S4x512x512.Idx → Elt F .bf16 :=
  ReadAs.same.apply ((tile A b).view.read (Elt F) X)
abbrev landed (A : Memref sig .tc .hbm S64x4x512x512 .bf16) (X : Buf (Elt F) (A.view.loc (c : Thread nD τ))) (B : Memref sig .tc .vmem S2x4x512x512 .bf16)
    (s : Fin 2) (b : Fin 64) (f : Buf (Elt F) ((slot B s).view.loc (c : Thread nD τ))) : Buf (Elt F) ((slot B s).view.loc (c : Thread nD τ)) :=
  (slot B s).view.writes (Elt F) f [⟨Rect.whole S4x512x512, payload c A X b⟩]
/-- Slot `s` of buffer `n` in flight with tile `b`. -/
abbrev flightP (n : Fin 2) (A : Memref sig .tc .hbm S64x4x512x512 .bf16) (X : Buf (Elt F) (A.view.loc (c : Thread nD τ))) (B : Memref sig .tc .vmem S2x4x512x512 .bf16)
    (s : Fin 2) (b : Fin 64) (f : Buf (Elt F) ((slot B s).view.loc (c : Thread nD τ))) : sProp 𝕄 :=
  Transfers.Flight countersEmb (c : Thread nD τ) (SemLoc.dma (csm n s).sem) () 65536 iprop(slotP c B s (landed c A X B s b f) ∗ homeP c A X b)

/-- All the tiles of an array but one, and all but three beside two of them. -/
abbrev homes (A : Memref sig .tc .hbm S64x4x512x512 .bf16) (X : Buf (Elt F) (A.view.loc (c : Thread nD τ))) (b : Fin 64) : sProp 𝕄 :=
  bigSep (Finset.univ.erase b) (homeP c A X)
abbrev rest3 (A : Memref sig .tc .hbm S64x4x512x512 .bf16) (X : Buf (Elt F) (A.view.loc (c : Thread nD τ))) (b b' b'' : Fin 64) : sProp 𝕄 :=
  bigSep (((Finset.univ.erase b).erase b').erase b'') (homeP c A X)
theorem homes_out (A : Memref sig .tc .hbm S64x4x512x512 .bf16) (X : Buf (Elt F) (A.view.loc (c : Thread nD τ))) (b b' b'' : Fin 64)
    (h1 : b ≠ b') (h2 : b ≠ b'') (h3 : b' ≠ b'') :
    homes c A X b = iprop(homeP c A X b' ∗ homeP c A X b'' ∗ rest3 c A X b b' b'') := by
  have e1 : (Finset.univ.erase b : Finset (Fin 64)) = insert b' ((Finset.univ.erase b).erase b') := (Finset.insert_erase (by simp [h1.symm])).symm
  have e2 : ((Finset.univ.erase b).erase b' : Finset (Fin 64)) = insert b'' (((Finset.univ.erase b).erase b').erase b'') := (Finset.insert_erase (by simp [h2.symm, h3.symm])).symm
  unfold homes; rw [e1, bigSep_insert (by simp)]; conv_lhs => rw [e2, bigSep_insert (by simp)]
  rfl
theorem homes_in (A : Memref sig .tc .hbm S64x4x512x512 .bf16) (X : Buf (Elt F) (A.view.loc (c : Thread nD τ))) (b b' b'' : Fin 64)
    (h1 : b ≠ b') (h2 : b ≠ b'') (h3 : b' ≠ b'') :
    homes c A X b'' = iprop(homeP c A X b ∗ homeP c A X b' ∗ rest3 c A X b b' b'') := by
  rw [homes_out c A X b'' b b' h2.symm h3.symm h1]; unfold rest3
  rw [show (((Finset.univ.erase b'').erase b).erase b' : Finset (Fin 64)) = ((Finset.univ.erase b).erase b').erase b'' by
    ext x; simp only [Finset.mem_erase, Finset.mem_univ, and_true]; tauto]

end Pieces

/-! ## One trip -/

section Trip

variable (c : Dev nD) (i : grid0.Coords)
  (XW : Buf (Elt F) (wM.view.loc (c : Thread nD τ))) (XO : Buf (Elt F) (oM.view.loc (c : Thread nD τ)))
  (arg3 : Memref sig .tc .vmem S512x512 .bf16) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x512 .bf16) (harg6 : arg6.IsWhole)
  (arg9 : Memref sig .tc .vmem S256x256 .bf16) (harg9 : arg9.IsWhole) (arg10 : Memref sig .tc .vmem S512x512 .f32) (harg10 : arg10.IsWhole)
  (arg11 : Memref sig .tc .vmem S2048x512 .f32) (harg11 : arg11.IsWhole) (arg12 : Memref sig .tc .vmem S2048x512 .f32) (harg12 : arg12.IsWhole)
  (arg0 arg2 : BitVec 32) (v9 : FVec F S256x128 .bf16) (v17 : IVec S256x128 1) (v19 : FVec F S256x256 .bf16)

/-- What the loop carries: for each of the four pairs of heads the two running row sums and the query gradient. -/
abbrev Carry (F : FTy → Type) : Type :=
  FVec F S512x1 .f32 × FVec F S512x1 .f32 × FVec F S512x128 .f32 × FVec F S512x1 .f32 × FVec F S512x1 .f32 × FVec F S512x128 .f32 ×
  FVec F S512x1 .f32 × FVec F S512x1 .f32 × FVec F S512x128 .f32 × FVec F S512x1 .f32 × FVec F S512x1 .f32 × FVec F S512x128 .f32

abbrev bP {m : Shape} {e : EltTy} (a : Memref sig .tc .vmem m e) (f : Buf (Elt F) (a.view.loc (c : Thread nD τ))) : sProp 𝕄 :=
  a.view.loc (c : Thread nD τ) ↦[a.view.set]{fullShare} f

variable (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

/-- What is held before trip `k`, the two key-side gradients at `f11` and `f12`. -/
def resAt (k : ℕ) (f11 : Buf (Elt F) (arg11.view.loc (c : Thread nD τ))) (f12 : Buf (Elt F) (arg12.view.loc (c : Thread nD τ))) : sProp 𝕄 :=
  iprop(bP c arg3 f3 ∗ bP c arg4 f4 ∗ bP c arg5 f5 ∗ bP c arg6 f6 ∗ bP c arg11 f11 ∗ bP c arg12 f12
    ∗ (∃ W, owes (c : Thread nD τ) 0 W)
    ∗ homes c wM XW (tl i (2 * k)) ∗ homes c oM XO (tl i (2 * k))
    ∗ (∃ f, flightP c 0 wM XW wB 0 (tl i (2 * k)) f) ∗ (∃ f, flightP c 1 oM XO oB 0 (tl i (2 * k)) f)
    ∗ (∃ f, slotP c wB 1 f) ∗ (∃ f, slotP c oB 1 f) ∗ cellP c 0 1 ∗ cellP c 1 1)

abbrev tripG (k : Fin (k0_t1_loop i).trips) (acc : Carry F) : Prog (TpuEff nD τ sig (Elt F) Λ₀ .tc) (Carry F) :=
  k0_t1_body (F := F) i arg3 harg3 arg4 harg4 arg5 harg5 arg6 harg6 wM (Memref.isWhole_whole _) oM (Memref.isWhole_whole _) arg9 harg9 arg10 harg10
    arg11 harg11 arg12 harg12 wB (Memref.isWhole_whole _) oB (Memref.isWhole_whole _) cc0_scratch2 arg0 arg2 v9 v17 v19 k acc

set_option backward.proofsInPublic true in
set_option maxHeartbeats 4000000 in
set_option maxRecDepth 65536 in
def tripRun (k : Fin (k0_t1_loop i).trips) (a1 a2 : FVec F S512x1 .f32) (a3 : FVec F S512x128 .f32) (a4 a5 : FVec F S512x1 .f32) (a6 : FVec F S512x128 .f32)
    (a7 a8 : FVec F S512x1 .f32) (a9 : FVec F S512x128 .f32) (a10 a11 : FVec F S512x1 .f32) (a12 : FVec F S512x128 .f32)
    (f11 : Buf (Elt F) (arg11.view.loc (c : Thread nD τ))) (f12 : Buf (Elt F) (arg12.view.loc (c : Thread nD τ))) :
    { w : Carry F × Buf (Elt F) (arg11.view.loc (c : Thread nD τ)) × Buf (Elt F) (arg12.view.loc (c : Thread nD τ)) //
      resAt c i XW XO arg3 arg4 arg5 arg6 arg11 arg12 f3 f4 f5 f6 k f11 f12 ⊢ wp frame (wpE (defs₀ (F := F)) 𝒱₀ (c : Thread nD τ) none) Set.univ
        (tripG i arg3 harg3 arg4 harg4 arg5 harg5 arg6 harg6 arg9 harg9 arg10 harg10 arg11 harg11 arg12 harg12 arg0 arg2 v9 v17 v19 k
          (a1, a2, a3, a4, a5, a6, a7, a8, a9, a10, a11, a12))
        (fun r => iprop(⌜r = w.1⌝ ∗ resAt c i XW XO arg3 arg4 arg5 arg6 arg11 arg12 f3 f4 f5 f6 (k.val + 1) w.2.1 w.2.2)) } := by
  refine ⟨(?a, ?b, ?d), ?run⟩
  case run =>
    have h01 := tl_ne01 i ⟨k.val, Nat.lt_of_lt_of_le k.isLt (by rw [trips1_eq]; exact Nat.le_of_lt (i 2).isLt)⟩
    have h02 := tl_ne02 i k
    have h12 := tl_ne12 i k
    dsimp only
    unfold resAt
    rw [show 2 * (k.val + 1) = 2 * k.val + 2 from rfl]
    rw [homes_out c wM XW _ _ _ h01 h02 h12, homes_out c oM XO _ _ _ h01 h02 h12, homes_in c wM XW _ _ _ h01 h02 h12, homes_in c oM XO _ _ _ h01 h02 h12]
    iintro ⟨H3, H4, H5, H6, H11, H12, ⟨%W, HW⟩, ⟨Hw1, Hw2, Hwr⟩, ⟨Ho1, Ho2, Hor⟩, ⟨%fw, HFw⟩, ⟨%fo, HFo⟩, ⟨%gw, Hsw⟩, ⟨%go, Hso⟩, Hcw, Hco⟩
    dsimp only [tripG]
    sl_unfold [k0_t1_body]
    sl_exec
    sl_step
    isplitr; · ipureintro; rfl
    isplitl [H3]; · iexact H3
    isplitl [H4]; · iexact H4
    isplitl [H5]; · iexact H5
    isplitl [H6]; · iexact H6
    isplitl [H11]; · iexact H11
    isplitl [H12]; · iexact H12
    isplitl [HW]; · iexists _; iexact HW
    isplitl [HFw_src Hw1 Hwr]
    · isplitl [HFw_src]; · iexact HFw_src
      isplitl [Hw1]; · iexact Hw1
      iexact Hwr
    isplitl [HFo_src Ho1 Hor]
    · isplitl [HFo_src]; · iexact HFo_src
      isplitl [Ho1]; · iexact Ho1
      iexact Hor
    isplitl [HFw]
    · iexists ((slot wB 0).view.writes (Elt F) (slot wB 0).view.junk [⟨Rect.whole S4x512x512, payload c wM XW (tl i (2 * k.val))⟩])
      iexact HFw
    isplitl [HFo]
    · iexists ((slot oB 0).view.writes (Elt F) (slot oB 0).view.junk [⟨Rect.whole S4x512x512, payload c oM XO (tl i (2 * k.val))⟩])
      iexact HFo
    isplitl [Hsw]; · iexists _; iexact Hsw
    isplitl [Hso]; · iexists _; iexact Hso
    isplitl [Hcw]; · iexact Hcw
    iexact Hco

end Trip

end Cert.SbBwdIdeal.Run
end
-- ==== Proof.SbBwd.Loop.lean ====
/-
  The stick-breaking backward call: the loop's state trip by trip, and the invariants of its two counted loops.
-/
module

public import proofs.«01_k».proof.Proof.SbBwd.Trip

@[expose] public section

noncomputable section

namespace Cert.SbBwdIdeal.Run

open Cert.SbBwdIdeal Cert.SbBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Loop

variable (c : Dev nD) (i : grid0.Coords)
  (XW : Buf (Elt F) (wM.view.loc (c : Thread nD τ))) (XO : Buf (Elt F) (oM.view.loc (c : Thread nD τ)))
  (arg3 : Memref sig .tc .vmem S512x512 .bf16) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x512 .bf16) (harg6 : arg6.IsWhole)
  (arg9 : Memref sig .tc .vmem S256x256 .bf16) (harg9 : arg9.IsWhole) (arg10 : Memref sig .tc .vmem S512x512 .f32) (harg10 : arg10.IsWhole)
  (arg11 : Memref sig .tc .vmem S2048x512 .f32) (harg11 : arg11.IsWhole) (arg12 : Memref sig .tc .vmem S2048x512 .f32) (harg12 : arg12.IsWhole)
  (arg0 arg2 : BitVec 32) (v9 : FVec F S256x128 .bf16) (v17 : IVec S256x128 1) (v19 : FVec F S256x256 .bf16)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

/-- What a trip changes: the carried values and the two key-side gradients. -/
abbrev State (F : FTy → Type) (c : Dev nD) (arg11 arg12 : Memref sig .tc .vmem S2048x512 .f32) : Type :=
  Carry F × Buf (Elt F) (arg11.view.loc (c : Thread nD τ)) × Buf (Elt F) (arg12.view.loc (c : Thread nD τ))

/-- One trip as a function of the state before it. -/
def stepAt (k : Fin (k0_t1_loop i).trips) (s : State F c arg11 arg12) : State F c arg11 arg12 :=
  (tripRun c i XW XO arg3 harg3 arg4 harg4 arg5 harg5 arg6 harg6 arg9 harg9 arg10 harg10 arg11 harg11 arg12 harg12 arg0 arg2 v9 v17 v19 f3 f4 f5 f6 k
    s.1.1 s.1.2.1 s.1.2.2.1 s.1.2.2.2.1 s.1.2.2.2.2.1 s.1.2.2.2.2.2.1 s.1.2.2.2.2.2.2.1 s.1.2.2.2.2.2.2.2.1 s.1.2.2.2.2.2.2.2.2.1
    s.1.2.2.2.2.2.2.2.2.2.1 s.1.2.2.2.2.2.2.2.2.2.2.1 s.1.2.2.2.2.2.2.2.2.2.2.2 s.2.1 s.2.2).1

/-- The state before trip `k`, from `s` at the loop's entry. -/
def stAt (s : State F c arg11 arg12) : ℕ → State F c arg11 arg12
  | 0 => s
  | k + 1 =>
    if h : k < (k0_t1_loop i).trips then
      stepAt c i XW XO arg3 harg3 arg4 harg4 arg5 harg5 arg6 harg6 arg9 harg9 arg10 harg10 arg11 harg11 arg12 harg12 arg0 arg2 v9 v17 v19 f3 f4 f5 f6 ⟨k, h⟩ (stAt s k)
    else stAt s k

/-- What holds before trip `k` with the carried values `acc`. -/
def invAt (s : State F c arg11 arg12) (k : ℕ) (acc : Carry F) : sProp 𝕄 :=
  iprop(⌜acc = s.1⌝ ∗ resAt c i XW XO arg3 arg4 arg5 arg6 arg11 arg12 f3 f4 f5 f6 k s.2.1 s.2.2)

set_option warn.classDefReducibility false in
/-- The main loop's invariant. -/
@[sl_loop] def loopInv1 (init : Carry F) (f11 : Buf (Elt F) (arg11.view.loc (c : Thread nD τ))) (f12 : Buf (Elt F) (arg12.view.loc (c : Thread nD τ))) :
    LoopInvTy_k0_t1 (F := F) Unit ℕ (UU nD τ) ℕ 𝒱₀ c none Set.univ i arg3 harg3 arg4 harg4 arg5 harg5 arg6 harg6 wM (Memref.isWhole_whole _) oM (Memref.isWhole_whole _)
      arg9 harg9 arg10 harg10 arg11 harg11 arg12 harg12 wB (Memref.isWhole_whole _) oB (Memref.isWhole_whole _) cc0_scratch2 arg0 arg2 v9 v17 v19 init where
  inv k acc := invAt c i XW XO arg3 arg4 arg5 arg6 arg11 arg12 f3 f4 f5 f6
    (stAt c i XW XO arg3 harg3 arg4 harg4 arg5 harg5 arg6 harg6 arg9 harg9 arg10 harg10 arg11 harg11 arg12 harg12 arg0 arg2 v9 v17 v19 f3 f4 f5 f6 (init, f11, f12) k) k acc
  step k acc := by
    have e : ∀ s : State F c arg11 arg12, stAt c i XW XO arg3 harg3 arg4 harg4 arg5 harg5 arg6 harg6 arg9 harg9 arg10 harg10 arg11 harg11 arg12 harg12 arg0 arg2 v9 v17 v19 f3 f4 f5 f6 s (k.val + 1)
        = stepAt c i XW XO arg3 harg3 arg4 harg4 arg5 harg5 arg6 harg6 arg9 harg9 arg10 harg10 arg11 harg11 arg12 harg12 arg0 arg2 v9 v17 v19 f3 f4 f5 f6 k
          (stAt c i XW XO arg3 harg3 arg4 harg4 arg5 harg5 arg6 harg6 arg9 harg9 arg10 harg10 arg11 harg11 arg12 harg12 arg0 arg2 v9 v17 v19 f3 f4 f5 f6 s k.val) := by
      intro s; rw [stAt, dif_pos k.isLt]
    rw [e]
    generalize stAt c i XW XO arg3 harg3 arg4 harg4 arg5 harg5 arg6 harg6 arg9 harg9 arg10 harg10 arg11 harg11 arg12 harg12 arg0 arg2 v9 v17 v19 f3 f4 f5 f6 (init, f11, f12) k.val = s
    unfold invAt
    iintro ⟨%ha, H⟩
    subst ha
    iapply (wp_wand_r Idealize.ShloMosaic.frame (wpE (defs₀ (F := F)) 𝒱₀ (c : Thread nD τ) none) Set.univ)
    isplitl [H]
    · iapply (tripRun c i XW XO arg3 harg3 arg4 harg4 arg5 harg5 arg6 harg6 arg9 harg9 arg10 harg10 arg11 harg11 arg12 harg12 arg0 arg2 v9 v17 v19 f3 f4 f5 f6 k
        s.1.1 s.1.2.1 s.1.2.2.1 s.1.2.2.2.1 s.1.2.2.2.2.1 s.1.2.2.2.2.2.1 s.1.2.2.2.2.2.2.1 s.1.2.2.2.2.2.2.2.1 s.1.2.2.2.2.2.2.2.2.1
        s.1.2.2.2.2.2.2.2.2.2.1 s.1.2.2.2.2.2.2.2.2.2.2.1 s.1.2.2.2.2.2.2.2.2.2.2.2 s.2.1 s.2.2).2
      iexact H
    · iintro %r H'
      iexact H'

set_option warn.classDefReducibility false in
/-- The second loop makes no trip. -/
@[sl_loop] def loopInv2 (v42 : BitVec 32) (init : Carry F) (f11 : Buf (Elt F) (arg11.view.loc (c : Thread nD τ))) (f12 : Buf (Elt F) (arg12.view.loc (c : Thread nD τ))) :
    LoopInvTy_k0_t2 (F := F) Unit ℕ (UU nD τ) ℕ 𝒱₀ c none Set.univ i arg3 harg3 arg4 harg4 arg5 harg5 arg6 harg6 wM (Memref.isWhole_whole _) oM (Memref.isWhole_whole _)
      arg9 harg9 arg10 harg10 arg11 harg11 arg12 harg12 wB (Memref.isWhole_whole _) oB (Memref.isWhole_whole _) cc0_scratch2 arg0 arg2 v9 v17 v19 v42 init where
  inv _ acc := iprop(⌜acc = init⌝ ∗ resAt c i XW XO arg3 arg4 arg5 arg6 arg11 arg12 f3 f4 f5 f6 (k0_t1_loop i).trips f11 f12)
  step k _ := (Nat.not_lt_zero _ (Nat.lt_of_lt_of_eq k.isLt (trips2_eq i))).elim

end Loop

end Cert.SbBwdIdeal.Run
end
-- ==== Proof.SbBwd.Body.lean ====
/-
  The stick-breaking backward call: one grid point.  The first part of the body (the two gradients zeroed at the first
  query block, the first weight tile sent for) is run by itself, so that what follows is run once for every point.
-/
module

public import proofs.«01_k».proof.Proof.SbBwd.Loop

@[expose] public section

noncomputable section

namespace Cert.SbBwdIdeal.Run

open Cert.SbBwdIdeal Cert.SbBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Is this the first query block? As the body computes it. -/
abbrev firstW (i : grid0.Coords) : BitVec 1 := Scalar.cmpi .ne (Scalar.extui (Scalar.cmpi .eq (BitVec.ofNat 32 (i 2).val) 0#32) : BitVec 32) 0#32
theorem first_iff : ∀ i : grid0.Coords, firstW i = 1#1 ↔ (i 2).val = 0 := by decide +kernel
theorem tl_zero (i : grid0.Coords) : tl i (2 * 0) = tl i 0 := rfl
theorem tl_ne_last : ∀ i : grid0.Coords, tl i (2 * (k0_t1_loop i).trips) ≠ tl i (2 * (k0_t1_loop i).trips + 1) := by decide +kernel

section Body

variable (c : Dev nD) (i : grid0.Coords)
  (XW : Buf (Elt F) (wM.view.loc (c : Thread nD τ))) (XO : Buf (Elt F) (oM.view.loc (c : Thread nD τ)))
  (arg3 : Memref sig .tc .vmem S512x512 .bf16) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x512 .bf16) (harg6 : arg6.IsWhole)
  (arg9 : Memref sig .tc .vmem S256x256 .bf16) (harg9 : arg9.IsWhole) (arg10 : Memref sig .tc .vmem S512x512 .f32) (harg10 : arg10.IsWhole)
  (arg11 : Memref sig .tc .vmem S2048x512 .f32) (harg11 : arg11.IsWhole) (arg12 : Memref sig .tc .vmem S2048x512 .f32) (harg12 : arg12.IsWhole)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f9 : Buf (Elt F) (arg9.view.loc (c : Thread nD τ)))

abbrev R2048 : Rect S2048x512 := Rect.unit (s := S2048x512) ![0, 0] S2048x512.size inb_S2048x512_S2048x512_0_0
abbrev R256 : Rect S256x256 := Rect.unit (s := S256x256) ![0, 0] S256x256.size inb_S256x256_S256x256_0_0

/-- A key-side gradient as the loop finds it: zeros at the first query block, else as it was. -/
@[irreducible] def start (a : Memref sig .tc .vmem S2048x512 .f32) (f : Buf (Elt F) (a.view.loc (c : Thread nD τ))) : Buf (Elt F) (a.view.loc (c : Thread nD τ)) :=
  if (i 2).val = 0 then a.view.writes (Elt F) f [⟨R2048, k0_pay223 (F := F)⟩] else f

abbrev part35G := k0_part35 (F := F) i arg3 harg3 arg4 harg4 arg5 harg5 arg6 harg6 wM (Memref.isWhole_whole _) oM (Memref.isWhole_whole _) arg9 harg9 arg10 harg10
    arg11 harg11 arg12 harg12 wB (Memref.isWhole_whole _) oB (Memref.isWhole_whole _) cc0_scratch2

/-- What the first part returns. -/
abbrev ret35 : Σ' (arg0 : BitVec 32) (arg2 : BitVec 32) (v9 : FVec F S256x128 .bf16) (v17 : IVec S256x128 1), FVec F S256x256 .bf16 :=
  ⟨BitVec.ofNat 32 (i 0).val, BitVec.ofNat 32 (i 2).val, k0_pay225 (F := F), k0_pay226 (F := F), k0_pay227 (arg9.view.readAt (Elt F) R256.toLoadRect f9)⟩

set_option maxRecDepth 65536 in
theorem part35Run (f11 : Buf (Elt F) (arg11.view.loc (c : Thread nD τ))) (f12 : Buf (Elt F) (arg12.view.loc (c : Thread nD τ)))
    (gw : Buf (Elt F) ((slot wB 0).view.loc (c : Thread nD τ))) (W : Waits sig Unit) :
    iprop(bP c arg9 f9 ∗ bP c arg11 f11 ∗ bP c arg12 f12 ∗ owes (c : Thread nD τ) 0 W ∗ homeP c wM XW (tl i 0) ∗ slotP c wB 0 gw ∗ cellP c 0 0)
      ⊢ wp frame (wpE (defs₀ (F := F)) 𝒱₀ (c : Thread nD τ) none) Set.univ
        (part35G i arg3 harg3 arg4 harg4 arg5 harg5 arg6 harg6 arg9 harg9 arg10 harg10 arg11 harg11 arg12 harg12)
        (fun r => iprop(⌜r = ret35 c i arg9 f9⌝ ∗ bP c arg9 f9 ∗ bP c arg11 (start c i arg11 f11) ∗ bP c arg12 (start c i arg12 f12)
          ∗ (∃ W, owes (c : Thread nD τ) 0 W) ∗ (∃ f, flightP c 0 wM XW wB 0 (tl i 0) f))) := by
  iintro ⟨H9, H11, H12, HW, Hh, Hs, Hc⟩
  unfold start
  by_cases h : (i 2).val = 0
  · have hc : firstW i = 1#1 := (first_iff i).mpr h
    rw [if_pos h, if_pos h]
    dsimp only [part35G]
    sl_unfold [k0_part35]
    sl_exec
    sl_step
    isplitr; · ipureintro; rfl
    isplitl [H9]; · iexact H9
    isplitl [H11]; · iexact H11
    isplitl [H12]; · iexact H12
    isplitl [HW]; · iexists _; iexact HW
    iexists gw; iexact Hc
  · have hc : ¬ firstW i = 1#1 := fun h' => h ((first_iff i).mp h')
    rw [if_neg h, if_neg h]
    dsimp only [part35G]
    sl_unfold [k0_part35]
    sl_exec
    sl_step
    isplitr; · ipureintro; rfl
    isplitl [H9]; · iexact H9
    isplitl [H11]; · iexact H11
    isplitl [H12]; · iexact H12
    isplitl [HW]; · iexists _; iexact HW
    iexists gw; iexact Hc

abbrev bodyG : Prog (TpuEff nD τ sig (Elt F) Λ₀ .tc) PUnit :=
  cc0_sb_bwd (F := F) i arg3 harg3 arg4 harg4 arg5 harg5 arg6 harg6 wM (Memref.isWhole_whole _) oM (Memref.isWhole_whole _) arg9 harg9 arg10 harg10
    arg11 harg11 arg12 harg12 wB (Memref.isWhole_whole _) oB (Memref.isWhole_whole _) cc0_scratch2

/-- What the call holds between points: every tile at rest, the four slots at anything, the four semaphores at zero. -/
def restP : sProp 𝕄 :=
  iprop(bigSep Finset.univ (homeP c wM XW) ∗ bigSep Finset.univ (homeP c oM XO)
    ∗ (∃ f, slotP c wB 0 f) ∗ (∃ f, slotP c wB 1 f) ∗ (∃ f, slotP c oB 0 f) ∗ (∃ f, slotP c oB 1 f)
    ∗ cellP c 0 0 ∗ cellP c 0 1 ∗ cellP c 1 0 ∗ cellP c 1 1)

/-- A point's resources, the three results' buffers at `f10`, `f11`, `f12`. -/
def ptP (f10 : Buf (Elt F) (arg10.view.loc (c : Thread nD τ))) (f11 : Buf (Elt F) (arg11.view.loc (c : Thread nD τ))) (f12 : Buf (Elt F) (arg12.view.loc (c : Thread nD τ))) : sProp 𝕄 :=
  iprop(restP c XW XO ∗ (∃ W, owes (c : Thread nD τ) 0 W) ∗ bP c arg3 f3 ∗ bP c arg4 f4 ∗ bP c arg5 f5 ∗ bP c arg6 f6 ∗ bP c arg9 f9
    ∗ bP c arg10 f10 ∗ bP c arg11 f11 ∗ bP c arg12 f12)

/-- Equal resources entail each other. -/
theorem sep_of_eq {P Q : sProp 𝕄} (e : P = Q) : P ⊢ Q := by rw [e]
theorem home_out (A : Memref sig .tc .hbm S64x4x512x512 .bf16) (X : Buf (Elt F) (A.view.loc (c : Thread nD τ))) (b : Fin 64) :
    (bigSep Finset.univ (homeP c A X) : sProp 𝕄) = iprop(homeP c A X b ∗ homes c A X b) := by
  have e : (Finset.univ : Finset (Fin 64)) = insert b (Finset.univ.erase b) := (Finset.insert_erase (Finset.mem_univ b)).symm
  conv_lhs => rw [e, bigSep_insert (by simp)]
  rfl
abbrev rest2 (A : Memref sig .tc .hbm S64x4x512x512 .bf16) (X : Buf (Elt F) (A.view.loc (c : Thread nD τ))) (b b' : Fin 64) : sProp 𝕄 :=
  bigSep ((Finset.univ.erase b).erase b') (homeP c A X)
theorem homes_out2 (A : Memref sig .tc .hbm S64x4x512x512 .bf16) (X : Buf (Elt F) (A.view.loc (c : Thread nD τ))) (b b' : Fin 64) (h : b ≠ b') :
    (homes c A X b : sProp 𝕄) = iprop(homeP c A X b' ∗ rest2 c A X b b') := by
  have e1 : (Finset.univ.erase b : Finset (Fin 64)) = insert b' ((Finset.univ.erase b).erase b') := (Finset.insert_erase (by simp [h.symm])).symm
  unfold homes; conv_lhs => rw [e1, bigSep_insert (by simp)]
  rfl
theorem homes_back (A : Memref sig .tc .hbm S64x4x512x512 .bf16) (X : Buf (Elt F) (A.view.loc (c : Thread nD τ))) (b b' b0 : Fin 64) (h : b ≠ b') :
    iprop(homeP c A X b ∗ homeP c A X b' ∗ rest2 c A X b b') ⊢ (iprop(homeP c A X b0 ∗ homes c A X b0) : sProp 𝕄) := by
  rw [← homes_out2 c A X b b' h, ← home_out, ← home_out]

set_option backward.proofsInPublic true in
set_option maxHeartbeats 4000000 in
set_option maxRecDepth 65536 in
attribute [local sl_canon] tl_zero in
/-- One grid point, whatever it leaves in the three results' buffers to be found: pieces that cover the query-side
    gradient, and the two key-side gradients, from those that the loop starts with. -/
def bodyRun (s11 : Buf (Elt F) (arg11.view.loc (c : Thread nD τ))) (s12 : Buf (Elt F) (arg12.view.loc (c : Thread nD τ))) :
    { w : List (View.Piece (Elt F) S512x512 .f32) × Buf (Elt F) (arg11.view.loc (c : Thread nD τ)) × Buf (Elt F) (arg12.view.loc (c : Thread nD τ)) //
      ∀ (f10 : Buf (Elt F) (arg10.view.loc (c : Thread nD τ))) (f11 : Buf (Elt F) (arg11.view.loc (c : Thread nD τ))) (f12 : Buf (Elt F) (arg12.view.loc (c : Thread nD τ))),
        start c i arg11 f11 = s11 → start c i arg12 f12 = s12 →
        (ptP c XW XO arg3 arg4 arg5 arg6 arg9 arg10 arg11 arg12 f3 f4 f5 f6 f9 f10 f11 f12 ⊢ wp frame (wpE (defs₀ (F := F)) 𝒱₀ (c : Thread nD τ) none) Set.univ
          (bodyG i arg3 harg3 arg4 harg4 arg5 harg5 arg6 harg6 arg9 harg9 arg10 harg10 arg11 harg11 arg12 harg12)
          (fun _ => ptP c XW XO arg3 arg4 arg5 arg6 arg9 arg10 arg11 arg12 f3 f4 f5 f6 f9 (arg10.view.writes (Elt F) f10 w.1) w.2.1 w.2.2)) } := by
  refine ⟨(?a, ?b, ?d), ?run⟩
  case run =>
    intro f10 f11 f12 h11 h12
    dsimp only
    unfold ptP restP
    rw [home_out c wM XW (tl i 0), home_out c oM XO (tl i 0)]
    iintro ⟨⟨⟨Hw0, Hwr⟩, ⟨Ho0, Hor⟩, ⟨%gw0, Hsw0⟩, ⟨%gw1, Hsw1⟩, ⟨%go0, Hso0⟩, ⟨%go1, Hso1⟩, Hcw0, Hcw1, Hco0, Hco1⟩, ⟨%W, HW⟩, H3, H4, H5, H6, H9, H10, H11, H12⟩
    dsimp only [bodyG]
    rw [cc0_sb_bwd_eq_skeleton]
    unfold cc0_sb_bwd_skel
    rw [wp_bind, k0_part53_eq_skeleton]
    unfold k0_part53_skel
    rw [wp_bind]
    iapply (wp_wand_r Idealize.ShloMosaic.frame (wpE (defs₀ (F := F)) 𝒱₀ (c : Thread nD τ) none) Set.univ)
    isplitl [H9 H11 H12 HW Hw0 Hsw0 Hcw0]
    · iapply (part35Run c i XW arg3 harg3 arg4 harg4 arg5 harg5 arg6 harg6 arg9 harg9 arg10 harg10 arg11 harg11 arg12 harg12 f9 f11 f12 gw0 W)
      isplitl [H9]; · iexact H9
      isplitl [H11]; · iexact H11
      isplitl [H12]; · iexact H12
      isplitl [HW]; · iexact HW
      isplitl [Hw0]; · iexact Hw0
      isplitl [Hsw0]; · iexact Hsw0
      iexact Hcw0
    iintro %r ⟨%hr, H9, H11, H12, ⟨%W2, HW⟩, ⟨%fw, HFw⟩⟩
    subst hr
    rw [h11, h12]
    dsimp only [ret35]
    rw [← wp_bind]
    sl_exec
    ihave Hw2 := (sep_of_eq (homes_out2 c wM XW _ _ (tl_ne_last i))) $$ Hwr
    icases Hw2 with ⟨Hw1, Hwr⟩
    ihave Ho2 := (sep_of_eq (homes_out2 c oM XO _ _ (tl_ne_last i))) $$ Hor
    icases Ho2 with ⟨Ho1, Hor⟩
    sl_exec
    sl_step
    isplitl [Hwr Hor HFw_dst HFw_src HFw Hco0_dst Hco0_src Hco0 Hsw1 Hw1 Hcw1 Hso1 Ho1 Hco1]
    · isplitl [HFw_src Hw1 Hwr]
      · iapply (homes_back c wM XW _ _ _ (tl_ne_last i))
        isplitl [HFw_src]; · iexact HFw_src
        isplitl [Hw1]; · iexact Hw1
        iexact Hwr
      isplitl [Hco0_src Ho1 Hor]
      · iapply (homes_back c oM XO _ _ _ (tl_ne_last i))
        isplitl [Hco0_src]; · iexact Hco0_src
        isplitl [Ho1]; · iexact Ho1
        iexact Hor
      isplitl [HFw_dst]; · iexists _; iexact HFw_dst
      isplitl [Hsw1]; · iexists _; iexact Hsw1
      isplitl [Hco0_dst]; · iexists _; iexact Hco0_dst
      isplitl [Hso1]; · iexists _; iexact Hso1
      isplitl [HFw]; · iexact HFw
      isplitl [Hcw1]; · iexact Hcw1
      isplitl [Hco0]; · iexact Hco0
      iexact Hco1
    isplitl [HW]; · iexists _; iexact HW
    isplitl [H3]; · iexact H3
    isplitl [H4]; · iexact H4
    isplitl [H5]; · iexact H5
    isplitl [H6]; · iexact H6
    isplitl [H9]; · iexact H9
    isplitl [H10]; · iexact H10
    isplitl [H11]; · iexact H11
    iexact H12

end Body

end Cert.SbBwdIdeal.Run
end
-- ==== Proof.SbBwd.Tile.lean ====
/-
  The stick-breaking backward call: what a trip and a grid point leave, said through one set of functions of a tile — the same
  for every pair of heads and every tile of keys.
-/
module

public import proofs.«01_k».proof.Proof.SbBwd.Body

@[expose] public section

noncomputable section

namespace Cert.SbBwdIdeal.Run

open Cert.SbBwdIdeal Cert.SbBwdIdeal.Gen
open Idealize.ShloMosaic
open Idealize.ShloMosaic.TcCoe Idealize.ShloMosaic.Tactic
open Idealize.SL.Sem

variable {F : FTy → Type} [FloatOps F]

/-! ## The functions of a tile -/

section Fun

/-- A pair's keys (or values), the first head's over the second's, each with the other head's columns at zero. -/
def stackF (v9 : FVec F S256x128 .bf16) (x : Vec F S256x128 .bf16) : FVec F S512x128 .bf16 :=
  concatenate S512x128 0 [⟨S256x128, mulf (shapeCast S256x128 x shapeCasts_S256x128_S256x128) v9⟩,
    ⟨S256x128, subf (shapeCast S256x128 x shapeCasts_S256x128_S256x128) (mulf (shapeCast S256x128 x shapeCasts_S256x128_S256x128) v9)⟩]
    concatenates_S256x128_S256x128_S512x128_d0
/-- The weights' cotangents times the weights. -/
def errF (d st : FVec F S512x128 .bf16) (w : FVec F S512x512 .bf16) : FVec F S512x512 .f32 :=
  mulf (matmul dot_S512x128_S512x128_S512x512_1_1_0_0_n_n none d st (constant S512x512 .f32 0x00000000#32)) (extf .f32 w bitsLt_bf16_f32)
/-- Two columns of row sums, each over its head's half. -/
def keepF (s0 s1 : FVec F S512x1 .f32) : FVec F S512x512 .f32 :=
  concatenate S512x512 1 [⟨S512x256, broadcastTo S512x256 (shapeCast S512x1 s0 shapeCasts_S512x1_S512x1) broadcasts_S512x1_S512x256⟩,
    ⟨S512x256, broadcastTo S512x256 (shapeCast S512x1 s1 shapeCasts_S512x1_S512x1) broadcasts_S512x1_S512x256⟩] concatenates_S512x256_S512x256_S512x512_d1
/-- Each half times the matrix of ones above the diagonal. -/
def scanF (v19 : FVec F S256x256 .bf16) (e : FVec F S512x512 .f32) : FVec F S512x512 .f32 :=
  concatenate S512x512 1
    [⟨S512x256, matmul dot_S512x256_S256x256_S512x256_1_0_0_1_n_n none (extractStridedSlice S512x256 ![0, 0] (truncf .bf16 e bitsLt_bf16_f32) slices_S512x512_o0_0_S512x256) v19 (constant S512x256 .f32 0x00000000#32)⟩,
      ⟨S512x256, matmul dot_S512x256_S256x256_S512x256_1_0_0_1_n_n none (extractStridedSlice S512x256 ![0, 256] (truncf .bf16 e bitsLt_bf16_f32) slices_S512x512_o0_256_S512x256) v19 (constant S512x256 .f32 0x00000000#32)⟩]
    concatenates_S512x256_S512x256_S512x512_d1
/-- The cotangent of the scores. -/
def cotF (e D : FVec F S512x512 .f32) (o : Vec F S1x1x512x512 .bf16) : FVec F S512x512 .f32 :=
  subf (mulf (addf e D) (Idealize.ShloMosaic.exp (extf .f32 (shapeCast S512x512 o shapeCasts_S1x1x512x512_S512x512) bitsLt_bf16_f32))) D
/-- A key-side gradient with a tile's part added: each head's columns from its own half. -/
def sideF (v17 : IVec S256x128 1) (z : FVec F S512x512 .bf16) (q : FVec F S512x128 .bf16) (old : Vec F S256x128 .f32) : FVec F S256x128 .f32 :=
  addf (shapeCast S256x128 old shapeCasts_S256x128_S256x128)
    (select v17 (extractStridedSlice S256x128 ![0, 0] (matmul dot_S512x512_S512x128_S512x128_0_0_1_1_n_n none z q (constant S512x128 .f32 0x00000000#32)) slices_S512x128_o0_0_S256x128)
      (extractStridedSlice S256x128 ![256, 0] (matmul dot_S512x512_S512x128_S512x128_0_0_1_1_n_n none z q (constant S512x128 .f32 0x00000000#32)) slices_S512x128_o256_0_S256x128))
def sum0F (s : FVec F S512x1 .f32) (e : FVec F S512x512 .f32) : FVec F S512x1 .f32 :=
  addf s (shapeCast S512x1 (multiReduction .add [1] S512 (extractStridedSlice S512x256 ![0, 0] e slices_S512x512_o0_0_S512x256) 0x00000000#32 reduces_S512x256_S512 (.inl rfl) rfl) shapeCasts_S512_S512x1)
def sum1F (s : FVec F S512x1 .f32) (e : FVec F S512x512 .f32) : FVec F S512x1 .f32 :=
  addf s (shapeCast S512x1 (multiReduction .add [1] S512 (extractStridedSlice S512x256 ![0, 256] e slices_S512x512_o0_256_S512x256) 0x00000000#32 reduces_S512x256_S512 (.inl rfl) rfl) shapeCasts_S512_S512x1)
/-- The query-side gradient with a tile's part added. -/
def querF (a : FVec F S512x128 .f32) (z : FVec F S512x512 .bf16) (st : FVec F S512x128 .bf16) : FVec F S512x128 .f32 :=
  addf a (matmul dot_S512x512_S512x128_S512x128_1_0_0_1_n_n none z st (constant S512x128 .f32 0x00000000#32))

/-- What a tile is read as: its queries, output cotangents, keys, values, weights and log-complements. -/
structure Tile (F : FTy → Type) where
  q : Vec F S512x128 .bf16
  d : Vec F S512x128 .bf16
  k : Vec F S256x128 .bf16
  v : Vec F S256x128 .bf16
  w : Vec F S1x1x512x512 .bf16
  o : Vec F S1x1x512x512 .bf16

/-- What is carried for a pair of heads. -/
abbrev Trio (F : FTy → Type) : Type := FVec F S512x1 .f32 × FVec F S512x1 .f32 × FVec F S512x128 .f32

variable (v9 : FVec F S256x128 .bf16) (v17 : IVec S256x128 1) (v19 : FVec F S256x256 .bf16)

def tE (T : Tile F) : FVec F S512x512 .f32 :=
  errF (shapeCast S512x128 T.d shapeCasts_S512x128_S512x128) (stackF v9 T.v) (shapeCast S512x512 T.w shapeCasts_S1x1x512x512_S512x512)
def tD (T : Tile F) (x : Trio F) : FVec F S512x512 .f32 := addf (keepF x.1 x.2.1) (scanF v19 (tE v9 T))
def tC (T : Tile F) (x : Trio F) : FVec F S512x512 .f32 := cotF (tE v9 T) (tD v9 v19 T x) T.o
/-- The cotangent where no key is masked, and where `m` says which are kept. -/
def tZ (T : Tile F) (x : Trio F) : FVec F S512x512 .bf16 := truncf .bf16 (tC v9 v19 T x) bitsLt_bf16_f32
def tZm (m : IVec S512x512 1) (T : Tile F) (x : Trio F) : FVec F S512x512 .bf16 :=
  truncf .bf16 (select m (tC v9 v19 T x) (broadcast S512x512 (Scalar.ofBits (F := F) .f32 0x00000000#32))) bitsLt_bf16_f32
/-- What is carried past a tile. -/
def tNext (z : FVec F S512x512 .bf16) (T : Tile F) (x : Trio F) : Trio F :=
  (sum0F x.1 (tE v9 T), sum1F x.2.1 (tE v9 T), querF x.2.2 z (stackF v9 T.k))
def tK (z : FVec F S512x512 .bf16) (T : Tile F) (old : Vec F S256x128 .f32) : FVec F S256x128 .f32 :=
  sideF v17 z (shapeCast S512x128 T.q shapeCasts_S512x128_S512x128) old
def tV (T : Tile F) (old : Vec F S256x128 .f32) : FVec F S256x128 .f32 :=
  sideF v17 (shapeCast S512x512 T.w shapeCasts_S1x1x512x512_S512x512) (shapeCast S512x128 T.d shapeCasts_S512x128_S512x128) old

/-! The last tile reaches only the lower 256 rows. -/

structure Half (F : FTy → Type) where
  q : Vec F S256x128 .bf16
  d : Vec F S256x128 .bf16
  k : Vec F S256x128 .bf16
  v : Vec F S256x128 .bf16
  w : Vec F S1x1x256x512 .bf16
  o : Vec F S1x1x256x512 .bf16

def hE (T : Half F) : FVec F S256x512 .f32 :=
  mulf (matmul dot_S256x128_S512x128_S256x512_1_1_0_0_n_n none (shapeCast S256x128 T.d shapeCasts_S256x128_S256x128) (stackF v9 T.v) (constant S256x512 .f32 0x00000000#32))
    (extf .f32 (shapeCast S256x512 T.w shapeCasts_S1x1x256x512_S256x512) bitsLt_bf16_f32)
def hD (T : Half F) (x : Trio F) : FVec F S256x512 .f32 :=
  addf (concatenate S256x512 1
      [⟨S256x256, broadcastTo S256x256 (shapeCast S256x1 (extractStridedSlice S256x1 ![256, 0] x.1 slices_S512x1_o256_0_S256x1) shapeCasts_S256x1_S256x1) broadcasts_S256x1_S256x256⟩,
        ⟨S256x256, broadcastTo S256x256 (shapeCast S256x1 (extractStridedSlice S256x1 ![256, 0] x.2.1 slices_S512x1_o256_0_S256x1) shapeCasts_S256x1_S256x1) broadcasts_S256x1_S256x256⟩]
      concatenates_S256x256_S256x256_S256x512_d1)
    (concatenate S256x512 1
      [⟨S256x256, matmul dot_S256x256_S256x256_S256x256_1_0_0_1_n_n none (extractStridedSlice S256x256 ![0, 0] (truncf .bf16 (hE v9 T) bitsLt_bf16_f32) slices_S256x512_o0_0_S256x256) v19 (constant S256x256 .f32 0x00000000#32)⟩,
        ⟨S256x256, matmul dot_S256x256_S256x256_S256x256_1_0_0_1_n_n none (extractStridedSlice S256x256 ![0, 256] (truncf .bf16 (hE v9 T) bitsLt_bf16_f32) slices_S256x512_o0_256_S256x256) v19 (constant S256x256 .f32 0x00000000#32)⟩]
      concatenates_S256x256_S256x256_S256x512_d1)
def hZ (m : IVec S256x512 1) (T : Half F) (x : Trio F) : FVec F S256x512 .bf16 :=
  truncf .bf16 (select m
    (subf (mulf (addf (hE v9 T) (hD v9 v19 T x)) (Idealize.ShloMosaic.exp (extf .f32 (shapeCast S256x512 T.o shapeCasts_S1x1x256x512_S256x512) bitsLt_bf16_f32))) (hD v9 v19 T x))
    (broadcast S256x512 (Scalar.ofBits (F := F) .f32 0x00000000#32))) bitsLt_bf16_f32
def hSide (z : FVec F S256x512 .bf16) (q : FVec F S256x128 .bf16) (old : Vec F S256x128 .f32) : FVec F S256x128 .f32 :=
  addf (shapeCast S256x128 old shapeCasts_S256x128_S256x128)
    (select v17 (extractStridedSlice S256x128 ![0, 0] (matmul dot_S256x512_S256x128_S512x128_0_0_1_1_n_n none z q (constant S512x128 .f32 0x00000000#32)) slices_S512x128_o0_0_S256x128)
      (extractStridedSlice S256x128 ![256, 0] (matmul dot_S256x512_S256x128_S512x128_0_0_1_1_n_n none z q (constant S512x128 .f32 0x00000000#32)) slices_S512x128_o256_0_S256x128))
def hK (z : FVec F S256x512 .bf16) (T : Half F) (old : Vec F S256x128 .f32) : FVec F S256x128 .f32 :=
  hSide v17 z (shapeCast S256x128 T.q shapeCasts_S256x128_S256x128) old
def hV (T : Half F) (old : Vec F S256x128 .f32) : FVec F S256x128 .f32 :=
  hSide v17 (shapeCast S256x512 T.w shapeCasts_S1x1x256x512_S256x512) (shapeCast S256x128 T.d shapeCasts_S256x128_S256x128) old
/-- The query-side gradient at the end, scaled. -/
def hDone (z : FVec F S256x512 .bf16) (T : Half F) (a : FVec F S512x128 .f32) : FVec F S512x128 .f32 :=
  mulf (addf a (concatenate S512x128 0 [⟨S256x128, broadcast S256x128 (Scalar.ofBits (F := F) .f32 0x00000000#32)⟩,
      ⟨S256x128, matmul dot_S256x512_S512x128_S256x128_1_0_0_1_n_n none z (stackF v9 T.k) (constant S256x128 .f32 0x00000000#32)⟩] concatenates_S256x128_S256x128_S512x128_d0))
    (broadcast S512x128 (Scalar.ofBits (F := F) .f32 0x3E000000#32))

end Fun

/-! ## A trip -/

section Trip

variable (c : Dev nD) (i : grid0.Coords)
  (XW : Buf (Elt F) (wM.view.loc (c : Thread nD τ))) (XO : Buf (Elt F) (oM.view.loc (c : Thread nD τ)))
  (arg3 : Memref sig .tc .vmem S512x512 .bf16) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x512 .bf16) (harg6 : arg6.IsWhole)
  (arg9 : Memref sig .tc .vmem S256x256 .bf16) (harg9 : arg9.IsWhole) (arg10 : Memref sig .tc .vmem S512x512 .f32) (harg10 : arg10.IsWhole)
  (arg11 : Memref sig .tc .vmem S2048x512 .f32) (harg11 : arg11.IsWhole) (arg12 : Memref sig .tc .vmem S2048x512 .f32) (harg12 : arg12.IsWhole)
  (arg0 arg2 : BitVec 32) (v9 : FVec F S256x128 .bf16) (v17 : IVec S256x128 1) (v19 : FVec F S256x256 .bf16)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

theorem inb_q (p : Fin 4) : ∀ a, (![0, 128 * p.val] : Fin 2 → Nat) a + S512x128.size a ≤ S512x512.size a := by
  have := p.isLt; intro a; fin_cases a
  · show 0 + 512 ≤ 512; omega
  · show 128 * p.val + 128 ≤ 512; omega
theorem inb_l (p : Fin 4) : ∀ a, (![256, 128 * p.val] : Fin 2 → Nat) a + S256x128.size a ≤ S512x512.size a := by
  have := p.isLt; intro a; fin_cases a
  · show 256 + 256 ≤ 512; omega
  · show 128 * p.val + 128 ≤ 512; omega
theorem inb_w (s : Fin 2) (p : Fin 4) : ∀ a, (![s.val, p.val, 0, 0] : Fin 4 → Nat) a + S1x1x512x512.size a ≤ S2x4x512x512.size a := by
  have := p.isLt; have := s.isLt; intro a; fin_cases a
  · show s.val + 1 ≤ 2; omega
  · show p.val + 1 ≤ 4; omega
  · show 0 + 512 ≤ 512; omega
  · show 0 + 512 ≤ 512; omega
theorem inb_wl (s : Fin 2) (p : Fin 4) : ∀ a, (![s.val, p.val, 256, 0] : Fin 4 → Nat) a + S1x1x256x512.size a ≤ S2x4x512x512.size a := by
  have := p.isLt; have := s.isLt; intro a; fin_cases a
  · show s.val + 1 ≤ 2; omega
  · show p.val + 1 ≤ 4; omega
  · show 256 + 256 ≤ 512; omega
  · show 0 + 512 ≤ 512; omega

/-- Rows of a key-side array. -/
abbrev rowsR (off : Fin 2 → Nat) (h : ∀ a, off a + S256x128.size a ≤ S2048x512.size a) : Rect S2048x512 := Rect.unit (s := S2048x512) off S256x128.size h

/-- The tile of pair `p` read with slot `s` holding tile `b`, its keys at `off`. -/
def tileAt (s : Fin 2) (b : Fin 64) (p : Fin 4) (off : Fin 2 → Nat) (h : ∀ a, off a + S256x128.size a ≤ S2048x512.size a) : Tile F where
  q := View.readAt (Elt F) arg3.view (Rect.unit (s := S512x512) ![0, 128 * p.val] S512x128.size (inb_q p)).toLoadRect f3
  d := View.readAt (Elt F) arg6.view (Rect.unit (s := S512x512) ![0, 128 * p.val] S512x128.size (inb_q p)).toLoadRect f6
  k := View.readAt (Elt F) arg4.view (rowsR off h).toLoadRect f4
  v := View.readAt (Elt F) arg5.view (rowsR off h).toLoadRect f5
  w := View.readAt (Elt F) wB.view (Rect.unit (s := S2x4x512x512) ![s.val, p.val, 0, 0] S1x1x512x512.size (inb_w s p)).toLoadRect (landed c wM XW wB s b (slot wB s).view.junk)
  o := View.readAt (Elt F) oB.view (Rect.unit (s := S2x4x512x512) ![s.val, p.val, 0, 0] S1x1x512x512.size (inb_w s p)).toLoadRect (landed c oM XO oB s b (slot oB s).view.junk)

def halfAt (s : Fin 2) (b : Fin 64) (p : Fin 4) (off : Fin 2 → Nat) (h : ∀ a, off a + S256x128.size a ≤ S2048x512.size a) : Half F where
  q := View.readAt (Elt F) arg3.view (Rect.unit (s := S512x512) ![256, 128 * p.val] S256x128.size (inb_l p)).toLoadRect f3
  d := View.readAt (Elt F) arg6.view (Rect.unit (s := S512x512) ![256, 128 * p.val] S256x128.size (inb_l p)).toLoadRect f6
  k := View.readAt (Elt F) arg4.view (rowsR off h).toLoadRect f4
  v := View.readAt (Elt F) arg5.view (rowsR off h).toLoadRect f5
  w := View.readAt (Elt F) wB.view (Rect.unit (s := S2x4x512x512) ![s.val, p.val, 256, 0] S1x1x256x512.size (inb_wl s p)).toLoadRect (landed c wM XW wB s b (slot wB s).view.junk)
  o := View.readAt (Elt F) oB.view (Rect.unit (s := S2x4x512x512) ![s.val, p.val, 256, 0] S1x1x256x512.size (inb_wl s p)).toLoadRect (landed c oM XO oB s b (slot oB s).view.junk)

/-- The piece that a tile writes over its keys' rows. -/
abbrev pieceK (f : Buf (Elt F) (arg11.view.loc (c : Thread nD τ))) (off : Fin 2 → Nat) (h : ∀ a, off a + S256x128.size a ≤ S2048x512.size a)
    (g : Vec F S256x128 .f32 → FVec F S256x128 .f32) : View.Piece (Elt F) S2048x512 .f32 :=
  ⟨rowsR off h, g (View.readAt (Elt F) arg11.view (rowsR off h).toLoadRect f)⟩

/-- A trip's two tiles for pair `p`. -/
abbrev T0 (k : Fin (k0_t1_loop i).trips) (p : Fin 4) (off : Fin 2 → Nat) (h : ∀ a, off a + S256x128.size a ≤ S2048x512.size a) : Tile F :=
  tileAt c XW XO arg3 arg4 arg5 arg6 f3 f4 f5 f6 0 (tl i (2 * k.val)) p off h
abbrev T1 (k : Fin (k0_t1_loop i).trips) (p : Fin 4) (off : Fin 2 → Nat) (h : ∀ a, off a + S256x128.size a ≤ S2048x512.size a) : Tile F :=
  tileAt c XW XO arg3 arg4 arg5 arg6 f3 f4 f5 f6 1 (tl i (2 * k.val + 1)) p off h

/-- Past a tile with no key masked. -/
abbrev past (T : Tile F) (x : Trio F) : Trio F := tNext v9 (tZ v9 v19 T x) T x

set_option maxHeartbeats 4000000 in
set_option maxRecDepth 65536 in
theorem trip_eq (k : Fin (k0_t1_loop i).trips) (x0 x1 x2 x3 : Trio F)
    (f11 : Buf (Elt F) (arg11.view.loc (c : Thread nD τ))) (f12 : Buf (Elt F) (arg12.view.loc (c : Thread nD τ))) :
    (tripRun c i XW XO arg3 harg3 arg4 harg4 arg5 harg5 arg6 harg6 arg9 harg9 arg10 harg10 arg11 harg11 arg12 harg12 arg0 arg2 v9 v17 v19 f3 f4 f5 f6 k
      x0.1 x0.2.1 x0.2.2 x1.1 x1.2.1 x1.2.2 x2.1 x2.2.1 x2.2.2 x3.1 x3.2.1 x3.2.2 f11 f12).1
    = (let T0 := T0 c i XW XO arg3 arg4 arg5 arg6 f3 f4 f5 f6 k
       let T1 := T1 c i XW XO arg3 arg4 arg5 arg6 f3 f4 f5 f6 k
       let a0 := T0 0 (k0_off4 i k) (k0_off4_inb i k)
       let a1 := T0 1 (k0_off5 i k) (k0_off5_inb i k)
       let a2 := T0 2 (k0_off6 i k) (k0_off6_inb i k)
       let a3 := T0 3 (k0_off7 i k) (k0_off7_inb i k)
       let b0 := T1 0 (k0_off9 i k) (k0_off9_inb i k)
       let b1 := T1 1 (k0_off10 i k) (k0_off10_inb i k)
       let b2 := T1 2 (k0_off11 i k) (k0_off11_inb i k)
       let b3 := T1 3 (k0_off12 i k) (k0_off12_inb i k)
       let y0 := past v9 v19 a0 x0
       let y1 := past v9 v19 a1 x1
       let y2 := past v9 v19 a2 x2
       let y3 := past v9 v19 a3 x3
       let z0 := past v9 v19 b0 y0
       let z1 := past v9 v19 b1 y1
       let z2 := past v9 v19 b2 y2
       let z3 := past v9 v19 b3 y3
       ((z0.1, z0.2.1, z0.2.2, z1.1, z1.2.1, z1.2.2, z2.1, z2.2.1, z2.2.2, z3.1, z3.2.1, z3.2.2),
        arg11.view.writes (Elt F) f11
          [pieceK c arg11 f11 _ (k0_off12_inb i k) (tK v17 (tZ v9 v19 b3 y3) b3), pieceK c arg11 f11 _ (k0_off11_inb i k) (tK v17 (tZ v9 v19 b2 y2) b2),
           pieceK c arg11 f11 _ (k0_off10_inb i k) (tK v17 (tZ v9 v19 b1 y1) b1), pieceK c arg11 f11 _ (k0_off9_inb i k) (tK v17 (tZ v9 v19 b0 y0) b0),
           pieceK c arg11 f11 _ (k0_off7_inb i k) (tK v17 (tZ v9 v19 a3 x3) a3), pieceK c arg11 f11 _ (k0_off6_inb i k) (tK v17 (tZ v9 v19 a2 x2) a2),
           pieceK c arg11 f11 _ (k0_off5_inb i k) (tK v17 (tZ v9 v19 a1 x1) a1), pieceK c arg11 f11 _ (k0_off4_inb i k) (tK v17 (tZ v9 v19 a0 x0) a0)],
        arg12.view.writes (Elt F) f12
          [pieceK c arg12 f12 _ (k0_off12_inb i k) (tV v17 b3), pieceK c arg12 f12 _ (k0_off11_inb i k) (tV v17 b2),
           pieceK c arg12 f12 _ (k0_off10_inb i k) (tV v17 b1), pieceK c arg12 f12 _ (k0_off9_inb i k) (tV v17 b0),
           pieceK c arg12 f12 _ (k0_off7_inb i k) (tV v17 a3), pieceK c arg12 f12 _ (k0_off6_inb i k) (tV v17 a2),
           pieceK c arg12 f12 _ (k0_off5_inb i k) (tV v17 a1), pieceK c arg12 f12 _ (k0_off4_inb i k) (tV v17 a0)])) := by
  sl_kernel_rfl

/-! ## A grid point -/

section Point
variable (f9 : Buf (Elt F) (arg9.view.loc (c : Thread nD τ)))
  (s11 : Buf (Elt F) (arg11.view.loc (c : Thread nD τ))) (s12 : Buf (Elt F) (arg12.view.loc (c : Thread nD τ)))

/-- The matrix of ones above the diagonal, as a point reads it. -/
abbrev scanAt : FVec F S256x256 .bf16 := k0_pay227 (View.readAt (Elt F) arg9.view (Rect.unit (s := S256x256) ![0, 0] S256x256.size inb_S256x256_S256x256_0_0).toLoadRect f9)

/-- The state after the loop. -/
def loopEnd : State F c arg11 arg12 :=
  stAt c i XW XO arg3 harg3 arg4 harg4 arg5 harg5 arg6 harg6 arg9 harg9 arg10 harg10 arg11 harg11 arg12 harg12 (BitVec.ofNat 32 (i 0).val) (BitVec.ofNat 32 (i 2).val)
    k0_pay225 (k0_pay226 (F := F)) (scanAt c arg9 f9) f3 f4 f5 f6
    ((k0_pay228, k0_pay228, k0_pay229, k0_pay228, k0_pay228, k0_pay229, k0_pay228, k0_pay228, k0_pay229, k0_pay228, k0_pay228, k0_pay229), s11, s12) (k0_t1_loop i).trips

abbrev TA (p : Fin 4) (off : Fin 2 → Nat) (h : ∀ a, off a + S256x128.size a ≤ S2048x512.size a) : Tile F :=
  tileAt c XW XO arg3 arg4 arg5 arg6 f3 f4 f5 f6 0 (tl i (2 * (k0_t1_loop i).trips)) p off h
abbrev TB (p : Fin 4) (off : Fin 2 → Nat) (h : ∀ a, off a + S256x128.size a ≤ S2048x512.size a) : Half F :=
  halfAt c XW XO arg3 arg4 arg5 arg6 f3 f4 f5 f6 1 (tl i (2 * (k0_t1_loop i).trips + 1)) p off h

/-- The four trios among the twelve carried values. -/
def trio (a : Carry F) : Fin 4 → Trio F :=
  ![(a.1, a.2.1, a.2.2.1), (a.2.2.2.1, a.2.2.2.2.1, a.2.2.2.2.2.1), (a.2.2.2.2.2.2.1, a.2.2.2.2.2.2.2.1, a.2.2.2.2.2.2.2.2.1),
    (a.2.2.2.2.2.2.2.2.2.1, a.2.2.2.2.2.2.2.2.2.2.1, a.2.2.2.2.2.2.2.2.2.2.2)]

/-- A pair's masked cotangents of the two last tiles. -/
abbrev zA (v19 : FVec F S256x256 .bf16) (T : Tile F) (x : Trio F) : FVec F S512x512 .bf16 := tZm k0_pay225 v19 k0_pay236 T x
abbrev pastA (v19 : FVec F S256x256 .bf16) (T : Tile F) (x : Trio F) : Trio F := tNext k0_pay225 (zA v19 T x) T x
abbrev zB (v19 : FVec F S256x256 .bf16) (T : Half F) (x : Trio F) : FVec F S256x512 .bf16 := hZ k0_pay225 v19 k0_pay291 T x

abbrev pieceQ (p : Fin 4) (g : FVec F S512x128 .f32) : View.Piece (Elt F) S512x512 .f32 :=
  ⟨Rect.unit (s := S512x512) ![0, 128 * p.val] S512x128.size (inb_q p), g⟩

set_option maxHeartbeats 4000000 in
set_option maxRecDepth 65536 in
theorem body_eq :
    (bodyRun c i XW XO arg3 harg3 arg4 harg4 arg5 harg5 arg6 harg6 arg9 harg9 arg10 harg10 arg11 harg11 arg12 harg12 f3 f4 f5 f6 f9 s11 s12).1
    = (let S := loopEnd c i XW XO arg3 harg3 arg4 harg4 arg5 harg5 arg6 harg6 arg9 harg9 arg10 harg10 arg11 harg11 arg12 harg12 f3 f4 f5 f6 f9 s11 s12
       let v17 := k0_pay226 (F := F)
       let u := scanAt c arg9 f9
       let x := trio S.1
       let TA := TA c i XW XO arg3 arg4 arg5 arg6 f3 f4 f5 f6
       let TB := TB c i XW XO arg3 arg4 arg5 arg6 f3 f4 f5 f6
       let a0 := TA 0 (k0_off26 i) (k0_off26_inb i)
       let a1 := TA 1 (k0_off27 i) (k0_off27_inb i)
       let a2 := TA 2 (k0_off28 i) (k0_off28_inb i)
       let a3 := TA 3 (k0_off29 i) (k0_off29_inb i)
       let b0 := TB 0 (k0_off30 i) (k0_off30_inb i)
       let b1 := TB 1 (k0_off31 i) (k0_off31_inb i)
       let b2 := TB 2 (k0_off32 i) (k0_off32_inb i)
       let b3 := TB 3 (k0_off33 i) (k0_off33_inb i)
       let y0 := pastA u a0 (x 0)
       let y1 := pastA u a1 (x 1)
       let y2 := pastA u a2 (x 2)
       let y3 := pastA u a3 (x 3)
       ([pieceQ 3 (hDone k0_pay225 (zB u b3 y3) b3 y3.2.2), pieceQ 2 (hDone k0_pay225 (zB u b2 y2) b2 y2.2.2),
         pieceQ 1 (hDone k0_pay225 (zB u b1 y1) b1 y1.2.2), pieceQ 0 (hDone k0_pay225 (zB u b0 y0) b0 y0.2.2)],
        arg11.view.writes (Elt F) S.2.1
          [pieceK c arg11 S.2.1 _ (k0_off33_inb i) (hK v17 (zB u b3 y3) b3), pieceK c arg11 S.2.1 _ (k0_off32_inb i) (hK v17 (zB u b2 y2) b2),
           pieceK c arg11 S.2.1 _ (k0_off31_inb i) (hK v17 (zB u b1 y1) b1), pieceK c arg11 S.2.1 _ (k0_off30_inb i) (hK v17 (zB u b0 y0) b0),
           pieceK c arg11 S.2.1 _ (k0_off29_inb i) (tK v17 (zA u a3 (x 3)) a3), pieceK c arg11 S.2.1 _ (k0_off28_inb i) (tK v17 (zA u a2 (x 2)) a2),
           pieceK c arg11 S.2.1 _ (k0_off27_inb i) (tK v17 (zA u a1 (x 1)) a1), pieceK c arg11 S.2.1 _ (k0_off26_inb i) (tK v17 (zA u a0 (x 0)) a0)],
        arg12.view.writes (Elt F) S.2.2
          [pieceK c arg12 S.2.2 _ (k0_off33_inb i) (hV v17 b3), pieceK c arg12 S.2.2 _ (k0_off32_inb i) (hV v17 b2),
           pieceK c arg12 S.2.2 _ (k0_off31_inb i) (hV v17 b1), pieceK c arg12 S.2.2 _ (k0_off30_inb i) (hV v17 b0),
           pieceK c arg12 S.2.2 _ (k0_off29_inb i) (tV v17 a3), pieceK c arg12 S.2.2 _ (k0_off28_inb i) (tV v17 a2),
           pieceK c arg12 S.2.2 _ (k0_off27_inb i) (tV v17 a1), pieceK c arg12 S.2.2 _ (k0_off26_inb i) (tV v17 a0)])) := by
  sl_kernel_rfl

end Point

end Trip

end Cert.SbBwdIdeal.Run
end
-- ==== Proof.SbBwd.Real.lean ====
/-
  The stick-breaking backward call over real numbers: what the functions of a tile are where its arrays hold reals.
-/
module

public import proofs.«01_k».proof.Proof.SbBwd.Tile
public import proofs.«01_k».proof.Proof.LiftNat

@[expose] public section

set_option maxRecDepth 16384

noncomputable section

namespace Cert.SbBwdIdeal.Val

open Cert.SbBwdIdeal Cert.SbBwdIdeal.Gen Cert.SbBwdIdeal.Run Cert.Lift
open Idealize.ShloMosaic
open scoped BigOperators

/-- Two blocks of 256 columns side by side. -/
def two (f g : ℕ → ℕ → ℝ) (r j : ℕ) : ℝ := if j < 256 then f r j else g r (j - 256)

/-! ## The masks -/

theorem small (n k : ℕ) (hn : n < 2 ^ 31) (hk : k < 2 ^ 31) : (BitVec.ofNat 32 n).slt (BitVec.ofNat 32 k) = decide (n < k) := by
  rw [BitVec.slt_eq_decide, BitVec.toInt_eq_toNat_of_lt, BitVec.toInt_eq_toNat_of_lt] <;> simp only [BitVec.toNat_ofNat] <;>
    (try rw [Nat.mod_eq_of_lt (by omega), Nat.mod_eq_of_lt (by omega)]) <;> (try rw [Nat.mod_eq_of_lt (by omega)]) <;> (try omega)
  simp
theorem low (n : ℕ) (hn : n < 2 ^ 31) : BitVec.ofNat 32 n &&& 255#32 = BitVec.ofNat 32 (n % 256) := by
  apply BitVec.eq_of_toNat_eq
  rw [BitVec.toNat_and, BitVec.toNat_ofNat, BitVec.toNat_ofNat, BitVec.toNat_ofNat, Nat.mod_eq_of_lt (by omega : n < 2 ^ 32), Nat.mod_eq_of_lt (by omega : 255 < 2 ^ 32),
    Nat.mod_eq_of_lt (by omega : n % 256 < 2 ^ 32)]
  exact Nat.and_two_pow_sub_one_eq_mod n 8

theorem half_eq : Ideal.ofBits .f32 0x3F000000#32 = ((1 / 2 : ℝ) : EReal) := by
  simp [Ideal.ofBits, Ideal.ieee, -EReal.coe_mul]; norm_num
theorem eighth_eq : Ideal.ofBits .f32 0x3E000000#32 = ((1 / 8 : ℝ) : EReal) := by
  simp [Ideal.ofBits, Ideal.ieee, -EReal.coe_mul]; norm_num

theorem first_eq : cmpi .slt (iota .tc S256x128 32 [1] iota_S256x128_d1_w32) (broadcast S256x128 64#32) = nb (fun _ c => c < 64) := by
  funext j
  have h : (j 1).val < 128 := (j 1).isLt
  show BitVec.ofBool ((iota .tc S256x128 32 [1] iota_S256x128_d1_w32 j).slt 64#32) = _
  rw [iota_single_apply]
  exact congrArg BitVec.ofBool (small _ _ (by omega) (by omega))

theorem v9_eq : (k0_pay225 : FVec Ideal S256x128 .bf16) = nm (fun _ c => if c < 64 then 1 else 0) := by
  unfold k0_pay225
  dsimp only
  rw [first_eq, splat_nm _ 1 Ideal.ofBits_one_f32, zero_nm, select_nm]
  rfl
theorem v17_eq : k0_pay226 (F := Ideal) = nb (fun _ c => c < 64) := by
  unfold k0_pay226
  dsimp only
  rw [first_eq, splat_nm _ 1 Ideal.ofBits_one_f32, zero_nm, select_nm]
  funext j
  show BitVec.ofBool (decide (Ideal.ofBits .f32 0x3F000000#32 < (((if (j 1).val < 64 then 1 else 0 : ℝ)) : EReal))) = _
  rw [half_eq]
  refine congrArg BitVec.ofBool (decide_eq_decide.mpr ?_)
  rw [EReal.coe_lt_coe_iff]
  split
  · next h => exact ⟨fun _ => h, fun _ => by norm_num⟩
  · next h => exact ⟨fun h' => absurd h' (by norm_num), fun h' => absurd h' h⟩

theorem maskA_eq : k0_pay236 = nb (fun r j => j % 256 < r ∨ 256 ≤ r) := by
  funext j
  have h0 : (j 0).val < 512 := (j 0).isLt
  have h1 : (j 1).val < 512 := (j 1).isLt
  show BitVec.ofBool ((iota .tc S512x512 32 [1] iota_S512x512_d1_w32 j &&& 255#32).slt (iota .tc S512x512 32 [0] iota_S512x512_d0_w32 j))
    ||| BitVec.ofBool ((256#32).sle (iota .tc S512x512 32 [0] iota_S512x512_d0_w32 j)) = _
  rw [iota_single_apply, iota_single_apply]
  have e1 := (congrArg (fun x => BitVec.slt x (BitVec.ofNat 32 (j 0).val)) (low (j 1).val (by omega))).trans (small _ _ (by omega) (by omega))
  have e2 : (256#32).sle (BitVec.ofNat 32 (j 0).val) = decide (256 ≤ (j 0).val) := by
    rw [BitVec.sle_eq_not_slt, small _ 256 (by omega) (by omega), ← decide_not]
    exact decide_eq_decide.mpr (by omega)
  refine (congrArg₂ (fun x y => BitVec.ofBool x ||| BitVec.ofBool y) e1 e2).trans ?_
  show _ = BitVec.ofBool (decide _)
  by_cases h1 : (j 1).val % 256 < (j 0).val <;> by_cases h2 : 256 ≤ (j 0).val <;> simp [h1, h2]
theorem maskB_eq : k0_pay291 = nb (fun r j => j % 256 < r) := by
  funext j
  have h0 : (j 0).val < 256 := (j 0).isLt
  have h1 : (j 1).val < 512 := (j 1).isLt
  show BitVec.ofBool ((iota .tc S256x512 32 [1] iota_S256x512_d1_w32 j &&& 255#32).slt (iota .tc S256x512 32 [0] iota_S256x512_d0_w32 j)) = _
  rw [iota_single_apply, iota_single_apply]
  exact congrArg BitVec.ofBool ((congrArg (fun x => BitVec.slt x _) (low _ (by omega))).trans (small _ _ (by omega) (by omega)))

/-! ## Sums -/

abbrev mk (c : ℕ) : ℝ := if c < 64 then 1 else 0
/-- Entry `j`, `c` of a stacked pair. -/
def stk (x : ℕ → ℕ → ℝ) (j c : ℕ) : ℝ := if j < 256 then x j c * mk c else x (j - 256) c - x (j - 256) c * mk c

theorem sum_lo (f : ℕ → ℝ) (h : ∀ k, f (64 + k) = 0) : ∑ k ∈ Finset.range 128, f k = ∑ k ∈ Finset.range 64, f k := by
  rw [show (128 : ℕ) = 64 + 64 from rfl, Finset.sum_range_add]
  simp [h]
theorem sum_hi (f : ℕ → ℝ) (h : ∀ k < 64, f k = 0) : ∑ k ∈ Finset.range 128, f k = ∑ k ∈ Finset.range 64, f (64 + k) := by
  rw [show (128 : ℕ) = 64 + 64 from rfl, Finset.sum_range_add, Finset.sum_eq_zero fun k hk => h k (Finset.mem_range.mp hk), zero_add]

theorem dot_stk (d : ℕ → ℝ) (x : ℕ → ℕ → ℝ) (j : ℕ) : ∑ k ∈ Finset.range 128, d k * stk x j k
    = if j < 256 then ∑ k ∈ Finset.range 64, d k * x j k else ∑ k ∈ Finset.range 64, d (64 + k) * x (j - 256) (64 + k) := by
  unfold stk
  split
  · rw [sum_lo]
    · exact Finset.sum_congr rfl fun k hk => by rw [mk, if_pos (Finset.mem_range.mp hk), mul_one]
    · intro k; rw [mk, if_neg (by omega), mul_zero, mul_zero]
  · rw [sum_hi]
    · exact Finset.sum_congr rfl fun k hk => by rw [mk, if_neg (by omega), mul_zero, sub_zero]
    · intro k hk; rw [mk, if_pos hk, mul_one, sub_self, mul_zero]

theorem sum_stk (z : ℕ → ℝ) (x : ℕ → ℕ → ℝ) (c : ℕ) : ∑ j ∈ Finset.range 512, z j * stk x j c
    = ∑ j ∈ Finset.range 256, (if c < 64 then z j else z (256 + j)) * x j c := by
  rw [show (512 : ℕ) = 256 + 256 from rfl, Finset.sum_range_add, ← Finset.sum_add_distrib]
  refine Finset.sum_congr rfl fun j hj => ?_
  unfold stk
  rw [if_pos (Finset.mem_range.mp hj), if_neg (by omega), Nat.add_sub_cancel_left, mk]
  split <;> ring

theorem sum_up (e : ℕ → ℝ) (j : ℕ) (hj : j < 256) : ∑ k ∈ Finset.range 256, e k * (if k < j then 1 else 0) = ∑ k ∈ Finset.range j, e k := by
  simp only [mul_ite, mul_one, mul_zero]
  rw [← Finset.sum_filter]
  refine Finset.sum_congr ?_ fun _ _ => rfl
  ext k
  simp only [Finset.mem_filter, Finset.mem_range]
  omega

/-! ## The functions of a tile on reals -/

theorem stackF_nm (x : ℕ → ℕ → ℝ) : stackF (nm (fun _ c => if c < 64 then 1 else 0)) (nm x : FVec Ideal S256x128 .bf16) = (nm (stk x) : FVec Ideal S512x128 .bf16) := by
  unfold stackF
  rw [shapeCast_self, mulf_nm, subf_nm]
  exact (concat_rows (p := 256) (q := 256) _ _ _ rfl).trans rfl

/-- Products of a block of rows with a stacked pair. -/
def dots (d x : ℕ → ℕ → ℝ) : ℕ → ℕ → ℝ := two (fun r j => ∑ k ∈ Finset.range 64, d r k * x j k) (fun r j => ∑ k ∈ Finset.range 64, d r (64 + k) * x j (64 + k))

theorem errF_nm (d x w : ℕ → ℕ → ℝ) : errF (nm d) (nm (stk x)) (nm w) = (nm (fun r j => dots d x r j * w r j) : FVec Ideal S512x512 .f32) := by
  unfold errF
  rw [matmul_nt_nm _ _ dot_S512x128_S512x128_S512x512_1_1_0_0_n_n rfl, extf_nm, mulf_nm]
  exact nm_congr fun r _ j _ => by rw [dot_stk]; rfl

theorem keepF_nm (s0 s1 : ℕ → ℕ → ℝ) : keepF (nm s0) (nm s1) = (nm (two (fun r _ => s0 r 0) (fun r _ => s1 r 0)) : FVec Ideal S512x512 .f32) := by
  unfold keepF
  rw [shapeCast_self, shapeCast_self, spread_nm, spread_nm]
  exact (concat_cols (p := 256) (q := 256) _ _ _ rfl).trans rfl

abbrev upM : ℕ → ℕ → ℝ := fun k j => if k < j then 1 else 0
/-- Sums over what comes before, in each half. -/
def pre2 (e : ℕ → ℕ → ℝ) : ℕ → ℕ → ℝ := two (fun r j => ∑ k ∈ Finset.range j, e r k) (fun r j => ∑ k ∈ Finset.range j, e r (256 + k))

theorem scanF_nm (e : ℕ → ℕ → ℝ) : scanF (nm upM) (nm e) = (nm (pre2 e) : FVec Ideal S512x512 .f32) := by
  unfold scanF
  rw [truncf_nm, slice_nm, slice_nm, matmul_nn_nm _ _ dot_S512x256_S256x256_S512x256_1_0_0_1_n_n rfl, matmul_nn_nm _ _ dot_S512x256_S256x256_S512x256_1_0_0_1_n_n rfl]
  refine (concat_cols (p := 256) (q := 256) _ _ _ rfl).trans (nm_congr fun r _ j hj => ?_)
  unfold pre2 two
  split
  · next h => simp only [Nat.zero_add]; exact sum_up _ _ h
  · next h => simp only [Nat.zero_add]; exact sum_up _ _ (by omega)

theorem sideF_nm (z q old : ℕ → ℕ → ℝ) : sideF (nb (fun _ c => c < 64)) (nm z) (nm q) (nm old : FVec Ideal S256x128 .f32)
    = (nm (fun j c => old j c + ∑ t ∈ Finset.range 512, (if c < 64 then z t j else z t (256 + j)) * q t c) : FVec Ideal S256x128 .f32) := by
  unfold sideF
  rw [shapeCast_self, matmul_tn_nm _ _ (by decide) dot_S512x512_S512x128_S512x128_0_0_1_1_n_n rfl, slice_nm, slice_nm, select_nm, addf_nm]
  exact nm_congr fun r _ c _ => by simp only [Nat.zero_add]; split <;> rfl

theorem sum0F_nm (s e : ℕ → ℕ → ℝ) : sum0F (nm s) (nm e) = (nm (fun r c => s r c + ∑ k ∈ Finset.range 256, e r k) : FVec Ideal S512x1 .f32) := by
  unfold sum0F
  rw [slice_nm]
  refine (congrArg (addf (nm s)) (rowSum_nm _ reduces_S512x256_S512 _ _ shapeCasts_S512_S512x1)).trans ?_
  rw [addf_nm]
  exact nm_congr fun r _ c _ => by simp only [Nat.zero_add]
theorem sum1F_nm (s e : ℕ → ℕ → ℝ) : sum1F (nm s) (nm e) = (nm (fun r c => s r c + ∑ k ∈ Finset.range 256, e r (256 + k)) : FVec Ideal S512x1 .f32) := by
  unfold sum1F
  rw [slice_nm]
  refine (congrArg (addf (nm s)) (rowSum_nm _ reduces_S512x256_S512 _ _ shapeCasts_S512_S512x1)).trans ?_
  rw [addf_nm]
  exact nm_congr fun r _ c _ => by simp only [Nat.zero_add]

theorem querF_nm (a z x : ℕ → ℕ → ℝ) : querF (nm a) (nm z) (nm (stk x))
    = (nm (fun r c => a r c + ∑ j ∈ Finset.range 256, (if c < 64 then z r j else z r (256 + j)) * x j c) : FVec Ideal S512x128 .f32) := by
  unfold querF
  rw [matmul_nn_nm _ _ dot_S512x512_S512x128_S512x128_1_0_0_1_n_n rfl, addf_nm]
  exact nm_congr fun r _ c _ => by rw [sum_stk]

/-! ## One tile of a grid point -/

/-- A grid point's data: its first row's number in the batch, queries and output cotangents by local row and column, keys and values by row of the batch and column,
    weights and log-complements by head, local row and key. -/
structure Dt where
  t : ℕ
  Q : ℕ → ℕ → ℝ
  G : ℕ → ℕ → ℝ
  K : ℕ → ℕ → ℝ
  V : ℕ → ℕ → ℝ
  W : ℕ → ℕ → ℕ → ℝ
  O : ℕ → ℕ → ℕ → ℝ

namespace Dt
variable (A : Dt)
/-- The weights' cotangent times the weight. -/
def E (h r s : ℕ) : ℝ := (∑ c ∈ Finset.range 64, A.G r (64 * h + c) * A.V s (64 * h + c)) * A.W h r s
/-- Its sum over the keys before. -/
def D (h r s : ℕ) : ℝ := ∑ k ∈ Finset.range s, A.E h r k
/-- The cotangent of the scores, no key masked. -/
def C (h r s : ℕ) : ℝ := (A.E h r s + A.D h r s) * Real.exp (A.O h r s) - A.D h r s

/-- The cotangent of the scores. -/
def Z (h r s : ℕ) : ℝ := if s < A.t + r then A.C h r s else 0

theorem D_add (h r s j : ℕ) : A.D h r (s + j) = A.D h r s + ∑ k ∈ Finset.range j, A.E h r (s + k) := Finset.sum_range_add _ _ _
/-- The query-side gradient from the first `n` blocks of 256 keys, unscaled. -/
def acc (n r c : ℕ) : ℝ := ∑ s ∈ Finset.range (256 * n), A.Z (c / 64) r s * A.K s c
/-- The key-side gradients of the point's rows. -/
def kr (s c : ℕ) : ℝ := ∑ t ∈ Finset.range 512, A.Z (c / 64) t s * A.Q t c
def vr (s c : ℕ) : ℝ := ∑ t ∈ Finset.range 512, A.W (c / 64) t s * A.G t c
/-- `x` with the first `n` blocks of keys' gradients added. -/
def upto (g x : ℕ → ℕ → ℝ) (n s c : ℕ) : ℝ := x s c + if s < 256 * n then g s c else 0

theorem acc_succ (n r c : ℕ) : A.acc (n + 1) r c = A.acc n r c + ∑ j ∈ Finset.range 256, A.Z (c / 64) r (256 * n + j) * A.K (256 * n + j) c :=
  Finset.sum_range_add (fun s => A.Z (c / 64) r s * A.K s c) (256 * n) 256
theorem acc_zero (r c : ℕ) : A.acc 0 r c = 0 := rfl
end Dt

/-- Both heads of pair `p`, their keys from `σ` on, their rows from `ρ` on. -/
def pairOf (f : ℕ → ℕ → ℕ → ℝ) (p ρ σ : ℕ) : ℕ → ℕ → ℝ := two (fun r j => f (2 * p) (ρ + r) (σ + j)) (fun r j => f (2 * p + 1) (ρ + r) (σ + j))

/-- The tile `T` holds pair `p` of the data, with keys from `σ` on. -/
structure IsTile (A : Dt) (p σ : ℕ) (T : Tile Ideal) : Prop where
  q : T.q = (nm (fun r c => A.Q r (128 * p + c)) : FVec Ideal S512x128 .bf16)
  d : T.d = (nm (fun r c => A.G r (128 * p + c)) : FVec Ideal S512x128 .bf16)
  k : T.k = (nm (fun r c => A.K (σ + r) (128 * p + c)) : FVec Ideal S256x128 .bf16)
  v : T.v = (nm (fun r c => A.V (σ + r) (128 * p + c)) : FVec Ideal S256x128 .bf16)
  w : shapeCast S512x512 T.w shapeCasts_S1x1x512x512_S512x512 = (nm (pairOf A.W p 0 σ) : FVec Ideal S512x512 .bf16)
  o : shapeCast S512x512 T.o shapeCasts_S1x1x512x512_S512x512 = (nm (pairOf A.O p 0 σ) : FVec Ideal S512x512 .bf16)

structure IsHalf (A : Dt) (p σ : ℕ) (T : Half Ideal) : Prop where
  q : T.q = (nm (fun r c => A.Q (256 + r) (128 * p + c)) : FVec Ideal S256x128 .bf16)
  d : T.d = (nm (fun r c => A.G (256 + r) (128 * p + c)) : FVec Ideal S256x128 .bf16)
  k : T.k = (nm (fun r c => A.K (σ + r) (128 * p + c)) : FVec Ideal S256x128 .bf16)
  v : T.v = (nm (fun r c => A.V (σ + r) (128 * p + c)) : FVec Ideal S256x128 .bf16)
  w : shapeCast S256x512 T.w shapeCasts_S1x1x256x512_S256x512 = (nm (pairOf A.W p 256 σ) : FVec Ideal S256x512 .bf16)
  o : shapeCast S256x512 T.o shapeCasts_S1x1x256x512_S256x512 = (nm (pairOf A.O p 256 σ) : FVec Ideal S256x512 .bf16)

/-- The trio carried for pair `p` before keys `σ`, with query-side gradient `acc`. -/
structure IsTrio (A : Dt) (p σ : ℕ) (acc : ℕ → ℕ → ℝ) (x : Trio Ideal) : Prop where
  s0 : x.1 = nm fun r _ => A.D (2 * p) r σ
  s1 : x.2.1 = nm fun r _ => A.D (2 * p + 1) r σ
  a : x.2.2 = nm fun r c => acc r (128 * p + c)

abbrev v9r : FVec Ideal S256x128 .bf16 := nm (fun _ c => if c < 64 then 1 else 0)
abbrev v17r : IVec S256x128 1 := nb (fun _ c => c < 64)
abbrev v19r : FVec Ideal S256x256 .bf16 := nm upM

section
variable {A : Dt} {p σ : ℕ} {acc : ℕ → ℕ → ℝ}

theorem E_eq (r j : ℕ) (ρ : ℕ) : dots (fun r c => A.G (ρ + r) (128 * p + c)) (fun r c => A.V (σ + r) (128 * p + c)) r j * pairOf A.W p ρ σ r j
    = pairOf A.E p ρ σ r j := by
  unfold dots pairOf two Dt.E
  have e : ∀ c, 64 * (2 * p) + c = 128 * p + c := fun c => by omega
  have e' : ∀ c, 64 * (2 * p + 1) + c = 128 * p + (64 + c) := fun c => by omega
  split <;> simp only [e, e']

theorem pairOf_lo (f : ℕ → ℕ → ℕ → ℝ) {ρ r j : ℕ} (h : j < 256) : pairOf f p ρ σ r j = f (2 * p) (ρ + r) (σ + j) := if_pos h
theorem pairOf_hi (f : ℕ → ℕ → ℕ → ℝ) {ρ r j : ℕ} (h : ¬ j < 256) : pairOf f p ρ σ r j = f (2 * p + 1) (ρ + r) (σ + (j - 256)) := if_neg h
theorem pick (f : ℕ → ℕ → ℕ → ℝ) {ρ r j c : ℕ} (hj : j < 256) (hc : c < 128) :
    (if c < 64 then pairOf f p ρ σ r j else pairOf f p ρ σ r (256 + j)) = f ((128 * p + c) / 64) (ρ + r) (σ + j) := by
  rw [pairOf_lo _ hj, pairOf_hi _ (by omega), Nat.add_sub_cancel_left]
  split
  · next h => rw [show (128 * p + c) / 64 = 2 * p by omega]
  · next h => rw [show (128 * p + c) / 64 = 2 * p + 1 by omega]

theorem D_eq (r j ρ : ℕ) : two (fun r _ => A.D (2 * p) (ρ + r) σ) (fun r _ => A.D (2 * p + 1) (ρ + r) σ) r j + pre2 (pairOf A.E p ρ σ) r j
    = pairOf A.D p ρ σ r j := by
  unfold pairOf pre2 two
  beta_reduce
  split
  · next h =>
    rw [Dt.D_add]
    congr 1
    refine Finset.sum_congr rfl fun k hk => ?_
    rw [if_pos (by have := Finset.mem_range.mp hk; omega)]
  · next h =>
    rw [Dt.D_add]
    congr 1
    refine Finset.sum_congr rfl fun k hk => ?_
    rw [if_neg (by omega), Nat.add_sub_cancel_left]

theorem tE_nm {T : Tile Ideal} (h : IsTile A p σ T) : tE v9r T = nm (pairOf A.E p 0 σ) := by
  unfold tE
  rw [shapeCast_self, h.d, h.v, h.w, stackF_nm, errF_nm]
  refine nm_congr fun r _ j _ => ?_
  rw [← E_eq]
  simp only [Nat.zero_add]
theorem tD_nm {T : Tile Ideal} {x : Trio Ideal} (h : IsTile A p σ T) (hx : IsTrio A p σ acc x) : tD v9r v19r T x = nm (pairOf A.D p 0 σ) := by
  unfold tD
  rw [tE_nm h, hx.s0, hx.s1, keepF_nm, scanF_nm, addf_nm]
  refine nm_congr fun r _ j _ => ?_
  rw [← D_eq]
  simp only [Nat.zero_add]
theorem tC_nm {T : Tile Ideal} {x : Trio Ideal} (h : IsTile A p σ T) (hx : IsTrio A p σ acc x) : tC v9r v19r T x = nm (pairOf A.C p 0 σ) := by
  unfold tC cotF
  rw [tE_nm h, tD_nm h hx, h.o, extf_nm, exp_nm, addf_nm, mulf_nm, subf_nm]
  refine nm_congr fun r _ j _ => ?_
  unfold pairOf two Dt.C
  beta_reduce
  split <;> rfl

theorem tZ_nm {T : Tile Ideal} {x : Trio Ideal} (h : IsTile A p σ T) (hx : IsTrio A p σ acc x) (hσ : σ + 256 ≤ A.t) : tZ v9r v19r T x = nm (pairOf A.Z p 0 σ) := by
  unfold tZ
  rw [tC_nm h hx, truncf_nm]
  refine nm_congr fun r _ j _ => ?_
  unfold pairOf two Dt.Z
  beta_reduce
  split
  · rw [if_pos (by omega)]
  · rw [if_pos (by omega)]
theorem zA_nm {T : Tile Ideal} {x : Trio Ideal} (h : IsTile A p σ T) (hx : IsTrio A p σ acc x) (hσ : σ = A.t) : tZm v9r v19r k0_pay236 T x = nm (pairOf A.Z p 0 σ) := by
  unfold tZm
  rw [tC_nm h hx, maskA_eq, zero_nm, select_nm, truncf_nm]
  refine nm_congr fun r _ j _ => ?_
  by_cases h : j < 256
  · rw [pairOf_lo _ h, pairOf_lo _ h]
    exact if_congr (by omega) rfl rfl
  · rw [pairOf_hi _ h, pairOf_hi _ h]
    exact if_congr (by omega) rfl rfl

theorem next_nm {T : Tile Ideal} {x : Trio Ideal} {z : FVec Ideal S512x512 .bf16} (h : IsTile A p σ T) (hx : IsTrio A p σ acc x) (hz : z = nm (pairOf A.Z p 0 σ)) :
    IsTrio A p (σ + 256) (fun r c => acc r c + ∑ j ∈ Finset.range 256, A.Z (c / 64) r (σ + j) * A.K (σ + j) c) (tNext v9r z T x) where
  s0 := by
    unfold tNext; dsimp only
    rw [tE_nm h, hx.s0, sum0F_nm]
    refine nm_congr fun r _ j _ => ?_
    rw [Dt.D_add]
    congr 1
    refine Finset.sum_congr rfl fun k hk => ?_
    unfold pairOf two
    beta_reduce
    rw [if_pos (Finset.mem_range.mp hk), Nat.zero_add]
  s1 := by
    unfold tNext; dsimp only
    rw [tE_nm h, hx.s1, sum1F_nm]
    refine nm_congr fun r _ j _ => ?_
    rw [Dt.D_add]
    congr 1
    refine Finset.sum_congr rfl fun k hk => ?_
    unfold pairOf two
    beta_reduce
    rw [if_neg (by omega), Nat.zero_add, Nat.add_sub_cancel_left]
  a := by
    unfold tNext; dsimp only
    rw [hz, hx.a, h.k, stackF_nm, querF_nm]
    refine nm_congr fun r _ c hc => ?_
    congr 1
    refine Finset.sum_congr rfl fun k hk => ?_
    rw [pick A.Z (Finset.mem_range.mp hk) hc, Nat.zero_add]

theorem next_acc {T : Tile Ideal} {x : Trio Ideal} {z : FVec Ideal S512x512 .bf16} {n : ℕ} (h : IsTile A p (256 * n) T) (hx : IsTrio A p (256 * n) (A.acc n) x)
    (hz : z = nm (pairOf A.Z p 0 (256 * n))) : IsTrio A p (256 * (n + 1)) (A.acc (n + 1)) (tNext v9r z T x) := by
  have e : A.acc (n + 1) = fun r c => A.acc n r c + ∑ j ∈ Finset.range 256, A.Z (c / 64) r (256 * n + j) * A.K (256 * n + j) c :=
    funext fun r => funext fun c => A.acc_succ n r c
  rw [e]
  exact next_nm h hx hz

theorem side_pair (f : ℕ → ℕ → ℕ → ℝ) (q old : ℕ → ℕ → ℝ) : sideF v17r (nm (pairOf f p 0 σ)) (nm fun r c => q r (128 * p + c)) (nm old : FVec Ideal S256x128 .f32)
    = (nm (fun j c => old j c + ∑ t ∈ Finset.range 512, f ((128 * p + c) / 64) t (σ + j) * q t (128 * p + c)) : FVec Ideal S256x128 .f32) := by
  rw [sideF_nm]
  refine nm_congr fun j hj c hc => ?_
  congr 1
  refine Finset.sum_congr rfl fun k hk => ?_
  rw [pick f hj hc, Nat.zero_add]

theorem tK_nm {T : Tile Ideal} {z : FVec Ideal S512x512 .bf16} {old : Vec Ideal S256x128 .f32} {o : ℕ → ℕ → ℝ} (h : IsTile A p σ T) (hz : z = nm (pairOf A.Z p 0 σ))
    (ho : old = (nm o : FVec Ideal S256x128 .f32)) :
    tK v17r z T old = nm fun j c => o j c + ∑ t ∈ Finset.range 512, A.Z ((128 * p + c) / 64) t (σ + j) * A.Q t (128 * p + c) := by
  unfold tK
  rw [shapeCast_self, h.q, hz, ho, side_pair]
theorem tV_nm {T : Tile Ideal} {old : Vec Ideal S256x128 .f32} {o : ℕ → ℕ → ℝ} (h : IsTile A p σ T) (ho : old = (nm o : FVec Ideal S256x128 .f32)) :
    tV v17r T old = nm fun j c => o j c + ∑ t ∈ Finset.range 512, A.W ((128 * p + c) / 64) t (σ + j) * A.G t (128 * p + c) := by
  unfold tV
  rw [shapeCast_self, h.d, h.w, ho, side_pair]

/-! The last tile's lower rows. -/

theorem hE_nm {T : Half Ideal} (h : IsHalf A p σ T) : hE v9r T = nm (pairOf A.E p 256 σ) := by
  unfold hE
  rw [shapeCast_self, h.d, h.v, h.w, stackF_nm, matmul_nt_nm _ _ dot_S256x128_S512x128_S256x512_1_1_0_0_n_n rfl, extf_nm, mulf_nm]
  refine nm_congr fun r _ j _ => ?_
  rw [← E_eq, dot_stk]
  rfl
theorem hD_nm {T : Half Ideal} {x : Trio Ideal} (h : IsHalf A p σ T) (hx : IsTrio A p σ acc x) : hD v9r v19r T x = nm (pairOf A.D p 256 σ) := by
  unfold hD
  rw [hE_nm h, hx.s0, hx.s1, slice_nm, slice_nm, shapeCast_self, shapeCast_self, spread_nm, spread_nm, truncf_nm, slice_nm, slice_nm,
    matmul_nn_nm _ _ dot_S256x256_S256x256_S256x256_1_0_0_1_n_n rfl, matmul_nn_nm _ _ dot_S256x256_S256x256_S256x256_1_0_0_1_n_n rfl]
  refine (congrArg₂ addf (concat_cols (p := 256) (q := 256) _ _ _ rfl) (concat_cols (p := 256) (q := 256) _ _ _ rfl)).trans ?_
  rw [addf_nm]
  refine nm_congr fun r _ j hj => ?_
  rw [← D_eq]
  unfold pre2 two
  beta_reduce
  split
  · next h => simp only [Nat.zero_add]; rw [sum_up _ _ h]
  · next h => simp only [Nat.zero_add]; rw [sum_up _ _ (by omega)]
theorem zB_nm {T : Half Ideal} {x : Trio Ideal} (h : IsHalf A p σ T) (hx : IsTrio A p σ acc x) (hσ : σ = A.t + 256) : hZ v9r v19r k0_pay291 T x = nm (pairOf A.Z p 256 σ) := by
  unfold hZ
  rw [hE_nm h, hD_nm h hx, h.o, extf_nm, exp_nm, addf_nm, mulf_nm, subf_nm, maskB_eq, zero_nm, select_nm, truncf_nm]
  refine nm_congr fun r _ j _ => ?_
  by_cases h : j < 256
  · rw [pairOf_lo _ h, pairOf_lo _ h, pairOf_lo _ h, pairOf_lo _ h]
    exact if_congr (by omega) rfl rfl
  · rw [pairOf_hi _ h, pairOf_hi _ h, pairOf_hi _ h, pairOf_hi _ h]
    exact if_congr (by omega) rfl rfl

theorem hSide_pair (f : ℕ → ℕ → ℕ → ℝ) (q old : ℕ → ℕ → ℝ) : hSide v17r (nm (pairOf f p 256 σ)) (nm fun r c => q (256 + r) (128 * p + c)) (nm old : FVec Ideal S256x128 .f32)
    = (nm (fun j c => old j c + ∑ t ∈ Finset.range 256, f ((128 * p + c) / 64) (256 + t) (σ + j) * q (256 + t) (128 * p + c)) : FVec Ideal S256x128 .f32) := by
  unfold hSide
  rw [shapeCast_self, matmul_tn_nm _ _ (by decide) dot_S256x512_S256x128_S512x128_0_0_1_1_n_n rfl, slice_nm, slice_nm, select_nm, addf_nm]
  refine nm_congr fun j hj c hc => ?_
  congr 1
  simp only [Nat.zero_add]
  rw [show (∑ t ∈ Finset.range 256, f ((128 * p + c) / 64) (256 + t) (σ + j) * q (256 + t) (128 * p + c))
      = ∑ t ∈ Finset.range 256, (if c < 64 then pairOf f p 256 σ t j else pairOf f p 256 σ t (256 + j)) * q (256 + t) (128 * p + c)
    from Finset.sum_congr rfl fun k hk => by rw [pick f hj hc]]
  split <;> rfl

theorem hK_nm {T : Half Ideal} {z : FVec Ideal S256x512 .bf16} {old : Vec Ideal S256x128 .f32} {o : ℕ → ℕ → ℝ} (h : IsHalf A p σ T) (hz : z = nm (pairOf A.Z p 256 σ))
    (ho : old = (nm o : FVec Ideal S256x128 .f32)) :
    hK v17r z T old = nm fun j c => o j c + ∑ t ∈ Finset.range 256, A.Z ((128 * p + c) / 64) (256 + t) (σ + j) * A.Q (256 + t) (128 * p + c) := by
  unfold hK
  rw [shapeCast_self, h.q, hz, ho, hSide_pair]
theorem hV_nm {T : Half Ideal} {old : Vec Ideal S256x128 .f32} {o : ℕ → ℕ → ℝ} (h : IsHalf A p σ T) (ho : old = (nm o : FVec Ideal S256x128 .f32)) :
    hV v17r T old = nm fun j c => o j c + ∑ t ∈ Finset.range 256, A.W ((128 * p + c) / 64) (256 + t) (σ + j) * A.G (256 + t) (128 * p + c) := by
  unfold hV
  rw [shapeCast_self, h.d, h.w, ho, hSide_pair]

theorem hDone_nm {T : Half Ideal} {z : FVec Ideal S256x512 .bf16} {a : FVec Ideal S512x128 .f32} (h : IsHalf A p σ T) (hz : z = nm (pairOf A.Z p 256 σ))
    (ha : a = nm fun r c => acc r (128 * p + c)) :
    hDone v9r z T a = nm fun r c => (acc r (128 * p + c)
      + if r < 256 then 0 else ∑ j ∈ Finset.range 256, A.Z ((128 * p + c) / 64) r (σ + j) * A.K (σ + j) (128 * p + c)) * (1 / 8) := by
  unfold hDone
  rw [h.k, hz, ha, stackF_nm, zero_nm, matmul_nn_nm _ _ dot_S256x512_S512x128_S256x128_1_0_0_1_n_n rfl, splat_nm _ _ eighth_eq]
  refine (congrArg (fun x => mulf (addf _ x) _) (concat_rows (p := 256) (q := 256) _ _ _ rfl)).trans ?_
  rw [addf_nm, mulf_nm]
  refine nm_congr fun r _ c hc => ?_
  congr 2
  by_cases hr : r < 256
  · rw [if_pos hr, if_pos hr]
  · rw [if_neg hr, if_neg hr, sum_stk]
    refine Finset.sum_congr rfl fun k hk => ?_
    rw [pick A.Z (Finset.mem_range.mp hk) hc, show 256 + (r - 256) = r by omega]

end

end Cert.SbBwdIdeal.Val
end
-- ==== Proof.SwaBwd.Tile.lean ====
/-
  The sliding-window backward call over real numbers: what a block computes where its arrays hold reals.
-/
module

public import proofs.«01_k».proof.Proof.SwaBwd.Blk
public import proofs.«01_k».proof.Proof.SbBwd.Real

@[expose] public section

set_option maxRecDepth 16384

noncomputable section

namespace Cert.SwaBwd

open Finset (range)
open scoped BigOperators

/-! ## A row of probabilities with a sink -/

section row
variable (M : ℕ → Prop) [DecidablePred M] (s p : ℕ → ℝ) (z : ℝ)

def wt (c : ℕ) : ℝ := if M c then Real.exp (s c) else 0
def den : ℝ := ∑ c ∈ range 256, wt M s c + Real.exp z
def prb (c : ℕ) : ℝ := wt M s c / den M s z
def psk : ℝ := Real.exp z / den M s z
def del : ℝ := ∑ c ∈ range 256, prb M s z c * p c
def dsc (c : ℕ) : ℝ := prb M s z c * (p c - del M s p z)

theorem wt_nonneg (c : ℕ) : 0 ≤ wt M s c := by unfold wt; split <;> positivity
theorem den_pos : 0 < den M s z := add_pos_of_nonneg_of_pos (Finset.sum_nonneg fun c _ => wt_nonneg M s c) (Real.exp_pos z)

theorem wt_shift (μ : ℝ) (c : ℕ) : (if M c then Real.exp (s c - μ) else 0) = wt M s c * Real.exp (-μ) := by
  unfold wt; split
  · rw [sub_eq_add_neg, Real.exp_add]
  · rw [zero_mul]
theorem den_shift (μ : ℝ) : (∑ c ∈ range 256, (if M c then Real.exp (s c - μ) else 0)) + Real.exp (z - μ) = den M s z * Real.exp (-μ) := by
  simp only [wt_shift]
  rw [← Finset.sum_mul, sub_eq_add_neg, Real.exp_add, ← add_mul]; rfl
theorem prb_shift (μ : ℝ) (c : ℕ) : (if M c then Real.exp (s c - μ) else 0) * (1 / ((∑ c ∈ range 256, (if M c then Real.exp (s c - μ) else 0)) + Real.exp (z - μ))) = prb M s z c := by
  rw [den_shift, wt_shift, prb]
  have := (den_pos M s z).ne'
  have := (Real.exp_pos (-μ)).ne'
  field_simp
theorem psk_shift (μ : ℝ) : Real.exp (z - μ) * (1 / ((∑ c ∈ range 256, (if M c then Real.exp (s c - μ) else 0)) + Real.exp (z - μ))) = psk M s z := by
  rw [den_shift, sub_eq_add_neg, Real.exp_add, psk]
  have := (den_pos M s z).ne'
  have := (Real.exp_pos (-μ)).ne'
  field_simp

theorem wt_congr {M' : ℕ → Prop} [DecidablePred M'] {s' : ℕ → ℝ} (hM : ∀ c < 256, (M c ↔ M' c)) (hs : ∀ c < 256, M c → s c = s' c) (c : ℕ) (hc : c < 256) : wt M s c = wt M' s' c := by
  unfold wt
  by_cases h : M c
  · rw [if_pos h, if_pos ((hM c hc).mp h), hs c hc h]
  · rw [if_neg h, if_neg fun h' => h ((hM c hc).mpr h')]
theorem den_congr {M' : ℕ → Prop} [DecidablePred M'] {s' : ℕ → ℝ} (hM : ∀ c < 256, (M c ↔ M' c)) (hs : ∀ c < 256, M c → s c = s' c) : den M s z = den M' s' z :=
  congrArg (· + Real.exp z) (Finset.sum_congr rfl fun c hc => wt_congr M s hM hs c (Finset.mem_range.mp hc))
theorem prb_off (c : ℕ) (h : ¬ M c) : prb M s z c = 0 := by rw [prb, wt, if_neg h, zero_div]
theorem dsc_off (c : ℕ) (h : ¬ M c) : dsc M s p z c = 0 := by rw [dsc, prb_off M s z c h, zero_mul]
theorem prb_congr {M' : ℕ → Prop} [DecidablePred M'] {s' : ℕ → ℝ} (hM : ∀ c < 256, (M c ↔ M' c)) (hs : ∀ c < 256, M c → s c = s' c) (c : ℕ) (hc : c < 256) : prb M s z c = prb M' s' z c := by
  rw [prb, prb, wt_congr M s hM hs c hc, den_congr M s z hM hs]
theorem del_congr {M' : ℕ → Prop} [DecidablePred M'] {s' p' : ℕ → ℝ} (hM : ∀ c < 256, (M c ↔ M' c)) (hs : ∀ c < 256, M c → s c = s' c) (hp : ∀ c < 256, M c → p c = p' c) :
    del M s p z = del M' s' p' z := by
  refine Finset.sum_congr rfl fun c hc => ?_
  have hc := Finset.mem_range.mp hc
  by_cases h : M c
  · rw [prb_congr M s z hM hs c hc, hp c hc h]
  · rw [prb_off M s z c h, prb_off M' s' z c fun h' => h ((hM c hc).mpr h'), zero_mul, zero_mul]
theorem dsc_congr {M' : ℕ → Prop} [DecidablePred M'] {s' p' : ℕ → ℝ} (hM : ∀ c < 256, (M c ↔ M' c)) (hs : ∀ c < 256, M c → s c = s' c) (hp : ∀ c < 256, M c → p c = p' c) (c : ℕ) (hc : c < 256) :
    dsc M s p z c = dsc M' s' p' z c := by
  by_cases h : M c
  · rw [dsc, dsc, prb_congr M s z hM hs c hc, hp c hc h, del_congr M s p z hM hs hp]
  · rw [dsc_off M s p z c h, dsc_off M' s' p' z c fun h' => h ((hM c hc).mpr h')]
end row

/-- The window: the block's own keys up to the row and those of the block before after it; the first block has none before. -/
abbrev win (n r c : ℕ) : Prop := r < c ∧ c ≤ r + 128 ∧ 128 ≤ 128 * n + c

/-- A block's real arrays: two heads side by side, two pairs of heads stacked. -/
structure Sp where
  n : ℕ
  K : ℕ → ℕ → ℝ
  V : ℕ → ℕ → ℝ
  Q : ℕ → ℕ → ℝ
  D : ℕ → ℕ → ℝ
  Z : ℕ → ℕ → ℝ

namespace Sp
variable (S : Sp) (h r c : ℕ)
def sc : ℝ := ∑ d ∈ range 64, S.Q r (64 * h + d) * S.K c (64 * h + d)
def dp : ℝ := ∑ d ∈ range 64, S.D r (64 * h + d) * S.V c (64 * h + d)
def z : ℝ := if r < 128 then S.Z h 0 else S.Z h 1
def pr : ℝ := prb (win S.n (r % 128)) (S.sc h r) (S.z h r) c
def ps : ℝ := psk (win S.n (r % 128)) (S.sc h r) (S.z h r)
def dl : ℝ := del (win S.n (r % 128)) (S.sc h r) (S.dp h r) (S.z h r)
def ds : ℝ := dsc (win S.n (r % 128)) (S.sc h r) (S.dp h r) (S.z h r) c
end Sp

end Cert.SwaBwd

namespace Cert.SwaBwdIdeal.Run

open Cert.SwaBwdIdeal Cert.SwaBwdIdeal.Gen Cert.Lift Cert.SwaBwd
open Cert.SbBwdIdeal.Val (small low half_eq eighth_eq stk dot_stk sum_stk two)
open Idealize.ShloMosaic Idealize.ShloMosaic.ValueIdx
open Finset (range)
open scoped BigOperators

/-! ## The masks -/

theorem lanes256 : (k0_pay9 : FVec Ideal S256x128 .bf16) = nm (fun _ c => if c < 64 then 1 else 0) := by
  unfold k0_pay9
  dsimp only
  rw [show cmpi .slt (iota .tc S256x128 32 [1] iota_S256x128_d1_w32) (broadcast S256x128 64#32) = nb (fun _ c => c < 64) from Cert.SbBwdIdeal.Val.first_eq,
    splat_nm _ 1 Ideal.ofBits_one_f32, zero_nm, select_nm]
  rfl

theorem lanes128 : k0_pay10 (F := Ideal) = nb (fun _ c => c < 64) := by
  have e : cmpi .slt (iota .tc S128x128 32 [1] iota_S128x128_d1_w32) (broadcast S128x128 64#32) = nb (fun _ c => c < 64) := by
    funext j
    have h : (j 1).val < 128 := (j 1).isLt
    show BitVec.ofBool ((iota .tc S128x128 32 [1] iota_S128x128_d1_w32 j).slt 64#32) = _
    rw [iota_single_apply]
    exact congrArg BitVec.ofBool (small _ _ (by omega) (by omega))
  unfold k0_pay10
  dsimp only
  rw [e, splat_nm _ 1 Ideal.ofBits_one_f32, zero_nm, select_nm]
  funext j
  show BitVec.ofBool (decide (Ideal.ofBits .f32 0x3F000000#32 < (((if (j 1).val < 64 then 1 else 0 : ℝ)) : EReal))) = _
  rw [half_eq]
  refine congrArg BitVec.ofBool (decide_eq_decide.mpr ?_)
  rw [EReal.coe_lt_coe_iff]
  split
  · next h => exact ⟨fun _ => h, fun _ => by norm_num⟩
  · next h => exact ⟨fun h' => absurd h' (by norm_num), fun h' => absurd h' h⟩

theorem rows256 : k0_pay17 = nb (fun r _ => r < 128) := by
  funext j
  have h : (j 0).val < 256 := (j 0).isLt
  show BitVec.ofBool ((iota .tc S256x1 32 [0] iota_S256x1_d0_w32 j).slt 128#32) = _
  rw [iota_single_apply]
  exact congrArg BitVec.ofBool (small _ _ (by omega) (by omega))

theorem low7 (n : ℕ) (hn : n < 2 ^ 31) : BitVec.ofNat 32 n &&& 127#32 = BitVec.ofNat 32 (n % 128) := by
  apply BitVec.eq_of_toNat_eq
  rw [BitVec.toNat_and, BitVec.toNat_ofNat, BitVec.toNat_ofNat, BitVec.toNat_ofNat, Nat.mod_eq_of_lt (by omega : n < 2 ^ 32), Nat.mod_eq_of_lt (by omega : 127 < 2 ^ 32),
    Nat.mod_eq_of_lt (by omega : n % 128 < 2 ^ 32)]
  exact Nat.and_two_pow_sub_one_eq_mod n 7

theorem sle_small (n k : ℕ) (hn : n < 2 ^ 31) (hk : k < 2 ^ 31) : (BitVec.ofNat 32 n).sle (BitVec.ofNat 32 k) = decide (n ≤ k) := by
  rw [BitVec.sle_eq_not_slt, small _ _ hk hn, ← decide_not]
  exact decide_eq_decide.mpr (by omega)

theorem and_bits (a b : Prop) [Decidable a] [Decidable b] : BitVec.ofBool (decide a) &&& BitVec.ofBool (decide b) = BitVec.ofBool (decide (a ∧ b)) := by
  by_cases ha : a <;> by_cases hb : b <;> simp [ha, hb]
theorem or_bits (a b : Prop) [Decidable a] [Decidable b] : BitVec.ofBool (decide a) ||| BitVec.ofBool (decide b) = BitVec.ofBool (decide (a ∨ b)) := by
  by_cases ha : a <;> by_cases hb : b <;> simp [ha, hb]

theorem mask_later (n : ℕ) (hn : 1 ≤ n) : k0_pay57 = nb (fun r c => win n (r % 128) c) := by
  funext j
  have h0 : (j 0).val < 256 := (j 0).isLt
  have h1 : (j 1).val < 256 := (j 1).isLt
  show BitVec.ofBool ((iota .tc S256x256 32 [0] iota_S256x256_d0_w32 j &&& 127#32).slt (iota .tc S256x256 32 [1] iota_S256x256_d1_w32 j))
    &&& BitVec.ofBool ((iota .tc S256x256 32 [1] iota_S256x256_d1_w32 j).sle ((iota .tc S256x256 32 [0] iota_S256x256_d0_w32 j &&& 127#32) + 128#32)) = BitVec.ofBool (decide _)
  rw [iota_single_apply, iota_single_apply]
  have e := low7 (j 0).val (by omega)
  have e1 := (congrArg (fun x => BitVec.slt x (BitVec.ofNat 32 (j 1).val)) e).trans (small _ _ (by omega) (by omega))
  have e2 := (congrArg (fun x => BitVec.sle (BitVec.ofNat 32 (j 1).val) (x + 128#32)) e).trans
    ((congrArg (BitVec.sle _) (BitVec.ofNat_add _ 128).symm).trans (sle_small _ _ (by omega) (by omega)))
  refine (congrArg₂ (fun x y => BitVec.ofBool x &&& BitVec.ofBool y) e1 e2).trans ?_
  rw [and_bits]
  exact congrArg BitVec.ofBool (decide_eq_decide.mpr (by unfold win; omega))

theorem mask_first (i : ℕ) (hi : i < 5) : k0_pay11 (BitVec.ofNat 32 i) = nb (fun r c => win (4 * i) (r % 128) c) := by
  funext j
  have h0 : (j 0).val < 256 := (j 0).isLt
  have h1 : (j 1).val < 256 := (j 1).isLt
  show (k0_pay57 j) &&& (BitVec.ofBool ((128#32).sle (iota .tc S256x256 32 [1] iota_S256x256_d1_w32 j)) ||| BitVec.ofBool ((0#32).slt (BitVec.ofNat 32 i))) = BitVec.ofBool (decide _)
  rw [iota_single_apply, mask_later 1 le_rfl]
  have e1 : (128#32).sle (BitVec.ofNat 32 (j 1).val) = decide (128 ≤ (j 1).val) := sle_small 128 _ (by omega) (by omega)
  have e2 : (0#32).slt (BitVec.ofNat 32 i) = decide (0 < i) := small 0 i (by omega) (by omega)
  refine (congrArg₂ (fun x y => _ &&& (BitVec.ofBool x ||| BitVec.ofBool y)) e1 e2).trans ?_
  show BitVec.ofBool (decide (win 1 ((j 0).val % 128) (j 1).val)) &&& _ = _
  rw [or_bits, and_bits]
  exact congrArg BitVec.ofBool (decide_eq_decide.mpr (by unfold win; omega))

/-! ## The block -/

/-- The block's arrays hold the reals `S`. -/
structure Holds (B : Blk Ideal) (S : Sp) : Prop where
  m : B.msk = nb fun r c => win S.n (r % 128) c
  kp : B.kp = nm (φ := .bf16) S.K
  km : B.km = nm (φ := .bf16) fun r => S.K (128 + r)
  vp : B.vp = nm (φ := .bf16) S.V
  vm : B.vm = nm (φ := .bf16) fun r => S.V (128 + r)
  q0 : B.q0 = nm (φ := .bf16) S.Q
  q1 : B.q1 = nm (φ := .bf16) fun r => S.Q (128 + r)
  d0 : B.d0 = nm (φ := .bf16) S.D
  d1 : B.d1 = nm (φ := .bf16) fun r => S.D (128 + r)
  z0 : ∀ h, B.z0 h = ((S.Z h.val 0 : ℝ) : EReal)
  z1 : ∀ h, B.z1 h = ((S.Z h.val 1 : ℝ) : EReal)

theorem stack2 (a : ℕ → ℕ → ℝ) (h : Shape.Concatenates [S128x128, S128x128] S256x128 0) :
    concatenate S256x128 0 [⟨S128x128, (nm a : FVec Ideal S128x128 .bf16)⟩, ⟨S128x128, nm fun r => a (128 + r)⟩] h = (nm a : FVec Ideal S256x128 .bf16) :=
  (concat_rows (p := 128) (q := 128) _ _ _ rfl).trans (nm_congr fun r hr c _ => by
    split
    · rfl
    · rw [Nat.add_sub_cancel' (by omega)])

theorem stack4 (a : ℕ → ℕ → ℝ) : k0_pay12 (nm (φ := .bf16) a) (nm (φ := .bf16) fun r => a (128 + r)) = (nm (stk a) : FVec Ideal S512x128 .bf16) := by
  unfold k0_pay12
  dsimp only
  rw [shapeCast_self, shapeCast_self, stack2, lanes256, mulf_nm, subf_nm]
  exact (concat_rows (p := 256) (q := 256) _ _ _ rfl).trans rfl

section block
variable {B : Blk Ideal} {S : Sp} (H : Holds B S) (h : Fin 2)
include H

theorem kst_nm : B.kst = nm (stk S.K) := by rw [Blk.kst, H.kp, H.km]; exact stack4 _
theorem vst_nm : B.vst = nm (stk S.V) := by rw [Blk.vst, H.vp, H.vm]; exact stack4 _
theorem q_nm : B.q = nm S.Q := by
  rw [Blk.q, H.q0, H.q1]; unfold k0_pay14; dsimp only; rw [shapeCast_self, shapeCast_self]; exact stack2 _ _
theorem d_nm : B.d = nm S.D := by
  rw [Blk.d, H.d0, H.d1]; unfold k0_pay15; dsimp only; rw [shapeCast_self, shapeCast_self]; exact stack2 _ _

omit H in
theorem half_nm (f g : ℕ → ℕ → ℝ) (h : Fin 2) : Blk.half (nm (fun r j => ∑ k ∈ range 128, f r k * stk g j k)) h
    = (nm (fun r c => ∑ d ∈ range 64, f r (64 * h.val + d) * g c (64 * h.val + d)) : FVec Ideal S256x256 .f32) := by
  match h with
  | 0 =>
    unfold Blk.half
    dsimp only
    rw [slice_nm]
    refine nm_congr fun r _ c hc => ?_
    rw [dot_stk, if_pos (by omega)]; simp only [Fin.isValue, Fin.val_zero, mul_zero, zero_add]
  | 1 =>
    unfold Blk.half
    dsimp only
    rw [slice_nm]
    refine nm_congr fun r _ c hc => ?_
    rw [dot_stk, if_neg (by omega)]; simp only [Fin.isValue, Fin.val_one, mul_one, zero_add, Nat.add_sub_cancel_left]

theorem sc_nm : Blk.half (k0_pay16 B.kst B.q0 B.q1) h = nm (S.sc h.val) := by
  rw [kst_nm H]
  have e : k0_pay14 B.q0 B.q1 = nm S.Q := q_nm H
  unfold k0_pay16
  dsimp only
  rw [e, matmul_nt_nm _ _ dot_S256x128_S512x128_S256x512_1_1_0_0_n_n rfl]
  exact half_nm _ _ h
theorem dp_nm : B.dp h = nm (S.dp h.val) := by
  rw [Blk.dp, vst_nm H, d_nm H]
  unfold k0_pay32
  dsimp only
  rw [matmul_nt_nm _ _ dot_S256x128_S512x128_S256x512_1_1_0_0_n_n rfl]
  exact half_nm _ _ h
theorem zc_nm : B.zc h = nm fun r _ => S.z h.val r := by
  have e0 : broadcast S256x1 (B.z0 h) = (nm fun _ _ => S.Z h.val 0 : FVec Ideal S256x1 .f32) := funext fun _ => H.z0 h
  have e1 : broadcast S256x1 (B.z1 h) = (nm fun _ _ => S.Z h.val 1 : FVec Ideal S256x1 .f32) := funext fun _ => H.z1 h
  rw [Blk.zc, e0, e1, rows256, select_nm]; rfl
theorem sm_at (j : S256x256.Idx) : B.sm h j = if win S.n ((j 0).val % 128) (j 1).val then ((S.sc h.val (j 0).val (j 1).val : ℝ) : EReal) else ⊥ := by
  rw [Blk.sm, sc_nm H, H.m]
  show Scalar.select (BitVec.ofBool (decide _)) _ _ = _
  by_cases w : win S.n ((j 0).val % 128) (j 1).val
  · rw [if_pos w, decide_eq_true w]; rfl
  · rw [if_neg w, decide_eq_false w]; rfl

theorem mx_real : ∃ μ : ℕ → ℝ, B.mx h = nm fun r _ => μ r := by
  have key : ∀ r : Fin 256, ∃ x : ℝ, B.mx h (ix2 r (0 : Fin 1)) = (x : EReal) := fun r => by
    have e : B.mx h (ix2 r (0 : Fin 1)) = max ((Finset.univ : Finset (Fin 256)).fold max (Ideal.ofBits .f32 0xFF800000#32) fun k => B.sm h (reduces_S256x256_S256.lift (ix1 r) k)) ((S.z h.val r.val : ℝ) : EReal) := by
      refine congrArg₂ max ?_ ?_
      · refine (shapeCast_a_a1_apply _ _ _ _).trans ?_
        exact Ideal.multiReduction_maximumf_single _ _ _ _ _ _
      · rw [zc_nm H]; rfl
    have b : B.mx h (ix2 r (0 : Fin 1)) ≠ ⊥ := by rw [e]; exact ne_of_gt (lt_of_lt_of_le (EReal.bot_lt_coe _) (le_max_right _ _))
    have t : B.mx h (ix2 r (0 : Fin 1)) ≠ ⊤ := by
      rw [e]
      refine ne_of_lt (max_lt (Finset.fold_max_lt _ |>.mpr ⟨?_, fun k _ => ?_⟩) (EReal.coe_lt_top _))
      · rw [show Ideal.ofBits .f32 0xFF800000#32 = ⊥ by simp [Ideal.ofBits, Ideal.ieee]]; exact bot_lt_top
      · rw [sm_at H]; split
        · exact EReal.coe_lt_top _
        · exact bot_lt_top
    exact ⟨_, (EReal.coe_toReal t b).symm⟩
  choose x hx using key
  refine ⟨fun r => if hr : r < 256 then x ⟨r, hr⟩ else 0, nm_ext fun r c => ?_⟩
  rw [Subsingleton.elim c 0]
  refine (hx r).trans (congrArg Real.toEReal ?_)
  show x r = dite (r.val < 256) _ _
  rw [dif_pos r.isLt]

omit H in
theorem rows_nm (f : ℕ → ℕ → ℝ) : Blk.rows (nm f : FVec Ideal S256x256 .f32) = nm fun r _ => ∑ c ∈ range 256, f r c := rowSum_nm f _ _ _ _

theorem pr_sk : B.pr h = nm (S.pr h.val) ∧ mulf (exp (subf (B.zc h) (B.mx h))) (B.inv h) = nm fun r _ => S.ps h.val r := by
  obtain ⟨μ, hμ⟩ := mx_real H h
  have he : B.ex h = nm fun r c => if win S.n (r % 128) c then Real.exp (S.sc h.val r c - μ r) else 0 := by
    rw [Blk.ex, hμ, spread_nm]
    funext j
    show Ideal.exp (B.sm h j - ((μ (j 0).val : ℝ) : EReal)) = _
    rw [sm_at H, nm_apply]
    split
    · rw [← EReal.coe_sub]; rfl
    · rw [EReal.bot_sub]; rfl
  have hz : exp (subf (B.zc h) (B.mx h)) = (nm fun r _ => Real.exp (S.z h.val r - μ r) : FVec Ideal S256x1 .f32) := by
    rw [zc_nm H, hμ, subf_nm, exp_nm]
  have hi : B.inv h = nm fun r _ => 1 / ((∑ c ∈ range 256, if win S.n (r % 128) c then Real.exp (S.sc h.val r c - μ r) else 0) + Real.exp (S.z h.val r - μ r)) := by
    rw [Blk.inv, hz, he, rows_nm, addf_nm, splat_nm _ 1 Ideal.ofBits_one_f32]
    refine divf_mat _ _ fun r c => ?_
    exact ne_of_eq_of_ne (den_shift _ _ _ _) <| mul_ne_zero (den_pos _ _ _).ne' (Real.exp_pos _).ne'
  refine ⟨?_, ?_⟩
  · rw [Blk.pr, he, hi, spread_nm, mulf_nm]
    exact nm_congr fun r _ c _ => prb_shift _ _ _ _ _
  · rw [hz, hi, mulf_nm]
    exact nm_congr fun r _ c _ => psk_shift _ _ _ _

theorem del_nm : B.del h = nm fun r _ => S.dl h.val r := by rw [Blk.del, (pr_sk H h).1, dp_nm H, mulf_nm, rows_nm]; rfl
theorem ds_nm : B.ds h = nm (S.ds h.val) := by rw [Blk.ds, (pr_sk H h).1, dp_nm H, del_nm H, spread_nm, subf_nm, mulf_nm]; rfl
theorem sk_nm : B.sk h = nm fun r _ => S.ps h.val r * S.dl h.val r := by rw [Blk.sk, (pr_sk H h).2, del_nm H, mulf_nm]

omit H in
theorem total (o : ℕ) (f : ℕ → ℝ) (hs : Shape.Slices S256x1 ![o, 0] S128x1) :
    extractAt ![0, 0, 0] (shapeCast S1x1x1 (multiReduction .add [1, 2] S1 (shapeCast S1x128x1 (extractStridedSlice S128x1 ![o, 0] (nm fun r _ => f r : FVec Ideal S256x1 .f32) hs) shapeCasts_S128x1_S1x128x1) 0x00000000#32 reduces_S1x128x1_S1 (.inl rfl) rfl) shapeCasts_S1_S1x1x1) inpos_S1x1x1_p0_0_0
      = ((∑ r ∈ range 128, f (o + r) : ℝ) : EReal) := by
  rw [slice_nm]
  have e := Ideal.multiReduction_add_total (shapeCast S1x128x1 (nm fun r _ => f (o + r) : FVec Ideal S128x1 .f32) shapeCasts_S128x1_S1x128x1) 0x00000000#32 reduces_S1x128x1_S1 (by decide) (.inl rfl) rfl
  refine (e _).trans ?_
  have e' : ∑ i, shapeCast S1x128x1 (nm fun r _ => f (o + r) : FVec Ideal S128x1 .f32) shapeCasts_S128x1_S1x128x1 i = ∑ i, (nm fun r _ => f (o + r) : FVec Ideal S128x1 .f32) i :=
    Equiv.sum_comp (Shape.reshapeEquiv (s := S128x1) (s' := S1x128x1) (by decide)) _
  rw [e']
  rw [sum_idx2, Finset.sum_range, coe_sum]
  refine Finset.sum_congr rfl fun r _ => ?_
  rw [Fin.sum_univ_one]; rfl

theorem part_val (p : Fin 2) : B.part h p = ((∑ r ∈ range 128, S.ps h.val (128 * p.val + r) * S.dl h.val (128 * p.val + r) : ℝ) : EReal) := by
  match p with
  | 0 => rw [Blk.part, sk_nm H]; refine (total 0 _ _).trans ?_; simp only [Fin.isValue, Fin.val_zero, mul_zero]
  | 1 => rw [Blk.part, sk_nm H]; exact total 128 _ _

omit H in
theorem cols2 (f g : ℕ → ℕ → ℝ) (hc : Shape.Concatenates [S256x256, S256x256] S256x512 1) :
    concatenate S256x512 1 [⟨S256x256, (nm f : FVec Ideal S256x256 .f32)⟩, ⟨S256x256, nm g⟩] hc = (nm (two f g) : FVec Ideal S256x512 .f32) :=
  (concat_cols (p := 256) (q := 256) f g hc rfl).trans rfl

theorem dq_nm : k0_pay48 B.kst (B.ds 0) (B.ds 1) = nm fun r l => (∑ c ∈ range 256, S.ds (l / 64) r c * S.K c l) * (1 / 8) := by
  rw [kst_nm H, ds_nm H, ds_nm H]
  unfold k0_pay48 k0_pay47
  dsimp only
  rw [cols2, truncf_nm, matmul_nn_nm _ _ dot_S256x512_S512x128_S256x128_1_0_0_1_n_n rfl, splat_nm _ _ eighth_eq, mulf_nm]
  refine nm_congr fun r _ l hl => congrArg (· * (1 / 8 : ℝ)) ?_
  rw [sum_stk]
  refine Finset.sum_congr rfl fun c hc => congrArg (· * _) ?_
  have hc := Finset.mem_range.mp hc
  unfold two
  rw [if_pos hc, if_neg (show ¬ 256 + c < 256 by omega), Nat.add_sub_cancel_left]
  by_cases hl' : l < 64
  · rw [if_pos hl', show l / 64 = 0 by omega]; rfl
  · rw [if_neg hl', show l / 64 = 1 by omega]; rfl
theorem dqA_nm : B.dqA = nm fun r l => (∑ c ∈ range 256, S.ds (l / 64) r c * S.K c l) * (1 / 8) := by
  unfold Blk.dqA k0_pay49
  dsimp only
  rw [dq_nm H, slice_nm]; exact nm_congr fun r _ c _ => by rw [zero_add, zero_add]
theorem dqB_nm : B.dqB = nm fun r l => (∑ c ∈ range 256, S.ds (l / 64) (128 + r) c * S.K c l) * (1 / 8) := by
  unfold Blk.dqB k0_pay50
  dsimp only
  rw [dq_nm H, slice_nm]; exact nm_congr fun r _ c _ => by rw [zero_add]

omit H in
/-- One head's part of the keys' (values') gradient. -/
theorem pick (x : ℕ → ℕ → ℕ → ℝ) (y : ℕ → ℕ → ℝ) :
    Blk.before (nm fun j l => ∑ r ∈ range 256, two (x 0) (x 1) r j * y r l) = (nm fun c l => ∑ r ∈ range 256, x (l / 64) r c * y r l : FVec Ideal S128x128 .f32)
    ∧ Blk.own (nm fun j l => ∑ r ∈ range 256, two (x 0) (x 1) r j * y r l) = (nm fun c l => ∑ r ∈ range 256, x (l / 64) r (128 + c) * y r l : FVec Ideal S128x128 .f32) := by
  constructor
  · unfold Blk.before
    rw [lanes128, slice_nm, slice_nm, select_nm]
    refine nm_congr fun c hc l hl => ?_
    by_cases hl' : l < 64
    · rw [if_pos hl', show l / 64 = 0 by omega]
      exact Finset.sum_congr rfl fun r _ => by unfold two; rw [if_pos (by omega), zero_add, zero_add]
    · rw [if_neg hl', show l / 64 = 1 by omega]
      exact Finset.sum_congr rfl fun r _ => by unfold two; rw [if_neg (by omega), zero_add, Nat.add_sub_cancel_left]
  · unfold Blk.own
    rw [lanes128, slice_nm, slice_nm, select_nm]
    refine nm_congr fun c hc l hl => ?_
    by_cases hl' : l < 64
    · rw [if_pos hl', show l / 64 = 0 by omega]
      exact Finset.sum_congr rfl fun r _ => by unfold two; rw [if_pos (by omega), zero_add]
    · rw [if_neg hl', show l / 64 = 1 by omega]
      exact Finset.sum_congr rfl fun r _ => by unfold two; rw [if_neg (by omega), zero_add, show 384 + c - 256 = 128 + c by omega]

theorem dk_nm : B.dk = nm fun j l => ∑ r ∈ range 256, two (S.ds 0) (S.ds 1) r j * S.Q r l := by
  rw [Blk.dk, q_nm H, ds_nm H, ds_nm H]
  unfold k0_pay51 k0_pay47
  dsimp only
  rw [cols2, truncf_nm]
  exact matmul_tn_nm _ _ (by decide) _ rfl
theorem dv_nm : B.dv = nm fun j l => ∑ r ∈ range 256, two (S.pr 0) (S.pr 1) r j * S.D r l := by
  rw [Blk.dv, d_nm H, (pr_sk H 0).1, (pr_sk H 1).1]
  unfold k0_pay52
  dsimp only
  rw [cols2, truncf_nm]
  exact matmul_tn_nm _ _ (by decide) _ rfl
end block

end Cert.SwaBwdIdeal.Run

end
-- ==== Proof.SbBwd.Slot.lean ====
/-
  The stick-breaking backward call: what a landed tile is read as.
-/
module

public import proofs.«01_k».proof.Proof.SbBwd.Real
public import Idealize.ShloMosaic.Lib.ValueLayout

@[expose] public section

set_option maxRecDepth 16384

noncomputable section

namespace Cert.SbBwdIdeal.Val

open Cert.SbBwdIdeal Cert.SbBwdIdeal.Gen Cert.SbBwdIdeal.Run Cert.Lift
open Idealize.ShloMosaic
open Idealize.ShloMosaic.TcCoe
open Idealize.SL.Sem

variable {F : FTy → Type} [FloatOps F] (c : Dev nD)

theorem read_tile (A : Memref sig .tc .hbm S64x4x512x512 .bf16) (X : Buf (Elt F) (A.view.loc (c : Thread nD τ))) (b : Fin 64) (p : Fin 4) (r j : Fin 512) :
    (tile A b).view.read (Elt F) X (ValueIdx.ix3 p r j) = A.view.read (Elt F) X (ValueIdx.ix4 b p r j) := by
  refine (congrFun (Memref.read_squeeze_slice A _ (fun _ => rfl) squeezes_S1x4x512x512_S4x512x512 (by decide : S1x4x512x512.ShapeCasts S4x512x512) X) _).trans ?_
  refine (ValueIdx.shapeCast_1abc_abc_apply _ _ p r j).trans ?_
  refine congrArg (A.view.read (Elt F) X) (funext fun a => Fin.ext ?_)
  match a with
  | ⟨0, _⟩ => show b.val + 1 * 0 = b.val; omega
  | ⟨1, _⟩ => show 0 + 1 * p.val = p.val; omega
  | ⟨2, _⟩ => show 0 + 1 * r.val = r.val; omega
  | ⟨3, _⟩ => show 0 + 1 * j.val = j.val; omega
theorem read_slot (B : Memref sig .tc .vmem S2x4x512x512 .bf16) (g : Buf (Elt F) (B.view.loc (c : Thread nD τ))) (s : Fin 2) (p : Fin 4) (r j : Fin 512) :
    (slot B s).view.read (Elt F) g (ValueIdx.ix3 p r j) = B.view.read (Elt F) g (ValueIdx.ix4 s p r j) := by
  refine (congrFun (Memref.read_squeeze_slice B _ (fun _ => rfl) squeezes_S1x4x512x512_S4x512x512 (by decide : S1x4x512x512.ShapeCasts S4x512x512) g) _).trans ?_
  refine (ValueIdx.shapeCast_1abc_abc_apply _ _ p r j).trans ?_
  refine congrArg (B.view.read (Elt F) g) (funext fun a => Fin.ext ?_)
  match a with
  | ⟨0, _⟩ => show s.val + 1 * 0 = s.val; omega
  | ⟨1, _⟩ => show 0 + 1 * p.val = p.val; omega
  | ⟨2, _⟩ => show 0 + 1 * r.val = r.val; omega
  | ⟨3, _⟩ => show 0 + 1 * j.val = j.val; omega

theorem read_landed (A : Memref sig .tc .hbm S64x4x512x512 .bf16) (X : Buf (Elt F) (A.view.loc (c : Thread nD τ))) (B : Memref sig .tc .vmem S2x4x512x512 .bf16)
    (s : Fin 2) (b : Fin 64) (f : Buf (Elt F) ((slot B s).view.loc (c : Thread nD τ))) (p : Fin 4) (r j : Fin 512) :
    B.view.read (Elt F) (landed c A X B s b f) (ValueIdx.ix4 s p r j) = A.view.read (Elt F) X (ValueIdx.ix4 b p r j) := by
  refine (read_slot c B _ s p r j).symm.trans (Eq.trans ?_ (read_tile c A X b p r j))
  have h := View.read_writes_cons_emb (Val := Elt F) (v := (slot B s).view) (f := f) (Rect.whole S4x512x512) (payload c A X b) [] (ValueIdx.ix3 p r j)
  rw [Rect.emb_whole_apply] at h
  exact h

theorem cast_full {α : Type} (X : S1x1x512x512.Idx → α) (r j : Fin 512) :
    shapeCast S512x512 X shapeCasts_S1x1x512x512_S512x512 (ValueIdx.ix2 r j) = X (ValueIdx.ix4 (0 : Fin 1) (0 : Fin 1) r j) :=
  shapeCast_apply X _ _ _ (by
    rw [Shape.rowMajor_val_four, Shape.rowMajor_val_two]
    show ((0 * 1 + 0) * 512 + r.val) * 512 + j.val = r.val * 512 + j.val
    omega)
theorem cast_half {α : Type} (X : S1x1x256x512.Idx → α) (r : Fin 256) (j : Fin 512) :
    shapeCast S256x512 X shapeCasts_S1x1x256x512_S256x512 (ValueIdx.ix2 r j) = X (ValueIdx.ix4 (0 : Fin 1) (0 : Fin 1) r j) :=
  shapeCast_apply X _ _ _ (by
    rw [Shape.rowMajor_val_four, Shape.rowMajor_val_two]
    show ((0 * 1 + 0) * 256 + r.val) * 512 + j.val = r.val * 512 + j.val
    omega)

variable (A : Memref sig .tc .hbm S64x4x512x512 .bf16) (X : Buf (Elt F) (A.view.loc (c : Thread nD τ))) (B : Memref sig .tc .vmem S2x4x512x512 .bf16)
    (s : Fin 2) (b : Fin 64) (f : Buf (Elt F) ((slot B s).view.loc (c : Thread nD τ))) (p : Fin 4)

theorem full_landed (r j : Fin 512) :
    shapeCast S512x512 (View.readAt (Elt F) B.view (Rect.unit (s := S2x4x512x512) ![s.val, p.val, 0, 0] S1x1x512x512.size (inb_w s p)).toLoadRect (landed c A X B s b f))
      shapeCasts_S1x1x512x512_S512x512 (ValueIdx.ix2 r j) = A.view.read (Elt F) X (ValueIdx.ix4 b p r j) := by
  refine (cast_full _ r j).trans (Eq.trans ?_ (read_landed c A X B s b f p r j))
  refine congrArg (B.view.read (Elt F) _) (funext fun a => Fin.ext ?_)
  match a with
  | ⟨0, _⟩ => show s.val + 1 * 0 = s.val; omega
  | ⟨1, _⟩ => show p.val + 1 * 0 = p.val; omega
  | ⟨2, _⟩ => show 0 + 1 * r.val = r.val; omega
  | ⟨3, _⟩ => show 0 + 1 * j.val = j.val; omega
theorem half_landed (r : Fin 256) (j : Fin 512) :
    shapeCast S256x512 (View.readAt (Elt F) B.view (Rect.unit (s := S2x4x512x512) ![s.val, p.val, 256, 0] S1x1x256x512.size (inb_wl s p)).toLoadRect (landed c A X B s b f))
      shapeCasts_S1x1x256x512_S256x512 (ValueIdx.ix2 r j) = A.view.read (Elt F) X (ValueIdx.ix4 b p (⟨256 + r.val, by omega⟩ : Fin 512) j) := by
  refine (cast_half _ r j).trans (Eq.trans ?_ (read_landed c A X B s b f p _ j))
  refine congrArg (B.view.read (Elt F) _) (funext fun a => Fin.ext ?_)
  match a with
  | ⟨0, _⟩ => show s.val + 1 * 0 = s.val; omega
  | ⟨1, _⟩ => show p.val + 1 * 0 = p.val; omega
  | ⟨2, _⟩ => show 256 + 1 * r.val = 256 + r.val; omega
  | ⟨3, _⟩ => show 0 + 1 * j.val = j.val; omega

/-- A load of a part of a matrix, at offsets however spelt. -/
theorem read_rect16 {m n : ℕ} {κ : Kind} {cs : Space} (M : Memref sig κ cs ⟨2, ![m, n]⟩ .bf16) (g : M.view.ty.Contents (Elt Ideal)) {x : ℕ → ℕ → ℝ}
    (hx : M.view.read (Elt Ideal) g = (nm x : FVec Ideal ⟨2, ![m, n]⟩ .bf16)) (off : Fin 2 → Nat) (o₀ o₁ : ℕ) (ho : off = ![o₀, o₁]) (m' n' : ℕ)
    (h : ∀ a, off a + (![m', n'] : Fin 2 → Nat) a ≤ (⟨2, ![m, n]⟩ : Shape).size a) :
    View.readAt (Elt Ideal) M.view (Rect.unit (s := ⟨2, ![m, n]⟩) off ![m', n'] h).toLoadRect g = (nm fun r c => x (o₀ + r) (o₁ + c) : FVec Ideal ⟨2, ![m', n']⟩ .bf16) := by
  subst ho
  rw [View.readAt_eq_ld, View.ld_unit, hx]
  exact slice_nm x o₀ o₁ _

theorem read_rect32 {m n : ℕ} {κ : Kind} {cs : Space} (M : Memref sig κ cs ⟨2, ![m, n]⟩ .f32) (g : M.view.ty.Contents (Elt Ideal)) {x : ℕ → ℕ → ℝ}
    (hx : M.view.read (Elt Ideal) g = (nm x : FVec Ideal ⟨2, ![m, n]⟩ .f32)) (off : Fin 2 → Nat) (o₀ o₁ : ℕ) (ho : off = ![o₀, o₁]) (m' n' : ℕ)
    (h : ∀ a, off a + (![m', n'] : Fin 2 → Nat) a ≤ (⟨2, ![m, n]⟩ : Shape).size a) :
    View.readAt (Elt Ideal) M.view (Rect.unit (s := ⟨2, ![m, n]⟩) off ![m', n'] h).toLoadRect g = (nm fun r c => x (o₀ + r) (o₁ + c) : FVec Ideal ⟨2, ![m', n']⟩ .f32) := by
  subst ho
  rw [View.readAt_eq_ld, View.ld_unit, hx]
  exact slice_nm x o₀ o₁ _

end Cert.SbBwdIdeal.Val
end
-- ==== Proof.SwaBwd.Data.lean ====
/- What the sliding-window backward call is given, over the reals, and what a block of a point then holds. -/
module

public import proofs.«01_k».proof.Proof.SwaBwd.Tile
public import proofs.«01_k».proof.Proof.SbBwd.Slot
public import proofs.«01_k».proof.Proof.QkGrad.Data
public import proofs.«01_k».proof.Proof.LiftGrid
public import Idealize.ShloMosaic.Lib.WritesUnit

@[expose] public section

set_option maxRecDepth 16384

noncomputable section

namespace Cert.SwaBwd

open Finset (range)
open scoped BigOperators

/-- The argument arrays: queries and cotangent (eight heads side by side in a row), keys and values (two), and the sinks. -/
structure Ins where
  Q : ℕ → ℕ → ℝ
  K : ℕ → ℕ → ℝ
  V : ℕ → ℕ → ℝ
  D : ℕ → ℕ → ℝ
  z : ℕ → ℝ

/-- The row of a block's key: the block before, then the block itself; at the first block the rows before are masked. -/
def krow (b n c : ℕ) : ℕ := if n = 0 then 2048 * b + c % 128 else 2048 * b + 128 * (n - 1) + c

namespace Ins
variable (I : Ins) (b n H r c g l R : ℕ)
/-- Row `r` of block `n` of head `H`: its scores, the probabilities' cotangent, and what follows from them. -/
def sc : ℝ := (∑ d ∈ range 64, I.Q (2048 * b + 128 * n + r) (64 * H + d) * I.K (krow b n c) (64 * (H / 4) + d)) * (1 / 8)
def dp : ℝ := ∑ d ∈ range 64, I.D (2048 * b + 128 * n + r) (64 * H + d) * I.V (krow b n c) (64 * (H / 4) + d)
def pr : ℝ := prb (win n r) (I.sc b n H r) (I.z H) c
def ps : ℝ := psk (win n r) (I.sc b n H r) (I.z H)
def dl : ℝ := del (win n r) (I.sc b n H r) (I.dp b n H r) (I.z H)
def ds : ℝ := dsc (win n r) (I.sc b n H r) (I.dp b n H r) (I.z H) c
/-- The queries' gradient, the keys' and values' gradient by head, the sinks' gradient. -/
def dQ : ℝ := (∑ c ∈ range 256, I.ds (R / 2048) (R % 2048 / 128) (l / 64) (R % 128) c * I.K (krow (R / 2048) (R % 2048 / 128) c) (64 * (l / 256) + l % 64)) * (1 / 8)
def kPart : ℝ := ∑ r ∈ range 128, I.ds b n H r c * (I.Q (2048 * b + 128 * n + r) (64 * H + l) * (1 / 8))
def vPart : ℝ := ∑ r ∈ range 128, I.pr b n H r c * I.D (2048 * b + 128 * n + r) (64 * H + l)
def sPart : ℝ := ∑ r ∈ range 128, I.ps b n H r * I.dl b n H r

/-- The block of a pair of pairs of heads, as the kernel holds it. -/
def sp : Sp where
  n := n
  K c l := I.K (krow b n c) (64 * g + l % 64)
  V c l := I.V (krow b n c) (64 * g + l % 64)
  Q r l := I.Q (2048 * b + 128 * n + r % 128) (128 * (2 * g + r / 128) + l) * (1 / 8)
  D r l := I.D (2048 * b + 128 * n + r % 128) (128 * (2 * g + r / 128) + l)
  Z h p := I.z (4 * g + 2 * p + h)

variable {g} (hg : g < 2) {h p : ℕ} (hh : h < 2) (hp : p < 2) {r : ℕ} (hr : r < 128)
include hg hh hp hr

theorem sp_sc : (I.sp b n g).sc h (128 * p + r) c = I.sc b n (4 * g + 2 * p + h) r c := by
  unfold Sp.sc sc sp
  rw [Finset.sum_mul]
  refine Finset.sum_congr rfl fun d hd => ?_
  have hd := Finset.mem_range.mp hd
  dsimp only
  rw [show (128 * p + r) % 128 = r by omega, show (128 * p + r) / 128 = p by omega, show (64 * h + d) % 64 = d by omega, show (4 * g + 2 * p + h) / 4 = g by omega,
    show 128 * (2 * g + p) + (64 * h + d) = 64 * (4 * g + 2 * p + h) + d by omega]
  ring
theorem sp_dp : (I.sp b n g).dp h (128 * p + r) c = I.dp b n (4 * g + 2 * p + h) r c := by
  unfold Sp.dp dp sp
  refine Finset.sum_congr rfl fun d hd => ?_
  have hd := Finset.mem_range.mp hd
  dsimp only
  rw [show (128 * p + r) % 128 = r by omega, show (128 * p + r) / 128 = p by omega, show (64 * h + d) % 64 = d by omega, show (4 * g + 2 * p + h) / 4 = g by omega,
    show 128 * (2 * g + p) + (64 * h + d) = 64 * (4 * g + 2 * p + h) + d by omega]
theorem sp_z : (I.sp b n g).z h (128 * p + r) = I.z (4 * g + 2 * p + h) := by
  unfold Sp.z sp
  dsimp only
  split
  · rw [show p = 0 by omega]
  · rw [show p = 1 by omega]
theorem sp_row : (I.sp b n g).pr h (128 * p + r) c = I.pr b n (4 * g + 2 * p + h) r c ∧ (I.sp b n g).ps h (128 * p + r) = I.ps b n (4 * g + 2 * p + h) r
    ∧ (I.sp b n g).dl h (128 * p + r) = I.dl b n (4 * g + 2 * p + h) r ∧ (I.sp b n g).ds h (128 * p + r) c = I.ds b n (4 * g + 2 * p + h) r c := by
  have e1 : (I.sp b n g).sc h (128 * p + r) = I.sc b n (4 * g + 2 * p + h) r := funext fun c => sp_sc I b n c hg hh hp hr
  have e2 : (I.sp b n g).dp h (128 * p + r) = I.dp b n (4 * g + 2 * p + h) r := funext fun c => sp_dp I b n c hg hh hp hr
  unfold Sp.pr Sp.ps Sp.dl Sp.ds
  rw [e1, e2, sp_z I b n hg hh hp hr, show (128 * p + r) % 128 = r by omega]
  exact ⟨rfl, rfl, rfl, rfl⟩
end Ins

end Cert.SwaBwd

namespace Cert.SwaBwdIdeal.Run

open Cert.SwaBwdIdeal Cert.SwaBwdIdeal.Gen Cert.Lift Cert.SwaBwd
open Idealize.ShloMosaic Idealize.ShloMosaic.TcCoe Idealize.ShloMosaic.ValueIdx Idealize.SL.Sem
open Cert.QkGradIdeal.Host0 (heads8 heads2 flat8)
open Finset (range)
open scoped BigOperators

variable (m : (ℓ : Loc nD τ sig) → Buf (Elt Ideal) ℓ) (c : Dev nD)

/-- A key head for each of its two query pairs. -/
def twice (x : FVec Ideal S2x2048x2x64 .f32) : FVec Ideal S4096x256 .f32 :=
  shapeCast S4096x256 (broadcastInDim S2x2048x2x2x64 ![0, 1, 2, 3, 4] bcast_S2x2048x2x1x64_S2x2048x2x2x64_0_1_2_3_4
    (broadcastInDim S2x2048x2x1x64 ![0, 1, 2, 4] bcast_S2x2048x2x64_S2x2048x2x1x64_0_1_2_4 x)) shapeCasts_S2x2048x2x2x64_S4096x256

set_option maxHeartbeats 4000000 in
theorem prep :
    V m c main_v3 = truncf .bf16 (shapeCast S4096x512 (mulf (m (c, main_arg0) : FVec Ideal S2x2048x8x64 .f32) (broadcastInDim S2x2048x8x64 ![] bcast_S_S2x2048x8x64 (constant (F := Ideal) S_ .f32 0x3E000000#32))) shapeCasts_S2x2048x8x64_S4096x512) bitsLt_bf16_f32
    ∧ V m c main_v7 = truncf .bf16 (twice (m (c, main_arg1))) bitsLt_bf16_f32
    ∧ V m c main_v11 = truncf .bf16 (twice (m (c, main_arg2))) bitsLt_bf16_f32
    ∧ V m c main_v13 = truncf .bf16 (shapeCast S4096x512 (m (c, main_arg4) : FVec Ideal S2x2048x512 .f32) shapeCasts_S2x2048x512_S4096x512 : FVec Ideal S4096x512 .f32) bitsLt_bf16_f32
    ∧ V m c main_arg3 = m (c, main_arg3) := by
  refine ⟨?_, ?_, ?_, ?_, ?_⟩ <;>
  (simp only [V, List.flatten_cons, List.flatten_nil, hostOps0, List.cons_append, List.nil_append,
    StableHlo.TRef.binary, StableHlo.TRef.nullary, StableHlo.TRef.ternary, StableHlo.TRef.unary, StableHlo.TRef.toBuf, StableHlo.TRef.ofBuf, cast_eq]
   after_reads_simp
   first | done | rfl)

/-- The argument arrays hold reals. -/
structure Real (I : Ins) : Prop where
  q : m (c, main_arg0) = heads8 I.Q
  k : m (c, main_arg1) = heads2 I.K
  v : m (c, main_arg2) = heads2 I.V
  z : m (c, main_arg3) = (up fun i => I.z (i 0).val : FVec Ideal S8 .f32)
  d : m (c, main_arg4) = (q3 fun b s l => I.D (2048 * b + s) l : FVec Ideal S2x2048x512 .f32)

theorem twice_nm (X : ℕ → ℕ → ℝ) : twice (heads2 X) = nm fun r l => X r (64 * (l / 128) + l % 64) := by
  funext i
  have h0 : (i 0).val < 4096 := (i 0).isLt
  have h1 : (i 1).val < 256 := (i 1).isLt
  unfold twice
  refine (shapeCast_apply _ _ i (ix5 (⟨(i 0).val / 2048, by omega⟩ : Fin 2) (⟨(i 0).val % 2048, by omega⟩ : Fin 2048)
      (⟨(i 1).val / 128, by omega⟩ : Fin 2) (⟨(i 1).val / 64 % 2, by omega⟩ : Fin 2) (⟨(i 1).val % 64, by omega⟩ : Fin 64)) (by
      rw [Shape.rowMajor_val_five, Shape.rowMajor_val_two]
      show ((((i 0).val / 2048 * 2048 + (i 0).val % 2048) * 2 + (i 1).val / 128) * 2 + (i 1).val / 64 % 2) * 64 + (i 1).val % 64 = (i 0).val * 256 + (i 1).val
      omega)).trans ?_
  refine (broadcastInDim_apply _ _ _ _ (ix5 (⟨(i 0).val / 2048, by omega⟩ : Fin 2) (⟨(i 0).val % 2048, by omega⟩ : Fin 2048)
      (⟨(i 1).val / 128, by omega⟩ : Fin 2) (0 : Fin 1) (⟨(i 1).val % 64, by omega⟩ : Fin 64)) (fun a => match a with
      | ⟨0, _⟩ => rfl | ⟨1, _⟩ => rfl | ⟨2, _⟩ => rfl | ⟨3, _⟩ => rfl | ⟨4, _⟩ => rfl)).trans ?_
  refine (broadcastInDim_apply _ _ _ _ (ix4 (⟨(i 0).val / 2048, by omega⟩ : Fin 2) (⟨(i 0).val % 2048, by omega⟩ : Fin 2048)
      (⟨(i 1).val / 128, by omega⟩ : Fin 2) (⟨(i 1).val % 64, by omega⟩ : Fin 64)) (fun a => match a with
      | ⟨0, _⟩ => rfl | ⟨1, _⟩ => rfl | ⟨2, _⟩ => rfl | ⟨3, _⟩ => rfl)).trans ?_
  refine congrArg Real.toEReal (congrArg₂ X ?_ rfl)
  show 2048 * ((i 0).val / 2048) + (i 0).val % 2048 = (i 0).val; omega

theorem flat3 (X : ℕ → ℕ → ℝ) : shapeCast S4096x512 (q3 fun b s l => X (2048 * b + s) l : FVec Ideal S2x2048x512 .f32) shapeCasts_S2x2048x512_S4096x512 = nm X := by
  funext i
  have h0 : (i 0).val < 4096 := (i 0).isLt
  have h1 : (i 1).val < 512 := (i 1).isLt
  refine (shapeCast_apply _ _ i (ix3 (⟨(i 0).val / 2048, by omega⟩ : Fin 2) (⟨(i 0).val % 2048, by omega⟩ : Fin 2048) (⟨(i 1).val, by omega⟩ : Fin 512)) (by
      rw [Shape.rowMajor_val_three, Shape.rowMajor_val_two]
      show ((i 0).val / 2048 * 2048 + (i 0).val % 2048) * 512 + (i 1).val = (i 0).val * 512 + (i 1).val
      omega)).trans (congrArg Real.toEReal (congrArg₂ X ?_ rfl))
  show 2048 * ((i 0).val / 2048) + (i 0).val % 2048 = (i 0).val; omega

variable {m c} {I : Ins} (H : Real m c I) (t : Fin cfg0.N)

theorem idx : ∀ t : Fin grid0.N, ((grid0.coords t) 1).val = t.val % 5
    ∧ (win0_1.index t (0 : Fin 2) = 4 * (t.val / 5) + min (t.val % 5) 3 ∧ win0_1.index t (1 : Fin 2) = 0)
    ∧ (win0_2.index t (0 : Fin 2) = 4 * (4 * (t.val / 5) + min (t.val % 5) 3) - min (t.val % 5) 1 ∧ win0_2.index t (1 : Fin 2) = 0)
    ∧ (win0_3.index t (0 : Fin 2) = 4 * (t.val / 5) + min (t.val % 5) 3 ∧ win0_3.index t (1 : Fin 2) = 0)
    ∧ (win0_4.index t (0 : Fin 2) = 4 * (4 * (t.val / 5) + min (t.val % 5) 3) - min (t.val % 5) 1 ∧ win0_4.index t (1 : Fin 2) = 0)
    ∧ (win0_5.index t (0 : Fin 2) = 4 * (t.val / 5) + min (t.val % 5) 3 ∧ win0_5.index t (1 : Fin 2) = 0)
    ∧ (win0_6.index t (0 : Fin 2) = 4 * (t.val / 5) + min (t.val % 5) 3 ∧ win0_6.index t (1 : Fin 2) = 0)
    ∧ win0_0.index t (0 : Fin 1) = 0 := by decide +kernel

/-- The first block of a point's rows, and the block before (at a sequence's first point the block itself). -/
def tb (t : ℕ) : ℕ := 4 * (t / 5) + min (t % 5) 3
def pb (t : ℕ) : ℕ := 4 * tb t - min (t % 5) 1

include H

theorem iblk0 : iblk m c 0 t = (fun i => ((I.z (i 0).val : ℝ) : EReal) : FVec Ideal S8 .f32) := by
  obtain ⟨_, _, _, _, _, _, _, a⟩ := idx t
  funext j
  show V m c main_arg3 (((cfg0.win 0).blk t).view.emb j) = _
  rw [(prep m c).2.2.2.2, H.z]
  exact congrArg (fun k => ((I.z k : ℝ) : EReal)) (by show win0_0.index t (0 : Fin 1) * 8 + 1 * (j 0).val = (j 0).val; omega)

theorem iblk1 : iblk m c 1 t = nm (φ := .bf16) fun r l => I.Q (512 * tb t.val + r) l * (1 / 8) := by
  obtain ⟨_, ⟨a0, a1⟩, _⟩ := idx t
  have e : V m c main_v3 = nm (φ := .bf16) fun r l => I.Q r l * (1 / 8) := by
    rw [(prep m c).1, H.q]
    have e1 : mulf (heads8 I.Q) (broadcastInDim S2x2048x8x64 ![] bcast_S_S2x2048x8x64 (constant (F := Ideal) S_ .f32 0x3E000000#32)) = heads8 fun r l => I.Q r l * (1 / 8) :=
      (congrArg (mulf _) (spread_up (S := S_) _ _ _ (1 / 8) Cert.SbBwdIdeal.Val.eighth_eq)).trans (mulf_up _ _)
    rw [e1]
    exact congrArg (fun x : FVec Ideal S4096x512 .f32 => truncf .bf16 x bitsLt_bf16_f32) (flat8 _)
  funext j
  show V m c main_v3 (((cfg0.win 1).blk t).view.emb j) = _
  rw [e]
  exact congrArg Real.toEReal (congrArg₂ (fun r l => I.Q r l * (1 / 8)) (by show win0_1.index t (0 : Fin 2) * 512 + 1 * (j 0).val = 512 * tb t.val + (j 0).val; unfold tb; omega) (by show win0_1.index t (1 : Fin 2) * 512 + 1 * (j 1).val = (j 1).val; omega))

theorem v7_nm : V m c main_v7 = nm (φ := .bf16) fun r l => I.K r (64 * (l / 128) + l % 64) := by rw [(prep m c).2.1, H.k, twice_nm]; rfl
theorem v11_nm : V m c main_v11 = nm (φ := .bf16) fun r l => I.V r (64 * (l / 128) + l % 64) := by rw [(prep m c).2.2.1, H.v, twice_nm]; rfl

theorem iblk2 : iblk m c 2 t = nm (φ := .bf16) fun r l => I.K (128 * pb t.val + r) (64 * (l / 128) + l % 64) := by
  obtain ⟨_, _, ⟨a0, a1⟩, _⟩ := idx t
  funext j
  show V m c main_v7 (((cfg0.win 2).blk t).view.emb j) = _
  rw [v7_nm H]
  exact congrArg Real.toEReal (congrArg₂ (fun r l => I.K r (64 * (l / 128) + l % 64)) (by show win0_2.index t (0 : Fin 2) * 128 + 1 * (j 0).val = 128 * pb t.val + (j 0).val; unfold pb tb; omega) (by show win0_2.index t (1 : Fin 2) * 256 + 1 * (j 1).val = (j 1).val; omega))

theorem iblk3 : iblk m c 3 t = nm (φ := .bf16) fun r l => I.K (512 * tb t.val + r) (64 * (l / 128) + l % 64) := by
  obtain ⟨_, _, _, ⟨a0, a1⟩, _⟩ := idx t
  funext j
  show V m c main_v7 (((cfg0.win 3).blk t).view.emb j) = _
  rw [v7_nm H]
  exact congrArg Real.toEReal (congrArg₂ (fun r l => I.K r (64 * (l / 128) + l % 64)) (by show win0_3.index t (0 : Fin 2) * 512 + 1 * (j 0).val = 512 * tb t.val + (j 0).val; unfold tb; omega) (by show win0_3.index t (1 : Fin 2) * 256 + 1 * (j 1).val = (j 1).val; omega))

theorem iblk4 : iblk m c 4 t = nm (φ := .bf16) fun r l => I.V (128 * pb t.val + r) (64 * (l / 128) + l % 64) := by
  obtain ⟨_, _, _, _, ⟨a0, a1⟩, _⟩ := idx t
  funext j
  show V m c main_v11 (((cfg0.win 4).blk t).view.emb j) = _
  rw [v11_nm H]
  exact congrArg Real.toEReal (congrArg₂ (fun r l => I.V r (64 * (l / 128) + l % 64)) (by show win0_4.index t (0 : Fin 2) * 128 + 1 * (j 0).val = 128 * pb t.val + (j 0).val; unfold pb tb; omega) (by show win0_4.index t (1 : Fin 2) * 256 + 1 * (j 1).val = (j 1).val; omega))

theorem iblk5 : iblk m c 5 t = nm (φ := .bf16) fun r l => I.V (512 * tb t.val + r) (64 * (l / 128) + l % 64) := by
  obtain ⟨_, _, _, _, _, ⟨a0, a1⟩, _⟩ := idx t
  funext j
  show V m c main_v11 (((cfg0.win 5).blk t).view.emb j) = _
  rw [v11_nm H]
  exact congrArg Real.toEReal (congrArg₂ (fun r l => I.V r (64 * (l / 128) + l % 64)) (by show win0_5.index t (0 : Fin 2) * 512 + 1 * (j 0).val = 512 * tb t.val + (j 0).val; unfold tb; omega) (by show win0_5.index t (1 : Fin 2) * 256 + 1 * (j 1).val = (j 1).val; omega))

theorem iblk6 : iblk m c 6 t = nm (φ := .bf16) fun r l => I.D (512 * tb t.val + r) l := by
  obtain ⟨_, _, _, _, _, _, ⟨a0, a1⟩, _⟩ := idx t
  have e : V m c main_v13 = nm (φ := .bf16) I.D := by
    rw [(prep m c).2.2.2.1, H.d]
    exact congrArg (fun x : FVec Ideal S4096x512 .f32 => truncf .bf16 x bitsLt_bf16_f32) (flat3 _)
  funext j
  show V m c main_v13 (((cfg0.win 6).blk t).view.emb j) = _
  rw [e]
  exact congrArg Real.toEReal (congrArg₂ I.D (by show win0_6.index t (0 : Fin 2) * 512 + 1 * (j 0).val = 512 * tb t.val + (j 0).val; unfold tb; omega) (by show win0_6.index t (1 : Fin 2) * 512 + 1 * (j 1).val = (j 1).val; omega))

end Cert.SwaBwdIdeal.Run

end
-- ==== Proof.SwaBwd.Ref.lean ====
/-
  The sliding-window gradient's plain reference over the reals: the windows of keys and values, a row's masked scores and their maximum,
  and what the row's cotangents come to.
-/
module

public import proofs.«01_k».proof.Proof.SwaBwd.Data
public import proofs.«01_k».proof.Proof.LiftFour
public import proofs.«01_k».proof.Proof.Gen.SwaBwdRefIdeal.Read

@[expose] public section

set_option maxRecDepth 16384
set_option maxHeartbeats 4000000

noncomputable section

namespace Cert.SwaBwd

open Finset (range)
open scoped BigOperators

theorem sum_prb (M : ℕ → Prop) [DecidablePred M] (s : ℕ → ℝ) (z : ℝ) : ∑ c ∈ range 256, prb M s z c + psk M s z = 1 := by
  unfold prb psk
  rw [← Finset.sum_div, ← add_div]
  exact div_self (den_pos M s z).ne'

/-- A block's window: the block before and the block itself, with zeros before the first. -/
def wn (X : ℕ → ℕ → ℝ) (b n c g d : ℕ) : ℝ := if n = 0 ∧ c < 128 then 0 else X (2048 * b + 128 * n + c - 128) (64 * g + d)

theorem wn_krow (X : ℕ → ℕ → ℝ) {b n c r : ℕ} (g d : ℕ) (h : win n r c) (hc : c < 256) : wn X b n c g d = X (krow b n c) (64 * g + d) := by
  unfold win at h
  unfold wn krow
  rw [if_neg (by omega)]
  by_cases hn : n = 0
  · rw [if_pos hn]; exact congrArg (X · _) (by omega)
  · rw [if_neg hn]; exact congrArg (X · _) (by omega)

namespace Ins
variable (I : Ins) (b n H r c : ℕ)
def sW : ℝ := (∑ d ∈ range 64, I.Q (2048 * b + 128 * n + r) (64 * H + d) * wn I.K b n c (H / 4) d) * (1 / 8)
def pW : ℝ := ∑ d ∈ range 64, I.D (2048 * b + 128 * n + r) (64 * H + d) * wn I.V b n c (H / 4) d
def rW : ℝ := prb (win n r) (I.sW b n H r) (I.z H) c
def lW : ℝ := del (win n r) (I.sW b n H r) (I.pW b n H r) (I.z H)
def dW : ℝ := dsc (win n r) (I.sW b n H r) (I.pW b n H r) (I.z H) c

theorem sW_eq {c : ℕ} (hc : c < 256) (h : win n r c) : I.sW b n H r c = I.sc b n H r c :=
  congrArg (· * (1 / 8 : ℝ)) (Finset.sum_congr rfl fun d _ => by rw [wn_krow _ _ _ h hc])
theorem pW_eq {c : ℕ} (hc : c < 256) (h : win n r c) : I.pW b n H r c = I.dp b n H r c :=
  Finset.sum_congr rfl fun d _ => by rw [wn_krow _ _ _ h hc]
theorem rW_eq {c : ℕ} (hc : c < 256) : I.rW b n H r c = I.pr b n H r c :=
  prb_congr _ _ _ (fun _ _ => Iff.rfl) (fun _ hc h => I.sW_eq b n H r hc h) c hc
theorem psk_eq : psk (win n r) (I.sW b n H r) (I.z H) = I.ps b n H r :=
  congrArg (Real.exp (I.z H) / ·) (den_congr _ _ _ (fun _ _ => Iff.rfl) fun _ hc h => I.sW_eq b n H r hc h)
theorem lW_eq : I.lW b n H r = I.dl b n H r :=
  del_congr _ _ _ _ (fun _ _ => Iff.rfl) (fun _ hc h => I.sW_eq b n H r hc h) fun _ hc h => I.pW_eq b n H r hc h
theorem dW_eq {c : ℕ} (hc : c < 256) : I.dW b n H r c = I.ds b n H r c :=
  dsc_congr _ _ _ _ (fun _ _ => Iff.rfl) (fun _ hc h => I.sW_eq b n H r hc h) (fun _ hc h => I.pW_eq b n H r hc h) c hc
end Ins

end Cert.SwaBwd

namespace Cert.SwaBwdRefIdeal.Ref

open Cert.SwaBwdRefIdeal Cert.SwaBwdRefIdeal.Gen Cert.SwaBwdRefIdeal.Read Cert.Lift Cert.SwaBwd
open Cert.SwaBwdIdeal.Run (and_bits)
open Cert.QkGradIdeal.Host0 (heads8 heads2)
open Idealize.ShloMosaic Idealize.ShloMosaic.ValueIdx
open Finset (range)
open scoped BigOperators

theorem eighth : Ideal.ofBits .f32 0x3E000000#32 = ((1 / 8 : ℝ) : EReal) := by
  simp [Ideal.ofBits, Ideal.ieee]
  rw [← EReal.coe_mul]
  norm_num

/-! ## Windows -/

section windows
variable (X : ℕ → ℕ → ℝ)

theorem v1_eq (i : S2x16x128x2x64.Idx) : val_main_v1 (F := Ideal) (heads2 X) i
    = ((X (2048 * (i 0).val + 128 * (i 1).val + (i 2).val) (64 * (i 3).val + (i 4).val) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 64 := (i 4).isLt
  rw [val_main_v1_apply]
  refine congrArg Real.toEReal (congrArg₂ X ?_ ?_)
  · show 2048 * ((((((i 0).val * 16 + (i 1).val) * 128 + (i 2).val) * 2 + (i 3).val) * 64 + (i 4).val) / 262144) + (((((i 0).val * 16 + (i 1).val) * 128 + (i 2).val) * 2 + (i 3).val) * 64 + (i 4).val) / 128 % 2048 = _
    omega
  · show 64 * ((((((i 0).val * 16 + (i 1).val) * 128 + (i 2).val) * 2 + (i 3).val) * 64 + (i 4).val) / 64 % 2) + (((((i 0).val * 16 + (i 1).val) * 128 + (i 2).val) * 2 + (i 3).val) * 64 + (i 4).val) % 64 = _
    omega

theorem v6_eq (i : S2x16x128x2x64.Idx) : val_main_v6 (F := Ideal) (heads2 X) i = ((wn X (i 0).val (i 1).val (i 2).val (i 3).val (i 4).val : ℝ) : EReal) := by
  have h2 : (i 2).val < 128 := (i 2).isLt
  have h1 : (i 1).val < 16 := (i 1).isLt
  unfold val_main_v6 wn
  by_cases h : (i 1).val = 0
  · rw [if_pos ⟨h, h2⟩]
    refine (concatenate_apply_piece (1 : Fin S2x16x128x2x64.rank) _ _ i 0 (by exact Nat.succ_pos 1) S2x1x128x2x64 (val_main_v4 (F := Ideal)) rfl rfl 0 rfl (ix5 (i 0) (0 : Fin 1) (i 2) (i 3) (i 4)) (fun b hb => ?_) h.symm).trans ?_
    · match b with
      | ⟨0, _⟩ => rfl
      | ⟨1, _⟩ => exact absurd rfl hb
      | ⟨2, _⟩ => rfl
      | ⟨3, _⟩ => rfl
      | ⟨4, _⟩ => rfl
    · rw [val_main_v4_apply]; exact Ideal.ofBits_zero_f32
  · rw [if_neg (by omega)]
    refine (concatenate_apply_piece (1 : Fin S2x16x128x2x64.rank) _ _ i 1 (by exact Nat.lt_succ_self 1) S2x15x128x2x64 (val_main_v5 (F := Ideal) (heads2 X)) rfl rfl 1 rfl (ix5 (i 0) (⟨(i 1).val - 1, by omega⟩ : Fin 15) (i 2) (i 3) (i 4)) (fun b hb => ?_) (by show 1 + ((i 1).val - 1) = (i 1).val; omega)).trans ?_
    · match b with
      | ⟨0, _⟩ => rfl
      | ⟨1, _⟩ => exact absurd rfl hb
      | ⟨2, _⟩ => rfl
      | ⟨3, _⟩ => rfl
      | ⟨4, _⟩ => rfl
    · rw [val_main_v5_apply, v1_eq]
      refine congrArg Real.toEReal (congrArg₂ X ?_ rfl)
      show 2048 * (i 0).val + 128 * ((i 1).val - 1) + (i 2).val = _
      omega

theorem v13_eq (i : S2x16x256x2x64.Idx) : val_main_v13 (F := Ideal) (heads2 X) i = ((wn X (i 0).val (i 1).val (i 2).val (i 3).val (i 4).val : ℝ) : EReal) := by
  have h2 : (i 2).val < 256 := (i 2).isLt
  unfold val_main_v13
  by_cases h : (i 2).val < 128
  · refine (concatenate_apply_piece (2 : Fin S2x16x256x2x64.rank) _ _ i 0 (by exact Nat.succ_pos 1) S2x16x128x2x64 (val_main_v6 (F := Ideal) (heads2 X)) rfl rfl 0 rfl (ix5 (i 0) (i 1) (⟨(i 2).val, h⟩ : Fin 128) (i 3) (i 4)) (fun b hb => ?_) (Nat.zero_add _)).trans ?_
    · match b with
      | ⟨0, _⟩ => rfl
      | ⟨1, _⟩ => rfl
      | ⟨2, _⟩ => exact absurd rfl hb
      | ⟨3, _⟩ => rfl
      | ⟨4, _⟩ => rfl
    · exact v6_eq X _
  · refine (concatenate_apply_piece (2 : Fin S2x16x256x2x64.rank) _ _ i 1 (by exact Nat.lt_succ_self 1) S2x16x128x2x64 (val_main_v1 (F := Ideal) (heads2 X)) rfl rfl 128 rfl (ix5 (i 0) (i 1) (⟨(i 2).val - 128, by omega⟩ : Fin 128) (i 3) (i 4)) (fun b hb => ?_) (by show 128 + ((i 2).val - 128) = (i 2).val; omega)).trans ?_
    · match b with
      | ⟨0, _⟩ => rfl
      | ⟨1, _⟩ => rfl
      | ⟨2, _⟩ => exact absurd rfl hb
      | ⟨3, _⟩ => rfl
      | ⟨4, _⟩ => rfl
    · rw [v1_eq]
      unfold wn
      rw [if_neg (by omega)]
      refine congrArg Real.toEReal (congrArg₂ X ?_ rfl)
      show 2048 * (i 0).val + 128 * (i 1).val + ((i 2).val - 128) = _
      omega

theorem v14_eq (i : S2x16x256x2x64.Idx) : val_main_v14 (F := Ideal) (heads2 X) i = ((wn X (i 0).val (i 1).val (i 2).val (i 3).val (i 4).val : ℝ) : EReal) :=
  (show val_main_v14 (F := Ideal) (heads2 X) i = val_main_v13 (F := Ideal) (heads2 X) i from rfl).trans (v13_eq X i)

theorem v0_eq (i : S2x16x128x2x4x64.Idx) : val_main_v0 (F := Ideal) (heads8 X) i
    = ((X (2048 * (i 0).val + 128 * (i 1).val + (i 2).val) (64 * (4 * (i 3).val + (i 4).val) + (i 5).val) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 4 := (i 4).isLt
  have h5 : (i 5).val < 64 := (i 5).isLt
  unfold val_main_v0
  refine (shapeCast_apply _ _ i (ix4 (⟨(i 0).val, h0⟩ : Fin 2) (⟨128 * (i 1).val + (i 2).val, by omega⟩ : Fin 2048) (⟨4 * (i 3).val + (i 4).val, by omega⟩ : Fin 8) (⟨(i 5).val, h5⟩ : Fin 64)) ?_).trans ?_
  · rw [Shape.rowMajor_val_four, Shape.rowMajor_val_six]
    show (((i 0).val * 2048 + (128 * (i 1).val + (i 2).val)) * 8 + (4 * (i 3).val + (i 4).val)) * 64 + (i 5).val
      = (((((i 0).val * 16 + (i 1).val) * 128 + (i 2).val) * 2 + (i 3).val) * 4 + (i 4).val) * 64 + (i 5).val
    omega
  · refine congrArg Real.toEReal (congrArg₂ X ?_ rfl)
    show 2048 * (i 0).val + (128 * (i 1).val + (i 2).val) = _
    omega

theorem v86_eq (i : S2x16x128x2x4x64.Idx) : val_main_v86 (F := Ideal) (q3 (φ := .f32) fun b s l => X (2048 * b + s) l) i
    = ((X (2048 * (i 0).val + 128 * (i 1).val + (i 2).val) (64 * (4 * (i 3).val + (i 4).val) + (i 5).val) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 4 := (i 4).isLt
  have h5 : (i 5).val < 64 := (i 5).isLt
  unfold val_main_v86
  refine (shapeCast_apply _ _ i (ix3 (⟨(i 0).val, h0⟩ : Fin 2) (⟨128 * (i 1).val + (i 2).val, by omega⟩ : Fin 2048) (⟨64 * (4 * (i 3).val + (i 4).val) + (i 5).val, by omega⟩ : Fin 512)) ?_).trans ?_
  · rw [Shape.rowMajor_val_three, Shape.rowMajor_val_six]
    show ((i 0).val * 2048 + (128 * (i 1).val + (i 2).val)) * 512 + (64 * (4 * (i 3).val + (i 4).val) + (i 5).val)
      = (((((i 0).val * 16 + (i 1).val) * 128 + (i 2).val) * 2 + (i 3).val) * 4 + (i 4).val) * 64 + (i 5).val
    omega
  · refine congrArg Real.toEReal (congrArg₂ X ?_ rfl)
    show 2048 * (i 0).val + (128 * (i 1).val + (i 2).val) = _
    omega
end windows

/-- The mask. -/
theorem v37_eq (i : S16x128x256.Idx) : val_main_v37 (F := Ideal) i = BitVec.ofBool (decide (win (i 0).val (i 1).val (i 2).val)) := by
  have h0 : (i 0).val < 16 := (i 0).isLt
  have h1 : (i 1).val < 128 := (i 1).isLt
  have h2 : (i 2).val < 256 := (i 2).isLt
  show (BitVec.ofBool (BitVec.sle 0#32 (BitVec.ofNat 32 (i 1).val + 128#32 - BitVec.ofNat 32 (i 2).val)) &&& BitVec.ofBool (BitVec.slt (BitVec.ofNat 32 (i 1).val + 128#32 - BitVec.ofNat 32 (i 2).val) 128#32))
    &&& BitVec.ofBool (BitVec.sle 0#32 (BitVec.ofNat 32 (i 0).val * 128#32 - 128#32 + BitVec.ofNat 32 (i 2).val)) = _
  unfold BitVec.sle BitVec.slt
  rw [and_bits, and_bits]
  refine congrArg BitVec.ofBool (decide_eq_decide.mpr ?_)
  simp only [BitVec.toInt_eq_toNat_cond, BitVec.toNat_sub, BitVec.toNat_add, BitVec.toNat_mul, BitVec.toNat_ofNat]
  unfold win
  generalize (i 0).val = n at *
  generalize (i 1).val = r at *
  generalize (i 2).val = c at *
  norm_num
  omega

/-! ## A row -/

variable (I : Ins)

abbrev xz : FVec Ideal S8 .f32 := up fun i => I.z (i 0).val
abbrev xd : FVec Ideal S2x2048x512 .f32 := q3 fun b s l => I.D (2048 * b + s) l

theorem v18_eq (i : S2x16x2x4x128x256.Idx) : val_main_v18 (F := Ideal) (heads8 I.Q) (heads2 I.K) i
    = ((I.sW (i 0).val (i 1).val (4 * (i 2).val + (i 3).val) (i 4).val (i 5).val : ℝ) : EReal) := by
  have h3 : (i 3).val < 4 := (i 3).isLt
  rw [val_main_v18_apply, val_main_v16_apply, val_main_v15_apply, val_main_v17_apply]
  show _ * Ideal.ofBits .f32 0x3E000000#32 = _
  unfold Ins.sW
  rw [eighth, EReal.coe_mul]
  refine congrArg (· * ((1 / 8 : ℝ) : EReal)) ?_
  rw [← Fin.sum_univ_eq_sum_range (fun d => _ * _), coe_sum]
  refine Finset.sum_congr rfl fun d _ => ?_
  rw [v13_eq, v0_eq, ← EReal.coe_mul, mul_comm, show (4 * (i 2).val + (i 3).val) / 4 = (i 2).val by omega]

theorem v88_eq (i : S2x16x2x4x128x256.Idx) : val_main_v88 (F := Ideal) (heads2 I.V) (xd I) i
    = ((I.pW (i 0).val (i 1).val (4 * (i 2).val + (i 3).val) (i 4).val (i 5).val : ℝ) : EReal) := by
  have h3 : (i 3).val < 4 := (i 3).isLt
  rw [val_main_v88_apply]
  unfold Ins.pW
  rw [← Fin.sum_univ_eq_sum_range (fun d => _ * _), coe_sum]
  refine Finset.sum_congr rfl fun d _ => ?_
  rw [v14_eq, val_main_v87_apply, v86_eq, ← EReal.coe_mul, show (4 * (i 2).val + (i 3).val) / 4 = (i 2).val by omega]

theorem v39_bit (i : S2x16x2x4x128x256.Idx) : val_main_v39_1 (F := Ideal) i = BitVec.ofBool (decide (win (i 1).val (i 4).val (i 5).val)) := by
  rw [val_main_v39_1_apply, val_main_v38_apply, v37_eq]

theorem v39_eq (i : S2x16x2x4x128x256.Idx) : val_main_v39_0 (F := Ideal) (heads8 I.Q) (heads2 I.K) i
    = if win (i 1).val (i 4).val (i 5).val then ((I.sW (i 0).val (i 1).val (4 * (i 2).val + (i 3).val) (i 4).val (i 5).val : ℝ) : EReal) else ⊥ := by
  show Scalar.select (val_main_v39_1 (F := Ideal) i) (val_main_v18 (F := Ideal) (heads8 I.Q) (heads2 I.K) i) (val_main_call0_v2 (F := Ideal) i) = _
  rw [v39_bit, v18_eq, val_main_call0_v2_apply]
  have e : Ideal.ofBits .f32 0xFF800000#32 = ⊥ := by simp [Ideal.ofBits, Ideal.ieee]
  by_cases h : win (i 1).val (i 4).val (i 5).val
  · rw [if_pos h]; simp [h, Scalar.select]
  · rw [if_neg h]; simp [h, Scalar.select]; exact e

end Cert.SwaBwdRefIdeal.Ref

end
-- ==== Proof.SwaBwd.RefRow.lean ====
/-
  A row of the sliding-window gradient's reference: its maximum, its exponentials, and what its cotangents come to.
-/
module

public import proofs.«01_k».proof.Proof.SwaBwd.Ref

@[expose] public section

set_option maxRecDepth 16384
set_option maxHeartbeats 4000000

noncomputable section

namespace Cert.SwaBwdRefIdeal.Ref

open Cert.SwaBwdRefIdeal Cert.SwaBwdRefIdeal.Gen Cert.SwaBwdRefIdeal.Read Cert.Lift Cert.SwaBwd
open Cert.SwaBwdIdeal.Run (and_bits)
open Cert.QkGradIdeal.Host0 (heads8 heads2)
open Idealize.ShloMosaic Idealize.ShloMosaic.ValueIdx
open Finset (range)
open scoped BigOperators

variable (I : Ins)

/-- A trailing axis of size one is no axis. -/
theorem cast_last (h : S2x16x2x4x128.ShapeCasts S2x16x2x4x128x1) (x : FVec Ideal S2x16x2x4x128 .f32) (i : S2x16x2x4x128x1.Idx) : shapeCast S2x16x2x4x128x1 x h i = x (ix5 (i 0) (i 1) (i 2) (i 3) (i 4)) := by
  have h5 : (i 5).val < 1 := (i 5).isLt
  refine shapeCast_apply x h i _ ?_
  rw [Shape.rowMajor_val_five, Shape.rowMajor_val_six]
  show ((((i 0).val * 16 + (i 1).val) * 2 + (i 2).val) * 4 + (i 3).val) * 128 + (i 4).val = (((((i 0).val * 16 + (i 1).val) * 2 + (i 2).val) * 4 + (i 3).val) * 128 + (i 4).val) * 1 + (i 5).val
  omega

/-- A row's largest score is that of one of its keys. -/
theorem v42_top (j : S2x16x2x4x128.Idx) : ∃ k : Fin 256, val_main_v42 (F := Ideal) (heads8 I.Q) (heads2 I.K) j
      = val_main_v39_0 (F := Ideal) (heads8 I.Q) (heads2 I.K) (idx_main_v47 j k)
    ∧ val_main_v42 (F := Ideal) (heads8 I.Q) (heads2 I.K) j = ((I.sW (j 0).val (j 1).val (4 * (j 2).val + (j 3).val) (j 4).val k.val : ℝ) : EReal) := by
  have h4 : (j 4).val < 128 := (j 4).isLt
  have e : val_main_v42 (F := Ideal) (heads8 I.Q) (heads2 I.K) j
      = (Finset.univ : Finset (Fin 256)).sup fun k => val_main_v39_0 (F := Ideal) (heads8 I.Q) (heads2 I.K) (idx_main_v47 j k) := by
    unfold val_main_v42
    rw [Host.reduce_eq_fold_single _ _ _ reducesTo_S2x16x2x4x128x256_S2x16x2x4x128_d5 (by decide)]
    have eb : val_main_cst_10 (F := Ideal) (Shape.Idx.first h_S_) = (⊥ : EReal) := by
      show Ideal.ofBits .f32 0xFF800000#32 = ⊥
      simp [Ideal.ofBits, Ideal.ieee]
    rw [eb]
    refine Finset.fold_congr fun k _ => ?_
    exact congrArg (val_main_v39_0 (F := Ideal) (heads8 I.Q) (heads2 I.K)) (funext fun a => Fin.ext (by match a with | ⟨0, _⟩ => rfl | ⟨1, _⟩ => rfl | ⟨2, _⟩ => rfl | ⟨3, _⟩ => rfl | ⟨4, _⟩ => rfl | ⟨5, _⟩ => rfl))
  obtain ⟨k, -, hk⟩ := Finset.exists_mem_eq_sup (Finset.univ : Finset (Fin 256)) Finset.univ_nonempty fun k => val_main_v39_0 (F := Ideal) (heads8 I.Q) (heads2 I.K) (idx_main_v47 j k)
  have hm := Finset.le_sup (f := fun k => val_main_v39_0 (F := Ideal) (heads8 I.Q) (heads2 I.K) (idx_main_v47 j k)) (Finset.mem_univ (⟨128 + (j 4).val, by omega⟩ : Fin 256))
  refine ⟨k, e.trans hk, ?_⟩
  rw [e, hk]
  rw [hk] at hm
  dsimp only at hm ⊢
  rw [v39_eq, if_pos (show win (j 1).val (j 4).val (128 + (j 4).val) by unfold win; omega)] at hm
  rw [v39_eq] at hm ⊢
  by_cases h : win (j 1).val (j 4).val k.val
  · exact if_pos h
  · rw [if_neg h] at hm
    exact absurd (le_bot_iff.mp hm) (EReal.coe_ne_bot _)

/-- A row's largest score. -/
def mx (b n H r : ℕ) : ℝ := EReal.toReal (val_main_v42 (F := Ideal) (heads8 I.Q) (heads2 I.K)
  (ix5 (⟨b % 2, by omega⟩ : Fin 2) (⟨n % 16, by omega⟩ : Fin 16) (⟨H / 4 % 2, by omega⟩ : Fin 2) (⟨H % 4, by omega⟩ : Fin 4) (⟨r % 128, by omega⟩ : Fin 128)))

theorem v42_eq (j : S2x16x2x4x128.Idx) : val_main_v42 (F := Ideal) (heads8 I.Q) (heads2 I.K) j = ((mx I (j 0).val (j 1).val (4 * (j 2).val + (j 3).val) (j 4).val : ℝ) : EReal) := by
  obtain ⟨k, -, hk⟩ := v42_top I j
  have h0 : (j 0).val < 2 := (j 0).isLt
  have h1 : (j 1).val < 16 := (j 1).isLt
  have h2 : (j 2).val < 2 := (j 2).isLt
  have h3 : (j 3).val < 4 := (j 3).isLt
  have h4 : (j 4).val < 128 := (j 4).isLt
  unfold mx
  have e : (ix5 (⟨(j 0).val % 2, by omega⟩ : Fin 2) (⟨(j 1).val % 16, by omega⟩ : Fin 16) (⟨(4 * (j 2).val + (j 3).val) / 4 % 2, by omega⟩ : Fin 2) (⟨(4 * (j 2).val + (j 3).val) % 4, by omega⟩ : Fin 4)
      (⟨(j 4).val % 128, by omega⟩ : Fin 128) : S2x16x2x4x128.Idx) = j := by
    funext a; apply Fin.ext
    match a with
    | ⟨0, _⟩ => exact Nat.mod_eq_of_lt h0
    | ⟨1, _⟩ => exact Nat.mod_eq_of_lt h1
    | ⟨2, _⟩ => show (4 * (j 2).val + (j 3).val) / 4 % 2 = (j 2).val; omega
    | ⟨3, _⟩ => show (4 * (j 2).val + (j 3).val) % 4 = (j 3).val; omega
    | ⟨4, _⟩ => exact Nat.mod_eq_of_lt h4
  rw [e, hk, EReal.toReal_coe]

/-- The larger of it and the sink, and the row's exponentials. -/
def mz (b n H r : ℕ) : ℝ := max (mx I b n H r) (I.z H)
def ex (b n H r c : ℕ) : ℝ := if win n r c then Real.exp (I.sW b n H r c - mz I b n H r) else 0
def ez (b n H r : ℕ) : ℝ := Real.exp (I.z H - mz I b n H r)
def dn (b n H r : ℕ) : ℝ := ∑ c ∈ range 256, ex I b n H r c + ez I b n H r

theorem dn_pos (b n H r : ℕ) : 0 < dn I b n H r :=
  add_pos_of_nonneg_of_pos (Finset.sum_nonneg fun c _ => by unfold ex; split <;> positivity) (Real.exp_pos _)
theorem ex_dn (b n H r c : ℕ) : ex I b n H r c * (1 / dn I b n H r) = I.rW b n H r c := prb_shift (win n r) (I.sW b n H r) (I.z H) (mz I b n H r) c
theorem ez_dn (b n H r : ℕ) : ez I b n H r * (1 / dn I b n H r) = I.ps b n H r := (psk_shift (win n r) (I.sW b n H r) (I.z H) (mz I b n H r)).trans (I.psk_eq b n H r)

theorem v41_eq (i : S1x1x2x4x1x1.Idx) : val_main_v41 (F := Ideal) (xz I) i = ((I.z (4 * (i 2).val + (i 3).val) : ℝ) : EReal) := by
  rw [val_main_v41_apply, val_main_v40_apply]
  refine congrArg (fun n => ((I.z n : ℝ) : EReal)) ?_
  show (i 2).val * 4 + (i 3).val = _
  omega

theorem v50_eq (i : S2x16x2x4x128x1.Idx) : val_main_v50 (F := Ideal) (heads8 I.Q) (heads2 I.K) (xz I) i = ((mz I (i 0).val (i 1).val (4 * (i 2).val + (i 3).val) (i 4).val : ℝ) : EReal) := by
  rw [val_main_v50_apply, val_main_v48_apply, val_main_v49_apply, v42_eq, v41_eq]
  exact coe_max _ _

theorem v71_eq (i : S2x16x2x4x128x256.Idx) : val_main_v71 (F := Ideal) (heads8 I.Q) (heads2 I.K) (xz I) i
    = ((ex I (i 0).val (i 1).val (4 * (i 2).val + (i 3).val) (i 4).val (i 5).val : ℝ) : EReal) := by
  rw [val_main_v71_apply, val_main_v70_apply, val_main_v69_apply, v50_eq, v39_eq]
  unfold ex
  by_cases h : win (i 1).val (i 4).val (i 5).val
  · rw [if_pos h, if_pos h]; rfl
  · rw [if_neg h, if_neg h]
    refine (show _ = Ideal.exp ((⊥ : EReal) - ((mz I (i 0).val (i 1).val (4 * (i 2).val + (i 3).val) (i 4).val : ℝ) : EReal)) from rfl).trans ?_
    rw [EReal.bot_sub]; rfl

theorem v76_eq (i : S2x16x2x4x128x1.Idx) : val_main_v76 (F := Ideal) (heads8 I.Q) (heads2 I.K) (xz I) i
    = ((ez I (i 0).val (i 1).val (4 * (i 2).val + (i 3).val) (i 4).val : ℝ) : EReal) := by
  rw [val_main_v76_apply, val_main_v75_apply, val_main_v74_apply, v50_eq, v41_eq]
  rfl

theorem zero_const : Ideal.ofBits .f32 0x00000000#32 = ((0 : ℝ) : EReal) := Ideal.ofBits_zero_f32

/-- A sum of a row from zero. -/
theorem row_sum (f : ℕ → ℝ) (y : Fin 256 → EReal) (h : ∀ k, y k = ((f k.val : ℝ) : EReal)) : Ideal.ofBits .f32 0x00000000#32 + ∑ k, y k = ((∑ c ∈ range 256, f c : ℝ) : EReal) := by
  rw [Ideal.ofBits_zero_f32, zero_add, ← Fin.sum_univ_eq_sum_range, coe_sum]
  exact Finset.sum_congr rfl fun k _ => h k

theorem v77_eq (i : S2x16x2x4x128x1.Idx) : val_main_v77 (F := Ideal) (heads8 I.Q) (heads2 I.K) (xz I) i
    = ((dn I (i 0).val (i 1).val (4 * (i 2).val + (i 3).val) (i 4).val : ℝ) : EReal) := by
  rw [val_main_v77_apply, val_main_v73_apply, val_main_v72_apply, v76_eq]
  refine (congrArg (· + _) (row_sum (fun c => ex I (i 0).val (i 1).val (4 * (i 2).val + (i 3).val) (i 4).val c) _ fun k => v71_eq I _)).trans ?_
  exact (EReal.coe_add _ _).symm

theorem v79_eq (i : S2x16x2x4x128x256.Idx) : val_main_v79 (F := Ideal) (heads8 I.Q) (heads2 I.K) (xz I) i
    = ((I.rW (i 0).val (i 1).val (4 * (i 2).val + (i 3).val) (i 4).val (i 5).val : ℝ) : EReal) := by
  rw [val_main_v79_apply, val_main_v78_apply, v77_eq, v71_eq, ← ex_dn]
  exact (Ideal.div_coe (dn_pos I _ _ _ _).ne' _).trans (EReal.coe_mul _ _).symm

theorem v82_eq (i : S2x16x2x4x128x1.Idx) : val_main_v82 (F := Ideal) (heads8 I.Q) (heads2 I.K) (xz I) i
    = ((1 / (dn I (i 0).val (i 1).val (4 * (i 2).val + (i 3).val) (i 4).val * dn I (i 0).val (i 1).val (4 * (i 2).val + (i 3).val) (i 4).val) : ℝ) : EReal) := by
  have h := (dn_pos I (i 0).val (i 1).val (4 * (i 2).val + (i 3).val) (i 4).val).ne'
  rw [val_main_v82_apply, val_main_v80_apply, v77_eq]
  have e1 : val_main_v81 (F := Ideal) i = ((1 : ℝ) : EReal) := by
    rw [val_main_v81_apply]
    show Ideal.ofBits .f32 0x3F800000#32 = _
    simp [Ideal.ofBits, Ideal.ieee]
    rw [← EReal.coe_mul]
    norm_num
  rw [e1]
  show Ideal.div ((1 : ℝ) : EReal) (_ * _) = _
  rw [← EReal.coe_mul, Ideal.div_coe (mul_ne_zero h h), ← EReal.coe_mul, one_mul]

theorem v96_eq (i : S2x16x2x4x128x1.Idx) : val_main_v96 (F := Ideal) (heads8 I.Q) (heads2 I.K) (heads2 I.V) (xz I) (xd I) i
    = ((-(1 / dn I (i 0).val (i 1).val (4 * (i 2).val + (i 3).val) (i 4).val * I.lW (i 0).val (i 1).val (4 * (i 2).val + (i 3).val) (i 4).val) : ℝ) : EReal) := by
  rw [val_main_v96_apply]
  show -_ = _
  rw [EReal.coe_neg]
  refine congrArg (- ·) ?_
  unfold val_main_v95
  refine (cast_last _ _ i).trans ?_
  rw [val_main_v94_apply]
  refine (row_sum (fun c => I.pW (i 0).val (i 1).val (4 * (i 2).val + (i 3).val) (i 4).val c * (1 / (dn I (i 0).val (i 1).val (4 * (i 2).val + (i 3).val) (i 4).val * dn I (i 0).val (i 1).val (4 * (i 2).val + (i 3).val) (i 4).val))
    * ex I (i 0).val (i 1).val (4 * (i 2).val + (i 3).val) (i 4).val c) _ fun k => ?_).trans (congrArg Real.toEReal ?_)
  · rw [val_main_v93_apply, val_main_v92_apply, val_main_v91_apply, v82_eq, v88_eq, v71_eq]
    show _ * _ * _ = _
    rw [← EReal.coe_mul, ← EReal.coe_mul]
  · unfold Ins.lW del
    rw [Finset.mul_sum]
    refine Finset.sum_congr rfl fun c _ => ?_
    rw [show prb _ _ _ c = I.rW (i 0).val (i 1).val (4 * (i 2).val + (i 3).val) (i 4).val c from rfl, ← ex_dn]
    have h := (dn_pos I (i 0).val (i 1).val (4 * (i 2).val + (i 3).val) (i 4).val).ne'
    field_simp

theorem v99_eq (i : S2x16x2x4x128x1.Idx) : val_main_v99 (F := Ideal) (heads8 I.Q) (heads2 I.K) (heads2 I.V) (xz I) (xd I) i
    = ((-(I.ps (i 0).val (i 1).val (4 * (i 2).val + (i 3).val) (i 4).val * I.lW (i 0).val (i 1).val (4 * (i 2).val + (i 3).val) (i 4).val) : ℝ) : EReal) := by
  rw [val_main_v99_apply, v96_eq, v76_eq, ← ez_dn]
  show _ * _ = _
  rw [← EReal.coe_mul]
  exact congrArg Real.toEReal (by ring)

theorem v106_eq (i : S2x16x2x4x128x256.Idx) : val_main_v106 (F := Ideal) (heads8 I.Q) (heads2 I.K) (heads2 I.V) (xz I) (xd I) i
    = ((I.dW (i 0).val (i 1).val (4 * (i 2).val + (i 3).val) (i 4).val (i 5).val : ℝ) : EReal) := by
  rw [val_main_v106_apply, val_main_v105_apply, val_main_v98_apply, val_main_v97_apply, val_main_v104_apply, val_main_v103_apply, v77_eq, v88_eq, v71_eq]
  have e : val_main_cst_22 (F := Ideal) (Shape.Idx.first h_S_) + ∑ k : Fin 1, val_main_v96 (F := Ideal) (heads8 I.Q) (heads2 I.K) (heads2 I.V) (xz I) (xd I) (idx_main_v103 (idx_main_v104 i) k)
      = ((-(1 / dn I (i 0).val (i 1).val (4 * (i 2).val + (i 3).val) (i 4).val * I.lW (i 0).val (i 1).val (4 * (i 2).val + (i 3).val) (i 4).val) : ℝ) : EReal) := by
    rw [Fin.sum_univ_one, v96_eq]
    exact (congrArg (· + _) Ideal.ofBits_zero_f32).trans (zero_add _)
  rw [e]
  show (Ideal.div _ _ + _) * _ = _
  rw [Ideal.div_coe (dn_pos I _ _ _ _).ne', ← EReal.coe_mul, ← EReal.coe_add, ← EReal.coe_mul]
  refine congrArg Real.toEReal ?_
  show _ = I.rW (i 0).val (i 1).val (4 * (i 2).val + (i 3).val) (i 4).val (i 5).val * (I.pW (i 0).val (i 1).val (4 * (i 2).val + (i 3).val) (i 4).val (i 5).val - I.lW (i 0).val (i 1).val (4 * (i 2).val + (i 3).val) (i 4).val)
  rw [← ex_dn]
  ring

/-- What reaches a row's maximum is zero. -/
theorem v110_eq (i : S2x16x2x4x128x1.Idx) : val_main_v110 (F := Ideal) (heads8 I.Q) (heads2 I.K) (heads2 I.V) (xz I) (xd I) i = 0 := by
  rw [val_main_v110_apply, val_main_v102_apply, v99_eq]
  have e : val_main_v109 (F := Ideal) (heads8 I.Q) (heads2 I.K) (heads2 I.V) (xz I) (xd I) i
      = ((∑ c ∈ range 256, -I.dW (i 0).val (i 1).val (4 * (i 2).val + (i 3).val) (i 4).val c : ℝ) : EReal) := by
    unfold val_main_v109
    refine (cast_last _ _ i).trans ?_
    rw [val_main_v108_apply]
    refine row_sum (fun c => -I.dW (i 0).val (i 1).val (4 * (i 2).val + (i 3).val) (i 4).val c) _ fun k => ?_
    rw [val_main_v107_apply, v106_eq]
    exact (EReal.coe_neg _).symm
  rw [e]
  show -_ + _ = _
  rw [← EReal.coe_neg, ← EReal.coe_add, ← EReal.coe_zero]
  refine congrArg Real.toEReal ?_
  generalize (i 0).val = b
  generalize (i 1).val = n
  generalize 4 * (i 2).val + (i 3).val = H
  generalize (i 4).val = r
  have h1 := sum_prb (win n r) (I.sW b n H r) (I.z H)
  rw [I.psk_eq b n H r] at h1
  have h2 : ∑ c ∈ range 256, -I.dW b n H r c = -(I.lW b n H r) + (∑ c ∈ range 256, prb (win n r) (I.sW b n H r) (I.z H) c) * I.lW b n H r := by
    rw [Finset.sum_neg_distrib, Finset.sum_mul]
    unfold Ins.dW dsc
    simp only [mul_sub]
    rw [Finset.sum_sub_distrib]
    show -(I.lW b n H r - _) = _
    unfold Ins.lW
    ring
  rw [h2, eq_sub_of_add_eq h1]
  ring

theorem v117_eq (j : S2x16x2x4x128.Idx) : val_main_v117 (F := Ideal) (heads8 I.Q) (heads2 I.K) (heads2 I.V) (xz I) (xd I) j = 0 := by
  rw [val_main_v117_apply, val_main_v116_apply, Fin.sum_univ_one, val_main_v115_apply, v110_eq]
  have e0 : val_main_cst_25 (F := Ideal) (Shape.Idx.first h_S_) + FloatOps.mulf (F := Ideal) (φ := .f32) (0 : EReal) (val_main_v59 (F := Ideal) (heads8 I.Q) (heads2 I.K) (xz I) (idx_main_v116 j 0)) = (0 : EReal) := by
    show Ideal.ofBits .f32 0x00000000#32 + 0 * _ = (0 : EReal)
    rw [Ideal.ofBits_zero_f32, zero_mul, zero_add]
  rw [e0]
  have hb : ∀ k : Fin 256, ∃ y : ℝ, 0 ≤ y ∧ val_main_v46 (F := Ideal) (heads8 I.Q) (heads2 I.K) (idx_main_v47 j k) = (y : EReal) := fun k => ⟨_, Nat.cast_nonneg _, rfl⟩
  choose y hy0 hy using hb
  obtain ⟨k, hk, -⟩ := v42_top I j
  have hyk : y k = 1 := by
    have e := (hy k).symm
    rw [val_main_v46_apply, val_main_v45_apply, val_main_v44_apply] at e
    have e2 : val_main_v43 (F := Ideal) (heads8 I.Q) (heads2 I.K) (idx_main_v44 (idx_main_v47 j k)) = val_main_v39_0 (F := Ideal) (heads8 I.Q) (heads2 I.K) (idx_main_v47 j k) :=
      (cast_last _ _ _).trans (hk ▸ congrArg (val_main_v42 (F := Ideal) (heads8 I.Q) (heads2 I.K)) (funext fun a => Fin.ext (by match a with | ⟨0, _⟩ => rfl | ⟨1, _⟩ => rfl | ⟨2, _⟩ => rfl | ⟨3, _⟩ => rfl | ⟨4, _⟩ => rfl)))
    rw [e2] at e
    have e3 : FloatOps.cmpf (F := Ideal) (φ := .f32) .oeq (val_main_v39_0 (F := Ideal) (heads8 I.Q) (heads2 I.K) (idx_main_v47 j k)) (val_main_v39_0 (F := Ideal) (heads8 I.Q) (heads2 I.K) (idx_main_v47 j k)) = 1#1 := by
      show BitVec.ofBool (decide (_ = _)) = 1#1
      rw [decide_eq_true rfl]; rfl
    rw [e3] at e
    have e4 : ((y k : ℝ) : EReal) = ((1 : ℝ) : EReal) := e.trans (congrArg Real.toEReal Nat.cast_one)
    exact EReal.coe_injective e4
  have hs : val_main_v47 (F := Ideal) (heads8 I.Q) (heads2 I.K) j = ((∑ k, y k : ℝ) : EReal) := by
    rw [val_main_v47_apply, coe_sum]
    exact (congrArg₂ (· + ·) Ideal.ofBits_zero_f32 (Finset.sum_congr rfl fun k _ => hy k)).trans (zero_add _)
  have hp : (∑ k, y k : ℝ) ≠ 0 := (lt_of_lt_of_le (hyk ▸ zero_lt_one : 0 < y k) (Finset.single_le_sum (fun k _ => hy0 k) (Finset.mem_univ k))).ne'
  rw [hs]
  exact (Ideal.div_coe hp _).trans (zero_mul _)

theorem v125_eq (i : S2x16x2x4x128x256.Idx) : val_main_v125 (F := Ideal) (heads8 I.Q) (heads2 I.K) (heads2 I.V) (xz I) (xd I) i
    = ((I.ds (i 0).val (i 1).val (4 * (i 2).val + (i 3).val) (i 4).val (i 5).val * (1 / 8) : ℝ) : EReal) := by
  have h5 : (i 5).val < 256 := (i 5).isLt
  rw [val_main_v125_apply, val_main_v124_apply, EReal.coe_mul]
  refine congrArg₂ (fun x y : EReal => x * y) ?_ eighth
  rw [← I.dW_eq _ _ _ _ h5]
  show Scalar.select (val_main_v39_1 (F := Ideal) i) (val_main_v120 (F := Ideal) (heads8 I.Q) (heads2 I.K) (heads2 I.V) (xz I) (xd I) i) (val_main_call1_v0 (F := Ideal) i) = _
  rw [v39_bit, val_main_v120_apply, val_main_v119_apply, val_main_v118_apply, v117_eq, v106_eq]
  by_cases h : win (i 1).val (i 4).val (i 5).val
  · rw [decide_eq_true h]
    refine (show _ = ((I.dW (i 0).val (i 1).val (4 * (i 2).val + (i 3).val) (i 4).val (i 5).val : ℝ) : EReal) + 0 * val_main_v46 (F := Ideal) (heads8 I.Q) (heads2 I.K) i from rfl).trans ?_
    rw [zero_mul, add_zero]
  · rw [decide_eq_false h]
    refine (show _ = Ideal.ofBits .f32 0x00000000#32 from val_main_call1_v0_apply i).trans ?_
    rw [Ideal.ofBits_zero_f32]
    unfold Ins.dW
    rw [dsc_off _ _ _ _ _ h, EReal.coe_zero]

end Cert.SwaBwdRefIdeal.Ref

end
-- ==== Proof.SwaBwd.RefOut.lean ====
/-
  The four results of the sliding-window gradient's reference over the reals.
-/
module

public import proofs.«01_k».proof.Proof.SwaBwd.RefRow
public import Idealize.ShloMosaic.Lib.TwoAxisContraction
public import Idealize.ShloMosaic.Lib.KernelVsHost

@[expose] public section

set_option maxRecDepth 16384
set_option maxHeartbeats 4000000

noncomputable section

namespace Cert.SwaBwdRefIdeal.Ref

open Cert.SwaBwdRefIdeal Cert.SwaBwdRefIdeal.Gen Cert.SwaBwdRefIdeal.Read Cert.Lift Cert.SwaBwd
open Cert.QkGradIdeal.Host0 (heads8 heads2)
open Idealize.ShloMosaic Idealize.ShloMosaic.ValueIdx
open Finset (range)
open scoped BigOperators

variable (I : Ins)

/-- The four heads of a group, and the two blocks that a key stands in. -/
def kW (P : ℕ → ℕ → ℕ → ℕ → ℕ → ℝ) (b n g c d : ℕ) : ℝ := ∑ j ∈ range 4, P b n (4 * g + j) c d
def kTot (P : ℕ → ℕ → ℕ → ℕ → ℕ → ℝ) (b n c g d : ℕ) : ℝ := kW P b n g (128 + c) d + if n < 15 then kW P b (1 + n) g c d else 0

theorem v126_eq (i : S2x16x2x256x128x4.Idx) : val_main_v126 (F := Ideal) (heads8 I.Q) (heads2 I.K) (heads2 I.V) (xz I) (xd I) i
    = ((I.ds (i 0).val (i 1).val (4 * (i 2).val + (i 5).val) (i 4).val (i 3).val * (1 / 8) : ℝ) : EReal) :=
  (val_main_v126_apply _ _ _ _ _ i).trans (v125_eq I _)

theorem v87_eq (i : S2x16x2x64x4x128.Idx) : val_main_v87 (F := Ideal) (xd I) i
    = ((I.D (2048 * (i 0).val + 128 * (i 1).val + (i 5).val) (64 * (4 * (i 2).val + (i 4).val) + (i 3).val) : ℝ) : EReal) :=
  (val_main_v87_apply _ i).trans (v86_eq I.D _)

/-! ## The queries' gradient -/

theorem v127_eq (i : S2x16x2x128x4x64.Idx) : val_main_v127 (F := Ideal) (heads8 I.Q) (heads2 I.K) (heads2 I.V) (xz I) (xd I) i
    = (((∑ c ∈ range 256, I.ds (i 0).val (i 1).val (4 * (i 2).val + (i 4).val) (i 3).val c * I.K (krow (i 0).val (i 1).val c) (64 * (i 2).val + (i 5).val)) * (1 / 8) : ℝ) : EReal) := by
  rw [val_main_v127_apply, Finset.sum_mul, ← Fin.sum_univ_eq_sum_range (fun c => _ * _ * _), coe_sum]
  refine Finset.sum_congr rfl fun c _ => ?_
  rw [v126_eq, v13_eq, ← EReal.coe_mul]
  refine congrArg Real.toEReal ?_
  show I.ds (i 0).val (i 1).val (4 * (i 2).val + (i 4).val) (i 3).val c.val * (1 / 8) * wn I.K (i 0).val (i 1).val c.val (i 2).val (i 5).val = _
  by_cases h : win (i 1).val (i 3).val c.val
  · rw [wn_krow _ _ _ h c.isLt]; ring
  · rw [show I.ds (i 0).val (i 1).val (4 * (i 2).val + (i 4).val) (i 3).val c.val = 0 from dsc_off _ _ _ _ _ h]; ring

theorem v145_eq (i : S2x2048x8x64.Idx) : val_main_v145 (F := Ideal) (heads8 I.Q) (heads2 I.K) (heads2 I.V) (xz I) (xd I) i
    = (((∑ c ∈ range 256, I.ds (i 0).val ((i 1).val / 128) (i 2).val ((i 1).val % 128) c * I.K (krow (i 0).val ((i 1).val / 128) c) (64 * ((i 2).val / 4) + (i 3).val)) * (1 / 8) : ℝ) : EReal) := by
  have h0 : (i 0).val < 2 := (i 0).isLt
  have h1 : (i 1).val < 2048 := (i 1).isLt
  have h2 : (i 2).val < 8 := (i 2).isLt
  have h3 : (i 3).val < 64 := (i 3).isLt
  unfold val_main_v145
  refine (shapeCast_apply _ _ i (ix6 (⟨(i 0).val, h0⟩ : Fin 2) (⟨(i 1).val / 128, by omega⟩ : Fin 16) (⟨(i 1).val % 128, by omega⟩ : Fin 128) (⟨(i 2).val / 4, by omega⟩ : Fin 2) (⟨(i 2).val % 4, by omega⟩ : Fin 4)
    (⟨(i 3).val, h3⟩ : Fin 64)) ?_).trans ?_
  · rw [Shape.rowMajor_val_four, Shape.rowMajor_val_six]
    show (((((i 0).val * 16 + (i 1).val / 128) * 128 + (i 1).val % 128) * 2 + (i 2).val / 4) * 4 + (i 2).val % 4) * 64 + (i 3).val = (((i 0).val * 2048 + (i 1).val) * 8 + (i 2).val) * 64 + (i 3).val
    omega
  · rw [val_main_v128_apply, v127_eq]
    refine congrArg Real.toEReal ?_
    show (∑ c ∈ range 256, I.ds (i 0).val ((i 1).val / 128) (4 * ((i 2).val / 4) + (i 2).val % 4) ((i 1).val % 128) c * I.K (krow (i 0).val ((i 1).val / 128) c) (64 * ((i 2).val / 4) + (i 3).val)) * (1 / 8) = _
    rw [Nat.div_add_mod]

theorem v146_eq : val_main_v146 (F := Ideal) (heads8 I.Q) (heads2 I.K) (heads2 I.V) (xz I) (xd I) = nm (φ := .f32) fun R l => I.dQ l R := by
  funext i
  have h0 : (i 0).val < 4096 := (i 0).isLt
  have h1 : (i 1).val < 512 := (i 1).isLt
  rw [val_main_v146_apply, v145_eq]
  refine congrArg Real.toEReal ?_
  have e0 : (idx_main_v146 i 0).val = (i 0).val / 2048 := by show ((i 0).val * 512 + (i 1).val) / 1048576 = _; omega
  have e1 : (idx_main_v146 i 1).val = (i 0).val % 2048 := by show ((i 0).val * 512 + (i 1).val) / 512 % 2048 = _; omega
  have e2 : (idx_main_v146 i 2).val = (i 1).val / 64 := by show ((i 0).val * 512 + (i 1).val) / 64 % 8 = _; omega
  have e3 : (idx_main_v146 i 3).val = (i 1).val % 64 := by show ((i 0).val * 512 + (i 1).val) % 64 = _; omega
  rw [e0, e1, e2, e3, show (i 1).val / 64 / 4 = (i 1).val / 256 by omega, show (i 0).val % 2048 % 128 = (i 0).val % 128 by omega]
  rfl

/-! ## The keys' and values' gradients -/

abbrev lK (i : S2x16x2x256x64.Idx) (r : Fin 128) (j : Fin 4) : S2x16x2x256x128x4.Idx := ix6 (i 0) (i 1) (i 2) (i 3) r j
abbrev rK (i : S2x16x2x256x64.Idx) (r : Fin 128) (j : Fin 4) : S2x16x128x2x4x64.Idx := ix6 (i 0) (i 1) r (i 2) j (i 4)
abbrev lV (i : S2x16x2x64x256.Idx) (j : Fin 4) (r : Fin 128) : S2x16x2x64x4x128.Idx := ix6 (i 0) (i 1) (i 2) (i 3) j r
abbrev rV (i : S2x16x2x64x256.Idx) (j : Fin 4) (r : Fin 128) : S2x16x2x4x128x256.Idx := ix6 (i 0) (i 1) (i 2) j r (i 4)

theorem dotK (x : FVec Ideal S2x16x2x256x128x4 .f32) (y : FVec Ideal S2x16x128x2x4x64 .f32) (i : S2x16x2x256x64.Idx) :
    Host.dotGeneral dot_S2x16x2x256x128x4_S2x16x128x2x4x64_S2x16x2x256x64_45_24_3_5_012_013 none x y i = ∑ r : Fin 128, ∑ j : Fin 4, x (lK i r j) * y (rK i r j) := by
  simp only [Host.dotGeneral]
  rw [Ideal.dotGeneral_apply, sum_contr2 dot_S2x16x2x256x128x4_S2x16x128x2x4x64_S2x16x2x256x64_45_24_3_5_012_013 128 4 rfl rfl rfl]
  refine Finset.sum_congr rfl fun r _ => Finset.sum_congr rfl fun j _ => ?_
  have q0 := contrEquiv2_symm_val0 dot_S2x16x2x256x128x4_S2x16x128x2x4x64_S2x16x2x256x64_45_24_3_5_012_013 128 4 rfl rfl rfl (r, j)
  have q1 := contrEquiv2_symm_val1 dot_S2x16x2x256x128x4_S2x16x128x2x4x64_S2x16x2x256x64_45_24_3_5_012_013 128 4 rfl rfl rfl (r, j)
  generalize (contrEquiv2 dot_S2x16x2x256x128x4_S2x16x128x2x4x64_S2x16x2x256x64_45_24_3_5_012_013 128 4 rfl rfl rfl).symm (r, j) = q at *
  refine congrArg₂ (fun a b : EReal => a * b) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact q0
    | ⟨5, _⟩ => exact q1
  · match a with
    | ⟨0, _⟩ => rfl
    | ⟨1, _⟩ => rfl
    | ⟨2, _⟩ => exact q0
    | ⟨3, _⟩ => rfl
    | ⟨4, _⟩ => exact q1
    | ⟨5, _⟩ => rfl

theorem dotV (x : FVec Ideal S2x16x2x64x4x128 .f32) (y : FVec Ideal S2x16x2x4x128x256 .f32) (i : S2x16x2x64x256.Idx) :
    Host.dotGeneral dot_S2x16x2x64x4x128_S2x16x2x4x128x256_S2x16x2x64x256_45_34_3_5_012_012 none x y i = ∑ j : Fin 4, ∑ r : Fin 128, x (lV i j r) * y (rV i j r) := by
  simp only [Host.dotGeneral]
  rw [Ideal.dotGeneral_apply, sum_contr2 dot_S2x16x2x64x4x128_S2x16x2x4x128x256_S2x16x2x64x256_45_34_3_5_012_012 4 128 rfl rfl rfl]
  refine Finset.sum_congr rfl fun j _ => Finset.sum_congr rfl fun r _ => ?_
  have q0 := contrEquiv2_symm_val0 dot_S2x16x2x64x4x128_S2x16x2x4x128x256_S2x16x2x64x256_45_34_3_5_012_012 4 128 rfl rfl rfl (j, r)
  have q1 := contrEquiv2_symm_val1 dot_S2x16x2x64x4x128_S2x16x2x4x128x256_S2x16x2x64x256_45_34_3_5_012_012 4 128 rfl rfl rfl (j, r)
  generalize (contrEquiv2 dot_S2x16x2x64x4x128_S2x16x2x4x128x256_S2x16x2x64x256_45_34_3_5_012_012 4 128 rfl rfl rfl).symm (j, r) = q at *
  refine congrArg₂ (fun a b : EReal => a * b) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => exact q0
    | ⟨5, _⟩ => exact q1
  · match a with
    | ⟨0, _⟩ => rfl
    | ⟨1, _⟩ => rfl
    | ⟨2, _⟩ => rfl
    | ⟨3, _⟩ => exact q0
    | ⟨4, _⟩ => exact q1
    | ⟨5, _⟩ => rfl

theorem v129_eq (i : S2x16x2x256x64.Idx) : val_main_v129 (F := Ideal) (heads8 I.Q) (heads2 I.K) (heads2 I.V) (xz I) (xd I) i
    = ((kW I.kPart (i 0).val (i 1).val (i 2).val (i 3).val (i 4).val : ℝ) : EReal) := by
  unfold val_main_v129
  refine (dotK _ _ i).trans ?_
  rw [Finset.sum_comm]
  unfold kW
  rw [← Fin.sum_univ_eq_sum_range (fun j => I.kPart _ _ (_ + j) _ _), coe_sum]
  refine Finset.sum_congr rfl fun j _ => ?_
  unfold Ins.kPart
  rw [← Fin.sum_univ_eq_sum_range (fun r => _ * _), coe_sum]
  refine Finset.sum_congr rfl fun r _ => ?_
  rw [v126_eq, v0_eq, ← EReal.coe_mul]
  refine congrArg Real.toEReal ?_
  show I.ds (i 0).val (i 1).val (4 * (i 2).val + j.val) r.val (i 3).val * (1 / 8) * I.Q (2048 * (i 0).val + 128 * (i 1).val + r.val) (64 * (4 * (i 2).val + j.val) + (i 4).val) = _
  ring

theorem v89_eq (i : S2x16x2x64x256.Idx) : val_main_v89 (F := Ideal) (heads8 I.Q) (heads2 I.K) (xz I) (xd I) i
    = ((kW I.vPart (i 0).val (i 1).val (i 2).val (i 4).val (i 3).val : ℝ) : EReal) := by
  have h4 : (i 4).val < 256 := (i 4).isLt
  unfold val_main_v89
  refine (dotV _ _ i).trans ?_
  unfold kW
  rw [← Fin.sum_univ_eq_sum_range (fun j => I.vPart _ _ (_ + j) _ _), coe_sum]
  refine Finset.sum_congr rfl fun j _ => ?_
  unfold Ins.vPart
  rw [← Fin.sum_univ_eq_sum_range (fun r => _ * _), coe_sum]
  refine Finset.sum_congr rfl fun r _ => ?_
  rw [v87_eq, v79_eq, ← EReal.coe_mul, mul_comm]
  refine congrArg Real.toEReal ?_
  rw [← I.rW_eq _ _ _ _ h4]

/-- A block of zeros after the fifteen. -/
theorem pad_last (y : FVec Ideal S2x15x128x2x64 .f32) (Y : ℕ → ℕ → ℕ → ℕ → ℕ → ℝ) (hy : ∀ i : S2x15x128x2x64.Idx, y i = ((Y (i 0).val (i 1).val (i 2).val (i 3).val (i 4).val : ℝ) : EReal))
    (v : FVec Ideal S_ .f32) (hv : ∀ j, v j = 0) (h : S2x15x128x2x64.Pads ![0, 0, 0, 0, 0] ![0, 1, 0, 0, 0] ![0, 0, 0, 0, 0] S2x16x128x2x64) (hu : 0 < S_.numel) (i : S2x16x128x2x64.Idx) :
    pad S2x16x128x2x64 ![0, 0, 0, 0, 0] ![0, 1, 0, 0, 0] ![0, 0, 0, 0, 0] y v h hu i = ((if (i 1).val < 15 then Y (i 0).val (i 1).val (i 2).val (i 3).val (i 4).val else 0 : ℝ) : EReal) := by
  by_cases hi : (i 1).val < 15
  · rw [if_pos hi]
    exact (pad_apply_of_inside _ _ _ _ _ _ _ i (ix5 (i 0) (⟨(i 1).val, hi⟩ : Fin 15) (i 2) (i 3) (i 4)) (fun x => match x with
        | ⟨0, _⟩ => by show (i 0).val = 0 + (i 0).val * (0 + 1); omega
        | ⟨1, _⟩ => by show (i 1).val = 0 + (i 1).val * (0 + 1); omega
        | ⟨2, _⟩ => by show (i 2).val = 0 + (i 2).val * (0 + 1); omega
        | ⟨3, _⟩ => by show (i 3).val = 0 + (i 3).val * (0 + 1); omega
        | ⟨4, _⟩ => by show (i 4).val = 0 + (i 4).val * (0 + 1); omega)).trans (hy _)
  · rw [if_neg hi]
    refine (pad_apply_of_not_inside _ _ _ _ _ _ _ i (1 : Fin 5) (fun hin => hi ?_)).trans (hv _)
    have h3 : ((i 1).val - 0) / (0 + 1) < 15 := hin.2.2
    omega

theorem v142_eq (i : S2x16x128x2x64.Idx) : val_main_v142 (F := Ideal) (heads8 I.Q) (heads2 I.K) (heads2 I.V) (xz I) (xd I) i
    = ((kTot I.kPart (i 0).val (i 1).val (i 2).val (i 3).val (i 4).val : ℝ) : EReal) := by
  rw [val_main_v142_apply]
  unfold kTot
  rw [EReal.coe_add]
  refine congrArg₂ (fun a b : EReal => a + b) ((val_main_v134_apply _ _ _ _ _ i).trans ((val_main_v130_apply _ _ _ _ _ _).trans (v129_eq I _))) ?_
  exact pad_last _ (fun b n c g d => kW I.kPart b (1 + n) g c d) (fun k => (val_main_v140_apply _ _ _ _ _ k).trans ((val_main_v133_apply _ _ _ _ _ _).trans ((val_main_v130_apply _ _ _ _ _ _).trans (v129_eq I _))))
    _ (fun _ => Ideal.ofBits_zero_f32) _ _ i

theorem v138_eq (i : S2x16x128x2x64.Idx) : val_main_v138 (F := Ideal) (heads8 I.Q) (heads2 I.K) (xz I) (xd I) i
    = ((kTot I.vPart (i 0).val (i 1).val (i 2).val (i 3).val (i 4).val : ℝ) : EReal) := by
  rw [val_main_v138_apply]
  unfold kTot
  rw [EReal.coe_add]
  refine congrArg₂ (fun a b : EReal => a + b) ((val_main_v132_apply _ _ _ _ i).trans ((val_main_v90_apply _ _ _ _ _).trans (v89_eq I _))) ?_
  exact pad_last _ (fun b n c g d => kW I.vPart b (1 + n) g c d) (fun k => (val_main_v136_apply _ _ _ _ k).trans ((val_main_v131_apply _ _ _ _ _).trans ((val_main_v90_apply _ _ _ _ _).trans (v89_eq I _))))
    _ (fun _ => Ideal.ofBits_zero_f32) _ _ i

/-- Rows joined. -/
theorem join_rows (P : ℕ → ℕ → ℕ → ℕ → ℕ → ℝ) (y : FVec Ideal S2x16x128x2x64 .f32) (hy : ∀ i : S2x16x128x2x64.Idx, y i = ((kTot P (i 0).val (i 1).val (i 2).val (i 3).val (i 4).val : ℝ) : EReal))
    (h : S2x16x128x2x64.ShapeCasts S2x2048x2x64) : shapeCast S2x2048x2x64 y h = q4 (φ := .f32) fun b s g d => kTot P b (s / 128) (s % 128) g d := by
  funext i
  have h0 : (i 0).val < 2 := (i 0).isLt
  have h1 : (i 1).val < 2048 := (i 1).isLt
  refine (shapeCast_apply y h i (ix5 (i 0) (⟨(i 1).val / 128, by omega⟩ : Fin 16) (⟨(i 1).val % 128, by omega⟩ : Fin 128) (i 2) (i 3)) ?_).trans (hy _)
  rw [Shape.rowMajor_val_four, Shape.rowMajor_val_five]
  show ((((i 0).val * 16 + (i 1).val / 128) * 128 + (i 1).val % 128) * 2 + (i 2).val) * 64 + (i 3).val = (((i 0).val * 2048 + (i 1).val) * 2 + (i 2).val) * 64 + (i 3).val
  omega

theorem v144_eq : val_main_v144 (F := Ideal) (heads8 I.Q) (heads2 I.K) (heads2 I.V) (xz I) (xd I) = q4 (φ := .f32) fun b s g d => kTot I.kPart b (s / 128) (s % 128) g d :=
  join_rows _ _ (v142_eq I) _
theorem v143_eq : val_main_v143 (F := Ideal) (heads8 I.Q) (heads2 I.K) (xz I) (xd I) = q4 (φ := .f32) fun b s g d => kTot I.vPart b (s / 128) (s % 128) g d :=
  join_rows _ _ (v138_eq I) _

/-! ## The sinks' gradient -/

theorem drop3 (h : S2x16x2x4x128x1.ReducesTo [0, 1, 4] S2x4x1) (i : S2x16x2x4x128x1.Idx) (j : S2x4x1.Idx) (e0 : (i 2).val = (j 0).val)
    (e1 : (i 3).val = (j 1).val) : h.drop i = j := by
  have i5 : (i 5).val < 1 := (i 5).isLt
  have j2 : (j 2).val < 1 := (j 2).isLt
  have e2 : (i 5).val = (j 2).val := by omega
  funext x
  fin_cases x
  · exact Fin.ext ((Shape.ReducesTo.drop_apply_val h i 0).trans e0)
  · exact Fin.ext ((Shape.ReducesTo.drop_apply_val h i 1).trans e1)
  · exact Fin.ext ((Shape.ReducesTo.drop_apply_val h i 2).trans e2)

theorem ext6 (i k : S2x16x2x4x128x1.Idx) (h0 : (i 0).val = (k 0).val) (h1 : (i 1).val = (k 1).val) (h2 : (i 2).val = (k 2).val)
    (h3 : (i 3).val = (k 3).val) (h4 : (i 4).val = (k 4).val) (h5 : (i 5).val = (k 5).val) : i = k := by
  funext x
  fin_cases x
  · exact Fin.ext h0
  · exact Fin.ext h1
  · exact Fin.ext h2
  · exact Fin.ext h3
  · exact Fin.ext h4
  · exact Fin.ext h5

theorem blocks_sum (x : FVec Ideal S2x16x2x4x128x1 .f32) (f : ℕ → ℕ → ℕ → ℕ → ℝ) (hx : ∀ i : S2x16x2x4x128x1.Idx, x i = ((f (i 0).val (i 1).val (4 * (i 2).val + (i 3).val) (i 4).val : ℝ) : EReal))
    (h : S2x16x2x4x128x1.ReducesTo [0, 1, 4] S2x4x1) (hu : 0 < S_.numel) (j : S2x4x1.Idx) :
    Host.reduceAdd (F := Ideal) x (constant (F := Ideal) S_ .f32 0x00000000#32) h hu j = ((∑ b ∈ range 2, ∑ n ∈ range 16, ∑ r ∈ range 128, f b n (4 * (j 0).val + (j 1).val) r : ℝ) : EReal) := by
  have j0 : (j 0).val < 2 := (j 0).isLt
  have j1 : (j 1).val < 4 := (j 1).isLt
  have j2 : (j 2).val < 1 := (j 2).isLt
  show Ideal.ofBits .f32 0x00000000#32 + ∑ i ∈ Finset.univ.filter (fun i => h.drop i = j), x i = _
  have e : (∑ b ∈ range 2, ∑ n ∈ range 16, ∑ r ∈ range 128, f b n (4 * (j 0).val + (j 1).val) r : ℝ) = ∑ p ∈ range 2 ×ˢ (range 16 ×ˢ range 128), f p.1 p.2.1 (4 * (j 0).val + (j 1).val) p.2.2 := by
    rw [Finset.sum_product]
    refine Finset.sum_congr rfl fun b _ => ?_
    rw [Finset.sum_product]
  rw [Ideal.ofBits_zero_f32, zero_add, e, coe_sum]
  have m0 : ∀ {p : ℕ × ℕ × ℕ}, p ∈ range 2 ×ˢ (range 16 ×ˢ range 128) → p.1 < 2 ∧ p.2.1 < 16 ∧ p.2.2 < 128 := fun hp => by
    simpa only [Finset.mem_product, Finset.mem_range] using hp
  have d : ∀ i : S2x16x2x4x128x1.Idx, i ∈ Finset.univ.filter (fun i => h.drop i = j) → (j 0).val = (i 2).val ∧ (j 1).val = (i 3).val := fun i hi => by
    have e := (Finset.mem_filter.mp hi).2
    have e0 : (h.drop i 0 : ℕ) = i 2 := Shape.ReducesTo.drop_apply_val h i 0
    have e1 : (h.drop i 1 : ℕ) = i 3 := Shape.ReducesTo.drop_apply_val h i 1
    rw [e] at e0 e1
    exact ⟨e0, e1⟩
  refine Finset.sum_bij' (fun i _ => ((i 0).val, (i 1).val, (i 4).val)) (fun p hp => ix6 (⟨p.1, (m0 hp).1⟩ : Fin 2) (⟨p.2.1, (m0 hp).2.1⟩ : Fin 16) (⟨_, j0⟩ : Fin 2) (⟨_, j1⟩ : Fin 4) (⟨p.2.2, (m0 hp).2.2⟩ : Fin 128) (⟨_, j2⟩ : Fin 1)) ?_ ?_ ?_ ?_ ?_
  · intro i _
    exact Finset.mem_product.mpr ⟨Finset.mem_range.mpr (i 0).isLt, Finset.mem_product.mpr ⟨Finset.mem_range.mpr (i 1).isLt, Finset.mem_range.mpr (i 4).isLt⟩⟩
  · intro p hp
    exact Finset.mem_filter.mpr ⟨Finset.mem_univ _, drop3 h _ j rfl rfl⟩
  · intro i hi
    have i5 : (i 5).val < 1 := (i 5).isLt
    exact ext6 _ _ rfl rfl (d i hi).1 (d i hi).2 rfl (show (j 2).val = (i 5).val by omega)
  · intro p _
    rfl
  · intro i hi
    rw [hx, (d i hi).1, (d i hi).2]

theorem v100_eq (j : S2x4x1.Idx) : val_main_v100 (F := Ideal) (heads8 I.Q) (heads2 I.K) (heads2 I.V) (xz I) (xd I) j
    = ((-∑ b ∈ range 2, ∑ n ∈ range 16, I.sPart b n (4 * (j 0).val + (j 1).val) : ℝ) : EReal) := by
  unfold val_main_v100
  refine (blocks_sum _ (fun b n H r => -(I.ps b n H r * I.lW b n H r)) (v99_eq I) _ _ j).trans (congrArg Real.toEReal ?_)
  rw [← Finset.sum_neg_distrib]
  refine Finset.sum_congr rfl fun b _ => ?_
  rw [← Finset.sum_neg_distrib]
  refine Finset.sum_congr rfl fun n _ => ?_
  unfold Ins.sPart
  rw [← Finset.sum_neg_distrib]
  refine Finset.sum_congr rfl fun r _ => ?_
  rw [I.lW_eq]

theorem v112_eq (j : S2x4x1.Idx) : val_main_v112 (F := Ideal) (heads8 I.Q) (heads2 I.K) (heads2 I.V) (xz I) (xd I) j = 0 := by
  unfold val_main_v112
  refine (blocks_sum _ (fun b n H r => 0) (fun i => ?_) _ _ j).trans ?_
  · rw [val_main_v111_apply, v110_eq]
    exact zero_mul _
  · simp only [Finset.sum_const_zero, EReal.coe_zero]

theorem v114_eq (i : S1x1x2x4x1x1.Idx) : val_main_v114 (F := Ideal) (heads8 I.Q) (heads2 I.K) (heads2 I.V) (xz I) (xd I) i
    = ((-∑ b ∈ range 2, ∑ n ∈ range 16, I.sPart b n (4 * (i 2).val + (i 3).val) : ℝ) : EReal) := by
  have h0 : (i 0).val < 1 := (i 0).isLt
  have h1 : (i 1).val < 1 := (i 1).isLt
  have h4 : (i 4).val < 1 := (i 4).isLt
  have h5 : (i 5).val < 1 := (i 5).isLt
  have k : ∀ x : FVec Ideal S2x4x1 .f32, shapeCast S1x1x2x4x1x1 x shapeCasts_S2x4x1_S1x1x2x4x1x1 i = x (ix3 (i 2) (i 3) (0 : Fin 1)) := fun x => by
    refine shapeCast_apply x _ i _ ?_
    rw [Shape.rowMajor_val_three, Shape.rowMajor_val_six]
    show ((i 2).val * 4 + (i 3).val) * 1 + 0 = (((((i 0).val * 1 + (i 1).val) * 2 + (i 2).val) * 4 + (i 3).val) * 1 + (i 4).val) * 1 + (i 5).val
    omega
  rw [val_main_v114_apply]
  refine (congrArg₂ (fun a b : EReal => a + b) ((k _).trans (v100_eq I _)) ((k _).trans (v112_eq I _))).trans ?_
  exact add_zero _

theorem v121_eq (j : S2x4.Idx) : val_main_v121 (F := Ideal) (heads8 I.Q) (heads2 I.K) (heads2 I.V) (xz I) (xd I) j
    = ((-∑ b ∈ range 2, ∑ n ∈ range 16, I.sPart b n (4 * (j 0).val + (j 1).val) : ℝ) : EReal) := by
  unfold val_main_v121
  generalize hy : val_main_v114 (F := Ideal) (heads8 I.Q) (heads2 I.K) (heads2 I.V) (xz I) (xd I) = y
  have h := reducesTo_S1x1x2x4x1x1_S2x4_d0_1_4_5
  show Ideal.ofBits .f32 0x00000000#32 + ∑ i ∈ Finset.univ.filter (fun i => h.drop i = j), y i = _
  rw [Ideal.ofBits_zero_f32, zero_add]
  have e : Finset.univ.filter (fun i => h.drop i = j) = {(ix6 (0 : Fin 1) (0 : Fin 1) (j 0) (j 1) (0 : Fin 1) (0 : Fin 1) : S1x1x2x4x1x1.Idx)} := by
    refine Finset.eq_singleton_iff_unique_mem.mpr ⟨Finset.mem_filter.mpr ⟨Finset.mem_univ _, funext fun x => Fin.ext ?_⟩, fun i hi => ?_⟩
    · match x with
      | ⟨0, _⟩ => exact Shape.ReducesTo.drop_apply_val h _ 0
      | ⟨1, _⟩ => exact Shape.ReducesTo.drop_apply_val h _ 1
    · have e := (Finset.mem_filter.mp hi).2
      have e0 : (h.drop i 0 : ℕ) = i 2 := Shape.ReducesTo.drop_apply_val h i 0
      have e1 : (h.drop i 1 : ℕ) = i 3 := Shape.ReducesTo.drop_apply_val h i 1
      rw [e] at e0 e1
      have h0 : (i 0).val < 1 := (i 0).isLt
      have h1 : (i 1).val < 1 := (i 1).isLt
      have h4 : (i 4).val < 1 := (i 4).isLt
      have h5 : (i 5).val < 1 := (i 5).isLt
      funext x
      match x with
      | ⟨0, _⟩ => exact Fin.ext (show (i 0).val = 0 by omega)
      | ⟨1, _⟩ => exact Fin.ext (show (i 1).val = 0 by omega)
      | ⟨2, _⟩ => exact Fin.ext e0.symm
      | ⟨3, _⟩ => exact Fin.ext e1.symm
      | ⟨4, _⟩ => exact Fin.ext (show (i 4).val = 0 by omega)
      | ⟨5, _⟩ => exact Fin.ext (show (i 5).val = 0 by omega)
  rw [e, Finset.sum_singleton, ← hy]
  exact v114_eq I _

theorem v122_eq : val_main_v122 (F := Ideal) (heads8 I.Q) (heads2 I.K) (heads2 I.V) (xz I) (xd I)
    = (up fun i => -∑ b ∈ range 2, ∑ n ∈ range 16, I.sPart b n (i 0).val : FVec Ideal S8 .f32) := by
  funext i
  rw [val_main_v122_apply, v121_eq, show 4 * (idx_main_v122 i 0).val + (idx_main_v122 i 1).val = (i 0).val from Nat.div_add_mod _ _]
  rfl

end Cert.SwaBwdRefIdeal.Ref

end
-- ==== Proof.SwaBwd.Outs.lean ====
/- What the points of the sliding-window backward call leave, over the reals. -/
module

public import proofs.«01_k».proof.Proof.SwaBwd.Data
public import Idealize.ShloMosaic.Lib.HeldBySlice

@[expose] public section

set_option maxRecDepth 16384
set_option maxHeartbeats 4000000

noncomputable section

namespace Cert.SwaBwd

open Finset (range)
open scoped BigOperators

/-- A key block's column: one half of the heads of each of the two pairs. -/
def kc (P : ℕ → ℕ → ℕ → ℕ → ℕ → ℝ) (b n c col : ℕ) : ℝ :=
  P b n (4 * (col / 128) + col / 64 % 2) c (col % 64) + P b n (4 * (col / 128) + 2 + col / 64 % 2) c (col % 64)

/-- A sequence's keys' gradient from 128 rows before its first: the parts of the two query blocks that see a row. -/
def kOut (P : ℕ → ℕ → ℕ → ℕ → ℕ → ℝ) (b u col : ℕ) : ℝ :=
  (if 128 ≤ u ∧ u < 2176 then kc P b (u / 128 - 1) (128 + u % 128) col else 0) + (if u < 2048 then kc P b (u / 128) (u % 128) col else 0)

/-- What is kept before point `t`. -/
def kCarry (P : ℕ → ℕ → ℕ → ℕ → ℕ → ℝ) (t r col : ℕ) : ℝ := if t % 5 = 0 then 0 else kc P (t / 5) (4 * (t % 5) - 1) (128 + r) col

/-- The sinks' gradient before point `t`. -/
def sSum (I : Ins) (t h : ℕ) : ℝ := -∑ u ∈ range t, if u % 5 = 4 then 0 else ∑ s ∈ range 4, I.sPart (u / 5) (4 * (u % 5) + s) h

theorem halves (f : ℕ → ℝ) : ∑ r ∈ range 256, f r = ∑ r ∈ range 128, f r + ∑ r ∈ range 128, f (128 + r) := Finset.sum_range_add f 128 128

variable (I : Ins) {g s i l r p : ℕ} (b : ℕ)

theorem dq_piece (hg : g < 2) (hs : s < 4) (hi : i < 4) (hp : p < 2) (hr : r < 128) (hl : l < 128) :
    (∑ c ∈ range 256, (I.sp b (4 * i + s) g).ds (l / 64) (128 * p + r) c * (I.sp b (4 * i + s) g).K c l) * (1 / 8)
      = I.dQ (128 * (2 * g + p) + l) (2048 * b + 128 * (4 * i + s) + r) := by
  unfold Ins.dQ
  refine congrArg (· * (1 / 8 : ℝ)) (Finset.sum_congr rfl fun c hc => ?_)
  rw [(I.sp_row b (4 * i + s) c hg (show l / 64 < 2 by omega) hp hr).2.2.2]
  rw [show (2048 * b + 128 * (4 * i + s) + r) / 2048 = b by omega, show (2048 * b + 128 * (4 * i + s) + r) % 2048 / 128 = 4 * i + s by omega,
    show (2048 * b + 128 * (4 * i + s) + r) % 128 = r by omega, show (128 * (2 * g + p) + l) / 64 = 4 * g + 2 * p + l / 64 by omega,
    show (128 * (2 * g + p) + l) / 256 = g by omega, show (128 * (2 * g + p) + l) % 64 = l % 64 by omega]
  rfl

theorem k_piece (hg : g < 2) (hl : l < 128) (n c : ℕ) :
    (∑ r ∈ range 256, (I.sp b n g).ds (l / 64) r c * (I.sp b n g).Q r l) = kc I.kPart b n c (128 * g + l)
    ∧ (∑ r ∈ range 256, (I.sp b n g).pr (l / 64) r c * (I.sp b n g).D r l) = kc I.vPart b n c (128 * g + l) := by
  have e : ∀ (p : ℕ), p < 2 → ∀ r ∈ range 128, (I.sp b n g).Q (128 * p + r) l = I.Q (2048 * b + 128 * n + r) (64 * (4 * g + 2 * p + l / 64) + l % 64) * (1 / 8)
      ∧ (I.sp b n g).D (128 * p + r) l = I.D (2048 * b + 128 * n + r) (64 * (4 * g + 2 * p + l / 64) + l % 64) := fun p hp r hr => by
    have hr := Finset.mem_range.mp hr
    unfold Ins.sp
    dsimp only
    rw [show (128 * p + r) % 128 = r by omega, show (128 * p + r) / 128 = p by omega, show 128 * (2 * g + p) + l = 64 * (4 * g + 2 * p + l / 64) + l % 64 by omega]
    exact ⟨rfl, rfl⟩
  have w : ∀ (p : ℕ) (hp : p < 2), ∀ r ∈ range 128, _ := fun p hp r hr => I.sp_row b n c hg (show l / 64 < 2 by omega) hp (Finset.mem_range.mp hr)
  unfold kc
  rw [show (128 * g + l) / 128 = g by omega, show (128 * g + l) / 64 % 2 = l / 64 by omega, show (128 * g + l) % 64 = l % 64 by omega]
  constructor
  · rw [halves]
    refine congrArg₂ (· + ·) (Finset.sum_congr rfl fun r hr => ?_) (Finset.sum_congr rfl fun r hr => ?_)
    · have h1 := (w 0 (by norm_num) r hr).2.2.2
      have h2 := (e 0 (by norm_num) r hr).1
      simp only [Nat.mul_zero, Nat.zero_add, Nat.add_zero] at h1 h2
      rw [h1, h2]
    · exact congrArg₂ (· * ·) (w 1 (by norm_num) r hr).2.2.2 (e 1 (by norm_num) r hr).1
  · rw [halves]
    refine congrArg₂ (· + ·) (Finset.sum_congr rfl fun r hr => ?_) (Finset.sum_congr rfl fun r hr => ?_)
    · have h1 := (w 0 (by norm_num) r hr).1
      have h2 := (e 0 (by norm_num) r hr).2
      simp only [Nat.mul_zero, Nat.zero_add, Nat.add_zero] at h1 h2
      rw [h1, h2]
    · exact congrArg₂ (· * ·) (w 1 (by norm_num) r hr).1 (e 1 (by norm_num) r hr).2

theorem kOut_first (P : ℕ → ℕ → ℕ → ℕ → ℕ → ℝ) (hi : i < 4) (hr : r < 128) (t col : ℕ) (ht : t % 5 = i) :
    kCarry P t r col + kc P (t / 5) (4 * i) r col = kOut P (t / 5) (512 * i + r) col := by
  unfold kCarry kOut
  rw [if_pos (show 512 * i + r < 2048 by omega), show (512 * i + r) / 128 = 4 * i by omega, show (512 * i + r) % 128 = r by omega]
  by_cases h : i = 0
  · rw [if_pos (by omega), if_neg (by omega)]
  · rw [if_neg (by omega), if_pos (by omega), ht]
theorem kOut_later (P : ℕ → ℕ → ℕ → ℕ → ℕ → ℝ) (hi : i < 4) (hs : s < 4) (h0 : s ≠ 0) (hr : r < 128) (col : ℕ) :
    kc P b (4 * i + (s - 1)) (128 + r) col + kc P b (4 * i + s) r col = kOut P b (512 * i + 128 * s + r) col := by
  unfold kOut
  rw [if_pos (show 512 * i + 128 * s + r < 2048 by omega), if_pos (by omega), show (512 * i + 128 * s + r) / 128 = 4 * i + s by omega, show (512 * i + 128 * s + r) % 128 = r by omega,
    show 4 * i + s - 1 = 4 * i + (s - 1) by omega]
theorem kOut_last (P : ℕ → ℕ → ℕ → ℕ → ℕ → ℝ) (t col : ℕ) (ht : t % 5 = 4) (hr : r < 512) :
    kOut P (t / 5) (2048 + r) col = if r < 128 then kCarry P t r col else 0 := by
  unfold kOut kCarry
  rw [if_neg (show ¬ 2048 + r < 2048 by omega), if_neg (show ¬ t % 5 = 0 by omega), add_zero, ht]
  by_cases h : r < 128
  · rw [if_pos h, if_pos (by omega), show (2048 + r) / 128 - 1 = 15 by omega, show (2048 + r) % 128 = r by omega]
  · rw [if_neg h, if_neg (by omega)]

end Cert.SwaBwd

namespace Cert.SwaBwdIdeal.Run

open Cert.SwaBwdIdeal Cert.SwaBwdIdeal.Gen Cert.Lift Cert.SwaBwd
open Cert.SbBwdIdeal.Val (two)
open Idealize.ShloMosaic Idealize.ShloMosaic.TcCoe Idealize.ShloMosaic.ValueIdx Idealize.ShloMosaic.Tactic Idealize.SL.Sem
open Finset (range)
open scoped BigOperators

section loads
variable {m n : ℕ} {κ : Kind} {cs : Space} {x : ℕ → ℕ → ℝ} (off : Fin 2 → Nat) (o₀ o₁ : ℕ) (ho : off = ![o₀, o₁]) (m' n' : ℕ)
  (h : ∀ a, off a + (![m', n'] : Fin 2 → Nat) a ≤ (⟨2, ![m, n]⟩ : Shape).size a)

include ho

theorem load16 (M : Memref sig κ cs ⟨2, ![m, n]⟩ .bf16) (g : M.view.ty.Contents (Elt Ideal)) (hx : M.view.read (Elt Ideal) g = (nm x : FVec Ideal ⟨2, ![m, n]⟩ .bf16)) :
    View.readAt (Elt Ideal) M.view (Rect.unit (s := ⟨2, ![m, n]⟩) off ![m', n'] h).toLoadRect g = (nm fun r c => x (o₀ + r) (o₁ + c) : FVec Ideal ⟨2, ![m', n']⟩ .bf16) := by
  subst ho; rw [View.readAt_eq_ld, View.ld_unit, hx]; exact slice_nm x o₀ o₁ _

theorem load32 (M : Memref sig κ cs ⟨2, ![m, n]⟩ .f32) (g : M.view.ty.Contents (Elt Ideal)) (hx : M.view.read (Elt Ideal) g = (nm x : FVec Ideal ⟨2, ![m, n]⟩ .f32)) :
    View.readAt (Elt Ideal) M.view (Rect.unit (s := ⟨2, ![m, n]⟩) off ![m', n'] h).toLoadRect g = (nm fun r c => x (o₀ + r) (o₁ + c) : FVec Ideal ⟨2, ![m', n']⟩ .f32) := by
  subst ho; rw [View.readAt_eq_ld, View.ld_unit, hx]; exact slice_nm x o₀ o₁ _
end loads

/-! ## The sinks' updates -/

/-- An update goes over what an earlier one of the same row left, or is the row's first. -/
def inOrder : List (Fin 8 × Bool) → Bool
  | [] => true
  | (h, f) :: l => (if f then l.all fun e => !decide (e.1 = h) else l.any fun e => decide (e.1 = h)) && inOrder l

/-- A row's value after the updates. -/
def upd (X : Fin 8 → EReal) (h : Fin 8) : List (Fin 8 × EReal × Bool) → EReal
  | [] => X h
  | e :: l => if e.1 = h then upd X h l - e.2.1 else upd X h l

theorem upd_none (X : Fin 8 → EReal) (h : Fin 8) : ∀ (l : List (Fin 8 × EReal × Bool)), (l.map fun e => (e.1, e.2.2)).all (fun e => !decide (e.1 = h)) → upd X h l = X h
  | [], _ => rfl
  | e :: l, hl => by
    rw [List.map_cons, List.all_cons, Bool.and_eq_true] at hl
    unfold upd
    rw [if_neg (by simpa using hl.1), upd_none X h l hl.2]

section sinks
variable (a : Memref sig .tc .vmem S8x128 .f32) (ha : a.IsWhole) (x : FVec Ideal S8x128 .f32) (X : Fin 8 → EReal) (hX : ∀ h j, x (ix2 h j) = X h)

theorem row_idx (h : Fin 8) (j : Fin 128) : (Rect.unit (s := S8x128) ![h.val, 0] S1x128.size (inb_row h)).toLoadRect.idx (ix2 (0 : Fin 1) j) = ix2 h j := by
  funext k; apply Fin.ext
  match k with
  | ⟨0, _⟩ => show h.val + 1 * 0 = h.val; omega
  | ⟨1, _⟩ => show 0 + 1 * j.val = j.val; omega

theorem sink_cover (h : Fin 8) (j : Fin 128) : ∀ (l : List (Fin 8 × EReal × Bool)), (l.map fun e => (e.1, e.2.2)).any (fun e => decide (e.1 = h)) →
    ∃ p ∈ sinkL (F := Ideal) a ha x l, ix2 h j ∈ p.1.set
  | [], hl => absurd hl (by simp)
  | (h', y, f) :: l, hl => by
    by_cases e : h' = h
    · subst e
      unfold sinkL
      refine ⟨_, List.mem_cons_self, (Rect.mem_set_unit (s := S8x128) (off := ![h'.val, 0]) (size := S1x128.size) (inb := inb_row h')).mpr fun k => ?_⟩
      match k with
      | ⟨0, _⟩ => exact ⟨Nat.le_refl _, Nat.lt_succ_self _⟩
      | ⟨1, _⟩ => exact ⟨Nat.zero_le _, (Nat.zero_add _).symm ▸ j.isLt⟩
    · rw [List.map_cons, List.any_cons, Bool.or_eq_true] at hl
      obtain ⟨p, hp, hy⟩ := sink_cover h j l (hl.resolve_left (by simpa using e))
      refine ⟨p, ?_, hy⟩
      unfold sinkL
      exact List.mem_cons_of_mem _ hp

include hX in
theorem sink_read (h : Fin 8) (j : Fin 128) : ∀ (l : List (Fin 8 × EReal × Bool)), inOrder (l.map fun e => (e.1, e.2.2)) →
    a.view.read (Elt Ideal) (a.view.writes (Elt Ideal) (ha.unread x) (sinkL (F := Ideal) a ha x l)) (ix2 h j) = upd X h l
  | [], _ => (congrFun (ha.read_unread (Val := Elt Ideal) x) (ix2 h j)).trans (hX h j)
  | (h', y, f) :: l, hl => by
    rw [List.map_cons, inOrder, Bool.and_eq_true] at hl
    have ih := sink_read h j l hl.2
    unfold sinkL upd
    dsimp only
    by_cases e : h' = h
    · subst e
      rw [if_pos rfl]
      refine (View.read_writes_cons_unit_of_mem _ _ _ _ _ (ix2 h' j) (ix2 (0 : Fin 1) j) rfl (fun k => match k with
        | ⟨0, _⟩ => (Nat.add_zero _).symm
        | ⟨1, _⟩ => (Nat.zero_add _).symm)).trans ?_
      refine (congrFun (congrArg (fun v : FVec Ideal S1x128 .f32 => subf v (broadcast S1x128 (α := EReal) y)) (shapeCast_self _ _)) (ix2 (0 : Fin 1) j)).trans ?_
      show _ - y = _
      refine congrArg (· - y) ?_
      cases f with
      | true =>
        rw [upd_none X h' l hl.1]
        show a.view.read (Elt Ideal) (ha.unread x) ((Rect.unit (s := S8x128) ![h'.val, 0] S1x128.size (inb_row h')).toLoadRect.idx (ix2 (0 : Fin 1) j)) = _
        rw [row_idx, ha.read_unread]
        exact hX h' j
      | false =>
        rw [← ih]
        show a.view.read (Elt Ideal) _ ((Rect.unit (s := S8x128) ![h'.val, 0] S1x128.size (inb_row h')).toLoadRect.idx (ix2 (0 : Fin 1) j)) = _
        rw [row_idx]
        exact View.read_writes_apply_eq _ _ _ _ _ _ (sink_cover a ha x h' j l hl.1)
    · rw [if_neg e]
      refine (View.read_writes_cons_unit_of_not_mem _ _ _ _ _ (ix2 h j) rfl (0 : Fin 2) ?_).trans ih
      show h.val < h'.val ∨ h'.val + 1 ≤ h.val
      have : h'.val ≠ h.val := fun e' => e (Fin.ext e')
      omega
end sinks

theorem sinks_inOrder (B : Fin 2 → Fin 4 → Blk Ideal) : inOrder ((sinks B).map fun e => (e.1, e.2.2)) = true := rfl
theorem sinks_upd (B : Fin 2 → Fin 4 → Blk Ideal) (X : Fin 8 → EReal) (g hh pr : Fin 2) :
    upd X ⟨4 * g.val + 2 * pr.val + hh.val, by omega⟩ (sinks B) = X ⟨4 * g.val + 2 * pr.val + hh.val, by omega⟩ - (B g 0).part hh pr - (B g 1).part hh pr - (B g 2).part hh pr - (B g 3).part hh pr := by
  fin_cases g <;> fin_cases hh <;> fin_cases pr <;> rfl

/-! ## A point's blocks -/

variable {m : (ℓ : Loc nD τ sig) → Buf (Elt Ideal) ℓ} {c : Dev nD} {I : Ins} (H : Real m c I) (t : Fin cfg0.N) (s : St Ideal)

abbrev blkAt (m : (ℓ : Loc nD τ sig) → Buf (Elt Ideal) ℓ) (c : Dev nD) (t : Fin cfg0.N) : Fin 2 → Fin 4 → Blk Ideal :=
  blk (grid0.coords t) (st0_0 t) (hst t 0) (st0_1 t) (hst t 1) (st0_2 t) (hst t 2) (st0_3 t) (hst t 3) (st0_4 t) (hst t 4) (st0_5 t) (hst t 5) (st0_6 t) (hst t 6) (iblk m c 0 t) (iblk m c 1 t) (iblk m c 2 t) (iblk m c 3 t) (iblk m c 4 t) (iblk m c 5 t) (iblk m c 6 t)

theorem at_eqs :
    (rowsAt m c t s).1 = dqL (blkAt m c t) ∧ (rowsAt m c t s).2.1 = dkL (kept scA (Memref.isWhole_whole _) (carry1 (grid0.coords t) s.ck)) (fun g k => (blkAt m c t g k).dk)
      ∧ (rowsAt m c t s).2.2.1 = dkL (kept scB (Memref.isWhole_whole _) (carry2 (grid0.coords t) s.cv)) (fun g k => (blkAt m c t g k).dv)
      ∧ (rowsAt m c t s).2.2.2.1 = sinkL (st0_10 t) (hst t 10) (sink1 (grid0.coords t) s.ds) (sinks (blkAt m c t))
      ∧ (rowsAt m c t s).2.2.2.2.1 = ckL (fun g k => (blkAt m c t g k).dk) ∧ (rowsAt m c t s).2.2.2.2.2.1 = ckL (fun g k => (blkAt m c t g k).dv) :=
  run_eqs (grid0.coords t) (st0_0 t) (hst t 0) (st0_1 t) (hst t 1) (st0_2 t) (hst t 2) (st0_3 t) (hst t 3) (st0_4 t) (hst t 4) (st0_5 t) (hst t 5) (st0_6 t) (hst t 6) (st0_7 t) (hst t 7) (st0_8 t) (hst t 8) (st0_9 t) (hst t 9) (st0_10 t) (hst t 10) scA (Memref.isWhole_whole _) scB (Memref.isWhole_whole _) c (iblk m c 0 t) (iblk m c 1 t) (iblk m c 2 t) (iblk m c 3 t) (iblk m c 4 t) (iblk m c 5 t) (iblk m c 6 t) s.ds s.ck s.cv

theorem out_eqs :
    (outAt m c t s).1 = [⟨Rect.unit (s := S512x256) ![0, 0] S128x256.size inb_S512x256_S128x256_0_0, View.readAt (Elt Ideal) scA.view (Rect.unit (s := S128x256) ![0, 0] S128x256.size inb_S128x256_S128x256_0_0).toLoadRect ((Memref.isWhole_whole cc0_scratch0 : scA.IsWhole).unread s.ck)⟩,
        ⟨Rect.unit (s := S512x256) ![0, 0] S512x256.size inb_S512x256_S512x256_0_0, (k0_pay7 : FVec Ideal S512x256 .f32)⟩]
    ∧ (outAt m c t s).2.1 = [⟨Rect.unit (s := S512x256) ![0, 0] S128x256.size inb_S512x256_S128x256_0_0, View.readAt (Elt Ideal) scB.view (Rect.unit (s := S128x256) ![0, 0] S128x256.size inb_S128x256_S128x256_0_0).toLoadRect ((Memref.isWhole_whole cc0_scratch1 : scB.IsWhole).unread s.cv)⟩,
        ⟨Rect.unit (s := S512x256) ![0, 0] S512x256.size inb_S512x256_S512x256_0_0, (k0_pay8 : FVec Ideal S512x256 .f32)⟩] := by
  constructor <;> sl_kernel_rfl

/-- A load of the sinks. -/
theorem sink_at (x : FVec Ideal S8 .f32) (hx : x = fun i => ((I.z (i 0).val : ℝ) : EReal)) (a : Memref sig .tc .smem S8 .f32) (ha : a.IsWhole) (k : Fin 8) (j) :
    View.readAt (Elt Ideal) a.view (Rect.unit (s := S8) ![k.val] S1.size (inb_one k)).toLoadRect (ha.unread x) j = ((I.z k.val : ℝ) : EReal) := by
  show a.view.read (Elt Ideal) (ha.unread x) _ = _
  rw [ha.read_unread, hx]
  refine congrArg (fun n => ((I.z n : ℝ) : EReal)) ?_
  have : (j 0).val < 1 := (j 0).isLt
  show k.val + 1 * (j 0).val = k.val
  omega

include H in
theorem holds (ht : t.val % 5 ≠ 4) (g : Fin 2) (k : Fin 4) : Holds (blkAt m c t g k) (I.sp (t.val / 5) (4 * (t.val % 5) + k.val) g.val) := by
  have hg := g.isLt
  have hk := k.isLt
  have r1 := ((hst t 1).read_unread (iblk m c 1 t)).trans (iblk1 H t)
  have r2 := ((hst t 2).read_unread (iblk m c 2 t)).trans (iblk2 H t)
  have r3 := ((hst t 3).read_unread (iblk m c 3 t)).trans (iblk3 H t)
  have r4 := ((hst t 4).read_unread (iblk m c 4 t)).trans (iblk4 H t)
  have r5 := ((hst t 5).read_unread (iblk m c 5 t)).trans (iblk5 H t)
  have r6 := ((hst t 6).read_unread (iblk m c 6 t)).trans (iblk6 H t)
  refine ⟨?_, ?_, ?_, ?_, ?_, ?_, ?_, ?_, ?_, ?_, ?_⟩
  · unfold blkAt blk
    dsimp only
    by_cases h : k.val = 0
    · rw [if_pos h, (idx t).1, mask_first _ (by omega)]
      unfold Ins.sp
      dsimp only
      rw [h]; rfl
    · rw [if_neg h, mask_later (4 * (t.val % 5) + k.val) (by omega)]; rfl
  · unfold blkAt blk
    dsimp only
    by_cases h : k.val = 0
    · rw [if_pos h]
      refine (load16 _ _ _ rfl 128 128 _ (st0_2 t) ((hst t 2).unread (iblk m c 2 t)) r2).trans (nm_congr fun r hr l hl => ?_)
      exact congrArg₂ I.K (by unfold krow pb tb; split <;> omega) (by omega)
    · rw [if_neg h]
      refine (load16 _ _ _ rfl 128 128 _ (st0_3 t) ((hst t 3).unread (iblk m c 3 t)) r3).trans (nm_congr fun r hr l hl => ?_)
      exact congrArg₂ I.K (by unfold krow tb; split <;> omega) (by omega)
  · refine (load16 _ _ _ rfl 128 128 _ (st0_3 t) ((hst t 3).unread (iblk m c 3 t)) r3).trans (nm_congr fun r hr l hl => ?_)
    exact congrArg₂ I.K (by unfold krow tb; split <;> omega) (by omega)
  · unfold blkAt blk
    dsimp only
    by_cases h : k.val = 0
    · rw [if_pos h]
      refine (load16 _ _ _ rfl 128 128 _ (st0_4 t) ((hst t 4).unread (iblk m c 4 t)) r4).trans (nm_congr fun r hr l hl => ?_)
      exact congrArg₂ I.V (by unfold krow pb tb; split <;> omega) (by omega)
    · rw [if_neg h]
      refine (load16 _ _ _ rfl 128 128 _ (st0_5 t) ((hst t 5).unread (iblk m c 5 t)) r5).trans (nm_congr fun r hr l hl => ?_)
      exact congrArg₂ I.V (by unfold krow tb; split <;> omega) (by omega)
  · refine (load16 _ _ _ rfl 128 128 _ (st0_5 t) ((hst t 5).unread (iblk m c 5 t)) r5).trans (nm_congr fun r hr l hl => ?_)
    exact congrArg₂ I.V (by unfold krow tb; split <;> omega) (by omega)
  · refine (load16 _ _ _ rfl 128 128 _ (st0_1 t) ((hst t 1).unread (iblk m c 1 t)) r1).trans (nm_congr fun r hr l hl => congrArg (· * (1 / 8 : ℝ)) ?_)
    exact congrArg₂ I.Q (by unfold tb; omega) (by omega)
  · refine (load16 _ _ _ rfl 128 128 _ (st0_1 t) ((hst t 1).unread (iblk m c 1 t)) r1).trans (nm_congr fun r hr l hl => congrArg (· * (1 / 8 : ℝ)) ?_)
    exact congrArg₂ I.Q (by unfold tb; omega) (by omega)
  · refine (load16 _ _ _ rfl 128 128 _ (st0_6 t) ((hst t 6).unread (iblk m c 6 t)) r6).trans (nm_congr fun r hr l hl => ?_)
    exact congrArg₂ I.D (by unfold tb; omega) (by omega)
  · refine (load16 _ _ _ rfl 128 128 _ (st0_6 t) ((hst t 6).unread (iblk m c 6 t)) r6).trans (nm_congr fun r hr l hl => ?_)
    exact congrArg₂ I.D (by unfold tb; omega) (by omega)
  · intro h
    refine (sink_at _ (iblk0 H t) _ _ ⟨4 * g.val + h.val, by omega⟩ _).trans (congrArg (fun n => ((I.z n : ℝ) : EReal)) ?_)
    show 4 * g.val + h.val = 4 * g.val + 2 * 0 + h.val; omega
  · intro h
    refine (sink_at _ (iblk0 H t) _ _ ⟨4 * g.val + 2 + h.val, by omega⟩ _).trans (congrArg (fun n => ((I.z n : ℝ) : EReal)) ?_)
    show 4 * g.val + 2 + h.val = 4 * g.val + 2 * 1 + h.val; omega

/-! ## What a point leaves -/

/-- What holds of the buffers before point `t`. -/
structure Inv (I : Ins) (t : ℕ) (s : St Ideal) : Prop where
  ck : t % 5 ≠ 0 → s.ck = nm (φ := .f32) (kCarry I.kPart t)
  cv : t % 5 ≠ 0 → s.cv = nm (φ := .f32) (kCarry I.vPart t)
  ds : s.ds = nm (φ := .f32) fun h _ => sSum I t h
  dq : t % 5 = 4 → s.dq = nm (φ := .f32) fun r l => I.dQ l (512 * tb t + r)

/-- What a point leaves in the blocks. -/
structure Left (I : Ins) (t : ℕ) (s : St Ideal) : Prop where
  dq : s.dq = nm (φ := .f32) fun r l => I.dQ l (512 * tb t + r)
  dk : s.dk = nm (φ := .f32) fun r l => kOut I.kPart (t / 5) (512 * (t % 5) + r) l
  dv : s.dv = nm (φ := .f32) fun r l => kOut I.vPart (t / 5) (512 * (t % 5) + r) l

theorem sq_emb {R C : ℕ} (a b : ℕ) (ha : 128 * a + 128 ≤ R) (hb : 128 * b + 128 ≤ C) (f : ℕ → ℕ → ℝ) (x : S128x128.Idx) :
    (nm f : FVec Ideal ⟨2, ![R, C]⟩ .f32) ((Rect.unit (s := ⟨2, ![R, C]⟩) ![128 * a, 128 * b] S128x128.size (inb_sq a b ha hb)).emb x)
      = ((f (128 * a + (x 0).val) (128 * b + (x 1).val) : ℝ) : EReal) := by
  refine congrArg Real.toEReal (congrArg₂ f ?_ ?_)
  · show 128 * a + 1 * (x 0).val = _; omega
  · show 128 * b + 1 * (x 1).val = _; omega

section rows
variable (ht : t.val % 5 ≠ 4) (V : Inv I t.val s)

include H ht in
theorem dq_left : (stepRows m c t s).dq = nm (φ := .f32) fun r l => I.dQ l (512 * tb t.val + r) := by
  funext y
  refine View.read_writes_apply_of_pieces _ _ (nm (φ := .f32) fun r l => I.dQ l (512 * tb t.val + r) : FVec Ideal S512x512 .f32) _ ?_ y (cover7 m c t s y)
  rw [(at_eqs t s).1]
  intro p hp x
  have h0 : (x 0).val < p.1.size 0 := (x 0).isLt
  have h1 : (x 1).val < p.1.size 1 := (x 1).isLt
  unfold dqL at hp
  obtain ⟨⟨g, k⟩, -, hp⟩ := List.mem_flatMap.mp hp
  have hk := k.isLt
  simp only [List.mem_cons, List.not_mem_nil, or_false] at hp
  rcases hp with rfl | rfl
  · have h0 : (x 0).val < 128 := h0
    have h1 : (x 1).val < 128 := h1
    refine Eq.trans ?_ (sq_emb k.val (2 * g.val + 1) (by omega) (by omega) _ x).symm
    dsimp only
    rw [dqB_nm (holds H t ht g k)]
    refine congrArg Real.toEReal ((dq_piece I (t.val / 5) g.isLt hk (show t.val % 5 < 4 by omega) (show 1 < 2 by omega) h0 h1).trans ?_)
    exact congrArg (I.dQ _) (by unfold tb; omega)
  · have h0 : (x 0).val < 128 := h0
    have h1 : (x 1).val < 128 := h1
    refine Eq.trans ?_ (sq_emb k.val (2 * g.val) (by omega) (by omega) _ x).symm
    dsimp only
    rw [dqA_nm (holds H t ht g k)]
    have e := dq_piece I (t.val / 5) g.isLt hk (show t.val % 5 < 4 by omega) (show 0 < 2 by omega) h0 h1
    rw [Nat.mul_zero, Nat.zero_add] at e
    refine congrArg Real.toEReal (e.trans ?_)
    exact congrArg (I.dQ _) (by unfold tb; omega)

/-- The parts of the keys' (values') gradient that a block gives. -/
def Parts (D : Fin 2 → Fin 4 → FVec Ideal S512x128 .f32) (P : ℕ → ℕ → ℕ → ℕ → ℕ → ℝ) (t : ℕ) : Prop := ∀ (g : Fin 2) (k : Fin 4),
  Blk.before (D g k) = nm (φ := .f32) (fun r l => kc P (t / 5) (4 * (t % 5) + k.val) r (128 * g.val + l))
  ∧ Blk.own (D g k) = nm (φ := .f32) (fun r l => kc P (t / 5) (4 * (t % 5) + k.val) (128 + r) (128 * g.val + l))

include H ht in
theorem parts_k : Parts (fun g k => (blkAt m c t g k).dk) I.kPart t.val := fun g k => by
  dsimp only
  rw [dk_nm (holds H t ht g k), (pick _ _).1, (pick _ _).2]
  exact ⟨nm_congr fun r hr l hl => (k_piece I _ g.isLt hl _ _).1, nm_congr fun r hr l hl => (k_piece I _ g.isLt hl _ _).1⟩
include H ht in
theorem parts_v : Parts (fun g k => (blkAt m c t g k).dv) I.vPart t.val := fun g k => by
  dsimp only
  rw [dv_nm (holds H t ht g k), (pick _ _).1, (pick _ _).2]
  exact ⟨nm_congr fun r hr l hl => (k_piece I _ g.isLt hl _ _).2, nm_congr fun r hr l hl => (k_piece I _ g.isLt hl _ _).2⟩

theorem kept_nm (a : Memref sig .tc .vmem S128x256 .f32) (ha : a.IsWhole) (f : ℕ → ℕ → ℝ) (g : Fin 2) :
    kept (F := Ideal) a ha (nm (φ := .f32) f) g = nm (φ := .f32) fun r l => f r (128 * g.val + l) := by
  unfold kept
  refine (load32 _ _ _ rfl 128 128 _ a _ (ha.read_unread (Val := Elt Ideal) (nm (φ := .f32) f))).trans (nm_congr fun r hr l hl => ?_)
  rw [Nat.mul_zero, Nat.zero_add]

theorem pred_val : ∀ k : Fin 4, k.val ≠ 0 → (k - 1 : Fin 4).val = k.val - 1 := by decide

theorem k_left (ht : t.val % 5 ≠ 4) (a : Memref sig .tc .vmem S128x256 .f32) (ha : a.IsWhole) (D : Fin 2 → Fin 4 → FVec Ideal S512x128 .f32) (P : ℕ → ℕ → ℕ → ℕ → ℕ → ℝ) (hD : Parts D P t.val) :
    ∀ p ∈ dkL (F := Ideal) (kept a ha (nm (φ := .f32) (kCarry P t.val))) D, ∀ x : p.1.shape.Idx,
      p.2 x = (nm (φ := .f32) (fun r l => kOut P (t.val / 5) (512 * (t.val % 5) + r) l) : FVec Ideal S512x256 .f32) (p.1.emb x) := by
  intro p hp x
  unfold dkL at hp
  obtain ⟨⟨g, k⟩, -, rfl⟩ := List.mem_map.mp hp
  have hk := k.isLt
  have h0 : (x 0).val < 128 := (x 0).isLt
  have h1 : (x 1).val < 128 := (x 1).isLt
  refine Eq.trans ?_ (sq_emb k.val g.val (by omega) (by omega) _ x).symm
  dsimp only
  by_cases h : k.val = 0
  · rw [if_pos h, (hD g k).1, kept_nm, addf_nm, h]
    refine congrArg Real.toEReal ((kOut_first P (show t.val % 5 < 4 by omega) h0 t.val _ rfl).trans ?_)
    exact congrArg₂ (kOut P _) (by omega) rfl
  · rw [if_neg h, (hD g k).1, (hD g (k - 1)).2, addf_nm]
    have e : (k - 1 : Fin 4).val = k.val - 1 := pred_val k h
    rw [e]
    refine congrArg Real.toEReal ((kOut_later _ P (show t.val % 5 < 4 by omega) hk h h0 _).trans ?_)
    exact congrArg₂ (kOut P _) (by omega) rfl

theorem carry_left (ht : t.val % 5 ≠ 4) (a : Memref sig .tc .vmem S128x256 .f32) (f) (D : Fin 2 → Fin 4 → FVec Ideal S512x128 .f32) (P : ℕ → ℕ → ℕ → ℕ → ℕ → ℝ) (hD : Parts D P t.val) :
    a.view.read (Elt Ideal) (a.view.writes (Elt Ideal) f (ckL (F := Ideal) D)) = nm (φ := .f32) (kCarry P (t.val + 1)) := by
  funext y
  refine View.read_writes_apply_of_pieces _ _ (nm (φ := .f32) (kCarry P (t.val + 1)) : FVec Ideal S128x256 .f32) _ ?_ y (View.cover_of_tiledL (ckL (F := Ideal) D) ![128, 128] (by sl_kernel_rfl) y)
  intro p hp x
  unfold ckL at hp
  obtain ⟨g, -, rfl⟩ := List.mem_map.mp hp
  refine Eq.trans ?_ (sq_emb 0 g.val (by omega) (by omega) _ x).symm
  dsimp only
  rw [shapeCast_self, (hD g 3).2]
  refine congrArg Real.toEReal ?_
  unfold kCarry
  rw [if_neg (by omega), show (t.val + 1) / 5 = t.val / 5 by omega, show 4 * ((t.val + 1) % 5) - 1 = 4 * (t.val % 5) + 3 by omega, Nat.mul_zero, Nat.zero_add]
  rfl

theorem pay2_nm : (k0_pay2 : FVec Ideal S128x256 .f32) = nm fun _ _ => 0 := by unfold k0_pay2; dsimp only; rw [shapeCast_self, zero_nm]
theorem pay3_nm : (k0_pay3 : FVec Ideal S128x256 .f32) = nm fun _ _ => 0 := by unfold k0_pay3; dsimp only; rw [shapeCast_self, zero_nm]
theorem pay1_nm : (k0_pay1 : FVec Ideal S8x128 .f32) = nm fun _ _ => 0 := by unfold k0_pay1; dsimp only; rw [zero_nm]

theorem kCarry_zero (P : ℕ → ℕ → ℕ → ℕ → ℕ → ℝ) (h : t.val % 5 = 0) : (nm (φ := .f32) (fun _ _ => 0) : FVec Ideal S128x256 .f32) = nm (kCarry P t.val) :=
  nm_congr fun r _ l _ => by unfold kCarry; rw [if_pos h]

include V in
theorem carries : carry1 (grid0.coords t) s.ck = nm (φ := .f32) (kCarry I.kPart t.val) ∧ carry2 (grid0.coords t) s.cv = nm (φ := .f32) (kCarry I.vPart t.val) := by
  unfold carry1 carry2
  by_cases h : t.val % 5 = 0
  · rw [if_pos ((cond2_iff t).mpr h), if_pos ((cond2_iff t).mpr h), pay2_nm, pay3_nm]
    exact ⟨kCarry_zero t _ h, kCarry_zero t _ h⟩
  · rw [if_neg (fun h' => h ((cond2_iff t).mp h')), if_neg (fun h' => h ((cond2_iff t).mp h'))]
    exact ⟨V.ck h, V.cv h⟩

include V in
theorem sink_in : sink1 (grid0.coords t) s.ds = nm (φ := .f32) fun h _ => sSum I t.val h := by
  unfold sink1
  by_cases h : t.val = 0
  · rw [if_pos ((cond1_iff t).mpr h), pay1_nm]
    refine nm_congr fun r _ l _ => ?_
    unfold sSum
    rw [h, Finset.range_zero, Finset.sum_empty, neg_zero]
  · rw [if_neg (fun h' => h ((cond1_iff t).mp h'))]
    exact V.ds

theorem part_nm {B : Blk Ideal} {n b : ℕ} {g hh pr : Fin 2} (h : Holds B (I.sp b n g.val)) : B.part hh pr = ((I.sPart b n (4 * g.val + 2 * pr.val + hh.val) : ℝ) : EReal) := by
  rw [part_val h]
  refine congrArg Real.toEReal (Finset.sum_congr rfl fun r hr => ?_)
  have w := I.sp_row b n 0 g.isLt hh.isLt pr.isLt (Finset.mem_range.mp hr)
  rw [w.2.1, w.2.2.1]

include H ht V in
theorem ds_left : (stepRows m c t s).ds = nm (φ := .f32) fun h _ => sSum I (t.val + 1) h := by
  refine nm_ext fun h j => ?_
  obtain ⟨g, pr, hh, rfl⟩ : ∃ g pr hh : Fin 2, h = ⟨4 * g.val + 2 * pr.val + hh.val, by omega⟩ :=
    ⟨⟨h.val / 4, by omega⟩, ⟨h.val / 2 % 2, by omega⟩, ⟨h.val % 2, by omega⟩, Fin.ext (by show h.val = 4 * (h.val / 4) + 2 * (h.val / 2 % 2) + h.val % 2; omega)⟩
  show (st0_10 t).view.read (Elt Ideal) ((st0_10 t).view.writes (Elt Ideal) ((hst t 10).unread (sink1 (grid0.coords t) s.ds)) (rowsAt m c t s).2.2.2.1) _ = _
  rw [(at_eqs t s).2.2.2.1]
  refine (sink_read (st0_10 t) (hst t 10) _ (fun h => ((sSum I t.val h.val : ℝ) : EReal)) (fun h j => by rw [sink_in t s V]; rfl) _ j _ (sinks_inOrder _)).trans ?_
  rw [sinks_upd, part_nm (holds H t ht g 0), part_nm (holds H t ht g 1), part_nm (holds H t ht g 2), part_nm (holds H t ht g 3)]
  rw [← EReal.coe_sub, ← EReal.coe_sub, ← EReal.coe_sub, ← EReal.coe_sub]
  refine congrArg Real.toEReal ?_
  unfold sSum
  rw [Finset.sum_range_succ, if_neg ht, Finset.sum_range_succ, Finset.sum_range_succ, Finset.sum_range_succ, Finset.sum_range_succ, Finset.sum_range_zero]
  show _ - I.sPart _ (4 * (t.val % 5) + 0) _ - I.sPart _ (4 * (t.val % 5) + 1) _ - I.sPart _ (4 * (t.val % 5) + 2) _ - I.sPart _ (4 * (t.val % 5) + 3) _ = _
  ring

include H ht V in
theorem after_rows : Left I t.val (step m c t s) ∧ Inv I (t.val + 1) (step m c t s) := by
  rw [step_rows m c t s ht]
  have E := at_eqs (m := m) (c := c) t s
  have hq := dq_left H t s ht
  refine ⟨⟨hq, ?_, ?_⟩, ⟨fun _ => ?_, fun _ => ?_, ds_left H t s ht V, fun h => ?_⟩⟩
  · funext y
    refine View.read_writes_apply_of_pieces _ _ _ _ ?_ y (cover8 m c t s y)
    rw [E.2.1, (carries t s V).1]
    exact k_left t ht _ _ _ _ (parts_k H t ht)
  · funext y
    refine View.read_writes_apply_of_pieces _ _ _ _ ?_ y (cover9 m c t s y)
    rw [E.2.2.1, (carries t s V).2]
    exact k_left t ht _ _ _ _ (parts_v H t ht)
  · unfold stepRows
    dsimp only
    rw [E.2.2.2.2.1]
    exact carry_left t ht scA _ _ _ (parts_k H t ht)
  · unfold stepRows
    dsimp only
    rw [E.2.2.2.2.2]
    exact carry_left t ht scB _ _ _ (parts_v H t ht)
  · rw [hq, show tb (t.val + 1) = tb t.val by unfold tb; omega]
end rows

section out
variable (ht : t.val % 5 = 4) (V : Inv I t.val s)

theorem out_left (ht : t.val % 5 = 4) (a : Memref sig .tc .vmem S512x256 .f32) (f) (b : Memref sig .tc .vmem S128x256 .f32) (hb : b.IsWhole) (P : ℕ → ℕ → ℕ → ℕ → ℕ → ℝ)
    (y : FVec Ideal S128x256 .f32) (hy : y = nm (kCarry P t.val)) (z : FVec Ideal S512x256 .f32) (hz : z = nm fun _ _ => 0) :
    a.view.read (Elt Ideal) (a.view.writes (Elt Ideal) f [⟨Rect.unit (s := S512x256) ![0, 0] S128x256.size inb_S512x256_S128x256_0_0, View.readAt (Elt Ideal) b.view (Rect.unit (s := S128x256) ![0, 0] S128x256.size inb_S128x256_S128x256_0_0).toLoadRect (hb.unread y)⟩,
        ⟨Rect.unit (s := S512x256) ![0, 0] S512x256.size inb_S512x256_S512x256_0_0, z⟩]) = nm (φ := .f32) fun r l => kOut P (t.val / 5) (512 * (t.val % 5) + r) l := by
  subst hy hz
  refine nm_ext fun r l => ?_
  have hr := r.isLt
  rw [show 512 * (t.val % 5) + r.val = 2048 + r.val by omega, kOut_last P t.val _ ht hr]
  by_cases h : r.val < 128
  · rw [if_pos h]
    refine (View.read_writes_cons_unit_of_mem _ _ _ _ _ (ix2 r l) (ix2 (⟨r.val, h⟩ : Fin 128) l) rfl (fun k => match k with
        | ⟨0, _⟩ => (Nat.zero_add _).symm
        | ⟨1, _⟩ => (Nat.zero_add _).symm)).trans ?_
    rw [load32 _ 0 0 rfl 128 256 _ b _ (hb.read_unread (Val := Elt Ideal) (nm (φ := .f32) (kCarry P t.val)))]
    refine congrArg Real.toEReal (congrArg₂ (kCarry P t.val) (Nat.zero_add _) (Nat.zero_add _))
  · rw [if_neg h]
    refine (View.read_writes_cons_unit_of_not_mem _ _ _ _ _ (ix2 r l) rfl (0 : Fin 2) (Or.inr ?_)).trans ?_
    · show 0 + 128 ≤ r.val; omega
    · exact View.read_writes_cons_unit_of_mem _ _ _ _ _ (ix2 r l) (ix2 r l) rfl (fun k => match k with
        | ⟨0, _⟩ => (Nat.zero_add _).symm
        | ⟨1, _⟩ => (Nat.zero_add _).symm)

include ht V in
theorem after_out : Left I t.val (step m c t s) ∧ Inv I (t.val + 1) (step m c t s) := by
  rw [step_out m c t s ht]
  have E := out_eqs (m := m) (c := c) t s
  refine ⟨⟨V.dq ht, ?_, ?_⟩, ⟨fun h => absurd (by omega) h, fun h => absurd (by omega) h, ?_, fun h => absurd h (by omega)⟩⟩
  · unfold stepOut
    dsimp only
    rw [E.1]
    exact out_left t ht _ _ _ _ _ _ (V.ck (by omega)) _ (by unfold k0_pay7; dsimp only; rw [zero_nm])
  · unfold stepOut
    dsimp only
    rw [E.2]
    exact out_left t ht _ _ _ _ _ _ (V.cv (by omega)) _ (by unfold k0_pay8; dsimp only; rw [zero_nm])
  · refine V.ds.trans (nm_congr fun h _ _ _ => ?_)
    unfold sSum
    rw [Finset.sum_range_succ, if_pos ht, add_zero]
end out

include H in
theorem inv : ∀ n ≤ cfg0.N, Inv I n (stAt m c n)
  | 0, _ => ⟨fun h => absurd rfl h, fun h => absurd rfl h, pay1_nm.trans (nm_congr fun r _ l _ => by
      unfold sSum; rw [Finset.range_zero, Finset.sum_empty, neg_zero]), fun h => absurd h (by decide)⟩
  | n + 1, hn => by
    have V := inv n (by omega)
    rw [stAt_succ m c ⟨n, hn⟩]
    by_cases h : n % 5 = 4
    · exact (after_out ⟨n, hn⟩ _ h V).2
    · exact (after_rows H ⟨n, hn⟩ _ h V).2

include H in
theorem left : Left I t.val (stAt m c (t.val + 1)) := by
  rw [stAt_succ]
  by_cases h : t.val % 5 = 4
  · exact (after_out t _ h (inv H _ (Nat.le_of_lt t.isLt))).1
  · exact (after_rows H t _ h (inv H _ (Nat.le_of_lt t.isLt))).1

end Cert.SwaBwdIdeal.Run

end
-- ==== Proof.SwaBwd.Arr.lean ====
/- The sliding-window gradient kernel's arrays over the reals, and what the host code makes of them. -/
module

public import proofs.«01_k».proof.Proof.SwaBwd.Outs
public import Idealize.ShloMosaic.Lib.Pipeline.Value

@[expose] public section

set_option maxRecDepth 16384
set_option maxHeartbeats 4000000

noncomputable section

open Idealize.ShloMosaic Idealize.ShloMosaic.TcCoe Idealize.ShloMosaic.ValueIdx Idealize.SL.Sem Cert.Lift
open Finset (range)
open scoped BigOperators

namespace Cert.SwaBwdIdeal.Arr

open Cert.SwaBwdIdeal Cert.SwaBwdIdeal.Gen Cert.SwaBwdIdeal.Run Cert.SwaBwd

variable {m : (ℓ : Loc nD τ sig) → Buf (Elt Ideal) ℓ} {c : Dev nD} {I : Ins} (H : Run.Real m c I) (t : Fin cfg0.N)

theorem flushed7 : (dats m 0 c).flushed 7 t = (cfg0.win 7).cut (grid0.coords t) (stAt m c (t.val + 1)).dq := by
  show (cfg0.win 7).cut (grid0.coords t) ((dats m 0 c).after 7 t) = _
  rw [after7]
theorem flushed8 : (dats m 0 c).flushed 8 t = (cfg0.win 8).cut (grid0.coords t) (stAt m c (t.val + 1)).dk := by
  show (cfg0.win 8).cut (grid0.coords t) ((dats m 0 c).after 8 t) = _
  rw [after8]
theorem flushed9 : (dats m 0 c).flushed 9 t = (cfg0.win 9).cut (grid0.coords t) (stAt m c (t.val + 1)).dv := by
  show (cfg0.win 9).cut (grid0.coords t) ((dats m 0 c).after 9 t) = _
  rw [after9]
theorem flushed10 : (dats m 0 c).flushed 10 t = (cfg0.win 10).cut (grid0.coords t) (stAt m c (t.val + 1)).ds := by
  show (cfg0.win 10).cut (grid0.coords t) ((dats m 0 c).after 10 t) = _
  rw [after10]

theorem tb_lt : tb t.val < 8 := by
  have : t.val < 10 := t.isLt
  unfold tb; omega

theorem ten : ∀ t : Fin cfg0.N, t.val < 10 := fun t => t.isLt

/-- Row `r` of a point's block of queries, and of its block of keys. -/
def row7 (r : Fin 512) : Fin 4096 := ⟨512 * tb t.val + r.val, by have := tb_lt t; omega⟩
def row8 (r : Fin 512) : Fin 5120 := ⟨512 * t.val + r.val, by have := ten t; omega⟩

theorem row_split7 (r : Fin 4096) : ∃ (t : Fin cfg0.N) (k : Fin 512), t.val % 5 ≠ 3 ∧ row7 t k = r := by
  have hr := r.isLt
  by_cases h : r.val / 512 % 4 = 3
  · exact ⟨⟨5 * (r.val / 2048) + 4, by show _ < 10; omega⟩, ⟨r.val % 512, Nat.mod_lt _ (by omega)⟩, by dsimp only; omega,
      Fin.ext (by show 512 * tb (5 * (r.val / 2048) + 4) + r.val % 512 = r.val; unfold tb; omega)⟩
  · exact ⟨⟨5 * (r.val / 2048) + r.val / 512 % 4, by show _ < 10; omega⟩, ⟨r.val % 512, Nat.mod_lt _ (by omega)⟩, by dsimp only; omega,
      Fin.ext (by show 512 * tb (5 * (r.val / 2048) + r.val / 512 % 4) + r.val % 512 = r.val; unfold tb; omega)⟩
theorem row_split8 (r : Fin 5120) : ∃ (t : Fin cfg0.N) (k : Fin 512), row8 t k = r :=
  ⟨⟨r.val / 512, by show _ < 10; omega⟩, ⟨r.val % 512, Nat.mod_lt _ (by omega)⟩, Fin.ext (Nat.div_add_mod _ _)⟩
theorem dQ_eq (I : Ins) (t r l : ℕ) : (fun r l => I.dQ l (512 * tb t + r)) r l = (fun R l => I.dQ l R) (512 * tb t + r) l := rfl

theorem emb7 (r : Fin 512) (e : Fin 512) : ((cfg0.win 7).blk t).view.emb (ix2 r e) = ix2 (row7 t r) e := by
  obtain ⟨a0, a1⟩ : win0_7.index t (0 : Fin 2) = tb t.val ∧ win0_7.index t (1 : Fin 2) = 0 := (by decide +kernel : ∀ t : Fin grid0.N, win0_7.index t (0 : Fin 2) = tb t.val ∧ win0_7.index t (1 : Fin 2) = 0) t
  funext a; apply Fin.ext
  match a with
  | ⟨0, _⟩ => show win0_7.index t (0 : Fin 2) * 512 + 1 * r.val = 512 * tb t.val + r.val; omega
  | ⟨1, _⟩ => show win0_7.index t (1 : Fin 2) * 512 + 1 * e.val = e.val; omega

theorem emb8 (r : Fin 512) (e : Fin 256) : ((cfg0.win 8).blk t).view.emb (ix2 r e) = ix2 (row8 t r) e := by
  obtain ⟨a0, a1⟩ : win0_8.index t (0 : Fin 2) = t.val ∧ win0_8.index t (1 : Fin 2) = 0 := (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 512 + 1 * r.val = 512 * t.val + r.val; omega
  | ⟨1, _⟩ => show win0_8.index t (1 : Fin 2) * 256 + 1 * e.val = e.val; omega

theorem emb9 (r : Fin 512) (e : Fin 256) : ((cfg0.win 9).blk t).view.emb (ix2 r e) = ix2 (row8 t r) e := by
  obtain ⟨a0, a1⟩ : win0_9.index t (0 : Fin 2) = t.val ∧ win0_9.index t (1 : Fin 2) = 0 := (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 512 + 1 * r.val = 512 * t.val + r.val; omega
  | ⟨1, _⟩ => show win0_9.index t (1 : Fin 2) * 256 + 1 * e.val = e.val; omega

theorem emb10 (j : S8x128.Idx) : ((cfg0.win 10).blk t).view.emb j = j := by
  obtain ⟨a0, a1⟩ : win0_10.index t (0 : Fin 2) = 0 ∧ win0_10.index t (1 : Fin 2) = 0 := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 8 + 1 * (j 0).val = (j 0).val; omega
  | ⟨1, _⟩ => show win0_10.index t (1 : Fin 2) * 128 + 1 * (j 1).val = (j 1).val; omega

/-- A sequence's rows beside another's. -/
def kRow (P : ℕ → ℕ → ℕ → ℕ → ℕ → ℝ) (R col : ℕ) : ℝ := kOut P (R / 2560) (R % 2560) col

theorem kRow_eq (P : ℕ → ℕ → ℕ → ℕ → ℕ → ℝ) (t : ℕ) {r : ℕ} (hr : r < 512) (col : ℕ) : kOut P (t / 5) (512 * (t % 5) + r) col = kRow P (512 * t + r) col := by
  unfold kRow
  rw [show (512 * t + r) / 2560 = t / 5 by omega, show (512 * t + r) % 2560 = 512 * (t % 5) + r by omega]

include H

theorem final7 : (dats m 0 c).arrAt 7 cfg0.N = nm (φ := .f32) (fun R l => I.dQ l R) :=
  (dats m 0 c).arrAt_eq_of_cover 7 (nm (φ := .f32) (fun R l => I.dQ l R)) (fun t _ => by
    rw [flushed7, (left H t).dq]
    funext j
    obtain ⟨r, e, rfl⟩ : ∃ (r : Fin 512) (e : Fin 512), j = ix2 r e := ⟨j 0, j 1, eq_ix2 j⟩
    refine Eq.trans ?_ (congrArg (nm (φ := .f32) (fun R l => I.dQ l R)) (emb7 t r e).symm)
    exact congrArg Real.toEReal (dQ_eq I t.val r.val e.val))
    (fun i => by
    obtain ⟨r, e, rfl⟩ : ∃ (r : Fin 4096) (e : Fin 512), i = ix2 r e := ⟨i 0, i 1, eq_ix2 i⟩
    obtain ⟨t, k, ht, rfl⟩ := row_split7 r
    exact ⟨t, (flush7_iff t).mpr ht, emb7 t k e ▸ View.emb_mem_set _ _⟩)

theorem final8 : (dats m 0 c).arrAt 8 cfg0.N = nm (φ := .f32) (kRow I.kPart) :=
  (dats m 0 c).arrAt_eq_of_cover 8 (nm (φ := .f32) (kRow I.kPart)) (fun t _ => by
    rw [flushed8, (left H t).dk]
    funext j
    obtain ⟨r, e, rfl⟩ : ∃ (r : Fin 512) (e : Fin 256), j = ix2 r e := ⟨j 0, j 1, eq_ix2 j⟩
    refine Eq.trans ?_ (congrArg (nm (φ := .f32) (kRow I.kPart)) (emb8 t r e).symm)
    exact congrArg Real.toEReal (kRow_eq I.kPart t.val r.isLt e.val))
    (fun i => by
    obtain ⟨r, e, rfl⟩ : ∃ (r : Fin 5120) (e : Fin 256), i = ix2 r e := ⟨i 0, i 1, eq_ix2 i⟩
    obtain ⟨t, k, rfl⟩ := row_split8 r
    exact ⟨t, flush0_8 t, emb8 t k e ▸ View.emb_mem_set _ _⟩)

theorem final9 : (dats m 0 c).arrAt 9 cfg0.N = nm (φ := .f32) (kRow I.vPart) :=
  (dats m 0 c).arrAt_eq_of_cover 9 (nm (φ := .f32) (kRow I.vPart)) (fun t _ => by
    rw [flushed9, (left H t).dv]
    funext j
    obtain ⟨r, e, rfl⟩ : ∃ (r : Fin 512) (e : Fin 256), j = ix2 r e := ⟨j 0, j 1, eq_ix2 j⟩
    refine Eq.trans ?_ (congrArg (nm (φ := .f32) (kRow I.vPart)) (emb9 t r e).symm)
    exact congrArg Real.toEReal (kRow_eq I.vPart t.val r.isLt e.val))
    (fun i => by
    obtain ⟨r, e, rfl⟩ : ∃ (r : Fin 5120) (e : Fin 256), i = ix2 r e := ⟨i 0, i 1, eq_ix2 i⟩
    obtain ⟨t, k, rfl⟩ := row_split8 r
    exact ⟨t, flush0_9 t, emb9 t k e ▸ View.emb_mem_set _ _⟩)

theorem final10 : (dats m 0 c).arrAt 10 cfg0.N = nm (φ := .f32) fun h _ => sSum I 10 h :=
  (dats m 0 c).arrAt_eq_of_cover 10 (nm (φ := .f32) fun h _ => sSum I 10 h) (fun t hf => by
    have h9 : t.val = 9 := by have := (flush0_10 t).mp hf; have := ten t; omega
    rw [flushed10, (inv H (t.val + 1) t.isLt).ds, h9]
    funext j
    exact congrArg (nm (φ := .f32) fun h _ => sSum I 10 h) (emb10 t j).symm)
    (fun i => ⟨⟨9, by decide⟩, (flush0_10 _).mpr rfl, by
      have h := ((cfg0.win 10).blk ⟨9, by decide⟩).view.emb_mem_set i
      rwa [emb10] at h⟩)

omit H

/-! ## The host code after the call -/

/-- A group's two pairs of heads, added. -/
def fold2 (x : FVec Ideal S5120x256 .f32) : FVec Ideal S2x2048x2x64 .f32 :=
  Host.reduceAdd (F := Ideal) (extractStridedSlice S2x2048x2x2x64 ![0, 128, 0, 0, 0] (shapeCast S2x2560x2x2x64 x shapeCasts_S5120x256_S2x2560x2x2x64) slices_S2x2560x2x2x64_S2x2048x2x2x64_0_128_0_0_0 : FVec Ideal S2x2048x2x2x64 .f32)
    (constant (F := Ideal) S_ .f32 0x00000000#32) reducesTo_S2x2048x2x2x64_S2x2048x2x64_d3 h_S_

/-- The first lane of each head. -/
def lane0 (x : FVec Ideal S8x128 .f32) : FVec Ideal S8 .f32 :=
  shapeCast S8 (extractStridedSlice S8x1 ![0, 0] x slices_S8x128_S8x1_0_0) shapeCasts_S8x1_S8

theorem tail_reads (U : Valuation τ sig (Elt Ideal)) :
    StableHlo.after hostOps1 U (Proc.devRef .tc main_v17) = fold2 (U (Proc.devRef .tc main_v14_1))
    ∧ StableHlo.after hostOps1 U (Proc.devRef .tc main_v20) = fold2 (U (Proc.devRef .tc main_v14_2))
    ∧ StableHlo.after hostOps1 U (Proc.devRef .tc main_v22) = lane0 (U (Proc.devRef .tc main_v14_3)) := by
  refine ⟨?_, ?_, ?_⟩ <;>
  (simp only [List.flatten_cons, List.flatten_nil, hostOps1, List.cons_append, List.nil_append,
    StableHlo.TRef.binary, StableHlo.TRef.nullary, StableHlo.TRef.ternary, StableHlo.TRef.unary, StableHlo.TRef.toBuf, StableHlo.TRef.ofBuf, cast_eq]
   after_reads_simp
   first | done | rfl)

theorem fold2_nm (f : ℕ → ℕ → ℝ) : fold2 (nm f) = q4 (φ := .f32) fun b s g d => f (2560 * b + 128 + s) (128 * g + d) + f (2560 * b + 128 + s) (128 * g + 64 + d) := by
  funext i
  have h0 : (i 0).val < 2 := (i 0).isLt
  have h1 : (i 1).val < 2048 := (i 1).isLt
  have h2 : (i 2).val < 2 := (i 2).isLt
  have h3 : (i 3).val < 64 := (i 3).isLt
  unfold fold2
  generalize hy : (extractStridedSlice S2x2048x2x2x64 ![0, 128, 0, 0, 0] (shapeCast S2x2560x2x2x64 (nm f : FVec Ideal S5120x256 .f32) shapeCasts_S5120x256_S2x2560x2x2x64) slices_S2x2560x2x2x64_S2x2048x2x2x64_0_128_0_0_0 : FVec Ideal S2x2048x2x2x64 .f32) = y
  have hk : ∀ k : Fin 2, y (ix5 (⟨(i 0).val, h0⟩ : Fin 2) (⟨(i 1).val, h1⟩ : Fin 2048) (⟨(i 2).val, h2⟩ : Fin 2) k (⟨(i 3).val, h3⟩ : Fin 64)) = ((f (2560 * (i 0).val + 128 + (i 1).val) (128 * (i 2).val + 64 * k.val + (i 3).val) : ℝ) : EReal) := fun k => by
    have hk := k.isLt
    rw [← hy]
    refine (extractStridedSlice_apply _ _ _ _ (ix5 (⟨(i 0).val, h0⟩ : Fin 2) (⟨128 + (i 1).val, by omega⟩ : Fin 2560) (⟨(i 2).val, h2⟩ : Fin 2) k (⟨(i 3).val, h3⟩ : Fin 64)) (fun a => match a with
      | ⟨0, _⟩ => (Nat.zero_add _).symm | ⟨1, _⟩ => rfl | ⟨2, _⟩ => (Nat.zero_add _).symm | ⟨3, _⟩ => (Nat.zero_add _).symm | ⟨4, _⟩ => (Nat.zero_add _).symm)).trans ?_
    refine (shapeCast_apply _ _ _ (ix2 (⟨2560 * (i 0).val + 128 + (i 1).val, by omega⟩ : Fin 5120) (⟨128 * (i 2).val + 64 * k.val + (i 3).val, by omega⟩ : Fin 256)) ?_).trans rfl
    rw [Shape.rowMajor_val_five, Shape.rowMajor_val_two]
    show (2560 * (i 0).val + 128 + (i 1).val) * 256 + (128 * (i 2).val + 64 * k.val + (i 3).val) = ((((i 0).val * 2560 + (128 + (i 1).val)) * 2 + (i 2).val) * 2 + k.val) * 64 + (i 3).val
    omega
  show Ideal.hostReduceAdd _ _ (Ideal.ofBits .f32 0x00000000#32) i = _
  rw [Ideal.hostReduceAdd_single reducesTo_S2x2048x2x2x64_S2x2048x2x64_d3 (by decide), Ideal.ofBits_zero_f32, zero_add]
  refine (Fin.sum_univ_two (fun k : Fin 2 => y _)).trans ?_
  refine (congrArg₂ (fun a b : EReal => a + b) (Eq.trans (congrArg y (funext fun a => Fin.ext (by match a with | ⟨0, _⟩ => rfl | ⟨1, _⟩ => rfl | ⟨2, _⟩ => rfl | ⟨3, _⟩ => rfl | ⟨4, _⟩ => rfl))) (hk 0))
    (Eq.trans (congrArg y (funext fun a => Fin.ext (by match a with | ⟨0, _⟩ => rfl | ⟨1, _⟩ => rfl | ⟨2, _⟩ => rfl | ⟨3, _⟩ => rfl | ⟨4, _⟩ => rfl))) (hk 1))).trans ?_
  exact (EReal.coe_add _ _).symm

theorem lane0_nm (f : ℕ → ℕ → ℝ) : lane0 (nm f) = (up fun i => f (i 0).val 0 : FVec Ideal S8 .f32) := by
  funext i
  unfold lane0
  refine (shapeCast_apply _ _ i (ix2 (i 0) (0 : Fin 1)) ?_).trans ((extractStridedSlice_apply _ _ _ _ (ix2 (i 0) (0 : Fin 128)) (fun a => match a with
    | ⟨0, _⟩ => (Nat.zero_add _).symm | ⟨1, _⟩ => rfl)).trans rfl)
  rw [Shape.rowMajor_val_one, Shape.rowMajor_val_two]
  show (i 0).val * 1 + 0 = (i 0).val
  omega

theorem arr_read (w : Fin 11) : Pipeline.withArrays spec0 c (V0 m c) (fun w => (dats m 0 c).arrAt w cfg0.N) (Proc.devRef .tc (Pipeline.arrRef spec0 w)) = (dats m 0 c).arrAt w cfg0.N :=
  Pipeline.withArrays_arr_shared spec0 c (V0 m c) _ ((dats m 0 c).arrAt_sharedIn sharedIn0 (V0 m c) (A_eq m c) cfg0.N) w

variable (m c) in
/-- What the host code's results hold after a run. -/
abbrev Wt (b : Ref sig .tc) := Pipeline.afterTail₀ cfgs (dats m) 0 (V0 m) [hostOps1] c b

include H

theorem v17_eq : Wt m c main_v17 = q4 (φ := .f32) fun b s g d => kRow I.kPart (2560 * b + 128 + s) (128 * g + d) + kRow I.kPart (2560 * b + 128 + s) (128 * g + 64 + d) :=
  (tail_reads _).1.trans ((congrArg fold2 ((arr_read 8).trans (final8 H))).trans (fold2_nm _))
theorem v20_eq : Wt m c main_v20 = q4 (φ := .f32) fun b s g d => kRow I.vPart (2560 * b + 128 + s) (128 * g + d) + kRow I.vPart (2560 * b + 128 + s) (128 * g + 64 + d) :=
  (tail_reads _).2.1.trans ((congrArg fold2 ((arr_read 9).trans (final9 H))).trans (fold2_nm _))
theorem v22_eq : Wt m c main_v22 = (up fun i => sSum I 10 (i 0).val : FVec Ideal S8 .f32) :=
  (tail_reads _).2.2.trans ((congrArg lane0 ((arr_read 10).trans (final10 H))).trans (lane0_nm _))

end Cert.SwaBwdIdeal.Arr

end
-- ==== Proof.SwaBwd.Claim.lean ====
/- The value claim of the sliding-window gradient: the kernel's run and the reference's end in the same four arrays. -/
module

public import proofs.«01_k».proof.Defs
public import proofs.«01_k».proof.Proof.SwaBwd.Finite
public import proofs.«01_k».proof.Proof.SwaBwd.RefOut
public import proofs.«01_k».proof.Proof.SwaBwd.Arr
public import proofs.«01_k».proof.Proof.Gen.SwaBwdRefIdeal.Run
public import Idealize.ShloMosaic.Lib.Claim

@[expose] public section

set_option maxRecDepth 16384

noncomputable section

open Idealize.ShloMosaic Idealize.ShloMosaic.TcCoe Idealize.SL.Sem Cert.Lift
open Finset (range)
open scoped BigOperators

namespace Cert.SwaBwdIdeal

open Cert.SwaBwdIdeal.Gen Cert.SwaBwdRefIdeal.Read Cert.SwaBwdIdeal.Run Cert.SwaBwd
open Cert.SwaBwdRefIdeal.Ref (kW kTot)
open Cert.SwaBwdIdeal.Arr (kRow Wt)

/-- A group's two pairs of heads are its four heads. -/
theorem kc_pairs (P : ℕ → ℕ → ℕ → ℕ → ℕ → ℝ) (b n c : ℕ) {g d : ℕ} (hd : d < 64) : kc P b n c (128 * g + d) + kc P b n c (128 * g + 64 + d) = kW P b n g c d := by
  unfold kc kW
  rw [show (128 * g + d) / 128 = g by omega, show (128 * g + 64 + d) / 128 = g by omega, show (128 * g + d) / 64 % 2 = 0 by omega, show (128 * g + 64 + d) / 64 % 2 = 1 by omega,
    show (128 * g + d) % 64 = d by omega, show (128 * g + 64 + d) % 64 = d by omega]
  simp only [Finset.sum_range_succ, Finset.sum_range_zero]
  ring

theorem rows_pairs (P : ℕ → ℕ → ℕ → ℕ → ℕ → ℝ) {b s g d : ℕ} (hb : b < 2) (hs : s < 2048) (hd : d < 64) :
    kRow P (2560 * b + 128 + s) (128 * g + d) + kRow P (2560 * b + 128 + s) (128 * g + 64 + d) = kTot P b (s / 128) (s % 128) g d := by
  unfold kRow kOut kTot
  rw [show (2560 * b + 128 + s) / 2560 = b by omega, show (2560 * b + 128 + s) % 2560 = 128 + s by omega, if_pos (show 128 ≤ 128 + s ∧ 128 + s < 2176 by omega), if_pos (show 128 ≤ 128 + s ∧ 128 + s < 2176 by omega),
    show (128 + s) / 128 - 1 = s / 128 by omega, show (128 + s) % 128 = s % 128 by omega, show (128 + s) / 128 = 1 + s / 128 by omega, ← kc_pairs P b (s / 128) (128 + s % 128) hd]
  by_cases h : s / 128 < 15
  · rw [if_pos h, if_pos (show 128 + s < 2048 by omega), if_pos (show 128 + s < 2048 by omega), ← kc_pairs P b (1 + s / 128) (s % 128) hd]
    ring
  · rw [if_neg h, if_neg (show ¬128 + s < 2048 by omega), if_neg (show ¬128 + s < 2048 by omega)]
    ring

theorem sinks_sum (I : Ins) (h : ℕ) : sSum I 10 h = -∑ b ∈ range 2, ∑ n ∈ range 16, I.sPart b n h := by
  unfold sSum
  simp only [Finset.sum_range_succ, Finset.sum_range_zero]
  norm_num
  ring

theorem pairs_q4 (P : ℕ → ℕ → ℕ → ℕ → ℕ → ℝ) : (q4 (φ := .f32) fun b s g d => kRow P (2560 * b + 128 + s) (128 * g + d) + kRow P (2560 * b + 128 + s) (128 * g + 64 + d) : FVec Ideal S2x2048x2x64 .f32)
    = q4 (φ := .f32) fun b s g d => kTot P b (s / 128) (s % 128) g d :=
  funext fun i => congrArg Real.toEReal (rows_pairs P (i 0).isLt (i 1).isLt (i 3).isLt)

/-- A function of five arguments at equal arguments. -/
theorem cong5 {A B C D T : Type} (f : A → B → B → C → D → T) {a a' b b' c c' d d' e e'} (h0 : a = a') (h1 : b = b') (h2 : c = c') (h3 : d = d') (h4 : e = e') :
    f a b c d e = f a' b' c' d' e' := by
  subst h0 h1 h2 h3 h4
  rfl

/-- The run, with the four results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14_0) = (dats m 0 c).arrAt 7 cfg0.N
      ∧ r.2.mem ((c.tc : Thread nD τ).loc main_v17) = Wt m c main_v17
      ∧ r.2.mem ((c.tc : Thread nD τ).loc main_v20) = Wt m c main_v20
      ∧ r.2.mem ((c.tc : Thread nD τ).loc main_v22) = Wt m c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 7, (h.1.1 c).2 main_v17 (Pipeline.mem_restRefs_of main_v17 (by decide) (by decide)),
      (h.1.1 c).2 main_v20 (Pipeline.mem_restRefs_of main_v20 (by decide) (by decide)), (h.1.1 c).2 main_v22 (Pipeline.mem_restRefs_of main_v22 (by decide) (by decide)), h.2.1 c⟩)
    (θ_run_and (Run.run_main m ρ) (Run.frame_any m ρ))

theorem value : algebraic_SwaBwdIdeal_SwaBwdRefIdeal_pre_swa_finite (hSwaBwdIdeal := Gen.facts) (hSwaBwdRefIdeal := Cert.SwaBwdRefIdeal.Gen.facts)
    (hPre_swa_finite := Cert.Pre_swa_finite.Gen.facts) := by
  intro m g m' g' hpre hargs
  refine ⟨fun c => (dats m 0 c).arrAt 7 cfg0.N, fun c => Wt m c main_v17, fun c => Wt m c main_v20, fun c => Wt m c main_v22, run_results m g, ?_⟩
  refine (θ_run Cert.SwaBwdRefIdeal.defs _ _).mono (fun r h c => ?_) (Cert.SwaBwdRefIdeal.Value.run m' g')
  obtain ⟨⟨Q, h0⟩, ⟨K, h1⟩, ⟨V, h2⟩, ⟨z, h3⟩, ⟨D, h4⟩⟩ := Cert.Pre_swa_finite.reals _ _ _ _ _ (hpre c)
  have H : Run.Real m c ⟨Q, K, V, D, z⟩ := ⟨h0, h1, h2, h3, h4⟩
  obtain ⟨a0, a1, a2, a3, a4⟩ := hargs c
  obtain ⟨r0, r1, r2, r3, k⟩ := h c
  replace a0 := a0.trans h0
  replace a1 := a1.trans h1
  replace a2 := a2.trans h2
  replace a3 := a3.trans h3
  replace a4 := a4.trans h4
  refine ⟨?_, ?_, ?_, ?_, k⟩
  · exact (r0.trans (val_main_v146_eq _)).trans ((cong5 (val_main_v146 (F := Ideal)) a0 a1 a2 a3 a4).trans
      ((Cert.SwaBwdRefIdeal.Ref.v146_eq ⟨Q, K, V, D, z⟩).trans (Arr.final7 H).symm))
  · exact (r1.trans (val_main_v144_eq _)).trans ((cong5 (val_main_v144 (F := Ideal)) a0 a1 a2 a3 a4).trans
      ((Cert.SwaBwdRefIdeal.Ref.v144_eq ⟨Q, K, V, D, z⟩).trans ((Arr.v17_eq H).trans (pairs_q4 _)).symm))
  · exact (r2.trans (val_main_v143_eq _)).trans ((cong5 (fun x y _ w d => val_main_v143 (F := Ideal) x y w d) a0 a1 a2 a3 a4).trans
      ((Cert.SwaBwdRefIdeal.Ref.v143_eq ⟨Q, K, V, D, z⟩).trans ((Arr.v20_eq H).trans (pairs_q4 _)).symm))
  · exact (r3.trans (val_main_v122_eq _)).trans ((cong5 (val_main_v122 (F := Ideal)) a0 a1 a2 a3 a4).trans
      ((Cert.SwaBwdRefIdeal.Ref.v122_eq ⟨Q, K, V, D, z⟩).trans ((Arr.v22_eq H).trans (funext fun i => congrArg Real.toEReal (sinks_sum _ _))).symm))

end Cert.SwaBwdIdeal

end
-- ==== Proof.OutProj.Finite.lean ====
/- The precondition of `out_proj`: arguments that pass it are matrices of reals. -/
module

public import proofs.«01_k».proof.Proof.LiftHost
public import proofs.«01_k».proof.Proof.Gen.Pre_finite

@[expose] public section

set_option maxRecDepth 16384

noncomputable section

open Idealize.ShloMosaic Cert.Lift

namespace Cert.Pre_finite

instance : Subsingleton S_.Idx := ⟨fun a b => funext fun i => i.elim0⟩

open Cert.Pre_finite.Gen in
/-- The seven arguments of a true precondition are matrices of reals. -/
theorem reals (x0 x1 x2 x3 : FVec Ideal S4096x512 .f32) (x4 : FVec Ideal S4096x1024 .f32) (x5 : FVec Ideal S1024x1024 .f32)
    (x6 : FVec Ideal S4096x1024 .f32) (h : fn (F := Ideal) x0 x1 x2 x3 x4 x5 x6 = fun _ => 1#1) :
    (∃ f, x0 = mf f) ∧ (∃ f, x1 = mf f) ∧ (∃ f, x2 = mf f) ∧ (∃ f, x3 = mf f) ∧ (∃ f, x4 = mf f) ∧ (∃ f, x5 = mf f) ∧ (∃ f, x6 = mf f) := by
  unfold fn fn_part1 at h
  dsimp only at h
  obtain ⟨h, h6⟩ := andi_all h
  obtain ⟨h, h5⟩ := andi_all h
  obtain ⟨h, h4⟩ := andi_all h
  obtain ⟨h, h3⟩ := andi_all h
  obtain ⟨h, h2⟩ := andi_all h
  obtain ⟨h0, h1⟩ := andi_all h
  have j : S_.Idx := fun i => i.elim0
  exact ⟨⟨_, mat_of_finite x0 _ (fun _ => ofBits_inf) _ _ _ j (congrFun h0 j)⟩, ⟨_, mat_of_finite x1 _ (fun _ => ofBits_inf) _ _ _ j (congrFun h1 j)⟩,
    ⟨_, mat_of_finite x2 _ (fun _ => ofBits_inf) _ _ _ j (congrFun h2 j)⟩, ⟨_, mat_of_finite x3 _ (fun _ => ofBits_inf) _ _ _ j (congrFun h3 j)⟩,
    ⟨_, mat_of_finite x4 _ (fun _ => ofBits_inf) _ _ _ j (congrFun h4 j)⟩, ⟨_, mat_of_finite x5 _ (fun _ => ofBits_inf) _ _ _ j (congrFun h5 j)⟩,
    ⟨_, mat_of_finite x6 _ (fun _ => ofBits_inf) _ _ _ j (congrFun h6 j)⟩⟩

end Cert.Pre_finite

end
-- ==== Proof.OutProj.Pay.lean ====
/- What each value that the `out_proj` kernel stores is, over the reals, when the blocks it loads are matrices of reals.

   `sg` is the logistic function; `y` a gated head output, `diff` the prediction error of a row, `dg` the gate's
   derivative factor. All are stated for any number `n` of rows, so that the same formulas speak of one block of 512 rows
   and of the whole arrays. -/
module

public import proofs.«01_k».proof.Proof.Gen.OutProjIdeal.Value
public import proofs.«01_k».proof.Proof.Lift
public import Idealize.ShloMosaic.Lib.Pointwise

@[expose] public section

set_option maxRecDepth 16384

noncomputable section

open Idealize.ShloMosaic Idealize.ShloMosaic.ValueIdx Idealize.ShloMosaic.TcCoe Cert.Lift
open scoped BigOperators

namespace Cert.OutProjIdeal.Pay

open Cert.OutProjIdeal Cert.OutProjIdeal.Gen

section spec
variable {n : ℕ}

/-- The gated head output. -/
def y (g o : Fin n → Fin 512 → ℝ) (r : Fin n) (e : Fin 512) : ℝ := o r e * (g r e * sg (g r e))
/-- The residual stream plus the first half's projection. -/
def pre (x : Fin n → Fin 1024 → ℝ) (ga oa : Fin n → Fin 512 → ℝ) (wt : Fin 512 → Fin 1024 → ℝ) (r : Fin n) (d : Fin 1024) : ℝ :=
  x r d + ∑ k, y ga oa r k * wt k d
/-- The block's output minus its target. -/
def diff (p : Fin n → Fin 1024 → ℝ) (gb ob : Fin n → Fin 512 → ℝ) (wb : Fin 512 → Fin 1024 → ℝ) (tgt : Fin n → Fin 1024 → ℝ)
    (r : Fin n) (d : Fin 1024) : ℝ := (p r d + ∑ k, y gb ob r k * wb k d) - tgt r d
/-- The loss's cotangent of the output. -/
def dout (df : Fin n → Fin 1024 → ℝ) (r : Fin n) (d : Fin 1024) : ℝ := df r d * (1 / 1024)
/-- The cotangent of a gated head output. -/
def dy (df : Fin n → Fin 1024 → ℝ) (w : Fin 512 → Fin 1024 → ℝ) (r : Fin n) (e : Fin 512) : ℝ := ∑ k, dout df r k * w e k
/-- The cotangent of a head output. -/
def dO (df : Fin n → Fin 1024 → ℝ) (w : Fin 512 → Fin 1024 → ℝ) (g : Fin n → Fin 512 → ℝ) (r : Fin n) (e : Fin 512) : ℝ :=
  dy df w r e * (g r e * sg (g r e))
/-- The cotangent of a gate. -/
def dG (df : Fin n → Fin 1024 → ℝ) (w : Fin 512 → Fin 1024 → ℝ) (g o : Fin n → Fin 512 → ℝ) (r : Fin n) (e : Fin 512) : ℝ :=
  dy df w r e * o r e * (sg (g r e) * (1 + g r e * (1 - sg (g r e))))
/-- The cotangent of one half of the projection's rows. -/
def dW (df : Fin n → Fin 1024 → ℝ) (g o : Fin n → Fin 512 → ℝ) (e : Fin 512) (d : Fin 1024) : ℝ := ∑ r, y g o r e * dout df r d
/-- The sum of the squared errors, times the loss's factor. -/
def part (df : Fin n → Fin 1024 → ℝ) : ℝ := (∑ r, ∑ d, df r d * df r d) * (1 / 2048)
end spec

theorem ofBits_1024 : Ideal.ofBits .f32 0x3A800000#32 = ((1 / 1024 : ℝ) : EReal) := by
  simp [Ideal.ofBits, Ideal.ieee, -EReal.coe_mul]; norm_num
theorem ofBits_2048 : Ideal.ofBits .f32 0x3A000000#32 = ((1 / 2048 : ℝ) : EReal) := by
  simp [Ideal.ofBits, Ideal.ieee, -EReal.coe_mul]; norm_num

variable (ga oa gb ob : Fin 512 → Fin 512 → ℝ) (x tgt df p acc : Fin 512 → Fin 1024 → ℝ) (wt wb : Fin 512 → Fin 1024 → ℝ)

theorem pay3 : k0_pay3 (F := Ideal) (mf ga) = mat (fun r c => sg (ga r c)) := by
  unfold k0_pay3
  simp only [shapeCast_self, broadcast_one, broadcast_zero, subf_mat, exp_mat, addf_mat, divf_mat _ _ (fun r c => by simpa using den_ne (ga r c)), zero_sub]
  rfl

theorem pay6 : k0_pay6 (F := Ideal) (mf gb) = mat (fun r c => sg (gb r c)) := by
  unfold k0_pay6
  simp only [shapeCast_self, broadcast_one, broadcast_zero, subf_mat, exp_mat, addf_mat, divf_mat _ _ (fun r c => by simpa using den_ne (gb r c)), zero_sub]
  rfl

theorem pay4 : k0_pay4 (F := Ideal) (mf ga) (mb oa) = mat (y ga oa) := by
  unfold k0_pay4
  simp only [shapeCast_self, pay3, mulf_mat, extf_mat, truncf_mat]
  rfl

theorem pay7 : k0_pay7 (F := Ideal) (mf gb) (mb ob) = mat (y gb ob) := by
  unfold k0_pay7
  simp only [shapeCast_self, pay6, mulf_mat, extf_mat, truncf_mat]
  rfl

theorem pay5 : k0_pay5 (F := Ideal) (mf x) (mf ga) (mb oa) (mb wt) = mat (pre x ga oa wt) := by
  unfold k0_pay5
  simp only [shapeCast_self, pay4, constant_zero, matmul_nn dot_S512x512_S512x1024_S512x1024_1_0_0_1_n_n _ rfl, addf_mat, zero_add]
  rfl

theorem pay8 : k0_pay8 (F := Ideal) (mf p) (mb (y gb ob)) (mb wb) (mf tgt) = mat (diff p gb ob wb tgt) := by
  unfold k0_pay8
  simp only [shapeCast_self, constant_zero, matmul_nn dot_S512x512_S512x1024_S512x1024_1_0_0_1_n_n _ rfl, addf_mat, subf_mat, zero_add]
  rfl

theorem pay9 : k0_pay9 (F := Ideal) (mf p) (mb (y gb ob)) (mb wb) (mf tgt) = mat (dout (diff p gb ob wb tgt)) := by
  unfold k0_pay9
  rw [pay8]
  have e : broadcast S512x1024 (Scalar.ofBits (F := Ideal) .f32 0x3A800000#32) = (mat (fun _ _ => 1 / 1024) : FVec Ideal S512x1024 .f32) :=
    funext fun _ => ofBits_1024
  simp only [e, mulf_mat]
  rfl

theorem pay11 : k0_pay11 (F := Ideal) (mf p) (mb (y gb ob)) (mb wb) (mf tgt) = mat (dout (diff p gb ob wb tgt)) := by
  unfold k0_pay11
  rw [pay9]
  rfl

theorem pay12 : k0_pay12 (F := Ideal) (mb (y ga oa)) (mf p) (mb (y gb ob)) (mb wb) (mf tgt) (mf acc)
    = mat (fun e d => acc e d + dW (diff p gb ob wb tgt) ga oa e d) := by
  unfold k0_pay12
  simp only [shapeCast_self, pay11, constant_zero,
    matmul_tn dot_S512x512_S512x1024_S512x1024_0_0_1_1_n_n_wf dot_S512x512_S512x1024_S512x1024_0_0_1_1_n_n _ rfl, addf_mat, zero_add]
  rfl

theorem pay16 : k0_pay16 (F := Ideal) (mb (y gb ob)) (mb (dout df)) (mf acc)
    = mat (fun e d => acc e d + dW df gb ob e d) := by
  unfold k0_pay16
  simp only [shapeCast_self, constant_zero,
    matmul_tn dot_S512x512_S512x1024_S512x1024_0_0_1_1_n_n_wf dot_S512x512_S512x1024_S512x1024_0_0_1_1_n_n _ rfl, addf_mat, zero_add]
  rfl

theorem pay13 : k0_pay13 (F := Ideal) (mf p) (mb (y gb ob)) (mb wb) (mf tgt) (mb wt)
    = mat (dy (diff p gb ob wb tgt) wt) := by
  unfold k0_pay13
  simp only [shapeCast_self, pay11, constant_zero, matmul_nt dot_S512x1024_S512x1024_S512x512_1_1_0_0_n_n _ rfl, zero_add]
  rfl

theorem pay17 : k0_pay17 (F := Ideal) (mb (dout df)) (mb wb) = mat (dy df wb) := by
  unfold k0_pay17
  simp only [shapeCast_self, constant_zero, matmul_nt dot_S512x1024_S512x1024_S512x512_1_1_0_0_n_n _ rfl, zero_add]
  rfl

theorem pay14 : k0_pay14 (F := Ideal) (mf ga) (mf (fun r c => sg (ga r c))) (mf p) (mb (y gb ob)) (mb wb) (mf tgt) (mb wt)
    = mat (dO (diff p gb ob wb tgt) wt ga) := by
  unfold k0_pay14
  simp only [pay13, mulf_mat, truncf_mat]
  rfl

theorem pay18 : k0_pay18 (F := Ideal) (mf gb) (mf (fun r c => sg (gb r c))) (mb (dout df)) (mb wb) = mat (dO df wb gb) := by
  unfold k0_pay18
  simp only [pay17, mulf_mat, truncf_mat]
  rfl

theorem pay15 : k0_pay15 (F := Ideal) (mf ga) (mf (fun r c => sg (ga r c))) (mf (dy df wt)) (mb oa) = mat (dG df wt ga oa) := by
  unfold k0_pay15
  simp only [shapeCast_self, broadcast_one, mulf_mat, subf_mat, addf_mat, extf_mat, truncf_mat]
  rfl

theorem pay19 : k0_pay19 (F := Ideal) (mf gb) (mf (fun r c => sg (gb r c))) (mb (dout df)) (mb wb) (mb ob) = mat (dG df wb gb ob) := by
  unfold k0_pay19
  simp only [shapeCast_self, pay17, broadcast_one, mulf_mat, subf_mat, addf_mat, extf_mat, truncf_mat]
  rfl

/-- The reduction of a whole block to one number adds its elements. -/
theorem total (v : FVec Ideal S512x1024 .f32) : extractAt ![0, 0, 0] (shapeCast S1x1x1 (multiReduction .add [1, 2] S1
      (shapeCast S1x512x1024 v shapeCasts_S512x1024_S1x512x1024) 0x00000000#32 reduces_S1x512x1024_S1 (.inl rfl) rfl)
      shapeCasts_S1_S1x1x1) inpos_S1x1x1_p0_0_0 = ∑ r : Fin 512, ∑ d : Fin 1024, v (ValueIdx.ix2 r d) := by
  pointwise
  rfl

theorem pay10 (a : Fin 8 → Fin 128 → ℝ) : k0_pay10 (F := Ideal) (mf p) (mb (y gb ob)) (mb wb) (mf tgt) (mf a)
    = mat (fun r c => a r c + part (diff p gb ob wb tgt)) := by
  unfold k0_pay10
  simp only [shapeCast_self, pay8, mulf_mat]
  have e : ∑ r : Fin 512, ∑ d : Fin 1024, (mat (fun r d => diff p gb ob wb tgt r d * diff p gb ob wb tgt r d) : FVec Ideal _ .f32) (ValueIdx.ix2 r d)
      = ((∑ r, ∑ d, diff p gb ob wb tgt r d * diff p gb ob wb tgt r d : ℝ) : EReal) := by
    simp only [mat_apply, ← coe_sum]
  refine (congrArg (fun z => addf (mf a) (broadcast S8x128 (Scalar.mulf z (Scalar.ofBits (F := Ideal) .f32 0x3A000000#32)))) ((total _).trans e)).trans ?_
  refine mat_ext fun r c => ?_
  rw [addf_apply]
  refine (congrArg (_ + ·) (congrArg (_ * ·) ofBits_2048)).trans ?_
  refine (congrArg (_ + ·) (EReal.coe_mul _ _).symm).trans ?_
  exact (EReal.coe_add _ _).symm

end Cert.OutProjIdeal.Pay

end
-- ==== Proof.OutProj.Body.lean ====
/- What one grid point of the `out_proj` kernel leaves in its output blocks, over the reals.

   Point `t` works on rows `512 t … 512 t + 511`. Its blocks of the five row-wise results are those rows' values; the
   weight gradient's block and the loss's block are kept from point to point, and each point adds its own rows' part to
   them, the first one after storing zeros. -/
module

public import proofs.«01_k».proof.Proof.OutProj.Pay
public import Idealize.ShloMosaic.Lib.Pipeline.ReadBack
public import Idealize.ShloMosaic.Lib.Pipeline.ValueKit.Tiles

@[expose] public section

set_option maxRecDepth 16384

noncomputable section

open Idealize.ShloMosaic Idealize.ShloMosaic.TcCoe Idealize.SL.Sem Cert.Lift
open Idealize.ShloMosaic.Pipeline (Dat)

namespace Cert.OutProjIdeal.Body

open Cert.OutProjIdeal Cert.OutProjIdeal.Gen Cert.OutProjIdeal.Pay

theorem hz : (![0, 0] : Fin 2 → Nat) = fun _ => 0 := funext fun a => by fin_cases a <;> rfl

/-- The first 512 rows of a matrix of 1024. -/
def top (w : Fin 1024 → Fin 1024 → ℝ) (r : Fin 512) (d : Fin 1024) : ℝ := w ⟨r.val, by omega⟩ d
/-- Its last 512 rows. -/
def bot (w : Fin 1024 → Fin 1024 → ℝ) (r : Fin 512) (d : Fin 1024) : ℝ := w ⟨512 + r.val, by omega⟩ d
/-- A matrix from its two halves of rows. -/
def glue (a b : Fin 512 → Fin 1024 → ℝ) (e d : Fin 1024) : ℝ :=
  if h : e.val < 512 then a ⟨e.val, h⟩ d else b ⟨e.val - 512, by omega⟩ d

theorem ld_rows {e : EltTy} (Z : S1024x1024.Idx → Elt Ideal e) (o : ℕ) (ho : o ≤ 512) (inb) (r : Fin 512) (d : Fin 1024) :
    View.ld Z (Rect.unit ![o, 0] ![512, 1024] inb) (ValueIdx.ix2 r d) = Z (ValueIdx.ix2 (⟨o + r.val, by omega⟩ : Fin 1024) d) :=
  View.ld_unit_apply_of _ _ _ _ _ _ fun a => by
    match a with
    | ⟨0, _⟩ => rfl
    | ⟨1, _⟩ => exact (Nat.zero_add _).symm

variable (w : Fin 1024 → Fin 1024 → ℝ)

theorem ld_top_b (inb) : View.ld (Val := Elt Ideal) (e' := .bf16) (mb w) (Rect.unit (s := S1024x1024) ![0, 0] ![512, 1024] inb) = mb (top w) :=
  mat_ext fun r d => (ld_rows (e := .bf16) (mb w) 0 (by omega) inb r d).trans (by unfold top; simp only [Nat.zero_add]; rfl)
theorem ld_bot_b (inb) : View.ld (Val := Elt Ideal) (e' := .bf16) (mb w) (Rect.unit (s := S1024x1024) ![512, 0] ![512, 1024] inb) = mb (bot w) :=
  mat_ext fun r d => (ld_rows (e := .bf16) (mb w) 512 (by omega) inb r d).trans rfl
theorem ld_top_f (inb) : View.ld (Val := Elt Ideal) (e' := .f32) (mf w) (Rect.unit (s := S1024x1024) ![0, 0] ![512, 1024] inb) = mf (top w) :=
  mat_ext fun r d => (ld_rows (e := .f32) (mf w) 0 (by omega) inb r d).trans (by unfold top; simp only [Nat.zero_add]; rfl)
theorem ld_bot_f (inb) : View.ld (Val := Elt Ideal) (e' := .f32) (mf w) (Rect.unit (s := S1024x1024) ![512, 0] ![512, 1024] inb) = mf (bot w) :=
  mat_ext fun r d => (ld_rows (e := .f32) (mf w) 512 (by omega) inb r d).trans rfl

/-- Two stores of the two halves of rows leave the matrix of both. -/
theorem canon_halves (a b : Fin 512 → Fin 1024 → ℝ) (inb1 inb0) (L : List (View.Piece (Elt Ideal) S1024x1024 .f32)) :
    View.canon ((⟨Rect.unit ![512, 0] ![512, 1024] inb1, (mat b : FVec Ideal S512x1024 .f32)⟩ : View.Piece (Elt Ideal) S1024x1024 .f32)
      :: ⟨Rect.unit ![0, 0] ![512, 1024] inb0, (mat a : FVec Ideal S512x1024 .f32)⟩ :: L) = (mat (glue a b) : FVec Ideal S1024x1024 .f32) := by
  refine mat_ext fun e d => ?_
  by_cases h : e.val < 512
  · have e0 : (Rect.unit (s := S1024x1024) ![0, 0] ![512, 1024] inb0).emb (ValueIdx.ix2 (⟨e.val, h⟩ : Fin 512) d) = ValueIdx.ix2 e d := by
      funext x; apply Fin.ext
      match x with
      | ⟨0, _⟩ => show 0 + 1 * e.val = e.val; omega
      | ⟨1, _⟩ => show 0 + 1 * d.val = d.val; omega
    rw [View.canon_cons_of_not_mem, ← e0, View.canon_cons_emb, mat_apply]
    · unfold glue; rw [dif_pos h]
    · rw [Rect.mem_set_unit]; intro hh; have := (hh 0).1; change 512 ≤ e.val at this; omega
  · have e1 : (Rect.unit (s := S1024x1024) ![512, 0] ![512, 1024] inb1).emb (ValueIdx.ix2 (⟨e.val - 512, by omega⟩ : Fin 512) d) = ValueIdx.ix2 e d := by
      funext x; apply Fin.ext
      match x with
      | ⟨0, _⟩ => show 512 + 1 * (e.val - 512) = e.val; omega
      | ⟨1, _⟩ => show 0 + 1 * d.val = d.val; omega
    rw [← e1, View.canon_cons_emb, mat_apply]
    unfold glue; rw [dif_neg h]

theorem zero1 : k0_pay1 (F := Ideal) = mf (fun _ _ => 0) := by
  unfold k0_pay1; simp only [shapeCast_self]; exact broadcast_zero
theorem zero2 : k0_pay2 (F := Ideal) = mf (fun _ _ => 0) := by
  unfold k0_pay2; simp only [shapeCast_self]; exact broadcast_zero

/-- Row `r` of point `t`'s block. -/
def row (t : Fin cfg0.N) (r : Fin 512) : Fin 4096 := ⟨512 * t.val + r.val, by have : t.val < 8 := t.isLt; omega⟩

/-- The rows of point `t`'s block. -/
def rows {n : ℕ} (t : Fin cfg0.N) (A : Fin 4096 → Fin n → ℝ) (r : Fin 512) (e : Fin n) : ℝ := A (row t r) e

variable (m : (ℓ : Loc nD τ sig) → Buf (Elt Ideal) ℓ) (c : Dev nD)

/-- The arguments are matrices of reals. -/
structure Real (OA OB GA GB : Fin 4096 → Fin 512 → ℝ) (X TG : Fin 4096 → Fin 1024 → ℝ) (W : Fin 1024 → Fin 1024 → ℝ) : Prop where
  h0 : m ((c : Thread nD τ).loc main_arg0) = mf OA
  h1 : m ((c : Thread nD τ).loc main_arg1) = mf OB
  h2 : m ((c : Thread nD τ).loc main_arg2) = mf GA
  h3 : m ((c : Thread nD τ).loc main_arg3) = mf GB
  h4 : m ((c : Thread nD τ).loc main_arg4) = mf X
  h5 : m ((c : Thread nD τ).loc main_arg5) = mf W
  h6 : m ((c : Thread nD τ).loc main_arg6) = mf TG

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

variable {m c} {OA OB GA GB : Fin 4096 → Fin 512 → ℝ} {X TG : Fin 4096 → Fin 1024 → ℝ} {W : Fin 1024 → Fin 1024 → ℝ}
  (H : Real m c OA OB GA GB X TG W) (t : Fin cfg0.N)

include H

theorem iblk0 : iblk m c 0 t = mb (rows t OA) := by
  obtain ⟨a0, a1⟩ := idx0 t
  refine mat_ext fun r e => ?_
  have hV : V m c main_v0 = mb OA := H.h0
  show V m c main_v0 (((cfg0.win 0).blk t).view.emb (ValueIdx.ix2 r e)) = _
  rw [hV]
  refine congrArg₂ (fun a b => ((OA a b : ℝ) : EReal)) (Fin.ext ?_) (Fin.ext ?_)
  · show win0_0.index t (0 : Fin 2) * 512 + 1 * r.val = 512 * t.val + r.val; omega
  · show win0_0.index t (1 : Fin 2) * 512 + 1 * e.val = e.val; omega

theorem iblk1 : iblk m c 1 t = mb (rows t OB) := by
  obtain ⟨a0, a1⟩ := idx1 t
  refine mat_ext fun r e => ?_
  have hV : V m c main_v1 = mb OB := H.h1
  show V m c main_v1 (((cfg0.win 1).blk t).view.emb (ValueIdx.ix2 r e)) = _
  rw [hV]
  refine congrArg₂ (fun a b => ((OB a b : ℝ) : EReal)) (Fin.ext ?_) (Fin.ext ?_)
  · show win0_1.index t (0 : Fin 2) * 512 + 1 * r.val = 512 * t.val + r.val; omega
  · show win0_1.index t (1 : Fin 2) * 512 + 1 * e.val = e.val; omega

theorem iblk2 : iblk m c 2 t = mf (rows t GA) := by
  obtain ⟨a0, a1⟩ := idx2 t
  refine mat_ext fun r e => ?_
  have hV : V m c main_arg2 = mf GA := (V_main_arg2 m c).trans H.h2
  show V m c main_arg2 (((cfg0.win 2).blk t).view.emb (ValueIdx.ix2 r e)) = _
  rw [hV]
  refine congrArg₂ (fun a b => ((GA a b : ℝ) : EReal)) (Fin.ext ?_) (Fin.ext ?_)
  · show win0_2.index t (0 : Fin 2) * 512 + 1 * r.val = 512 * t.val + r.val; omega
  · show win0_2.index t (1 : Fin 2) * 512 + 1 * e.val = e.val; omega

theorem iblk3 : iblk m c 3 t = mf (rows t GB) := by
  obtain ⟨a0, a1⟩ := idx3 t
  refine mat_ext fun r e => ?_
  have hV : V m c main_arg3 = mf GB := (V_main_arg3 m c).trans H.h3
  show V m c main_arg3 (((cfg0.win 3).blk t).view.emb (ValueIdx.ix2 r e)) = _
  rw [hV]
  refine congrArg₂ (fun a b => ((GB a b : ℝ) : EReal)) (Fin.ext ?_) (Fin.ext ?_)
  · show win0_3.index t (0 : Fin 2) * 512 + 1 * r.val = 512 * t.val + r.val; omega
  · show win0_3.index t (1 : Fin 2) * 512 + 1 * e.val = e.val; omega

theorem iblk4 : iblk m c 4 t = mf (rows t X) := by
  obtain ⟨a0, a1⟩ := idx4 t
  refine mat_ext fun r e => ?_
  have hV : V m c main_arg4 = mf X := (V_main_arg4 m c).trans H.h4
  show V m c main_arg4 (((cfg0.win 4).blk t).view.emb (ValueIdx.ix2 r e)) = _
  rw [hV]
  refine congrArg₂ (fun a b => ((X a b : ℝ) : EReal)) (Fin.ext ?_) (Fin.ext ?_)
  · show win0_4.index t (0 : Fin 2) * 512 + 1 * r.val = 512 * t.val + r.val; omega
  · show win0_4.index t (1 : Fin 2) * 1024 + 1 * e.val = e.val; omega

theorem iblk5 : iblk m c 5 t = mf (rows t TG) := by
  obtain ⟨a0, a1⟩ := idx5 t
  refine mat_ext fun r e => ?_
  have hV : V m c main_arg6 = mf TG := (V_main_arg6 m c).trans H.h6
  show V m c main_arg6 (((cfg0.win 5).blk t).view.emb (ValueIdx.ix2 r e)) = _
  rw [hV]
  refine congrArg₂ (fun a b => ((TG a b : ℝ) : EReal)) (Fin.ext ?_) (Fin.ext ?_)
  · show win0_5.index t (0 : Fin 2) * 512 + 1 * r.val = 512 * t.val + r.val; omega
  · show win0_5.index t (1 : Fin 2) * 1024 + 1 * e.val = e.val; omega

theorem iblk6 : iblk m c 6 t = mb W := by
  obtain ⟨a0, a1⟩ := idx6 t
  refine mat_ext fun r e => ?_
  have hV : V m c main_v2 = mb W := H.h5
  show V m c main_v2 (((cfg0.win 6).blk t).view.emb (ValueIdx.ix2 r e)) = _
  rw [hV]
  refine congrArg₂ (fun a b => ((W a b : ℝ) : EReal)) (Fin.ext ?_) (Fin.ext ?_)
  · show win0_6.index t (0 : Fin 2) * 1024 + 1 * r.val = r.val; omega
  · show win0_6.index t (1 : Fin 2) * 1024 + 1 * e.val = e.val; omega

omit H in
/-- The prediction error of the rows of a block or of the whole arrays. -/
abbrev err {n : ℕ} (OA OB GA GB : Fin n → Fin 512 → ℝ) (X TG : Fin n → Fin 1024 → ℝ) (W : Fin 1024 → Fin 1024 → ℝ) : Fin n → Fin 1024 → ℝ :=
  diff (pre X GA OA (top W)) GB OB (bot W) TG

variable {D : Fin 512 → Fin 1024 → ℝ} (hD : err (rows t OA) (rows t OB) (rows t GA) (rows t GB) (rows t X) (rows t TG) W = D)
include hD

set_option maxHeartbeats 4000000 in
/-- What the first point leaves in the seven output blocks. -/
theorem outs_A (h : t.val % 8 = 0) : outsAt0 m c t.val t.isLt =
    (mf (dout D), mb (dO D (top W) (rows t GA)), mb (dO D (bot W) (rows t GB)),
      mb (dG D (top W) (rows t GA) (rows t OA)), mb (dG D (bot W) (rows t GB) (rows t OB)),
      mf (glue (dW D (rows t GA) (rows t OA)) (dW D (rows t GB) (rows t OB))), mf (fun _ _ => part D)) := by
  subst hD
  rw [outsAt0_A m c t h]
  unfold out0_A_7 out0_A_8 out0_A_9 out0_A_10 out0_A_11 out0_A_12 out0_A_13
  simp only [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x512) hz, View.ld_unit_zero (S := S512x1024) hz, View.ld_unit_zero (S := S8x128) hz, iblk0 H, iblk1 H, iblk2 H, iblk3 H, iblk4 H, iblk5 H, iblk6 H, ld_top_b, ld_bot_b, pay3, pay4, pay5, pay6, pay7, pay9, pay11, pay13, pay14, pay15, pay18, pay19]
  refine congrArg₂ Prod.mk ?_ (congrArg₂ Prod.mk ?_ (congrArg₂ Prod.mk ?_ (congrArg₂ Prod.mk ?_ (congrArg₂ Prod.mk ?_ (congrArg₂ Prod.mk ?_ ?_)))))
  · exact View.canon_unit_zero hz _ _
  · exact View.canon_unit_zero hz _ _
  · exact View.canon_unit_zero hz _ _
  · exact View.canon_unit_zero hz _ _
  · exact View.canon_unit_zero hz _ _
  · rw [View.readCov_skip _ _ _ _ _ rfl, View.readCov_fill _ _ _ _ _ (fun a => by fin_cases a <;> rfl),
      View.readCov_fill _ _ _ _ _ (fun a => by fin_cases a <;> rfl), zero2, ld_top_f, ld_bot_f, pay12, pay16, canon_halves]
    refine congrArg mf (funext fun e => funext fun d => ?_)
    unfold glue top bot
    split <;> exact zero_add _
  · rw [View.canon_cons_unit_zero hz, View.readCov_unit_zero (S := S8x128) _ hz, zero1, pay10]
    exact congrArg mf (funext fun e => funext fun d => zero_add _)

set_option maxHeartbeats 4000000 in
/-- What a later point leaves, when it finds `w0` in the weight gradient's block and `l0` everywhere in the loss's. -/
theorem outs_B (h : ¬t.val % 8 = 0) (w0 : Fin 1024 → Fin 1024 → ℝ) (l0 : ℝ)
    (hw : (outsAt0 m c (t.val - 1) (Nat.lt_of_le_of_lt (Nat.sub_le _ _) t.isLt)).2.2.2.2.2.1 = mf w0)
    (hl : (outsAt0 m c (t.val - 1) (Nat.lt_of_le_of_lt (Nat.sub_le _ _) t.isLt)).2.2.2.2.2.2 = mf (fun _ _ => l0)) :
    outsAt0 m c t.val t.isLt =
    (mf (dout D), mb (dO D (top W) (rows t GA)), mb (dO D (bot W) (rows t GB)),
      mb (dG D (top W) (rows t GA) (rows t OA)), mb (dG D (bot W) (rows t GB) (rows t OB)),
      mf (fun e d => w0 e d + glue (dW D (rows t GA) (rows t OA)) (dW D (rows t GB) (rows t OB)) e d), mf (fun _ _ => l0 + part D)) := by
  subst hD
  rw [outsAt0_B m c t h, hw, hl]
  unfold out0_B_7 out0_B_8 out0_B_9 out0_B_10 out0_B_11 out0_B_12 out0_B_13
  simp only [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_12 t).read_unread, (hs0_13 t).read_unread, View.ld_unit_zero (S := S512x512) hz, View.ld_unit_zero (S := S512x1024) hz, View.ld_unit_zero (S := S8x128) hz, iblk0 H, iblk1 H, iblk2 H, iblk3 H, iblk4 H, iblk5 H, iblk6 H, ld_top_b, ld_bot_b, ld_top_f, ld_bot_f, pay3, pay4, pay5, pay6, pay7, pay9, pay10, pay11, pay12, pay13, pay14, pay15, pay16, pay18, pay19]
  refine congrArg₂ Prod.mk ?_ (congrArg₂ Prod.mk ?_ (congrArg₂ Prod.mk ?_ (congrArg₂ Prod.mk ?_ (congrArg₂ Prod.mk ?_ (congrArg₂ Prod.mk ?_ ?_)))))
  · exact View.canon_unit_zero hz _ _
  · exact View.canon_unit_zero hz _ _
  · exact View.canon_unit_zero hz _ _
  · exact View.canon_unit_zero hz _ _
  · exact View.canon_unit_zero hz _ _
  · rw [canon_halves]
    refine congrArg mf (funext fun e => funext fun d => ?_)
    unfold glue top bot
    split
    · rfl
    · next h => exact congrArg (· + _) (congrArg (w0 · d) (Fin.ext (by show 512 + (e.val - 512) = e.val; omega)))
  · exact View.canon_unit_zero hz _ _

omit hD

/-- Point `t`'s prediction error. -/
def errAt (OA OB GA GB : Fin 4096 → Fin 512 → ℝ) (X TG : Fin 4096 → Fin 1024 → ℝ) (W : Fin 1024 → Fin 1024 → ℝ) (t : Fin cfg0.N) : Fin 512 → Fin 1024 → ℝ :=
  err (rows t OA) (rows t OB) (rows t GA) (rows t GB) (rows t X) (rows t TG) W

/-- Point `t`'s part of the weight gradient. -/
def stepW (OA OB GA GB : Fin 4096 → Fin 512 → ℝ) (X TG : Fin 4096 → Fin 1024 → ℝ) (W : Fin 1024 → Fin 1024 → ℝ) (t : Fin cfg0.N) : Fin 1024 → Fin 1024 → ℝ :=
  glue (dW (errAt OA OB GA GB X TG W t) (rows t GA) (rows t OA)) (dW (errAt OA OB GA GB X TG W t) (rows t GB) (rows t OB))

/-- After point `n` the two kept blocks hold the sums of the parts of the points up to it. -/
theorem acc (n : ℕ) (hn : n < cfg0.N) :
    (outsAt0 m c n hn).2.2.2.2.2.1 = mf (fun e d => ∑ t : Fin cfg0.N with t.val ≤ n, stepW OA OB GA GB X TG W t e d)
    ∧ (outsAt0 m c n hn).2.2.2.2.2.2 = mf (fun _ _ => ∑ t : Fin cfg0.N with t.val ≤ n, part (errAt OA OB GA GB X TG W t)) := by
  induction n with
  | zero =>
    have e : (Finset.univ.filter fun t : Fin cfg0.N => t.val ≤ 0) = {⟨0, hn⟩} := by
      ext x; simp only [Finset.mem_filter, Finset.mem_univ, true_and, Finset.mem_singleton, Fin.ext_iff]; omega
    have := outs_A H ⟨0, hn⟩ rfl rfl
    rw [this]
    simp only [e, Finset.sum_singleton]
    exact ⟨rfl, rfl⟩
  | succ n ih =>
    have h8 : n + 1 < 8 := hn
    obtain ⟨i1, i2⟩ := ih (by omega)
    have e : (Finset.univ.filter fun t : Fin cfg0.N => t.val ≤ n + 1) = insert ⟨n + 1, hn⟩ (Finset.univ.filter fun t : Fin cfg0.N => t.val ≤ n) := by
      ext x; simp only [Finset.mem_filter, Finset.mem_univ, true_and, Finset.mem_insert, Fin.ext_iff]; omega
    have := outs_B H ⟨n + 1, hn⟩ rfl (by show ¬(n + 1) % 8 = 0; omega) _ _ i1 i2
    rw [this]
    simp only [e, Finset.sum_insert (show (⟨n + 1, hn⟩ : Fin cfg0.N) ∉ (Finset.univ.filter fun t : Fin cfg0.N => t.val ≤ n) by simp)]
    exact ⟨congrArg mf (funext fun e => funext fun d => add_comm _ _), congrArg mf (funext fun e => funext fun d => add_comm _ _)⟩

end Cert.OutProjIdeal.Body

end
-- ==== Proof.OutProj.Ref.lean ====
/- The `out_proj` reference's results over the reals, at arguments that are matrices of reals: the same formulas the kernel's
   run ends in. -/
module

public import proofs.«01_k».proof.Proof.LiftHost
public import proofs.«01_k».proof.Proof.OutProj.Body
public import proofs.«01_k».proof.Proof.Gen.OutProjRefIdeal.Read

@[expose] public section

set_option maxRecDepth 16384

noncomputable section

open Idealize.ShloMosaic Idealize.ShloMosaic.ValueIdx Cert.Lift
open scoped BigOperators

namespace Cert.OutProjRefIdeal.Ref

open Cert.OutProjRefIdeal Cert.OutProjRefIdeal.Gen Cert.OutProjRefIdeal.Read
open Cert.OutProjIdeal.Pay (y diff pre dout dy dO dG dW part)
open Cert.OutProjIdeal.Body (top bot glue err)

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-- Two matrices side by side. -/
def beside (a b : Fin 4096 → Fin 512 → ℝ) (r : Fin 4096) (e : Fin 1024) : ℝ :=
  if h : e.val < 512 then a r ⟨e.val, h⟩ else b r ⟨e.val - 512, by omega⟩

/-- A sum over 1024 coordinates is the sum over the first 512 and the sum over the last. -/
theorem sum_halves (f : Fin 1024 → ℝ) : ∑ e, f e = (∑ k : Fin 512, f ⟨k.val, by omega⟩) + ∑ k : Fin 512, f ⟨512 + k.val, by omega⟩ :=
  Fin.sum_univ_add (a := 512) (b := 512) f

theorem concat_mat (a b : Fin 4096 → Fin 512 → ℝ) :
    concatenate S4096x1024 1 [⟨S4096x512, mf a⟩, ⟨S4096x512, mf b⟩] concatenates_S4096x512_S4096x512_S4096x1024_d1 = mf (beside a b) := by
  refine mat_ext fun r e => ?_
  unfold beside
  split
  · next h =>
    refine concatenate_pair_apply_left 1 (mf a) (mf b) _ (ValueIdx.ix2 r e) rfl (ValueIdx.ix2 r (⟨e.val, h⟩ : Fin 512)) fun i => ?_
    match i with
    | ⟨0, _⟩ => rfl
    | ⟨1, _⟩ => rfl
  · next h =>
    refine concatenate_pair_apply_right 1 (mf a) (mf b) _ (ValueIdx.ix2 r e) rfl rfl (ValueIdx.ix2 r (⟨e.val - 512, by omega⟩ : Fin 512))
      (fun i hi => ?_) (by show e.val - 512 + 512 = e.val; omega)
    match i, hi with
    | ⟨0, _⟩, _ => rfl
    | ⟨1, _⟩, hi => exact absurd rfl hi

variable (OA OB GA GB : Fin 4096 → Fin 512 → ℝ) (X TG : Fin 4096 → Fin 1024 → ℝ) (W : Fin 1024 → Fin 1024 → ℝ)

section gate
variable (g o : Fin 4096 → Fin 512 → ℝ)
theorem sig0 : val_main_v0_2 (F := Ideal) (mf g) = mf fun r e => sg (g r e) := by
  unfold val_main_v0_2 val_main_call0_v4 val_main_call0_cst_0 val_main_call0_v3 val_main_call0_v2 val_main_call0_cst val_main_call0_v1 val_main_call0_v0
  simp only [spread_mat _ _ _ 1 Ideal.ofBits_one_f32, hostNegf_mat, hostExp_mat, addf_mat, hostDivf_mat _ _ (fun r c => den_ne (g r c))]
  rfl
theorem silu0 : val_main_v0_0 (F := Ideal) (mf g) = mf fun r e => g r e * sg (g r e) := by
  unfold val_main_v0_0
  rw [sig0, mulf_mat]
theorem slope0 : val_main_v0_1 (F := Ideal) (mf g) = mf fun r e => sg (g r e) * (1 - sg (g r e)) := by
  unfold val_main_v0_1 val_main_call0_v7 val_main_call0_v6 val_main_call0_cst_1
  simp only [sig0, spread_mat _ _ _ 1 Ideal.ofBits_one_f32, subf_mat, mulf_mat]
/-- The second gate's lines are the first's. -/
theorem sig1 : val_main_v2_2 (F := Ideal) (mf g) = mf fun r e => sg (g r e) := sig0 g
theorem silu1 : val_main_v2_0 (F := Ideal) (mf g) = mf fun r e => g r e * sg (g r e) := silu0 g
theorem slope1 : val_main_v2_1 (F := Ideal) (mf g) = mf fun r e => sg (g r e) * (1 - sg (g r e)) := slope0 g
end gate

theorem v1 : val_main_v1 (F := Ideal) (mf OA) (mf GA) = mf (y GA OA) := by
  unfold val_main_v1
  rw [silu0, mulf_mat]
  rfl
theorem v3 : val_main_v3 (F := Ideal) (mf OB) (mf GB) = mf (y GB OB) := v1 OB GB

theorem v4 : val_main_v4 (F := Ideal) (mf OA) (mf OB) (mf GA) (mf GB) = mf (beside (y GA OA) (y GB OB)) := by
  unfold val_main_v4
  rw [v1, v3]
  exact concat_mat _ _

/-- The reference's error is the kernel's: the sum over the 1024 columns of the gated outputs is the sum of the two halves'. -/
theorem v7 : val_main_v7 (F := Ideal) (mf OA) (mf OB) (mf GA) (mf GB) (mf X) (mf W) (mf TG) = mf (err OA OB GA GB X TG W) := by
  unfold val_main_v7 val_main_v6 val_main_v5
  simp only [v4, hostDot_nn dot_S4096x1024_S1024x1024_S4096x1024_1_0_0_1_n_n rfl, addf_mat, subf_mat]
  refine congrArg mf (funext fun r => funext fun d => ?_)
  rw [sum_halves]
  unfold err diff pre top bot beside
  simp only [Fin.is_lt, dite_true, Nat.not_lt.mpr (Nat.le_add_right 512 _), dite_false, Nat.add_sub_cancel_left, Fin.eta]
  ring

/-- The factor of the error in the cotangent of the output. -/
theorem v20 : val_main_v20 (F := Ideal) = mf fun _ _ => 1 / 2 / 1024 := by
  refine mat_ext fun r d => ?_
  rw [val_main_v20_apply]
  show Ideal.div (Ideal.ofBits .f32 0x3F000000#32 * Ideal.ofBits .f32 0x3F800000#32) (Ideal.ofBits .f32 0x44800000#32) = _
  rw [ofBits_half, Ideal.ofBits_one_f32, ofBits_1024, mul_one, Ideal.div_coe (by norm_num), ← EReal.coe_mul]
  norm_num

theorem v21 : val_main_v21 (F := Ideal) (mf OA) (mf OB) (mf GA) (mf GB) (mf X) (mf W) (mf TG) = mf (dout (err OA OB GA GB X TG W)) := by
  unfold val_main_v21 val_main_v10 val_main_v9 val_main_cst
  simp only [v20, v7, spread_mat _ _ _ 2 ofBits_two, mulf_mat]
  refine congrArg mf (funext fun r => funext fun d => ?_)
  unfold dout
  ring

theorem v24 : val_main_v24 (F := Ideal) (mf OA) (mf OB) (mf GA) (mf GB) (mf X) (mf W) (mf TG)
    = mf fun r e => ∑ d, dout (err OA OB GA GB X TG W) r d * W e d := by
  unfold val_main_v24
  rw [v21, hostDot_nt dot_S4096x1024_S1024x1024_S4096x1024_1_1_0_0_n_n rfl]

theorem v25 : val_main_v25 (F := Ideal) (mf OA) (mf OB) (mf GA) (mf GB) (mf X) (mf W) (mf TG) = mf (dy (err OA OB GA GB X TG W) (top W)) :=
  mat_ext fun r e => by
    rw [val_main_v25_apply, v24]
    rfl
theorem v26 : val_main_v26 (F := Ideal) (mf OA) (mf OB) (mf GA) (mf GB) (mf X) (mf W) (mf TG) = mf (dy (err OA OB GA GB X TG W) (bot W)) :=
  mat_ext fun r e => by
    rw [val_main_v26_apply, v24]
    rfl

theorem v33 : val_main_v33 (F := Ideal) (mf OA) (mf OB) (mf GA) (mf GB) (mf X) (mf W) (mf TG) = mb (dO (err OA OB GA GB X TG W) (top W) GA) := by
  unfold val_main_v33 val_main_v31
  rw [v25, silu0, mulf_mat]
  rfl
theorem v34 : val_main_v34 (F := Ideal) (mf OA) (mf OB) (mf GA) (mf GB) (mf X) (mf W) (mf TG) = mb (dO (err OA OB GA GB X TG W) (bot W) GB) := by
  unfold val_main_v34 val_main_v28
  rw [v26, silu1, mulf_mat]
  rfl

/-- The gate's derivative: the product rule's two terms together. -/
theorem v35 : val_main_v35 (F := Ideal) (mf OA) (mf OB) (mf GA) (mf GB) (mf X) (mf W) (mf TG) = mb (dG (err OA OB GA GB X TG W) (top W) GA OA) := by
  unfold val_main_v35 val_main_v32 val_main_call3_v2 val_main_call3_v1 val_main_call3_v0 val_main_v30
  simp only [v25, sig0, slope0, mulf_mat, addf_mat, truncf_mat]
  refine congrArg mb (funext fun r => funext fun e => ?_)
  unfold dG
  ring
theorem v36 : val_main_v36 (F := Ideal) (mf OA) (mf OB) (mf GA) (mf GB) (mf X) (mf W) (mf TG) = mb (dG (err OA OB GA GB X TG W) (bot W) GB OB) := by
  unfold val_main_v36 val_main_v29 val_main_call2_v2 val_main_call2_v1 val_main_call2_v0 val_main_v27
  simp only [v26, sig1, slope1, mulf_mat, addf_mat, truncf_mat]
  refine congrArg mb (funext fun r => funext fun e => ?_)
  unfold dG
  ring

theorem v23 : val_main_v23 (F := Ideal) (mf OA) (mf OB) (mf GA) (mf GB) (mf X) (mf W) (mf TG)
    = mf (glue (dW (err OA OB GA GB X TG W) GA OA) (dW (err OA OB GA GB X TG W) GB OB)) := by
  refine mat_ext fun e d => ?_
  rw [val_main_v23_apply]
  unfold val_main_v22
  rw [v21, v4, hostDot_tn dot_S4096x1024_S4096x1024_S1024x1024_0_0_1_1_n_n_wf dot_S4096x1024_S4096x1024_S1024x1024_0_0_1_1_n_n rfl]
  refine congrArg Real.toEReal ?_
  show ∑ r, dout (err OA OB GA GB X TG W) r d * beside (y GA OA) (y GB OB) r e = _
  unfold glue beside dW
  split <;> exact Finset.sum_congr rfl fun r _ => mul_comm _ _

theorem v11 (r : Fin 4096) : val_main_v11 (F := Ideal) (mf OA) (mf OB) (mf GA) (mf GB) (mf X) (mf W) (mf TG) (ValueIdx.ix1 r)
    = ((∑ d, err OA OB GA GB X TG W r d * err OA OB GA GB X TG W r d : ℝ) : EReal) := by
  rw [val_main_v11_apply]
  unfold val_main_v8
  rw [v7, mulf_mat, coe_sum]
  exact (congrArg (· + _) Ideal.ofBits_zero_f32).trans (zero_add _)

/-- The loss: half of the mean squares' sum. -/
theorem v15 (i) : val_main_v15 (F := Ideal) (mf OA) (mf OB) (mf GA) (mf GB) (mf X) (mf W) (mf TG) i
    = ((part (err OA OB GA GB X TG W) : ℝ) : EReal) := by
  have e13 : ∀ j : S4096.Idx, val_main_v13 (F := Ideal) (mf OA) (mf OB) (mf GA) (mf GB) (mf X) (mf W) (mf TG) j
      = (((∑ d, err OA OB GA GB X TG W (j 0) d * err OA OB GA GB X TG W (j 0) d) * (1 / 1024) : ℝ) : EReal) := fun j => by
    obtain ⟨r, rfl⟩ : ∃ r : Fin 4096, j = ValueIdx.ix1 r := ⟨j 0, ValueIdx.eq_ix1 j⟩
    refine (congrArg₂ Ideal.div (v11 OA OB GA GB X TG W r) ofBits_1024).trans ?_
    rw [Ideal.div_coe (by norm_num), ← EReal.coe_mul]
  have e14 : val_main_v14 (F := Ideal) (mf OA) (mf OB) (mf GA) (mf GB) (mf X) (mf W) (mf TG) i
      = ((∑ r, (∑ d, err OA OB GA GB X TG W r d * err OA OB GA GB X TG W r d) * (1 / 1024) : ℝ) : EReal) := by
    rw [val_main_v14_apply, Finset.sum_congr rfl fun j _ => e13 j, coe_sum]
    refine (congrArg (· + _) Ideal.ofBits_zero_f32).trans ((zero_add _).trans ?_)
    exact sum_ix1 fun r => (((∑ d, err OA OB GA GB X TG W r d * err OA OB GA GB X TG W r d) * (1 / 1024) : ℝ) : EReal)
  refine (congrArg₂ (· * ·) ofBits_half e14).trans ?_
  rw [← EReal.coe_mul, ← Finset.sum_mul]
  refine congrArg Real.toEReal ?_
  unfold part
  ring

theorem v37 : val_main_v37 (F := Ideal) (mf OA) (mf OB) (mf GA) (mf GB) (mf X) (mf W) (mf TG) = mf fun _ _ => part (err OA OB GA GB X TG W) :=
  mat_ext fun r e => by
    rw [val_main_v37_apply, v15]

end Cert.OutProjRefIdeal.Ref

end
-- ==== Proof.OutProj.Run.lean ====
/- The `out_proj` kernel's seven result arrays over the reals, and its run.

   Every row of a row-wise result lies in one point's block; the weight gradient's and the loss's arrays are what the last
   point leaves, the sums over all points, so over all rows. -/
module

public import proofs.«01_k».proof.Proof.OutProj.Body

@[expose] public section

set_option maxRecDepth 16384

noncomputable section

open Idealize.ShloMosaic Idealize.ShloMosaic.TcCoe Idealize.SL.Sem Cert.Lift
open scoped BigOperators

namespace Cert.OutProjIdeal.Run

open Cert.OutProjIdeal Cert.OutProjIdeal.Gen Cert.OutProjIdeal.Value Cert.OutProjIdeal.Pay Cert.OutProjIdeal.Body

/-- The row of the arrays as a point and a row of its block. -/
theorem row_split (r : Fin 4096) : ∃ (t : Fin cfg0.N) (k : Fin 512), row t k = r :=
  ⟨⟨r.val / 512, by show r.val / 512 < 8; omega⟩, ⟨r.val % 512, Nat.mod_lt _ (by omega)⟩, Fin.ext (by show 512 * (r.val / 512) + r.val % 512 = r.val; omega)⟩

/-- A sum over the points and the rows of their blocks is the sum over all rows. -/
theorem sum_rows (f : Fin 4096 → ℝ) : ∑ t : Fin cfg0.N, ∑ k : Fin 512, f (row t k) = ∑ r, f r := by
  rw [← Equiv.sum_comp (finProdFinEquiv (m := 8) (n := 512)) f, Fintype.sum_prod_type]
  refine Finset.sum_congr rfl fun t _ => Finset.sum_congr rfl fun k _ => congrArg f (Fin.ext ?_)
  show 512 * t.val + k.val = k.val + 512 * t.val
  omega

variable {m : (ℓ : Loc nD τ sig) → Buf (Elt Ideal) ℓ} {c : Dev nD}
  {OA OB GA GB : Fin 4096 → Fin 512 → ℝ} {X TG : Fin 4096 → Fin 1024 → ℝ} {W : Fin 1024 → Fin 1024 → ℝ}
  (H : Real m c OA OB GA GB X TG W)

section rowwise
variable {n : ℕ} (t : Fin cfg0.N) (D : Fin 4096 → Fin 1024 → ℝ) (w : Fin 512 → Fin 1024 → ℝ) (G O : Fin 4096 → Fin 512 → ℝ) (r : Fin 512)

/-- The row-wise formulas at a block's row are those of the arrays at that row. -/
theorem errAt_rows : errAt OA OB GA GB X TG W t = rows t (err OA OB GA GB X TG W) := rfl
theorem dout_rows (d : Fin 1024) : dout (rows t D) r d = dout D (row t r) d := rfl
theorem dO_rows (e : Fin 512) : dO (rows t D) w (rows t G) r e = dO D w G (row t r) e := rfl
theorem dG_rows (e : Fin 512) : dG (rows t D) w (rows t G) (rows t O) r e = dG D w G O (row t r) e := rfl
theorem y_rows (e : Fin 512) : y (rows t G) (rows t O) r e = y G O (row t r) e := rfl
end rowwise

include H

/-- What any point leaves in the row-wise results' blocks. -/
theorem outs (t : Fin cfg0.N) : (outsAt0 m c t.val t.isLt).1 = mf (dout (errAt OA OB GA GB X TG W t))
    ∧ (outsAt0 m c t.val t.isLt).2.1 = mb (dO (errAt OA OB GA GB X TG W t) (top W) (rows t GA))
    ∧ (outsAt0 m c t.val t.isLt).2.2.1 = mb (dO (errAt OA OB GA GB X TG W t) (bot W) (rows t GB))
    ∧ (outsAt0 m c t.val t.isLt).2.2.2.1 = mb (dG (errAt OA OB GA GB X TG W t) (top W) (rows t GA) (rows t OA))
    ∧ (outsAt0 m c t.val t.isLt).2.2.2.2.1 = mb (dG (errAt OA OB GA GB X TG W t) (bot W) (rows t GB) (rows t OB)) := by
  by_cases h : t.val % 8 = 0
  · rw [outs_A H t rfl h]; exact ⟨rfl, rfl, rfl, rfl, rfl⟩
  · obtain ⟨i1, i2⟩ := acc H (t.val - 1) (Nat.lt_of_le_of_lt (Nat.sub_le _ _) t.isLt)
    rw [outs_B H t rfl h _ _ i1 i2]; exact ⟨rfl, rfl, rfl, rfl, rfl⟩

omit H in
theorem emb7 (t : Fin cfg0.N) (r : Fin 512) (e : Fin 1024) : ((cfg0.win 7).blk t).view.emb (ValueIdx.ix2 r e) = ValueIdx.ix2 (row t r) e := by
  obtain ⟨a0, a1⟩ : win0_7.index t (0 : Fin 2) = t.val ∧ win0_7.index t (1 : Fin 2) = 0 := (by decide +kernel : ∀ t : Fin grid0.N, win0_7.index t (0 : Fin 2) = t.val ∧ win0_7.index t (1 : Fin 2) = 0) t
  funext a; apply Fin.ext
  match a with
  | ⟨0, _⟩ => show win0_7.index t (0 : Fin 2) * 512 + 1 * r.val = 512 * t.val + r.val; omega
  | ⟨1, _⟩ => show win0_7.index t (1 : Fin 2) * 1024 + 1 * e.val = e.val; omega

theorem final7 : (dats m 0 c).arrAt 7 cfg0.N = mf (dout (err OA OB GA GB X TG W)) :=
  (dats m 0 c).arrAt_eq_of_cover 7 (mf (dout (err OA OB GA GB X TG W))) (fun t _ => by
    rw [flushed7, (outs H t).1]
    funext j
    obtain ⟨r, e, rfl⟩ : ∃ (r : Fin 512) (e : Fin 1024), j = ValueIdx.ix2 r e := ⟨j 0, j 1, ValueIdx.eq_ix2 j⟩
    refine Eq.trans ?_ (congrArg (mf (dout (err OA OB GA GB X TG W))) (emb7 t r e).symm)
    rw [errAt_rows]
    exact congrArg Real.toEReal (dout_rows t _ r e))
    (fun i => by
    obtain ⟨r, e, rfl⟩ : ∃ (r : Fin 4096) (e : Fin 1024), i = ValueIdx.ix2 r e := ⟨i 0, i 1, ValueIdx.eq_ix2 i⟩
    obtain ⟨t, k, rfl⟩ := row_split r
    exact ⟨t, flush0_7 t, emb7 t k e ▸ View.emb_mem_set _ _⟩)

omit H in
theorem emb8 (t : Fin cfg0.N) (r : Fin 512) (e : Fin 512) : ((cfg0.win 8).blk t).view.emb (ValueIdx.ix2 r e) = ValueIdx.ix2 (row t r) e := by
  obtain ⟨a0, a1⟩ : win0_8.index t (0 : Fin 2) = t.val ∧ win0_8.index t (1 : Fin 2) = 0 := (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 512 + 1 * r.val = 512 * t.val + r.val; omega
  | ⟨1, _⟩ => show win0_8.index t (1 : Fin 2) * 512 + 1 * e.val = e.val; omega

theorem final8 : (dats m 0 c).arrAt 8 cfg0.N = mb (dO (err OA OB GA GB X TG W) (top W) GA) :=
  (dats m 0 c).arrAt_eq_of_cover 8 (mb (dO (err OA OB GA GB X TG W) (top W) GA)) (fun t _ => by
    rw [flushed8, (outs H t).2.1]
    funext j
    obtain ⟨r, e, rfl⟩ : ∃ (r : Fin 512) (e : Fin 512), j = ValueIdx.ix2 r e := ⟨j 0, j 1, ValueIdx.eq_ix2 j⟩
    refine Eq.trans ?_ (congrArg (mb (dO (err OA OB GA GB X TG W) (top W) GA)) (emb8 t r e).symm)
    rw [errAt_rows]
    exact congrArg Real.toEReal (dO_rows t _ _ _ r e))
    (fun i => by
    obtain ⟨r, e, rfl⟩ : ∃ (r : Fin 4096) (e : Fin 512), i = ValueIdx.ix2 r e := ⟨i 0, i 1, ValueIdx.eq_ix2 i⟩
    obtain ⟨t, k, rfl⟩ := row_split r
    exact ⟨t, flush0_8 t, emb8 t k e ▸ View.emb_mem_set _ _⟩)

omit H in
theorem emb9 (t : Fin cfg0.N) (r : Fin 512) (e : Fin 512) : ((cfg0.win 9).blk t).view.emb (ValueIdx.ix2 r e) = ValueIdx.ix2 (row t r) e := by
  obtain ⟨a0, a1⟩ : win0_9.index t (0 : Fin 2) = t.val ∧ win0_9.index t (1 : Fin 2) = 0 := (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 512 + 1 * r.val = 512 * t.val + r.val; omega
  | ⟨1, _⟩ => show win0_9.index t (1 : Fin 2) * 512 + 1 * e.val = e.val; omega

theorem final9 : (dats m 0 c).arrAt 9 cfg0.N = mb (dO (err OA OB GA GB X TG W) (bot W) GB) :=
  (dats m 0 c).arrAt_eq_of_cover 9 (mb (dO (err OA OB GA GB X TG W) (bot W) GB)) (fun t _ => by
    rw [flushed9, (outs H t).2.2.1]
    funext j
    obtain ⟨r, e, rfl⟩ : ∃ (r : Fin 512) (e : Fin 512), j = ValueIdx.ix2 r e := ⟨j 0, j 1, ValueIdx.eq_ix2 j⟩
    refine Eq.trans ?_ (congrArg (mb (dO (err OA OB GA GB X TG W) (bot W) GB)) (emb9 t r e).symm)
    rw [errAt_rows]
    exact congrArg Real.toEReal (dO_rows t _ _ _ r e))
    (fun i => by
    obtain ⟨r, e, rfl⟩ : ∃ (r : Fin 4096) (e : Fin 512), i = ValueIdx.ix2 r e := ⟨i 0, i 1, ValueIdx.eq_ix2 i⟩
    obtain ⟨t, k, rfl⟩ := row_split r
    exact ⟨t, flush0_9 t, emb9 t k e ▸ View.emb_mem_set _ _⟩)

omit H in
theorem emb10 (t : Fin cfg0.N) (r : Fin 512) (e : Fin 512) : ((cfg0.win 10).blk t).view.emb (ValueIdx.ix2 r e) = ValueIdx.ix2 (row t r) e := by
  obtain ⟨a0, a1⟩ : win0_10.index t (0 : Fin 2) = t.val ∧ win0_10.index t (1 : Fin 2) = 0 := (by decide +kernel : ∀ t : Fin grid0.N, win0_10.index t (0 : Fin 2) = t.val ∧ win0_10.index t (1 : Fin 2) = 0) t
  funext a; apply Fin.ext
  match a with
  | ⟨0, _⟩ => show win0_10.index t (0 : Fin 2) * 512 + 1 * r.val = 512 * t.val + r.val; omega
  | ⟨1, _⟩ => show win0_10.index t (1 : Fin 2) * 512 + 1 * e.val = e.val; omega

theorem final10 : (dats m 0 c).arrAt 10 cfg0.N = mb (dG (err OA OB GA GB X TG W) (top W) GA OA) :=
  (dats m 0 c).arrAt_eq_of_cover 10 (mb (dG (err OA OB GA GB X TG W) (top W) GA OA)) (fun t _ => by
    rw [flushed10, (outs H t).2.2.2.1]
    funext j
    obtain ⟨r, e, rfl⟩ : ∃ (r : Fin 512) (e : Fin 512), j = ValueIdx.ix2 r e := ⟨j 0, j 1, ValueIdx.eq_ix2 j⟩
    refine Eq.trans ?_ (congrArg (mb (dG (err OA OB GA GB X TG W) (top W) GA OA)) (emb10 t r e).symm)
    rw [errAt_rows]
    exact congrArg Real.toEReal (dG_rows t _ _ _ _ r e))
    (fun i => by
    obtain ⟨r, e, rfl⟩ : ∃ (r : Fin 4096) (e : Fin 512), i = ValueIdx.ix2 r e := ⟨i 0, i 1, ValueIdx.eq_ix2 i⟩
    obtain ⟨t, k, rfl⟩ := row_split r
    exact ⟨t, flush0_10 t, emb10 t k e ▸ View.emb_mem_set _ _⟩)

omit H in
theorem emb11 (t : Fin cfg0.N) (r : Fin 512) (e : Fin 512) : ((cfg0.win 11).blk t).view.emb (ValueIdx.ix2 r e) = ValueIdx.ix2 (row t r) e := by
  obtain ⟨a0, a1⟩ : win0_11.index t (0 : Fin 2) = t.val ∧ win0_11.index t (1 : Fin 2) = 0 := (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 512 + 1 * r.val = 512 * t.val + r.val; omega
  | ⟨1, _⟩ => show win0_11.index t (1 : Fin 2) * 512 + 1 * e.val = e.val; omega

theorem final11 : (dats m 0 c).arrAt 11 cfg0.N = mb (dG (err OA OB GA GB X TG W) (bot W) GB OB) :=
  (dats m 0 c).arrAt_eq_of_cover 11 (mb (dG (err OA OB GA GB X TG W) (bot W) GB OB)) (fun t _ => by
    rw [flushed11, (outs H t).2.2.2.2]
    funext j
    obtain ⟨r, e, rfl⟩ : ∃ (r : Fin 512) (e : Fin 512), j = ValueIdx.ix2 r e := ⟨j 0, j 1, ValueIdx.eq_ix2 j⟩
    refine Eq.trans ?_ (congrArg (mb (dG (err OA OB GA GB X TG W) (bot W) GB OB)) (emb11 t r e).symm)
    rw [errAt_rows]
    exact congrArg Real.toEReal (dG_rows t _ _ _ _ r e))
    (fun i => by
    obtain ⟨r, e, rfl⟩ : ∃ (r : Fin 4096) (e : Fin 512), i = ValueIdx.ix2 r e := ⟨i 0, i 1, ValueIdx.eq_ix2 i⟩
    obtain ⟨t, k, rfl⟩ := row_split r
    exact ⟨t, flush0_11 t, emb11 t k e ▸ View.emb_mem_set _ _⟩)

omit H in
theorem emb12 (t : Fin cfg0.N) (j : S1024x1024.Idx) : ((cfg0.win 12).blk t).view.emb j = j := by
  obtain ⟨a0, a1⟩ : win0_12.index t (0 : Fin 2) = 0 ∧ win0_12.index t (1 : Fin 2) = 0 := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1024 + 1 * (j 0).val = (j 0).val; omega
  | ⟨1, _⟩ => show win0_12.index t (1 : Fin 2) * 1024 + 1 * (j 1).val = (j 1).val; omega

omit H in
theorem emb13 (t : Fin cfg0.N) (j : S8x128.Idx) : ((cfg0.win 13).blk t).view.emb j = j := by
  obtain ⟨a0, a1⟩ : win0_13.index t (0 : Fin 2) = 0 ∧ win0_13.index t (1 : Fin 2) = 0 := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 8 + 1 * (j 0).val = (j 0).val; omega
  | ⟨1, _⟩ => show win0_13.index t (1 : Fin 2) * 128 + 1 * (j 1).val = (j 1).val; omega

/-- The sum over all points is over all rows: the weight gradient. -/
theorem sumW (e d : Fin 1024) : ∑ t : Fin cfg0.N with t.val ≤ 7, stepW OA OB GA GB X TG W t e d
    = glue (dW (err OA OB GA GB X TG W) GA OA) (dW (err OA OB GA GB X TG W) GB OB) e d := by
  have e7 : (Finset.univ.filter fun t : Fin cfg0.N => t.val ≤ 7) = Finset.univ :=
    Finset.filter_true_of_mem fun t _ => by have : t.val < 8 := t.isLt; omega
  rw [e7]
  simp only [stepW, errAt_rows]
  generalize err OA OB GA GB X TG W = D
  unfold glue dW
  split
  · exact sum_rows (fun r => y GA OA r _ * dout D r d)
  · exact sum_rows (fun r => y GB OB r _ * dout D r d)

/-- The loss likewise. -/
theorem sumL : ∑ t : Fin cfg0.N with t.val ≤ 7, part (errAt OA OB GA GB X TG W t) = part (err OA OB GA GB X TG W) := by
  have e7 : (Finset.univ.filter fun t : Fin cfg0.N => t.val ≤ 7) = Finset.univ :=
    Finset.filter_true_of_mem fun t _ => by have : t.val < 8 := t.isLt; omega
  rw [e7]
  simp only [errAt_rows]
  unfold part
  rw [← Finset.sum_mul]
  exact congrArg (· * _) (sum_rows (fun r => ∑ d, (err OA OB GA GB X TG W) r d * (err OA OB GA GB X TG W) r d))

theorem final12 : (dats m 0 c).arrAt 12 cfg0.N = mf (glue (dW (err OA OB GA GB X TG W) GA OA) (dW (err OA OB GA GB X TG W) GB OB)) :=
  (dats m 0 c).arrAt_eq_of_cover 12 (mf (glue (dW (err OA OB GA GB X TG W) GA OA) (dW (err OA OB GA GB X TG W) GB OB))) (fun t hf => by
    have h7 : t.val = 7 := by have := (flush0_12 t).mp hf; have : t.val < 8 := t.isLt; omega
    rw [flushed12, (acc H t.val t.isLt).1, h7]
    funext j
    refine Eq.trans ?_ (congrArg (mf (glue (dW (err OA OB GA GB X TG W) GA OA) (dW (err OA OB GA GB X TG W) GB OB))) (emb12 t j).symm)
    exact congrArg Real.toEReal (sumW H (j 0) (j 1)))
    (fun i => ⟨⟨7, by decide⟩, (flush0_12 _).mpr rfl, by
      have h := ((cfg0.win 12).blk ⟨7, by decide⟩).view.emb_mem_set i
      rwa [emb12] at h⟩)

theorem final13 : (dats m 0 c).arrAt 13 cfg0.N = mf (fun _ _ => part (err OA OB GA GB X TG W)) :=
  (dats m 0 c).arrAt_eq_of_cover 13 (mf (fun _ _ => part (err OA OB GA GB X TG W))) (fun t hf => by
    have h7 : t.val = 7 := by have := (flush0_13 t).mp hf; have : t.val < 8 := t.isLt; omega
    rw [flushed13, (acc H t.val t.isLt).2, h7]
    funext j
    refine Eq.trans ?_ (congrArg (mf (fun _ _ => part (err OA OB GA GB X TG W))) (emb13 t j).symm)
    exact congrArg Real.toEReal (sumL H))
    (fun i => ⟨⟨7, by decide⟩, (flush0_13 _).mpr rfl, by
      have h := ((cfg0.win 13).blk ⟨7, by decide⟩).view.emb_mem_set i
      rwa [emb13] at h⟩)

end Cert.OutProjIdeal.Run

end
-- ==== Proof.OutProj.Claim.lean ====
/- The value claim of `out_proj`: the kernel's run and the reference's end in the same seven arrays. -/
module

public import proofs.«01_k».proof.Defs
public import proofs.«01_k».proof.Proof.OutProj.Finite
public import proofs.«01_k».proof.Proof.OutProj.Ref
public import proofs.«01_k».proof.Proof.OutProj.Run
public import proofs.«01_k».proof.Proof.Gen.OutProjRefIdeal.Run

@[expose] public section

set_option maxRecDepth 16384

noncomputable section

open Idealize.ShloMosaic Idealize.ShloMosaic.TcCoe Idealize.SL.Sem Cert.Lift

namespace Cert.OutProjIdeal

open Cert.OutProjIdeal.Gen Cert.OutProjRefIdeal.Read

/-- A function of seven arguments at equal arguments. -/
theorem cong7 {A B C D E G H T : Type} (f : A → B → C → D → E → G → H → T) {a a' b b' c c' d d' e e' g g' h h'}
    (h0 : a = a') (h1 : b = b') (h2 : c = c') (h3 : d = d') (h4 : e = e') (h5 : g = g') (h6 : h = h') :
    f a b c d e g h = f a' b' c' d' e' g' h' := by
  subst h0 h1 h2 h3 h4 h5 h6
  rfl

theorem value : algebraic_OutProjIdeal_OutProjRefIdeal_pre_finite (hOutProjIdeal := Gen.facts) (hOutProjRefIdeal := Cert.OutProjRefIdeal.Gen.facts)
    (hPre_finite := Cert.Pre_finite.Gen.facts) := by
  intro m g m' g' hpre hargs
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    fun c => (dats m 0 c).arrAt 13 cfg0.N, Value.run_blocks m g, ?_⟩
  refine (θ_run Cert.OutProjRefIdeal.defs _ _).mono (fun r h c => ?_) (Cert.OutProjRefIdeal.Value.run m' g')
  obtain ⟨⟨OA, h0⟩, ⟨OB, h1⟩, ⟨GA, h2⟩, ⟨GB, h3⟩, ⟨X, h4⟩, ⟨W, h5⟩, ⟨TG, h6⟩⟩ := Cert.Pre_finite.reals _ _ _ _ _ _ _ (hpre c)
  have H : Body.Real m c OA OB GA GB X TG W := ⟨h0, h1, h2, h3, h4, h5, h6⟩
  obtain ⟨a0, a1, a2, a3, a4, a5, a6⟩ := hargs c
  obtain ⟨r0, r1, r2, r3, r4, r5, r6, k⟩ := h c
  replace a0 := a0.trans h0
  replace a1 := a1.trans h1
  replace a2 := a2.trans h2
  replace a3 := a3.trans h3
  replace a4 := a4.trans h4
  replace a5 := a5.trans h5
  replace a6 := a6.trans h6
  refine ⟨?_, ?_, ?_, ?_, ?_, ?_, ?_, k⟩
  · exact (r0.trans (val_main_v21_eq _ _ _ _ _ _ _)).trans ((cong7 (val_main_v21 (F := Ideal)) a0 a1 a2 a3 a4 a5 a6).trans
      ((Cert.OutProjRefIdeal.Ref.v21 OA OB GA GB X TG W).trans (Run.final7 H).symm))
  · exact (r1.trans (val_main_v33_eq _ _ _ _ _ _ _)).trans ((cong7 (val_main_v33 (F := Ideal)) a0 a1 a2 a3 a4 a5 a6).trans
      ((Cert.OutProjRefIdeal.Ref.v33 OA OB GA GB X TG W).trans (Run.final8 H).symm))
  · exact (r2.trans (val_main_v34_eq _ _ _ _ _ _ _)).trans ((cong7 (val_main_v34 (F := Ideal)) a0 a1 a2 a3 a4 a5 a6).trans
      ((Cert.OutProjRefIdeal.Ref.v34 OA OB GA GB X TG W).trans (Run.final9 H).symm))
  · exact (r3.trans (val_main_v35_eq m' c)).trans ((cong7 (val_main_v35 (F := Ideal)) a0 a1 a2 a3 a4 a5 a6).trans
      ((Cert.OutProjRefIdeal.Ref.v35 OA OB GA GB X TG W).trans (Run.final10 H).symm))
  · exact (r4.trans (val_main_v36_eq m' c)).trans ((cong7 (val_main_v36 (F := Ideal)) a0 a1 a2 a3 a4 a5 a6).trans
      ((Cert.OutProjRefIdeal.Ref.v36 OA OB GA GB X TG W).trans (Run.final11 H).symm))
  · exact (r5.trans (val_main_v23_eq _ _ _ _ _ _ _)).trans ((cong7 (val_main_v23 (F := Ideal)) a0 a1 a2 a3 a4 a5 a6).trans
      ((Cert.OutProjRefIdeal.Ref.v23 OA OB GA GB X TG W).trans (Run.final12 H).symm))
  · exact (r6.trans (val_main_v37_eq _ _ _ _ _ _ _)).trans ((cong7 (val_main_v37 (F := Ideal)) a0 a1 a2 a3 a4 a5 a6).trans
      ((Cert.OutProjRefIdeal.Ref.v37 OA OB GA GB X TG W).trans (Run.final13 H).symm))

/-- The reference's frame: its run with the results forgotten; it declares no semaphore. -/
theorem frame_ref : quiescent_OutProjRefIdeal (hOutProjRefIdeal := Cert.OutProjRefIdeal.Gen.facts) := fun m g _ =>
  (θ_run Cert.OutProjRefIdeal.defs _ _).mono (fun r h => ⟨fun c => (h c).2.2.2.2.2.2.2, sem_eq_zero_of_no_sems (by decide) r.2⟩)
    (Cert.OutProjRefIdeal.Value.run m g)

end Cert.OutProjIdeal

end
-- ==== Proof.SbBwd.Run.lean ====
/-
  The stick-breaking backward call: the whole run.  What each grid point leaves in the three results' buffers, the
  invariant between points (the weight tiles at rest, the slots at anything), and from them one run of @main.
-/
module

public import proofs.«01_k».proof.Proof.SbBwd.Body
public import proofs.«01_k».proof.Proof.Gen.SbBwdIdeal.Launch
public import proofs.«01_k».proof.Proof.Gen.SbBwdIdeal.Points
public import proofs.«01_k».proof.Proof.Gen.SbBwdIdeal.Frame
public import Idealize.ShloMosaic.Lib.VecWindow

@[expose] public section

set_option maxRecDepth 16384

noncomputable section

namespace Cert.SbBwdIdeal.Run

open Cert.SbBwdIdeal Cert.SbBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The weight tiles and the slots as parts of their buffers -/

abbrev TS (b : Fin 64) : Finset S64x4x512x512.Idx := (Rect.unit (s := S64x4x512x512) (tileOff b) S1x4x512x512.size (tileOff_inb b)).set
abbrev SS (s : Fin 2) : Finset S2x4x512x512.Idx := (Rect.unit (s := S2x4x512x512) (slotOff s) S1x4x512x512.size (slotOff_inb s)).set

theorem mem_TS (b : Fin 64) (y : S64x4x512x512.Idx) : y ∈ TS b ↔ (y 0).val = b.val := by
  rw [Rect.mem_set_unit]
  have h1 : (y 1).val < 4 := (y 1).isLt
  have h2 : (y 2).val < 512 := (y 2).isLt
  have h3 : (y 3).val < 512 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 512; omega
    · show 0 ≤ (y 3).val ∧ (y 3).val < 0 + 512; omega
theorem mem_SS (b : Fin 2) (y : S2x4x512x512.Idx) : y ∈ SS b ↔ (y 0).val = b.val := by
  rw [Rect.mem_set_unit]
  have h1 : (y 1).val < 4 := (y 1).isLt
  have h2 : (y 2).val < 512 := (y 2).isLt
  have h3 : (y 3).val < 512 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 4; omega
    · show 0 ≤ (y 2).val ∧ (y 2).val < 0 + 512; omega
    · show 0 ≤ (y 3).val ∧ (y 3).val < 0 + 512; omega
theorem TS_disjoint : ∀ b b' : Fin 64, b ≠ b' → Disjoint (TS b) (TS b') := by
  intro b b' hne; rw [Finset.disjoint_left]; intro y hy hy'; rw [mem_TS] at hy hy'; exact hne (Fin.ext (hy.symm.trans hy'))
theorem TS_cover : (Finset.univ : Finset (Fin 64)).biUnion TS = Finset.univ := by
  ext y; simp only [Finset.mem_biUnion, Finset.mem_univ, true_and, iff_true]; exact ⟨(y 0).cast (by decide), by rw [mem_TS]; rfl⟩
theorem SS_disjoint : ∀ b b' : Fin 2, b ≠ b' → Disjoint (SS b) (SS b') := by
  intro b b' hne; rw [Finset.disjoint_left]; intro y hy hy'; rw [mem_SS] at hy hy'; exact hne (Fin.ext (hy.symm.trans hy'))
theorem SS_cover : (Finset.univ : Finset (Fin 2)).biUnion SS = Finset.univ := by
  ext y; simp only [Finset.mem_biUnion, Finset.mem_univ, true_and, iff_true]; exact ⟨(y 0).cast (by decide), by rw [mem_SS]; rfl⟩

theorem tile_setW (b : Fin 64) : (tile wM b : Memref sig .tc .hbm _ _).view.set = TS b := (View.set_reshape _ _).trans (View.set_slice_whole _ _)
theorem tile_setO (b : Fin 64) : (tile oM b : Memref sig .tc .hbm _ _).view.set = TS b := (View.set_reshape _ _).trans (View.set_slice_whole _ _)
theorem slot_setW (s : Fin 2) : (slot wB s : Memref sig .tc .vmem _ _).view.set = SS s := (View.set_reshape _ _).trans (View.set_slice_whole _ _)
theorem slot_setO (s : Fin 2) : (slot oB s : Memref sig .tc .vmem _ _).view.set = SS s := (View.set_reshape _ _).trans (View.set_slice_whole _ _)

theorem homesW (c : Dev nD) (X : Buf (Elt F) (wM.view.loc (c : Thread nD τ))) :
    (((c : Thread nD τ).loc main_v40) ↦{fullShare} X : sProp 𝕄) = bigSep Finset.univ (homeP c wM X) := by
  rw [Ring.pointsTo_blocks (ℓ := (c : Thread nD τ).loc main_v40) TS TS_disjoint TS_cover]
  exact bigSep_congr fun b _ => by rw [← tile_setW]; rfl
theorem homesO (c : Dev nD) (X : Buf (Elt F) (oM.view.loc (c : Thread nD τ))) :
    (((c : Thread nD τ).loc main_v44) ↦{fullShare} X : sProp 𝕄) = bigSep Finset.univ (homeP c oM X) := by
  rw [Ring.pointsTo_blocks (ℓ := (c : Thread nD τ).loc main_v44) TS TS_disjoint TS_cover]
  exact bigSep_congr fun b _ => by rw [← tile_setO]; rfl

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem slotW_eq (c : Dev nD) (s : Fin 2) (f) : slotP c wB s f = (((c : Thread nD τ).loc cc0_scratch0) ↦[SS s]{fullShare} f : sProp 𝕄) :=
  congrArg (fun S => (_ ↦[S]{fullShare} f : sProp 𝕄)) (slot_setW s)
theorem slotO_eq (c : Dev nD) (s : Fin 2) (f) : slotP c oB s f = (((c : Thread nD τ).loc cc0_scratch1) ↦[SS s]{fullShare} f : sProp 𝕄) :=
  congrArg (fun S => (_ ↦[S]{fullShare} f : sProp 𝕄)) (slot_setO s)

theorem slotsW_split (c : Dev nD) :
    iprop(∃ f : Buf (Elt F) ((c : Thread nD τ).loc cc0_scratch0), ((c : Thread nD τ).loc cc0_scratch0) ↦{fullShare} f)
      ⊢ (iprop((∃ f, slotP c wB 0 f) ∗ ∃ f, slotP c wB 1 f) : sProp 𝕄) := by
  iintro ⟨%f, H⟩
  ihave H2 := (sep_of_eq ((Ring.pointsTo_blocks (Ix := Unit) (Name := ℕ) (U := UU nD τ) (Lvl := ℕ) (q := fullShare) (ℓ := (c : Thread nD τ).loc cc0_scratch0) SS SS_disjoint SS_cover f).trans (bigSep_two _))) $$ H
  icases H2 with ⟨H0, H1⟩
  isplitl [H0]
  · iexists f; iapply (sep_of_eq (slotW_eq c 0 f).symm); iexact H0
  · iexists f; iapply (sep_of_eq (slotW_eq c 1 f).symm); iexact H1
theorem slotsW_join (c : Dev nD) :
    iprop((∃ f, slotP c wB 0 f) ∗ ∃ f, slotP c wB 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SS SS_disjoint SS_cover f0)
  irw [bigSep_two]
  isplitl [H0]
  · iexists f0; iapply (sep_of_eq (slotW_eq c 0 f0)); iexact H0
  · iexists f1; iapply (sep_of_eq (slotW_eq c 1 f1)); iexact H1
theorem slotsO_split (c : Dev nD) :
    iprop(∃ f : Buf (Elt F) ((c : Thread nD τ).loc cc0_scratch1), ((c : Thread nD τ).loc cc0_scratch1) ↦{fullShare} f)
      ⊢ (iprop((∃ f, slotP c oB 0 f) ∗ ∃ f, slotP c oB 1 f) : sProp 𝕄) := by
  iintro ⟨%f, H⟩
  ihave H2 := (sep_of_eq ((Ring.pointsTo_blocks (Ix := Unit) (Name := ℕ) (U := UU nD τ) (Lvl := ℕ) (q := fullShare) (ℓ := (c : Thread nD τ).loc cc0_scratch1) SS SS_disjoint SS_cover f).trans (bigSep_two _))) $$ H
  icases H2 with ⟨H0, H1⟩
  isplitl [H0]
  · iexists f; iapply (sep_of_eq (slotO_eq c 0 f).symm); iexact H0
  · iexists f; iapply (sep_of_eq (slotO_eq c 1 f).symm); iexact H1
theorem slotsO_join (c : Dev nD) :
    iprop((∃ f, slotP c oB 0 f) ∗ ∃ f, slotP c oB 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) SS SS_disjoint SS_cover f0)
  irw [bigSep_two]
  isplitl [H0]
  · iexists f0; iapply (sep_of_eq (slotO_eq c 0 f0)); iexact H0
  · iexists f1; iapply (sep_of_eq (slotO_eq c 1 f1)); iexact H1

/-! ## The kernel's own semaphores -/

abbrev osem : Fin 4 → SemLoc sig := fun k => .dma (csm (k.divNat (m := 2) (n := 2)) (k.modNat (m := 2) (n := 2))).sem
theorem ownSemFacts : Pipeline.OwnSemFacts spec0 osem := by decide
theorem cells_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 1 0 ∗ cellP c 1 1) := by
  unfold Pipeline.ownSems0
  exact bigSep_univ_eq_bigSepL [(0 : Fin 4), (1 : Fin 4), (2 : Fin 4), (3 : Fin 4)] (by decide) (by decide) _

/-- The two tile arrays, which the kernel reads itself. -/
abbrev H0 : Finset (Ref sig .tc) := {main_v40, main_v44}
theorem H0_sub : H0 ⊆ Pipeline.restRefs sig spec0 := by
  intro b hb
  rcases Finset.mem_insert.mp hb with rfl | hb
  · exact Pipeline.mem_restRefs_of main_v40 (by decide) (by decide)
  · rw [Finset.mem_singleton.mp hb]; exact Pipeline.mem_restRefs_of main_v44 (by decide) (by decide)
theorem reads_eq (c : Dev nD) (V : (b : Ref sig .tc) → Buf (Elt F) ((c : Thread nD τ).loc b)) :
    (bigSep H0 (fun b => ((c : Thread nD τ).loc b) ↦{fullShare} V b) : sProp 𝕄)
      = iprop(bigSep Finset.univ (homeP c wM (V main_v40)) ∗ bigSep Finset.univ (homeP c oM (V main_v44))) := by
  rw [← homesW, ← homesO, bigSep_insert (by decide), bigSep_singleton]; rfl

/-! ## What a point leaves -/

abbrev hst (t : Fin cfg0.N) (w : Fin 8) : ((cfg0.win w).stage (cfg0.slots t w)).IsWhole := stage_whole0 w (cfg0.slots t w)

/-- A buffer that the first query block clears starts alike whatever it held. -/
theorem start_congr (c : Dev nD) (i : grid0.Coords) (h : (i 2).val = 0) (a : Memref sig .tc .vmem S2048x512 .f32) (ha : a.IsWhole)
    (f g : Buf (Elt F) (a.view.loc (c : Thread nD τ))) : start c i a f = start c i a g := by
  unfold start; rw [if_pos h, if_pos h]
  refine ha.read_bijective.1 ?_
  have e : ∀ h : Buf (Elt F) (a.view.loc (c : Thread nD τ)), a.view.read (Elt F) (a.view.writes (Elt F) h [⟨R2048, k0_pay223 (F := F)⟩]) = k0_pay223 (F := F) :=
    fun h => View.read_writes_full _ _ _ _ _
  exact (e f).trans (e g).symm

/-- The grid point's run at point `t`, its inputs at their blocks, the key-side gradients found at `X`. -/
abbrev ptRun (c : Dev nD) (t : Fin cfg0.N) (X : (S2048x512.Idx → Elt F .f32) × (S2048x512.Idx → Elt F .f32)) :=
  bodyRun c (grid0.coords t) (V m c main_v40) (V m c main_v44) (st0_0 t) (hst t 0) (st0_1 t) (hst t 1) (st0_2 t) (hst t 2) (st0_3 t) (hst t 3)
    (st0_4 t) (hst t 4) (st0_5 t) (hst t 5) (st0_6 t) (hst t 6) (st0_7 t) (hst t 7)
    ((hst t 0).unread (iblk m c 0 t)) ((hst t 1).unread (iblk m c 1 t)) ((hst t 2).unread (iblk m c 2 t)) ((hst t 3).unread (iblk m c 3 t))
    ((hst t 4).unread (iblk m c 4 t)) (start c (grid0.coords t) (st0_6 t) ((hst t 6).unread X.1)) (start c (grid0.coords t) (st0_7 t) ((hst t 7).unread X.2))

/-- The key-side gradients after `n` points. -/
def keyAt (c : Dev nD) : ℕ → (S2048x512.Idx → Elt F .f32) × (S2048x512.Idx → Elt F .f32)
  | 0 => (k0_pay223 (F := F), k0_pay223 (F := F))
  | n + 1 => if h : n < cfg0.N then
      ((st0_6 ⟨n, h⟩).view.read (Elt F) (ptRun m c ⟨n, h⟩ (keyAt c n)).1.2.1, (st0_7 ⟨n, h⟩).view.read (Elt F) (ptRun m c ⟨n, h⟩ (keyAt c n)).1.2.2)
    else keyAt c n

/-- The query-side gradient's block after point `t`. -/
def qAt (c : Dev nD) (t : Fin cfg0.N) : S512x512.Idx → Elt F .f32 :=
  (st0_5 t).view.read (Elt F) ((st0_5 t).view.writes (Elt F) ((hst t 5).unread (fun _ => Scalar.ofBits .f32 0x00000000#32)) (ptRun m c t (keyAt m c t.val)).1.1)

theorem keyAt_succ (c : Dev nD) (t : Fin cfg0.N) : keyAt m c (t.val + 1)
    = ((st0_6 t).view.read (Elt F) (ptRun m c t (keyAt m c t.val)).1.2.1, (st0_7 t).view.read (Elt F) (ptRun m c t (keyAt m c t.val)).1.2.2) := by
  conv_lhs => unfold keyAt
  rw [dif_pos t.isLt]

/-- What holds between points. -/
def Φ (c : Dev nD) : sProp 𝕄 := iprop(restP c (V m c main_v40) (V m c main_v44) ∗ (∃ r, prngReg c r))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qAt m c t
    | ⟨6, _⟩ => (keyAt m c (t.val + 1)).1
    | ⟨7, _⟩ => (keyAt m c (t.val + 1)).2
  Φ _ := Φ m c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = qAt m c t := by dsimp only [dats]
theorem after6 (c : Dev nD) (t : Fin cfg0.N) : (dats m 0 c).after 6 t = (keyAt m c (t.val + 1)).1 := by dsimp only [dats]
theorem after7 (c : Dev nD) (t : Fin cfg0.N) : (dats m 0 c).after 7 t = (keyAt m c (t.val + 1)).2 := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

theorem coord2 : ∀ t : Fin grid0.N, (grid0.coords t 2).val = t.val % 4 := by decide +kernel

/-- The key-side gradients start alike from what the buffer holds and from what the points before left. -/
theorem start6 (c : Dev nD) (t : Fin cfg0.N) (d) (f : Buf (Elt F) ((st0_6 t).view.loc (c : Thread nD τ)))
    (hf : (st0_6 t).view.read (Elt F) f = (dats m 0 c).before 6 t d) :
    start c (grid0.coords t) (st0_6 t) f = start c (grid0.coords t) (st0_6 t) ((hst t 6).unread (keyAt m c t.val).1) := by
  by_cases h : t.val % 4 = 0
  · exact start_congr c _ ((coord2 t).trans h) _ (hst t 6) _ _
  · rw [Dat.before_out_kept _ 6 rfl t (by omega) (Bool.eq_false_iff.mpr fun h => by have := (flush0_6 _).mp h; dsimp only at this; omega)
      (fun _ => rfl) (fun _ _ => rfl), after6] at hf
    rw [(hst t 6).eq_unread hf, show t.val - 1 + 1 = t.val from by omega]
theorem start7 (c : Dev nD) (t : Fin cfg0.N) (d) (f : Buf (Elt F) ((st0_7 t).view.loc (c : Thread nD τ)))
    (hf : (st0_7 t).view.read (Elt F) f = (dats m 0 c).before 7 t d) :
    start c (grid0.coords t) (st0_7 t) f = start c (grid0.coords t) (st0_7 t) ((hst t 7).unread (keyAt m c t.val).2) := by
  by_cases h : t.val % 4 = 0
  · exact start_congr c _ ((coord2 t).trans h) _ (hst t 7) _ _
  · rw [Dat.before_out_kept _ 7 rfl t (by omega) (Bool.eq_false_iff.mpr fun h => by have := (flush0_7 _).mp h; dsimp only at this; omega)
      (fun _ => rfl) (fun _ _ => rfl), after7] at hf
    rw [(hst t 7).eq_unread hf, show t.val - 1 + 1 = t.val from by omega]

/-- The pieces of the query-side gradient cover its block. -/
theorem cover5 (c : Dev nD) (t : Fin cfg0.N) (X) (y : S512x512.Idx) : ∃ p ∈ (ptRun m c t X).1.1, y ∈ p.1.set :=
  View.cover_of_tiledL (ptRun m c t X).1.1 ![512, 128] (by sl_kernel_rfl) y

theorem prog_eq (t : Fin cfg0.N) : (defs₀ (F := F)) .tc cfg0.body (cfg0.bodyArgs t (cfg0.slots t)) = bodyAt0 t := by
  unfold defs₀; rw [Defs.onTc_tc]

set_option backward.isDefEq.respectTransparency.types false in
theorem body_obligation (c : Dev nD) : BodyObligation (dats (F := F) m 0 c) (defs₀ (F := F)) 𝒱₀ () Set.univ := fun t => by
  rw [bigSep_W0, bigSep_W0, prog_eq]
  dsimp only
  simp only [before0, before1, before2, before3, before4, after0, after1, after2, after3, after4, after5, after6, after7]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HR, HG⟩, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩,
    ⟨%d5, %g5, -, H5⟩, ⟨%d6, %g6, %h6, H6⟩, ⟨%d7, %g7, %h7, H7⟩⟩
  have e0 := (hst t 0).eq_unread h0
  have e1 := (hst t 1).eq_unread h1
  have e2 := (hst t 2).eq_unread h2
  have e3 := (hst t 3).eq_unread h3
  have e4 := (hst t 4).eq_unread h4
  subst e0 e1 e2 e3 e4
  iapply (wp_wand_r Idealize.ShloMosaic.frame (wpE (defs₀ (F := F)) 𝒱₀ (c : Thread nD τ) none) Set.univ)
  isplitl [HR HW H0 H1 H2 H3 H4 H5 H6 H7]
  · iapply ((ptRun m c t (keyAt m c t.val)).2 g5 g6 g7 (start6 m c t d6 g6 h6) (start7 m c t d7 g7 h7))
    unfold ptP
    isplitl [HR]; · iexact HR
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  unfold ptP
  iintro %r ⟨HR, ⟨%W', HW⟩, H0, H1, H2, H3, H4, H5, H6, H7⟩
  isplitl [HR HG]
  · isplitl [HR]; · iexact HR
    iexact HG
  isplitl [HW]
  · iexists W'; isplitr; · ipureintro; exact fun _ _ => Or.inl trivial
    iexact HW
  isplitl [H0]
  · iexists _; isplitr; swap; · iexact H0
    ipureintro; exact (hst t 0).read_unread _
  isplitl [H1]
  · iexists _; isplitr; swap; · iexact H1
    ipureintro; exact (hst t 1).read_unread _
  isplitl [H2]
  · iexists _; isplitr; swap; · iexact H2
    ipureintro; exact (hst t 2).read_unread _
  isplitl [H3]
  · iexists _; isplitr; swap; · iexact H3
    ipureintro; exact (hst t 3).read_unread _
  isplitl [H4]
  · iexists _; isplitr; swap; · iexact H4
    ipureintro; exact (hst t 4).read_unread _
  isplitl [H5]
  · iexists _; isplitr; swap; · iexact H5
    ipureintro; exact View.read_writes_of_cover _ _ _ _ _ (cover5 m c t _)
  isplitl [H6]
  · iexists _; isplitr; swap; · iexact H6
    ipureintro; rw [keyAt_succ]
  iexists _; isplitr; swap; · iexact H7
  ipureintro; rw [keyAt_succ]

/-! ## The run and the frame -/

set_option maxHeartbeats 800000 in
/-- @main up to the call. -/
theorem hmainD : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

theorem enter (c : Dev nD) : Pipeline.ΦD osem spec0 H0 (V m) c ⊢ (dats m 0 c).Φ 0 := by
  rw [show (dats m 0 c).Φ 0 = Φ m c from rfl, Pipeline.ΦD_eq, scopedRest0_eq, cells_eq, reads_eq]
  unfold Φ restP
  iintro ⟨⟨HW, HO⟩, HG, ⟨C0, C1, C2, C3⟩, R0, R1⟩
  ihave Hw := (slotsW_split c) $$ HW
  icases Hw with ⟨W0, W1⟩
  ihave Ho := (slotsO_split c) $$ HO
  icases Ho with ⟨O0, O1⟩
  isplitr [HG]; swap; · iexact HG
  isplitl [R0]; · iexact R0
  isplitl [R1]; · iexact R1
  isplitl [W0]; · iexact W0
  isplitl [W1]; · iexact W1
  isplitl [O0]; · iexact O0
  isplitl [O1]; · iexact O1
  isplitl [C0]; · iexact C0
  isplitl [C1]; · iexact C1
  isplitl [C2]; · iexact C2
  iexact C3

theorem leave (c : Dev nD) : (dats m 0 c).Φ (Fin.last cfg0.N) ⊢ Pipeline.ΦD osem spec0 H0 (V m) c := by
  rw [show (dats m 0 c).Φ (Fin.last cfg0.N) = Φ m c from rfl, Pipeline.ΦD_eq, scopedRest0_eq, cells_eq, reads_eq]
  unfold Φ restP
  iintro ⟨⟨R0, R1, W0, W1, O0, O1, C0, C1, C2, C3⟩, HG⟩
  isplitl [W0 W1 O0 O1]
  · isplitl [W0 W1]
    · iapply (slotsW_join c)
      isplitl [W0]; · iexact W0
      iexact W1
    · iapply (slotsO_join c)
      isplitl [O0]; · iexact O0
      iexact O1
  isplitl [HG]; · iexact HG
  isplitl [C0 C1 C2 C3]
  · isplitl [C0]; · iexact C0
    isplitl [C1]; · iexact C1
    isplitl [C2]; · iexact C2
    iexact C3
  isplitl [R0]; · iexact R0
  iexact R1

set_option backward.isDefEq.respectTransparency.types false in
set_option maxHeartbeats 4000000 in
/-- The run of @main, over any float values: the arrays end as the points left them, everything else as it was. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ 𝒱₀ ownSemFacts H0 H0_sub m ρ main
    (hbody := fun c => (body_obligation m c).loose) (hshare := fun c => (dats m 0 c).share_full fun _ => rfl)
    (howed := fun _ _ => rfl) (V := V m) (hmain := hmainD m) (hA := A_eq m)
    (hin := enter m) (hout := leave m)

/-- The frame over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c)⟩, hh.2⟩) (run_main m ρ)

end Cert.SbBwdIdeal.Run
end
-- ==== Proof.SbBwd.Frames.lean ====
/-
  The stick-breaking backward call: the frames of the kernel's two readings and of the reference.
-/
module

public import proofs.«01_k».proof.Defs
public import proofs.«01_k».proof.Proof.SbBwd.Run
public import proofs.«01_k».proof.Proof.Gen.SbBwd
public import proofs.«01_k».proof.Proof.Gen.SbBwdRefIdeal.Run

@[expose] public section

set_option maxRecDepth 16384

noncomputable section

namespace Cert.Proof.SbBwd

open Idealize.ShloMosaic Idealize.ShloMosaic.TcCoe Idealize.ShloMosaic.Tactic Idealize.SL Idealize.SL.Sem

/-- The idealized kernel's frame. -/
theorem frame_ideal : Cert.quiescent_SbBwdIdeal := fun m ρ _ => Cert.SbBwdIdeal.Run.frame_any m ρ

/-- The kernel's frame is the idealized text's, read over the machine's floats. -/
theorem same_frame : Cert.quiescent_SbBwd = (∀ (m : (ℓ : Loc Cert.SbBwdIdeal.nD Cert.SbBwdIdeal.τ Cert.SbBwdIdeal.sig) → Buf (Elt Bits) ℓ) (g : Dev Cert.SbBwdIdeal.nD → PrngReg), True →
    θ_run (Cert.SbBwdIdeal.defs (F := Bits)) (onTc (τ := Cert.SbBwdIdeal.τ) (Cert.SbBwdIdeal.main (F := Bits))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)) := by sl_kernel_rfl

/-- The kernel's frame. -/
theorem frame_kernel : Cert.quiescent_SbBwd :=
  same_frame.mpr fun m ρ _ => Cert.SbBwdIdeal.Run.frame_any (F := Bits) m ρ

/-- The reference's frame: its run with the results forgotten; it declares no semaphore. -/
theorem frame_ref : Cert.quiescent_SbBwdRefIdeal := fun m g _ =>
  (θ_run Cert.SbBwdRefIdeal.defs _ _).mono (fun r h => ⟨fun c => (h c).2.2.2, sem_eq_zero_of_no_sems (by decide) r.2⟩)
    (Cert.SbBwdRefIdeal.Value.run m g)

end Cert.Proof.SbBwd
end
-- ==== Proof.SbBwd.Finite.lean ====
/- The precondition of the stick-breaking backward call: arguments that pass it are arrays of reals. -/
module

public import proofs.«01_k».proof.Proof.LiftFour
public import proofs.«01_k».proof.Proof.Gen.Pre_sb_finite

@[expose] public section

set_option maxRecDepth 16384

noncomputable section

open Idealize.ShloMosaic Cert.Lift

namespace Cert.Pre_sb_finite

instance : Subsingleton S_.Idx := ⟨fun a b => funext fun i => i.elim0⟩

/-- An array of rank four of reals, its entries by numbers. -/
theorem four_of_finite (a : FVec Ideal S2x2048x8x64 .f32) (h : a = up fun i => (a i).toReal) :
    ∃ f, a = (q4 f : FVec Ideal S2x2048x8x64 .f32) :=
  ⟨fun b t h d => (a (ValueIdx.ix4 (Fin.ofNat 2 b) (Fin.ofNat 2048 t) (Fin.ofNat 8 h) (Fin.ofNat 64 d))).toReal, h.trans (funext fun i => by
    rw [up_apply, q4_apply]
    refine congrArg (fun j => (((a j).toReal : ℝ) : EReal)) ((ValueIdx.eq_ix4 i).trans ?_)
    rw [show Fin.ofNat 2 (i 0).val = i 0 from Fin.ofNat_val_eq_self _, show Fin.ofNat 2048 (i 1).val = i 1 from Fin.ofNat_val_eq_self _,
      show Fin.ofNat 8 (i 2).val = i 2 from Fin.ofNat_val_eq_self _, show Fin.ofNat 64 (i 3).val = i 3 from Fin.ofNat_val_eq_self _]
    rfl)⟩

/-- An array of rank three of reals, its entries by numbers. -/
theorem three_of_finite (a : FVec Ideal S2x2048x512 .f32) (h : a = up fun i => (a i).toReal) :
    ∃ f : ℕ → ℕ → ℕ → ℝ, a = up fun i => f (i 0).val (i 1).val (i 2).val :=
  ⟨fun b t c => (a (ValueIdx.ix3 (Fin.ofNat 2 b) (Fin.ofNat 2048 t) (Fin.ofNat 512 c))).toReal, h.trans (funext fun i => by
    rw [up_apply, up_apply]
    refine congrArg (fun j => (((a j).toReal : ℝ) : EReal)) ((ValueIdx.eq_ix3 i).trans ?_)
    rw [show Fin.ofNat 2 (i 0).val = i 0 from Fin.ofNat_val_eq_self _, show Fin.ofNat 2048 (i 1).val = i 1 from Fin.ofNat_val_eq_self _,
      show Fin.ofNat 512 (i 2).val = i 2 from Fin.ofNat_val_eq_self _]
    rfl)⟩

open Cert.Pre_sb_finite.Gen in
/-- The four arguments of a true precondition are arrays of reals. -/
theorem reals (x0 x1 x2 : FVec Ideal S2x2048x8x64 .f32) (x3 : FVec Ideal S2x2048x512 .f32) (h : fn (F := Ideal) x0 x1 x2 x3 = fun _ => 1#1) :
    (∃ f, x0 = (q4 f : FVec Ideal S2x2048x8x64 .f32)) ∧ (∃ f, x1 = (q4 f : FVec Ideal S2x2048x8x64 .f32))
      ∧ (∃ f, x2 = (q4 f : FVec Ideal S2x2048x8x64 .f32)) ∧ ∃ f : ℕ → ℕ → ℕ → ℝ, x3 = up fun i => f (i 0).val (i 1).val (i 2).val := by
  unfold fn fn_part1 at h
  dsimp only at h
  obtain ⟨h, h3⟩ := andi_all h
  obtain ⟨h, h2⟩ := andi_all h
  obtain ⟨h0, h1⟩ := andi_all h
  have j : S_.Idx := fun i => i.elim0
  exact ⟨four_of_finite _ (up_of_finite x0 _ (fun _ => ofBits_inf) _ _ _ j (congrFun h0 j)), four_of_finite _ (up_of_finite x1 _ (fun _ => ofBits_inf) _ _ _ j (congrFun h1 j)),
    four_of_finite _ (up_of_finite x2 _ (fun _ => ofBits_inf) _ _ _ j (congrFun h2 j)), three_of_finite _ (up_of_finite x3 _ (fun _ => ofBits_inf) _ _ _ j (congrFun h3 j))⟩

end Cert.Pre_sb_finite

end
-- ==== Proof.SbBwd.Host.lean ====
/- What the host operations before the call leave in the call's arguments, by the reference's own stages: up to the laying
   out, both programs compute the mask, the logarithms and the weights in the same way. -/
module

public import proofs.«01_k».proof.Proof.SbBwd.Run
public import Idealize.ShloMosaic.Lib.StableHlo.RunRead
public import proofs.«01_k».proof.Proof.Gen.SbBwdRefIdeal.Read

@[expose] public section

set_option maxRecDepth 16384

noncomputable section

open Idealize.ShloMosaic Idealize.ShloMosaic.TcCoe Idealize.SL.Sem

namespace Cert.SbBwdIdeal.Host0

open Cert.SbBwdIdeal.Gen Cert.SbBwdRefIdeal.Read

variable (m : (ℓ : Loc nD τ sig) → Buf (Elt Ideal) ℓ) (c : Dev nD)

/-- The array of the weights or of their logarithms, cut into tiles of two by two heads. -/
def tiles (x : FVec Ideal S2x8x2048x2048 .f32) : FVec Ideal S64x4x512x512 .bf16 :=
  truncf .bf16 (shapeCast S64x4x512x512 (transpose S2x4x8x4x512x2x256 [0, 3, 5, 1, 4, 2, 6]
    (shapeCast S2x4x2x4x512x8x256 x shapeCasts_S2x8x2048x2048_S2x4x2x4x512x8x256) transposes_S2x4x2x4x512x8x256_S2x4x8x4x512x2x256_0_3_5_1_4_2_6)
    shapeCasts_S2x4x8x4x512x2x256_S64x4x512x512) bitsLt_bf16_f32

set_option maxHeartbeats 4000000 in
/-- The arguments of the call, by the argument arrays. -/
theorem prep :
    V m c main_v40 = tiles (val_main_v18_0 (F := Ideal) (m (c, main_arg0)) (m (c, main_arg1)))
    ∧ V m c main_v44 = tiles (val_main_v12_0 (F := Ideal) (m (c, main_arg0)) (m (c, main_arg1)))
    ∧ V m c main_v30 = truncf .bf16 (shapeCast S4096x512 (mulf (m (c, main_arg0)) (broadcastInDim S2x2048x8x64 ![] bcast_S_S2x2048x8x64 (constant (F := Ideal) S_ .f32 0x3E000000#32)))
      shapeCasts_S2x2048x8x64_S4096x512) bitsLt_bf16_f32
    ∧ V m c main_v32 = truncf .bf16 (shapeCast S4096x512 (m (c, main_arg1)) shapeCasts_S2x2048x8x64_S4096x512 : FVec Ideal S4096x512 .f32) bitsLt_bf16_f32
    ∧ V m c main_v34 = truncf .bf16 (shapeCast S4096x512 (m (c, main_arg2)) shapeCasts_S2x2048x8x64_S4096x512 : FVec Ideal S4096x512 .f32) bitsLt_bf16_f32
    ∧ V m c main_v36 = truncf .bf16 (shapeCast S4096x512 (m (c, main_arg3)) shapeCasts_S2x2048x512_S4096x512 : FVec Ideal S4096x512 .f32) bitsLt_bf16_f32
    ∧ V m c main_v7 = truncf .bf16 (select (cmpi .slt (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32 := by
  refine ⟨?_, ?_, ?_, ?_, ?_, ?_, ?_⟩ <;>
  (simp only [V, List.flatten_cons, List.flatten_nil, hostOps0, hostOps0_1, hostOps0_2, hostOps0_3, hostOps0_4, hostOps0_5, hostOps0_6, hostOps0_7, hostOps0_8, hostOps0_9, hostOps0_10, hostOps0_11, List.cons_append, List.nil_append,
    StableHlo.TRef.binary, StableHlo.TRef.nullary, StableHlo.TRef.ternary, StableHlo.TRef.unary, StableHlo.TRef.toBuf, StableHlo.TRef.ofBuf, cast_eq]
   after_reads_simp
   first | done | rfl)

end Cert.SbBwdIdeal.Host0

end
-- ==== Proof.SbBwd.Point.lean ====
/-
  The stick-breaking backward call over real numbers: what a grid point leaves.
-/
module

public import proofs.«01_k».proof.Proof.SbBwd.Slot

@[expose] public section

set_option maxRecDepth 16384

noncomputable section

namespace Cert.SbBwdIdeal.Val

open Cert.SbBwdIdeal Cert.SbBwdIdeal.Gen Cert.SbBwdIdeal.Run Cert.Lift
open Idealize.ShloMosaic
open Idealize.ShloMosaic.TcCoe
open Idealize.SL.Sem
open scoped BigOperators

/-! ## Where the tiles' keys lie -/

section Offsets
variable (i : grid0.Coords) (k : Fin (k0_t1_loop i).trips)

def offA : Fin 4 → Fin 2 → Nat := ![k0_off4 i k, k0_off5 i k, k0_off6 i k, k0_off7 i k]
def offB : Fin 4 → Fin 2 → Nat := ![k0_off9 i k, k0_off10 i k, k0_off11 i k, k0_off12 i k]
def offC : Fin 4 → Fin 2 → Nat := ![k0_off26 i, k0_off27 i, k0_off28 i, k0_off29 i]
def offD : Fin 4 → Fin 2 → Nat := ![k0_off30 i, k0_off31 i, k0_off32 i, k0_off33 i]
theorem offA_eq : ∀ (i : grid0.Coords) (k : Fin (k0_t1_loop i).trips) (p : Fin 4), offA i k p = ![256 * (2 * k.val), 128 * p.val] := by decide +kernel
theorem offB_eq : ∀ (i : grid0.Coords) (k : Fin (k0_t1_loop i).trips) (p : Fin 4), offB i k p = ![256 * (2 * k.val + 1), 128 * p.val] := by decide +kernel
theorem offC_eq : ∀ (i : grid0.Coords) (p : Fin 4), offC i p = ![256 * (2 * (k0_t1_loop i).trips), 128 * p.val] := by decide +kernel
theorem offD_eq : ∀ (i : grid0.Coords) (p : Fin 4), offD i p = ![256 * (2 * (k0_t1_loop i).trips + 1), 128 * p.val] := by decide +kernel
theorem trip_lt : ∀ i : grid0.Coords, (k0_t1_loop i).trips < 4 := by decide +kernel
end Offsets

theorem rows_inb {off : Fin 2 → Nat} {n p : ℕ} (h : off = ![256 * n, 128 * p]) (hn : n < 8) (hp : p < 4) : ∀ a, off a + S256x128.size a ≤ S2048x512.size a := by
  subst h; intro a; fin_cases a
  · show 256 * n + 256 ≤ 2048; omega
  · show 128 * p + 128 ≤ 512; omega

/-! ## Writes of blocks -/

section Pieces
variable {m n : ℕ} (M : Memref sig .tc .vmem ⟨2, ![m, n]⟩ .f32) (f : M.view.ty.Contents (Elt Ideal))

theorem read_pieces {x y : ℕ → ℕ → ℝ} (hf : M.view.read (Elt Ideal) f = (nm x : FVec Ideal ⟨2, ![m, n]⟩ .f32)) (L : List (View.Piece (Elt Ideal) ⟨2, ![m, n]⟩ .f32))
    (hL : ∀ pc ∈ L, ∀ z : pc.1.shape.Idx, pc.2 z = (nm y : FVec Ideal ⟨2, ![m, n]⟩ .f32) (pc.1.emb z))
    (hm : ∀ j : Shape.Idx ⟨2, ![m, n]⟩, (∀ pc ∈ L, j ∉ pc.1.set) → x (j 0).val (j 1).val = y (j 0).val (j 1).val) :
    M.view.read (Elt Ideal) (M.view.writes (Elt Ideal) f L) = (nm y : FVec Ideal ⟨2, ![m, n]⟩ .f32) := by
  funext j
  by_cases h : ∃ pc ∈ L, j ∈ pc.1.set
  · exact View.read_writes_apply_of_pieces (v := M.view) (f := f) (nm y : FVec Ideal ⟨2, ![m, n]⟩ .f32) L hL j h
  · have h' : ∀ pc ∈ L, j ∉ pc.1.set := fun pc hpc hj => h ⟨pc, hpc, hj⟩
    refine (View.read_writes_apply_of_forall_not_mem (v := M.view) (f := f) j L h').trans ?_
    rw [hf]
    exact congrArg Real.toEReal (hm j h')

theorem piece_ok {y : ℕ → ℕ → ℝ} {off : Fin 2 → Nat} {o₀ o₁ m' n' : ℕ} (ho : off = ![o₀, o₁]) (h : ∀ a, off a + (![m', n'] : Fin 2 → Nat) a ≤ (⟨2, ![m, n]⟩ : Shape).size a)
    {v : FVec Ideal ⟨2, ![m', n']⟩ .f32} (hv : v = nm fun r c => y (o₀ + r) (o₁ + c)) :
    ∀ z : (Rect.unit (s := ⟨2, ![m, n]⟩) off ![m', n'] h).shape.Idx, v z = (nm y : FVec Ideal ⟨2, ![m, n]⟩ .f32) ((Rect.unit (s := ⟨2, ![m, n]⟩) off ![m', n'] h).emb z) := by
  subst ho hv
  intro z
  refine congrArg Real.toEReal (congrArg₂ y ?_ ?_)
  · show o₀ + (z 0).val = o₀ + 1 * (z 0).val; omega
  · show o₁ + (z 1).val = o₁ + 1 * (z 1).val; omega

theorem piece_mem {off : Fin 2 → Nat} {o₀ o₁ m' n' : ℕ} (ho : off = ![o₀, o₁]) (h : ∀ a, off a + (![m', n'] : Fin 2 → Nat) a ≤ (⟨2, ![m, n]⟩ : Shape).size a)
    (j : Shape.Idx ⟨2, ![m, n]⟩) (h0 : o₀ ≤ (j 0).val ∧ (j 0).val < o₀ + m') (h1 : o₁ ≤ (j 1).val ∧ (j 1).val < o₁ + n') :
    j ∈ (Rect.unit (s := ⟨2, ![m, n]⟩) off ![m', n'] h).set := by
  subst ho
  rw [Rect.mem_set_unit]
  intro a
  match a with
  | ⟨0, _⟩ => exact h0
  | ⟨1, _⟩ => exact h1
end Pieces

/-- Eight blocks written: both halves of 512 rows of keys, for the four pairs. -/
theorem read_eight (M : Memref sig .tc .vmem S2048x512 .f32) (f : M.view.ty.Contents (Elt Ideal)) {x y : ℕ → ℕ → ℝ}
    (hf : M.view.read (Elt Ideal) f = (nm x : FVec Ideal S2048x512 .f32)) {n : ℕ} (oa ob : Fin 4 → Fin 2 → Nat) (hn : 2 * n + 1 < 8)
    (ha : ∀ p, oa p = ![256 * (2 * n), 128 * p.val]) (hb : ∀ p, ob p = ![256 * (2 * n + 1), 128 * p.val])
    (va vb : Fin 4 → FVec Ideal S256x128 .f32)
    (hva : ∀ p, va p = nm fun r c => y (256 * (2 * n) + r) (128 * p.val + c)) (hvb : ∀ p, vb p = nm fun r c => y (256 * (2 * n + 1) + r) (128 * p.val + c))
    (hout : ∀ r c, ¬ (512 * n ≤ r ∧ r < 512 * n + 512) → x r c = y r c) :
    M.view.read (Elt Ideal) (M.view.writes (Elt Ideal) f
      [⟨rowsR (ob 3) (rows_inb (hb 3) hn (by decide)), vb 3⟩, ⟨rowsR (ob 2) (rows_inb (hb 2) hn (by decide)), vb 2⟩,
       ⟨rowsR (ob 1) (rows_inb (hb 1) hn (by decide)), vb 1⟩, ⟨rowsR (ob 0) (rows_inb (hb 0) hn (by decide)), vb 0⟩,
       ⟨rowsR (oa 3) (rows_inb (ha 3) (by omega) (by decide)), va 3⟩, ⟨rowsR (oa 2) (rows_inb (ha 2) (by omega) (by decide)), va 2⟩,
       ⟨rowsR (oa 1) (rows_inb (ha 1) (by omega) (by decide)), va 1⟩, ⟨rowsR (oa 0) (rows_inb (ha 0) (by omega) (by decide)), va 0⟩])
      = (nm y : FVec Ideal S2048x512 .f32) := by
  refine read_pieces M f hf _ ?_ ?_
  · simp only [List.forall_mem_cons]
    exact ⟨piece_ok (hb 3) _ (hvb 3), piece_ok (hb 2) _ (hvb 2), piece_ok (hb 1) _ (hvb 1), piece_ok (hb 0) _ (hvb 0),
      piece_ok (ha 3) _ (hva 3), piece_ok (ha 2) _ (hva 2), piece_ok (ha 1) _ (hva 1), piece_ok (ha 0) _ (hva 0), fun _ h => absurd h List.not_mem_nil⟩
  · intro j hj
    simp only [List.forall_mem_cons] at hj
    obtain ⟨b3, b2, b1, b0, a3, a2, a1, a0, -⟩ := hj
    refine hout _ _ fun hr => ?_
    have hc : (j 1).val < 512 := (j 1).isLt
    by_cases h : (j 0).val < 512 * n + 256
    · rcases (by omega : (j 1).val / 128 = 0 ∨ (j 1).val / 128 = 1 ∨ (j 1).val / 128 = 2 ∨ (j 1).val / 128 = 3) with e | e | e | e
      · exact a0 (piece_mem (ha 0) _ j (by omega) (by show 128 * 0 ≤ _ ∧ _ < 128 * 0 + 128; omega))
      · exact a1 (piece_mem (ha 1) _ j (by omega) (by show 128 * 1 ≤ _ ∧ _ < 128 * 1 + 128; omega))
      · exact a2 (piece_mem (ha 2) _ j (by omega) (by show 128 * 2 ≤ _ ∧ _ < 128 * 2 + 128; omega))
      · exact a3 (piece_mem (ha 3) _ j (by omega) (by show 128 * 3 ≤ _ ∧ _ < 128 * 3 + 128; omega))
    · rcases (by omega : (j 1).val / 128 = 0 ∨ (j 1).val / 128 = 1 ∨ (j 1).val / 128 = 2 ∨ (j 1).val / 128 = 3) with e | e | e | e
      · exact b0 (piece_mem (hb 0) _ j (by omega) (by show 128 * 0 ≤ _ ∧ _ < 128 * 0 + 128; omega))
      · exact b1 (piece_mem (hb 1) _ j (by omega) (by show 128 * 1 ≤ _ ∧ _ < 128 * 1 + 128; omega))
      · exact b2 (piece_mem (hb 2) _ j (by omega) (by show 128 * 2 ≤ _ ∧ _ < 128 * 2 + 128; omega))
      · exact b3 (piece_mem (hb 3) _ j (by omega) (by show 128 * 3 ≤ _ ∧ _ < 128 * 3 + 128; omega))

/-- Four blocks written: the four pairs' columns of the query-side gradient. -/
theorem read_four (M : Memref sig .tc .vmem S512x512 .f32) (f : M.view.ty.Contents (Elt Ideal)) {y : ℕ → ℕ → ℝ} (v : Fin 4 → FVec Ideal S512x128 .f32)
    (hv : ∀ p, v p = nm fun r c => y r (128 * p.val + c)) :
    M.view.read (Elt Ideal) (M.view.writes (Elt Ideal) f [pieceQ 3 (v 3), pieceQ 2 (v 2), pieceQ 1 (v 1), pieceQ 0 (v 0)]) = (nm y : FVec Ideal S512x512 .f32) := by
  have hv' : ∀ p : Fin 4, v p = nm fun r c => y (0 + r) (128 * p.val + c) := fun p => by rw [hv p]; exact nm_congr fun r _ c _ => by rw [Nat.zero_add]
  funext j
  refine View.read_writes_apply_of_pieces (v := M.view) (f := f) (nm y : FVec Ideal S512x512 .f32) _ ?_ j ?_
  · simp only [List.forall_mem_cons]
    exact ⟨piece_ok rfl _ (hv' 3), piece_ok rfl _ (hv' 2), piece_ok rfl _ (hv' 1), piece_ok rfl _ (hv' 0), fun _ h => absurd h List.not_mem_nil⟩
  · have hc : (j 1).val < 512 := (j 1).isLt
    have hr : (j 0).val < 512 := (j 0).isLt
    simp only [List.exists_mem_cons_iff]
    rcases (by omega : (j 1).val / 128 = 0 ∨ (j 1).val / 128 = 1 ∨ (j 1).val / 128 = 2 ∨ (j 1).val / 128 = 3) with e | e | e | e
    · exact .inr (.inr (.inr (.inl (piece_mem rfl _ j (by omega) (by show 128 * 0 ≤ _ ∧ _ < 128 * 0 + 128; omega)))))
    · exact .inr (.inr (.inl (piece_mem rfl _ j (by omega) (by show 128 * 1 ≤ _ ∧ _ < 128 * 1 + 128; omega))))
    · exact .inr (.inl (piece_mem rfl _ j (by omega) (by show 128 * 2 ≤ _ ∧ _ < 128 * 2 + 128; omega)))
    · exact .inl (piece_mem rfl _ j (by omega) (by show 128 * 3 ≤ _ ∧ _ < 128 * 3 + 128; omega))

/-! ## A grid point -/

section Point

variable (c : Dev nD) (i : grid0.Coords)
  (XW : Buf (Elt Ideal) (wM.view.loc (c : Thread nD τ))) (XO : Buf (Elt Ideal) (oM.view.loc (c : Thread nD τ)))
  (arg3 : Memref sig .tc .vmem S512x512 .bf16) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S512x512 .bf16) (harg6 : arg6.IsWhole)
  (arg9 : Memref sig .tc .vmem S256x256 .bf16) (harg9 : arg9.IsWhole) (arg10 : Memref sig .tc .vmem S512x512 .f32) (harg10 : arg10.IsWhole)
  (arg11 : Memref sig .tc .vmem S2048x512 .f32) (harg11 : arg11.IsWhole) (arg12 : Memref sig .tc .vmem S2048x512 .f32) (harg12 : arg12.IsWhole)
  (f3 : Buf (Elt Ideal) (arg3.view.loc (c : Thread nD τ))) (f4 : Buf (Elt Ideal) (arg4.view.loc (c : Thread nD τ)))
  (f5 : Buf (Elt Ideal) (arg5.view.loc (c : Thread nD τ))) (f6 : Buf (Elt Ideal) (arg6.view.loc (c : Thread nD τ)))
  (f9 : Buf (Elt Ideal) (arg9.view.loc (c : Thread nD τ)))

/-- The point's inputs hold the data `A`. -/
structure Holds (A : Dt) : Prop where
  q : arg3.view.read (Elt Ideal) f3 = (nm A.Q : FVec Ideal S512x512 .bf16)
  k : arg4.view.read (Elt Ideal) f4 = (nm A.K : FVec Ideal S2048x512 .bf16)
  v : arg5.view.read (Elt Ideal) f5 = (nm A.V : FVec Ideal S2048x512 .bf16)
  d : arg6.view.read (Elt Ideal) f6 = (nm A.G : FVec Ideal S512x512 .bf16)
  t : A.t = 512 * (k0_t1_loop i).trips
  wz : ∀ h r s, A.t + r ≤ s → A.W h r s = 0
  w : ∀ n ≤ 2 * (k0_t1_loop i).trips + 1, ∀ (p : Fin 4) (r j : Fin 512), wM.view.read (Elt Ideal) XW (ValueIdx.ix4 (tl i n) p r j) = ((pairOf A.W p.val 0 (256 * n) r.val j.val : ℝ) : EReal)
  o : ∀ n ≤ 2 * (k0_t1_loop i).trips + 1, ∀ (p : Fin 4) (r j : Fin 512), oM.view.read (Elt Ideal) XO (ValueIdx.ix4 (tl i n) p r j) = ((pairOf A.O p.val 0 (256 * n) r.val j.val : ℝ) : EReal)

variable {A : Dt} (H : Holds c i XW XO arg3 arg4 arg5 arg6 f3 f4 f5 f6 A)
include H

theorem tile_is (s : Fin 2) (n : ℕ) (hn : n ≤ 2 * (k0_t1_loop i).trips + 1) (p : Fin 4) (off : Fin 2 → Nat) (h) (ho : off = ![256 * n, 128 * p.val]) :
    IsTile A p.val (256 * n) (tileAt c XW XO arg3 arg4 arg5 arg6 f3 f4 f5 f6 s (tl i n) p off h) := by
  unfold tileAt
  constructor <;> dsimp only
  · exact (read_rect16 arg3 f3 H.q _ _ _ rfl 512 128 _).trans (nm_congr fun r _ c _ => by rw [Nat.zero_add])
  · exact (read_rect16 arg6 f6 H.d _ _ _ rfl 512 128 _).trans (nm_congr fun r _ c _ => by rw [Nat.zero_add])
  · exact read_rect16 arg4 f4 H.k _ _ _ ho 256 128 _
  · exact read_rect16 arg5 f5 H.v _ _ _ ho 256 128 _
  · refine nm_ext fun r j => ?_
    exact (full_landed c wM XW wB s (tl i n) _ p r j).trans (H.w n hn p r j)
  · refine nm_ext fun r j => ?_
    exact (full_landed c oM XO oB s (tl i n) _ p r j).trans (H.o n hn p r j)
theorem half_is (s : Fin 2) (n : ℕ) (hn : n ≤ 2 * (k0_t1_loop i).trips + 1) (p : Fin 4) (off : Fin 2 → Nat) (h) (ho : off = ![256 * n, 128 * p.val]) :
    IsHalf A p.val (256 * n) (halfAt c XW XO arg3 arg4 arg5 arg6 f3 f4 f5 f6 s (tl i n) p off h) := by
  unfold halfAt
  constructor <;> dsimp only
  · exact (read_rect16 arg3 f3 H.q _ _ _ rfl 256 128 _)
  · exact (read_rect16 arg6 f6 H.d _ _ _ rfl 256 128 _)
  · exact read_rect16 arg4 f4 H.k _ _ _ ho 256 128 _
  · exact read_rect16 arg5 f5 H.v _ _ _ ho 256 128 _
  · refine nm_ext fun r j => ?_
    exact (half_landed c wM XW wB s (tl i n) _ p r j).trans ((H.w n hn p _ j).trans (by unfold pairOf two; simp only [Nat.zero_add]))
  · refine nm_ext fun r j => ?_
    exact (half_landed c oM XO oB s (tl i n) _ p r j).trans ((H.o n hn p _ j).trans (by unfold pairOf two; simp only [Nat.zero_add]))

omit H in
theorem upto_in {g x : ℕ → ℕ → ℝ} {n s c' : ℕ} (h : s < 256 * n) : Dt.upto g x n s c' = x s c' + g s c' := by unfold Dt.upto; rw [if_pos h]
omit H in
theorem upto_out {g x : ℕ → ℕ → ℝ} {n s c' : ℕ} (h : 256 * n ≤ s) : Dt.upto g x n s c' = x s c' := by unfold Dt.upto; rw [if_neg (by omega), add_zero]

/-- What holds before trip `k`, the key-side gradients found at `x11` and `x12`. -/
structure Before (A : Dt) (x11 x12 : ℕ → ℕ → ℝ) (k : ℕ) (s : State Ideal c arg11 arg12) : Prop where
  xs : ∀ p : Fin 4, IsTrio A p.val (256 * (2 * k)) (A.acc (2 * k)) (trio s.1 p)
  ks : arg11.view.read (Elt Ideal) s.2.1 = (nm (Dt.upto A.kr x11 (2 * k)) : FVec Ideal S2048x512 .f32)
  vs : arg12.view.read (Elt Ideal) s.2.2 = (nm (Dt.upto A.vr x12 (2 * k)) : FVec Ideal S2048x512 .f32)

variable {x11 x12 : ℕ → ℕ → ℝ}

omit H in
/-- The value that a tile's piece takes, the piece's rows not yet added to. -/
theorem piece_val (M : Memref sig .tc .vmem S2048x512 .f32) (f : M.view.ty.Contents (Elt Ideal)) {g x : ℕ → ℕ → ℝ} {n n' n'' : ℕ} {p : Fin 4} {off : Fin 2 → Nat}
    (hf : M.view.read (Elt Ideal) f = (nm (Dt.upto g x n) : FVec Ideal S2048x512 .f32)) (ho : off = ![256 * n', 128 * p.val]) (h) (hn : n ≤ n') (hn' : n' < n'') :
    ∃ o : ℕ → ℕ → ℝ, View.readAt (Elt Ideal) M.view (rowsR off h).toLoadRect f = (nm o : FVec Ideal S256x128 .f32)
      ∧ ∀ r < 256, ∀ c', o r c' + g (256 * n' + r) (128 * p.val + c') = Dt.upto g x n'' (256 * n' + r) (128 * p.val + c') :=
  ⟨_, read_rect32 M f hf off _ _ ho 256 128 h, fun r hr c' => by rw [upto_out (by omega), upto_in (by omega)]⟩

set_option maxHeartbeats 1000000 in
theorem inv_step (k : Fin (k0_t1_loop i).trips) (arg0 arg2 : BitVec 32) (s : State Ideal c arg11 arg12) (hs : Before c arg11 arg12 A x11 x12 k.val s) :
    Before c arg11 arg12 A x11 x12 (k.val + 1)
      (stepAt c i XW XO arg3 harg3 arg4 harg4 arg5 harg5 arg6 harg6 arg9 harg9 arg10 harg10 arg11 harg11 arg12 harg12 arg0 arg2 v9r v17r v19r f3 f4 f5 f6 k s) := by
  have e := trip_eq c i XW XO arg3 harg3 arg4 harg4 arg5 harg5 arg6 harg6 arg9 harg9 arg10 harg10 arg11 harg11 arg12 harg12 arg0 arg2 v9r v17r v19r f3 f4 f5 f6 k
    (trio s.1 0) (trio s.1 1) (trio s.1 2) (trio s.1 3) s.2.1 s.2.2
  have hk := k.isLt
  have ht := trip_lt i
  let a : Fin 4 → Tile Ideal := fun p => T0 c i XW XO arg3 arg4 arg5 arg6 f3 f4 f5 f6 k p (offA i k p) (rows_inb (offA_eq i k p) (by omega) p.isLt)
  let b : Fin 4 → Tile Ideal := fun p => T1 c i XW XO arg3 arg4 arg5 arg6 f3 f4 f5 f6 k p (offB i k p) (rows_inb (offB_eq i k p) (by omega) p.isLt)
  let y : Fin 4 → Trio Ideal := fun p => past v9r v19r (a p) (trio s.1 p)
  let z : Fin 4 → Trio Ideal := fun p => past v9r v19r (b p) (y p)
  have ha : ∀ p : Fin 4, IsTile A p.val (256 * (2 * k.val)) (a p) := fun p => tile_is c i XW XO arg3 arg4 arg5 arg6 f3 f4 f5 f6 H 0 _ (by omega) p _ _ (offA_eq i k p)
  have hb : ∀ p : Fin 4, IsTile A p.val (256 * (2 * k.val + 1)) (b p) := fun p => tile_is c i XW XO arg3 arg4 arg5 arg6 f3 f4 f5 f6 H 1 _ (by omega) p _ _ (offB_eq i k p)
  have hza : ∀ p : Fin 4, tZ v9r v19r (a p) (trio s.1 p) = nm (pairOf A.Z p.val 0 (256 * (2 * k.val))) := fun p => tZ_nm (ha p) (hs.xs p) (by rw [H.t]; omega)
  have hy : ∀ p : Fin 4, IsTrio A p.val (256 * (2 * k.val + 1)) (A.acc (2 * k.val + 1)) (y p) := fun p => next_acc (ha p) (hs.xs p) (hza p)
  have hzb : ∀ p : Fin 4, tZ v9r v19r (b p) (y p) = nm (pairOf A.Z p.val 0 (256 * (2 * k.val + 1))) := fun p => tZ_nm (hb p) (hy p) (by rw [H.t]; omega)
  have hz : ∀ p : Fin 4, IsTrio A p.val (256 * (2 * k.val + 1 + 1)) (A.acc (2 * k.val + 1 + 1)) (z p) := fun p => next_acc (hb p) (hy p) (hzb p)
  unfold stepAt
  refine e ▸ ?_
  refine ⟨fun p => ?_, ?_, ?_⟩
  · match p with
    | 0 => exact hz 0
    | 1 => exact hz 1
    | 2 => exact hz 2
    | 3 => exact hz 3
  · refine read_eight arg11 s.2.1 hs.ks (n := k.val) (offA i k) (offB i k) (by omega) (offA_eq i k) (offB_eq i k)
      (fun p => tK v17r (tZ v9r v19r (a p) (trio s.1 p)) (a p) (View.readAt (Elt Ideal) arg11.view (rowsR (offA i k p) (rows_inb (offA_eq i k p) (by omega) p.isLt)).toLoadRect s.2.1))
      (fun p => tK v17r (tZ v9r v19r (b p) (y p)) (b p) (View.readAt (Elt Ideal) arg11.view (rowsR (offB i k p) (rows_inb (offB_eq i k p) (by omega) p.isLt)).toLoadRect s.2.1))
      (fun p => ?_) (fun p => ?_) ?_
    · obtain ⟨o, h1, h2⟩ := piece_val arg11 s.2.1 (n'' := 2 * (k.val + 1)) hs.ks (offA_eq i k p) (rows_inb (offA_eq i k p) (by omega) p.isLt) (by omega) (by omega)
      exact (tK_nm (ha p) (hza p) h1).trans (nm_congr fun r hr c' _ => h2 r hr c')
    · obtain ⟨o, h1, h2⟩ := piece_val arg11 s.2.1 (n'' := 2 * (k.val + 1)) hs.ks (offB_eq i k p) (rows_inb (offB_eq i k p) (by omega) p.isLt) (by omega) (by omega)
      exact (tK_nm (hb p) (hzb p) h1).trans (nm_congr fun r hr c' _ => h2 r hr c')
    · intro r c' hr
      unfold Dt.upto
      congr 1
      exact if_congr (by omega) rfl rfl
  · refine read_eight arg12 s.2.2 hs.vs (n := k.val) (offA i k) (offB i k) (by omega) (offA_eq i k) (offB_eq i k)
      (fun p => tV v17r (a p) (View.readAt (Elt Ideal) arg12.view (rowsR (offA i k p) (rows_inb (offA_eq i k p) (by omega) p.isLt)).toLoadRect s.2.2))
      (fun p => tV v17r (b p) (View.readAt (Elt Ideal) arg12.view (rowsR (offB i k p) (rows_inb (offB_eq i k p) (by omega) p.isLt)).toLoadRect s.2.2))
      (fun p => ?_) (fun p => ?_) ?_
    · obtain ⟨o, h1, h2⟩ := piece_val arg12 s.2.2 (n'' := 2 * (k.val + 1)) hs.vs (offA_eq i k p) (rows_inb (offA_eq i k p) (by omega) p.isLt) (by omega) (by omega)
      exact (tV_nm (ha p) h1).trans (nm_congr fun r hr c' _ => h2 r hr c')
    · obtain ⟨o, h1, h2⟩ := piece_val arg12 s.2.2 (n'' := 2 * (k.val + 1)) hs.vs (offB_eq i k p) (rows_inb (offB_eq i k p) (by omega) p.isLt) (by omega) (by omega)
      exact (tV_nm (hb p) h1).trans (nm_congr fun r hr c' _ => h2 r hr c')
    · intro r c' hr
      unfold Dt.upto
      congr 1
      exact if_congr (by omega) rfl rfl

theorem inv_at (arg0 arg2 : BitVec 32) (s : State Ideal c arg11 arg12) (hs : Before c arg11 arg12 A x11 x12 0 s) : ∀ k ≤ (k0_t1_loop i).trips,
    Before c arg11 arg12 A x11 x12 k
      (stAt c i XW XO arg3 harg3 arg4 harg4 arg5 harg5 arg6 harg6 arg9 harg9 arg10 harg10 arg11 harg11 arg12 harg12 arg0 arg2 v9r v17r v19r f3 f4 f5 f6 s k)
  | 0, _ => hs
  | k + 1, hk => by
    rw [stAt, dif_pos (show k < _ by omega)]
    exact inv_step c i XW XO arg3 harg3 arg4 harg4 arg5 harg5 arg6 harg6 arg9 harg9 arg10 harg10 arg11 harg11 arg12 harg12 f3 f4 f5 f6 H ⟨k, by omega⟩ arg0 arg2 _
      (inv_at arg0 arg2 s hs k (by omega))

theorem loop_end (h9 : arg9.view.read (Elt Ideal) f9 = (nm upM : FVec Ideal S256x256 .bf16))
    (s11 : Buf (Elt Ideal) (arg11.view.loc (c : Thread nD τ))) (s12 : Buf (Elt Ideal) (arg12.view.loc (c : Thread nD τ)))
    (h11 : arg11.view.read (Elt Ideal) s11 = (nm x11 : FVec Ideal S2048x512 .f32)) (h12 : arg12.view.read (Elt Ideal) s12 = (nm x12 : FVec Ideal S2048x512 .f32)) :
    scanAt c arg9 f9 = v19r ∧ Before c arg11 arg12 A x11 x12 (k0_t1_loop i).trips
      (loopEnd c i XW XO arg3 harg3 arg4 harg4 arg5 harg5 arg6 harg6 arg9 harg9 arg10 harg10 arg11 harg11 arg12 harg12 f3 f4 f5 f6 f9 s11 s12) := by
  have hu : scanAt c arg9 f9 = v19r := by
    unfold scanAt k0_pay227
    dsimp only
    rw [shapeCast_self]
    exact (read_rect16 arg9 f9 h9 _ _ _ rfl 256 256 _).trans (nm_congr fun r _ c' _ => by rw [Nat.zero_add, Nat.zero_add])
  refine ⟨hu, ?_⟩
  unfold loopEnd
  rw [hu, v9_eq, v17_eq]
  refine inv_at c i XW XO arg3 harg3 arg4 harg4 arg5 harg5 arg6 harg6 arg9 harg9 arg10 harg10 arg11 harg11 arg12 harg12 f3 f4 f5 f6 H _ _ _ ?_ _ le_rfl
  refine ⟨fun p => ?_, h11.trans (nm_congr fun r _ c' _ => (upto_out (by omega)).symm), h12.trans (nm_congr fun r _ c' _ => (upto_out (by omega)).symm)⟩
  have z1 : (k0_pay228 : FVec Ideal S512x1 .f32) = nm fun _ _ => 0 := zero_nm
  have z2 : (k0_pay229 : FVec Ideal S512x128 .f32) = nm fun _ _ => 0 := zero_nm
  match p with
  | 0 => exact ⟨z1, z1, z2⟩
  | 1 => exact ⟨z1, z1, z2⟩
  | 2 => exact ⟨z1, z1, z2⟩
  | 3 => exact ⟨z1, z1, z2⟩

omit H in
/-- The lower half's sum is the whole's where the upper rows are masked. -/
theorem half_sum (g : ℕ → ℝ) (h : ∀ t < 256, g t = 0) : ∑ t ∈ Finset.range 256, g (256 + t) = ∑ t ∈ Finset.range 512, g t := by
  rw [show (512 : ℕ) = 256 + 256 from rfl, Finset.sum_range_add, Finset.sum_eq_zero fun t ht => h t (Finset.mem_range.mp ht), zero_add]

set_option maxHeartbeats 1000000 in
theorem point_val (h9 : arg9.view.read (Elt Ideal) f9 = (nm upM : FVec Ideal S256x256 .bf16))
    (s11 : Buf (Elt Ideal) (arg11.view.loc (c : Thread nD τ))) (s12 : Buf (Elt Ideal) (arg12.view.loc (c : Thread nD τ)))
    (h11 : arg11.view.read (Elt Ideal) s11 = (nm x11 : FVec Ideal S2048x512 .f32)) (h12 : arg12.view.read (Elt Ideal) s12 = (nm x12 : FVec Ideal S2048x512 .f32))
    (f10 : Buf (Elt Ideal) (arg10.view.loc (c : Thread nD τ))) :
    let R := (bodyRun c i XW XO arg3 harg3 arg4 harg4 arg5 harg5 arg6 harg6 arg9 harg9 arg10 harg10 arg11 harg11 arg12 harg12 f3 f4 f5 f6 f9 s11 s12).1
    arg10.view.read (Elt Ideal) (arg10.view.writes (Elt Ideal) f10 R.1) = (nm (fun r c' => A.acc (2 * (k0_t1_loop i).trips + 1 + 1) r c' * (1 / 8)) : FVec Ideal S512x512 .f32)
    ∧ arg11.view.read (Elt Ideal) R.2.1 = (nm (Dt.upto A.kr x11 (2 * ((k0_t1_loop i).trips + 1))) : FVec Ideal S2048x512 .f32)
    ∧ arg12.view.read (Elt Ideal) R.2.2 = (nm (Dt.upto A.vr x12 (2 * ((k0_t1_loop i).trips + 1))) : FVec Ideal S2048x512 .f32) := by
  intro R
  have e := body_eq c i XW XO arg3 harg3 arg4 harg4 arg5 harg5 arg6 harg6 arg9 harg9 arg10 harg10 arg11 harg11 arg12 harg12 f3 f4 f5 f6 f9 s11 s12
  obtain ⟨hu, hs⟩ := loop_end c i XW XO arg3 harg3 arg4 harg4 arg5 harg5 arg6 harg6 arg9 harg9 arg10 harg10 arg11 harg11 arg12 harg12 f3 f4 f5 f6 f9 H h9 s11 s12 h11 h12
  rw [hu, v17_eq] at e
  revert e hs
  generalize loopEnd c i XW XO arg3 harg3 arg4 harg4 arg5 harg5 arg6 harg6 arg9 harg9 arg10 harg10 arg11 harg11 arg12 harg12 f3 f4 f5 f6 f9 s11 s12 = s
  intro e hs
  have ht := trip_lt i
  let a : Fin 4 → Tile Ideal := fun p => TA c i XW XO arg3 arg4 arg5 arg6 f3 f4 f5 f6 p (offC i p) (rows_inb (offC_eq i p) (by omega) p.isLt)
  let b : Fin 4 → Half Ideal := fun p => TB c i XW XO arg3 arg4 arg5 arg6 f3 f4 f5 f6 p (offD i p) (rows_inb (offD_eq i p) (by omega) p.isLt)
  let y : Fin 4 → Trio Ideal := fun p => pastA v19r (a p) (trio s.1 p)
  have ha : ∀ p : Fin 4, IsTile A p.val (256 * (2 * (k0_t1_loop i).trips)) (a p) := fun p => tile_is c i XW XO arg3 arg4 arg5 arg6 f3 f4 f5 f6 H 0 _ (by omega) p _ _ (offC_eq i p)
  have hb : ∀ p : Fin 4, IsHalf A p.val (256 * (2 * (k0_t1_loop i).trips + 1)) (b p) := fun p => half_is c i XW XO arg3 arg4 arg5 arg6 f3 f4 f5 f6 H 1 _ (by omega) p _ _ (offD_eq i p)
  have hza : ∀ p : Fin 4, zA v19r (a p) (trio s.1 p) = nm (pairOf A.Z p.val 0 (256 * (2 * (k0_t1_loop i).trips))) := fun p => by
    unfold zA; rw [v9_eq]; exact zA_nm (ha p) (hs.xs p) (by rw [H.t]; omega)
  have hy : ∀ p : Fin 4, IsTrio A p.val (256 * (2 * (k0_t1_loop i).trips + 1)) (A.acc (2 * (k0_t1_loop i).trips + 1)) (y p) := fun p => by
    show IsTrio A _ _ _ (tNext k0_pay225 (zA v19r (a p) (trio s.1 p)) (a p) (trio s.1 p))
    rw [v9_eq]
    exact next_acc (ha p) (hs.xs p) (hza p)
  have hzb : ∀ p : Fin 4, zB v19r (b p) (y p) = nm (pairOf A.Z p.val 256 (256 * (2 * (k0_t1_loop i).trips + 1))) := fun p => by
    unfold zB; rw [v9_eq]; exact zB_nm (hb p) (hy p) (by rw [H.t]; omega)
  have hZ : ∀ h r j, r < 256 → A.Z h r (256 * (2 * (k0_t1_loop i).trips + 1) + j) = 0 := fun h r j hr => if_neg (by rw [H.t]; omega)
  have hW : ∀ h r j, r < 256 → A.W h r (256 * (2 * (k0_t1_loop i).trips + 1) + j) = 0 := fun h r j hr => H.wz _ _ _ (by rw [H.t]; omega)
  show arg10.view.read (Elt Ideal) (arg10.view.writes (Elt Ideal) f10 (bodyRun c i XW XO arg3 harg3 arg4 harg4 arg5 harg5 arg6 harg6 arg9 harg9 arg10 harg10 arg11 harg11 arg12 harg12 f3 f4 f5 f6 f9 s11 s12).1.1) = _
    ∧ arg11.view.read (Elt Ideal) (bodyRun c i XW XO arg3 harg3 arg4 harg4 arg5 harg5 arg6 harg6 arg9 harg9 arg10 harg10 arg11 harg11 arg12 harg12 f3 f4 f5 f6 f9 s11 s12).1.2.1 = _
    ∧ arg12.view.read (Elt Ideal) (bodyRun c i XW XO arg3 harg3 arg4 harg4 arg5 harg5 arg6 harg6 arg9 harg9 arg10 harg10 arg11 harg11 arg12 harg12 f3 f4 f5 f6 f9 s11 s12).1.2.2 = _
  rw [e]
  refine ⟨?_, ?_, ?_⟩
  · refine read_four arg10 f10 (fun p => hDone k0_pay225 (zB v19r (b p) (y p)) (b p) (y p).2.2) fun p => ?_
    beta_reduce
    rw [v9_eq]
    refine (hDone_nm (hb p) (hzb p) (hy p).a).trans (nm_congr fun r hr c' hc => ?_)
    rw [Dt.acc_succ A (2 * (k0_t1_loop i).trips + 1)]
    by_cases h : r < 256
    · rw [if_pos h, Finset.sum_eq_zero fun j _ => by rw [hZ _ _ _ h, zero_mul]]
    · rw [if_neg h]
  · refine read_eight arg11 s.2.1 hs.ks (n := (k0_t1_loop i).trips) (offC i) (offD i) (by omega) (offC_eq i) (offD_eq i)
      (fun p => tK v17r (zA v19r (a p) (trio s.1 p)) (a p) (View.readAt (Elt Ideal) arg11.view (rowsR (offC i p) (rows_inb (offC_eq i p) (by omega) p.isLt)).toLoadRect s.2.1))
      (fun p => hK v17r (zB v19r (b p) (y p)) (b p) (View.readAt (Elt Ideal) arg11.view (rowsR (offD i p) (rows_inb (offD_eq i p) (by omega) p.isLt)).toLoadRect s.2.1))
      (fun p => ?_) (fun p => ?_) ?_
    · obtain ⟨o, h1, h2⟩ := piece_val arg11 s.2.1 (n'' := 2 * ((k0_t1_loop i).trips + 1)) hs.ks (offC_eq i p) (rows_inb (offC_eq i p) (by omega) p.isLt) (by omega) (by omega)
      exact (tK_nm (ha p) (hza p) h1).trans (nm_congr fun r hr c' _ => h2 r hr c')
    · obtain ⟨o, h1, h2⟩ := piece_val arg11 s.2.1 (n'' := 2 * ((k0_t1_loop i).trips + 1)) hs.ks (offD_eq i p) (rows_inb (offD_eq i p) (by omega) p.isLt) (by omega) (by omega)
      refine (hK_nm (hb p) (hzb p) h1).trans (nm_congr fun r hr c' _ => Eq.trans ?_ (h2 r hr c'))
      congr 1
      exact half_sum (fun t => A.Z ((128 * p.val + c') / 64) t (256 * (2 * (k0_t1_loop i).trips + 1) + r) * A.Q t (128 * p.val + c')) fun t ht => by rw [hZ _ _ _ ht, zero_mul]
    · intro r c' hr
      unfold Dt.upto
      congr 1
      exact if_congr (by omega) rfl rfl
  · refine read_eight arg12 s.2.2 hs.vs (n := (k0_t1_loop i).trips) (offC i) (offD i) (by omega) (offC_eq i) (offD_eq i)
      (fun p => tV v17r (a p) (View.readAt (Elt Ideal) arg12.view (rowsR (offC i p) (rows_inb (offC_eq i p) (by omega) p.isLt)).toLoadRect s.2.2))
      (fun p => hV v17r (b p) (View.readAt (Elt Ideal) arg12.view (rowsR (offD i p) (rows_inb (offD_eq i p) (by omega) p.isLt)).toLoadRect s.2.2))
      (fun p => ?_) (fun p => ?_) ?_
    · obtain ⟨o, h1, h2⟩ := piece_val arg12 s.2.2 (n'' := 2 * ((k0_t1_loop i).trips + 1)) hs.vs (offC_eq i p) (rows_inb (offC_eq i p) (by omega) p.isLt) (by omega) (by omega)
      exact (tV_nm (ha p) h1).trans (nm_congr fun r hr c' _ => h2 r hr c')
    · obtain ⟨o, h1, h2⟩ := piece_val arg12 s.2.2 (n'' := 2 * ((k0_t1_loop i).trips + 1)) hs.vs (offD_eq i p) (rows_inb (offD_eq i p) (by omega) p.isLt) (by omega) (by omega)
      refine (hV_nm (hb p) h1).trans (nm_congr fun r hr c' _ => Eq.trans ?_ (h2 r hr c'))
      congr 1
      exact half_sum (fun t => A.W ((128 * p.val + c') / 64) t (256 * (2 * (k0_t1_loop i).trips + 1) + r) * A.G t (128 * p.val + c')) fun t ht => by rw [hW _ _ _ ht, zero_mul]
    · intro r c' hr
      unfold Dt.upto
      congr 1
      exact if_congr (by omega) rfl rfl

end Point

end Cert.SbBwdIdeal.Val
end
-- ==== Proof.SbBwd.Whole.lean ====
/-
  The stick-breaking backward call over real numbers: the three result arrays that the whole run leaves, from the arrays that
  the call is given.
-/
module

public import proofs.«01_k».proof.Proof.SbBwd.Point
public import proofs.«01_k».proof.Proof.SbBwd.Run

@[expose] public section

set_option maxRecDepth 16384

noncomputable section

namespace Cert.SbBwdIdeal.Val

open Cert.SbBwdIdeal Cert.SbBwdIdeal.Gen Cert.SbBwdIdeal.Run Cert.Lift
open Idealize.ShloMosaic
open Idealize.ShloMosaic.TcCoe
open Idealize.SL.Sem
open scoped BigOperators

/-- The call's data: queries, keys, values and output cotangents by row of both batches and column; weights and log-complements by
    batch, head, row and key. -/
structure Gd where
  q : ℕ → ℕ → ℝ
  k : ℕ → ℕ → ℝ
  v : ℕ → ℕ → ℝ
  g : ℕ → ℕ → ℝ
  W : ℕ → ℕ → ℕ → ℕ → ℝ
  O : ℕ → ℕ → ℕ → ℕ → ℝ

namespace Gd
variable (B : Gd)
/-- What grid point `t` sees of it. -/
def pt (t : ℕ) : Dt where
  t := 512 * (t % 4)
  Q r c := B.q (512 * t + r) c
  G r c := B.g (512 * t + r) c
  K s c := B.k (2048 * (t / 4) + s) c
  V s c := B.v (2048 * (t / 4) + s) c
  W h r s := B.W (t / 4) h (512 * (t % 4) + r) s
  O h r s := B.O (t / 4) h (512 * (t % 4) + r) s
def E (b h t s : ℕ) : ℝ := (∑ c ∈ Finset.range 64, B.g (2048 * b + t) (64 * h + c) * B.v (2048 * b + s) (64 * h + c)) * B.W b h t s
def D (b h t s : ℕ) : ℝ := ∑ k ∈ Finset.range s, B.E b h t k
/-- The cotangent of the scores. -/
def Z (b h t s : ℕ) : ℝ := if s < t then (B.E b h t s + B.D b h t s) * Real.exp (B.O b h t s) - B.D b h t s else 0

/-- The three gradients. -/
def dq (r c : ℕ) : ℝ := (∑ s ∈ Finset.range 2048, B.Z (r / 2048) (c / 64) (r % 2048) s * B.k (2048 * (r / 2048) + s) c) * (1 / 8)
def dk (s c : ℕ) : ℝ := ∑ t ∈ Finset.range 2048, B.Z (s / 2048) (c / 64) t (s % 2048) * B.q (2048 * (s / 2048) + t) c
def dv (s c : ℕ) : ℝ := ∑ t ∈ Finset.range 2048, B.W (s / 2048) (c / 64) t (s % 2048) * B.g (2048 * (s / 2048) + t) c

theorem row_pt (b i r : ℕ) : 512 * (4 * b + i) + r = 2048 * b + (512 * i + r) := by omega
theorem pt_E (b i h r s : ℕ) (hi : i < 4) : (B.pt (4 * b + i)).E h r s = B.E b h (512 * i + r) s := by
  unfold Dt.E E pt; dsimp only
  rw [show (4 * b + i) / 4 = b by omega, show (4 * b + i) % 4 = i by omega, row_pt]
theorem pt_D (b i h r s : ℕ) (hi : i < 4) : (B.pt (4 * b + i)).D h r s = B.D b h (512 * i + r) s := by
  unfold Dt.D D; simp only [B.pt_E b i _ _ _ hi]
theorem pt_Z (b i h r s : ℕ) (hi : i < 4) : (B.pt (4 * b + i)).Z h r s = B.Z b h (512 * i + r) s := by
  unfold Dt.Z Z Dt.C; rw [B.pt_E b i _ _ _ hi, B.pt_D b i _ _ _ hi]
  unfold pt; dsimp only
  rw [show (4 * b + i) / 4 = b by omega, show (4 * b + i) % 4 = i by omega]

/-- The key-side gradients after `n` points. -/
def keyR (g : ℕ → ℕ → ℕ → ℝ) : ℕ → ℕ → ℕ → ℝ
  | 0 => fun _ _ => 0
  | n + 1 => Dt.upto (g n) (if n % 4 = 0 then fun _ _ => 0 else keyR g n) (2 * (n % 4 + 1))

theorem keyR_batch (g : ℕ → ℕ → ℕ → ℝ) (hg : ∀ n s c, 512 * (n % 4 + 1) ≤ s → g n s c = 0) (b s c : ℕ) :
    ∀ i < 4, keyR g (4 * b + i + 1) s c = ∑ k ∈ Finset.range (i + 1), g (4 * b + k) s c
  | 0, _ => by
    show Dt.upto (g (4 * b + 0)) (if (4 * b + 0) % 4 = 0 then fun _ _ => 0 else keyR g (4 * b + 0)) (2 * ((4 * b + 0) % 4 + 1)) s c = _
    rw [if_pos (by omega)]; unfold Dt.upto
    rw [Finset.sum_range_one, zero_add]
    split_ifs with h
    · rfl
    · exact (hg _ _ _ (by omega)).symm
  | i + 1, hi => by
    show Dt.upto (g (4 * b + (i + 1))) (if (4 * b + (i + 1)) % 4 = 0 then fun _ _ => 0 else keyR g (4 * b + i + 1)) (2 * ((4 * b + (i + 1)) % 4 + 1)) s c = _
    rw [if_neg (by omega)]; unfold Dt.upto
    rw [keyR_batch g hg b s c i (by omega), Finset.sum_range_succ _ (i + 1)]
    split_ifs with h
    · rfl
    · rw [hg (4 * b + (i + 1)) _ _ (by omega)]

/-- Four blocks of 512 rows are 2048 rows. -/
theorem sum_four (f : ℕ → ℝ) : ∑ i ∈ Finset.range 4, ∑ r ∈ Finset.range 512, f (512 * i + r) = ∑ t ∈ Finset.range 2048, f t := by
  rw [show (2048 : ℕ) = 512 + 512 + 512 + 512 from rfl, Finset.sum_range_add, Finset.sum_range_add, Finset.sum_range_add]
  rw [Finset.sum_range_succ, Finset.sum_range_succ, Finset.sum_range_succ, Finset.sum_range_one]
  simp only [Nat.mul_zero, Nat.zero_add]

theorem kr_zero (n s c : ℕ) (h : 512 * (n % 4 + 1) ≤ s) : (B.pt n).kr s c = 0 :=
  Finset.sum_eq_zero fun t ht => by
    have := Finset.mem_range.mp ht
    unfold Dt.Z; rw [if_neg (by show ¬ s < 512 * (n % 4) + t; omega), zero_mul]
theorem vr_zero (hw : ∀ b h t s, t ≤ s → B.W b h t s = 0) (n s c : ℕ) (h : 512 * (n % 4 + 1) ≤ s) : (B.pt n).vr s c = 0 :=
  Finset.sum_eq_zero fun t ht => by
    have := Finset.mem_range.mp ht
    rw [show (B.pt n).W (c / 64) t s = 0 from hw _ _ _ _ (by omega), zero_mul]

theorem keyR_dk (b s c : ℕ) (hs : s < 2048) : keyR (fun n => (B.pt n).kr) (4 * b + 3 + 1) s c = B.dk (2048 * b + s) c := by
  rw [keyR_batch _ (fun n => B.kr_zero n) b s c 3 (by omega)]
  unfold dk
  rw [show (2048 * b + s) / 2048 = b by omega, show (2048 * b + s) % 2048 = s by omega, ← sum_four]
  refine Finset.sum_congr rfl fun i hi => Finset.sum_congr rfl fun r _ => ?_
  rw [B.pt_Z b i _ _ _ (Finset.mem_range.mp hi)]
  exact congrArg (fun x => _ * B.q x c) (row_pt b i r)
theorem keyR_dv (hw : ∀ b h t s, t ≤ s → B.W b h t s = 0) (b s c : ℕ) (hs : s < 2048) : keyR (fun n => (B.pt n).vr) (4 * b + 3 + 1) s c = B.dv (2048 * b + s) c := by
  rw [keyR_batch _ (fun n => B.vr_zero hw n) b s c 3 (by omega)]
  unfold dv
  rw [show (2048 * b + s) / 2048 = b by omega, show (2048 * b + s) % 2048 = s by omega, ← sum_four]
  refine Finset.sum_congr rfl fun i hi => Finset.sum_congr rfl fun r _ => ?_
  have hi := Finset.mem_range.mp hi
  unfold pt; dsimp only
  rw [show (4 * b + i) / 4 = b by omega, show (4 * b + i) % 4 = i by omega, row_pt]
theorem acc_dq (b i r c : ℕ) (hi : i < 4) (hr : r < 512) : (B.pt (4 * b + i)).acc (2 * i + 1 + 1) r c * (1 / 8) = B.dq (512 * (4 * b + i) + r) c := by
  unfold dq Dt.acc
  rw [show (512 * (4 * b + i) + r) / 2048 = b by omega, show (512 * (4 * b + i) + r) % 2048 = 512 * i + r by omega]
  refine congrArg (· * _) ?_
  rw [← Finset.sum_subset (Finset.range_subset_range.mpr (by omega : 256 * (2 * i + 1 + 1) ≤ 2048)) fun s _ hs => by
    have := Finset.mem_range.not.mp hs
    unfold Z; rw [if_neg (by omega), zero_mul]]
  refine Finset.sum_congr rfl fun s _ => ?_
  rw [B.pt_Z b i _ _ _ hi]
  unfold pt; dsimp only
  rw [show (4 * b + i) / 4 = b by omega]
end Gd

variable (m : (ℓ : Loc nD τ sig) → Buf (Elt Ideal) ℓ) (c : Dev nD)

/-- The arrays that the call is given hold the data `B`. -/
structure Real (B : Gd) : Prop where
  q : V m c main_v30 = (nm B.q : FVec Ideal S4096x512 .bf16)
  k : V m c main_v32 = (nm B.k : FVec Ideal S4096x512 .bf16)
  v : V m c main_v34 = (nm B.v : FVec Ideal S4096x512 .bf16)
  g : V m c main_v36 = (nm B.g : FVec Ideal S4096x512 .bf16)
  u : V m c main_v7 = (nm upM : FVec Ideal S256x256 .bf16)
  w : ∀ (x : Fin 64) (p : Fin 4) (r j : Fin 512), V m c main_v40 (ValueIdx.ix4 x p r j)
    = ((pairOf (fun h r s => B.W (x.val / 32) h (512 * (x.val / 8 % 4) + r) s) p.val 0 (256 * (x.val % 8)) r.val j.val : ℝ) : EReal)
  o : ∀ (x : Fin 64) (p : Fin 4) (r j : Fin 512), V m c main_v44 (ValueIdx.ix4 x p r j)
    = ((pairOf (fun h r s => B.O (x.val / 32) h (512 * (x.val / 8 % 4) + r) s) p.val 0 (256 * (x.val % 8)) r.val j.val : ℝ) : EReal)
  wz : ∀ b h t s, t ≤ s → B.W b h t s = 0

variable {m c} {B : Gd} (H : Real m c B) (t : Fin cfg0.N)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val / 4 ∧ win0_1.index t (1 : Fin 2) = 0 := (by decide +kernel : ∀ t : Fin grid0.N, _)
theorem idx2 : ∀ t : Fin cfg0.N, win0_2.index t (0 : Fin 2) = t.val / 4 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val / 4 ∧ win0_6.index t (1 : Fin 2) = 0 := (by decide +kernel : ∀ t : Fin grid0.N, _)
theorem idx7 : ∀ t : Fin cfg0.N, win0_7.index t (0 : Fin 2) = t.val / 4 ∧ win0_7.index t (1 : Fin 2) = 0 := (by decide +kernel : ∀ t : Fin grid0.N, _)
theorem tl_eq : ∀ (t : Fin cfg0.N) (n : Fin 8), (tl (grid0.coords t) n.val).val = 8 * t.val + n.val := (by decide +kernel : ∀ (t : Fin grid0.N) (n : Fin 8), _)

theorem read_wM (X : Buf (Elt Ideal) (wM.view.loc (c : Thread nD τ))) (y : S64x4x512x512.Idx) : wM.view.read (Elt Ideal) X y = X y := rfl
theorem read_oM (X : Buf (Elt Ideal) (oM.view.loc (c : Thread nD τ))) (y : S64x4x512x512.Idx) : oM.view.read (Elt Ideal) X y = X y := rfl

include H

theorem iblk0 : iblk m c 0 t = (nm (B.pt t.val).Q : FVec Ideal S512x512 .bf16) := by
  obtain ⟨a0, a1⟩ := idx0 t
  refine nm_ext fun r e => ?_
  have hV : V m c main_v30 = (nm B.q : FVec Ideal S4096x512 .bf16) := H.q
  show V m c main_v30 (((cfg0.win 0).blk t).view.emb (ValueIdx.ix2 r e)) = _
  rw [hV]
  refine congrArg₂ (fun a b => ((B.q a b : ℝ) : EReal)) ?_ ?_
  · show win0_0.index t (0 : Fin 2) * 512 + 1 * r.val = 512 * t.val + r.val; omega
  · show win0_0.index t (1 : Fin 2) * 512 + 1 * e.val = e.val; omega
theorem iblk1 : iblk m c 1 t = (nm (B.pt t.val).K : FVec Ideal S2048x512 .bf16) := by
  obtain ⟨a0, a1⟩ := idx1 t
  refine nm_ext fun r e => ?_
  have hV : V m c main_v32 = (nm B.k : FVec Ideal S4096x512 .bf16) := H.k
  show V m c main_v32 (((cfg0.win 1).blk t).view.emb (ValueIdx.ix2 r e)) = _
  rw [hV]
  refine congrArg₂ (fun a b => ((B.k a b : ℝ) : EReal)) ?_ ?_
  · show win0_1.index t (0 : Fin 2) * 2048 + 1 * r.val = 2048 * (t.val / 4) + r.val; omega
  · show win0_1.index t (1 : Fin 2) * 512 + 1 * e.val = e.val; omega
theorem iblk2 : iblk m c 2 t = (nm (B.pt t.val).V : FVec Ideal S2048x512 .bf16) := by
  obtain ⟨a0, a1⟩ := idx2 t
  refine nm_ext fun r e => ?_
  have hV : V m c main_v34 = (nm B.v : FVec Ideal S4096x512 .bf16) := H.v
  show V m c main_v34 (((cfg0.win 2).blk t).view.emb (ValueIdx.ix2 r e)) = _
  rw [hV]
  refine congrArg₂ (fun a b => ((B.v a b : ℝ) : EReal)) ?_ ?_
  · show win0_2.index t (0 : Fin 2) * 2048 + 1 * r.val = 2048 * (t.val / 4) + r.val; omega
  · show win0_2.index t (1 : Fin 2) * 512 + 1 * e.val = e.val; omega
theorem iblk3 : iblk m c 3 t = (nm (B.pt t.val).G : FVec Ideal S512x512 .bf16) := by
  obtain ⟨a0, a1⟩ := idx3 t
  refine nm_ext fun r e => ?_
  have hV : V m c main_v36 = (nm B.g : FVec Ideal S4096x512 .bf16) := H.g
  show V m c main_v36 (((cfg0.win 3).blk t).view.emb (ValueIdx.ix2 r e)) = _
  rw [hV]
  refine congrArg₂ (fun a b => ((B.g a b : ℝ) : EReal)) ?_ ?_
  · show win0_3.index t (0 : Fin 2) * 512 + 1 * r.val = 512 * t.val + r.val; omega
  · show win0_3.index t (1 : Fin 2) * 512 + 1 * e.val = e.val; omega
theorem iblk4 : iblk m c 4 t = (nm upM : FVec Ideal S256x256 .bf16) := by
  obtain ⟨a0, a1⟩ := idx4 t
  refine nm_ext fun r e => ?_
  have hV : V m c main_v7 = (nm upM : FVec Ideal S256x256 .bf16) := H.u
  show V m c main_v7 (((cfg0.win 4).blk t).view.emb (ValueIdx.ix2 r e)) = _
  rw [hV]
  refine congrArg₂ (fun a b => ((upM a b : ℝ) : EReal)) ?_ ?_
  · show win0_4.index t (0 : Fin 2) * 256 + 1 * r.val = r.val; omega
  · show win0_4.index t (1 : Fin 2) * 256 + 1 * e.val = e.val; omega

theorem tile_w (n : ℕ) (hn : n < 8) (p : Fin 4) (r j : Fin 512) : wM.view.read (Elt Ideal) (V m c main_v40) (ValueIdx.ix4 (tl (grid0.coords t) n) p r j)
    = ((pairOf (B.pt t.val).W p.val 0 (256 * n) r.val j.val : ℝ) : EReal) := by
  have e : (tl (grid0.coords t) n).val = 8 * t.val + n := tl_eq t ⟨n, hn⟩
  rw [read_wM, H.w (tl (grid0.coords t) n) p r j, e, show (8 * t.val + n) / 32 = t.val / 4 by omega, show (8 * t.val + n) / 8 % 4 = t.val % 4 by omega,
    show (8 * t.val + n) % 8 = n by omega]
  rfl
theorem tile_o (n : ℕ) (hn : n < 8) (p : Fin 4) (r j : Fin 512) : oM.view.read (Elt Ideal) (V m c main_v44) (ValueIdx.ix4 (tl (grid0.coords t) n) p r j)
    = ((pairOf (B.pt t.val).O p.val 0 (256 * n) r.val j.val : ℝ) : EReal) := by
  have e : (tl (grid0.coords t) n).val = 8 * t.val + n := tl_eq t ⟨n, hn⟩
  rw [read_oM, H.o (tl (grid0.coords t) n) p r j, e, show (8 * t.val + n) / 32 = t.val / 4 by omega, show (8 * t.val + n) / 8 % 4 = t.val % 4 by omega,
    show (8 * t.val + n) % 8 = n by omega]
  rfl

theorem holds : Holds c (grid0.coords t) (V m c main_v40) (V m c main_v44) (st0_0 t) (st0_1 t) (st0_2 t) (st0_3 t)
    ((hst t 0).unread (iblk m c 0 t)) ((hst t 1).unread (iblk m c 1 t)) ((hst t 2).unread (iblk m c 2 t)) ((hst t 3).unread (iblk m c 3 t)) (B.pt t.val) := by
  have ht : t.val < 8 := t.isLt
  have htr : (k0_t1_loop (grid0.coords t)).trips = t.val % 4 := (trips1_eq _).trans (coord2 t)
  constructor
  · exact ((hst t 0).read_unread _).trans (iblk0 H t)
  · exact ((hst t 1).read_unread _).trans (iblk1 H t)
  · exact ((hst t 2).read_unread _).trans (iblk2 H t)
  · exact ((hst t 3).read_unread _).trans (iblk3 H t)
  · rw [htr]; rfl
  · exact fun h r s hs => H.wz _ _ _ _ hs
  · exact fun n hn p r j => tile_w H t n (by omega) p r j
  · exact fun n hn p r j => tile_o H t n (by omega) p r j

omit H in
/-- What a key-side buffer starts with. -/
theorem start_read (i : grid0.Coords) (a : Memref sig .tc .vmem S2048x512 .f32) (ha : a.IsWhole) (x : ℕ → ℕ → ℝ) :
    a.view.read (Elt Ideal) (start c i a (ha.unread (nm x : FVec Ideal S2048x512 .f32))) = (nm (if (i 2).val = 0 then fun _ _ => 0 else x) : FVec Ideal S2048x512 .f32) := by
  unfold start
  by_cases h : (i 2).val = 0
  · rw [if_pos h, if_pos h]
    have e : ∀ f : Buf (Elt Ideal) (a.view.loc (c : Thread nD τ)), a.view.read (Elt Ideal) (a.view.writes (Elt Ideal) f [⟨R2048, k0_pay223 (F := Ideal)⟩]) = k0_pay223 (F := Ideal) :=
      fun f => View.read_writes_full _ _ _ _ _
    exact (e _).trans zero_nm
  · rw [if_neg h, if_neg h]
    exact ha.read_unread _

theorem point (x11 x12 : ℕ → ℕ → ℝ) :
    let R := (ptRun m c t ((nm x11 : FVec Ideal S2048x512 .f32), (nm x12 : FVec Ideal S2048x512 .f32))).1
    (∀ f10, (st0_5 t).view.read (Elt Ideal) ((st0_5 t).view.writes (Elt Ideal) f10 R.1) = (nm (fun r c' => (B.pt t.val).acc (2 * (t.val % 4) + 1 + 1) r c' * (1 / 8)) : FVec Ideal S512x512 .f32))
    ∧ (st0_6 t).view.read (Elt Ideal) R.2.1 = (nm (Dt.upto (B.pt t.val).kr (if t.val % 4 = 0 then fun _ _ => 0 else x11) (2 * (t.val % 4 + 1))) : FVec Ideal S2048x512 .f32)
    ∧ (st0_7 t).view.read (Elt Ideal) R.2.2 = (nm (Dt.upto (B.pt t.val).vr (if t.val % 4 = 0 then fun _ _ => 0 else x12) (2 * (t.val % 4 + 1))) : FVec Ideal S2048x512 .f32) := by
  have htr : (k0_t1_loop (grid0.coords t)).trips = t.val % 4 := (trips1_eq _).trans (coord2 t)
  have key := point_val c (grid0.coords t) (V m c main_v40) (V m c main_v44) (st0_0 t) (hst t 0) (st0_1 t) (hst t 1) (st0_2 t) (hst t 2) (st0_3 t) (hst t 3)
    (st0_4 t) (hst t 4) (st0_5 t) (hst t 5) (st0_6 t) (hst t 6) (st0_7 t) (hst t 7) _ _ _ _ ((hst t 4).unread (iblk m c 4 t)) (holds H t)
    (((hst t 4).read_unread _).trans (iblk4 H t))
    (start c (grid0.coords t) (st0_6 t) ((hst t 6).unread (nm x11 : FVec Ideal S2048x512 .f32))) (start c (grid0.coords t) (st0_7 t) ((hst t 7).unread (nm x12 : FVec Ideal S2048x512 .f32)))
    (start_read _ _ (hst t 6) x11) (start_read _ _ (hst t 7) x12)
  rw [htr, coord2 t] at key
  exact ⟨fun f10 => (key f10).1, (key ((hst t 5).unread (nm x11 : FVec Ideal S512x512 .f32))).2⟩

theorem keyAt_nm : ∀ n ≤ 8, keyAt m c n = ((nm (Gd.keyR (fun n => (B.pt n).kr) n) : FVec Ideal S2048x512 .f32), (nm (Gd.keyR (fun n => (B.pt n).vr) n) : FVec Ideal S2048x512 .f32))
  | 0, _ => congrArg₂ Prod.mk zero_nm zero_nm
  | n + 1, hn => by
    have e := keyAt_succ m c (⟨n, hn⟩ : Fin cfg0.N)
    obtain ⟨-, p1, p2⟩ := point H (⟨n, hn⟩ : Fin cfg0.N) (Gd.keyR (fun n => (B.pt n).kr) n) (Gd.keyR (fun n => (B.pt n).vr) n)
    rw [show (⟨n, hn⟩ : Fin cfg0.N).val = n from rfl, keyAt_nm n (by omega)] at e
    rw [e]
    exact congrArg₂ Prod.mk p1 p2

theorem qAt_nm : qAt m c t = (nm (fun r e => B.dq (512 * t.val + r) e) : FVec Ideal S512x512 .f32) := by
  unfold qAt
  rw [keyAt_nm H t.val (Nat.le_of_lt t.isLt)]
  refine ((point H t _ _).1 _).trans (nm_congr fun r hr e _ => ?_)
  have ht : t.val < 8 := t.isLt
  have := B.acc_dq (t.val / 4) (t.val % 4) r e (by omega) hr
  rwa [Nat.div_add_mod] at this

omit H in
theorem emb5 (r : Fin 512) (e : Fin 512) : ((cfg0.win 5).blk t).view.emb (ValueIdx.ix2 r e) = (ValueIdx.ix2 ⟨512 * t.val + r.val, by have : t.val < 8 := t.isLt; omega⟩ e : S4096x512.Idx) := by
  obtain ⟨a0, a1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 512 + 1 * e.val = e.val; omega
omit H in
theorem emb6 (r : Fin 2048) (e : Fin 512) : ((cfg0.win 6).blk t).view.emb (ValueIdx.ix2 r e) = (ValueIdx.ix2 ⟨2048 * (t.val / 4) + r.val, by have : t.val < 8 := t.isLt; omega⟩ e : S4096x512.Idx) := by
  obtain ⟨a0, a1⟩ := idx6 t
  funext a; apply Fin.ext
  match a with
  | ⟨0, _⟩ => show win0_6.index t (0 : Fin 2) * 2048 + 1 * r.val = 2048 * (t.val / 4) + r.val; omega
  | ⟨1, _⟩ => show win0_6.index t (1 : Fin 2) * 512 + 1 * e.val = e.val; omega
omit H in
theorem emb7 (r : Fin 2048) (e : Fin 512) : ((cfg0.win 7).blk t).view.emb (ValueIdx.ix2 r e) = (ValueIdx.ix2 ⟨2048 * (t.val / 4) + r.val, by have : t.val < 8 := t.isLt; omega⟩ e : S4096x512.Idx) := by
  obtain ⟨a0, a1⟩ := idx7 t
  funext a; apply Fin.ext
  match a with
  | ⟨0, _⟩ => show win0_7.index t (0 : Fin 2) * 2048 + 1 * r.val = 2048 * (t.val / 4) + r.val; omega
  | ⟨1, _⟩ => show win0_7.index t (1 : Fin 2) * 512 + 1 * e.val = e.val; omega

theorem final5 : (dats m 0 c).arrAt 5 cfg0.N = (nm B.dq : FVec Ideal S4096x512 .f32) :=
  (dats m 0 c).arrAt_eq_of_cover 5 (nm B.dq : FVec Ideal S4096x512 .f32) (fun t _ => by
    show (cfg0.win 5).cut (grid0.coords t) ((dats m 0 c).after 5 t) = _
    rw [after5, qAt_nm H]
    funext j
    obtain ⟨r, e, rfl⟩ : ∃ (r : Fin 512) (e : Fin 512), j = ValueIdx.ix2 r e := ⟨j 0, j 1, ValueIdx.eq_ix2 j⟩
    exact (congrArg (nm B.dq : FVec Ideal S4096x512 .f32) (emb5 t r e)).symm)
    (fun i => by
    obtain ⟨r, e, rfl⟩ : ∃ (r : Fin 4096) (e : Fin 512), i = ValueIdx.ix2 r e := ⟨i 0, i 1, ValueIdx.eq_ix2 i⟩
    refine ⟨⟨r.val / 512, by show r.val / 512 < 8; omega⟩, flush0_5 _, ?_⟩
    have h := ((cfg0.win 5).blk ⟨r.val / 512, by show r.val / 512 < 8; omega⟩).view.emb_mem_set (ValueIdx.ix2 (⟨r.val % 512, Nat.mod_lt _ (by omega)⟩ : Fin 512) e)
    rw [emb5] at h
    rwa [show (⟨512 * (r.val / 512) + r.val % 512, by omega⟩ : Fin 4096) = r from Fin.ext (by show 512 * (r.val / 512) + r.val % 512 = r.val; omega)] at h)

theorem final6 : (dats m 0 c).arrAt 6 cfg0.N = (nm B.dk : FVec Ideal S4096x512 .f32) :=
  (dats m 0 c).arrAt_eq_of_cover 6 (nm B.dk : FVec Ideal S4096x512 .f32) (fun t hf => by
    have h3 : t.val % 4 = 3 := (flush0_6 t).mp hf
    have ht : t.val < 8 := t.isLt
    show (cfg0.win 6).cut (grid0.coords t) ((dats m 0 c).after 6 t) = _
    rw [after6, keyAt_nm H (t.val + 1) (by omega)]
    funext j
    obtain ⟨r, e, rfl⟩ : ∃ (r : Fin 2048) (e : Fin 512), j = ValueIdx.ix2 r e := ⟨j 0, j 1, ValueIdx.eq_ix2 j⟩
    refine Eq.trans ?_ (congrArg (nm B.dk : FVec Ideal S4096x512 .f32) (emb6 t r e)).symm
    have := B.keyR_dk (t.val / 4) r.val e.val r.isLt
    rw [show 4 * (t.val / 4) + 3 = t.val by omega] at this
    exact congrArg Real.toEReal this)
    (fun i => by
    obtain ⟨r, e, rfl⟩ : ∃ (r : Fin 4096) (e : Fin 512), i = ValueIdx.ix2 r e := ⟨i 0, i 1, ValueIdx.eq_ix2 i⟩
    refine ⟨⟨4 * (r.val / 2048) + 3, by show 4 * (r.val / 2048) + 3 < 8; omega⟩, (flush0_6 _).mpr (by show (4 * (r.val / 2048) + 3) % 4 = 3; omega), ?_⟩
    have h := ((cfg0.win 6).blk ⟨4 * (r.val / 2048) + 3, by show 4 * (r.val / 2048) + 3 < 8; omega⟩).view.emb_mem_set (ValueIdx.ix2 (⟨r.val % 2048, Nat.mod_lt _ (by omega)⟩ : Fin 2048) e)
    rw [emb6] at h
    rwa [show (⟨2048 * ((4 * (r.val / 2048) + 3) / 4) + r.val % 2048, by omega⟩ : Fin 4096) = r from Fin.ext (by show 2048 * ((4 * (r.val / 2048) + 3) / 4) + r.val % 2048 = r.val; omega)] at h)

theorem final7 : (dats m 0 c).arrAt 7 cfg0.N = (nm B.dv : FVec Ideal S4096x512 .f32) :=
  (dats m 0 c).arrAt_eq_of_cover 7 (nm B.dv : FVec Ideal S4096x512 .f32) (fun t hf => by
    have h3 : t.val % 4 = 3 := (flush0_7 t).mp hf
    have ht : t.val < 8 := t.isLt
    show (cfg0.win 7).cut (grid0.coords t) ((dats m 0 c).after 7 t) = _
    rw [after7, keyAt_nm H (t.val + 1) (by omega)]
    funext j
    obtain ⟨r, e, rfl⟩ : ∃ (r : Fin 2048) (e : Fin 512), j = ValueIdx.ix2 r e := ⟨j 0, j 1, ValueIdx.eq_ix2 j⟩
    refine Eq.trans ?_ (congrArg (nm B.dv : FVec Ideal S4096x512 .f32) (emb7 t r e)).symm
    have := B.keyR_dv H.wz (t.val / 4) r.val e.val r.isLt
    rw [show 4 * (t.val / 4) + 3 = t.val by omega] at this
    exact congrArg Real.toEReal this)
    (fun i => by
    obtain ⟨r, e, rfl⟩ : ∃ (r : Fin 4096) (e : Fin 512), i = ValueIdx.ix2 r e := ⟨i 0, i 1, ValueIdx.eq_ix2 i⟩
    refine ⟨⟨4 * (r.val / 2048) + 3, by show 4 * (r.val / 2048) + 3 < 8; omega⟩, (flush0_7 _).mpr (by show (4 * (r.val / 2048) + 3) % 4 = 3; omega), ?_⟩
    have h := ((cfg0.win 7).blk ⟨4 * (r.val / 2048) + 3, by show 4 * (r.val / 2048) + 3 < 8; omega⟩).view.emb_mem_set (ValueIdx.ix2 (⟨r.val % 2048, Nat.mod_lt _ (by omega)⟩ : Fin 2048) e)
    rw [emb7] at h
    rwa [show (⟨2048 * ((4 * (r.val / 2048) + 3) / 4) + r.val % 2048, by omega⟩ : Fin 4096) = r from Fin.ext (by show 2048 * ((4 * (r.val / 2048) + 3) / 4) + r.val % 2048 = r.val; omega)] at h)

end Cert.SbBwdIdeal.Val
end
-- ==== Proof.SbBwd.Ref.lean ====
/-
  The stick-breaking gradient's plain reference over real numbers: each of its stages on arrays of reals, and its three results in
  the terms in which the kernel's run says its own.
-/
module

public import proofs.«01_k».proof.Proof.LiftFour
public import proofs.«01_k».proof.Proof.SbBwd.Whole
public import proofs.«01_k».proof.Proof.Gen.SbBwdRefIdeal.Read

@[expose] public section

set_option maxRecDepth 16384

noncomputable section

namespace Cert.SbBwdRefIdeal.Ref

open Cert.SbBwdRefIdeal Cert.SbBwdRefIdeal.Gen Cert.SbBwdRefIdeal.Read Cert.Lift
open Idealize.ShloMosaic
open scoped BigOperators

/-! ## The formulas -/

section formulas
variable (x y v : ℕ → ℕ → ℕ → ℕ → ℝ) (g : ℕ → ℕ → ℕ → ℝ)

/-- The scores by batch, head, row and key. -/
def zz (b h t s : ℕ) : ℝ := (∑ d ∈ Finset.range 64, x b t h d * y b s h d) * (1 / 8)
/-- The logarithm of the chance to pass a key, zero from the diagonal on. -/
def oo (b h t s : ℕ) : ℝ := if s < t then -Real.log (1 + Real.exp (zz x y b h t s)) else 0
/-- The logarithm of the weight before the mask. -/
def lw (b h t s : ℕ) : ℝ := -Real.log (1 + Real.exp (-zz x y b h t s))
  + ((∑ n ∈ Finset.range 2048, if s + n < 2048 then oo x y b h t (s + n) else 0) - oo x y b h t s)
/-- The weights. -/
def ww (b h t s : ℕ) : ℝ := if s < t then Real.exp (lw x y b h t s) else 0
/-- The weights' cotangent. -/
def gv (b h t s : ℕ) : ℝ := ∑ d ∈ Finset.range 64, g b t (64 * h + d) * v b s h d
/-- The weights' cotangent times the weights. -/
def ee (b h t s : ℕ) : ℝ := (if s < t then gv v g b h t s else 0) * Real.exp (lw x y b h t s)
/-- The scores' cotangent. -/
def dz (b h t s : ℕ) : ℝ := -(-ee x y v g b h t s * Real.exp (-zz x y b h t s - Real.log (1 + Real.exp (-zz x y b h t s))))
  + -(-(-(if s < t then -ee x y v g b h t s + ∑ n ∈ Finset.range (s + 1), ee x y v g b h t n else 0)
    * Real.exp (zz x y b h t s - Real.log (1 + Real.exp (zz x y b h t s)))))

/-- The data of the kernel's call. -/
def gd : Cert.SbBwdIdeal.Val.Gd where
  q r c := x (r / 2048) (r % 2048) (c / 64) (c % 64) * (1 / 8)
  k r c := y (r / 2048) (r % 2048) (c / 64) (c % 64)
  v r c := v (r / 2048) (r % 2048) (c / 64) (c % 64)
  g r c := g (r / 2048) (r % 2048) c
  W := ww x y
  O := oo x y

end formulas

/-! ## The stages -/

theorem eighth : Ideal.ofBits .f32 0x3E000000#32 = ((1 / 8 : ℝ) : EReal) := by
  simp [Ideal.ofBits, Ideal.ieee]
  rw [← EReal.coe_mul]
  norm_num

abbrev A4 : Type := FVec Ideal S2x2048x8x64 .f32
abbrev A8 : Type := FVec Ideal S2x8x2048x2048 .f32

section stages
variable (x y v : ℕ → ℕ → ℕ → ℕ → ℝ) (g : ℕ → ℕ → ℕ → ℝ)

/-- The array of the outputs' cotangents. -/
def g3 : FVec Ideal S2x2048x512 .f32 := up fun i => g (i 0).val (i 1).val (i 2).val

theorem v2 : val_main_v2 (F := Ideal) (q4 x : A4) (q4 y : A4) = (q4 (zz x y) : A8) := by
  have h0 : val_main_v0 (F := Ideal) (q4 x : A4) (q4 y : A4) = (q4 (fun b h t s => ∑ d ∈ Finset.range 64, x b t h d * y b s h d) : A8) := by
    funext i
    rw [val_main_v0_apply, q4_apply, ← Fin.sum_univ_eq_sum_range (fun d => x (i 0).val (i 2).val (i 1).val d * y (i 0).val (i 3).val (i 1).val d), coe_sum]
    exact Finset.sum_congr rfl fun d _ => (EReal.coe_mul _ _).symm
  unfold val_main_v2 val_main_v1 val_main_cst
  rw [h0, spread_q4 _ _ _ _ eighth, mulf_q4]
  rfl

theorem mask (i : S2x8x2048x2048.Idx) : val_main_v12_1 (F := Ideal) i = BitVec.ofBool (decide ((i 3).val < (i 2).val)) := by
  have h2 : (i 2).val < 2048 := (i 2).isLt
  have h3 : (i 3).val < 2048 := (i 3).isLt
  rw [val_main_v12_1_apply, val_main_v9_apply]
  show BitVec.ofBool (BitVec.slt (BitVec.ofNat 32 (i 3).val) (BitVec.ofNat 32 (i 2).val)) = _
  congr 1
  rw [BitVec.slt_eq_decide, BitVec.toInt_eq_toNat_of_lt (by simp; omega), BitVec.toInt_eq_toNat_of_lt (by simp; omega)]
  simp [Nat.mod_eq_of_lt (show (i 2).val < 4294967296 by omega), Nat.mod_eq_of_lt (show (i 3).val < 4294967296 by omega)]

theorem zero8 : broadcastInDim S2x8x2048x2048 ![] bcast_S_S2x8x2048x2048 (constant (F := Ideal) S_ .f32 0x00000000#32) = (q4 (fun _ _ _ _ => 0) : A8) :=
  spread_q4 _ _ _ _ Ideal.ofBits_zero_f32

theorem inf8 (i : S2x8x2048x2048.Idx) : broadcastInDim S2x8x2048x2048 ![] bcast_S_S2x8x2048x2048 (constant (F := Ideal) S_ .f32 0x7F800000#32) i = ⊤ := ofBits_inf

/-- The softplus of one program call. -/
theorem soft0 (f : ℕ → ℕ → ℕ → ℕ → ℝ) (x0 x1 : A4) (h : val_main_call0_v0 (F := Ideal) x0 x1 = (q4 f : A8)) :
    val_main_call0_v1_0 (F := Ideal) x0 x1 = (q4 (fun b h t s => Real.log (1 + Real.exp (f b h t s))) : A8) := by
  unfold val_main_call0_v1_0 val_main_call0_call0_v4 val_main_call0_call0_v6 val_main_call0_call0_v11 val_main_call0_call0_v10 val_main_call0_call0_v9
    val_main_call0_call0_v8 val_main_call0_call0_v7 val_main_call0_call0_v5 val_main_call0_call0_v3 val_main_call0_call0_v2 val_main_call0_call0_v1
    val_main_call0_call0_v0 val_main_call0_call0_cst
  rw [h]
  exact softplus_up _ _ zero8

theorem sig0 (f : ℕ → ℕ → ℕ → ℕ → ℝ) (x0 x1 : A4) (h : val_main_call0_v0 (F := Ideal) x0 x1 = (q4 f : A8)) :
    val_main_v11_1 (F := Ideal) x0 x1 = (q4 (fun b h t s => Real.exp (f b h t s - Real.log (1 + Real.exp (f b h t s)))) : A8) := by
  unfold val_main_v11_1 val_main_call0_call0_v21 val_main_call0_call0_v20 val_main_call0_call0_v18 val_main_call0_call0_v16 val_main_call0_call0_v14
    val_main_call0_call0_v13 val_main_call0_call0_v17 val_main_call0_call0_cst_0 val_main_call0_call0_cst_2
  rw [soft0 f x0 x1 h, h]
  exact (congrArg Host.exp (congrArg₂ subf (guard_up _ _ _ inf8) (guard_up _ _ _ inf8))).trans (by rw [subf_up]; rfl)

theorem soft3 (f : ℕ → ℕ → ℕ → ℕ → ℝ) (x0 x1 : A4) (h : val_main_call3_v0 (F := Ideal) x0 x1 = (q4 f : A8)) :
    val_main_call3_v1_0 (F := Ideal) x0 x1 = (q4 (fun b h t s => Real.log (1 + Real.exp (f b h t s))) : A8) := by
  unfold val_main_call3_v1_0 val_main_call3_call0_v4 val_main_call3_call0_v6 val_main_call3_call0_v11 val_main_call3_call0_v10 val_main_call3_call0_v9
    val_main_call3_call0_v8 val_main_call3_call0_v7 val_main_call3_call0_v5 val_main_call3_call0_v3 val_main_call3_call0_v2 val_main_call3_call0_v1
    val_main_call3_call0_v0 val_main_call3_call0_cst
  rw [h]
  exact softplus_up _ _ zero8

theorem sig3 (f : ℕ → ℕ → ℕ → ℕ → ℝ) (x0 x1 : A4) (h : val_main_call3_v0 (F := Ideal) x0 x1 = (q4 f : A8)) :
    val_main_v15_1 (F := Ideal) x0 x1 = (q4 (fun b h t s => Real.exp (f b h t s - Real.log (1 + Real.exp (f b h t s)))) : A8) := by
  unfold val_main_v15_1 val_main_call3_call0_v21 val_main_call3_call0_v20 val_main_call3_call0_v18 val_main_call3_call0_v16 val_main_call3_call0_v14
    val_main_call3_call0_v13 val_main_call3_call0_v17 val_main_call3_call0_cst_0 val_main_call3_call0_cst_2
  rw [soft3 f x0 x1 h, h]
  exact (congrArg Host.exp (congrArg₂ subf (guard_up _ _ _ inf8) (guard_up _ _ _ inf8))).trans (by rw [subf_up]; rfl)

theorem arg0 : val_main_call0_v0 (F := Ideal) (q4 x : A4) (q4 y : A4) = (q4 (zz x y) : A8) := by
  unfold val_main_call0_v0 val_main_v10
  rw [v2, hostNegf_q4, hostNegf_q4]
  exact q4_congr fun _ _ _ _ _ _ _ _ => neg_neg _

theorem arg3 : val_main_call3_v0 (F := Ideal) (q4 x : A4) (q4 y : A4) = (q4 (fun b h t s => -zz x y b h t s) : A8) := by
  unfold val_main_call3_v0
  rw [v2, hostNegf_q4]

theorem v12 : val_main_v12_0 (F := Ideal) (q4 x : A4) (q4 y : A4) = (q4 (oo x y) : A8) := by
  unfold val_main_v12_0 val_main_v11_0 val_main_call1_v2 val_main_call1_v0 val_main_cst_0
  rw [soft0 _ _ _ (arg0 x y), hostNegf_q4]
  refine (congrArg (select _ _) zero8).trans ?_
  exact select_q4 _ _ _ mask

theorem v14 : val_main_v14 (F := Ideal) (q4 x : A4) (q4 y : A4)
    = (q4 (fun b h t s => (∑ n ∈ Finset.range 2048, if s + n < 2048 then oo x y b h t (s + n) else 0) - oo x y b h t s) : A8) := by
  unfold val_main_v14 val_main_v13 val_main_call2_v0 val_main_call2_cst
  rw [v12]
  refine (congrArg (fun X => subf X (q4 (oo x y) : A8)) (tail_q4 2047 (oo x y) _ (fun _ => Ideal.ofBits_zero_f32) _ _)).trans ?_
  exact subf_q4 _ _

theorem v17 : val_main_v17 (F := Ideal) (q4 x : A4) (q4 y : A4) = (q4 (fun b h t s => Real.exp (lw x y b h t s)) : A8) := by
  unfold val_main_v17 val_main_v16 val_main_v15_0
  rw [soft3 _ _ _ (arg3 x y), v14, hostNegf_q4, addf_q4]
  rfl

theorem v18 : val_main_v18_0 (F := Ideal) (q4 x : A4) (q4 y : A4) = (q4 (ww x y) : A8) := by
  unfold val_main_v18_0 val_main_call4_v2 val_main_call4_v0 val_main_cst_1
  rw [v17]
  refine (congrArg (select _ _) zero8).trans ?_
  exact select_q4 _ _ _ mask

theorem v23 (i : S2x8x64x2048.Idx) : val_main_v23 (F := Ideal) (g3 g) i = ((g (i 0).val (i 3).val (64 * (i 1).val + (i 2).val) : ℝ) : EReal) := by
  have h0 : (i 0).val < 2 := (i 0).isLt
  have h1 : (i 1).val < 8 := (i 1).isLt
  have h2 : (i 2).val < 64 := (i 2).isLt
  have h3 : (i 3).val < 2048 := (i 3).isLt
  rw [val_main_v23_apply, val_main_v22_apply]
  show ((g (((((i 0).val * 2048 + (i 3).val) * 8 + (i 1).val) * 64 + (i 2).val) / 1048576) (((((i 0).val * 2048 + (i 3).val) * 8 + (i 1).val) * 64 + (i 2).val) / 512 % 2048)
    (((((i 0).val * 2048 + (i 3).val) * 8 + (i 1).val) * 64 + (i 2).val) % 512) : ℝ) : EReal) = _
  rw [show ((((i 0).val * 2048 + (i 3).val) * 8 + (i 1).val) * 64 + (i 2).val) / 1048576 = (i 0).val by omega,
    show ((((i 0).val * 2048 + (i 3).val) * 8 + (i 1).val) * 64 + (i 2).val) / 512 % 2048 = (i 3).val by omega,
    show ((((i 0).val * 2048 + (i 3).val) * 8 + (i 1).val) * 64 + (i 2).val) % 512 = 64 * (i 1).val + (i 2).val by omega]

theorem v24 : val_main_v24 (F := Ideal) (q4 v : A4) (g3 g) = (q4 (gv v g) : A8) := by
  funext i
  rw [val_main_v24_apply, q4_apply, gv, ← Fin.sum_univ_eq_sum_range (fun d => g (i 0).val (i 2).val (64 * (i 1).val + d) * v (i 0).val (i 3).val (i 1).val d), coe_sum]
  refine Finset.sum_congr rfl fun d _ => ?_
  rw [v23, EReal.coe_mul]
  rfl

theorem v28 : val_main_v28 (F := Ideal) (q4 x : A4) (q4 y : A4) (q4 v : A4) (g3 g) = (q4 (ee x y v g) : A8) := by
  unfold val_main_v28 val_main_v27 val_main_call5_v0 val_main_call5_cst
  rw [v24, v17]
  refine (congrArg (fun X => mulf X _) ((congrArg (select _ _) zero8).trans (select_q4 _ _ _ mask))).trans ?_
  exact mulf_q4 _ _

theorem v38 : val_main_v38 (F := Ideal) (q4 x : A4) (q4 y : A4) (q4 v : A4) (g3 g) = (q4 (fun b h t s => dz x y v g b h t s * (1 / 8)) : A8) := by
  unfold val_main_v38 val_main_v37 val_main_cst_2 val_main_v36 val_main_v35 val_main_v34 val_main_call9_v1 val_main_call9_v0 val_main_v33 val_main_call8_v0
    val_main_call8_cst val_main_v32 val_main_v31 val_main_call7_v0 val_main_call7_cst val_main_v30 val_main_v29 val_main_call6_v1 val_main_call6_v0
  rw [sig0 _ _ _ (arg0 x y), sig3 _ _ _ (arg3 x y), v28, spread_q4 _ _ _ _ eighth, hostNegf_q4, mulf_q4, hostNegf_q4]
  have e : Host.reduceWindowAdd (F := Ideal) ![1, 1, 1, 2048] ![1, 1, 1, 1] ![0, 0, 0, 2047] ![0, 0, 0, 0] (q4 (ee x y v g) : A8)
      (broadcastInDim S_ ![] bcast_S_S_ (constant (F := Ideal) S_ .f32 0x00000000#32)) reduceWindows_S2x8x2048x2048_S2x8x2048x2048_w1s1p0_0_w1s1p0_0_w1s1p0_0_w2048s1p2047_0 h_S_
      = q4 fun b h t s => ∑ n ∈ Finset.range (s + 1), ee x y v g b h t n := upto_q4 2047 rfl _ _ (fun _ => Ideal.ofBits_zero_f32) _ _
  rw [e, addf_q4]
  have e2 : select (val_main_v12_1 (F := Ideal)) (q4 (fun b h t s => -ee x y v g b h t s + ∑ n ∈ Finset.range (s + 1), ee x y v g b h t n) : A8)
      (broadcastInDim S2x8x2048x2048 ![] bcast_S_S2x8x2048x2048 (constant (F := Ideal) S_ .f32 0x00000000#32))
      = q4 fun b h t s => if s < t then -ee x y v g b h t s + ∑ n ∈ Finset.range (s + 1), ee x y v g b h t n else 0 :=
    (congrArg (select _ _) zero8).trans (select_q4 _ _ _ mask)
  rw [e2, hostNegf_q4, mulf_q4, hostNegf_q4, hostNegf_q4, addf_q4, mulf_q4]
  rfl

/-! ## The results -/

theorem ee_eq (b h t s : ℕ) : ee x y v g b h t s = gv v g b h t s * ww x y b h t s := by
  unfold ee ww
  split <;> simp

theorem exp_oo (b h t s : ℕ) (hs : s < t) : Real.exp (oo x y b h t s) = 1 - Real.exp (zz x y b h t s - Real.log (1 + Real.exp (zz x y b h t s))) := by
  have p : (1 + Real.exp (zz x y b h t s)) ≠ 0 := by positivity
  rw [oo, if_pos hs, exp_sub_softplus, Real.exp_neg, Real.exp_log (by positivity)]
  field_simp
  ring

theorem exp_neg_zz (z : ℝ) : Real.exp (-z - Real.log (1 + Real.exp (-z))) = 1 - Real.exp (z - Real.log (1 + Real.exp z)) := by
  have p : (1 + Real.exp z) ≠ 0 := by positivity
  have q : Real.exp z ≠ 0 := (Real.exp_pos _).ne'
  rw [exp_sub_softplus, exp_sub_softplus, Real.exp_neg]
  field_simp
  ring

theorem gd_E (b h t s : ℕ) (hb : b < 2) (hh : h < 8) (ht : t < 2048) (hs : s < 2048) : (gd x y v g).E b h t s = ee x y v g b h t s := by
  rw [ee_eq, Cert.SbBwdIdeal.Val.Gd.E, gv]
  refine congrArg (fun X => X * ww x y b h t s) (Finset.sum_congr rfl fun d hd => ?_)
  have := Finset.mem_range.mp hd
  show g ((2048 * b + t) / 2048) ((2048 * b + t) % 2048) (64 * h + d) * v ((2048 * b + s) / 2048) ((2048 * b + s) % 2048) ((64 * h + d) / 64) ((64 * h + d) % 64) = _
  rw [show (2048 * b + t) / 2048 = b by omega, show (2048 * b + t) % 2048 = t by omega, show (2048 * b + s) / 2048 = b by omega,
    show (2048 * b + s) % 2048 = s by omega, show (64 * h + d) / 64 = h by omega, show (64 * h + d) % 64 = d by omega]

/-- The cotangent of the scores in the kernel's arrangement is the reference's. -/
theorem dz_eq (b h t s : ℕ) (hb : b < 2) (hh : h < 8) (ht : t < 2048) (hs : s < 2048) : (gd x y v g).Z b h t s = dz x y v g b h t s := by
  unfold Cert.SbBwdIdeal.Val.Gd.Z Cert.SbBwdIdeal.Val.Gd.D dz
  rw [gd_E x y v g b h t s hb hh ht hs, exp_neg_zz, Finset.sum_congr rfl fun k hk => gd_E x y v g b h t k hb hh ht ((Finset.mem_range.mp hk).trans hs)]
  by_cases hs : s < t
  · rw [if_pos hs, if_pos hs, Finset.sum_range_succ]
    rw [show (gd x y v g).O b h t s = oo x y b h t s from rfl, exp_oo x y b h t s hs]
    ring
  · rw [if_neg hs, if_neg hs, ee_eq, ww, if_neg hs]
    ring

/-- A product of two heads' arrays laid out by row and column. -/
theorem flat (f : ℕ → ℕ → ℕ → ℕ → ℝ) : shapeCast S4096x512 (q4 f : A4) shapeCasts_S2x2048x8x64_S4096x512
    = (nm (fun r c => f (r / 2048) (r % 2048) (c / 64) (c % 64)) : FVec Ideal S4096x512 .f32) := by
  funext i
  have h0 : (i 0).val < 4096 := (i 0).isLt
  have h1 : (i 1).val < 512 := (i 1).isLt
  refine (shapeCast_apply _ _ i (ValueIdx.ix4 (⟨(i 0).val / 2048, by omega⟩ : Fin 2) (⟨(i 0).val % 2048, by omega⟩ : Fin 2048)
    (⟨(i 1).val / 64, by omega⟩ : Fin 8) (⟨(i 1).val % 64, by omega⟩ : Fin 64)) ?_).trans rfl
  rw [Shape.rowMajor_val_four, Shape.rowMajor_val_two]
  show (((i 0).val / 2048 * 2048 + (i 0).val % 2048) * 8 + (i 1).val / 64) * 64 + (i 1).val % 64 = (i 0).val * 512 + (i 1).val
  omega

theorem v42 : val_main_v42 (F := Ideal) (q4 x : A4) (q4 y : A4) (q4 v : A4) (g3 g)
    = (q4 (fun b t h d => ∑ s ∈ Finset.range 2048, dz x y v g b h t s * (1 / 8) * y b s h d) : A4) := by
  funext i
  rw [val_main_v42_apply, val_main_v41_apply, v38, q4_apply,
    ← Fin.sum_univ_eq_sum_range (fun s => dz x y v g (i 0).val (i 2).val (i 1).val s * (1 / 8) * y (i 0).val s (i 2).val (i 3).val), coe_sum]
  exact Finset.sum_congr rfl fun s _ => (EReal.coe_mul _ _).symm

theorem v40 : val_main_v40 (F := Ideal) (q4 x : A4) (q4 y : A4) (q4 v : A4) (g3 g)
    = (q4 (fun b s h d => ∑ t ∈ Finset.range 2048, dz x y v g b h t s * (1 / 8) * x b t h d) : A4) := by
  funext i
  rw [val_main_v40_apply, val_main_v39_apply, v38, q4_apply,
    ← Fin.sum_univ_eq_sum_range (fun t => dz x y v g (i 0).val (i 2).val t (i 1).val * (1 / 8) * x (i 0).val t (i 2).val (i 3).val), coe_sum]
  exact Finset.sum_congr rfl fun s _ => (EReal.coe_mul _ _).symm

theorem v26 : val_main_v26 (F := Ideal) (q4 x : A4) (q4 y : A4) (g3 g)
    = (q4 (fun b s h d => ∑ t ∈ Finset.range 2048, g b t (64 * h + d) * ww x y b h t s) : A4) := by
  funext i
  rw [val_main_v26_apply, val_main_v25_apply, v18, q4_apply,
    ← Fin.sum_univ_eq_sum_range (fun t => g (i 0).val t (64 * (i 2).val + (i 3).val) * ww x y (i 0).val (i 2).val t (i 1).val), coe_sum]
  refine Finset.sum_congr rfl fun t _ => ?_
  rw [v23, EReal.coe_mul]
  rfl

/-- The queries' gradient. -/
theorem v43 : val_main_v43 (F := Ideal) (q4 x : A4) (q4 y : A4) (q4 v : A4) (g3 g) = (nm (gd x y v g).dq : FVec Ideal S4096x512 .f32) := by
  unfold val_main_v43
  rw [v42]
  refine (flat _).trans (nm_congr fun r hr c hc => ?_)
  rw [Cert.SbBwdIdeal.Val.Gd.dq, Finset.sum_mul]
  refine Finset.sum_congr rfl fun s hs => ?_
  have hs' := Finset.mem_range.mp hs
  rw [dz_eq x y v g _ _ _ _ (by omega) (by omega) (by omega) hs']
  show _ = _ * y ((2048 * (r / 2048) + s) / 2048) ((2048 * (r / 2048) + s) % 2048) (c / 64) (c % 64) * (1 / 8)
  rw [show (2048 * (r / 2048) + s) / 2048 = r / 2048 by omega, show (2048 * (r / 2048) + s) % 2048 = s by omega]
  ring

/-- The keys' gradient. -/
theorem v44 : val_main_v44 (F := Ideal) (q4 x : A4) (q4 y : A4) (q4 v : A4) (g3 g) = (nm (gd x y v g).dk : FVec Ideal S4096x512 .f32) := by
  unfold val_main_v44
  rw [v40]
  refine (flat _).trans (nm_congr fun s hs c hc => ?_)
  rw [Cert.SbBwdIdeal.Val.Gd.dk]
  refine Finset.sum_congr rfl fun t ht => ?_
  have ht' := Finset.mem_range.mp ht
  rw [dz_eq x y v g _ _ _ _ (by omega) (by omega) ht' (by omega)]
  show _ = _ * (x ((2048 * (s / 2048) + t) / 2048) ((2048 * (s / 2048) + t) % 2048) (c / 64) (c % 64) * (1 / 8))
  rw [show (2048 * (s / 2048) + t) / 2048 = s / 2048 by omega, show (2048 * (s / 2048) + t) % 2048 = t by omega]
  ring

/-- The values' gradient. -/
theorem v45 : val_main_v45 (F := Ideal) (q4 x : A4) (q4 y : A4) (g3 g) = (nm (gd x y v g).dv : FVec Ideal S4096x512 .f32) := by
  unfold val_main_v45
  rw [v26]
  refine (flat _).trans (nm_congr fun s hs c hc => ?_)
  rw [Cert.SbBwdIdeal.Val.Gd.dv]
  refine Finset.sum_congr rfl fun t ht => ?_
  have ht' := Finset.mem_range.mp ht
  show _ = ww x y (s / 2048) (c / 64) t (s % 2048) * g ((2048 * (s / 2048) + t) / 2048) ((2048 * (s / 2048) + t) % 2048) c
  rw [show (2048 * (s / 2048) + t) / 2048 = s / 2048 by omega, show (2048 * (s / 2048) + t) % 2048 = t by omega, show 64 * (c / 64) + c % 64 = c by omega]
  ring

end stages

end Cert.SbBwdRefIdeal.Ref

end
-- ==== Proof.SbBwd.Data.lean ====
/-
  What the call of the stick-breaking backward kernel is given, over real numbers: its argument arrays after the host operations,
  for argument arrays of reals.
-/
module

public import proofs.«01_k».proof.Proof.SbBwd.Host
public import proofs.«01_k».proof.Proof.SbBwd.Ref
public import Idealize.ShloMosaic.Lib.ValueIdxRank6

@[expose] public section

set_option maxRecDepth 16384

noncomputable section

namespace Cert.SbBwdIdeal.Host0

open Cert.SbBwdIdeal Cert.SbBwdIdeal.Gen Cert.Lift Cert.SbBwdIdeal.Val
open Cert.SbBwdRefIdeal.Ref (g3 gd oo ww)
open Idealize.ShloMosaic Idealize.ShloMosaic.TcCoe Idealize.SL.Sem

/-- Rank 7: the position in the order of the memory. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  rw [Shape.rowMajor_val_succ, Shape.rowMajor_val_six]
  simp [Shape.numel, Fin.prod_univ_succ, Nat.add_mul, Nat.mul_assoc, Nat.add_assoc]

/-- An index of rank seven by its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun a' => match a' with | ⟨0, _⟩ => a | ⟨1, _⟩ => b | ⟨2, _⟩ => c | ⟨3, _⟩ => d | ⟨4, _⟩ => e | ⟨5, _⟩ => f | ⟨6, _⟩ => g

/-- A tile's entry is the entry of the array at the tile's batch, the pair's head, the row and the key. -/
theorem tiles_apply (f : ℕ → ℕ → ℕ → ℕ → ℝ) (x : Fin 64) (p : Fin 4) (r j : Fin 512) :
    tiles (q4 f : FVec Ideal S2x8x2048x2048 .f32) (ValueIdx.ix4 x p r j)
      = ((pairOf (fun h r s => f (x.val / 32) h (512 * (x.val / 8 % 4) + r) s) p.val 0 (256 * (x.val % 8)) r.val j.val : ℝ) : EReal) := by
  have hx := x.isLt
  have hp := p.isLt
  have hr := r.isLt
  have hj := j.isLt
  show shapeCast S64x4x512x512 (transpose S2x4x8x4x512x2x256 [0, 3, 5, 1, 4, 2, 6] (shapeCast S2x4x2x4x512x8x256 (q4 f : FVec Ideal S2x8x2048x2048 .f32) _) _) _
    (ValueIdx.ix4 x p r j) = _
  rw [shapeCast_apply _ _ (ValueIdx.ix4 x p r j) (ix7 (⟨x.val / 32, by omega⟩ : Fin 2) (⟨x.val / 8 % 4, by omega⟩ : Fin 4) (⟨x.val % 8, by omega⟩ : Fin 8) p r
      (⟨j.val / 256, by omega⟩ : Fin 2) (⟨j.val % 256, by omega⟩ : Fin 256)) (by
      rw [rowMajor_val_seven, Shape.rowMajor_val_four]
      show (((((x.val / 32 * 4 + x.val / 8 % 4) * 8 + x.val % 8) * 4 + p.val) * 512 + r.val) * 2 + j.val / 256) * 256 + j.val % 256
        = ((x.val * 4 + p.val) * 512 + r.val) * 512 + j.val
      omega),
    transpose_apply [0, 3, 5, 1, 4, 2, 6] _ transposes_S2x4x2x4x512x8x256_S2x4x8x4x512x2x256_0_3_5_1_4_2_6 _
      (ix7 (⟨x.val / 32, by omega⟩ : Fin 2) p (⟨j.val / 256, by omega⟩ : Fin 2) (⟨x.val / 8 % 4, by omega⟩ : Fin 4) r (⟨x.val % 8, by omega⟩ : Fin 8)
        (⟨j.val % 256, by omega⟩ : Fin 256)) (fun b => match b with
        | ⟨0, _⟩ => rfl | ⟨1, _⟩ => rfl | ⟨2, _⟩ => rfl | ⟨3, _⟩ => rfl | ⟨4, _⟩ => rfl | ⟨5, _⟩ => rfl | ⟨6, _⟩ => rfl),
    shapeCast_apply _ _ _ (ValueIdx.ix4 (⟨x.val / 32, by omega⟩ : Fin 2) (⟨2 * p.val + j.val / 256, by omega⟩ : Fin 8)
      (⟨512 * (x.val / 8 % 4) + r.val, by omega⟩ : Fin 2048) (⟨256 * (x.val % 8) + j.val % 256, by omega⟩ : Fin 2048)) (by
      rw [rowMajor_val_seven, Shape.rowMajor_val_four]
      show ((x.val / 32 * 8 + (2 * p.val + j.val / 256)) * 2048 + (512 * (x.val / 8 % 4) + r.val)) * 2048 + (256 * (x.val % 8) + j.val % 256)
        = (((((x.val / 32 * 4 + p.val) * 2 + j.val / 256) * 4 + x.val / 8 % 4) * 512 + r.val) * 8 + x.val % 8) * 256 + j.val % 256
      omega), q4_apply]
  refine congrArg Real.toEReal ?_
  show f (x.val / 32) (2 * p.val + j.val / 256) (512 * (x.val / 8 % 4) + r.val) (256 * (x.val % 8) + j.val % 256) = _
  unfold pairOf two
  by_cases h : j.val < 256
  · rw [if_pos h, Nat.div_eq_of_lt h, Nat.mod_eq_of_lt h, Nat.add_zero]; beta_reduce; rw [Nat.zero_add]
  · rw [if_neg h, show j.val / 256 = 1 by omega, show j.val % 256 = j.val - 256 by omega]; beta_reduce; rw [Nat.zero_add]

variable (m : (ℓ : Loc nD τ sig) → Buf (Elt Ideal) ℓ) (c : Dev nD) (x y v : ℕ → ℕ → ℕ → ℕ → ℝ) (g : ℕ → ℕ → ℕ → ℝ)

/-- The triangular matrix of ones. -/
theorem ones : truncf .bf16 (select (cmpi .slt (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))
      (broadcastInDim S256x256 ![] bcast_S_S256x256 (constant (F := Ideal) S_ .f32 0x3F800000#32))
      (broadcastInDim S256x256 ![] bcast_S_S256x256 (constant (F := Ideal) S_ .f32 0x00000000#32))) bitsLt_bf16_f32
    = (nm upM : FVec Ideal S256x256 .bf16) := by
  refine nm_ext fun k j => ?_
  have hk := k.isLt
  have hj := j.isLt
  show Scalar.select (BitVec.ofBool (BitVec.slt (BitVec.ofNat 32 k.val) (BitVec.ofNat 32 j.val))) (Ideal.ofBits .f32 0x3F800000#32) (Ideal.ofBits .f32 0x00000000#32) = _
  rw [Cert.SbBwdIdeal.Val.small _ _ (by omega) (by omega), Ideal.ofBits_one_f32, Ideal.ofBits_zero_f32]
  unfold upM
  by_cases h : k.val < j.val
  · rw [if_pos h]; simp [h, Scalar.select]
  · rw [if_neg h]; simp [h, Scalar.select]

/-- The call's arguments from argument arrays of reals. -/
theorem real (h0 : m (c, main_arg0) = (q4 x : FVec Ideal S2x2048x8x64 .f32)) (h1 : m (c, main_arg1) = (q4 y : FVec Ideal S2x2048x8x64 .f32))
    (h2 : m (c, main_arg2) = (q4 v : FVec Ideal S2x2048x8x64 .f32)) (h3 : m (c, main_arg3) = g3 g) : Real m c (gd x y v g) := by
  obtain ⟨p40, p44, p30, p32, p34, p36, p7⟩ := prep m c
  rw [h0, h1] at p40 p44
  rw [h0] at p30
  rw [h1] at p32
  rw [h2] at p34
  rw [h3] at p36
  rw [Cert.SbBwdRefIdeal.Ref.v18] at p40
  rw [Cert.SbBwdRefIdeal.Ref.v12] at p44
  refine ⟨p30.trans ?_, p32.trans ?_, p34.trans ?_, p36.trans ?_, p7.trans ones, fun a p r j => (congrFun p40 _).trans (tiles_apply _ a p r j),
    fun a p r j => (congrFun p44 _).trans (tiles_apply _ a p r j), fun b h t s hts => if_neg (not_lt.mpr hts)⟩
  · rw [spread_q4 _ _ _ _ Cert.SbBwdRefIdeal.Ref.eighth, mulf_q4]
    exact Cert.SbBwdRefIdeal.Ref.flat (fun b t h d => x b t h d * (1 / 8))
  · exact Cert.SbBwdRefIdeal.Ref.flat _
  · exact Cert.SbBwdRefIdeal.Ref.flat _
  · refine nm_ext fun r j => ?_
    have hr := r.isLt
    have hj := j.isLt
    refine (shapeCast_apply (g3 g) _ (ValueIdx.ix2 r j) (ValueIdx.ix3 (⟨r.val / 2048, by omega⟩ : Fin 2) (⟨r.val % 2048, by omega⟩ : Fin 2048) j) ?_).trans rfl
    rw [Shape.rowMajor_val_three, Shape.rowMajor_val_two]
    show (r.val / 2048 * 2048 + r.val % 2048) * 512 + j.val = r.val * 512 + j.val
    omega

end Cert.SbBwdIdeal.Host0

end
-- ==== Proof.SbBwd.Claim.lean ====
/- The value claim of the stick-breaking backward call: the kernel's run and the reference's end in the same three arrays. -/
module

public import proofs.«01_k».proof.Defs
public import proofs.«01_k».proof.Proof.SbBwd.Finite
public import proofs.«01_k».proof.Proof.SbBwd.Data
public import proofs.«01_k».proof.Proof.SbBwd.Whole
public import proofs.«01_k».proof.Proof.SbBwd.Run
public import proofs.«01_k».proof.Proof.Gen.SbBwdRefIdeal.Run

@[expose] public section

set_option maxRecDepth 16384

noncomputable section

open Idealize.ShloMosaic Idealize.ShloMosaic.TcCoe Idealize.SL.Sem Cert.Lift

namespace Cert.SbBwdIdeal

open Cert.SbBwdIdeal.Gen Cert.SbBwdIdeal.Val Cert.SbBwdIdeal.Run Cert.SbBwdRefIdeal.Read

/-- A function of four arguments at equal arguments. -/
theorem cong4 {A B C D T : Type} (f : A → B → C → D → T) {a a' b b' c c' d d'} (h0 : a = a') (h1 : b = b') (h2 : c = c') (h3 : d = d') :
    f a b c d = f a' b' c' d' := by
  subst h0 h1 h2 h3
  rfl

/-- The kernel's run with the three result arrays named. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v45_0) = (dats m 0 c).arrAt 5 cfg0.N
      ∧ r.2.mem ((c.tc : Thread nD τ).loc main_v45_1) = (dats m 0 c).arrAt 6 cfg0.N
      ∧ r.2.mem ((c.tc : Thread nD τ).loc main_v45_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hh c => ⟨(hh.1 c).1 5, (hh.1 c).1 6, (hh.1 c).1 7,
      ((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c)⟩) (Run.run_main m ρ)

theorem value : algebraic_SbBwdIdeal_SbBwdRefIdeal_pre_sb_finite (hSbBwdIdeal := Gen.facts) (hSbBwdRefIdeal := Cert.SbBwdRefIdeal.Gen.facts)
    (hPre_sb_finite := Cert.Pre_sb_finite.Gen.facts) := by
  intro m g m' g' hpre hargs
  refine ⟨fun c => (dats m 0 c).arrAt 5 cfg0.N, fun c => (dats m 0 c).arrAt 6 cfg0.N, fun c => (dats m 0 c).arrAt 7 cfg0.N, run_results m g, ?_⟩
  refine (θ_run Cert.SbBwdRefIdeal.defs _ _).mono (fun r h c => ?_) (Cert.SbBwdRefIdeal.Value.run m' g')
  obtain ⟨⟨x, h0⟩, ⟨y, h1⟩, ⟨v, h2⟩, ⟨d, h3⟩⟩ := Cert.Pre_sb_finite.reals _ _ _ _ (hpre c)
  have H := Host0.real m c x y v d h0 h1 h2 h3
  obtain ⟨a0, a1, a2, a3⟩ := hargs c
  obtain ⟨r0, r1, r2, k⟩ := h c
  replace a0 := a0.trans h0
  replace a1 := a1.trans h1
  replace a2 := a2.trans h2
  replace a3 := a3.trans h3
  refine ⟨?_, ?_, ?_, k⟩
  · exact (r0.trans (val_main_v43_eq m' c)).trans ((cong4 (val_main_v43 (F := Ideal)) a0 a1 a2 a3).trans
      ((Cert.SbBwdRefIdeal.Ref.v43 x y v d).trans (final5 H).symm))
  · exact (r1.trans (val_main_v44_eq m' c)).trans ((cong4 (val_main_v44 (F := Ideal)) a0 a1 a2 a3).trans
      ((Cert.SbBwdRefIdeal.Ref.v44 x y v d).trans (final6 H).symm))
  · exact (r2.trans (val_main_v45_eq m' c)).trans ((cong4 (fun a b (_ : Unit) e => val_main_v45 (F := Ideal) a b e) a0 a1 (rfl : () = ()) a3).trans
      ((Cert.SbBwdRefIdeal.Ref.v45 x y v d).trans (final7 H).symm))

end Cert.SbBwdIdeal

end
-- ==== Proof.XGrad.Finite.lean ====
/- The precondition of `x_grad`: arguments that pass it are matrices of reals. -/
module

public import proofs.«01_k».proof.Proof.LiftHost
public import proofs.«01_k».proof.Proof.Gen.Pre_x_finite

@[expose] public section

set_option maxRecDepth 16384

noncomputable section

open Idealize.ShloMosaic Cert.Lift

namespace Cert.Pre_x_finite

instance : Subsingleton S_.Idx := ⟨fun a b => funext fun i => i.elim0⟩

open Cert.Pre_x_finite.Gen in
/-- The eleven arguments of a true precondition are matrices of reals. -/
theorem reals (x0 x1 : FVec Ideal S4096x1024 .f32) (x2 : FVec Ideal S4096x512 .f32) (x3 : FVec Ideal S4096x256 .f32)
    (x4 x5 x6 x7 x8 : FVec Ideal S4096x512 .f32) (x9 : FVec Ideal S1024x3328 .f32) (x10 : FVec Ideal S1x1024 .f32)
    (h : fn (F := Ideal) x0 x1 x2 x3 x4 x5 x6 x7 x8 x9 x10 = fun _ => 1#1) :
    ((∃ f, x0 = mf f) ∧ (∃ f, x1 = mf f)) ∧ ((∃ f, x2 = mf f) ∧ (∃ f, x3 = mf f) ∧ (∃ f, x4 = mf f) ∧ (∃ f, x5 = mf f) ∧ (∃ f, x6 = mf f)
      ∧ (∃ f, x7 = mf f) ∧ (∃ f, x8 = mf f)) ∧ (∃ f, x9 = mf f) ∧ (∃ f, x10 = mf f) := by
  unfold fn fn_part1 fn_part2 at h
  dsimp only at h
  obtain ⟨h, h10⟩ := andi_all h
  obtain ⟨h, h9⟩ := andi_all h
  obtain ⟨h, h8⟩ := andi_all h
  obtain ⟨h, h7⟩ := andi_all h
  obtain ⟨h, h6⟩ := andi_all h
  obtain ⟨h, h5⟩ := andi_all h
  obtain ⟨h, h4⟩ := andi_all h
  obtain ⟨h, h3⟩ := andi_all h
  obtain ⟨h, h2⟩ := andi_all h
  obtain ⟨h0, h1⟩ := andi_all h
  have j : S_.Idx := fun i => i.elim0
  exact ⟨⟨⟨_, mat_of_finite x0 _ (fun _ => ofBits_inf) _ _ _ j (congrFun h0 j)⟩, ⟨_, mat_of_finite x1 _ (fun _ => ofBits_inf) _ _ _ j (congrFun h1 j)⟩⟩,
    ⟨⟨_, mat_of_finite x2 _ (fun _ => ofBits_inf) _ _ _ j (congrFun h2 j)⟩, ⟨_, mat_of_finite x3 _ (fun _ => ofBits_inf) _ _ _ j (congrFun h3 j)⟩,
      ⟨_, mat_of_finite x4 _ (fun _ => ofBits_inf) _ _ _ j (congrFun h4 j)⟩, ⟨_, mat_of_finite x5 _ (fun _ => ofBits_inf) _ _ _ j (congrFun h5 j)⟩,
      ⟨_, mat_of_finite x6 _ (fun _ => ofBits_inf) _ _ _ j (congrFun h6 j)⟩, ⟨_, mat_of_finite x7 _ (fun _ => ofBits_inf) _ _ _ j (congrFun h7 j)⟩,
      ⟨_, mat_of_finite x8 _ (fun _ => ofBits_inf) _ _ _ j (congrFun h8 j)⟩⟩,
    ⟨_, mat_of_finite x9 _ (fun _ => ofBits_inf) _ _ _ j (congrFun h9 j)⟩, ⟨_, mat_of_finite x10 _ (fun _ => ofBits_inf) _ _ _ j (congrFun h10 j)⟩⟩

end Cert.Pre_x_finite

end
-- ==== Proof.XGrad.Pay.lean ====
/- What each value that the `x_grad` kernel stores is, over the reals, when the blocks it loads are matrices of reals.

   The seven pieces are the cotangents of the seven parts of the input projection's output; `dh` is the cotangent of the
   normalised stream. All are stated for any number `n` of rows, so that the same formulas speak of one block of 512
   rows and of the whole arrays. -/
module

public import proofs.«01_k».proof.Proof.Gen.XGradIdeal.Value
public import proofs.«01_k».proof.Proof.LiftNorm

@[expose] public section

set_option maxRecDepth 16384

noncomputable section

open Idealize.ShloMosaic Idealize.ShloMosaic.ValueIdx Idealize.ShloMosaic.TcCoe Cert.Lift
open scoped BigOperators

namespace Cert.XGradIdeal.Pay

open Cert.XGradIdeal Cert.XGradIdeal.Gen

/-- The seven pieces. -/
structure Pcs (n : ℕ) where
  p0 : Fin n → Fin 512 → ℝ
  p1 : Fin n → Fin 256 → ℝ
  p2 : Fin n → Fin 512 → ℝ
  p3 : Fin n → Fin 512 → ℝ
  p4 : Fin n → Fin 512 → ℝ
  p5 : Fin n → Fin 512 → ℝ
  p6 : Fin n → Fin 512 → ℝ

/-- Rows `o …` of the transposed projection. -/
def seg (o K : ℕ) (h : o + K ≤ 3328) (w : Fin 1024 → Fin 3328 → ℝ) (k : Fin K) (d : Fin 1024) : ℝ := w d ⟨o + k.val, by omega⟩

section spec
variable {n : ℕ}

/-- The first four pieces' part of the cotangent of the normalised stream. -/
def dh4 (p : Pcs n) (w : Fin 1024 → Fin 3328 → ℝ) (r : Fin n) (d : Fin 1024) : ℝ :=
  (((∑ k, p.p0 r k * seg 0 512 (by norm_num) w k d) + ∑ k, p.p1 r k * seg 512 256 (by norm_num) w k d)
    + ∑ k, p.p2 r k * seg 768 512 (by norm_num) w k d) + ∑ k, p.p3 r k * seg 1280 512 (by norm_num) w k d
/-- The cotangent of the normalised stream. -/
def dh (p : Pcs n) (w : Fin 1024 → Fin 3328 → ℝ) (r : Fin n) (d : Fin 1024) : ℝ :=
  ((dh4 p w r d + ∑ k, p.p4 r k * seg 1792 512 (by norm_num) w k d)
    + ∑ k, p.p5 r k * seg 2304 512 (by norm_num) w k d) + ∑ k, p.p6 r k * seg 2816 512 (by norm_num) w k d
/-- The normalised stream. -/
def nx (x : Fin n → Fin 1024 → ℝ) (r : Fin n) (d : Fin 1024) : ℝ := x r d * rs x r
/-- The cotangent before the gain. -/
def dn (h : Fin n → Fin 1024 → ℝ) (g : Fin 1 → Fin 1024 → ℝ) (r : Fin n) (d : Fin 1024) : ℝ := h r d * g 0 d
/-- The normalisation's cotangent before its factor. -/
def core (h x : Fin n → Fin 1024 → ℝ) (g : Fin 1 → Fin 1024 → ℝ) (r : Fin n) (d : Fin 1024) : ℝ :=
  dn h g r d - nx x r d * ((∑ e, dn h g r e * nx x r e) / 1024)
/-- The cotangent of the stream. -/
def gx (o h x : Fin n → Fin 1024 → ℝ) (g : Fin 1 → Fin 1024 → ℝ) (r : Fin n) (d : Fin 1024) : ℝ :=
  o r d + rs x r * core h x g r d
/-- The cotangent of the gain. -/
def dg (h x : Fin n → Fin 1024 → ℝ) (d : Fin 1024) : ℝ := ∑ r, h r d * nx x r d
end spec

variable (p : Pcs 512) (w : Fin 1024 → Fin 3328 → ℝ) (x o : Fin 512 → Fin 1024 → ℝ) (g acc : Fin 1 → Fin 1024 → ℝ)

theorem rowS (a : Fin 512 → Fin 1024 → ℝ) : shapeCast S512x1 (multiReduction .add [1] S512 (mat a : FVec Ideal S512x1024 .f32) 0x00000000#32
    reduces_S512x1024_S512 (.inl rfl) rfl) shapeCasts_S512_S512x1 = (mf fun r _ => ∑ d, a r d) := rowSum _ _ _ _ a
theorem colS (a : Fin 512 → Fin 1024 → ℝ) : shapeCast S1x1024 (multiReduction .add [0] S1024 (mat a : FVec Ideal S512x1024 .f32) 0x00000000#32
    reduces_S512x1024_S1024 (.inl rfl) rfl) shapeCasts_S1024_S1x1024 = (mf fun _ d => ∑ r, a r d) := colSum _ _ _ _ a

theorem pay3 : k0_pay3 (F := Ideal) = mf (fun _ _ => 0) := broadcast_zero

theorem pay4 : k0_pay4 (F := Ideal) (mb p.p0) (mb (seg 0 512 (by norm_num) w)) (mb p.p1) (mb (seg 512 256 (by norm_num) w)) (mb p.p2)
    (mb (seg 768 512 (by norm_num) w)) (mf p.p3) (mb (seg 1280 512 (by norm_num) w)) = mf (dh4 p w) := by
  unfold k0_pay4
  simp only [shapeCast_self, truncf_mat, broadcast_zero, constant_zero, matmul_nn dot_S512x512_S512x1024_S512x1024_1_0_0_1_n_n _ rfl,
    matmul_nn dot_S512x256_S256x1024_S512x1024_1_0_0_1_n_n _ rfl, addf_mat, zero_add]
  rfl

theorem pay5 (a : Fin 512 → Fin 512 → ℝ) : k0_pay5 (F := Ideal) (mf a) = mb a := rfl

theorem pay6 : k0_pay6 (F := Ideal) (mf (dh4 p w)) (mb p.p4) (mb (seg 1792 512 (by norm_num) w)) (mf p.p5) (mb (seg 2304 512 (by norm_num) w))
    (mb p.p6) (mb (seg 2816 512 (by norm_num) w)) = mf (dh p w) := by
  unfold k0_pay6
  simp only [shapeCast_self, truncf_mat, constant_zero, matmul_nn dot_S512x512_S512x1024_S512x1024_1_0_0_1_n_n _ rfl, addf_mat, zero_add]
  rfl

theorem pay7 : k0_pay7 (F := Ideal) (mf x) = mf (fun r _ => rs x r) := by
  unfold k0_pay7
  simp only [mulf_mat]
  rw [rowS]
  simp only [broadcast_mat _ _ word_1024, broadcast_mat _ _ ofBits_eps, divf_mat _ (fun _ _ => (1024 : ℝ)) (fun _ _ => by norm_num), addf_mat]
  exact rsqrt_mat _ fun r _ => ms_pos x r

theorem pay8 : k0_pay8 (F := Ideal) (mf x) = mf (nx x) := by
  unfold k0_pay8
  simp only [pay7, spreadCol (m := 512) (n := 1024) (by norm_num), mulf_mat]
  rfl

theorem pay9 : k0_pay9 (F := Ideal) (mf (dh4 p w)) (mb p.p4) (mb (seg 1792 512 (by norm_num) w)) (mf p.p5) (mb (seg 2304 512 (by norm_num) w))
    (mb p.p6) (mb (seg 2816 512 (by norm_num) w)) (mf x) (mf g) = mf (core (dh p w) x g) := by
  unfold k0_pay9
  simp only [pay6, pay8, spreadRow (m := 512) (n := 1024) (by norm_num), spreadCol (m := 512) (n := 1024) (by norm_num), mulf_mat]
  rw [rowS]
  simp only [spreadCol (m := 512) (n := 1024) (by norm_num), mulf_mat, broadcast_mat _ _ word_1024,
    divf_mat _ (fun _ _ => (1024 : ℝ)) (fun _ _ => by norm_num), subf_mat]
  rfl

theorem pay1 (h : Fin 512 → Fin 1024 → ℝ) : k0_pay1 (F := Ideal) (mf fun r _ => rs x r) (mf o) (mf (core h x g)) = mf (gx o h x g) := by
  unfold k0_pay1
  simp only [spreadCol (m := 512) (n := 1024) (by norm_num), mulf_mat, addf_mat]
  rfl

theorem pay2 (h : Fin 512 → Fin 1024 → ℝ) : k0_pay2 (F := Ideal) (mf h) (mf (nx x)) (mf acc) = mf (fun r d => acc r d + dg h x d) := by
  unfold k0_pay2
  simp only [shapeCast_self, mulf_mat]
  rw [colS]
  simp only [addf_mat]
  rfl

end Cert.XGradIdeal.Pay

end
-- ==== Proof.XGrad.Ref.lean ====
/- The `x_grad` reference's two results over the reals, at arguments that are matrices of reals: the same formulas the
   kernel's run ends in.

   The reference joins the seven pieces and takes one product; it differentiates the normalisation by the rules of its
   operations one by one, so the factor's derivative appears as −½ of the factor over the mean square. -/
module

public import proofs.«01_k».proof.Proof.LiftHost
public import proofs.«01_k».proof.Proof.XGrad.Pay
public import proofs.«01_k».proof.Proof.Gen.XGradRefIdeal.Read

@[expose] public section

set_option maxRecDepth 16384

noncomputable section

open Idealize.ShloMosaic Idealize.ShloMosaic.ValueIdx Cert.Lift
open scoped BigOperators

namespace Cert.XGradRefIdeal.Ref

open Cert.XGradRefIdeal Cert.XGradRefIdeal.Gen Cert.XGradRefIdeal.Read
open Cert.XGradIdeal.Pay (Pcs seg dh4 dh nx dn core gx dg)

theorem word_mhalf : Ideal.ofBits .f32 0xBF000000#32 = ((-(1 / 2) : ℝ) : EReal) := by
  simp [Ideal.ofBits, Ideal.ieee, -EReal.coe_mul]; norm_num

/-- A sum cut in two. -/
theorem sum_cut {M : Type} [AddCommMonoid M] {a b c : ℕ} (h : a + b = c) (f : Fin c → M) :
    ∑ k, f k = (∑ k : Fin a, f ⟨k.val, by omega⟩) + ∑ k : Fin b, f ⟨a + k.val, by omega⟩ := by
  subst h
  exact Fin.sum_univ_add f

variable (X O : Fin 4096 → Fin 1024 → ℝ) (P : Pcs 4096) (W : Fin 1024 → Fin 3328 → ℝ) (G : Fin 1 → Fin 1024 → ℝ)

/-- The pieces in the order they are joined. -/
def pieces : List ((s : Shape) × (s.Idx → EReal)) :=
  [⟨S4096x512, (mf P.p0 : FVec Ideal _ .f32)⟩, ⟨S4096x256, (mf P.p1 : FVec Ideal _ .f32)⟩, ⟨S4096x512, (mf P.p2 : FVec Ideal _ .f32)⟩,
    ⟨S4096x512, (mf P.p3 : FVec Ideal _ .f32)⟩, ⟨S4096x512, (mf P.p4 : FVec Ideal _ .f32)⟩, ⟨S4096x512, (mf P.p5 : FVec Ideal _ .f32)⟩,
    ⟨S4096x512, (mf P.p6 : FVec Ideal _ .f32)⟩]

/-- The joined pieces at a column of piece `k`, which starts at column `o`. -/
theorem piece (k o K : ℕ) (hk : k < (pieces P).length) (x : Fin 4096 → Fin K → ℝ) (hx : (pieces P)[k] = ⟨⟨2, ![4096, K]⟩, (mf x : FVec Ideal _ .f32)⟩)
    (ho : ((((pieces P).take k).map (·.1)).map fun s => if h : s.rank = S4096x3328.rank then s.size ((1 : Fin 2).cast h.symm) else 0).sum = o)
    (r : Fin 4096) (i : Fin K) (j : S4096x3328.Idx) (h0 : r.val = (j 0).val) (h1 : o + i.val = (j 1).val) :
    val_main_v18 (F := Ideal) (mf P.p0) (mf P.p1) (mf P.p2) (mf P.p3) (mf P.p4) (mf P.p5) (mf P.p6) j = ((x r i : ℝ) : EReal) := by
  refine concatenate_apply_piece (t := S4096x3328) (1 : Fin 2) (pieces P) _ j k hk _ _ hx rfl o ho (ix2 r i) (fun b hb => ?_) h1
  match b, hb with
  | ⟨0, _⟩, _ => exact h0
  | ⟨1, _⟩, hb => exact absurd rfl hb

/-- The product of the joined pieces is the sum of the pieces' products. -/
theorem v19 : val_main_v19 (F := Ideal) (mf P.p0) (mf P.p1) (mf P.p2) (mf P.p3) (mf P.p4) (mf P.p5) (mf P.p6) (mf W) = mf (dh P W) := by
  refine mat_ext fun r d => ?_
  rw [val_main_v19_apply]
  rw [sum_cut (show 2816 + 512 = 3328 from rfl), sum_cut (show 2304 + 512 = 2816 from rfl), sum_cut (show 1792 + 512 = 2304 from rfl),
    sum_cut (show 1280 + 512 = 1792 from rfl), sum_cut (show 768 + 512 = 1280 from rfl), sum_cut (show 512 + 256 = 768 from rfl)]
  unfold dh dh4 seg
  simp only [EReal.coe_add, coe_sum, EReal.coe_mul]
  refine congrArg₂ (· + ·) (congrArg₂ (· + ·) (congrArg₂ (· + ·) (congrArg₂ (· + ·) (congrArg₂ (· + ·) (congrArg₂ (· + ·) ?_ ?_) ?_) ?_) ?_) ?_) ?_
  · exact Finset.sum_congr rfl fun k _ => congrArg₂ (· * ·) (piece P 0 0 512 (by show 0 < 7; omega) P.p0 rfl rfl r k _ rfl (Nat.zero_add _))
      (congrArg (mf W) (congrArg (ix2 d) (Fin.ext (Nat.zero_add _).symm)))
  · exact Finset.sum_congr rfl fun k _ => congrArg₂ (· * ·) (piece P 1 512 256 (by show 1 < 7; omega) P.p1 rfl rfl r k _ rfl rfl) rfl
  · exact Finset.sum_congr rfl fun k _ => congrArg₂ (· * ·) (piece P 2 768 512 (by show 2 < 7; omega) P.p2 rfl rfl r k _ rfl rfl) rfl
  · exact Finset.sum_congr rfl fun k _ => congrArg₂ (· * ·) (piece P 3 1280 512 (by show 3 < 7; omega) P.p3 rfl rfl r k _ rfl rfl) rfl
  · exact Finset.sum_congr rfl fun k _ => congrArg₂ (· * ·) (piece P 4 1792 512 (by show 4 < 7; omega) P.p4 rfl rfl r k _ rfl rfl) rfl
  · exact Finset.sum_congr rfl fun k _ => congrArg₂ (· * ·) (piece P 5 2304 512 (by show 5 < 7; omega) P.p5 rfl rfl r k _ rfl rfl) rfl
  · exact Finset.sum_congr rfl fun k _ => congrArg₂ (· * ·) (piece P 6 2816 512 (by show 6 < 7; omega) P.p6 rfl rfl r k _ rfl rfl) rfl

/-- The sums of the rows' squares. -/
theorem v3 : val_main_v3 (F := Ideal) (mf X) = mf fun r _ => ∑ d, X r d * X r d := by
  refine mat_ext fun r c => ?_
  rw [val_main_v3_apply, val_main_v2_apply, val_main_v1, mulf_mat, val_main_cst_apply]
  rw [show FloatOps.ofBits (F := Ideal) .f32 0x00000000#32 = 0 from Ideal.ofBits_zero_f32, zero_add, coe_sum]
  rfl

theorem v7 : val_main_v7 (F := Ideal) (mf X) = mf fun r _ => ms X r := by
  unfold val_main_v7 val_main_v5 val_main_v4 val_main_cst_0 val_main_v6 val_main_cst_1
  simp only [v3, spread_mat _ _ _ _ word_1024, spread_mat _ _ _ _ ofBits_eps, hostDivf_mat _ (fun _ _ => (1024 : ℝ)) (fun _ _ => by norm_num), addf_mat]
  rfl

theorem v8 : val_main_v8 (F := Ideal) (mf X) = mf fun r _ => rs X r := by
  unfold val_main_v8
  rw [v7]
  exact hostRsqrt_mat _ fun r _ => ms_pos X r

/-- The factor's derivative. -/
theorem v11 : val_main_v11 (F := Ideal) (mf X) = mf fun r _ => -(1 / 2) * (rs X r * rs X r * rs X r) := by
  unfold val_main_v11 val_main_v10 val_main_cst_2 val_main_v9
  simp only [v7, v8, spread_mat _ _ _ _ word_mhalf, hostDivf_mat _ (fun r _ => ms X r) (fun r _ => (ms_pos X r).ne'), mulf_mat, rs_cube]

theorem v12 : val_main_v12 (F := Ideal) (mf X) = mf fun r _ => rs X r :=
  mat_ext fun r c => by rw [val_main_v12_apply, v8]; rfl
theorem v29 : val_main_v29 (F := Ideal) (mf X) = mf fun r _ => rs X r := v12 X

theorem v13 : val_main_v13 (F := Ideal) (mf X) = mf (nx X) := by
  unfold val_main_v13
  rw [v12, mulf_mat]
  rfl

theorem v23 : val_main_v23 (F := Ideal) (mf G) = mf fun (_ : Fin 4096) d => G 0 d :=
  mat_ext fun r c => by
    rw [val_main_v23_apply, val_main_v14_apply, val_main_v0_apply]
    refine congrArg Real.toEReal (congrArg (G 0) (Fin.ext ?_))
    show c.val % 1024 = c.val
    omega

theorem v24 : val_main_v24 (F := Ideal) (mf P.p0) (mf P.p1) (mf P.p2) (mf P.p3) (mf P.p4) (mf P.p5) (mf P.p6) (mf W) (mf G) = mf (dn (dh P W) G) := by
  unfold val_main_v24
  rw [v19, v23, mulf_mat]
  rfl

theorem v28 : val_main_v28 (F := Ideal) (mf X) (mf P.p0) (mf P.p1) (mf P.p2) (mf P.p3) (mf P.p4) (mf P.p5) (mf P.p6) (mf W) (mf G)
    = mf fun r _ => ∑ d, X r d * dn (dh P W) G r d := by
  refine mat_ext fun r c => ?_
  rw [val_main_v28_apply, val_main_v27_apply, val_main_v26, v24, mulf_mat, val_main_cst_5_apply]
  rw [show FloatOps.ofBits (F := Ideal) .f32 0x00000000#32 = 0 from Ideal.ofBits_zero_f32, zero_add, coe_sum]
  refine Finset.sum_congr rfl fun k _ => ?_
  have e : idx_main_v27 (idx_main_v28 (ix2 r c)) k = ix2 r k := by
    funext a; apply Fin.ext
    match a with
    | ⟨0, _⟩ => show r.val * 1 + c.val = r.val; omega
    | ⟨1, _⟩ => rfl
  rw [e]
  rfl

theorem v33 : val_main_v33 (F := Ideal) (mf X) (mf P.p0) (mf P.p1) (mf P.p2) (mf P.p3) (mf P.p4) (mf P.p5) (mf P.p6) (mf W) (mf G)
    = mf fun r _ => (∑ d, X r d * dn (dh P W) G r d) * (-(1 / 2) * (rs X r * rs X r * rs X r)) / 1024 := by
  unfold val_main_v33 val_main_v31 val_main_v32 val_main_cst_6
  simp only [v28, v11, mulf_mat, spread_mat _ _ _ _ word_1024, hostDivf_mat _ (fun _ _ => (1024 : ℝ)) (fun _ _ => by norm_num)]

theorem v35 : val_main_v35 (F := Ideal) (mf X) (mf P.p0) (mf P.p1) (mf P.p2) (mf P.p3) (mf P.p4) (mf P.p5) (mf P.p6) (mf W) (mf G)
    = mf fun r _ => (∑ d, X r d * dn (dh P W) G r d) * (-(1 / 2) * (rs X r * rs X r * rs X r)) / 1024 := by
  refine mat_ext fun r c => ?_
  rw [val_main_v35_apply, val_main_v34_apply, v33, val_main_cst_7_apply]
  rw [show FloatOps.ofBits (F := Ideal) .f32 0x00000000#32 = 0 from Ideal.ofBits_zero_f32, zero_add, Fin.sum_univ_one]
  rfl

/-- The stream's cotangent. -/
theorem v41 : val_main_v41 (F := Ideal) (mf X) (mf O) (mf P.p0) (mf P.p1) (mf P.p2) (mf P.p3) (mf P.p4) (mf P.p5) (mf P.p6) (mf W) (mf G)
    = mf (gx O (dh P W) X G) := by
  unfold val_main_v41 val_main_v39 val_main_v38 val_main_v37 val_main_v36 val_main_v30
  simp only [v24, v29, v35, mulf_mat, addf_mat]
  refine congrArg mf (funext fun r => funext fun d => ?_)
  have e : ∑ e, dn (dh P W) G r e * nx X r e = (∑ e, X r e * dn (dh P W) G r e) * rs X r := by
    rw [Finset.sum_mul]
    exact Finset.sum_congr rfl fun k _ => by unfold nx; ring
  unfold gx core
  rw [e]
  unfold nx
  ring

/-- The gain's cotangent. -/
theorem v40 : val_main_v40 (F := Ideal) (mf X) (mf P.p0) (mf P.p1) (mf P.p2) (mf P.p3) (mf P.p4) (mf P.p5) (mf P.p6) (mf W)
    = mf fun _ d => dg (dh P W) X d := by
  refine mat_ext fun r c => ?_
  rw [val_main_v40_apply, val_main_v25_apply, val_main_cst_4_apply]
  rw [show FloatOps.ofBits (F := Ideal) .f32 0x00000000#32 = 0 from Ideal.ofBits_zero_f32, zero_add, Fin.sum_univ_one,
    val_main_v22_apply, val_main_v21_apply, val_main_v20, v13, v19, mulf_mat, val_main_cst_3_apply]
  rw [show FloatOps.ofBits (F := Ideal) .f32 0x00000000#32 = 0 from Ideal.ofBits_zero_f32, zero_add]
  unfold dg
  rw [coe_sum]
  refine Finset.sum_congr rfl fun k _ => ?_
  have e : idx_main_v21 (idx_main_v22 (idx_main_v25 (idx_main_v40 (ix2 r c)) 0)) k = ix2 k c := by
    funext a; apply Fin.ext
    match a with
    | ⟨0, _⟩ => rfl
    | ⟨1, _⟩ => show 0 * 1024 + c.val = c.val; omega
  rw [e, mul_comm]
  rfl

end Cert.XGradRefIdeal.Ref

end
-- ==== Proof.XGrad.Body.lean ====
/- What one grid point of the `x_grad` kernel leaves in its two output blocks, over the reals.

   Point `t` works on rows `512 t … 512 t + 511`. Its block of the stream's cotangent is those rows' values; the gain's
   block is kept from point to point, and each point adds its own rows' part to it, the first one after storing zeros. -/
module

public import proofs.«01_k».proof.Proof.XGrad.Pay
public import Idealize.ShloMosaic.Lib.Pipeline.ReadBack
public import Idealize.ShloMosaic.Lib.Pipeline.ValueKit.Tiles
public import Idealize.ShloMosaic.Lib.StableHlo.RunRead

@[expose] public section

set_option maxRecDepth 16384

noncomputable section

open Idealize.ShloMosaic Idealize.ShloMosaic.TcCoe Idealize.SL.Sem Cert.Lift

namespace Cert.XGradIdeal.Body

open Cert.XGradIdeal Cert.XGradIdeal.Gen Cert.XGradIdeal.Pay

theorem hz : (![0, 0] : Fin 2 → Nat) = fun _ => 0 := funext fun a => by fin_cases a <;> rfl

/-- The rows of the transposed projection that a piece meets. -/
theorem ld_seg (w : Fin 1024 → Fin 3328 → ℝ) (o K : ℕ) (h : o + K ≤ 3328) (inb) :
    View.ld (Val := Elt Ideal) (e' := .bf16) (mb fun k d => w d k) (Rect.unit (s := S3328x1024) ![o, 0] ![K, 1024] inb) = mb (seg o K h w) :=
  mat_ext fun r d => View.ld_unit_apply_of _ _ _ _ _ (ValueIdx.ix2 (⟨o + r.val, by omega⟩ : Fin 3328) d) fun a => by
    match a with
    | ⟨0, _⟩ => rfl
    | ⟨1, _⟩ => exact (Nat.zero_add _).symm

/-- Row `r` of point `t`'s block. -/
def row (t : Fin cfg0.N) (r : Fin 512) : Fin 4096 := ⟨512 * t.val + r.val, by have : t.val < 8 := t.isLt; omega⟩

/-- The rows of point `t`'s block. -/
def rows {n : ℕ} (t : Fin cfg0.N) (A : Fin 4096 → Fin n → ℝ) (r : Fin 512) (e : Fin n) : ℝ := A (row t r) e

/-- The pieces' rows. -/
def Pcs.rows (t : Fin cfg0.N) (p : Pcs 4096) : Pcs 512 :=
  ⟨Body.rows t p.p0, Body.rows t p.p1, Body.rows t p.p2, Body.rows t p.p3, Body.rows t p.p4, Body.rows t p.p5, Body.rows t p.p6⟩

theorem at_rows {n : ℕ} (A : Fin 4096 → Fin n → ℝ) (t : Fin cfg0.N) {i : (⟨2, ![4096, n]⟩ : Shape).Idx} {r : Fin 512} {e : Fin n} {φ : FTy}
    (h0 : (i 0).val = 512 * t.val + r.val) (h1 : (i 1).val = e.val) : (mat A : FVec Ideal _ φ) i = ((rows t A r e : ℝ) : EReal) :=
  congrArg Real.toEReal (congrArg₂ A (Fin.ext h0) (Fin.ext h1))

variable (m : (ℓ : Loc nD τ sig) → Buf (Elt Ideal) ℓ) (c : Dev nD)

/-- The arguments are matrices of reals. -/
structure Real (X O : Fin 4096 → Fin 1024 → ℝ) (P : Pcs 4096) (W : Fin 1024 → Fin 3328 → ℝ) (G : Fin 1 → Fin 1024 → ℝ) : Prop where
  h0 : m ((c : Thread nD τ).loc main_arg0) = mf X
  h1 : m ((c : Thread nD τ).loc main_arg1) = mf O
  h2 : m ((c : Thread nD τ).loc main_arg2) = mf P.p0
  h3 : m ((c : Thread nD τ).loc main_arg3) = mf P.p1
  h4 : m ((c : Thread nD τ).loc main_arg4) = mf P.p2
  h5 : m ((c : Thread nD τ).loc main_arg5) = mf P.p3
  h6 : m ((c : Thread nD τ).loc main_arg6) = mf P.p4
  h7 : m ((c : Thread nD τ).loc main_arg7) = mf P.p5
  h8 : m ((c : Thread nD τ).loc main_arg8) = mf P.p6
  h9 : m ((c : Thread nD τ).loc main_arg9) = mf W
  h10 : m ((c : Thread nD τ).loc main_arg10) = mf G

/-- Which block each input window shows at a point: the point's own rows, or the whole array. -/
theorem idx : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) := (by decide +kernel : ∀ t : Fin grid0.N, _)

variable {m c} {X O : Fin 4096 → Fin 1024 → ℝ} {P : Pcs 4096} {W : Fin 1024 → Fin 3328 → ℝ} {G : Fin 1 → Fin 1024 → ℝ}
  (H : Real m c X O P W G) (t : Fin cfg0.N)

include H

theorem iblk0 : iblk m c 0 t = mf (rows t X) := by
  obtain ⟨⟨a0, a1⟩, -⟩ := idx t
  have hV : V m c main_arg0 = mf X := (V_main_arg0 m c).trans H.h0
  refine mat_ext fun r e => ?_
  show V m c main_arg0 (((cfg0.win 0).blk t).view.emb (ValueIdx.ix2 r e)) = _
  rw [hV]
  exact at_rows X t (by show win0_0.index t (0 : Fin 2) * 512 + 1 * r.val = _; omega) (by show win0_0.index t (1 : Fin 2) * 1024 + 1 * e.val = _; omega)

theorem iblk1 : iblk m c 1 t = mf (rows t O) := by
  obtain ⟨-, ⟨a0, a1⟩, -⟩ := idx t
  have hV : V m c main_arg1 = mf O := (V_main_arg1 m c).trans H.h1
  refine mat_ext fun r e => ?_
  show V m c main_arg1 (((cfg0.win 1).blk t).view.emb (ValueIdx.ix2 r e)) = _
  rw [hV]
  exact at_rows O t (by show win0_1.index t (0 : Fin 2) * 512 + 1 * r.val = _; omega) (by show win0_1.index t (1 : Fin 2) * 1024 + 1 * e.val = _; omega)

theorem iblk2 : iblk m c 2 t = mb (rows t P.p0) := by
  obtain ⟨-, -, ⟨a0, a1⟩, -⟩ := idx t
  have hV : V m c main_v0 = mb P.p0 := H.h2
  refine mat_ext fun r e => ?_
  show V m c main_v0 (((cfg0.win 2).blk t).view.emb (ValueIdx.ix2 r e)) = _
  rw [hV]
  exact at_rows P.p0 t (by show win0_2.index t (0 : Fin 2) * 512 + 1 * r.val = _; omega) (by show win0_2.index t (1 : Fin 2) * 512 + 1 * e.val = _; omega)

theorem iblk3 : iblk m c 3 t = mb (rows t P.p1) := by
  obtain ⟨-, -, -, ⟨a0, a1⟩, -⟩ := idx t
  have hV : V m c main_v1 = mb P.p1 := H.h3
  refine mat_ext fun r e => ?_
  show V m c main_v1 (((cfg0.win 3).blk t).view.emb (ValueIdx.ix2 r e)) = _
  rw [hV]
  exact at_rows P.p1 t (by show win0_3.index t (0 : Fin 2) * 512 + 1 * r.val = _; omega) (by show win0_3.index t (1 : Fin 2) * 256 + 1 * e.val = _; omega)

theorem iblk4 : iblk m c 4 t = mb (rows t P.p2) := by
  obtain ⟨-, -, -, -, ⟨a0, a1⟩, -⟩ := idx t
  have hV : V m c main_v2 = mb P.p2 := H.h4
  refine mat_ext fun r e => ?_
  show V m c main_v2 (((cfg0.win 4).blk t).view.emb (ValueIdx.ix2 r e)) = _
  rw [hV]
  exact at_rows P.p2 t (by show win0_4.index t (0 : Fin 2) * 512 + 1 * r.val = _; omega) (by show win0_4.index t (1 : Fin 2) * 512 + 1 * e.val = _; omega)

theorem iblk5 : iblk m c 5 t = mf (rows t P.p3) := by
  obtain ⟨-, -, -, -, -, ⟨a0, a1⟩, -⟩ := idx t
  have hV : V m c main_arg5 = mf P.p3 := (V_main_arg5 m c).trans H.h5
  refine mat_ext fun r e => ?_
  show V m c main_arg5 (((cfg0.win 5).blk t).view.emb (ValueIdx.ix2 r e)) = _
  rw [hV]
  exact at_rows P.p3 t (by show win0_5.index t (0 : Fin 2) * 512 + 1 * r.val = _; omega) (by show win0_5.index t (1 : Fin 2) * 512 + 1 * e.val = _; omega)

theorem iblk6 : iblk m c 6 t = mf (rows t P.p4) := by
  obtain ⟨-, -, -, -, -, -, ⟨a0, a1⟩, -⟩ := idx t
  have hV : V m c main_arg6 = mf P.p4 := (V_main_arg6 m c).trans H.h6
  refine mat_ext fun r e => ?_
  show V m c main_arg6 (((cfg0.win 6).blk t).view.emb (ValueIdx.ix2 r e)) = _
  rw [hV]
  exact at_rows P.p4 t (by show win0_6.index t (0 : Fin 2) * 512 + 1 * r.val = _; omega) (by show win0_6.index t (1 : Fin 2) * 512 + 1 * e.val = _; omega)

theorem iblk7 : iblk m c 7 t = mf (rows t P.p5) := by
  obtain ⟨-, -, -, -, -, -, -, ⟨a0, a1⟩, -⟩ := idx t
  have hV : V m c main_arg7 = mf P.p5 := (V_main_arg7 m c).trans H.h7
  refine mat_ext fun r e => ?_
  show V m c main_arg7 (((cfg0.win 7).blk t).view.emb (ValueIdx.ix2 r e)) = _
  rw [hV]
  exact at_rows P.p5 t (by show win0_7.index t (0 : Fin 2) * 512 + 1 * r.val = _; omega) (by show win0_7.index t (1 : Fin 2) * 512 + 1 * e.val = _; omega)

theorem iblk8 : iblk m c 8 t = mb (rows t P.p6) := by
  obtain ⟨-, -, -, -, -, -, -, -, ⟨a0, a1⟩, -⟩ := idx t
  have hV : V m c main_v3 = mb P.p6 := H.h8
  refine mat_ext fun r e => ?_
  show V m c main_v3 (((cfg0.win 8).blk t).view.emb (ValueIdx.ix2 r e)) = _
  rw [hV]
  exact at_rows P.p6 t (by show win0_8.index t (0 : Fin 2) * 512 + 1 * r.val = _; omega) (by show win0_8.index t (1 : Fin 2) * 512 + 1 * e.val = _; omega)

/-- The projection, transposed by the host. -/
theorem prepW : V m c main_v5 = mb fun k d => W d k := by
  have e : V m c main_v5 = truncf .bf16 (transpose S3328x1024 [1, 0] (mf W) transposes_S1024x3328_S3328x1024_1_0) bitsLt_bf16_f32 := by
    rw [← H.h9]
    simp only [V, hostOps0]
    after_reads_simp
    first | done | rfl
  rw [e]
  refine mat_ext fun k d => ?_
  exact transpose_apply [1, 0] (mf W) _ (ValueIdx.ix2 k d) (ValueIdx.ix2 d k) fun b => match b with
    | ⟨0, _⟩ => rfl
    | ⟨1, _⟩ => rfl

theorem iblk9 : iblk m c 9 t = mb fun k d => W d k := by
  obtain ⟨-, -, -, -, -, -, -, -, -, ⟨a0, a1⟩, -⟩ := idx t
  refine mat_ext fun r e => ?_
  show V m c main_v5 (((cfg0.win 9).blk t).view.emb (ValueIdx.ix2 r e)) = _
  rw [prepW H]
  refine congrArg Real.toEReal (congrArg₂ W (Fin.ext ?_) (Fin.ext ?_))
  · show win0_9.index t (1 : Fin 2) * 1024 + 1 * e.val = e.val; omega
  · show win0_9.index t (0 : Fin 2) * 3328 + 1 * r.val = r.val; omega

theorem iblk10 : iblk m c 10 t = mf G := by
  obtain ⟨-, -, -, -, -, -, -, -, -, -, ⟨a0, a1⟩⟩ := idx t
  have hV : V m c main_arg10 = mf G := (V_main_arg10 m c).trans H.h10
  refine mat_ext fun r e => ?_
  show V m c main_arg10 (((cfg0.win 10).blk t).view.emb (ValueIdx.ix2 r e)) = _
  rw [hV]
  refine congrArg Real.toEReal (congrArg₂ G (Fin.ext ?_) (Fin.ext ?_))
  · show win0_10.index t (0 : Fin 2) * 1 + 1 * r.val = r.val; omega
  · show win0_10.index t (1 : Fin 2) * 1024 + 1 * e.val = e.val; omega

omit H in
/-- The cotangent of the normalised stream on point `t`'s rows. -/
def dhAt (P : Pcs 4096) (W : Fin 1024 → Fin 3328 → ℝ) (t : Fin cfg0.N) : Fin 512 → Fin 1024 → ℝ := dh (Pcs.rows t P) W

omit H in
/-- The block of the stream's cotangent, from the loaded rows. -/
theorem out11 : k0_pay1 (F := Ideal) (k0_pay7 (mf (rows t X))) (mf (rows t O))
      (k0_pay9
        (k0_pay4 (mb (rows t P.p0)) (mb (seg 0 512 (by norm_num) W)) (mb (rows t P.p1)) (mb (seg 512 256 (by norm_num) W)) (mb (rows t P.p2))
          (mb (seg 768 512 (by norm_num) W)) (mf (rows t P.p3)) (mb (seg 1280 512 (by norm_num) W)))
        (k0_pay5 (mf (rows t P.p4))) (mb (seg 1792 512 (by norm_num) W)) (mf (rows t P.p5)) (mb (seg 2304 512 (by norm_num) W))
        (mb (rows t P.p6)) (mb (seg 2816 512 (by norm_num) W)) (mf (rows t X)) (mf G)) =
    mf (gx (rows t O) (dhAt P W t) (rows t X) G) := by
  have e4 := pay4 (Pcs.rows t P) W
  have e9 := pay9 (Pcs.rows t P) W (rows t X) G
  dsimp only [Pcs.rows] at e4 e9
  rw [e4, pay5, pay7]
  exact (congrArg (k0_pay1 (F := Ideal) _ _) e9).trans (pay1 (rows t X) (rows t O) G (dhAt P W t))

omit H in
/-- The gain's block, from the loaded rows and what it held. -/
theorem out12 (a : Fin 1 → Fin 1024 → ℝ) : k0_pay2 (F := Ideal)
            (k0_pay6
              (k0_pay4 (mb (rows t P.p0)) (mb (seg 0 512 (by norm_num) W)) (mb (rows t P.p1)) (mb (seg 512 256 (by norm_num) W))
                (mb (rows t P.p2)) (mb (seg 768 512 (by norm_num) W)) (mf (rows t P.p3)) (mb (seg 1280 512 (by norm_num) W)))
              (k0_pay5 (mf (rows t P.p4))) (mb (seg 1792 512 (by norm_num) W)) (mf (rows t P.p5)) (mb (seg 2304 512 (by norm_num) W))
              (mb (rows t P.p6)) (mb (seg 2816 512 (by norm_num) W)))
            (k0_pay8 (mf (rows t X))) (mf a) = mf (fun r d => a r d + dg (dhAt P W t) (rows t X) d) := by
  have e4 := pay4 (Pcs.rows t P) W
  have e6 := pay6 (Pcs.rows t P) W
  dsimp only [Pcs.rows] at e4 e6
  rw [e4, pay5, pay8]
  exact (congrArg (fun z => k0_pay2 (F := Ideal) z _ _) e6).trans (pay2 (rows t X) a (dhAt P W t))

set_option maxHeartbeats 4000000 in
/-- What the first point leaves in the two output blocks. -/
theorem outs_A (h : t.val % 8 = 0) : outsAt0 m c t.val t.isLt =
    (mf (gx (rows t O) (dhAt P W t) (rows t X) G), mf (fun _ d => dg (dhAt P W t) (rows t X) d)) := by
  rw [outsAt0_A m c t h]
  unfold out0_A_11 out0_A_12
  simp only [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x512) hz, View.ld_unit_zero (S := S512x256) hz, View.ld_unit_zero (S := S512x1024) hz, View.ld_unit_zero (S := S1x1024) hz, iblk0 H, iblk1 H, iblk2 H, iblk3 H, iblk4 H, iblk5 H, iblk6 H, iblk7 H, iblk8 H, iblk9 H, iblk10 H,
    ld_seg W 0 512 (by norm_num), ld_seg W 512 256 (by norm_num), ld_seg W 768 512 (by norm_num), ld_seg W 1280 512 (by norm_num), ld_seg W 1792 512 (by norm_num), ld_seg W 2304 512 (by norm_num), ld_seg W 2816 512 (by norm_num)]
  refine congrArg₂ Prod.mk ?_ ?_
  · exact (View.canon_unit_zero hz _ _).trans (out11 t)
  · rw [View.canon_cons_unit_zero hz, View.readCov_unit_zero (S := S1x1024) _ hz, pay3]
    exact (out12 t _).trans (congrArg mf (funext fun r => funext fun d => zero_add _))

set_option maxHeartbeats 4000000 in
/-- What a later point leaves, given the gain's block before it. -/
theorem outs_B (h : ¬t.val % 8 = 0) (a : Fin 1 → Fin 1024 → ℝ)
    (ha : (outsAt0 m c (t.val - 1) (Nat.lt_of_le_of_lt (Nat.sub_le _ _) t.isLt)).2 = mf a) : outsAt0 m c t.val t.isLt =
    (mf (gx (rows t O) (dhAt P W t) (rows t X) G), mf (fun r d => a r d + dg (dhAt P W t) (rows t X) d)) := by
  rw [outsAt0_B m c t h, ha]
  unfold out0_B_11 out0_B_12
  simp only [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, View.ld_unit_zero (S := S512x512) hz, View.ld_unit_zero (S := S512x256) hz, View.ld_unit_zero (S := S512x1024) hz, View.ld_unit_zero (S := S1x1024) hz, iblk0 H, iblk1 H, iblk2 H, iblk3 H, iblk4 H, iblk5 H, iblk6 H, iblk7 H, iblk8 H, iblk9 H, iblk10 H,
    ld_seg W 0 512 (by norm_num), ld_seg W 512 256 (by norm_num), ld_seg W 768 512 (by norm_num), ld_seg W 1280 512 (by norm_num), ld_seg W 1792 512 (by norm_num), ld_seg W 2304 512 (by norm_num), ld_seg W 2816 512 (by norm_num)]
  refine congrArg₂ Prod.mk ?_ ?_
  · exact (View.canon_unit_zero hz _ _).trans (out11 t)
  · exact (View.canon_unit_zero hz _ _).trans (out12 t a)

/-- After point `n` the gain's block holds the sum of the parts of the points up to it. -/
theorem acc (n : ℕ) (hn : n < cfg0.N) :
    (outsAt0 m c n hn).2 = mf (fun _ d => ∑ t : Fin cfg0.N with t.val ≤ n, dg (dhAt P W t) (rows t X) d) := by
  induction n with
  | zero =>
    have e : (Finset.univ.filter fun t : Fin cfg0.N => t.val ≤ 0) = {⟨0, hn⟩} := by
      ext t; simp [Fin.ext_iff]
    rw [outs_A H ⟨0, hn⟩ rfl]
    simp only [e, Finset.sum_singleton]
  | succ n ih =>
    have hN : n + 1 < 8 := hn
    have e : (Finset.univ.filter fun t : Fin cfg0.N => t.val ≤ n + 1) = insert ⟨n + 1, hn⟩ (Finset.univ.filter fun t : Fin cfg0.N => t.val ≤ n) := by
      ext t; simp [Fin.ext_iff]; omega
    have := outs_B H ⟨n + 1, hn⟩ (by show ¬(n + 1) % 8 = 0; omega) _ (ih (Nat.lt_of_succ_lt hn))
    rw [this]
    simp only [e, Finset.sum_insert (show (⟨n + 1, hn⟩ : Fin cfg0.N) ∉ (Finset.univ.filter fun t : Fin cfg0.N => t.val ≤ n) by simp)]
    exact congrArg mf (funext fun e => funext fun d => add_comm _ _)

end Cert.XGradIdeal.Body

end
-- ==== Proof.XGrad.Run.lean ====
/- The `x_grad` kernel's two result arrays over the reals.

   Every row of the stream's cotangent lies in one point's block; the gain's array is what the last point leaves, the sum
   over all points, so over all rows. -/
module

public import proofs.«01_k».proof.Proof.XGrad.Body

@[expose] public section

set_option maxRecDepth 16384

noncomputable section

open Idealize.ShloMosaic Idealize.ShloMosaic.TcCoe Idealize.SL.Sem Cert.Lift
open scoped BigOperators

namespace Cert.XGradIdeal.Run

open Cert.XGradIdeal Cert.XGradIdeal.Gen Cert.XGradIdeal.Value Cert.XGradIdeal.Pay Cert.XGradIdeal.Body

/-- The row of the arrays as a point and a row of its block. -/
theorem row_split (r : Fin 4096) : ∃ (t : Fin cfg0.N) (k : Fin 512), row t k = r :=
  ⟨⟨r.val / 512, by show r.val / 512 < 8; omega⟩, ⟨r.val % 512, Nat.mod_lt _ (by omega)⟩, Fin.ext (by show 512 * (r.val / 512) + r.val % 512 = r.val; omega)⟩

/-- A sum over the points and the rows of their blocks is the sum over all rows. -/
theorem sum_rows (f : Fin 4096 → ℝ) : ∑ t : Fin cfg0.N, ∑ k : Fin 512, f (row t k) = ∑ r, f r := by
  rw [← Equiv.sum_comp (finProdFinEquiv (m := 8) (n := 512)) f, Fintype.sum_prod_type]
  refine Finset.sum_congr rfl fun t _ => Finset.sum_congr rfl fun k _ => congrArg f (Fin.ext ?_)
  show 512 * t.val + k.val = k.val + 512 * t.val
  omega

variable {m : (ℓ : Loc nD τ sig) → Buf (Elt Ideal) ℓ} {c : Dev nD}
  {X O : Fin 4096 → Fin 1024 → ℝ} {P : Pcs 4096} {W : Fin 1024 → Fin 3328 → ℝ} {G : Fin 1 → Fin 1024 → ℝ}
  (H : Real m c X O P W G)

/-- The row-wise formulas at a block's row are those of the arrays at that row. -/
theorem dh_rows (t : Fin cfg0.N) : dhAt P W t = rows t (dh P W) := rfl
theorem gx_rows (t : Fin cfg0.N) (h : Fin 4096 → Fin 1024 → ℝ) (r : Fin 512) (d : Fin 1024) :
    gx (rows t O) (rows t h) (rows t X) G r d = gx O h X G (row t r) d := rfl

include H

/-- What any point leaves in the stream's cotangent's block. -/
theorem outs (t : Fin cfg0.N) : (outsAt0 m c t.val t.isLt).1 = mf (gx (rows t O) (dhAt P W t) (rows t X) G) := by
  by_cases h : t.val % 8 = 0
  · rw [outs_A H t h]
  · rw [outs_B H t h _ (acc H (t.val - 1) (Nat.lt_of_le_of_lt (Nat.sub_le _ _) t.isLt))]

omit H in
theorem emb11 (t : Fin cfg0.N) (r : Fin 512) (e : Fin 1024) : ((cfg0.win 11).blk t).view.emb (ValueIdx.ix2 r e) = ValueIdx.ix2 (row t r) e := by
  obtain ⟨a0, a1⟩ : win0_11.index t (0 : Fin 2) = t.val ∧ win0_11.index t (1 : Fin 2) = 0 := (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 512 + 1 * r.val = 512 * t.val + r.val; omega
  | ⟨1, _⟩ => show win0_11.index t (1 : Fin 2) * 1024 + 1 * e.val = e.val; omega

theorem final11 : (dats m 0 c).arrAt 11 cfg0.N = mf (gx O (dh P W) X G) :=
  (dats m 0 c).arrAt_eq_of_cover 11 (mf (gx O (dh P W) X G)) (fun t _ => by
    rw [flushed11, outs H t]
    funext j
    obtain ⟨r, e, rfl⟩ : ∃ (r : Fin 512) (e : Fin 1024), j = ValueIdx.ix2 r e := ⟨j 0, j 1, ValueIdx.eq_ix2 j⟩
    refine Eq.trans ?_ (congrArg (mf (gx O (dh P W) X G)) (emb11 t r e).symm)
    rw [dh_rows]
    exact congrArg Real.toEReal (gx_rows t _ r e))
    (fun i => by
    obtain ⟨r, e, rfl⟩ : ∃ (r : Fin 4096) (e : Fin 1024), i = ValueIdx.ix2 r e := ⟨i 0, i 1, ValueIdx.eq_ix2 i⟩
    obtain ⟨t, k, rfl⟩ := row_split r
    exact ⟨t, flush0_11 t, emb11 t k e ▸ View.emb_mem_set _ _⟩)

omit H in
theorem emb12 (t : Fin cfg0.N) (j : S1x1024.Idx) : ((cfg0.win 12).blk t).view.emb j = j := by
  obtain ⟨a0, a1⟩ : win0_12.index t (0 : Fin 2) = 0 ∧ win0_12.index t (1 : Fin 2) = 0 := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega

omit H in
/-- The sum over all points is over all rows. -/
theorem sumG (d : Fin 1024) : ∑ t : Fin cfg0.N with t.val ≤ 7, dg (dhAt P W t) (rows t X) d = dg (dh P W) X d := by
  have e7 : (Finset.univ.filter fun t : Fin cfg0.N => t.val ≤ 7) = Finset.univ :=
    Finset.filter_true_of_mem fun t _ => by have : t.val < 8 := t.isLt; omega
  rw [e7]
  simp only [dh_rows]
  generalize dh P W = D
  exact sum_rows (fun r => D r d * nx X r d)

theorem final12 : (dats m 0 c).arrAt 12 cfg0.N = mf (fun _ d => dg (dh P W) X d) :=
  (dats m 0 c).arrAt_eq_of_cover 12 (mf (fun _ d => dg (dh P W) X d)) (fun t hf => by
    have h7 : t.val = 7 := by have := (flush0_12 t).mp hf; have : t.val < 8 := t.isLt; omega
    rw [flushed12, acc H t.val t.isLt, h7]
    funext j
    refine Eq.trans ?_ (congrArg (mf (fun _ d => dg (dh P W) X d)) (emb12 t j).symm)
    exact congrArg Real.toEReal (sumG (j 1)))
    (fun i => ⟨⟨7, by decide⟩, (flush0_12 _).mpr rfl, by
      have h := ((cfg0.win 12).blk ⟨7, by decide⟩).view.emb_mem_set i
      rwa [emb12] at h⟩)

end Cert.XGradIdeal.Run

end
-- ==== Proof.XGrad.Claim.lean ====
/- The value claim of `x_grad`: the kernel's run and the reference's end in the same two arrays. -/
module

public import proofs.«01_k».proof.Defs
public import proofs.«01_k».proof.Proof.XGrad.Finite
public import proofs.«01_k».proof.Proof.XGrad.Ref
public import proofs.«01_k».proof.Proof.XGrad.Run
public import proofs.«01_k».proof.Proof.Gen.XGradRefIdeal.Run

@[expose] public section

set_option maxRecDepth 16384

noncomputable section

open Idealize.ShloMosaic Idealize.ShloMosaic.TcCoe Idealize.SL.Sem Cert.Lift

namespace Cert.XGradIdeal

open Cert.XGradIdeal.Gen Cert.XGradRefIdeal.Read

/-- A function of eleven arguments, the seven pieces among them, at equal arguments. -/
theorem cong11 {A B C D E T : Type} (f : A → A → B → C → B → B → B → B → B → D → E → T) {a a' b b' c c' d d' e e' g g' h h' i i' j j' k k' l l'}
    (h0 : a = a') (h1 : b = b') (h2 : c = c') (h3 : d = d') (h4 : e = e') (h5 : g = g') (h6 : h = h') (h7 : i = i') (h8 : j = j') (h9 : k = k')
    (h10 : l = l') : f a b c d e g h i j k l = f a' b' c' d' e' g' h' i' j' k' l' := by
  subst h0 h1 h2 h3 h4 h5 h6 h7 h8 h9 h10
  rfl

theorem value : algebraic_XGradIdeal_XGradRefIdeal_pre_x_finite (hXGradIdeal := Gen.facts) (hXGradRefIdeal := Cert.XGradRefIdeal.Gen.facts)
    (hPre_x_finite := Cert.Pre_x_finite.Gen.facts) := by
  intro m g m' g' hpre hargs
  refine ⟨fun c => (dats m 0 c).arrAt 11 cfg0.N, fun c => (dats m 0 c).arrAt 12 cfg0.N, Value.run_blocks m g, ?_⟩
  refine (θ_run Cert.XGradRefIdeal.defs _ _).mono (fun r h c => ?_) (Cert.XGradRefIdeal.Value.run m' g')
  obtain ⟨⟨⟨X, h0⟩, ⟨O, h1⟩⟩, ⟨⟨p0, h2⟩, ⟨p1, h3⟩, ⟨p2, h4⟩, ⟨p3, h5⟩, ⟨p4, h6⟩, ⟨p5, h7⟩, ⟨p6, h8⟩⟩, ⟨W, h9⟩, ⟨G, h10⟩⟩ :=
    Cert.Pre_x_finite.reals _ _ _ _ _ _ _ _ _ _ _ (hpre c)
  have H : Body.Real m c X O ⟨p0, p1, p2, p3, p4, p5, p6⟩ W G := ⟨h0, h1, h2, h3, h4, h5, h6, h7, h8, h9, h10⟩
  obtain ⟨a0, a1, a2, a3, a4, a5, a6, a7, a8, a9, a10⟩ := hargs c
  obtain ⟨r0, r1, k⟩ := h c
  replace a0 := a0.trans h0
  replace a1 := a1.trans h1
  replace a2 := a2.trans h2
  replace a3 := a3.trans h3
  replace a4 := a4.trans h4
  replace a5 := a5.trans h5
  replace a6 := a6.trans h6
  replace a7 := a7.trans h7
  replace a8 := a8.trans h8
  replace a9 := a9.trans h9
  replace a10 := a10.trans h10
  refine ⟨?_, ?_, k⟩
  · exact (r0.trans (val_main_v41_eq m' c)).trans ((cong11 (val_main_v41 (F := Ideal)) a0 a1 a2 a3 a4 a5 a6 a7 a8 a9 a10).trans
      ((Cert.XGradRefIdeal.Ref.v41 X O ⟨p0, p1, p2, p3, p4, p5, p6⟩ W G).trans (Run.final11 H).symm))
  · exact (r1.trans (val_main_v40_eq _ _ _ _ _ _ _ _ _)).trans
      ((cong11 (fun x (_ : (⟨S4096x1024, .f32⟩ : BufTy).Contents (Elt Ideal)) y0 y1 y2 y3 y4 y5 y6 w (_ : (⟨S1x1024, .f32⟩ : BufTy).Contents (Elt Ideal)) =>
        val_main_v40 (F := Ideal) x y0 y1 y2 y3 y4 y5 y6 w) a0 a1 a2 a3 a4 a5 a6 a7 a8 a9 a10).trans
      ((Cert.XGradRefIdeal.Ref.v40 X ⟨p0, p1, p2, p3, p4, p5, p6⟩ W).trans (Run.final12 H).symm))

/-- The reference's frame: its run with the results forgotten; it declares no semaphore. -/
theorem frame_ref : quiescent_XGradRefIdeal (hXGradRefIdeal := Cert.XGradRefIdeal.Gen.facts) := fun m g _ =>
  (θ_run Cert.XGradRefIdeal.defs _ _).mono (fun r h => ⟨fun c => (h c).2.2, sem_eq_zero_of_no_sems (by decide) r.2⟩)
    (Cert.XGradRefIdeal.Value.run m g)

end Cert.XGradIdeal

end
-- ==== Proof.SwaBwd.Frames.lean ====
/-
  The sliding-window backward call: the frames of the kernel's two readings and of the reference.
-/
module

public import proofs.«01_k».proof.Defs
public import proofs.«01_k».proof.Proof.SwaBwd.Run
public import proofs.«01_k».proof.Proof.Gen.SwaBwd
public import proofs.«01_k».proof.Proof.Gen.SwaBwdRefIdeal.Run

@[expose] public section

set_option maxRecDepth 16384

noncomputable section

namespace Cert.Proof.SwaBwd

open Idealize.ShloMosaic Idealize.ShloMosaic.TcCoe Idealize.ShloMosaic.Tactic Idealize.SL Idealize.SL.Sem

/-- Over the machine's floats a named constant is the constant of its bits. -/
instance : Named Bits where
  named _ _ {φ} bits := FloatOps.ofBits φ bits

/-- The idealized kernel's frame. -/
theorem frame_ideal : Cert.quiescent_SwaBwdIdeal := fun m ρ _ => Cert.SwaBwdIdeal.Run.frame_any m ρ

/-- The kernel's frame is the idealized text's, read over the machine's floats. -/
theorem same_frame : Cert.quiescent_SwaBwd = (∀ (m : (ℓ : Loc Cert.SwaBwdIdeal.nD Cert.SwaBwdIdeal.τ Cert.SwaBwdIdeal.sig) → Buf (Elt Bits) ℓ) (g : Dev Cert.SwaBwdIdeal.nD → PrngReg), True →
    θ_run (Cert.SwaBwdIdeal.defs (F := Bits)) (onTc (τ := Cert.SwaBwdIdeal.τ) (Cert.SwaBwdIdeal.main (F := Bits))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3)
      ∧ r.2.mem ((c.tc : Thread Cert.SwaBwdIdeal.nD Cert.SwaBwdIdeal.τ).loc Cert.SwaBwdIdeal.main_arg4) = m ((c.tc : Thread Cert.SwaBwdIdeal.nD Cert.SwaBwdIdeal.τ).loc Cert.SwaBwdIdeal.main_arg4))
      ∧ r.2.sem = fun _ => 0)) := by sl_kernel_rfl

/-- The kernel's frame. -/
theorem frame_kernel : Cert.quiescent_SwaBwd :=
  same_frame.mpr fun m ρ _ => Cert.SwaBwdIdeal.Run.frame_any (F := Bits) m ρ

/-- The reference's frame: its run with the results forgotten; it declares no semaphore. -/
theorem frame_ref : Cert.quiescent_SwaBwdRefIdeal := fun m g _ =>
  (θ_run Cert.SwaBwdRefIdeal.defs _ _).mono (fun r h => ⟨fun c => (h c).2.2.2.2, sem_eq_zero_of_no_sems (by decide) r.2⟩)
    (Cert.SwaBwdRefIdeal.Value.run m g)

end Cert.Proof.SwaBwd
end
-- ==== Proof.QkGrad.Point.lean ====
/- The query-and-key gradient call: one grid point of its kernel, from any contents. -/
module

public import proofs.«01_k».proof.Proof.Gen.QkGradIdeal.Frame.Runs

@[expose] public section

set_option maxRecDepth 16384

noncomputable section

namespace Cert.QkGradIdeal.Point

open Cert.QkGradIdeal Cert.QkGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S512x512 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S512x512 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .bf16) (harg18 : arg18.IsWhole) (arg19 : Memref sig .tc .vmem S512x256 .bf16) (harg19 : arg19.IsWhole) (arg20 : Memref sig .tc .vmem S1x512 .f32) (harg20 : arg20.IsWhole) (arg21 : Memref sig .tc .vmem S1x128 .f32) (harg21 : arg21.IsWhole)
  (x0 : Vec F S512x512 .f32) (x1 : Vec F S512x128 .f32) (x2 : Vec F S512x512 .f32) (x3 : Vec F S128x256 .f32) (x4 : Vec F S128x256 .f32) (x5 : Vec F S128x256 .f32) (x6 : Vec F S128x256 .f32) (x7 : Vec F S128x256 .f32) (x8 : Vec F S128x256 .f32) (x9 : Vec F S128x256 .f32) (x10 : Vec F S128x256 .f32) (x11 : Vec F S1x512 .f32) (x12 : Vec F S1x128 .f32) (x13 : Vec F S512x512 .bf16) (x14 : Vec F S512x128 .f32) (x15 : Vec F S512x128 .f32) (x16 : Vec F S512x128 .f32)

/-- The seventeen input blocks at their contents. -/
def ins : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16)

/-- A run of one grid point, the two accumulated blocks being found as `P` and `Q` say: the stores it makes to the four outputs,
    last first, and that they are what it does. -/
abbrev Step (P Q : sProp 𝕄) : Type :=
  Σ' (L17 : List (View.Piece (Elt F) S512x512 .bf16)) (L18 : List (View.Piece (Elt F) S512x256 .bf16)) (L19 : List (View.Piece (Elt F) S1x512 .f32)),
    { L20 : List (View.Piece (Elt F) S1x128 .f32) // ∀ K : PUnit → sProp 𝕄,
      iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ (∃ d, owns (c : Thread nD τ) arg19 fullShare d) ∗ P ∗ Q
          ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20)) -∗ K ⟨⟩))
        ⊢ wp frame (wpE (defs₀ (F := F)) Variants.none c none) Set.univ (cc0_qk_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K }

set_option maxHeartbeats 4000000 in
/-- The first point, which clears the two accumulated blocks. -/
def first (hc : cond0_0 i) : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16
    iprop(∃ d, owns (c : Thread nD τ) arg20 fullShare d) iprop(∃ d, owns (c : Thread nD τ) arg21 fullShare d) := by
  refine ⟨?_, ?_, ?_, ?_, fun K => ?run⟩
  case run =>
    simp only [cc0_qk_grad_eq_skeleton]; unfold cc0_qk_grad_skel
    simp only [k0_part1_eq_skeleton, k0_part2_eq_skeleton, k0_part3_eq_skeleton, k0_part4_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc)
    sl_step
    iapply Hk
    isplitl [H0 H1 H2 H3 H4 H5 H6 H7 H8 H9 H10 H11 H12 H13 H14 H15 H16]
    · isplitl [H0]; · iexists _; isplitr; (ipureintro; exact harg1.read_unread _); iexact H0
      isplitl [H1]; · iexists _; isplitr; (ipureintro; exact harg2.read_unread _); iexact H1
      isplitl [H2]; · iexists _; isplitr; (ipureintro; exact harg3.read_unread _); iexact H2
      isplitl [H3]; · iexists _; isplitr; (ipureintro; exact harg4.read_unread _); iexact H3
      isplitl [H4]; · iexists _; isplitr; (ipureintro; exact harg5.read_unread _); iexact H4
      isplitl [H5]; · iexists _; isplitr; (ipureintro; exact harg6.read_unread _); iexact H5
      isplitl [H6]; · iexists _; isplitr; (ipureintro; exact harg7.read_unread _); iexact H6
      isplitl [H7]; · iexists _; isplitr; (ipureintro; exact harg8.read_unread _); iexact H7
      isplitl [H8]; · iexists _; isplitr; (ipureintro; exact harg9.read_unread _); iexact H8
      isplitl [H9]; · iexists _; isplitr; (ipureintro; exact harg10.read_unread _); iexact H9
      isplitl [H10]; · iexists _; isplitr; (ipureintro; exact harg11.read_unread _); iexact H10
      isplitl [H11]; · iexists _; isplitr; (ipureintro; exact harg12.read_unread _); iexact H11
      isplitl [H12]; · iexists _; isplitr; (ipureintro; exact harg13.read_unread _); iexact H12
      isplitl [H13]; · iexists _; isplitr; (ipureintro; exact harg14.read_unread _); iexact H13
      isplitl [H14]; · iexists _; isplitr; (ipureintro; exact harg15.read_unread _); iexact H14
      isplitl [H15]; · iexists _; isplitr; (ipureintro; exact harg16.read_unread _); iexact H15
      iexists _; isplitr; (ipureintro; exact harg17.read_unread _); iexact H16
    isplitl [H17]; · iexists _; iexact H17
    isplitl [H18]; · iexists _; iexact H18
    isplitl [H19]; · iexists _; iexact H19
    iexists _; iexact H20

set_option maxHeartbeats 4000000 in
/-- A later point, which adds to them. -/
def later (hc : ¬cond0_0 i) (a : Vec F S1x512 .f32) (b : Vec F S1x128 .f32) : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16
    (owns (c : Thread nD τ) arg20 fullShare a) (owns (c : Thread nD τ) arg21 fullShare b) := by
  refine ⟨?_, ?_, ?_, ?_, fun K => ?run⟩
  case run =>
    simp only [cc0_qk_grad_eq_skeleton]; unfold cc0_qk_grad_skel
    simp only [k0_part1_eq_skeleton, k0_part2_eq_skeleton, k0_part3_eq_skeleton, k0_part4_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%d18, %f18, -, H18⟩, ⟨%f19, %hf19, H19⟩, ⟨%f20, %hf20, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hf19; obtain rfl := harg21.eq_unread hf20
    sl_exec (disch := first | sl_exact hc)
    sl_step
    iapply Hk
    isplitl [H0 H1 H2 H3 H4 H5 H6 H7 H8 H9 H10 H11 H12 H13 H14 H15 H16]
    · isplitl [H0]; · iexists _; isplitr; (ipureintro; exact harg1.read_unread _); iexact H0
      isplitl [H1]; · iexists _; isplitr; (ipureintro; exact harg2.read_unread _); iexact H1
      isplitl [H2]; · iexists _; isplitr; (ipureintro; exact harg3.read_unread _); iexact H2
      isplitl [H3]; · iexists _; isplitr; (ipureintro; exact harg4.read_unread _); iexact H3
      isplitl [H4]; · iexists _; isplitr; (ipureintro; exact harg5.read_unread _); iexact H4
      isplitl [H5]; · iexists _; isplitr; (ipureintro; exact harg6.read_unread _); iexact H5
      isplitl [H6]; · iexists _; isplitr; (ipureintro; exact harg7.read_unread _); iexact H6
      isplitl [H7]; · iexists _; isplitr; (ipureintro; exact harg8.read_unread _); iexact H7
      isplitl [H8]; · iexists _; isplitr; (ipureintro; exact harg9.read_unread _); iexact H8
      isplitl [H9]; · iexists _; isplitr; (ipureintro; exact harg10.read_unread _); iexact H9
      isplitl [H10]; · iexists _; isplitr; (ipureintro; exact harg11.read_unread _); iexact H10
      isplitl [H11]; · iexists _; isplitr; (ipureintro; exact harg12.read_unread _); iexact H11
      isplitl [H12]; · iexists _; isplitr; (ipureintro; exact harg13.read_unread _); iexact H12
      isplitl [H13]; · iexists _; isplitr; (ipureintro; exact harg14.read_unread _); iexact H13
      isplitl [H14]; · iexists _; isplitr; (ipureintro; exact harg15.read_unread _); iexact H14
      isplitl [H15]; · iexists _; isplitr; (ipureintro; exact harg16.read_unread _); iexact H15
      iexists _; isplitr; (ipureintro; exact harg17.read_unread _); iexact H16
    isplitl [H17]; · iexists _; iexact H17
    isplitl [H18]; · iexists _; iexact H18
    isplitl [H19]; · iexists _; iexact H19
    iexists _; iexact H20

end Cert.QkGradIdeal.Point

end
-- ==== Proof.QkGrad.Run.lean ====
/- The query-and-key gradient call: what its grid points leave, and its run. -/
module

public import proofs.«01_k».proof.Proof.QkGrad.Point
public import Idealize.ShloMosaic.Lib.Claim

@[expose] public section

set_option maxRecDepth 16384

noncomputable section

namespace Cert.QkGradIdeal.Run

open Cert.QkGradIdeal Cert.QkGradIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run and a later point's, at the blocks the point finds. -/
abbrev runA (c : Dev nD) (t : Fin cfg0.N) (h : cond0_0 (grid0.coords t)) :=
  Point.first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) h
abbrev runB (c : Dev nD) (t : Fin cfg0.N) (h : ¬cond0_0 (grid0.coords t)) (a : Vec F S1x512 .f32) (b : Vec F S1x128 .f32) :=
  Point.later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) h a b

/-- Lists of stores that cover the four outputs' blocks. -/
def Full (L17 : List (View.Piece (Elt F) S512x512 .bf16)) (L18 : List (View.Piece (Elt F) S512x256 .bf16)) (L19 : List (View.Piece (Elt F) S1x512 .f32))
    (L20 : List (View.Piece (Elt F) S1x128 .f32)) : Prop :=
  (∀ y, ∃ p ∈ L17, y ∈ p.1.set) ∧ (∀ y, ∃ p ∈ L18, y ∈ p.1.set) ∧ (∀ y, ∃ p ∈ L19, y ∈ p.1.set) ∧ ∀ y, ∃ p ∈ L20, y ∈ p.1.set

theorem fullA (c : Dev nD) (t : Fin cfg0.N) (h) : Full (runA m c t h).1 (runA m c t h).2.1 (runA m c t h).2.2.1 (runA m c t h).2.2.2.1 :=
  ⟨View.cover_of_tiledL _ S512x512.size (by sl_kernel_rfl), View.cover_of_tiledL _ S512x128.size (by sl_kernel_rfl),
    View.cover_of_tiledL _ S1x512.size (by sl_kernel_rfl), View.cover_of_tiledL _ S1x128.size (by sl_kernel_rfl)⟩

theorem fullB (c : Dev nD) (t : Fin cfg0.N) (h) (a : Vec F S1x512 .f32) (b : Vec F S1x128 .f32) :
    Full (runB m c t h a b).1 (runB m c t h a b).2.1 (runB m c t h a b).2.2.1 (runB m c t h a b).2.2.2.1 :=
  ⟨View.cover_of_tiledL _ S512x512.size (by sl_kernel_rfl), View.cover_of_tiledL _ S512x128.size (by sl_kernel_rfl),
    View.cover_of_tiledL _ S1x512.size (by sl_kernel_rfl), View.cover_of_tiledL _ S1x128.size (by sl_kernel_rfl)⟩

/-- What the four outputs hold when such stores have been made. -/
def left (L17 : List (View.Piece (Elt F) S512x512 .bf16)) (L18 : List (View.Piece (Elt F) S512x256 .bf16)) (L19 : List (View.Piece (Elt F) S1x512 .f32))
    (L20 : List (View.Piece (Elt F) S1x128 .f32)) : Vec F S512x512 .bf16 × Vec F S512x256 .bf16 × Vec F S1x512 .f32 × Vec F S1x128 .f32 :=
  (VO0_17.read (Elt F) (VO0_17.writes (Elt F) VO0_17.junk L17), VO0_18.read (Elt F) (VO0_18.writes (Elt F) VO0_18.junk L18),
    VO0_19.read (Elt F) (VO0_19.writes (Elt F) VO0_19.junk L19), VO0_20.read (Elt F) (VO0_20.writes (Elt F) VO0_20.junk L20))

theorem cond_first (t : Fin cfg0.N) (h : t.val = 0) : cond0_0 (grid0.coords t) := (hcond0_0 t).mpr (by rw [h])

theorem cond_later (t : Fin cfg0.N) (h : t.val ≠ 0) : ¬cond0_0 (grid0.coords t) := fun hc => by
  have hN : t.val < 8 := lt_of_lt_of_eq t.isLt (show cfg0.N = 8 from N_0)
  have := (hcond0_0 t).mp hc
  omega

/-- What the four outputs hold after each point. -/
def outs (c : Dev nD) : (n : ℕ) → n < cfg0.N → Vec F S512x512 .bf16 × Vec F S512x256 .bf16 × Vec F S1x512 .f32 × Vec F S1x128 .f32
  | 0, hn => left (runA m c ⟨0, hn⟩ (cond_first _ rfl)).1 (runA m c ⟨0, hn⟩ (cond_first _ rfl)).2.1 (runA m c ⟨0, hn⟩ (cond_first _ rfl)).2.2.1
      (runA m c ⟨0, hn⟩ (cond_first _ rfl)).2.2.2.1
  | n + 1, hn =>
    let p := outs c n (Nat.lt_of_succ_lt hn)
    left (runB m c ⟨n + 1, hn⟩ (cond_later _ (Nat.succ_ne_zero n)) p.2.2.1 p.2.2.2).1 (runB m c ⟨n + 1, hn⟩ (cond_later _ (Nat.succ_ne_zero n)) p.2.2.1 p.2.2.2).2.1
      (runB m c ⟨n + 1, hn⟩ (cond_later _ (Nat.succ_ne_zero n)) p.2.2.1 p.2.2.2).2.2.1 (runB m c ⟨n + 1, hn⟩ (cond_later _ (Nat.succ_ne_zero n)) p.2.2.1 p.2.2.2).2.2.2.1

/-- What they hold before a point that is not the first. -/
abbrev prev (c : Dev nD) (t : Fin cfg0.N) := outs m c (t.val - 1) (Nat.lt_of_le_of_lt (Nat.sub_le _ _) t.isLt)

theorem outs_first (c : Dev nD) (t : Fin cfg0.N) (h : t.val = 0) : outs m c t.val t.isLt =
    left (runA m c t (cond_first t h)).1 (runA m c t (cond_first t h)).2.1 (runA m c t (cond_first t h)).2.2.1 (runA m c t (cond_first t h)).2.2.2.1 := by
  obtain ⟨n, hn⟩ := t
  obtain rfl : n = 0 := h
  rfl

theorem outs_later (c : Dev nD) (t : Fin cfg0.N) (h : t.val ≠ 0) : outs m c t.val t.isLt =
    left (runB m c t (cond_later t h) (prev m c t).2.2.1 (prev m c t).2.2.2).1 (runB m c t (cond_later t h) (prev m c t).2.2.1 (prev m c t).2.2.2).2.1
      (runB m c t (cond_later t h) (prev m c t).2.2.1 (prev m c t).2.2.2).2.2.1 (runB m c t (cond_later t h) (prev m c t).2.2.1 (prev m c t).2.2.2).2.2.2.1 := by
  obtain ⟨n, hn⟩ := t
  cases n with
  | zero => exact absurd rfl h
  | succ n => rfl

/-- The pipeline's proof data: an input's buffer keeps its block, the outputs' hold what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outs m c t.val t.isLt).1
    | ⟨18, _⟩ => (outs m c t.val t.isLt).2.1
    | ⟨19, _⟩ => (outs m c t.val t.isLt).2.2.1
    | ⟨20, _⟩ => (outs m c t.val t.isLt).2.2.2
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem kept19 (c : Dev nD) (t : Fin cfg0.N) (h : t.val ≠ 0) (d) : (dats m 0 c).before 19 t d = (prev m c t).2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]

theorem kept20 (c : Dev nD) (t : Fin cfg0.N) (h : t.val ≠ 0) (d) : (dats m 0 c).before 20 t d = (prev m c t).2.2.2 := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

/-- What a point is given, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4000000 in
/-- The input blocks together and the outputs' are what a point returns. -/
theorem close (c : Dev nD) (t : Fin cfg0.N) :
    iprop((dats m 0 c).Φ t.castSucc ∗ (dats m 0 c).owesAt () t.castSucc ∗ Point.ins c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      ∗ owns (c : Thread nD τ) (ms0_17 t) fullShare (outs m c t.val t.isLt).1 ∗ owns (c : Thread nD τ) (ms0_18 t) fullShare (outs m c t.val t.isLt).2.1
      ∗ owns (c : Thread nD τ) (ms0_19 t) fullShare (outs m c t.val t.isLt).2.2.1 ∗ owns (c : Thread nD τ) (ms0_20 t) fullShare (outs m c t.val t.isLt).2.2.2)
    ⊢ post m c t := by
  unfold post Point.ins
  rw [show (dats m 0 c).Φ t.succ = (dats m 0 c).Φ t.castSucc from rfl, show (dats m 0 c).owesAt () t.succ = (dats m 0 c).owesAt () t.castSucc from rfl]
  dsimp only [dats]
  iintro ⟨HΦ, Ho, ⟨H0, H1, H2, H3, H4, H5, H6, H7, H8, H9, H10, H11, H12, H13, H14, H15, H16⟩, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option maxHeartbeats 4000000 in
theorem sound (c : Dev nD) (t : Fin cfg0.N) :
    pre m c t ⊢ wp frame (wpE (defs₀ (F := F)) Variants.none c none) Set.univ (bodyAt0 t) (fun _ => post m c t) := by
  unfold pre bodyAt0
  simp only [before0_0_of m (dats m 0 c) (A_eq m c 0) (fun t => by dsimp only [dats]) t, before0_1_of m (dats m 0 c) (A_eq m c 1) (fun t => by dsimp only [dats]) t, before0_2_of m (dats m 0 c) (A_eq m c 2) (fun t => by dsimp only [dats]) t, before0_3_of m (dats m 0 c) (A_eq m c 3) (fun t => by dsimp only [dats]) t, before0_4_of m (dats m 0 c) (A_eq m c 4) (fun t => by dsimp only [dats]) t, before0_5_of m (dats m 0 c) (A_eq m c 5) (fun t => by dsimp only [dats]) t, before0_6_of m (dats m 0 c) (A_eq m c 6) (fun t => by dsimp only [dats]) t, before0_7_of m (dats m 0 c) (A_eq m c 7) (fun t => by dsimp only [dats]) t, before0_8_of m (dats m 0 c) (A_eq m c 8) (fun t => by dsimp only [dats]) t, before0_9_of m (dats m 0 c) (A_eq m c 9) (fun t => by dsimp only [dats]) t, before0_10_of m (dats m 0 c) (A_eq m c 10) (fun t => by dsimp only [dats]) t, before0_11_of m (dats m 0 c) (A_eq m c 11) (fun t => by dsimp only [dats]) t, before0_12_of m (dats m 0 c) (A_eq m c 12) (fun t => by dsimp only [dats]) t, before0_13_of m (dats m 0 c) (A_eq m c 13) (fun t => by dsimp only [dats]) t, before0_14_of m (dats m 0 c) (A_eq m c 14) (fun t => by dsimp only [dats]) t, before0_15_of m (dats m 0 c) (A_eq m c 15) (fun t => by dsimp only [dats]) t, before0_16_of m (dats m 0 c) (A_eq m c 16) (fun t => by dsimp only [dats]) t]
  by_cases h : t.val = 0
  · have hf := fullA m c t (cond_first t h)
    have ho := outs_first m c t h
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (runA m c t (cond_first t h)).2.2.2.2
    isplitl [H0 H1 H2 H3 H4 H5 H6 H7 H8 H9 H10 H11 H12 H13 H14 H15 H16]
    · unfold Point.ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H17]; · iexists _; iexact H17
    isplitl [H18]; · iexists _; iexact H18
    isplitl [H19]; · iexists _; iexact H19
    isplitl [H20]; · iexists _; iexact H20
    iintro ⟨HI, ⟨%e17, H17⟩, ⟨%e18, H18⟩, ⟨%e19, H19⟩, ⟨%e20, H20⟩⟩
    iapply (close m c t)
    isplitl [HΦ]; · iexact HΦ
    isplitl [Ho]; · iexact Ho
    isplitl [HI]; · iexact HI
    rw [ho]; unfold left
    isplitl [H17]
    · unfold owns; iexists _; isplitr
      swap; · iexact H17
      ipureintro; dsimp only; exact View.read_writes_of_cover _ _ _ _ _ (hf.1)
    isplitl [H18]
    · unfold owns; iexists _; isplitr
      swap; · iexact H18
      ipureintro; dsimp only; exact View.read_writes_of_cover _ _ _ _ _ (hf.2.1)
    isplitl [H19]
    · unfold owns; iexists _; isplitr
      swap; · iexact H19
      ipureintro; dsimp only; exact View.read_writes_of_cover _ _ _ _ _ (hf.2.2.1)
    unfold owns; iexists _; isplitr
    swap; · iexact H20
    ipureintro; dsimp only; exact View.read_writes_of_cover _ _ _ _ _ (hf.2.2.2)
  · have hf := fullB m c t (cond_later t h) (prev m c t).2.2.1 (prev m c t).2.2.2
    have ho := outs_later m c t h
    simp only [kept19 m c t h, kept20 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (runB m c t (cond_later t h) (prev m c t).2.2.1 (prev m c t).2.2.2).2.2.2.2
    isplitl [H0 H1 H2 H3 H4 H5 H6 H7 H8 H9 H10 H11 H12 H13 H14 H15 H16]
    · unfold Point.ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H17]; · iexists _; iexact H17
    isplitl [H18]; · iexists _; iexact H18
    isplitl [H19]; · iexact H19
    isplitl [H20]; · iexact H20
    iintro ⟨HI, ⟨%e17, H17⟩, ⟨%e18, H18⟩, ⟨%e19, H19⟩, ⟨%e20, H20⟩⟩
    iapply (close m c t)
    isplitl [HΦ]; · iexact HΦ
    isplitl [Ho]; · iexact Ho
    isplitl [HI]; · iexact HI
    rw [ho]; unfold left
    isplitl [H17]
    · unfold owns; iexists _; isplitr
      swap; · iexact H17
      ipureintro; dsimp only; exact View.read_writes_of_cover _ _ _ _ _ (hf.1)
    isplitl [H18]
    · unfold owns; iexists _; isplitr
      swap; · iexact H18
      ipureintro; dsimp only; exact View.read_writes_of_cover _ _ _ _ _ (hf.2.1)
    isplitl [H19]
    · unfold owns; iexists _; isplitr
      swap; · iexact H19
      ipureintro; dsimp only; exact View.read_writes_of_cover _ _ _ _ _ (hf.2.2.1)
    unfold owns; iexists _; isplitr
    swap; · iexact H20
    ipureintro; dsimp only; exact View.read_writes_of_cover _ _ _ _ _ (hf.2.2.2)

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The run: every array of the call ends at what the proof data say, every other buffer as the call found it, and no counter is
    left above zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ))) ((θ_run defs _ _).mono (fun _ h => h.2) (run m ρ))

end Cert.QkGradIdeal.Run

end
-- ==== Proof.QkGrad.Frames.lean ====
/-
  The query-and-key gradient call: the frames of the kernel's two readings and of the reference.
-/
module

public import proofs.«01_k».proof.Defs
public import proofs.«01_k».proof.Proof.QkGrad.Run
public import proofs.«01_k».proof.Proof.Gen.QkGrad
public import proofs.«01_k».proof.Proof.Gen.QkGradRefIdeal.Run

@[expose] public section

set_option maxRecDepth 16384

noncomputable section

namespace Cert.Proof.QkGrad

open Idealize.ShloMosaic Idealize.ShloMosaic.TcCoe Idealize.ShloMosaic.Tactic Idealize.SL Idealize.SL.Sem

/-- The idealized kernel's frame. -/
theorem frame_ideal : Cert.quiescent_QkGradIdeal := fun m ρ _ => Cert.QkGradIdeal.Run.frame_any m ρ

/-- The kernel's frame is the idealized text's, read over the machine's floats. -/
theorem same_frame : Cert.quiescent_QkGrad = (∀ (m : (ℓ : Loc Cert.QkGradIdeal.nD Cert.QkGradIdeal.τ Cert.QkGradIdeal.sig) → Buf (Elt Bits) ℓ) (g : Dev Cert.QkGradIdeal.nD → PrngReg), True →
    θ_run (Cert.QkGradIdeal.defs (F := Bits)) (onTc (τ := Cert.QkGradIdeal.τ) (Cert.QkGradIdeal.main (F := Bits))) ⟨m, fun _ => 0, g⟩ (fun r => (∀ c : Dev Cert.QkGradIdeal.nD,
      r.2.mem ((c.tc : Thread Cert.QkGradIdeal.nD Cert.QkGradIdeal.τ).loc Cert.QkGradIdeal.main_arg0) = m ((c.tc : Thread Cert.QkGradIdeal.nD Cert.QkGradIdeal.τ).loc Cert.QkGradIdeal.main_arg0)
      ∧ r.2.mem ((c.tc : Thread Cert.QkGradIdeal.nD Cert.QkGradIdeal.τ).loc Cert.QkGradIdeal.main_arg1) = m ((c.tc : Thread Cert.QkGradIdeal.nD Cert.QkGradIdeal.τ).loc Cert.QkGradIdeal.main_arg1)
      ∧ r.2.mem ((c.tc : Thread Cert.QkGradIdeal.nD Cert.QkGradIdeal.τ).loc Cert.QkGradIdeal.main_arg2) = m ((c.tc : Thread Cert.QkGradIdeal.nD Cert.QkGradIdeal.τ).loc Cert.QkGradIdeal.main_arg2)
      ∧ r.2.mem ((c.tc : Thread Cert.QkGradIdeal.nD Cert.QkGradIdeal.τ).loc Cert.QkGradIdeal.main_arg3) = m ((c.tc : Thread Cert.QkGradIdeal.nD Cert.QkGradIdeal.τ).loc Cert.QkGradIdeal.main_arg3)
      ∧ r.2.mem ((c.tc : Thread Cert.QkGradIdeal.nD Cert.QkGradIdeal.τ).loc Cert.QkGradIdeal.main_arg4) = m ((c.tc : Thread Cert.QkGradIdeal.nD Cert.QkGradIdeal.τ).loc Cert.QkGradIdeal.main_arg4)
      ∧ r.2.mem ((c.tc : Thread Cert.QkGradIdeal.nD Cert.QkGradIdeal.τ).loc Cert.QkGradIdeal.main_arg5) = m ((c.tc : Thread Cert.QkGradIdeal.nD Cert.QkGradIdeal.τ).loc Cert.QkGradIdeal.main_arg5)
      ∧ r.2.mem ((c.tc : Thread Cert.QkGradIdeal.nD Cert.QkGradIdeal.τ).loc Cert.QkGradIdeal.main_arg6) = m ((c.tc : Thread Cert.QkGradIdeal.nD Cert.QkGradIdeal.τ).loc Cert.QkGradIdeal.main_arg6)
      ∧ r.2.mem ((c.tc : Thread Cert.QkGradIdeal.nD Cert.QkGradIdeal.τ).loc Cert.QkGradIdeal.main_arg7) = m ((c.tc : Thread Cert.QkGradIdeal.nD Cert.QkGradIdeal.τ).loc Cert.QkGradIdeal.main_arg7))
      ∧ r.2.sem = fun _ => 0)) := by sl_kernel_rfl

/-- The kernel's frame. -/
theorem frame_kernel : Cert.quiescent_QkGrad :=
  same_frame.mpr fun m ρ _ => Cert.QkGradIdeal.Run.frame_any (F := Bits) m ρ

/-- The reference's frame: its run with the results forgotten; it declares no semaphore. -/
theorem frame_ref : Cert.quiescent_QkGradRefIdeal := fun m g _ =>
  (θ_run Cert.QkGradRefIdeal.defs _ _).mono (fun r h => ⟨fun c => (h c).2.2.2.2, sem_eq_zero_of_no_sems (by decide) r.2⟩)
    (Cert.QkGradRefIdeal.Value.run m g)

end Cert.Proof.QkGrad
end
-- ==== Proof.QkGrad.Pay.lean ====
/- What each value that the query-and-key gradient kernel stores is, over the reals, when the blocks it loads are matrices of
   reals. -/
module

public import proofs.«01_k».proof.Proof.Gen.QkGradIdeal.Skeleton
public import proofs.«01_k».proof.Proof.LiftHead

@[expose] public section

set_option maxRecDepth 16384

noncomputable section

open Idealize.ShloMosaic Idealize.ShloMosaic.ValueIdx Idealize.ShloMosaic.TcCoe Cert.Lift
open scoped BigOperators

namespace Cert.QkGradIdeal.Pay

open Cert.QkGradIdeal Cert.QkGradIdeal.Gen

theorem small (n k : ℕ) (hn : n < 2 ^ 31) (hk : k < 2 ^ 31) : (BitVec.ofNat 32 n).slt (BitVec.ofNat 32 k) = decide (n < k) := by
  rw [BitVec.slt_eq_decide, BitVec.toInt_eq_toNat_of_lt (by rw [BitVec.toNat_ofNat, Nat.mod_eq_of_lt (by omega)]; omega),
    BitVec.toInt_eq_toNat_of_lt (by rw [BitVec.toNat_ofNat, Nat.mod_eq_of_lt (by omega)]; omega),
    BitVec.toNat_ofNat, BitVec.toNat_ofNat, Nat.mod_eq_of_lt (by omega), Nat.mod_eq_of_lt (by omega)]
  simp

theorem half_eq : Ideal.ofBits .f32 0x3F000000#32 = ((1 / 2 : ℝ) : EReal) := by
  simp [Ideal.ofBits, Ideal.ieee, -EReal.coe_mul]; norm_num

theorem lanes : cmpi .slt (iota .tc S512x128 32 [1] iota_S512x128_d1_w32) (broadcast S512x128 64#32) = nb (fun _ c => c < 64) := by
  funext j
  have h : (j 1).val < 128 := (j 1).isLt
  show BitVec.ofBool ((iota .tc S512x128 32 [1] iota_S512x128_d1_w32 j).slt 64#32) = _
  rw [iota_single_apply]
  exact congrArg BitVec.ofBool (small _ _ (by omega) (by omega))

theorem pay9 : k0_pay9 (F := Ideal) = nb (fun _ c => c < 64) := by
  unfold k0_pay9
  dsimp only
  rw [lanes, splat_nm _ 1 Ideal.ofBits_one_f32, zero_nm, select_nm]
  funext j
  show BitVec.ofBool (decide (Ideal.ofBits .f32 0x3F000000#32 < (((if (j 1).val < 64 then 1 else 0 : ℝ)) : EReal))) = _
  rw [half_eq]
  refine congrArg BitVec.ofBool (decide_eq_decide.mpr ?_)
  rw [EReal.coe_lt_coe_iff]
  split
  · next h => exact ⟨fun _ => h, fun _ => by norm_num⟩
  · next h => exact ⟨fun h' => absurd h' (by norm_num), fun h' => absurd h' h⟩

variable (A D Dk Dv X g : ℕ → ℕ → ℝ)

theorem pay4 : k0_pay4 (F := Ideal) = nm fun _ _ => 0 := zero_nm
theorem pay5 : k0_pay5 (F := Ideal) = nm fun _ _ => 0 := zero_nm

/-- A block of 128 columns turned back. -/
theorem turn (s : ℕ) (h h' : Shape.Rotates S512x128 1 none) :
    subf (subf (mulf (nm fun r c => D r (128 * s + c)) (nm (tC A))) (mulf (dynamicRotate 1 96#32 none (nm fun r c => D r (128 * s + c)) h) (nm (tA A))))
        (mulf (dynamicRotate 1 32#32 none (nm fun r c => D r (128 * s + c)) h') (nm (tB A)))
      = (nm fun r c => rot A D r (128 * s + c) : FVec Ideal S512x128 .f32) :=
  (rot_nm A (fun r c => D r (128 * s + c)) h h').trans (nm_congr fun r _ c _ => rot_cols A D s r c)

theorem pay10 : k0_pay10 (F := Ideal) (nm (φ := .f32) (tC A)) (nm (φ := .f32) (tA A)) (nm (φ := .f32) (tB A)) (nm (φ := .f32) fun r c => D r (128 * 0 + c)) = nm fun r c => rot A D r (128 * 0 + c) := by
  unfold k0_pay10 k0_pay6 k0_pay7 k0_pay8
  simp only [shapeCast_self]
  exact turn A D 0 _ _
theorem pay11 : k0_pay11 (F := Ideal) (nm (φ := .f32) (tC A)) (nm (φ := .f32) (tA A)) (nm (φ := .f32) (tB A)) (nm (φ := .f32) fun r c => D r (128 * 1 + c)) = nm fun r c => rot A D r (128 * 1 + c) := by
  unfold k0_pay11 k0_pay6 k0_pay7 k0_pay8
  simp only [shapeCast_self]
  exact turn A D 1 _ _

theorem cols4 (a : ℕ → ℕ → ℝ) {v2 v3 : FVec Ideal S512x128 .f32} (e2 : v2 = nm fun r c => a r (128 * 2 + c)) (e3 : v3 = nm fun r c => a r (128 * 3 + c)) :
    concatenate S512x512 1 [⟨S512x128, (nm fun r c => a r (128 * 0 + c) : FVec Ideal S512x128 .f32)⟩, ⟨S512x128, (nm fun r c => a r (128 * 1 + c) : FVec Ideal S512x128 .f32)⟩,
      ⟨S512x128, v2⟩, ⟨S512x128, v3⟩] concatenates_S512x128_S512x128_S512x128_S512x128_S512x512_d1 = nm a := by
  subst e2 e3
  exact concat4_cols a _

theorem pay12 : k0_pay12 (F := Ideal) (nm (φ := .f32) (tC A)) (nm (φ := .f32) (tA A)) (nm (φ := .f32) (tB A)) (nm (φ := .f32) fun r c => rot A D r (128 * 0 + c)) (nm (φ := .f32) fun r c => rot A D r (128 * 1 + c))
    (nm (φ := .f32) fun r c => D r (128 * 2 + c)) (nm (φ := .f32) fun r c => D r (128 * 3 + c)) = nm (rot A D) := by
  unfold k0_pay12
  exact cols4 (rot A D) (by simp only [shapeCast_self]; exact turn A D 2 _ _) (by simp only [shapeCast_self]; exact turn A D 3 _ _)

theorem pay15 : k0_pay15 (F := Ideal) (nm (φ := .f32) X) (nm (φ := .bf16) gm) = nm (hrs X) := by
  unfold k0_pay15 k0_pay13 k0_pay14
  simp only [shapeCast_self]
  rw [mulf_nm, truncf_nm, mean_nm dot_S512x512_S512x512_S512x512_1_0_0_1_n_n rfl (by norm_num), splat_nm _ eps ofBits_eps, addf_nm]
  exact rsqrt_nm (hms X) (hms_pos X)

theorem pay16 : k0_pay16 (F := Ideal) (nm (φ := .f32) X) (nm (φ := .bf16) gm) = nm (hnx X) := by
  unfold k0_pay16
  dsimp only
  rw [pay15]
  unfold k0_pay13
  simp only [shapeCast_self]
  exact mulf_nm X (hrs X)

/-- The queries' part of a gradient block. -/
theorem pay17 : k0_pay26 (k0_pay17 (F := Ideal) (nm (φ := .f32) (tC A)) (nm (φ := .f32) (tA A)) (nm (φ := .f32) (tB A)) (nm (φ := .f32) fun r c => rot A D r (128 * 0 + c)) (nm (φ := .f32) fun r c => rot A D r (128 * 1 + c))
    (nm (φ := .f32) fun r c => D r (128 * 2 + c)) (nm (φ := .f32) fun r c => D r (128 * 3 + c)) (nm (φ := .f32) X) (nm (φ := .bf16) gm) (nm (φ := .f32) g)) = nm (hgx X (rot A D) g) := by
  unfold k0_pay26 k0_pay17
  dsimp only
  rw [pay12, pay15, pay16]
  unfold k0_pay14
  simp only [shapeCast_self]
  rw [spreadRow_nm (by norm_num), mulf_nm, mulf_nm, truncf_nm, mean_nm dot_S512x512_S512x512_S512x512_1_0_0_1_n_n rfl (by norm_num), mulf_nm, subf_nm, mulf_nm,
    truncf_nm]
  rfl

/-- The query gain's part of a gradient block. -/
theorem pay18 : k0_pay18 (F := Ideal) (nm (φ := .f32) (tC A)) (nm (φ := .f32) (tA A)) (nm (φ := .f32) (tB A)) (nm (φ := .f32) fun r c => rot A D r (128 * 0 + c)) (nm (φ := .f32) fun r c => rot A D r (128 * 1 + c))
    (nm (φ := .f32) fun r c => D r (128 * 2 + c)) (nm (φ := .f32) fun r c => D r (128 * 3 + c)) (nm (φ := .f32) X) (nm (φ := .bf16) gm) = nm fun _ c => ∑ r ∈ Finset.range 512, hdg X (rot A D) r c := by
  unfold k0_pay18
  dsimp only
  rw [pay12, pay16, mulf_nm]
  exact colSum_nm _ _ _ _ _

/-- Four blocks of rows, each recast to its own shape. -/
theorem rows4 (a : ℕ → ℕ → ℝ) {v0 v1 v2 v3 : FVec Ideal S128x128 .f32} (e0 : v0 = nm fun r c => a (128 * 0 + r) c) (e1 : v1 = nm fun r c => a (128 * 1 + r) c)
    (e2 : v2 = nm fun r c => a (128 * 2 + r) c) (e3 : v3 = nm fun r c => a (128 * 3 + r) c) :
    concatenate S512x128 0 [⟨S128x128, v0⟩, ⟨S128x128, v1⟩, ⟨S128x128, v2⟩, ⟨S128x128, v3⟩] concatenates_S128x128_S128x128_S128x128_S128x128_S512x128_d0 = nm a := by
  subst e0 e1 e2 e3
  exact concat4_rows a _

theorem pay20 : k0_pay20 (F := Ideal) (nm (φ := .f32) (tC A)) (nm (φ := .f32) (tA A)) (nm (φ := .f32) (tB A)) (nb fun _ c => c < 64)
    (nm (φ := .f32) fun r c => D (128 * 0 + r) c) (nm (φ := .f32) fun r c => D (128 * 1 + r) c) (nm (φ := .f32) fun r c => D (128 * 2 + r) c) (nm (φ := .f32) fun r c => D (128 * 3 + r) c)
    (nm (φ := .f32) fun r c => D (128 * 0 + r) (128 + c)) (nm (φ := .f32) fun r c => D (128 * 1 + r) (128 + c)) (nm (φ := .f32) fun r c => D (128 * 2 + r) (128 + c))
    (nm (φ := .f32) fun r c => D (128 * 3 + r) (128 + c)) = nm (rot A (fold D)) := by
  unfold k0_pay20
  simp only [shapeCast_self]
  rw [rows4 (fun r c => D r c) (shapeCast_self _ _) (shapeCast_self _ _) (shapeCast_self _ _) (shapeCast_self _ _),
    rows4 (fun r c => D r (128 + c)) (shapeCast_self _ _) (shapeCast_self _ _) (shapeCast_self _ _) (shapeCast_self _ _), fold_nm]
  exact rot_nm A (fold D) _ _

theorem pay23 : k0_pay23 (F := Ideal) (nm (φ := .f32) X) (nm (φ := .bf16) gm) = nm (hrs X) := by
  unfold k0_pay23
  dsimp only
  rw [mulf_nm, truncf_nm, mean_nm dot_S512x128_S128x128_S512x128_1_0_0_1_n_n rfl (by norm_num), splat_nm _ eps ofBits_eps, addf_nm]
  exact rsqrt_nm (hms X) (hms_pos X)

theorem pay24 : k0_pay24 (F := Ideal) (nm (φ := .f32) X) (nm (φ := .bf16) gm) = nm (hnx X) := by
  unfold k0_pay24
  dsimp only
  rw [pay23]
  exact mulf_nm X (hrs X)

theorem pay25 : k0_pay25 (F := Ideal) (nm (φ := .f32) X) (nm (φ := .f32) D) (nm (φ := .bf16) gm) = nm fun _ c => ∑ r ∈ Finset.range 512, hdg X D r c := by
  unfold k0_pay25
  dsimp only
  rw [pay24, mulf_nm]
  exact colSum_nm _ _ _ _ _

/-- The keys' part of a gradient block. -/
theorem pay27 : k0_pay27 (F := Ideal) (nm (φ := .f32) X) (nm (φ := .f32) D) (nm (φ := .bf16) gm) (nm (φ := .f32) g) = nm (hgx X D g) := by
  unfold k0_pay27
  dsimp only
  rw [pay23, pay24, spreadRow_nm (by norm_num), mulf_nm, mulf_nm, truncf_nm, mean_nm dot_S512x128_S128x128_S512x128_1_0_0_1_n_n rfl (by norm_num), mulf_nm, subf_nm,
    mulf_nm, truncf_nm]
  rfl

/-- The values' part of a gradient block. -/
theorem pay1 : k0_pay1 (F := Ideal) (nb fun _ c => c < 64)
    (k0_pay28 (nm (φ := .f32) fun r c => D (128 * 0 + r) c) (nm (φ := .f32) fun r c => D (128 * 1 + r) c) (nm (φ := .f32) fun r c => D (128 * 2 + r) c) (nm (φ := .f32) fun r c => D (128 * 3 + r) c))
    (k0_pay29 (nm (φ := .f32) fun r c => D (128 * 0 + r) (128 + c))) (k0_pay30 (nm (φ := .f32) fun r c => D (128 * 1 + r) (128 + c))) (nm (φ := .f32) fun r c => D (128 * 2 + r) (128 + c))
    (nm (φ := .f32) fun r c => D (128 * 3 + r) (128 + c)) = nm (fold D) := by
  unfold k0_pay1 k0_pay28 k0_pay29 k0_pay30
  simp only [shapeCast_self]
  rw [rows4 (fun r c => D r c) (shapeCast_self _ _) (shapeCast_self _ _) (shapeCast_self _ _) (shapeCast_self _ _),
    rows4 (fun r c => D r (128 + c)) (shapeCast_self _ _) (shapeCast_self _ _) (shapeCast_self _ _) (shapeCast_self _ _), fold_nm]
  exact truncf_nm _ _

theorem pay2 (a b : ℕ → ℕ → ℝ) : k0_pay2 (F := Ideal) (nm (φ := .f32) a) (nm (φ := .f32) b) = nm fun r c => b r c + a r c := by
  unfold k0_pay2
  simp only [shapeCast_self]
  exact addf_nm b a
theorem pay3 (a b : ℕ → ℕ → ℝ) : k0_pay3 (F := Ideal) (nm (φ := .f32) a) (nm (φ := .f32) b) = nm fun r c => b r c + a r c := by
  unfold k0_pay3
  simp only [shapeCast_self]
  exact addf_nm b a

end Cert.QkGradIdeal.Pay

end
-- ==== Proof.QkGrad.Body.lean ====
/- What one grid point of the query-and-key gradient kernel leaves in its four output blocks, over the reals. -/
module

public import proofs.«01_k».proof.Proof.QkGrad.Run
public import proofs.«01_k».proof.Proof.QkGrad.Data
public import proofs.«01_k».proof.Proof.QkGrad.Pay
public import Idealize.ShloMosaic.Lib.Pipeline.ReadBack
public import Idealize.ShloMosaic.Lib.Pipeline.ValueKit.Tiles

@[expose] public section

set_option maxRecDepth 16384

noncomputable section

open Idealize.ShloMosaic Idealize.ShloMosaic.TcCoe Idealize.SL.Sem Cert.Lift

namespace Cert.QkGradIdeal.Body

open Cert.QkGradIdeal Cert.QkGradIdeal.Gen Cert.QkGradIdeal.Pay Cert.QkGradIdeal.Host0 Cert.QkGradIdeal.Run

theorem hz : (![0, 0] : Fin 2 → Nat) = fun _ => 0 := funext fun a => by fin_cases a <;> rfl

/-- The rows of point `t`. -/
def sh (t : ℕ) (f : ℕ → ℕ → ℝ) (r c : ℕ) : ℝ := f (512 * t + r) c

theorem ld_cols (a : ℕ → ℕ → ℝ) (o s : ℕ) (h : o = 128 * s) (inb) :
    View.ld (Val := Elt Ideal) (e' := .f32) (nm a : FVec Ideal S512x512 .f32) (Rect.unit (s := S512x512) ![0, o] ![512, 128] inb)
      = (nm (fun r c => a r (128 * s + c)) : FVec Ideal S512x128 .f32) := by
  subst h
  exact (ld_nm a 0 _ inb).trans (nm_congr fun r _ c _ => by rw [Nat.zero_add])

theorem ld_left (a : ℕ → ℕ → ℝ) (inb) :
    View.ld (Val := Elt Ideal) (e' := .f32) (nm a : FVec Ideal S128x256 .f32) (Rect.unit (s := S128x256) ![0, 0] ![128, 128] inb)
      = (nm (fun r c => a r c) : FVec Ideal S128x128 .f32) :=
  (ld_nm a 0 0 inb).trans (nm_congr fun r _ c _ => by rw [Nat.zero_add, Nat.zero_add])

theorem ld_right (a : ℕ → ℕ → ℝ) (inb) :
    View.ld (Val := Elt Ideal) (e' := .f32) (nm a : FVec Ideal S128x256 .f32) (Rect.unit (s := S128x256) ![0, 128] ![128, 128] inb)
      = (nm (fun r c => a r (128 + c)) : FVec Ideal S128x128 .f32) :=
  (ld_nm a 0 128 inb).trans (nm_congr fun r _ c _ => by rw [Nat.zero_add])

theorem ld_gm (inb) :
    View.ld (Val := Elt Ideal) (e' := .bf16) (nm gm : FVec Ideal S512x512 .bf16) (Rect.unit (s := S512x512) ![0, 0] ![128, 128] inb)
      = (nm gm : FVec Ideal S128x128 .bf16) := by
  funext j
  show (nm gm : FVec Ideal S512x512 .bf16) _ = _
  rw [nm_apply, nm_apply]
  refine congrArg Real.toEReal (congrArg₂ gm ?_ ?_)
  · show 0 + 1 * (j 0).val = _; omega
  · show 0 + 1 * (j 1).val = _; omega

/-- Which block each input window shows at a point. -/
theorem idx : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val / 4 * 20 + t.val % 4 * 4 + 1 + 0 ∧ win0_3.index t (1 : Fin 2) = 0)
    ∧ (win0_4.index t (0 : Fin 2) = t.val / 4 * 20 + t.val % 4 * 4 + 1 + 1 ∧ win0_4.index t (1 : Fin 2) = 0)
    ∧ (win0_5.index t (0 : Fin 2) = t.val / 4 * 20 + t.val % 4 * 4 + 1 + 2 ∧ win0_5.index t (1 : Fin 2) = 0)
    ∧ (win0_6.index t (0 : Fin 2) = t.val / 4 * 20 + t.val % 4 * 4 + 1 + 3 ∧ win0_6.index t (1 : Fin 2) = 0)
    ∧ (win0_7.index t (0 : Fin 2) = t.val / 4 * 20 + t.val % 4 * 4 + 1 + 0 ∧ win0_7.index t (1 : Fin 2) = 0)
    ∧ (win0_8.index t (0 : Fin 2) = t.val / 4 * 20 + t.val % 4 * 4 + 1 + 1 ∧ win0_8.index t (1 : Fin 2) = 0)
    ∧ (win0_9.index t (0 : Fin 2) = t.val / 4 * 20 + t.val % 4 * 4 + 1 + 2 ∧ win0_9.index t (1 : Fin 2) = 0)
    ∧ (win0_10.index t (0 : Fin 2) = t.val / 4 * 20 + t.val % 4 * 4 + 1 + 3 ∧ win0_10.index t (1 : Fin 2) = 0)
    ∧ (win0_11.index t (0 : Fin 2) = 0 ∧ win0_11.index t (1 : Fin 2) = 0) ∧ (win0_12.index t (0 : Fin 2) = 0 ∧ win0_12.index t (1 : Fin 2) = 0)
    ∧ (win0_13.index t (0 : Fin 2) = 0 ∧ win0_13.index t (1 : Fin 2) = 0) ∧ (win0_14.index t (0 : Fin 2) = t.val ∧ win0_14.index t (1 : Fin 2) = 0)
    ∧ (win0_15.index t (0 : Fin 2) = t.val ∧ win0_15.index t (1 : Fin 2) = 0) ∧ (win0_16.index t (0 : Fin 2) = t.val ∧ win0_16.index t (1 : Fin 2) = 0) :=
  (by decide +kernel : ∀ t : Fin grid0.N, _)

/-- A block of the padded gradient is the unpadded rows that it stands for. -/
theorem pad_at (E : ℕ → ℕ → ℝ) (t j r c R C : ℕ) (ht : t < 8) (hj : j < 4) (hr : r < 128) (hR : R = (t / 4 * 20 + t % 4 * 4 + 1 + j) * 128 + r) (hC : C = c) :
    padR E R C = sh t E (128 * j + r) c := by
  subst hR hC
  unfold padR sh
  rw [if_pos (by omega)]
  congr 1
  omega

variable {m : (ℓ : Loc nD τ sig) → Buf (Elt Ideal) ℓ} {c : Dev nD} {X K D E W : ℕ → ℕ → ℝ} {gq gk : ℕ → ℝ} {P : ℕ → ℕ → BitVec 32}
  (H : Host0.Real m c X K D E W gq gk P) (t : Fin cfg0.N)

include H

theorem iblk0 : iblk m c 0 t = nm (φ := .f32) (sh t.val X) := by
  obtain ⟨a0, a1⟩ := (idx t).1
  funext j
  show V m c main_v23 (((cfg0.win 0).blk t).view.emb j) = _
  rw [(data X P m c H).2.1]
  exact congrArg Real.toEReal (congrArg₂ X (by show win0_0.index t (0 : Fin 2) * 512 + 1 * (j 0).val = 512 * t.val + (j 0).val; omega) (by show win0_0.index t (1 : Fin 2) * 512 + 1 * (j 1).val = (j 1).val; omega))

theorem iblk1 : iblk m c 1 t = nm (φ := .f32) (sh t.val K) := by
  obtain ⟨a0, a1⟩ := (idx t).2.1
  funext j
  show V m c main_v24 (((cfg0.win 1).blk t).view.emb j) = _
  rw [(data X P m c H).2.2.1]
  exact congrArg Real.toEReal (congrArg₂ K (by show win0_1.index t (0 : Fin 2) * 512 + 1 * (j 0).val = 512 * t.val + (j 0).val; omega) (by show win0_1.index t (1 : Fin 2) * 128 + 1 * (j 1).val = (j 1).val; omega))

theorem iblk2 : iblk m c 2 t = nm (φ := .f32) (sh t.val D) := by
  obtain ⟨a0, a1⟩ := (idx t).2.2.1
  funext j
  show V m c main_v25 (((cfg0.win 2).blk t).view.emb j) = _
  rw [(data X P m c H).2.2.2.1]
  exact congrArg Real.toEReal (congrArg₂ D (by show win0_2.index t (0 : Fin 2) * 512 + 1 * (j 0).val = 512 * t.val + (j 0).val; omega) (by show win0_2.index t (1 : Fin 2) * 512 + 1 * (j 1).val = (j 1).val; omega))

theorem iblk3 : iblk m c 3 t = nm (φ := .f32) (fun r c => sh t.val E (128 * 0 + r) c) := by
  obtain ⟨a0, a1⟩ := (idx t).2.2.2.1
  funext j
  show V m c main_v28 (((cfg0.win 3).blk t).view.emb j) = _
  rw [(data X P m c H).2.2.2.2.1]
  exact congrArg Real.toEReal (pad_at E t.val 0 (j 0).val (j 1).val _ _ t.isLt (by norm_num) (j 0).isLt
    (by show win0_3.index t (0 : Fin 2) * 128 + 1 * (j 0).val = _; rw [a0, Nat.one_mul]) (by show win0_3.index t (1 : Fin 2) * 256 + 1 * (j 1).val = (j 1).val; omega))

theorem iblk4 : iblk m c 4 t = nm (φ := .f32) (fun r c => sh t.val E (128 * 1 + r) c) := by
  obtain ⟨a0, a1⟩ := (idx t).2.2.2.2.1
  funext j
  show V m c main_v28 (((cfg0.win 4).blk t).view.emb j) = _
  rw [(data X P m c H).2.2.2.2.1]
  exact congrArg Real.toEReal (pad_at E t.val 1 (j 0).val (j 1).val _ _ t.isLt (by norm_num) (j 0).isLt
    (by show win0_4.index t (0 : Fin 2) * 128 + 1 * (j 0).val = _; rw [a0, Nat.one_mul]) (by show win0_4.index t (1 : Fin 2) * 256 + 1 * (j 1).val = (j 1).val; omega))

theorem iblk5 : iblk m c 5 t = nm (φ := .f32) (fun r c => sh t.val E (128 * 2 + r) c) := by
  obtain ⟨a0, a1⟩ := (idx t).2.2.2.2.2.1
  funext j
  show V m c main_v28 (((cfg0.win 5).blk t).view.emb j) = _
  rw [(data X P m c H).2.2.2.2.1]
  exact congrArg Real.toEReal (pad_at E t.val 2 (j 0).val (j 1).val _ _ t.isLt (by norm_num) (j 0).isLt
    (by show win0_5.index t (0 : Fin 2) * 128 + 1 * (j 0).val = _; rw [a0, Nat.one_mul]) (by show win0_5.index t (1 : Fin 2) * 256 + 1 * (j 1).val = (j 1).val; omega))

theorem iblk6 : iblk m c 6 t = nm (φ := .f32) (fun r c => sh t.val E (128 * 3 + r) c) := by
  obtain ⟨a0, a1⟩ := (idx t).2.2.2.2.2.2.1
  funext j
  show V m c main_v28 (((cfg0.win 6).blk t).view.emb j) = _
  rw [(data X P m c H).2.2.2.2.1]
  exact congrArg Real.toEReal (pad_at E t.val 3 (j 0).val (j 1).val _ _ t.isLt (by norm_num) (j 0).isLt
    (by show win0_6.index t (0 : Fin 2) * 128 + 1 * (j 0).val = _; rw [a0, Nat.one_mul]) (by show win0_6.index t (1 : Fin 2) * 256 + 1 * (j 1).val = (j 1).val; omega))

theorem iblk7 : iblk m c 7 t = nm (φ := .f32) (fun r c => sh t.val W (128 * 0 + r) c) := by
  obtain ⟨a0, a1⟩ := (idx t).2.2.2.2.2.2.2.1
  funext j
  show V m c main_v31 (((cfg0.win 7).blk t).view.emb j) = _
  rw [(data X P m c H).2.2.2.2.2.1]
  exact congrArg Real.toEReal (pad_at W t.val 0 (j 0).val (j 1).val _ _ t.isLt (by norm_num) (j 0).isLt
    (by show win0_7.index t (0 : Fin 2) * 128 + 1 * (j 0).val = _; rw [a0, Nat.one_mul]) (by show win0_7.index t (1 : Fin 2) * 256 + 1 * (j 1).val = (j 1).val; omega))

theorem iblk8 : iblk m c 8 t = nm (φ := .f32) (fun r c => sh t.val W (128 * 1 + r) c) := by
  obtain ⟨a0, a1⟩ := (idx t).2.2.2.2.2.2.2.2.1
  funext j
  show V m c main_v31 (((cfg0.win 8).blk t).view.emb j) = _
  rw [(data X P m c H).2.2.2.2.2.1]
  exact congrArg Real.toEReal (pad_at W t.val 1 (j 0).val (j 1).val _ _ t.isLt (by norm_num) (j 0).isLt
    (by show win0_8.index t (0 : Fin 2) * 128 + 1 * (j 0).val = _; rw [a0, Nat.one_mul]) (by show win0_8.index t (1 : Fin 2) * 256 + 1 * (j 1).val = (j 1).val; omega))

theorem iblk9 : iblk m c 9 t = nm (φ := .f32) (fun r c => sh t.val W (128 * 2 + r) c) := by
  obtain ⟨a0, a1⟩ := (idx t).2.2.2.2.2.2.2.2.2.1
  funext j
  show V m c main_v31 (((cfg0.win 9).blk t).view.emb j) = _
  rw [(data X P m c H).2.2.2.2.2.1]
  exact congrArg Real.toEReal (pad_at W t.val 2 (j 0).val (j 1).val _ _ t.isLt (by norm_num) (j 0).isLt
    (by show win0_9.index t (0 : Fin 2) * 128 + 1 * (j 0).val = _; rw [a0, Nat.one_mul]) (by show win0_9.index t (1 : Fin 2) * 256 + 1 * (j 1).val = (j 1).val; omega))

theorem iblk10 : iblk m c 10 t = nm (φ := .f32) (fun r c => sh t.val W (128 * 3 + r) c) := by
  obtain ⟨a0, a1⟩ := (idx t).2.2.2.2.2.2.2.2.2.2.1
  funext j
  show V m c main_v31 (((cfg0.win 10).blk t).view.emb j) = _
  rw [(data X P m c H).2.2.2.2.2.1]
  exact congrArg Real.toEReal (pad_at W t.val 3 (j 0).val (j 1).val _ _ t.isLt (by norm_num) (j 0).isLt
    (by show win0_10.index t (0 : Fin 2) * 128 + 1 * (j 0).val = _; rw [a0, Nat.one_mul]) (by show win0_10.index t (1 : Fin 2) * 256 + 1 * (j 1).val = (j 1).val; omega))

theorem iblk11 : iblk m c 11 t = nm (φ := .f32) (fun _ c => gq (c % 64)) := by
  obtain ⟨a0, a1⟩ := (idx t).2.2.2.2.2.2.2.2.2.2.2.1
  funext j
  show V m c main_v33 (((cfg0.win 11).blk t).view.emb j) = _
  rw [(data X P m c H).2.2.2.2.2.2.1]
  exact congrArg Real.toEReal (congrArg₂ (fun _ c => gq (c % 64)) (by show win0_11.index t (0 : Fin 2) * 1 + 1 * (j 0).val = (j 0).val; omega) (by show win0_11.index t (1 : Fin 2) * 512 + 1 * (j 1).val = (j 1).val; omega))

theorem iblk12 : iblk m c 12 t = nm (φ := .f32) (fun _ c => gk (c % 64)) := by
  obtain ⟨a0, a1⟩ := (idx t).2.2.2.2.2.2.2.2.2.2.2.2.1
  funext j
  show V m c main_v35 (((cfg0.win 12).blk t).view.emb j) = _
  rw [(data X P m c H).2.2.2.2.2.2.2.1]
  exact congrArg Real.toEReal (congrArg₂ (fun _ c => gk (c % 64)) (by show win0_12.index t (0 : Fin 2) * 1 + 1 * (j 0).val = (j 0).val; omega) (by show win0_12.index t (1 : Fin 2) * 128 + 1 * (j 1).val = (j 1).val; omega))

theorem iblk13 : iblk m c 13 t = nm (φ := .bf16) gm := by
  obtain ⟨a0, a1⟩ := (idx t).2.2.2.2.2.2.2.2.2.2.2.2.2.1
  funext j
  show V m c main_v22 (((cfg0.win 13).blk t).view.emb j) = _
  rw [(data X P m c H).1]
  exact congrArg Real.toEReal (congrArg₂ gm (by show win0_13.index t (0 : Fin 2) * 512 + 1 * (j 0).val = (j 0).val; omega) (by show win0_13.index t (1 : Fin 2) * 512 + 1 * (j 1).val = (j 1).val; omega))

theorem iblk14 : iblk m c 14 t = nm (φ := .f32) (tC (sh t.val (angR P))) := by
  obtain ⟨a0, a1⟩ := (idx t).2.2.2.2.2.2.2.2.2.2.2.2.2.2.1
  funext j
  show V m c main_v39 (((cfg0.win 14).blk t).view.emb j) = _
  rw [(data X P m c H).2.2.2.2.2.2.2.2.1]
  refine congrArg Real.toEReal (Eq.trans (congrArg₂ (tC (angR P)) (show _ = 512 * t.val + (j 0).val from ?_) (show _ = (j 1).val from ?_)) rfl)
  · show win0_14.index t (0 : Fin 2) * 512 + 1 * (j 0).val = 512 * t.val + (j 0).val; omega
  · show win0_14.index t (1 : Fin 2) * 128 + 1 * (j 1).val = (j 1).val; omega

theorem iblk15 : iblk m c 15 t = nm (φ := .f32) (tA (sh t.val (angR P))) := by
  obtain ⟨a0, a1⟩ := (idx t).2.2.2.2.2.2.2.2.2.2.2.2.2.2.2.1
  funext j
  show V m c main_v44 (((cfg0.win 15).blk t).view.emb j) = _
  rw [(data X P m c H).2.2.2.2.2.2.2.2.2.1]
  refine congrArg Real.toEReal (Eq.trans (congrArg₂ (tA (angR P)) (show _ = 512 * t.val + (j 0).val from ?_) (show _ = (j 1).val from ?_)) rfl)
  · show win0_15.index t (0 : Fin 2) * 512 + 1 * (j 0).val = 512 * t.val + (j 0).val; omega
  · show win0_15.index t (1 : Fin 2) * 128 + 1 * (j 1).val = (j 1).val; omega

theorem iblk16 : iblk m c 16 t = nm (φ := .f32) (tB (sh t.val (angR P))) := by
  obtain ⟨a0, a1⟩ := (idx t).2.2.2.2.2.2.2.2.2.2.2.2.2.2.2.2
  funext j
  show V m c main_v48 (((cfg0.win 16).blk t).view.emb j) = _
  rw [(data X P m c H).2.2.2.2.2.2.2.2.2.2]
  refine congrArg Real.toEReal (Eq.trans (congrArg₂ (tB (angR P)) (show _ = 512 * t.val + (j 0).val from ?_) (show _ = (j 1).val from ?_)) rfl)
  · show win0_16.index t (0 : Fin 2) * 512 + 1 * (j 0).val = 512 * t.val + (j 0).val; omega
  · show win0_16.index t (1 : Fin 2) * 128 + 1 * (j 1).val = (j 1).val; omega

end Cert.QkGradIdeal.Body

end
-- ==== Proof.QkGrad.Outs.lean ====
/- What one grid point of the query-and-key gradient kernel leaves in its four output blocks, over the reals. -/
module

public import proofs.«01_k».proof.Proof.QkGrad.Body

@[expose] public section

set_option maxRecDepth 16384

noncomputable section

open Idealize.ShloMosaic Idealize.ShloMosaic.TcCoe Idealize.ShloMosaic.Tactic Idealize.SL.Sem Cert.Lift

namespace Cert.QkGradIdeal.Body

open Cert.QkGradIdeal Cert.QkGradIdeal.Gen Cert.QkGradIdeal.Pay Cert.QkGradIdeal.Host0 Cert.QkGradIdeal.Run

/-- Two blocks of 128 columns. -/
theorem halves (y : ℕ → ℕ → ℝ) (i₁ i₂) (v₁ v₂ : FVec Ideal S512x128 .bf16) (h₁ : v₁ = nm fun r c => y r (128 + c)) (h₂ : v₂ = nm fun r c => y r c) :
    View.canon (Val := Elt Ideal) (s := S512x256) (e := .bf16) [⟨Rect.unit (s := S512x256) ![0, 128] ![512, 128] i₁, v₁⟩, ⟨Rect.unit (s := S512x256) ![0, 0] ![512, 128] i₂, v₂⟩]
      = (nm y : FVec Ideal S512x256 .bf16) := by
  subst h₁ h₂
  funext j
  have h0 : (j 0).val < 512 := (j 0).isLt
  have h1 : (j 1).val < 256 := (j 1).isLt
  by_cases h : (j 1).val < 128
  · rw [View.canon_cons_of_not_mem _ _ (by
      rw [Rect.mem_set_unit]; intro hm
      have := (hm (1 : Fin 2)).1
      have e : 128 ≤ (j 1).val := this
      omega)]
    have e : j = (Rect.unit (s := S512x256) ![0, 0] ![512, 128] i₂).emb (ValueIdx.ix2 (⟨(j 0).val, h0⟩ : Fin 512) (⟨(j 1).val, h⟩ : Fin 128)) := funext fun a => Fin.ext (by
      match a with
      | ⟨0, _⟩ => show (j 0).val = 0 + 1 * (j 0).val; omega
      | ⟨1, _⟩ => show (j 1).val = 0 + 1 * (j 1).val; omega)
    conv_lhs => rw [e]
    exact View.canon_cons_emb _ _ _ _
  · have e : j = (Rect.unit (s := S512x256) ![0, 128] ![512, 128] i₁).emb (ValueIdx.ix2 (⟨(j 0).val, h0⟩ : Fin 512) (⟨(j 1).val - 128, by omega⟩ : Fin 128)) := funext fun a => Fin.ext (by
      match a with
      | ⟨0, _⟩ => show (j 0).val = 0 + 1 * (j 0).val; omega
      | ⟨1, _⟩ => show (j 1).val = 128 + 1 * ((j 1).val - 128); omega)
    conv_lhs => rw [e]
    refine (View.canon_cons_emb _ _ _ _).trans (congrArg Real.toEReal (congrArg (y (j 0).val) ?_))
    show 128 + ((j 1).val - 128) = (j 1).val
    omega

variable {m : (ℓ : Loc nD τ sig) → Buf (Elt Ideal) ℓ} {c : Dev nD} {X K D E W : ℕ → ℕ → ℝ} {gq gk : ℕ → ℝ} {P : ℕ → ℕ → BitVec 32}
  (H : Host0.Real m c X K D E W gq gk P) (t : Fin cfg0.N)

/-- A gain's row. -/
def gr (g : ℕ → ℝ) (_ c : ℕ) : ℝ := g (c % 64)
/-- The queries' gradient on the rows of a point. -/
def qA (X D : ℕ → ℕ → ℝ) (gq : ℕ → ℝ) (P : ℕ → ℕ → BitVec 32) (t : ℕ) : ℕ → ℕ → ℝ := hgx (sh t X) (rot (sh t (angR P)) (sh t D)) (gr gq)
/-- The keys' and the values' gradients. -/
def kA (K E W : ℕ → ℕ → ℝ) (gk : ℕ → ℝ) (P : ℕ → ℕ → BitVec 32) (t r c : ℕ) : ℝ :=
  if c < 128 then hgx (sh t K) (rot (sh t (angR P)) (fold (sh t E))) (gr gk) r c else fold (sh t W) r (c - 128)
/-- A point's part of the gains' gradients. -/
def qG (X D : ℕ → ℕ → ℝ) (P : ℕ → ℕ → BitVec 32) (t c : ℕ) : ℝ := ∑ r ∈ Finset.range 512, hdg (sh t X) (rot (sh t (angR P)) (sh t D)) r c
def kG (K E : ℕ → ℕ → ℝ) (P : ℕ → ℕ → BitVec 32) (t c : ℕ) : ℝ := ∑ r ∈ Finset.range 512, hdg (sh t K) (rot (sh t (angR P)) (fold (sh t E))) r c

include H

omit H in
theorem cast6 (x : Vec Ideal S512x128 .f32) : k0_pay6 x = x := by unfold k0_pay6; exact shapeCast_self _ _
omit H in
theorem cast7 (x : Vec Ideal S512x128 .f32) : k0_pay7 x = x := by unfold k0_pay7; exact shapeCast_self _ _
omit H in
theorem cast8 (x : Vec Ideal S512x128 .f32) : k0_pay8 x = x := by unfold k0_pay8; exact shapeCast_self _ _
omit H in
theorem cast19 (x : Vec Ideal S512x128 .f32) : k0_pay19 x = x := by unfold k0_pay19; exact shapeCast_self _ _
omit H in
theorem cast21 (x : Vec Ideal S128x128 .bf16) : k0_pay21 x = x := by unfold k0_pay21; exact shapeCast_self _ _
omit H in
theorem cast22 (x : Vec Ideal S1x128 .f32) : k0_pay22 x = x := by unfold k0_pay22; exact shapeCast_self _ _

omit H in
theorem left_half (K E W : ℕ → ℕ → ℝ) (gk : ℕ → ℝ) (P : ℕ → ℕ → BitVec 32) (t : ℕ) :
    (nm (hgx (sh t K) (rot (sh t (angR P)) (fold (sh t E))) (gr gk)) : FVec Ideal S512x128 .bf16) = nm fun r c => kA K E W gk P t r c :=
  nm_congr fun r _ c hc => (if_pos hc).symm
omit H in
theorem right_half (K E W : ℕ → ℕ → ℝ) (gk : ℕ → ℝ) (P : ℕ → ℕ → BitVec 32) (t : ℕ) :
    (nm (fold (sh t W)) : FVec Ideal S512x128 .bf16) = nm fun r c => kA K E W gk P t r (128 + c) :=
  nm_congr fun r _ c hc => by unfold kA; rw [if_neg (by omega), Nat.add_sub_cancel_left]

set_option maxHeartbeats 4000000 in
/-- What the first point leaves. -/
theorem outs_A (h : t.val = 0) : outs m c t.val t.isLt =
    (nm (φ := .bf16) (qA X D gq P t.val), nm (φ := .bf16) (kA K E W gk P t.val), nm (φ := .f32) (fun _ c => qG X D P t.val c), nm (φ := .f32) (fun _ c => kG K E P t.val c)) := by
  rw [outs_first m c t h]
  unfold left
  simp only [View.read_writes_junk_eq_canon]
  unfold runA Point.first
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    View.ld_unit_zero (S := S512x512) hz, View.ld_unit_zero (S := S512x128) hz, View.ld_unit_zero (S := S1x512) hz, View.ld_unit_zero (S := S1x128) hz,
    iblk0 H, iblk1 H, iblk2 H, iblk3 H, iblk4 H, iblk5 H, iblk6 H, iblk7 H, iblk8 H, iblk9 H, iblk10 H, iblk11 H, iblk12 H, iblk13 H, iblk14 H, iblk15 H, iblk16 H,
    ld_cols _ 0 0 rfl, ld_cols _ 128 1 rfl, ld_cols _ 256 2 rfl, ld_cols _ 384 3 rfl, ld_left, ld_right, ld_gm]
  simp only [cast6, cast7, cast8, cast19, cast21, cast22, pay9, pay10, pay11, pay20, pay17, pay18, pay27, pay1, pay25]
  refine congrArg₂ Prod.mk (View.canon_unit_zero hz _ _) (congrArg₂ Prod.mk ?_ (congrArg₂ Prod.mk ?_ ?_))
  · exact halves (kA K E W gk P t.val) _ _ _ _ (right_half K E W gk P t.val) (left_half K E W gk P t.val)

  · rw [View.canon_cons_unit_zero hz, View.readCov_unit_zero (S := S1x512) _ hz, pay4]
    exact (pay2 _ _).trans (nm_congr fun r _ c _ => zero_add _)
  · rw [View.canon_cons_unit_zero hz, View.readCov_unit_zero (S := S1x128) _ hz, pay5]
    exact (pay3 _ _).trans (nm_congr fun r _ c _ => zero_add _)

set_option maxHeartbeats 4000000 in
/-- What a later point leaves, given the gains' gradients before it. -/
theorem outs_B (h : t.val ≠ 0) (a b : ℕ → ℕ → ℝ) (ha : (prev m c t).2.2.1 = nm (φ := .f32) a) (hb : (prev m c t).2.2.2 = nm (φ := .f32) b) : outs m c t.val t.isLt =
    (nm (φ := .bf16) (qA X D gq P t.val), nm (φ := .bf16) (kA K E W gk P t.val), nm (φ := .f32) (fun r c => a r c + qG X D P t.val c), nm (φ := .f32) (fun r c => b r c + kG K E P t.val c)) := by
  rw [outs_later m c t h, ha, hb]
  unfold left
  simp only [View.read_writes_junk_eq_canon]
  unfold runB Point.later
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_19 t).read_unread, (hs0_20 t).read_unread,
    View.ld_unit_zero (S := S512x512) hz, View.ld_unit_zero (S := S512x128) hz, View.ld_unit_zero (S := S1x512) hz, View.ld_unit_zero (S := S1x128) hz,
    iblk0 H, iblk1 H, iblk2 H, iblk3 H, iblk4 H, iblk5 H, iblk6 H, iblk7 H, iblk8 H, iblk9 H, iblk10 H, iblk11 H, iblk12 H, iblk13 H, iblk14 H, iblk15 H, iblk16 H,
    ld_cols _ 0 0 rfl, ld_cols _ 128 1 rfl, ld_cols _ 256 2 rfl, ld_cols _ 384 3 rfl, ld_left, ld_right, ld_gm]
  simp only [cast6, cast7, cast8, cast19, cast21, cast22, pay9, pay10, pay11, pay20, pay17, pay18, pay27, pay1, pay25]
  refine congrArg₂ Prod.mk (View.canon_unit_zero hz _ _) (congrArg₂ Prod.mk ?_ (congrArg₂ Prod.mk ?_ ?_))
  · exact halves (kA K E W gk P t.val) _ _ _ _ (right_half K E W gk P t.val) (left_half K E W gk P t.val)
  · exact (View.canon_unit_zero hz _ _).trans (pay2 _ _)
  · exact (View.canon_unit_zero hz _ _).trans (pay3 _ _)

/-- After point `n` the gains' gradients are the sums of the parts of the points up to it. -/
theorem acc (n : ℕ) (hn : n < cfg0.N) : (outs m c n hn).2.2 =
    (nm (φ := .f32) (fun _ c => ∑ t ∈ Finset.range (n + 1), qG X D P t c), nm (φ := .f32) (fun _ c => ∑ t ∈ Finset.range (n + 1), kG K E P t c)) := by
  induction n with
  | zero =>
    rw [outs_A H ⟨0, hn⟩ rfl]
    simp only [zero_add, Finset.sum_range_one]
  | succ n ih =>
    have e := ih (Nat.lt_of_succ_lt hn)
    have ha : (prev m c ⟨n + 1, hn⟩).2.2.1 = nm (φ := .f32) (fun _ c => ∑ t ∈ Finset.range (n + 1), qG X D P t c) := congrArg Prod.fst e
    have hb : (prev m c ⟨n + 1, hn⟩).2.2.2 = nm (φ := .f32) (fun _ c => ∑ t ∈ Finset.range (n + 1), kG K E P t c) := congrArg Prod.snd e
    rw [outs_B H ⟨n + 1, hn⟩ (Nat.succ_ne_zero n) _ _ ha hb]
    simp only [Finset.sum_range_succ _ (n + 1)]

/-- The two blocks of gradients that a point leaves. -/
theorem blocks : (outs m c t.val t.isLt).1 = nm (φ := .bf16) (qA X D gq P t.val) ∧ (outs m c t.val t.isLt).2.1 = nm (φ := .bf16) (kA K E W gk P t.val) := by
  by_cases h : t.val = 0
  · rw [outs_A H t h]; exact ⟨rfl, rfl⟩
  · obtain ⟨t, ht⟩ := t
    cases t with
    | zero => exact absurd rfl h
    | succ n =>
      have e := acc H n (Nat.lt_of_succ_lt ht)
      have ha : (prev m c ⟨n + 1, ht⟩).2.2.1 = nm (φ := .f32) (fun _ c => ∑ t ∈ Finset.range (n + 1), qG X D P t c) := congrArg Prod.fst e
      have hb : (prev m c ⟨n + 1, ht⟩).2.2.2 = nm (φ := .f32) (fun _ c => ∑ t ∈ Finset.range (n + 1), kG K E P t c) := congrArg Prod.snd e
      rw [outs_B H ⟨n + 1, ht⟩ h _ _ ha hb]
      exact ⟨rfl, rfl⟩

end Cert.QkGradIdeal.Body

end
-- ==== Proof.QkGrad.Arr.lean ====
/- The query-and-key gradient kernel's four result arrays over the reals. -/
module

public import proofs.«01_k».proof.Proof.QkGrad.Outs
public import Idealize.ShloMosaic.Lib.Pipeline.Value

@[expose] public section

set_option maxRecDepth 16384

noncomputable section

open Idealize.ShloMosaic Idealize.ShloMosaic.TcCoe Idealize.SL.Sem Cert.Lift
open scoped BigOperators

namespace Cert.QkGradIdeal.Arr

open Cert.QkGradIdeal Cert.QkGradIdeal.Gen Cert.QkGradIdeal.Host0 Cert.QkGradIdeal.Body Cert.QkGradIdeal.Run

/-- A sum over points and the rows of their blocks is a sum over rows. -/
theorem sum_rows (f : ℕ → ℝ) (n : ℕ) : ∑ t ∈ Finset.range n, ∑ r ∈ Finset.range 512, f (512 * t + r) = ∑ r ∈ Finset.range (512 * n), f r := by
  induction n with
  | zero => rfl
  | succ n ih => rw [Finset.sum_range_succ, ih, Nat.mul_succ, Finset.sum_range_add]

/-- Row `r` of point `t`'s block. -/
def row (t : Fin cfg0.N) (r : Fin 512) : Fin 4096 := ⟨512 * t.val + r.val, by have : t.val < 8 := t.isLt; omega⟩
theorem row_split (r : Fin 4096) : ∃ (t : Fin cfg0.N) (k : Fin 512), row t k = r :=
  ⟨⟨r.val / 512, by show r.val / 512 < 8; omega⟩, ⟨r.val % 512, Nat.mod_lt _ (by omega)⟩, Fin.ext (by show 512 * (r.val / 512) + r.val % 512 = r.val; omega)⟩

/-- The queries' gradient. -/
def dQ (X D : ℕ → ℕ → ℝ) (gq : ℕ → ℝ) (P : ℕ → ℕ → BitVec 32) : ℕ → ℕ → ℝ := hgx X (rot (angR P) D) (gr gq)
/-- The keys' gradient beside the values'. -/
def dK (K E W : ℕ → ℕ → ℝ) (gk : ℕ → ℝ) (P : ℕ → ℕ → BitVec 32) (r c : ℕ) : ℝ := if c < 128 then hgx K (rot (angR P) (fold E)) (gr gk) r c else fold W r (c - 128)
/-- A gain's gradient, per head. -/
def dG (X D : ℕ → ℕ → ℝ) (P : ℕ → ℕ → BitVec 32) (_ c : ℕ) : ℝ := ∑ r ∈ Finset.range 4096, hdg X (rot (angR P) D) r c

variable {m : (ℓ : Loc nD τ sig) → Buf (Elt Ideal) ℓ} {c : Dev nD} {X K D E W : ℕ → ℕ → ℝ} {gq gk : ℕ → ℝ} {P : ℕ → ℕ → BitVec 32}
  (H : Host0.Real m c X K D E W gq gk P) (t : Fin cfg0.N)

/-- The rows of a point, of the whole array's formulas. -/
theorem qA_eq (r c : ℕ) : qA X D gq P t.val r c = dQ X D gq P (512 * t.val + r) c := rfl
theorem kA_eq (r c : ℕ) : kA K E W gk P t.val r c = dK K E W gk P (512 * t.val + r) c := rfl
theorem qG_eq (c : ℕ) : ∑ t ∈ Finset.range 8, qG X D P t c = dG X D P 0 c := sum_rows (fun r => hdg X (rot (angR P) D) r c) 8
theorem kG_eq (c : ℕ) : ∑ t ∈ Finset.range 8, kG K E P t c = dG K (fold E) P 0 c := sum_rows (fun r => hdg K (rot (angR P) (fold E)) r c) 8

theorem flushed17 : (dats m 0 c).flushed 17 t = (cfg0.win 17).cut (grid0.coords t) ((outs m c t.val t.isLt).1) := by
  show (cfg0.win 17).cut (grid0.coords t) ((dats m 0 c).after 17 t) = _
  dsimp only [dats]

theorem flushed18 : (dats m 0 c).flushed 18 t = (cfg0.win 18).cut (grid0.coords t) ((outs m c t.val t.isLt).2.1) := by
  show (cfg0.win 18).cut (grid0.coords t) ((dats m 0 c).after 18 t) = _
  dsimp only [dats]

theorem flushed19 : (dats m 0 c).flushed 19 t = (cfg0.win 19).cut (grid0.coords t) ((outs m c t.val t.isLt).2.2.1) := by
  show (cfg0.win 19).cut (grid0.coords t) ((dats m 0 c).after 19 t) = _
  dsimp only [dats]

theorem flushed20 : (dats m 0 c).flushed 20 t = (cfg0.win 20).cut (grid0.coords t) ((outs m c t.val t.isLt).2.2.2) := by
  show (cfg0.win 20).cut (grid0.coords t) ((dats m 0 c).after 20 t) = _
  dsimp only [dats]

theorem emb17 (r : Fin 512) (e : Fin 512) : ((cfg0.win 17).blk t).view.emb (ValueIdx.ix2 r e)
    = ValueIdx.ix2 (row t r) e := by
  obtain ⟨a0, a1⟩ : win0_17.index t (0 : Fin 2) = t.val ∧ win0_17.index t (1 : Fin 2) = 0 := (by decide +kernel : ∀ t : Fin grid0.N, win0_17.index t (0 : Fin 2) = t.val ∧ win0_17.index t (1 : Fin 2) = 0) t
  funext a; apply Fin.ext
  match a with
  | ⟨0, _⟩ => show win0_17.index t (0 : Fin 2) * 512 + 1 * r.val = 512 * t.val + r.val; omega
  | ⟨1, _⟩ => show win0_17.index t (1 : Fin 2) * 512 + 1 * e.val = e.val; omega

include H in
set_option maxHeartbeats 2000000 in
theorem final17 : (dats m 0 c).arrAt 17 cfg0.N = nm (φ := .bf16) (dQ X D gq P) :=
  (dats m 0 c).arrAt_eq_of_cover 17 (nm (φ := .bf16) (dQ X D gq P)) (fun t _ => by
    rw [flushed17, (blocks H t).1]
    funext j
    obtain ⟨r, e, rfl⟩ : ∃ (r : Fin 512) (e : Fin 512), j = ValueIdx.ix2 r e := ⟨j 0, j 1, ValueIdx.eq_ix2 j⟩
    refine Eq.trans ?_ (congrArg (nm (φ := .bf16) (dQ X D gq P)) (emb17 t r e).symm)
    exact congrArg Real.toEReal (qA_eq t r.val e.val))
    (fun i => by
    obtain ⟨r, e, rfl⟩ : ∃ (r : Fin 4096) (e : Fin 512), i = ValueIdx.ix2 r e := ⟨i 0, i 1, ValueIdx.eq_ix2 i⟩
    obtain ⟨t, k, rfl⟩ := row_split r
    exact ⟨t, flush0_17 t, emb17 t k e ▸ View.emb_mem_set _ _⟩)

theorem emb18 (r : Fin 512) (e : Fin 256) : ((cfg0.win 18).blk t).view.emb (ValueIdx.ix2 r e)
    = ValueIdx.ix2 (row t r) e := by
  obtain ⟨a0, a1⟩ : win0_18.index t (0 : Fin 2) = t.val ∧ win0_18.index t (1 : Fin 2) = 0 := (by decide +kernel : ∀ t : Fin grid0.N, win0_18.index t (0 : Fin 2) = t.val ∧ win0_18.index t (1 : Fin 2) = 0) t
  funext a; apply Fin.ext
  match a with
  | ⟨0, _⟩ => show win0_18.index t (0 : Fin 2) * 512 + 1 * r.val = 512 * t.val + r.val; omega
  | ⟨1, _⟩ => show win0_18.index t (1 : Fin 2) * 256 + 1 * e.val = e.val; omega

include H in
set_option maxHeartbeats 2000000 in
theorem final18 : (dats m 0 c).arrAt 18 cfg0.N = nm (φ := .bf16) (dK K E W gk P) :=
  (dats m 0 c).arrAt_eq_of_cover 18 (nm (φ := .bf16) (dK K E W gk P)) (fun t _ => by
    rw [flushed18, (blocks H t).2]
    funext j
    obtain ⟨r, e, rfl⟩ : ∃ (r : Fin 512) (e : Fin 256), j = ValueIdx.ix2 r e := ⟨j 0, j 1, ValueIdx.eq_ix2 j⟩
    refine Eq.trans ?_ (congrArg (nm (φ := .bf16) (dK K E W gk P)) (emb18 t r e).symm)
    exact congrArg Real.toEReal (kA_eq t r.val e.val))
    (fun i => by
    obtain ⟨r, e, rfl⟩ : ∃ (r : Fin 4096) (e : Fin 256), i = ValueIdx.ix2 r e := ⟨i 0, i 1, ValueIdx.eq_ix2 i⟩
    obtain ⟨t, k, rfl⟩ := row_split r
    exact ⟨t, flush0_18 t, emb18 t k e ▸ View.emb_mem_set _ _⟩)

theorem emb19 (j : S1x512.Idx) : ((cfg0.win 19).blk t).view.emb j = j := by
  obtain ⟨a0, a1⟩ : win0_19.index t (0 : Fin 2) = 0 ∧ win0_19.index t (1 : Fin 2) = 0 := (by decide +kernel : ∀ t : Fin grid0.N, win0_19.index t (0 : Fin 2) = 0 ∧ win0_19.index t (1 : Fin 2) = 0) t
  funext a; apply Fin.ext
  match a with
  | ⟨0, _⟩ => show win0_19.index t (0 : Fin 2) * 1 + 1 * (j 0).val = (j 0).val; omega
  | ⟨1, _⟩ => show win0_19.index t (1 : Fin 2) * 512 + 1 * (j 1).val = (j 1).val; omega

include H in
set_option maxHeartbeats 2000000 in
theorem final19 : (dats m 0 c).arrAt 19 cfg0.N = nm (φ := .f32) (dG X D P) :=
  (dats m 0 c).arrAt_eq_of_cover 19 (nm (φ := .f32) (dG X D P)) (fun t hf => by
    have h7 : t.val = 7 := by have := (flush0_19 t).mp hf; have : t.val < 8 := t.isLt; omega
    have e : (outs m c t.val t.isLt).2.2.1 = nm (φ := .f32) (fun _ c => ∑ t ∈ Finset.range (t.val + 1), qG X D P t c) := congrArg Prod.fst (acc H t.val t.isLt)
    rw [flushed19, e, h7]
    funext j
    refine Eq.trans ?_ (congrArg (nm (φ := .f32) (dG X D P)) (emb19 t j).symm)
    exact congrArg Real.toEReal (qG_eq (j 1).val))
    (fun i => ⟨⟨7, by decide⟩, (flush0_19 _).mpr rfl, by
      have h := ((cfg0.win 19).blk ⟨7, by decide⟩).view.emb_mem_set i
      rwa [emb19] at h⟩)

theorem emb20 (j : S1x128.Idx) : ((cfg0.win 20).blk t).view.emb j = j := by
  obtain ⟨a0, a1⟩ : win0_20.index t (0 : Fin 2) = 0 ∧ win0_20.index t (1 : Fin 2) = 0 := (by decide +kernel : ∀ t : Fin grid0.N, win0_20.index t (0 : Fin 2) = 0 ∧ win0_20.index t (1 : Fin 2) = 0) t
  funext a; apply Fin.ext
  match a with
  | ⟨0, _⟩ => show win0_20.index t (0 : Fin 2) * 1 + 1 * (j 0).val = (j 0).val; omega
  | ⟨1, _⟩ => show win0_20.index t (1 : Fin 2) * 128 + 1 * (j 1).val = (j 1).val; omega

include H in
set_option maxHeartbeats 2000000 in
theorem final20 : (dats m 0 c).arrAt 20 cfg0.N = nm (φ := .f32) (dG K (fold E) P) :=
  (dats m 0 c).arrAt_eq_of_cover 20 (nm (φ := .f32) (dG K (fold E) P)) (fun t hf => by
    have h7 : t.val = 7 := by have := (flush0_20 t).mp hf; have : t.val < 8 := t.isLt; omega
    have e : (outs m c t.val t.isLt).2.2.2 = nm (φ := .f32) (fun _ c => ∑ t ∈ Finset.range (t.val + 1), kG K E P t c) := congrArg Prod.snd (acc H t.val t.isLt)
    rw [flushed20, e, h7]
    funext j
    refine Eq.trans ?_ (congrArg (nm (φ := .f32) (dG K (fold E) P)) (emb20 t j).symm)
    exact congrArg Real.toEReal (kG_eq (j 1).val))
    (fun i => ⟨⟨7, by decide⟩, (flush0_20 _).mpr rfl, by
      have h := ((cfg0.win 20).blk ⟨7, by decide⟩).view.emb_mem_set i
      rwa [emb20] at h⟩)

/-- The run, with the four results named. -/
theorem results (ρ : Dev nD → PrngReg) : θ_run defs (onTc (τ := τ) (main (F := Ideal))) ⟨m, fun _ => 0, ρ⟩ fun r => ∀ c : Dev nD,
      r.2.mem ((c.tc : Thread nD τ).loc main_v49_0) = (dats m 0 c).arrAt 17 cfg0.N
      ∧ r.2.mem ((c.tc : Thread nD τ).loc main_v49_1) = (dats m 0 c).arrAt 18 cfg0.N
      ∧ r.2.mem ((c.tc : Thread nD τ).loc main_v49_2) = (dats m 0 c).arrAt 19 cfg0.N
      ∧ r.2.mem ((c.tc : Thread nD τ).loc main_v49_3) = (dats m 0 c).arrAt 20 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1.1 c).1 17, (h.1.1 c).1 18, (h.1.1 c).1 19, (h.1.1 c).1 20, h.2.1 c⟩)
    (θ_run_and (run m ρ) (frame_any m ρ))

end Cert.QkGradIdeal.Arr

end
-- ==== Proof.QkGrad.Ref.lean ====
/- The reference of the query-and-key gradient in closed form, over the reals. -/
module

public import proofs.«01_k».proof.Proof.LiftGrid
public import proofs.«01_k».proof.Proof.QkGrad.Arr
public import proofs.«01_k».proof.Proof.Gen.QkGradRefIdeal.Read

@[expose] public section

set_option maxRecDepth 16384

noncomputable section

open Idealize.ShloMosaic Idealize.ShloMosaic.TcCoe Idealize.ShloMosaic.ValueIdx Cert.Lift
open scoped BigOperators

namespace Cert.QkGradRefIdeal.Ref

open Cert.QkGradRefIdeal Cert.QkGradRefIdeal.Gen Cert.QkGradRefIdeal.Read
open Cert.QkGradIdeal.Host0 (heads8 heads2 heads4 gain posn angR angles_up)
open Cert.QkGradIdeal.Body (gr)

variable (X K D E W : ℕ → ℕ → ℝ) (gq gk : ℕ → ℝ) (P : ℕ → ℕ → BitVec 32)

theorem w_half : Ideal.ofBits .f32 0xBF000000#32 = ((-(1 / 2) : ℝ) : EReal) := by
  rw [show Ideal.ofBits .f32 0xBF000000#32 = (((-8388608 : ℝ) * (2 : ℝ) ^ (-24 : ℤ) : ℝ) : EReal) by simp [Ideal.ofBits, Ideal.ieee]]
  congr 1
  norm_num

/-- The tables of cosines and sines, with an axis of one head. -/
theorem cos_q : val_main_v33 (F := Ideal) (posn P) = q4 (φ := .f32) fun b s _ j => Real.cos (ang (P b s) j) := by
  unfold val_main_v33 val_main_v32
  rw [show val_main_v31 (F := Ideal) (posn P) = q3 (φ := .f32) fun b s j => ang (P b s) j from angles_up P, hostCos_q3]
  exact one_head_q3 _ _ rfl _
theorem sin_q : val_main_v35 (F := Ideal) (posn P) = q4 (φ := .f32) fun b s _ j => Real.sin (ang (P b s) j) := by
  unfold val_main_v35 val_main_v34
  rw [show val_main_v31 (F := Ideal) (posn P) = q3 (φ := .f32) fun b s j => ang (P b s) j from angles_up P, hostSin_q3]
  exact one_head_q3 _ _ rfl _
theorem cos_k : val_main_v80 (F := Ideal) (posn P) = q4 (φ := .f32) fun b s _ j => Real.cos (ang (P b s) j) := cos_q P
theorem sin_k : val_main_v82 (F := Ideal) (posn P) = q4 (φ := .f32) fun b s _ j => Real.sin (ang (P b s) j) := sin_q P

/-- The two halves of a head put together are the cotangent turned back. -/
theorem turn (D : ℕ → ℕ → ℝ) {b s h l : ℕ} (hs : s < 2048) (hl : l < 64) :
    (if 32 ≤ l ∧ l - 32 < 32 then
        D (2048 * b + s) (64 * h + (32 + (l - 32))) * Real.cos (ang (P b s) (l - 32)) + -D (2048 * b + s) (64 * h + (0 + (l - 32))) * Real.sin (ang (P b s) (l - 32))
      else 0)
      + (if 0 ≤ l ∧ l - 0 < 32 then
          D (2048 * b + s) (64 * h + (32 + (l - 0))) * Real.sin (ang (P b s) (l - 0)) + D (2048 * b + s) (64 * h + (0 + (l - 0))) * Real.cos (ang (P b s) (l - 0))
        else 0)
      = rot (angR P) D (2048 * b + s) (64 * h + l) := by
  unfold rot angR
  rw [show (64 * h + l) % 64 = l by omega, show (2048 * b + s) / 2048 = b by omega, show (2048 * b + s) % 2048 = s by omega]
  by_cases hc : l < 32
  · rw [if_pos hc, if_neg (by omega), if_pos (by omega), show (64 * h + l) % 32 = l by omega, Nat.sub_zero, Nat.zero_add,
      show 64 * h + (32 + l) = 64 * h + l + 32 by omega]
    ring
  · rw [if_neg hc, if_pos (by omega), if_neg (by omega), show (64 * h + l) % 32 = l - 32 by omega, show 64 * h + (32 + (l - 32)) = 64 * h + l by omega,
      show 64 * h + (0 + (l - 32)) = 64 * h + l - 32 by omega]
    ring

theorem rot_q : val_main_v148 (F := Ideal) (heads8 D) (posn P) = q4 (φ := .f32) fun b s h l => rot (angR P) D (2048 * b + s) (64 * h + l) := by
  unfold heads8
  simp only [val_main_v148, val_main_v147, val_main_v146, val_main_v145, val_main_v144, val_main_v143, val_main_v142, val_main_v141, val_main_v140,
    val_main_v139, val_main_v138, val_main_v137, val_main_v136, val_main_v135, val_main_v134, val_main_v133, val_main_cst_21, val_main_cst_22, cos_q, sin_q,
    slice_q4, heads_q4, mulf_q4, addf_q4, hostNegf_q4, pad_q4]
  exact q4_congr fun b _ s hs h _ l hl => turn P D hs hl

/-- The two query pairs of a key head, added. -/
theorem fold_q (E : ℕ → ℕ → ℝ) : val_main_v96 (F := Ideal) (heads4 E) = q4 (φ := .f32) fun b s h l => fold E (2048 * b + s) (64 * h + l) := by
  funext i
  have i3 : (i 3).val < 64 := (i 3).isLt
  rw [val_main_v96_apply]
  refine (congrArg (· + _) Ideal.ofBits_zero_f32).trans ?_
  rw [zero_add, Fin.sum_univ_two, q4_apply]
  unfold fold
  rw [show (64 * (i 2).val + (i 3).val) / 64 = (i 2).val by omega, show (64 * (i 2).val + (i 3).val) % 64 = (i 3).val by omega]
  exact (EReal.coe_add _ _).symm

theorem rot_k : val_main_v112 (F := Ideal) (heads4 E) (posn P) = q4 (φ := .f32) fun b s h l => rot (angR P) (fold E) (2048 * b + s) (64 * h + l) := by
  simp only [val_main_v112, val_main_v111, val_main_v110, val_main_v109, val_main_v108, val_main_v107, val_main_v106, val_main_v105, val_main_v104,
    val_main_v103, val_main_v102, val_main_v101, val_main_v100, val_main_v99, val_main_v98, val_main_v97, val_main_cst_14, val_main_cst_15, cos_k, sin_k, fold_q,
    slice_q4, heads_q4, mulf_q4, addf_q4, hostNegf_q4, pad_q4]
  exact q4_congr fun b _ s hs h _ l hl => turn P (fold E) hs hl

/-- The mean square of a head as the reference takes it. -/
theorem ms (X : ℕ → ℕ → ℝ) (r h : ℕ) :
    (∑ l ∈ Finset.range 64, X r (64 * h + l) * X r (64 * h + l)) / 64 + eps = hms X r (64 * h) := by
  unfold hms mean
  rw [Nat.mul_div_cancel_left h (by norm_num)]
  ring

theorem ms_q : val_main_v8 (F := Ideal) (heads8 X) = q4 (φ := .f32) fun b s h _ => hms X (2048 * b + s) (64 * h) := by
  unfold heads8
  simp only [val_main_v8, val_main_v7, val_main_v6, val_main_v5, val_main_v4, val_main_v3, val_main_v2, val_main_cst, val_main_cst_0, val_main_cst_1,
    mulf_q4, lanes_q4, head_q3, spread_q4 _ _ _ _ w64, spread_q4 _ _ _ _ ofBits_eps]
  rw [hostDivf_q4 _ _ fun _ _ _ _ => by norm_num, addf_q4]
  exact q4_congr fun b _ s _ h _ _ _ => ms X _ _
theorem ms_k : val_main_v55 (F := Ideal) (heads2 X) = q4 (φ := .f32) fun b s h _ => hms X (2048 * b + s) (64 * h) := by
  unfold heads2
  simp only [val_main_v55, val_main_v54, val_main_v53, val_main_v52, val_main_v51, val_main_v50, val_main_v49, val_main_cst_6, val_main_cst_7, val_main_cst_8,
    mulf_q4, lanes_q4, head_q3, spread_q4 _ _ _ _ w64, spread_q4 _ _ _ _ ofBits_eps]
  rw [hostDivf_q4 _ _ fun _ _ _ _ => by norm_num, addf_q4]
  exact q4_congr fun b _ s _ h _ _ _ => ms X _ _

theorem rs_q : val_main_v9 (F := Ideal) (heads8 X) = q4 (φ := .f32) fun b s h _ => hrs X (2048 * b + s) (64 * h) := by
  unfold val_main_v9
  rw [ms_q]
  exact hostRsqrt_q4 _ fun _ _ _ _ => hms_pos X _ _
theorem rs_k : val_main_v56 (F := Ideal) (heads2 X) = q4 (φ := .f32) fun b s h _ => hrs X (2048 * b + s) (64 * h) := by
  unfold val_main_v56
  rw [ms_k]
  exact hostRsqrt_q4 _ fun _ _ _ _ => hms_pos X _ _

theorem hrs_head (X : ℕ → ℕ → ℝ) (r h : ℕ) {l : ℕ} (hl : l < 64) : hrs X r (64 * h + l) = hrs X r (64 * h) := by
  unfold hrs hms mean
  rw [show (64 * h + l) / 64 = 64 * h / 64 by omega]
theorem hms_head (X : ℕ → ℕ → ℝ) (r h : ℕ) {l : ℕ} (hl : l < 64) : hms X r (64 * h + l) = hms X r (64 * h) := by
  unfold hms mean
  rw [show (64 * h + l) / 64 = 64 * h / 64 by omega]

theorem nx_q : val_main_v14 (F := Ideal) (heads8 X) = q4 (φ := .f32) fun b s h l => hnx X (2048 * b + s) (64 * h + l) := by
  unfold val_main_v14 val_main_v13
  rw [rs_q, lane_q4 _ _ rfl]
  unfold heads8
  rw [mulf_q4]
  exact q4_congr fun b _ s _ h _ l hl => congrArg (X _ _ * ·) (hrs_head X _ _ hl).symm
theorem nx_k : val_main_v61 (F := Ideal) (heads2 X) = q4 (φ := .f32) fun b s h l => hnx X (2048 * b + s) (64 * h + l) := by
  unfold val_main_v61 val_main_v60
  rw [rs_k, lane_q4 _ _ rfl]
  unfold heads2
  rw [mulf_q4]
  exact q4_congr fun b _ s _ h _ l hl => congrArg (X _ _ * ·) (hrs_head X _ _ hl).symm

/-- The normalisation's gradient with the reference's sums. -/
theorem grad (X D : ℕ → ℕ → ℝ) (g : ℕ → ℝ) (r h : ℕ) {l : ℕ} (hl : l < 64) :
    D r (64 * h + l) * g l * hrs X r (64 * h)
      + X r (64 * h + l) * ∑ _k ∈ Finset.range 1, (∑ k ∈ Finset.range 64, X r (64 * h + k) * (D r (64 * h + k) * g k)) * (-(1 / 2) * (hrs X r (64 * h) / hms X r (64 * h))) / 64
      + (∑ _k ∈ Finset.range 1, (∑ k ∈ Finset.range 64, X r (64 * h + k) * (D r (64 * h + k) * g k)) * (-(1 / 2) * (hrs X r (64 * h) / hms X r (64 * h))) / 64) * X r (64 * h + l)
    = hgx X D (gr g) r (64 * h + l) := by
  have e : ∀ k ∈ Finset.range 64, X r (64 * h + k) * (D r (64 * h + k) * gr g 0 (64 * h + k)) = X r (64 * h + k) * (D r (64 * h + k) * g k) := fun k hk => by
    have hk := Finset.mem_range.mp hk
    unfold gr
    rw [show (64 * h + k) % 64 = k by omega]
  rw [← grad_real, show (64 * h + l) / 64 = h by omega, Finset.sum_congr rfl e, hrs_head X _ _ hl, hms_head X _ _ hl, Finset.sum_range_one]
  unfold gr
  rw [show (64 * h + l) % 64 = l by omega]

theorem gx_q : val_main_v168 (F := Ideal) (heads8 X) (heads8 D) (gain gq) (posn P)
    = q4 (φ := .f32) fun b s h l => hgx X (rot (angR P) D) (gr gq) (2048 * b + s) (64 * h + l) := by
  simp only [val_main_v168, val_main_v167, val_main_v166, val_main_v165, val_main_v164, val_main_v163, val_main_v162, val_main_v161, val_main_v160, val_main_v159,
    val_main_v158, val_main_v157, val_main_v156, val_main_v155, val_main_v153, val_main_v152, val_main_v15, val_main_v12, val_main_v11, val_main_v10,
    val_main_v0, val_main_cst_2, val_main_cst_25, val_main_cst_26, val_main_cst_27, rot_q, rs_q, ms_q, gain, gain_q4]
  unfold heads8
  rw [hostDivf_q4 (fun b s h _ => hrs X (2048 * b + s) (64 * h)) _ fun _ _ _ _ => (hms_pos X _ _).ne']
  simp only [mulf_q4, lanes_q4, add_lane_q3, all_rows_q4, lane_q4, spread_q4 _ _ _ _ w64, spread_q4 _ _ _ _ w_half]
  rw [hostDivf_q4 _ _ fun _ _ _ _ => by norm_num]
  simp only [mulf_q4, lanes_q4, head_q3, addf_q4]
  exact q4_congr fun b _ s _ h _ l hl => grad X (rot (angR P) D) gq _ _ hl
theorem gx_k : val_main_v132 (F := Ideal) (heads2 K) (heads4 E) (gain gk) (posn P)
    = q4 (φ := .f32) fun b s h l => hgx K (rot (angR P) (fold E)) (gr gk) (2048 * b + s) (64 * h + l) := by
  simp only [val_main_v132, val_main_v131, val_main_v130, val_main_v129, val_main_v128, val_main_v127, val_main_v126, val_main_v125, val_main_v124, val_main_v123,
    val_main_v122, val_main_v121, val_main_v120, val_main_v119, val_main_v117, val_main_v116, val_main_v62, val_main_v59, val_main_v58, val_main_v57,
    val_main_v1, val_main_cst_9, val_main_cst_18, val_main_cst_19, val_main_cst_20, rot_k, rs_k, ms_k, gain, gain_q4]
  unfold heads2
  rw [hostDivf_q4 (fun b s h _ => hrs K (2048 * b + s) (64 * h)) _ fun _ _ _ _ => (hms_pos K _ _).ne']
  simp only [mulf_q4, lanes_q4, add_lane_q3, all_rows_q4, lane_q4, spread_q4 _ _ _ _ w64, spread_q4 _ _ _ _ w_half]
  rw [hostDivf_q4 _ _ fun _ _ _ _ => by norm_num]
  simp only [mulf_q4, lanes_q4, head_q3, addf_q4]
  exact q4_congr fun b _ s _ h _ l hl => grad K (rot (angR P) (fold E)) gk _ _ hl

/-- The sums over batches, then over the one row that is left. -/
theorem total (X D : ℕ → ℕ → ℝ) (c : ℕ) :
    ∑ _r ∈ Finset.range (1 * 1), (∑ r ∈ Finset.range (2 * 2048), hnx X (2048 * (r / 2048) + r % 2048) (64 * (c / 64) + c % 64) * D (2048 * (r / 2048) + r % 2048) (64 * (c / 64) + c % 64))
      = ∑ r ∈ Finset.range 4096, hdg X D r c := by
  rw [Nat.mul_one, Finset.sum_range_one, Nat.div_add_mod c 64]
  refine Finset.sum_congr rfl fun r _ => ?_
  rw [Nat.div_add_mod r 2048]
  exact mul_comm _ _

open Cert.QkGradIdeal.Arr

theorem v174 : val_main_v174 (F := Ideal) (heads8 X) (heads8 D) (gain gq) (posn P) = nm (φ := .bf16) (dQ X D gq P) := by
  unfold val_main_v174 val_main_v173
  rw [gx_q, flat_q4 _ (by norm_num) (by norm_num)]
  refine (truncf_nm _ _).trans (nm_congr fun r _ c _ => ?_)
  rw [Nat.div_add_mod r 2048, Nat.div_add_mod c 64]
  rfl

theorem v176 : val_main_v176 (F := Ideal) (heads8 X) (heads8 D) (posn P) = nm (φ := .f32) (dG X D P) := by
  unfold val_main_v176 val_main_v154 val_main_v151 val_main_v150 val_main_v149
  rw [rot_q, nx_q, mulf_q4]
  simp only [val_main_cst_23, val_main_cst_24, rows_q4, add_rows_nm]
  rw [flat_nm _ (by norm_num)]
  exact nm_congr fun _ _ c _ => total X (rot (angR P) D) c

theorem v177 : val_main_v177 (F := Ideal) (heads2 K) (heads4 E) (posn P) = nm (φ := .f32) (dG K (fold E) P) := by
  unfold val_main_v177 val_main_v118 val_main_v115 val_main_v114 val_main_v113
  rw [rot_k, nx_k, mulf_q4]
  simp only [val_main_cst_16, val_main_cst_17, rows_q4, add_rows_nm]
  rw [flat_nm _ (by norm_num)]
  exact nm_congr fun _ _ c _ => total K (rot (angR P) (fold E)) c

theorem v175 : val_main_v175 (F := Ideal) (heads2 K) (heads4 E) (heads4 W) (gain gk) (posn P) = nm (φ := .bf16) (dK K E W gk P) := by
  have e1 : val_main_v169 (F := Ideal) (heads2 K) (heads4 E) (gain gk) (posn P) = nm (φ := .f32) (hgx K (rot (angR P) (fold E)) (gr gk)) := by
    unfold val_main_v169
    rw [gx_k, flat_q4 _ (by norm_num) (by norm_num)]
    exact nm_congr fun r _ c _ => by rw [Nat.div_add_mod r 2048, Nat.div_add_mod c 64]
  have e2 : val_main_v171 (F := Ideal) (heads4 W) = nm (φ := .f32) (fold W) := by
    unfold val_main_v171
    rw [show val_main_v170 (F := Ideal) (heads4 W) = _ from fold_q W, flat_q4 _ (by norm_num) (by norm_num)]
    exact nm_congr fun r _ c _ => by rw [Nat.div_add_mod r 2048, Nat.div_add_mod c 64]
  unfold val_main_v175 val_main_v172
  rw [e1, e2]
  refine (congrArg (fun x => truncf .bf16 x bitsLt_bf16_f32) (?_ : _ = nm (φ := .f32) (dK K E W gk P))).trans (truncf_nm _ _)
  funext i
  have i0 : (i 0).val < 4096 := (i 0).isLt
  have i1 : (i 1).val < 256 := (i 1).isLt
  by_cases h : (i 1).val < 128
  · refine (concatenate_apply_piece (t := S4096x256) 1 [⟨S4096x128, nm (φ := .f32) (hgx K (rot (angR P) (fold E)) (gr gk))⟩, ⟨S4096x128, nm (φ := .f32) (fold W)⟩] _ i 0 (by norm_num) S4096x128 _ rfl rfl 0 rfl
      (ix2 (⟨(i 0).val, i0⟩ : Fin 4096) (⟨(i 1).val, h⟩ : Fin 128)) (fun b hb => ?_) ?_).trans (congrArg Real.toEReal (if_pos h).symm)
    · match b, hb with
      | ⟨0, _⟩, _ => rfl
      | ⟨1, _⟩, hb => exact absurd rfl hb
    · show 0 + (i 1).val = (i 1).val
      omega
  · refine (concatenate_apply_piece (t := S4096x256) 1 [⟨S4096x128, nm (φ := .f32) (hgx K (rot (angR P) (fold E)) (gr gk))⟩, ⟨S4096x128, nm (φ := .f32) (fold W)⟩] _ i 1 (by norm_num) S4096x128 _ rfl rfl 128 rfl
      (ix2 (⟨(i 0).val, i0⟩ : Fin 4096) (⟨(i 1).val - 128, by omega⟩ : Fin 128)) (fun b hb => ?_) ?_).trans (congrArg Real.toEReal (if_neg h).symm)
    · match b, hb with
      | ⟨0, _⟩, _ => rfl
      | ⟨1, _⟩, hb => exact absurd rfl hb
    · show 128 + ((i 1).val - 128) = (i 1).val
      omega

end Cert.QkGradRefIdeal.Ref

end
-- ==== Proof.QkGrad.Claim.lean ====
/- The value claim of `qk_grad`: the kernel's run and the reference's end in the same four arrays. -/
module

public import proofs.«01_k».proof.Defs
public import proofs.«01_k».proof.Proof.QkGrad.Finite
public import proofs.«01_k».proof.Proof.QkGrad.Ref
public import proofs.«01_k».proof.Proof.QkGrad.Arr
public import proofs.«01_k».proof.Proof.Gen.QkGradRefIdeal.Run

@[expose] public section

set_option maxRecDepth 16384

noncomputable section

open Idealize.ShloMosaic Idealize.ShloMosaic.TcCoe Idealize.SL.Sem Cert.Lift

namespace Cert.QkGradIdeal

open Cert.QkGradIdeal.Gen Cert.QkGradRefIdeal.Read Cert.QkGradIdeal.Run

/-- A function of eight arguments at equal arguments. -/
theorem cong8 {A B C D E T : Type} (f : A → B → A → C → C → D → D → E → T) {a a' b b' c c' d d' e e' g g' h h' i i'}
    (h0 : a = a') (h1 : b = b') (h2 : c = c') (h3 : d = d') (h4 : e = e') (h5 : g = g') (h6 : h = h') (h7 : i = i') :
    f a b c d e g h i = f a' b' c' d' e' g' h' i' := by
  subst h0 h1 h2 h3 h4 h5 h6 h7
  rfl

theorem value : algebraic_QkGradIdeal_QkGradRefIdeal_pre_qk_finite (hQkGradIdeal := Gen.facts) (hQkGradRefIdeal := Cert.QkGradRefIdeal.Gen.facts)
    (hPre_qk_finite := Cert.Pre_qk_finite.Gen.facts) := by
  intro m g m' g' hpre hargs
  refine ⟨fun c => (dats m 0 c).arrAt 17 cfg0.N, fun c => (dats m 0 c).arrAt 18 cfg0.N, fun c => (dats m 0 c).arrAt 19 cfg0.N,
    fun c => (dats m 0 c).arrAt 20 cfg0.N, Arr.results g, ?_⟩
  refine (θ_run Cert.QkGradRefIdeal.defs _ _).mono (fun r h c => ?_) (Cert.QkGradRefIdeal.Value.run m' g')
  obtain ⟨⟨X, h0⟩, ⟨K, h1⟩, ⟨D, h2⟩, ⟨E, h3⟩, ⟨W, h4⟩, ⟨gq, h5⟩, ⟨gk, h6⟩⟩ := Cert.Pre_qk_finite.reals _ _ _ _ _ _ _ _ (hpre c)
  obtain ⟨P, h7⟩ := Cert.Pre_qk_finite.posn_of (m ((c.tc : Thread nD τ).loc main_arg7))
  have H : Host0.Real m c X K D E W gq gk P := ⟨h0, h1, h2, h3, h4, h5, h6, h7⟩
  obtain ⟨a0, a1, a2, a3, a4, a5, a6, a7⟩ := hargs c
  obtain ⟨r0, r1, r2, r3, k⟩ := h c
  replace a0 := a0.trans h0
  replace a1 := a1.trans h1
  replace a2 := a2.trans h2
  replace a3 := a3.trans h3
  replace a4 := a4.trans h4
  replace a5 := a5.trans h5
  replace a6 := a6.trans h6
  replace a7 := a7.trans h7
  refine ⟨?_, ?_, ?_, ?_, k⟩
  · exact (r0.trans (val_main_v174_eq _)).trans ((cong8 (fun x _ y _ _ p _ z => val_main_v174 (F := Ideal) x y p z) a0 a1 a2 a3 a4 a5 a6 a7).trans
      ((Cert.QkGradRefIdeal.Ref.v174 X D gq P).trans (Arr.final17 H).symm))
  · exact (r1.trans (val_main_v175_eq _)).trans ((cong8 (fun _ y _ d e _ p z => val_main_v175 (F := Ideal) y d e p z) a0 a1 a2 a3 a4 a5 a6 a7).trans
      ((Cert.QkGradRefIdeal.Ref.v175 K E W gk P).trans (Arr.final18 H).symm))
  · exact (r2.trans (val_main_v176_eq _)).trans ((cong8 (fun x _ y _ _ _ _ z => val_main_v176 (F := Ideal) x y z) a0 a1 a2 a3 a4 a5 a6 a7).trans
      ((Cert.QkGradRefIdeal.Ref.v176 X D P).trans (Arr.final19 H).symm))
  · exact (r3.trans (val_main_v177_eq _)).trans ((cong8 (fun _ y _ d _ _ _ z => val_main_v177 (F := Ideal) y d z) a0 a1 a2 a3 a4 a5 a6 a7).trans
      ((Cert.QkGradRefIdeal.Ref.v177 K E P).trans (Arr.final20 H).symm))

end Cert.QkGradIdeal

end
-- ==== Proof.SwaFwd.Blk.lean ====
/- The sliding-window forward call: a point's stores, in the terms of the backward call's block, and what they hold over the reals. -/
module

public import proofs.«01_k».proof.Proof.SwaBwd.Data
public import proofs.«01_k».proof.Proof.Gen.SwaFwdIdeal.Frame

@[expose] public section

set_option maxRecDepth 16384
set_option maxHeartbeats 4000000

noncomputable section

namespace Cert.SwaFwdIdeal.Run

open Cert.SwaFwdIdeal Cert.SwaFwdIdeal.Gen Cert.Lift Cert.SwaBwd
open Cert.SwaBwdIdeal.Run (Blk Holds inb_sq inb_one cols2)
open Cert.SbBwdIdeal.Val (two sum_stk)
open Idealize.ShloMosaic Idealize.ShloMosaic.TcCoe Idealize.ShloMosaic.ValueIdx Idealize.ShloMosaic.Tactic Idealize.SL.Sem
open Finset (range)
open scoped BigOperators

/-- The probabilities of the two halves against the stacked values. -/
def mix (B : Blk Ideal) : FVec Ideal S256x128 .f32 :=
  matmul dot_S256x512_S512x128_S256x128_1_0_0_1_n_n none
    (truncf .bf16 (concatenate S256x512 1 [⟨S256x256, B.pr 0⟩, ⟨S256x256, B.pr 1⟩] concatenates_S256x256_S256x256_S256x512_d1) bitsLt_bf16_f32 : FVec Ideal S256x512 .bf16)
    B.vst (constant S256x128 .f32 0x00000000#32)
def mixA (B : Blk Ideal) : FVec Ideal S128x128 .bf16 := truncf .bf16 (extractStridedSlice S128x128 ![0, 0] (mix B) slices_S256x128_o0_0_S128x128) bitsLt_bf16_f32
def mixB (B : Blk Ideal) : FVec Ideal S128x128 .bf16 := truncf .bf16 (extractStridedSlice S128x128 ![128, 0] (mix B) slices_S256x128_o128_0_S128x128) bitsLt_bf16_f32

section real
variable {B : Blk Ideal} {S : Sp} (H : Holds B S)
include H

theorem mix_nm : mix B = nm fun r l => ∑ c ∈ range 256, S.pr (l / 64) r c * S.V c l := by
  unfold mix
  rw [Cert.SwaBwdIdeal.Run.vst_nm H, (Cert.SwaBwdIdeal.Run.pr_sk H 0).1, (Cert.SwaBwdIdeal.Run.pr_sk H 1).1, cols2, truncf_nm, matmul_nn_nm _ _ dot_S256x512_S512x128_S256x128_1_0_0_1_n_n rfl]
  refine nm_congr fun r _ l hl => ?_
  rw [sum_stk]
  refine Finset.sum_congr rfl fun c hc => congrArg (· * _) ?_
  have hc := Finset.mem_range.mp hc
  unfold two
  rw [if_pos hc, if_neg (show ¬ 256 + c < 256 by omega), Nat.add_sub_cancel_left]
  by_cases hl' : l < 64
  · rw [if_pos hl', show l / 64 = 0 by omega]; rfl
  · rw [if_neg hl', show l / 64 = 1 by omega]; rfl
theorem mixA_nm : mixA B = nm fun r l => ∑ c ∈ range 256, S.pr (l / 64) r c * S.V c l := by
  unfold mixA
  rw [mix_nm H, slice_nm, truncf_nm]; exact nm_congr fun r _ c _ => by rw [zero_add, zero_add]
theorem mixB_nm : mixB B = nm fun r l => ∑ c ∈ range 256, S.pr (l / 64) (128 + r) c * S.V c l := by
  unfold mixB
  rw [mix_nm H, slice_nm, truncf_nm]; exact nm_congr fun r _ c _ => by rw [zero_add]
end real

section lists
variable (i : grid0.Coords) (arg2 : Memref sig .tc .smem S8 .f32) (harg2 : arg2.IsWhole) (arg3 : Memref sig .tc .vmem S512x512 .bf16) (harg3 : arg3.IsWhole)
  (arg4 : Memref sig .tc .vmem S128x256 .bf16) (harg4 : arg4.IsWhole) (arg5 : Memref sig .tc .vmem S512x256 .bf16) (harg5 : arg5.IsWhole)
  (arg6 : Memref sig .tc .vmem S128x256 .bf16) (harg6 : arg6.IsWhole) (arg7 : Memref sig .tc .vmem S512x256 .bf16) (harg7 : arg7.IsWhole)
  (arg8 : Memref sig .tc .vmem S512x512 .bf16) (harg8 : arg8.IsWhole) (c : Dev nD)
  (x0 : Vec Ideal S8 .f32) (x1 : Vec Ideal S512x512 .bf16) (x2 : Vec Ideal S128x256 .bf16) (x3 : Vec Ideal S512x256 .bf16) (x4 : Vec Ideal S128x256 .bf16) (x5 : Vec Ideal S512x256 .bf16)

/-- A 128 by 128 part of a block. -/
abbrev part {C R : ℕ} (M : Memref sig .tc .vmem ⟨2, ![R, C]⟩ .bf16) (hM : M.IsWhole) (x : Vec Ideal ⟨2, ![R, C]⟩ .bf16) (a b : ℕ) (ha : 128 * a + 128 ≤ R) (hb : 128 * b + 128 ≤ C) :
    FVec Ideal S128x128 .bf16 :=
  View.readAt (Elt Ideal) M.view (Rect.unit (s := ⟨2, ![R, C]⟩) ![128 * a, 128 * b] S128x128.size (inb_sq a b ha hb)).toLoadRect (hM.unread x)

/-- A sink. -/
abbrev sink (k : Fin 8) : EReal :=
  View.readAt (Elt Ideal) arg2.view (Rect.unit (s := S8) ![k.val] S1.size (inb_one k)).toLoadRect (harg2.unread x0) (Shape.Idx.first (by show 0 < S1.numel; decide))

/-- The block of the heads' pair `g` and of the `s`-th 128 query rows; no cotangent. -/
def blk (g : Fin 2) (s : Fin 4) : Blk Ideal where
  msk := if s.val = 0 then Cert.SwaBwdIdeal.Gen.k0_pay11 (BitVec.ofNat 32 (i 1).val) else Cert.SwaBwdIdeal.Gen.k0_pay57
  kp := if s.val = 0 then part arg4 harg4 x2 0 g.val (by omega) (by omega) else part arg5 harg5 x3 (s.val - 1) g.val (by omega) (by omega)
  km := part arg5 harg5 x3 s.val g.val (by omega) (by omega)
  vp := if s.val = 0 then part arg6 harg6 x4 0 g.val (by omega) (by omega) else part arg7 harg7 x5 (s.val - 1) g.val (by omega) (by omega)
  vm := part arg7 harg7 x5 s.val g.val (by omega) (by omega)
  q0 := part arg3 harg3 x1 s.val (2 * g.val) (by omega) (by omega)
  q1 := part arg3 harg3 x1 s.val (2 * g.val + 1) (by omega) (by omega)
  d0 := nm (φ := .bf16) fun _ _ => 0
  d1 := nm (φ := .bf16) fun _ _ => 0
  z0 h := sink arg2 harg2 x0 ⟨4 * g.val + h.val, by omega⟩
  z1 h := sink arg2 harg2 x0 ⟨4 * g.val + 2 + h.val, by omega⟩

/-- The stores, last first: rows, pair of heads, pair. -/
def outL (B : Fin 2 → Fin 4 → Blk Ideal) : List (View.Piece (Elt Ideal) S512x512 .bf16) :=
  [(1, 3), (0, 3), (1, 2), (0, 2), (1, 1), (0, 1), (1, 0), (0, 0)].flatMap fun p : Fin 2 × Fin 4 =>
    [⟨Rect.unit (s := S512x512) ![128 * p.2.val, 128 * (2 * p.1.val + 1)] S128x128.size (inb_sq p.2.val (2 * p.1.val + 1) (by omega) (by omega)), mixB (B p.1 p.2)⟩,
     ⟨Rect.unit (s := S512x512) ![128 * p.2.val, 128 * (2 * p.1.val)] S128x128.size (inb_sq p.2.val (2 * p.1.val) (by omega) (by omega)), mixA (B p.1 p.2)⟩]

theorem run_eq : (kernelRun0_A c i arg2 harg2 arg3 harg3 arg4 harg4 arg5 harg5 arg6 harg6 arg7 harg7 arg8 harg8 x0 x1 x2 x3 x4 x5).1
    = outL (blk i arg2 harg2 arg3 harg3 arg4 harg4 arg5 harg5 arg6 harg6 arg7 harg7 x0 x1 x2 x3 x4 x5) := by sl_kernel_rfl

end lists

end Cert.SwaFwdIdeal.Run

end
-- ==== Proof.SwaFwd.Ref.lean ====
/- The sliding-window forward reference over the reals: its probabilities and windowed values are the gradient reference's. -/
module

public import proofs.«01_k».proof.Proof.SwaBwd.RefRow
public import proofs.«01_k».proof.Proof.Gen.SwaFwdRefIdeal.Read

@[expose] public section

set_option maxRecDepth 16384
set_option maxHeartbeats 4000000

noncomputable section

namespace Cert.SwaBwd.Ins

open Finset (range)
open scoped BigOperators

/-- A block's output by head, and the rows side by side. -/
def out (I : Ins) (b n H r d : ℕ) : ℝ := ∑ c ∈ range 256, I.pr b n H r c * I.V (krow b n c) (64 * (H / 4) + d)
def O (I : Ins) (R l : ℕ) : ℝ := I.out (R / 2048) (R % 2048 / 128) (l / 64) (R % 128) (l % 64)

end Cert.SwaBwd.Ins

namespace Cert.SwaFwdRefIdeal.Ref

open Cert.SwaFwdRefIdeal Cert.SwaFwdRefIdeal.Gen Cert.SwaFwdRefIdeal.Read Cert.Lift Cert.SwaBwd
open Cert.SwaBwdRefIdeal.Ref (xz v79_eq v14_eq)
open Cert.QkGradIdeal.Host0 (heads8 heads2)
open Idealize.ShloMosaic Idealize.ShloMosaic.ValueIdx
open Finset (range)
open scoped BigOperators

theorem v54_same (x0 : FVec Ideal S2x2048x8x64 .f32) (x1 : FVec Ideal S2x2048x2x64 .f32) (x3 : FVec Ideal S8 .f32) :
    val_main_v54 (F := Ideal) x0 x1 x3 = Cert.SwaBwdRefIdeal.Read.val_main_v79 (F := Ideal) x0 x1 x3 := rfl
theorem v12_same (x2 : FVec Ideal S2x2048x2x64 .f32) : val_main_v12 (F := Ideal) x2 = Cert.SwaBwdRefIdeal.Read.val_main_v14 (F := Ideal) x2 := rfl

variable (I : Ins)

theorem v55_eq (i : S2x16x2x64x4x128.Idx) : val_main_v55 (F := Ideal) (heads8 I.Q) (heads2 I.K) (heads2 I.V) (xz I) i
    = ((I.out (i 0).val (i 1).val (4 * (i 2).val + (i 4).val) (i 5).val (i 3).val : ℝ) : EReal) := by
  have h4 : (i 4).val < 4 := (i 4).isLt
  rw [val_main_v55_apply, Ins.out, ← Fin.sum_univ_eq_sum_range (fun c => _ * _), coe_sum]
  refine Finset.sum_congr rfl fun c _ => ?_
  rw [v54_same, v12_same, v14_eq, v79_eq, ← EReal.coe_mul, mul_comm]
  refine congrArg Real.toEReal ?_
  show I.rW (i 0).val (i 1).val (4 * (i 2).val + (i 4).val) (i 5).val c.val * wn I.V (i 0).val (i 1).val c.val (i 2).val (i 3).val = _
  rw [I.rW_eq _ _ _ _ c.isLt, show (4 * (i 2).val + (i 4).val) / 4 = (i 2).val by omega]
  by_cases h : win (i 1).val (i 5).val c.val
  · rw [wn_krow _ _ _ h c.isLt]
  · rw [show I.pr (i 0).val (i 1).val (4 * (i 2).val + (i 4).val) (i 5).val c.val = 0 from prb_off _ _ _ _ h, zero_mul, zero_mul]

theorem v57_eq (i : S2x2048x512.Idx) : val_main_v57 (F := Ideal) (heads8 I.Q) (heads2 I.K) (heads2 I.V) (xz I) i
    = ((I.out (i 0).val ((i 1).val / 128) ((i 2).val / 64) ((i 1).val % 128) ((i 2).val % 64) : ℝ) : EReal) := by
  have h0 : (i 0).val < 2 := (i 0).isLt
  have h1 : (i 1).val < 2048 := (i 1).isLt
  have h2 : (i 2).val < 512 := (i 2).isLt
  unfold val_main_v57
  refine (shapeCast_apply _ _ i (ix6 (⟨(i 0).val, h0⟩ : Fin 2) (⟨(i 1).val / 128, by omega⟩ : Fin 16) (⟨(i 1).val % 128, by omega⟩ : Fin 128) (⟨(i 2).val / 256, by omega⟩ : Fin 2) (⟨(i 2).val / 64 % 4, by omega⟩ : Fin 4)
    (⟨(i 2).val % 64, by omega⟩ : Fin 64)) ?_).trans ?_
  · rw [Shape.rowMajor_val_three, Shape.rowMajor_val_six]
    show (((((i 0).val * 16 + (i 1).val / 128) * 128 + (i 1).val % 128) * 2 + (i 2).val / 256) * 4 + (i 2).val / 64 % 4) * 64 + (i 2).val % 64 = ((i 0).val * 2048 + (i 1).val) * 512 + (i 2).val
    omega
  · rw [val_main_v56_apply, v55_eq]
    refine congrArg Real.toEReal ?_
    show I.out (i 0).val ((i 1).val / 128) (4 * ((i 2).val / 256) + (i 2).val / 64 % 4) ((i 1).val % 128) ((i 2).val % 64) = _
    rw [show 4 * ((i 2).val / 256) + (i 2).val / 64 % 4 = (i 2).val / 64 by omega]

theorem v59_eq : val_main_v59 (F := Ideal) (heads8 I.Q) (heads2 I.K) (heads2 I.V) (xz I) = nm (φ := .bf16) I.O := by
  funext i
  have h0 : (i 0).val < 4096 := (i 0).isLt
  have h1 : (i 1).val < 512 := (i 1).isLt
  refine (show _ = val_main_v58 (F := Ideal) (heads8 I.Q) (heads2 I.K) (heads2 I.V) (xz I) i from rfl).trans ?_
  rw [val_main_v58_apply, v57_eq]
  refine congrArg Real.toEReal ?_
  have e0 : (idx_main_v58 i 0).val = (i 0).val / 2048 := by show ((i 0).val * 512 + (i 1).val) / 1048576 = _; omega
  have e1 : (idx_main_v58 i 1).val = (i 0).val % 2048 := by show ((i 0).val * 512 + (i 1).val) / 512 % 2048 = _; omega
  have e2 : (idx_main_v58 i 2).val = (i 1).val := by show ((i 0).val * 512 + (i 1).val) % 512 = _; omega
  rw [e0, e1, e2, show (i 0).val % 2048 % 128 = (i 0).val % 128 by omega]
  rfl

end Cert.SwaFwdRefIdeal.Ref

end
-- ==== Proof.SwaFwd.Out.lean ====
/- What the sliding-window forward call leaves, over the reals. -/
module

public import proofs.«01_k».proof.Proof.SwaFwd.Blk
public import proofs.«01_k».proof.Proof.SwaFwd.Ref
public import proofs.«01_k».proof.Proof.SwaBwd.Outs
public import proofs.«01_k».proof.Proof.Gen.SwaFwdIdeal.Value

@[expose] public section

set_option maxRecDepth 16384
set_option maxHeartbeats 4000000

noncomputable section

namespace Cert.SwaFwdIdeal.Run

open Cert.SwaFwdIdeal Cert.SwaFwdIdeal.Gen Cert.Lift Cert.SwaBwd
open Cert.SwaBwdIdeal.Run (Blk Holds inb_sq inb_one twice twice_nm mask_first mask_later)
open Idealize.ShloMosaic Idealize.ShloMosaic.TcCoe Idealize.ShloMosaic.ValueIdx Idealize.ShloMosaic.Tactic Idealize.SL.Sem
open Cert.QkGradIdeal.Host0 (heads8 heads2 flat8)
open Finset (range)
open scoped BigOperators

variable (m : (ℓ : Loc nD τ sig) → Buf (Elt Ideal) ℓ) (c : Dev nD)

theorem prep :
    V m c main_v3 = truncf .bf16 (shapeCast S4096x512 (mulf (m (c, main_arg0) : FVec Ideal S2x2048x8x64 .f32) (broadcastInDim S2x2048x8x64 ![] bcast_S_S2x2048x8x64 (constant (F := Ideal) S_ .f32 0x3E000000#32))) shapeCasts_S2x2048x8x64_S4096x512) bitsLt_bf16_f32
    ∧ V m c main_v7 = truncf .bf16 (twice (m (c, main_arg1))) bitsLt_bf16_f32
    ∧ V m c main_v11 = truncf .bf16 (twice (m (c, main_arg2))) bitsLt_bf16_f32
    ∧ V m c main_arg3 = m (c, main_arg3) := by
  refine ⟨?_, ?_, ?_, ?_⟩ <;>
  (simp only [V, List.flatten_cons, List.flatten_nil, hostOps0, List.cons_append, List.nil_append,
    StableHlo.TRef.binary, StableHlo.TRef.nullary, StableHlo.TRef.ternary, StableHlo.TRef.unary, StableHlo.TRef.toBuf, StableHlo.TRef.ofBuf, cast_eq]
   after_reads_simp
   first | done | rfl)

/-- The argument arrays hold reals. -/
structure Real (I : Ins) : Prop where
  q : m (c, main_arg0) = heads8 I.Q
  k : m (c, main_arg1) = heads2 I.K
  v : m (c, main_arg2) = heads2 I.V
  z : m (c, main_arg3) = (up fun i => I.z (i 0).val : FVec Ideal S8 .f32)
  d : I.D = fun _ _ => 0

variable {m c} {I : Ins} (H : Real m c I) (t : Fin cfg0.N)

theorem idx : ∀ t : Fin grid0.N, ((grid0.coords t) 1).val = t.val % 4
    ∧ (win0_1.index t (0 : Fin 2) = t.val ∧ win0_1.index t (1 : Fin 2) = 0)
    ∧ (win0_2.index t (0 : Fin 2) = 4 * t.val - min (t.val % 4) 1 ∧ win0_2.index t (1 : Fin 2) = 0)
    ∧ (win0_3.index t (0 : Fin 2) = t.val ∧ win0_3.index t (1 : Fin 2) = 0)
    ∧ (win0_4.index t (0 : Fin 2) = 4 * t.val - min (t.val % 4) 1 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ win0_0.index t (0 : Fin 1) = 0 := by decide +kernel

/-- The block before a point's rows (at a sequence's first point the block itself). -/
def bef (t : ℕ) : ℕ := 4 * t - min (t % 4) 1

include H

theorem iblk0 : iblk m c 0 t = (fun i => ((I.z (i 0).val : ℝ) : EReal) : FVec Ideal S8 .f32) := by
  obtain ⟨_, _, _, _, _, _, _, a⟩ := idx t
  funext j
  show V m c main_arg3 (((cfg0.win 0).blk t).view.emb j) = _
  rw [(prep m c).2.2.2, H.z]
  exact congrArg (fun k => ((I.z k : ℝ) : EReal)) (by show win0_0.index t (0 : Fin 1) * 8 + 1 * (j 0).val = (j 0).val; omega)

theorem iblk1 : iblk m c 1 t = nm (φ := .bf16) fun r l => I.Q (512 * t.val + r) l * (1 / 8) := by
  obtain ⟨_, ⟨a0, a1⟩, _⟩ := idx t
  have e : V m c main_v3 = nm (φ := .bf16) fun r l => I.Q r l * (1 / 8) := by
    rw [(prep m c).1, H.q]
    have e1 : mulf (heads8 I.Q) (broadcastInDim S2x2048x8x64 ![] bcast_S_S2x2048x8x64 (constant (F := Ideal) S_ .f32 0x3E000000#32)) = heads8 fun r l => I.Q r l * (1 / 8) :=
      (congrArg (mulf _) (spread_up (S := S_) _ _ _ (1 / 8) Cert.SbBwdIdeal.Val.eighth_eq)).trans (mulf_up _ _)
    rw [e1]
    exact congrArg (fun x : FVec Ideal S4096x512 .f32 => truncf .bf16 x bitsLt_bf16_f32) (flat8 _)
  funext j
  show V m c main_v3 (((cfg0.win 1).blk t).view.emb j) = _
  rw [e]
  exact congrArg Real.toEReal (congrArg₂ (fun r l => I.Q r l * (1 / 8)) (by show win0_1.index t (0 : Fin 2) * 512 + 1 * (j 0).val = 512 * t.val + (j 0).val; omega) (by show win0_1.index t (1 : Fin 2) * 512 + 1 * (j 1).val = (j 1).val; omega))

theorem v7_nm : V m c main_v7 = nm (φ := .bf16) fun r l => I.K r (64 * (l / 128) + l % 64) := by rw [(prep m c).2.1, H.k, twice_nm]; rfl
theorem v11_nm : V m c main_v11 = nm (φ := .bf16) fun r l => I.V r (64 * (l / 128) + l % 64) := by rw [(prep m c).2.2.1, H.v, twice_nm]; rfl

theorem iblk2 : iblk m c 2 t = nm (φ := .bf16) fun r l => I.K (128 * bef t.val + r) (64 * (l / 128) + l % 64) := by
  obtain ⟨_, _, ⟨a0, a1⟩, _⟩ := idx t
  funext j
  show V m c main_v7 (((cfg0.win 2).blk t).view.emb j) = _
  rw [v7_nm H]
  exact congrArg Real.toEReal (congrArg₂ (fun r l => I.K r (64 * (l / 128) + l % 64)) (by show win0_2.index t (0 : Fin 2) * 128 + 1 * (j 0).val = 128 * bef t.val + (j 0).val; unfold bef; omega) (by show win0_2.index t (1 : Fin 2) * 256 + 1 * (j 1).val = (j 1).val; omega))
theorem iblk3 : iblk m c 3 t = nm (φ := .bf16) fun r l => I.K (512 * t.val + r) (64 * (l / 128) + l % 64) := by
  obtain ⟨_, _, _, ⟨a0, a1⟩, _⟩ := idx t
  funext j
  show V m c main_v7 (((cfg0.win 3).blk t).view.emb j) = _
  rw [v7_nm H]
  exact congrArg Real.toEReal (congrArg₂ (fun r l => I.K r (64 * (l / 128) + l % 64)) (by show win0_3.index t (0 : Fin 2) * 512 + 1 * (j 0).val = 512 * t.val + (j 0).val; omega) (by show win0_3.index t (1 : Fin 2) * 256 + 1 * (j 1).val = (j 1).val; omega))
theorem iblk4 : iblk m c 4 t = nm (φ := .bf16) fun r l => I.V (128 * bef t.val + r) (64 * (l / 128) + l % 64) := by
  obtain ⟨_, _, _, _, ⟨a0, a1⟩, _⟩ := idx t
  funext j
  show V m c main_v11 (((cfg0.win 4).blk t).view.emb j) = _
  rw [v11_nm H]
  exact congrArg Real.toEReal (congrArg₂ (fun r l => I.V r (64 * (l / 128) + l % 64)) (by show win0_4.index t (0 : Fin 2) * 128 + 1 * (j 0).val = 128 * bef t.val + (j 0).val; unfold bef; omega) (by show win0_4.index t (1 : Fin 2) * 256 + 1 * (j 1).val = (j 1).val; omega))
theorem iblk5 : iblk m c 5 t = nm (φ := .bf16) fun r l => I.V (512 * t.val + r) (64 * (l / 128) + l % 64) := by
  obtain ⟨_, _, _, _, _, ⟨a0, a1⟩, _⟩ := idx t
  funext j
  show V m c main_v11 (((cfg0.win 5).blk t).view.emb j) = _
  rw [v11_nm H]
  exact congrArg Real.toEReal (congrArg₂ (fun r l => I.V r (64 * (l / 128) + l % 64)) (by show win0_5.index t (0 : Fin 2) * 512 + 1 * (j 0).val = 512 * t.val + (j 0).val; omega) (by show win0_5.index t (1 : Fin 2) * 256 + 1 * (j 1).val = (j 1).val; omega))

/-- A point's blocks. -/
abbrev blkAt (m : (ℓ : Loc nD τ sig) → Buf (Elt Ideal) ℓ) (c : Dev nD) (t : Fin cfg0.N) : Fin 2 → Fin 4 → Blk Ideal :=
  blk (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t)

theorem sink_val (k : Fin 8) : sink (ms0_0 t) (hs0_0 t) (iblk m c 0 t) k = ((I.z k.val : ℝ) : EReal) := by
  show (ms0_0 t).view.read (Elt Ideal) ((hs0_0 t).unread (iblk m c 0 t)) _ = _
  rw [(hs0_0 t).read_unread, iblk0 H]
  rfl

omit H in
theorem part_nm {R C : ℕ} (M : Memref sig .tc .vmem ⟨2, ![R, C]⟩ .bf16) (hM : M.IsWhole) (X : Vec Ideal ⟨2, ![R, C]⟩ .bf16) (a b : ℕ) (ha : 128 * a + 128 ≤ R) (hb : 128 * b + 128 ≤ C)
    (x : ℕ → ℕ → ℝ) (hX : X = (nm x : FVec Ideal ⟨2, ![R, C]⟩ .bf16)) : part M hM X a b ha hb = nm fun r c => x (128 * a + r) (128 * b + c) := by
  unfold part
  rw [View.readAt_eq_ld, View.ld_unit, hM.read_unread, hX]
  exact slice_nm x _ _ _

theorem holds (g : Fin 2) (k : Fin 4) : Holds (blkAt m c t g k) (I.sp (t.val / 4) (4 * (t.val % 4) + k.val) g.val) := by
  have hg := g.isLt
  have hk := k.isLt
  refine ⟨?_, ?_, ?_, ?_, ?_, ?_, ?_, ?_, ?_, ?_, ?_⟩
  · unfold blkAt blk
    dsimp only
    by_cases h : k.val = 0
    · rw [if_pos h, (idx t).1, mask_first _ (by omega)]
      unfold Ins.sp
      dsimp only
      rw [h]; rfl
    · rw [if_neg h, mask_later (4 * (t.val % 4) + k.val) (by omega)]; rfl
  · unfold blkAt blk
    dsimp only
    by_cases h : k.val = 0
    · rw [if_pos h]
      refine (part_nm (ms0_2 t) (hs0_2 t) _ _ _ _ _ _ (iblk2 H t)).trans (nm_congr fun r hr l hl => ?_)
      exact congrArg₂ I.K (by unfold krow bef; split <;> omega) (by omega)
    · rw [if_neg h]
      refine (part_nm (ms0_3 t) (hs0_3 t) _ _ _ _ _ _ (iblk3 H t)).trans (nm_congr fun r hr l hl => ?_)
      exact congrArg₂ I.K (by unfold krow; split <;> omega) (by omega)
  · refine (part_nm (ms0_3 t) (hs0_3 t) _ _ _ (by omega) (by omega) _ (iblk3 H t)).trans (nm_congr fun r hr l hl => ?_)
    exact congrArg₂ I.K (by unfold krow; split <;> omega) (by omega)
  · unfold blkAt blk
    dsimp only
    by_cases h : k.val = 0
    · rw [if_pos h]
      refine (part_nm (ms0_4 t) (hs0_4 t) _ _ _ _ _ _ (iblk4 H t)).trans (nm_congr fun r hr l hl => ?_)
      exact congrArg₂ I.V (by unfold krow bef; split <;> omega) (by omega)
    · rw [if_neg h]
      refine (part_nm (ms0_5 t) (hs0_5 t) _ _ _ _ _ _ (iblk5 H t)).trans (nm_congr fun r hr l hl => ?_)
      exact congrArg₂ I.V (by unfold krow; split <;> omega) (by omega)
  · refine (part_nm (ms0_5 t) (hs0_5 t) _ _ _ (by omega) (by omega) _ (iblk5 H t)).trans (nm_congr fun r hr l hl => ?_)
    exact congrArg₂ I.V (by unfold krow; split <;> omega) (by omega)
  · refine (part_nm (ms0_1 t) (hs0_1 t) _ _ _ (by omega) (by omega) _ (iblk1 H t)).trans (nm_congr fun r hr l hl => congrArg (· * (1 / 8 : ℝ)) ?_)
    exact congrArg₂ I.Q (by omega) (by omega)
  · refine (part_nm (ms0_1 t) (hs0_1 t) _ _ _ (by omega) (by omega) _ (iblk1 H t)).trans (nm_congr fun r hr l hl => congrArg (· * (1 / 8 : ℝ)) ?_)
    exact congrArg₂ I.Q (by omega) (by omega)
  · exact nm_congr fun r _ l _ => (congrFun (congrFun H.d _) _).symm
  · exact nm_congr fun r _ l _ => (congrFun (congrFun H.d _) _).symm
  · intro h
    refine (sink_val H t ⟨4 * g.val + h.val, by omega⟩).trans (congrArg (fun n => ((I.z n : ℝ) : EReal)) ?_)
    show 4 * g.val + h.val = 4 * g.val + 2 * 0 + h.val; omega
  · intro h
    refine (sink_val H t ⟨4 * g.val + 2 + h.val, by omega⟩).trans (congrArg (fun n => ((I.z n : ℝ) : EReal)) ?_)
    show 4 * g.val + 2 + h.val = 4 * g.val + 2 * 1 + h.val; omega

omit H in
theorem out_piece (I : Ins) {g s i l r p : ℕ} (b : ℕ) (hg : g < 2) (hs : s < 4) (hi : i < 4) (hp : p < 2) (hr : r < 128) (hl : l < 128) :
    (∑ c ∈ range 256, (I.sp b (4 * i + s) g).pr (l / 64) (128 * p + r) c * (I.sp b (4 * i + s) g).V c l) = I.O (2048 * b + 128 * (4 * i + s) + r) (128 * (2 * g + p) + l) := by
  unfold Ins.O Ins.out
  refine Finset.sum_congr rfl fun c hc => ?_
  rw [(I.sp_row b (4 * i + s) c hg (show l / 64 < 2 by omega) hp hr).1]
  rw [show (2048 * b + 128 * (4 * i + s) + r) / 2048 = b by omega, show (2048 * b + 128 * (4 * i + s) + r) % 2048 / 128 = 4 * i + s by omega,
    show (2048 * b + 128 * (4 * i + s) + r) % 128 = r by omega, show (128 * (2 * g + p) + l) / 64 = 4 * g + 2 * p + l / 64 by omega,
    show (4 * g + 2 * p + l / 64) / 4 = g by omega, show (128 * (2 * g + p) + l) % 64 = l % 64 by omega]
  rfl

omit H in
theorem sq_at {R C : ℕ} (a b : ℕ) (ha : 128 * a + 128 ≤ R) (hb : 128 * b + 128 ≤ C) (f : ℕ → ℕ → ℝ) (x : S128x128.Idx) :
    (nm f : FVec Ideal ⟨2, ![R, C]⟩ .bf16) ((Rect.unit (s := ⟨2, ![R, C]⟩) ![128 * a, 128 * b] S128x128.size (inb_sq a b ha hb)).emb x)
      = ((f (128 * a + (x 0).val) (128 * b + (x 1).val) : ℝ) : EReal) := by
  refine congrArg Real.toEReal (congrArg₂ f ?_ ?_)
  · show 128 * a + 1 * (x 0).val = _; omega
  · show 128 * b + 1 * (x 1).val = _; omega

theorem point : outsAt0 m c t = nm (φ := .bf16) fun r l => I.O (512 * t.val + r) l := by
  funext y
  unfold outsAt0 out0_A_6
  refine View.read_writes_apply_of_pieces _ _ _ _ ?_ y (cover0_A_6 (F := Ideal) c _ _ _ _ _ _ _ _ _ _ _ _ _ _ _ _ _ _ _ _ _ y)
  rw [run_eq]
  intro p hp x
  unfold outL at hp
  obtain ⟨⟨g, k⟩, -, hp⟩ := List.mem_flatMap.mp hp
  have hk := k.isLt
  simp only [List.mem_cons, List.not_mem_nil, or_false] at hp
  rcases hp with rfl | rfl
  · have h0 : (x 0).val < 128 := (x 0).isLt
    have h1 : (x 1).val < 128 := (x 1).isLt
    refine Eq.trans ?_ (sq_at k.val (2 * g.val + 1) (by omega) (by omega) _ x).symm
    dsimp only
    rw [mixB_nm (holds H t g k)]
    refine congrArg Real.toEReal ((out_piece I (t.val / 4) g.isLt hk (show t.val % 4 < 4 by omega) (show 1 < 2 by omega) h0 h1).trans ?_)
    exact congrArg (I.O · _) (by omega)
  · have h0 : (x 0).val < 128 := (x 0).isLt
    have h1 : (x 1).val < 128 := (x 1).isLt
    refine Eq.trans ?_ (sq_at k.val (2 * g.val) (by omega) (by omega) _ x).symm
    dsimp only
    rw [mixA_nm (holds H t g k)]
    have e := out_piece I (t.val / 4) g.isLt hk (show t.val % 4 < 4 by omega) (show 0 < 2 by omega) h0 h1
    rw [Nat.mul_zero, Nat.zero_add] at e
    refine congrArg Real.toEReal (e.trans ?_)
    exact congrArg (I.O · _) (by omega)

omit H in
theorem eight : ∀ t : Fin cfg0.N, t.val < 8 := fun t => t.isLt
omit H in
/-- Row `r` of a point's block. -/
def row (t : Fin cfg0.N) (r : Fin 512) : Fin 4096 := ⟨512 * t.val + r.val, by have := eight t; omega⟩
omit H in
theorem emb6 (r : Fin 512) (e : Fin 512) : ((cfg0.win 6).blk t).view.emb (ix2 r e) = ix2 (row t r) e := by
  obtain ⟨_, _, _, _, _, _, ⟨a0, a1⟩, _⟩ := idx t
  funext a; apply Fin.ext
  match a with
  | ⟨0, _⟩ => show win0_6.index t (0 : Fin 2) * 512 + 1 * r.val = 512 * t.val + r.val; omega
  | ⟨1, _⟩ => show win0_6.index t (1 : Fin 2) * 512 + 1 * e.val = e.val; omega

theorem final6 : (dats m 0 c).arrAt 6 cfg0.N = nm (φ := .bf16) I.O :=
  (dats m 0 c).arrAt_eq_of_cover 6 (nm (φ := .bf16) I.O) (fun t _ => by
    rw [Value.flushed6, point H t]
    funext j
    obtain ⟨r, e, rfl⟩ : ∃ (r : Fin 512) (e : Fin 512), j = ix2 r e := ⟨j 0, j 1, eq_ix2 j⟩
    exact (congrArg (nm (φ := .bf16) I.O) (emb6 t r e)).symm)
    (fun i => by
    obtain ⟨r, e, rfl⟩ : ∃ (r : Fin 4096) (e : Fin 512), i = ix2 r e := ⟨i 0, i 1, eq_ix2 i⟩
    have hr := r.isLt
    refine ⟨⟨r.val / 512, by show _ < 8; omega⟩, flush0_6 _, ?_⟩
    have e' : ix2 r e = ix2 (row ⟨r.val / 512, by show _ < 8; omega⟩ ⟨r.val % 512, Nat.mod_lt _ (by omega)⟩) e := congrArg (ix2 · e) (Fin.ext (by show r.val = 512 * (r.val / 512) + r.val % 512; omega))
    rw [e', ← emb6]
    exact View.emb_mem_set _ _)

end Cert.SwaFwdIdeal.Run

end
-- ==== Proof.SwaFwd.Claim.lean ====
/- The sliding-window forward call: its frames, its precondition, and the value claim. -/
module

public import proofs.«01_k».proof.Defs
public import proofs.«01_k».proof.Proof.SwaFwd.Out
public import proofs.«01_k».proof.Proof.SwaBwd.Finite
public import proofs.«01_k».proof.Proof.Gen.Pre_swa_fwd_finite
public import proofs.«01_k».proof.Proof.Gen.SwaFwdRefIdeal.Run
public import Idealize.ShloMosaic.Lib.Claim

@[expose] public section

set_option maxRecDepth 16384

noncomputable section

open Idealize.ShloMosaic Idealize.ShloMosaic.TcCoe Idealize.SL.Sem Cert.Lift

namespace Cert.Pre_swa_fwd_finite

open Cert.QkGradIdeal.Host0 (heads8 heads2)
open Cert.Pre_qk_finite (heads_of_finite)

open Cert.Pre_swa_fwd_finite.Gen in
/-- The arguments of a true precondition are arrays of reals. -/
theorem reals (x0 : FVec Ideal S2x2048x8x64 .f32) (x1 x2 : FVec Ideal S2x2048x2x64 .f32) (x3 : FVec Ideal S8 .f32) (h : fn (F := Ideal) x0 x1 x2 x3 = fun _ => 1#1) :
    (∃ Q, x0 = heads8 Q) ∧ (∃ K, x1 = heads2 K) ∧ (∃ V, x2 = heads2 V) ∧ ∃ z : ℕ → ℝ, x3 = up fun i => z (i 0).val := by
  unfold fn fn_part1 at h
  dsimp only at h
  obtain ⟨h, h3⟩ := andi_all h
  obtain ⟨h, h2⟩ := andi_all h
  obtain ⟨h0, h1⟩ := andi_all h
  have j : S_.Idx := fun i => i.elim0
  exact ⟨heads_of_finite _ (up_of_finite x0 _ (fun _ => ofBits_inf) _ _ _ j (congrFun h0 j)), heads_of_finite _ (up_of_finite x1 _ (fun _ => ofBits_inf) _ _ _ j (congrFun h1 j)),
    heads_of_finite _ (up_of_finite x2 _ (fun _ => ofBits_inf) _ _ _ j (congrFun h2 j)), Cert.Pre_swa_finite.sinks_of_finite _ (up_of_finite x3 _ (fun _ => ofBits_inf) _ _ _ j (congrFun h3 j))⟩

end Cert.Pre_swa_fwd_finite

namespace Cert.SwaFwdIdeal

open Cert.SwaFwdIdeal.Gen Cert.SwaFwdRefIdeal.Read

/-- The reference's frame: its run with the result forgotten; it declares no semaphore. -/
theorem frame_ref : Cert.quiescent_SwaFwdRefIdeal := fun m g _ =>
  (θ_run Cert.SwaFwdRefIdeal.defs _ _).mono (fun r h => ⟨fun c => (h c).2, sem_eq_zero_of_no_sems (by decide) r.2⟩) (Cert.SwaFwdRefIdeal.Value.run m g)

/-- A function of four arguments at equal arguments. -/
theorem cong4 {A B C T : Type} (f : A → B → B → C → T) {a a' b b' c c' d d'} (h0 : a = a') (h1 : b = b') (h2 : c = c') (h3 : d = d') : f a b c d = f a' b' c' d' := by
  subst h0 h1 h2 h3
  rfl

theorem value : algebraic_SwaFwdIdeal_SwaFwdRefIdeal_pre_swa_fwd_finite (hSwaFwdIdeal := Gen.facts) (hSwaFwdRefIdeal := Cert.SwaFwdRefIdeal.Gen.facts)
    (hPre_swa_fwd_finite := Cert.Pre_swa_fwd_finite.Gen.facts) := by
  intro m g m' g' hpre hargs
  refine ⟨fun c => (dats m 0 c).arrAt 6 cfg0.N, Value.run_blocks m g, ?_⟩
  refine (θ_run Cert.SwaFwdRefIdeal.defs _ _).mono (fun r h c => ?_) (Cert.SwaFwdRefIdeal.Value.run m' g')
  obtain ⟨⟨Q, h0⟩, ⟨K, h1⟩, ⟨V, h2⟩, ⟨z, h3⟩⟩ := Cert.Pre_swa_fwd_finite.reals _ _ _ _ (hpre c)
  have H : Run.Real m c ⟨Q, K, V, fun _ _ => 0, z⟩ := ⟨h0, h1, h2, h3, rfl⟩
  obtain ⟨a0, a1, a2, a3⟩ := hargs c
  obtain ⟨r0, k⟩ := h c
  exact ⟨(r0.trans (val_main_v59_eq _ _)).trans ((cong4 (val_main_v59 (F := Ideal)) (a0.trans h0) (a1.trans h1) (a2.trans h2) (a3.trans h3)).trans
    ((Cert.SwaFwdRefIdeal.Ref.v59_eq ⟨Q, K, V, fun _ _ => 0, z⟩).trans (Run.final6 H).symm)), k⟩

end Cert.SwaFwdIdeal

end
-- ==== Proof.lean ====
module

public import proofs.«01_k».proof.Defs
public import proofs.«01_k».proof.Proof.Gen.SwaBwd
public import proofs.«01_k».proof.Proof.Gen.SwaBwdIdeal
public import proofs.«01_k».proof.Proof.Gen.SwaBwdIdeal.Skeleton
public import proofs.«01_k».proof.Proof.Gen.SwaBwdRefIdeal
public import proofs.«01_k».proof.Proof.Gen.SwaBwdRefIdeal.Run
public import proofs.«01_k».proof.Proof.Gen.SwaBwdRefIdeal.Read
public import proofs.«01_k».proof.Proof.Gen.QkGrad
public import proofs.«01_k».proof.Proof.Gen.QkGradIdeal
public import proofs.«01_k».proof.Proof.Gen.QkGradIdeal.Skeleton
public import proofs.«01_k».proof.Proof.Gen.QkGradRefIdeal
public import proofs.«01_k».proof.Proof.Gen.QkGradRefIdeal.Run
public import proofs.«01_k».proof.Proof.Gen.QkGradRefIdeal.Read
public import proofs.«01_k».proof.Proof.Gen.Pre_qk_finite
public import proofs.«01_k».proof.Proof.Gen.Pre_swa_finite
public import proofs.«01_k».proof.Proof.SwaBwd.Claim
public import proofs.«01_k».proof.Proof.Gen.Pre_swa_fwd_finite
public import proofs.«01_k».proof.Proof.Gen.SwaFwd
public import proofs.«01_k».proof.Proof.Gen.SwaFwd.Frame
public import proofs.«01_k».proof.Proof.Gen.SwaFwdIdeal
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_finite
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.SbBwd
public import proofs.«01_k».proof.Proof.Gen.SbBwd.Skeleton
public import proofs.«01_k».proof.Proof.Gen.SbBwd.Loops
public import proofs.«01_k».proof.Proof.Gen.SbBwd.Launch
public import proofs.«01_k».proof.Proof.Gen.SbBwd.Points
public import proofs.«01_k».proof.Proof.Gen.SbBwd.Frame
public import proofs.«01_k».proof.Proof.Gen.SbBwdIdeal
public import proofs.«01_k».proof.Proof.Gen.SbBwdIdeal.Skeleton
public import proofs.«01_k».proof.Proof.Gen.SbBwdIdeal.Loops
public import proofs.«01_k».proof.Proof.Gen.SbBwdIdeal.Launch
public import proofs.«01_k».proof.Proof.Gen.SbBwdIdeal.Points
public import proofs.«01_k».proof.Proof.Gen.SbBwdIdeal.Frame
public import proofs.«01_k».proof.Proof.Gen.SbBwdRefIdeal
public import proofs.«01_k».proof.Proof.Gen.SbBwdRefIdeal.Run
public import proofs.«01_k».proof.Proof.Gen.SbBwdRefIdeal.Read
public import proofs.«01_k».proof.Proof.OutProj.Claim
public import proofs.«01_k».proof.Proof.SbBwd.Frames
public import Idealize.ShloMosaic.Adequacy
public import Idealize.ShloMosaic.Init
public import proofs.«01_k».proof.Proof.Gen.Pre_sb_finite
public import proofs.«01_k».proof.Proof.Gen.XGrad
public import proofs.«01_k».proof.Proof.Gen.XGradIdeal
public import proofs.«01_k».proof.Proof.Gen.XGradIdeal.Value
public import proofs.«01_k».proof.Proof.Gen.XGradRefIdeal
public import proofs.«01_k».proof.Proof.Gen.XGradRefIdeal.Run
public import proofs.«01_k».proof.Proof.Gen.XGradRefIdeal.Read
public import proofs.«01_k».proof.Proof.Gen.Pre_x_finite
public import proofs.«01_k».proof.Proof.SbBwd.Claim
public import proofs.«01_k».proof.Proof.Gen.XGrad.Frame
public import proofs.«01_k».proof.Proof.XGrad.Claim
public import proofs.«01_k».proof.Proof.SwaBwd.Frames
public import proofs.«01_k».proof.Proof.QkGrad.Frames
public import proofs.«01_k».proof.Proof.QkGrad.Claim
public import proofs.«01_k».proof.Proof.SwaFwd.Claim

@[expose] public section

noncomputable section

namespace Cert.Proof

open Idealize.ShloMosaic Idealize.SL.Sem Cert.OutProj

theorem claim : Cert.Claim := ⟨Cert.OutProj.Gen.facts, Cert.OutProjIdeal.Gen.facts, Cert.OutProjRefIdeal.Gen.facts, Cert.SbBwd.Gen.facts, Cert.SbBwdIdeal.Gen.facts,
    Cert.SbBwdRefIdeal.Gen.facts, Cert.XGrad.Gen.facts, Cert.XGradIdeal.Gen.facts, Cert.XGradRefIdeal.Gen.facts, Cert.SwaBwd.Gen.facts, Cert.SwaBwdIdeal.Gen.facts,
    Cert.SwaBwdRefIdeal.Gen.facts, Cert.QkGrad.Gen.facts, Cert.QkGradIdeal.Gen.facts, Cert.QkGradRefIdeal.Gen.facts,
    Cert.SwaFwd.Gen.facts, Cert.SwaFwdIdeal.Gen.facts, Cert.SwaFwdRefIdeal.Gen.facts,
    Cert.Pre_finite.Gen.facts, Cert.Pre_sb_finite.Gen.facts, Cert.Pre_x_finite.Gen.facts, Cert.Pre_swa_finite.Gen.facts, Cert.Pre_qk_finite.Gen.facts,
    Cert.Pre_swa_fwd_finite.Gen.facts, by
  refine ⟨fun m ρ _ => Cert.OutProj.Gen.frame m ρ, fun m ρ _ => Cert.OutProjIdeal.Gen.frame m ρ, fun m ρ _ => Cert.OutProjIdeal.Gen.frame m ρ,
    Cert.OutProjIdeal.frame_ref, fun m ρ _ => Cert.OutProjIdeal.frame_ref m ρ trivial,
    SbBwd.frame_kernel, SbBwd.frame_ideal, fun m ρ _ => SbBwd.frame_ideal m ρ trivial, SbBwd.frame_ref, fun m ρ _ => SbBwd.frame_ref m ρ trivial,
    fun m ρ _ => Cert.XGrad.Gen.frame m ρ, fun m ρ _ => Cert.XGradIdeal.Gen.frame m ρ, fun m ρ _ => Cert.XGradIdeal.Gen.frame m ρ,
    Cert.XGradIdeal.frame_ref, fun m ρ _ => Cert.XGradIdeal.frame_ref m ρ trivial,
    SwaBwd.frame_kernel, SwaBwd.frame_ideal, fun m ρ _ => SwaBwd.frame_ideal m ρ trivial, SwaBwd.frame_ref, fun m ρ _ => SwaBwd.frame_ref m ρ trivial,
    QkGrad.frame_kernel, QkGrad.frame_ideal, fun m ρ _ => QkGrad.frame_ideal m ρ trivial, QkGrad.frame_ref, fun m ρ _ => QkGrad.frame_ref m ρ trivial,
    fun m ρ _ => Cert.SwaFwd.Gen.frame m ρ, fun m ρ _ => Cert.SwaFwdIdeal.Gen.frame m ρ, fun m ρ _ => Cert.SwaFwdIdeal.Gen.frame m ρ,
    Cert.SwaFwdIdeal.frame_ref, fun m ρ _ => Cert.SwaFwdIdeal.frame_ref m ρ trivial,
    trivial, Cert.OutProjIdeal.value, trivial, Cert.SbBwdIdeal.value, trivial, Cert.XGradIdeal.value,
    IdealRules.named_const.statement Cert.SwaBwdIdeal.κ "mask" .f32 0xF149F2CA#32 ⊥ rfl, Cert.SwaBwdIdeal.value,
    trivial, Cert.QkGradIdeal.value,
    IdealRules.named_const.statement Cert.SwaFwdIdeal.κ "mask" .f32 0xF149F2CA#32 ⊥ rfl, Cert.SwaFwdIdeal.value⟩⟩

end Cert.Proof

end
